-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_ProjectionsIdeal (m : (ℓ : Loc Cert.ProjectionsIdeal.nD Cert.ProjectionsIdeal.τ Cert.ProjectionsIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ r.2.sem = fun _ => 0)

def quiescent_ProjectionsIdeal [hProjectionsIdeal : Cert.ProjectionsIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
      ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
      ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
      ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6)
      ∧ r.2.mem ((c.tc : Thread Cert.ProjectionsIdeal.nD Cert.ProjectionsIdeal.τ).loc Cert.ProjectionsIdeal.main_arg7) = m ((c.tc : Thread Cert.ProjectionsIdeal.nD Cert.ProjectionsIdeal.τ).loc Cert.ProjectionsIdeal.main_arg7)
      ∧ r.2.mem ((c.tc : Thread Cert.ProjectionsIdeal.nD Cert.ProjectionsIdeal.τ).loc Cert.ProjectionsIdeal.main_arg8) = m ((c.tc : Thread Cert.ProjectionsIdeal.nD Cert.ProjectionsIdeal.τ).loc Cert.ProjectionsIdeal.main_arg8))
      ∧ r.2.sem = fun _ => 0)

def preserves_Kernel_KernelIdeal : Prop :=
  IdealRules.named_const.Statement Cert.KernelIdeal.κ "neg_log2_e" .f32 0xBFB8AA3B#32 ((-((Real.log 2)⁻¹) : ℝ) : EReal)
  ∧ IdealRules.named_const.Statement Cert.KernelIdeal.κ "log2_e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_InProj_InProjIdeal : Prop :=
  True

def algebraic_InProjIdeal_ProjectionsIdeal [hInProjIdeal : Cert.InProjIdeal.Facts] [hProjectionsIdeal : Cert.ProjectionsIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.ProjectionsIdeal.nD Cert.ProjectionsIdeal.τ Cert.ProjectionsIdeal.sig) → Buf (Elt Ideal) ℓ) (g' : Dev Cert.ProjectionsIdeal.nD → PrngReg), Pre_InProjIdeal m →
    (∀ c : Dev Cert.InProjIdeal.nD,
      m' ((c.tc : Thread Cert.ProjectionsIdeal.nD Cert.ProjectionsIdeal.τ).loc Cert.ProjectionsIdeal.main_arg0) = m ((c.tc : Thread Cert.InProjIdeal.nD Cert.InProjIdeal.τ).loc Cert.InProjIdeal.main_arg0)
      ∧ m' ((c.tc : Thread Cert.ProjectionsIdeal.nD Cert.ProjectionsIdeal.τ).loc Cert.ProjectionsIdeal.main_arg1) = m ((c.tc : Thread Cert.InProjIdeal.nD Cert.InProjIdeal.τ).loc Cert.InProjIdeal.main_arg1)
      ∧ m' ((c.tc : Thread Cert.ProjectionsIdeal.nD Cert.ProjectionsIdeal.τ).loc Cert.ProjectionsIdeal.main_arg2) = m ((c.tc : Thread Cert.InProjIdeal.nD Cert.InProjIdeal.τ).loc Cert.InProjIdeal.main_arg2)
      ∧ m' ((c.tc : Thread Cert.ProjectionsIdeal.nD Cert.ProjectionsIdeal.τ).loc Cert.ProjectionsIdeal.main_arg3) = m ((c.tc : Thread Cert.InProjIdeal.nD Cert.InProjIdeal.τ).loc Cert.InProjIdeal.main_arg3)
      ∧ m' ((c.tc : Thread Cert.ProjectionsIdeal.nD Cert.ProjectionsIdeal.τ).loc Cert.ProjectionsIdeal.main_arg4) = m ((c.tc : Thread Cert.InProjIdeal.nD Cert.InProjIdeal.τ).loc Cert.InProjIdeal.main_arg4)
      ∧ m' ((c.tc : Thread Cert.ProjectionsIdeal.nD Cert.ProjectionsIdeal.τ).loc Cert.ProjectionsIdeal.main_arg5) = m ((c.tc : Thread Cert.InProjIdeal.nD Cert.InProjIdeal.τ).loc Cert.InProjIdeal.main_arg5)
      ∧ m' ((c.tc : Thread Cert.ProjectionsIdeal.nD Cert.ProjectionsIdeal.τ).loc Cert.ProjectionsIdeal.main_arg6) = m ((c.tc : Thread Cert.InProjIdeal.nD Cert.InProjIdeal.τ).loc Cert.InProjIdeal.main_arg6)
      ∧ m' ((c.tc : Thread Cert.ProjectionsIdeal.nD Cert.ProjectionsIdeal.τ).loc Cert.ProjectionsIdeal.main_arg7) = m ((c.tc : Thread Cert.InProjIdeal.nD Cert.InProjIdeal.τ).loc Cert.InProjIdeal.main_arg7)
      ∧ m' ((c.tc : Thread Cert.ProjectionsIdeal.nD Cert.ProjectionsIdeal.τ).loc Cert.ProjectionsIdeal.main_arg8) = m ((c.tc : Thread Cert.InProjIdeal.nD Cert.InProjIdeal.τ).loc Cert.InProjIdeal.main_arg8)) →
    ∃ (v0 : (c : Dev Cert.InProjIdeal.nD) → Buf (Elt Ideal) ((c.tc : Thread Cert.InProjIdeal.nD Cert.InProjIdeal.τ).loc Cert.InProjIdeal.main_v27_0)) (v1 : (c : Dev Cert.InProjIdeal.nD) → Buf (Elt Ideal) ((c.tc : Thread Cert.InProjIdeal.nD Cert.InProjIdeal.τ).loc Cert.InProjIdeal.main_v27_1)) (v2 : (c : Dev Cert.InProjIdeal.nD) → Buf (Elt Ideal) ((c.tc : Thread Cert.InProjIdeal.nD Cert.InProjIdeal.τ).loc Cert.InProjIdeal.main_v27_2)) (v3 : (c : Dev Cert.InProjIdeal.nD) → Buf (Elt Ideal) ((c.tc : Thread Cert.InProjIdeal.nD Cert.InProjIdeal.τ).loc Cert.InProjIdeal.main_v27_3)) (v4 : (c : Dev Cert.InProjIdeal.nD) → Buf (Elt Ideal) ((c.tc : Thread Cert.InProjIdeal.nD Cert.InProjIdeal.τ).loc Cert.InProjIdeal.main_v27_4)) (v5 : (c : Dev Cert.InProjIdeal.nD) → Buf (Elt Ideal) ((c.tc : Thread Cert.InProjIdeal.nD Cert.InProjIdeal.τ).loc Cert.InProjIdeal.main_v27_5)) (v6 : (c : Dev Cert.InProjIdeal.nD) → Buf (Elt Ideal) ((c.tc : Thread Cert.InProjIdeal.nD Cert.InProjIdeal.τ).loc Cert.InProjIdeal.main_v27_6)) (v7 : (c : Dev Cert.InProjIdeal.nD) → Buf (Elt Ideal) ((c.tc : Thread Cert.InProjIdeal.nD Cert.InProjIdeal.τ).loc Cert.InProjIdeal.main_v27_7)) (v8 : (c : Dev Cert.InProjIdeal.nD) → Buf (Elt Ideal) ((c.tc : Thread Cert.InProjIdeal.nD Cert.InProjIdeal.τ).loc Cert.InProjIdeal.main_v27_8)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v27_0) = v0 c
          ∧ r.2.mem ((c.tc : Thread Cert.InProjIdeal.nD Cert.InProjIdeal.τ).loc Cert.InProjIdeal.main_v27_1) = v1 c
          ∧ r.2.mem ((c.tc : Thread Cert.InProjIdeal.nD Cert.InProjIdeal.τ).loc Cert.InProjIdeal.main_v27_2) = v2 c
          ∧ r.2.mem ((c.tc : Thread Cert.InProjIdeal.nD Cert.InProjIdeal.τ).loc Cert.InProjIdeal.main_v27_3) = v3 c
          ∧ r.2.mem ((c.tc : Thread Cert.InProjIdeal.nD Cert.InProjIdeal.τ).loc Cert.InProjIdeal.main_v27_4) = v4 c
          ∧ r.2.mem ((c.tc : Thread Cert.InProjIdeal.nD Cert.InProjIdeal.τ).loc Cert.InProjIdeal.main_v27_5) = v5 c
          ∧ r.2.mem ((c.tc : Thread Cert.InProjIdeal.nD Cert.InProjIdeal.τ).loc Cert.InProjIdeal.main_v27_6) = v6 c
          ∧ r.2.mem ((c.tc : Thread Cert.InProjIdeal.nD Cert.InProjIdeal.τ).loc Cert.InProjIdeal.main_v27_7) = v7 c
          ∧ r.2.mem ((c.tc : Thread Cert.InProjIdeal.nD Cert.InProjIdeal.τ).loc Cert.InProjIdeal.main_v27_8) = v8 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ θ_run (Cert.ProjectionsIdeal.defs (F := Ideal)) (onTc (τ := Cert.ProjectionsIdeal.τ) (Cert.ProjectionsIdeal.main (F := Ideal))) ⟨m', fun _ => 0, g'⟩ (fun r => ∀ c : Dev Cert.ProjectionsIdeal.nD,
          r.2.mem ((c.tc : Thread Cert.ProjectionsIdeal.nD Cert.ProjectionsIdeal.τ).loc Cert.ProjectionsIdeal.main_v116) = v0 c
          ∧ r.2.mem ((c.tc : Thread Cert.ProjectionsIdeal.nD Cert.ProjectionsIdeal.τ).loc Cert.ProjectionsIdeal.main_v118) = v1 c
          ∧ r.2.mem ((c.tc : Thread Cert.ProjectionsIdeal.nD Cert.ProjectionsIdeal.τ).loc Cert.ProjectionsIdeal.main_v121) = v2 c
          ∧ r.2.mem ((c.tc : Thread Cert.ProjectionsIdeal.nD Cert.ProjectionsIdeal.τ).loc Cert.ProjectionsIdeal.main_v124) = v3 c
          ∧ r.2.mem ((c.tc : Thread Cert.ProjectionsIdeal.nD Cert.ProjectionsIdeal.τ).loc Cert.ProjectionsIdeal.main_v127) = v4 c
          ∧ r.2.mem ((c.tc : Thread Cert.ProjectionsIdeal.nD Cert.ProjectionsIdeal.τ).loc Cert.ProjectionsIdeal.main_v130) = v5 c
          ∧ r.2.mem ((c.tc : Thread Cert.ProjectionsIdeal.nD Cert.ProjectionsIdeal.τ).loc Cert.ProjectionsIdeal.main_v132) = v6 c
          ∧ r.2.mem ((c.tc : Thread Cert.ProjectionsIdeal.nD Cert.ProjectionsIdeal.τ).loc Cert.ProjectionsIdeal.main_v134) = v7 c
          ∧ r.2.mem ((c.tc : Thread Cert.ProjectionsIdeal.nD Cert.ProjectionsIdeal.τ).loc Cert.ProjectionsIdeal.main_v136) = v8 c
          ∧ r.2.mem ((c.tc : Thread Cert.ProjectionsIdeal.nD Cert.ProjectionsIdeal.τ).loc Cert.ProjectionsIdeal.main_arg0) = m' ((c.tc : Thread Cert.ProjectionsIdeal.nD Cert.ProjectionsIdeal.τ).loc Cert.ProjectionsIdeal.main_arg0)
          ∧ r.2.mem ((c.tc : Thread Cert.ProjectionsIdeal.nD Cert.ProjectionsIdeal.τ).loc Cert.ProjectionsIdeal.main_arg1) = m' ((c.tc : Thread Cert.ProjectionsIdeal.nD Cert.ProjectionsIdeal.τ).loc Cert.ProjectionsIdeal.main_arg1)
          ∧ r.2.mem ((c.tc : Thread Cert.ProjectionsIdeal.nD Cert.ProjectionsIdeal.τ).loc Cert.ProjectionsIdeal.main_arg2) = m' ((c.tc : Thread Cert.ProjectionsIdeal.nD Cert.ProjectionsIdeal.τ).loc Cert.ProjectionsIdeal.main_arg2)
          ∧ r.2.mem ((c.tc : Thread Cert.ProjectionsIdeal.nD Cert.ProjectionsIdeal.τ).loc Cert.ProjectionsIdeal.main_arg3) = m' ((c.tc : Thread Cert.ProjectionsIdeal.nD Cert.ProjectionsIdeal.τ).loc Cert.ProjectionsIdeal.main_arg3)
          ∧ r.2.mem ((c.tc : Thread Cert.ProjectionsIdeal.nD Cert.ProjectionsIdeal.τ).loc Cert.ProjectionsIdeal.main_arg4) = m' ((c.tc : Thread Cert.ProjectionsIdeal.nD Cert.ProjectionsIdeal.τ).loc Cert.ProjectionsIdeal.main_arg4)
          ∧ r.2.mem ((c.tc : Thread Cert.ProjectionsIdeal.nD Cert.ProjectionsIdeal.τ).loc Cert.ProjectionsIdeal.main_arg5) = m' ((c.tc : Thread Cert.ProjectionsIdeal.nD Cert.ProjectionsIdeal.τ).loc Cert.ProjectionsIdeal.main_arg5)
          ∧ r.2.mem ((c.tc : Thread Cert.ProjectionsIdeal.nD Cert.ProjectionsIdeal.τ).loc Cert.ProjectionsIdeal.main_arg6) = m' ((c.tc : Thread Cert.ProjectionsIdeal.nD Cert.ProjectionsIdeal.τ).loc Cert.ProjectionsIdeal.main_arg6)
          ∧ r.2.mem ((c.tc : Thread Cert.ProjectionsIdeal.nD Cert.ProjectionsIdeal.τ).loc Cert.ProjectionsIdeal.main_arg7) = m' ((c.tc : Thread Cert.ProjectionsIdeal.nD Cert.ProjectionsIdeal.τ).loc Cert.ProjectionsIdeal.main_arg7)
          ∧ r.2.mem ((c.tc : Thread Cert.ProjectionsIdeal.nD Cert.ProjectionsIdeal.τ).loc Cert.ProjectionsIdeal.main_arg8) = m' ((c.tc : Thread Cert.ProjectionsIdeal.nD Cert.ProjectionsIdeal.τ).loc Cert.ProjectionsIdeal.main_arg8))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hProjectionsIdeal : Cert.ProjectionsIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_ProjectionsIdeal (hProjectionsIdeal := hProjectionsIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_ProjectionsIdeal (hInProjIdeal := hInProjIdeal) (hProjectionsIdeal := hProjectionsIdeal)
-- ==== Pre_finite.lean ====
abbrev S4x8192x512 : Shape := ⟨3, ![4, 8192, 512]⟩
abbrev S4x8192x1024 : Shape := ⟨3, ![4, 8192, 1024]⟩
abbrev S4x8192x256 : Shape := ⟨3, ![4, 8192, 256]⟩
abbrev S4x8192x4 : Shape := ⟨3, ![4, 8192, 4]⟩
abbrev S4x8192x16 : Shape := ⟨3, ![4, 8192, 16]⟩
abbrev S1024 : Shape := ⟨1, ![1024]⟩
abbrev S16 : Shape := ⟨1, ![16]⟩
abbrev S2048x1024 : Shape := ⟨2, ![2048, 1024]⟩
abbrev S_ : Shape := ⟨0, ![]⟩

class Facts : Prop where
  bcast_S_S4x8192x512 : S_.BroadcastsInDim S4x8192x512 (![] : Fin 0 → Fin S4x8192x512.rank)
  reducesTo_S4x8192x512_S_d0_1_2 : S4x8192x512.ReducesTo [0, 1, 2] S_
  h_S_ : 0 < S_.numel
  bcast_S_S4x8192x1024 : S_.BroadcastsInDim S4x8192x1024 (![] : Fin 0 → Fin S4x8192x1024.rank)
  reducesTo_S4x8192x1024_S_d0_1_2 : S4x8192x1024.ReducesTo [0, 1, 2] S_
  bcast_S_S4x8192x256 : S_.BroadcastsInDim S4x8192x256 (![] : Fin 0 → Fin S4x8192x256.rank)
  reducesTo_S4x8192x256_S_d0_1_2 : S4x8192x256.ReducesTo [0, 1, 2] S_
  bcast_S_S4x8192x4 : S_.BroadcastsInDim S4x8192x4 (![] : Fin 0 → Fin S4x8192x4.rank)
  reducesTo_S4x8192x4_S_d0_1_2 : S4x8192x4.ReducesTo [0, 1, 2] S_
  bcast_S_S4x8192x16 : S_.BroadcastsInDim S4x8192x16 (![] : Fin 0 → Fin S4x8192x16.rank)
  reducesTo_S4x8192x16_S_d0_1_2 : S4x8192x16.ReducesTo [0, 1, 2] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S4x8192x4 .f32) (main_arg10 : FVec F S4x8192x16 .f32) (main_arg13 : FVec F S16 .f32) (main_v29 : IVec S_ 1) (main_v32 : IVec S4x8192x4 1) (main_c_12 : IVec S_ 1) : IVec S_ 1 :=
  let main_v33 : IVec S_ 1 := (fun x v => Host.reduce IntOp.andi x v reducesTo_S4x8192x4_S_d0_1_2 h_S_) main_v32 main_c_12
  let main_v34 : IVec S_ 1 := andi main_v29 main_v33
  let main_v35 : FVec F S4x8192x4 .f32 := Host.absf main_arg9
  let main_cst_13 : FVec F S_ .f32 := constant S_ .f32 0x7F800000#32
  let main_v36 : FVec F S4x8192x4 .f32 := broadcastInDim S4x8192x4 ![] bcast_S_S4x8192x4 main_cst_13
  let main_v37 : IVec S4x8192x4 1 := cmpf .olt main_v35 main_v36
  let main_c_14 : IVec S_ 1 := constantI S_ 1 1#1
  let main_v38 : IVec S_ 1 := (fun x v => Host.reduce IntOp.andi x v reducesTo_S4x8192x4_S_d0_1_2 h_S_) main_v37 main_c_14
  let main_v39 : IVec S_ 1 := andi main_v34 main_v38
  let main_v40 : FVec F S4x8192x16 .f32 := Host.absf main_arg10
  let main_cst_15 : FVec F S_ .f32 := constant S_ .f32 0x7F800000#32
  let main_v41 : FVec F S4x8192x16 .f32 := broadcastInDim S4x8192x16 ![] bcast_S_S4x8192x16 main_cst_15
  let main_v42 : IVec S4x8192x16 1 := cmpf .olt main_v40 main_v41
  let main_c_16 : IVec S_ 1 := constantI S_ 1 1#1
  let main_v43 : IVec S_ 1 := (fun x v => Host.reduce IntOp.andi x v reducesTo_S4x8192x16_S_d0_1_2 h_S_) main_v42 main_c_16
  let main_v44 : IVec S_ 1 := andi main_v39 main_v43
  let main_v45 : FVec F S16 .f32 := Host.absf main_arg13
  let main_cst_17 : FVec F S_ .f32 := constant S_ .f32 0x7F800000#32
  let main_v46 : FVec F S16 .f32 := broadcastInDim S16 ![] bcast_S_S16 main_cst_17
  let main_v47 : IVec S16 1 := cmpf .olt main_v45 main_v46
  let main_c_18 : IVec S_ 1 := constantI S_ 1 1#1
  let main_v48 : IVec S_ 1 := (fun x v => Host.reduce IntOp.andi x v reducesTo_S16_S_d0 h_S_) main_v47 main_c_18
  let main_v49 : IVec S_ 1 := andi main_v44 main_v48
  main_v49

def fn_part1 {F : FTy → Type} [FloatOps F] (main_arg6 : FVec F S4x8192x256 .f32) (main_arg7 : FVec F S4x8192x256 .f32) (main_arg8 : FVec F S4x8192x4 .f32) (main_arg9 : FVec F S4x8192x4 .f32) (main_arg10 : FVec F S4x8192x16 .f32) (main_arg13 : FVec F S16 .f32) (main_v14 : IVec S_ 1) (main_v15 : FVec F S4x8192x1024 .f32) (main_cst_5 : FVec F S_ .f32) : IVec S_ 1 :=
  let main_v16 : FVec F S4x8192x1024 .f32 := broadcastInDim S4x8192x1024 ![] bcast_S_S4x8192x1024 main_cst_5
  let main_v17 : IVec S4x8192x1024 1 := cmpf .olt main_v15 main_v16
  let main_c_6 : IVec S_ 1 := constantI S_ 1 1#1
  let main_v18 : IVec S_ 1 := (fun x v => Host.reduce IntOp.andi x v reducesTo_S4x8192x1024_S_d0_1_2 h_S_) main_v17 main_c_6
  let main_v19 : IVec S_ 1 := andi main_v14 main_v18
  let main_v20 : FVec F S4x8192x256 .f32 := Host.absf main_arg6
  let main_cst_7 : FVec F S_ .f32 := constant S_ .f32 0x7F800000#32
  let main_v21 : FVec F S4x8192x256 .f32 := broadcastInDim S4x8192x256 ![] bcast_S_S4x8192x256 main_cst_7
  let main_v22 : IVec S4x8192x256 1 := cmpf .olt main_v20 main_v21
  let main_c_8 : IVec S_ 1 := constantI S_ 1 1#1
  let main_v23 : IVec S_ 1 := (fun x v => Host.reduce IntOp.andi x v reducesTo_S4x8192x256_S_d0_1_2 h_S_) main_v22 main_c_8
  let main_v24 : IVec S_ 1 := andi main_v19 main_v23
  let main_v25 : FVec F S4x8192x256 .f32 := Host.absf main_arg7
  let main_cst_9 : FVec F S_ .f32 := constant S_ .f32 0x7F800000#32
  let main_v26 : FVec F S4x8192x256 .f32 := broadcastInDim S4x8192x256 ![] bcast_S_S4x8192x256 main_cst_9
  let main_v27 : IVec S4x8192x256 1 := cmpf .olt main_v25 main_v26
  let main_c_10 : IVec S_ 1 := constantI S_ 1 1#1
  let main_v28 : IVec S_ 1 := (fun x v => Host.reduce IntOp.andi x v reducesTo_S4x8192x256_S_d0_1_2 h_S_) main_v27 main_c_10
  let main_v29 : IVec S_ 1 := andi main_v24 main_v28
  let main_v30 : FVec F S4x8192x4 .f32 := Host.absf main_arg8
  let main_cst_11 : FVec F S_ .f32 := constant S_ .f32 0x7F800000#32
  let main_v31 : FVec F S4x8192x4 .f32 := broadcastInDim S4x8192x4 ![] bcast_S_S4x8192x4 main_cst_11
  let main_v32 : IVec S4x8192x4 1 := cmpf .olt main_v30 main_v31
  let main_c_12 : IVec S_ 1 := constantI S_ 1 1#1
  fn_part2 (F := F) main_arg9 main_arg10 main_arg13 main_v29 main_v32 main_c_12

def fn {F : FTy → Type} [FloatOps F] (main_arg0 : FVec F S4x8192x512 .f32) (main_arg1 : FVec F S4x8192x512 .f32) (main_arg2 : FVec F S4x8192x1024 .f32) (main_arg3 : FVec F S4x8192x1024 .f32) (main_arg4 : FVec F S4x8192x1024 .f32) (main_arg5 : FVec F S4x8192x1024 .f32) (main_arg6 : FVec F S4x8192x256 .f32) (main_arg7 : FVec F S4x8192x256 .f32) (main_arg8 : FVec F S4x8192x4 .f32) (main_arg9 : FVec F S4x8192x4 .f32) (main_arg10 : FVec F S4x8192x16 .f32) (main_arg11 : FVec F S1024 .f32) (main_arg12 : FVec F S16 .f32) (main_arg13 : FVec F S16 .f32) (main_arg14 : FVec F S4x8192x1024 .f32) (main_arg15 : FVec F S2048x1024 .f32) (main_arg16 : FVec F S1024 .f32) : IVec S_ 1 :=
  let main_v0 : FVec F S4x8192x512 .f32 := Host.absf main_arg0
  let main_cst : FVec F S_ .f32 := constant S_ .f32 0x7F800000#32
  let main_v1 : FVec F S4x8192x512 .f32 := broadcastInDim S4x8192x512 ![] bcast_S_S4x8192x512 main_cst
  let main_v2 : IVec S4x8192x512 1 := cmpf .olt main_v0 main_v1
  let main_c : IVec S_ 1 := constantI S_ 1 1#1
  let main_v3 : IVec S_ 1 := (fun x v => Host.reduce IntOp.andi x v reducesTo_S4x8192x512_S_d0_1_2 h_S_) main_v2 main_c
  let main_c_0 : IVec S_ 1 := constantI S_ 1 1#1
  let main_v4 : IVec S_ 1 := andi main_c_0 main_v3
  let main_v5 : FVec F S4x8192x512 .f32 := Host.absf main_arg1
  let main_cst_1 : FVec F S_ .f32 := constant S_ .f32 0x7F800000#32
  let main_v6 : FVec F S4x8192x512 .f32 := broadcastInDim S4x8192x512 ![] bcast_S_S4x8192x512 main_cst_1
  let main_v7 : IVec S4x8192x512 1 := cmpf .olt main_v5 main_v6
  let main_c_2 : IVec S_ 1 := constantI S_ 1 1#1
  let main_v8 : IVec S_ 1 := (fun x v => Host.reduce IntOp.andi x v reducesTo_S4x8192x512_S_d0_1_2 h_S_) main_v7 main_c_2
  let main_v9 : IVec S_ 1 := andi main_v4 main_v8
  let main_v10 : FVec F S4x8192x1024 .f32 := Host.absf main_arg2
  let main_cst_3 : FVec F S_ .f32 := constant S_ .f32 0x7F800000#32
  let main_v11 : FVec F S4x8192x1024 .f32 := broadcastInDim S4x8192x1024 ![] bcast_S_S4x8192x1024 main_cst_3
  let main_v12 : IVec S4x8192x1024 1 := cmpf .olt main_v10 main_v11
  let main_c_4 : IVec S_ 1 := constantI S_ 1 1#1
  let main_v13 : IVec S_ 1 := (fun x v => Host.reduce IntOp.andi x v reducesTo_S4x8192x1024_S_d0_1_2 h_S_) main_v12 main_c_4
  let main_v14 : IVec S_ 1 := andi main_v9 main_v13
  let main_v15 : FVec F S4x8192x1024 .f32 := Host.absf main_arg5
  let main_cst_5 : FVec F S_ .f32 := constant S_ .f32 0x7F800000#32
  fn_part1 (F := F) main_arg6 main_arg7 main_arg8 main_arg9 main_arg10 main_arg13 main_v14 main_v15 main_cst_5
-- ==== Kernel.lean ====
abbrev S4x8192x512 : Shape := ⟨3, ![4, 8192, 512]⟩
abbrev S4x8192x1024 : Shape := ⟨3, ![4, 8192, 1024]⟩
abbrev S4x8192x256 : Shape := ⟨3, ![4, 8192, 256]⟩
abbrev S4x8192x4 : Shape := ⟨3, ![4, 8192, 4]⟩
abbrev S4x8192x16 : Shape := ⟨3, ![4, 8192, 16]⟩
abbrev S1024 : Shape := ⟨1, ![1024]⟩
abbrev S16 : Shape := ⟨1, ![16]⟩
abbrev S2048x1024 : Shape := ⟨2, ![2048, 1024]⟩
abbrev S4x8192x24 : Shape := ⟨3, ![4, 8192, 24]⟩
abbrev S_ : Shape := ⟨0, ![]⟩
abbrev S4x8192x32 : Shape := ⟨3, ![4, 8192, 32]⟩
abbrev S256x128x512 : Shape := ⟨3, ![256, 128, 512]⟩
abbrev S256x512x128 : Shape := ⟨3, ![256, 512, 128]⟩
abbrev S32768x512 : Shape := ⟨2, ![32768, 512]⟩
abbrev S256x128x1024 : Shape := ⟨3, ![256, 128, 1024]⟩
abbrev S256x1024x128 : Shape := ⟨3, ![256, 1024, 128]⟩
abbrev S32768x256 : Shape := ⟨2, ![32768, 256]⟩
abbrev S256x128x32 : Shape := ⟨3, ![256, 128, 32]⟩
abbrev S256x32x128 : Shape := ⟨3, ![256, 32, 128]⟩
abbrev S1024x1 : Shape := ⟨2, ![1024, 1]⟩
abbrev S1024x128 : Shape := ⟨2, ![1024, 128]⟩
abbrev S16x64 : Shape := ⟨2, ![16, 64]⟩
abbrev S16x1 : Shape := ⟨2, ![16, 1]⟩
abbrev S16x128 : Shape := ⟨2, ![16, 128]⟩
abbrev S32768x1024 : Shape := ⟨2, ![32768, 1024]⟩
abbrev S1x1024 : Shape := ⟨2, ![1, 1024]⟩
abbrev S4x512x128 : Shape := ⟨3, ![4, 512, 128]⟩
abbrev S512x512 : Shape := ⟨2, ![512, 512]⟩
abbrev S4x1024x128 : Shape := ⟨3, ![4, 1024, 128]⟩
abbrev S512x256 : Shape := ⟨2, ![512, 256]⟩
abbrev S4x32x128 : Shape := ⟨3, ![4, 32, 128]⟩
abbrev S512x1024 : Shape := ⟨2, ![512, 1024]⟩
abbrev S4x272x128 : Shape := ⟨3, ![4, 272, 128]⟩
abbrev S4x1x128 : Shape := ⟨3, ![4, 1, 128]⟩
abbrev S2x512x128 : Shape := ⟨3, ![2, 512, 128]⟩
abbrev S2x4x2048x128 : Shape := ⟨4, ![2, 4, 2048, 128]⟩
abbrev S512x2048 : Shape := ⟨2, ![512, 2048]⟩
abbrev S128x128 : Shape := ⟨2, ![128, 128]⟩
abbrev S8x128 : Shape := ⟨2, ![8, 128]⟩
abbrev S32x128 : Shape := ⟨2, ![32, 128]⟩
abbrev S1x32x128 : Shape := ⟨3, ![1, 32, 128]⟩
abbrev S1x4x2048x128 : Shape := ⟨4, ![1, 4, 2048, 128]⟩
abbrev S4x2048x128 : Shape := ⟨3, ![4, 2048, 128]⟩
abbrev S1x2048x128 : Shape := ⟨3, ![1, 2048, 128]⟩
abbrev S2048x128 : Shape := ⟨2, ![2048, 128]⟩
abbrev S128x2048 : Shape := ⟨2, ![128, 2048]⟩
abbrev S2048x256 : Shape := ⟨2, ![2048, 256]⟩
abbrev S4x128 : Shape := ⟨2, ![4, 128]⟩
abbrev S1x128 : Shape := ⟨2, ![1, 128]⟩
abbrev S1x64x128 : Shape := ⟨3, ![1, 64, 128]⟩
abbrev S64x128 : Shape := ⟨2, ![64, 128]⟩
abbrev S1x128x128 : Shape := ⟨3, ![1, 128, 128]⟩
abbrev S1x256x128 : Shape := ⟨3, ![1, 256, 128]⟩
abbrev S256x128 : Shape := ⟨2, ![256, 128]⟩
abbrev S272x128 : Shape := ⟨2, ![272, 128]⟩
abbrev S128 : Shape := ⟨1, ![128]⟩
abbrev S1x512x128 : Shape := ⟨3, ![1, 512, 128]⟩
abbrev S512x128 : Shape := ⟨2, ![512, 128]⟩
abbrev S1x1 : Shape := ⟨2, ![1, 1]⟩
abbrev S1x1x128 : Shape := ⟨3, ![1, 1, 128]⟩
abbrev S1x272x128 : Shape := ⟨3, ![1, 272, 128]⟩
abbrev S272x256 : Shape := ⟨2, ![272, 256]⟩
abbrev S1x1x256x128 : Shape := ⟨4, ![1, 1, 256, 128]⟩
abbrev S1x1x512x128 : Shape := ⟨4, ![1, 1, 512, 128]⟩
abbrev S512 : Shape := ⟨1, ![512]⟩
abbrev S512x1 : Shape := ⟨2, ![512, 1]⟩

abbrev nBuf : Space → Nat
  | .hbm => 59
  | .vmem => 33
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x1024, .f32⟩
  | .hbm, ⟨3, _⟩ => ⟨S4x8192x1024, .f32⟩
  | .hbm, ⟨4, _⟩ => ⟨S4x8192x1024, .f32⟩
  | .hbm, ⟨5, _⟩ => ⟨S4x8192x1024, .f32⟩
  | .hbm, ⟨6, _⟩ => ⟨S4x8192x256, .f32⟩
  | .hbm, ⟨7, _⟩ => ⟨S4x8192x256, .f32⟩
  | .hbm, ⟨8, _⟩ => ⟨S4x8192x4, .f32⟩
  | .hbm, ⟨9, _⟩ => ⟨S4x8192x4, .f32⟩
  | .hbm, ⟨10, _⟩ => ⟨S4x8192x16, .f32⟩
  | .hbm, ⟨11, _⟩ => ⟨S1024, .f32⟩
  | .hbm, ⟨12, _⟩ => ⟨S16, .f32⟩
  | .hbm, ⟨13, _⟩ => ⟨S16, .f32⟩
  | .hbm, ⟨14, _⟩ => ⟨S4x8192x1024, .f32⟩
  | .hbm, ⟨15, _⟩ => ⟨S2048x1024, .f32⟩
  | .hbm, ⟨16, _⟩ => ⟨S1024, .f32⟩
  | .hbm, ⟨17, _⟩ => ⟨S4x8192x24, .f32⟩
  | .hbm, ⟨18, _⟩ => ⟨S_, .i32⟩
  | .hbm, ⟨19, _⟩ => ⟨S_, .f32⟩
  | .hbm, ⟨20, _⟩ => ⟨S4x8192x32, .f32⟩
  | .hbm, ⟨21, _⟩ => ⟨S_, .f32⟩
  | .hbm, ⟨22, _⟩ => ⟨S4x8192x512, .f32⟩
  | .hbm, ⟨23, _⟩ => ⟨S4x8192x512, .f32⟩
  | .hbm, ⟨24, _⟩ => ⟨S4x8192x512, .bf16⟩
  | .hbm, ⟨25, _⟩ => ⟨S256x128x512, .bf16⟩
  | .hbm, ⟨26, _⟩ => ⟨S256x512x128, .bf16⟩
  | .hbm, ⟨27, _⟩ => ⟨S4x8192x512, .bf16⟩
  | .hbm, ⟨28, _⟩ => ⟨S32768x512, .bf16⟩
  | .hbm, ⟨29, _⟩ => ⟨S4x8192x1024, .bf16⟩
  | .hbm, ⟨30, _⟩ => ⟨S256x128x1024, .bf16⟩
  | .hbm, ⟨31, _⟩ => ⟨S256x1024x128, .bf16⟩
  | .hbm, ⟨32, _⟩ => ⟨S4x8192x1024, .bf16⟩
  | .hbm, ⟨33, _⟩ => ⟨S256x128x1024, .bf16⟩
  | .hbm, ⟨34, _⟩ => ⟨S256x1024x128, .bf16⟩
  | .hbm, ⟨35, _⟩ => ⟨S4x8192x1024, .bf16⟩
  | .hbm, ⟨36, _⟩ => ⟨S256x128x1024, .bf16⟩
  | .hbm, ⟨37, _⟩ => ⟨S256x1024x128, .bf16⟩
  | .hbm, ⟨38, _⟩ => ⟨S4x8192x1024, .bf16⟩
  | .hbm, ⟨39, _⟩ => ⟨S256x128x1024, .bf16⟩
  | .hbm, ⟨40, _⟩ => ⟨S256x1024x128, .bf16⟩
  | .hbm, ⟨41, _⟩ => ⟨S4x8192x256, .bf16⟩
  | .hbm, ⟨42, _⟩ => ⟨S32768x256, .bf16⟩
  | .hbm, ⟨43, _⟩ => ⟨S4x8192x256, .bf16⟩
  | .hbm, ⟨44, _⟩ => ⟨S32768x256, .bf16⟩
  | .hbm, ⟨45, _⟩ => ⟨S256x128x32, .f32⟩
  | .hbm, ⟨46, _⟩ => ⟨S256x32x128, .f32⟩
  | .hbm, ⟨47, _⟩ => ⟨S1024x1, .f32⟩
  | .hbm, ⟨48, _⟩ => ⟨S1024x128, .f32⟩
  | .hbm, ⟨49, _⟩ => ⟨S16x64, .f32⟩
  | .hbm, ⟨50, _⟩ => ⟨S1024, .f32⟩
  | .hbm, ⟨51, _⟩ => ⟨S1024x1, .f32⟩
  | .hbm, ⟨52, _⟩ => ⟨S1024x128, .f32⟩
  | .hbm, ⟨53, _⟩ => ⟨S16x1, .f32⟩
  | .hbm, ⟨54, _⟩ => ⟨S16x128, .f32⟩
  | .hbm, ⟨55, _⟩ => ⟨S32768x1024, .f32⟩
  | .hbm, ⟨56, _⟩ => ⟨S2048x1024, .bf16⟩
  | .hbm, ⟨57, _⟩ => ⟨S1x1024, .f32⟩
  | .hbm, ⟨58, _⟩ => ⟨S32768x1024, .f32⟩
  | .local _ .vmem, ⟨0, _⟩ => ⟨S4x512x128, .bf16⟩
  | .local _ .vmem, ⟨1, _⟩ => ⟨S4x512x128, .bf16⟩
  | .local _ .vmem, ⟨2, _⟩ => ⟨S512x512, .bf16⟩
  | .local _ .vmem, ⟨3, _⟩ => ⟨S512x512, .bf16⟩
  | .local _ .vmem, ⟨4, _⟩ => ⟨S4x1024x128, .bf16⟩
  | .local _ .vmem, ⟨5, _⟩ => ⟨S4x1024x128, .bf16⟩
  | .local _ .vmem, ⟨6, _⟩ => ⟨S4x1024x128, .bf16⟩
  | .local _ .vmem, ⟨7, _⟩ => ⟨S4x1024x128, .bf16⟩
  | .local _ .vmem, ⟨8, _⟩ => ⟨S4x1024x128, .bf16⟩
  | .local _ .vmem, ⟨9, _⟩ => ⟨S4x1024x128, .bf16⟩
  | .local _ .vmem, ⟨10, _⟩ => ⟨S4x1024x128, .bf16⟩
  | .local _ .vmem, ⟨11, _⟩ => ⟨S4x1024x128, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S4x32x128, .f32⟩
  | .local _ .vmem, ⟨17, _⟩ => ⟨S4x32x128, .f32⟩
  | .local _ .vmem, ⟨18, _⟩ => ⟨S1024x128, .f32⟩
  | .local _ .vmem, ⟨19, _⟩ => ⟨S1024x128, .f32⟩
  | .local _ .vmem, ⟨20, _⟩ => ⟨S16x128, .f32⟩
  | .local _ .vmem, ⟨21, _⟩ => ⟨S512x1024, .f32⟩
  | .local _ .vmem, ⟨22, _⟩ => ⟨S512x1024, .f32⟩
  | .local _ .vmem, ⟨23, _⟩ => ⟨S2048x1024, .bf16⟩
  | .local _ .vmem, ⟨24, _⟩ => ⟨S1x1024, .f32⟩
  | .local _ .vmem, ⟨25, _⟩ => ⟨S512x1024, .f32⟩
  | .local _ .vmem, ⟨26, _⟩ => ⟨S512x1024, .f32⟩
  | .local _ .vmem, ⟨27, _⟩ => ⟨S4x272x128, .f32⟩
  | .local _ .vmem, ⟨28, _⟩ => ⟨S4x1x128, .f32⟩
  | .local _ .vmem, ⟨29, _⟩ => ⟨S2x512x128, .f32⟩
  | .local _ .vmem, ⟨30, _⟩ => ⟨S2x4x2048x128, .bf16⟩
  | .local _ .vmem, ⟨31, _⟩ => ⟨S512x2048, .bf16⟩
  | .local _ .vmem, ⟨32, _⟩ => ⟨S512x1024, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_call0_v0 : Ref sig .tc := ⟨.hbm, 19, rfl⟩
abbrev main_v1 : Ref sig .tc := ⟨.hbm, 20, rfl⟩
abbrev main_cst : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![65], ![false]⟩

def k0_off1 (i : grid0.Coords) : Fin 4 → Nat :=
  let c1_i32 : BitVec 32 := 1#32
  let arg0 : BitVec 32 := BitVec.ofNat 32 (i 0).val
  let c2_i32 : BitVec 32 := 2#32
  let v0 : BitVec 32 := Scalar.remsi arg0 c2_i32
  let v8 : BitVec 32 := Scalar.subi c1_i32 v0
  let c0_i32_18 : BitVec 32 := 0#32
  let c0_i32_19 : BitVec 32 := 0#32
  let c0_i32_20 : BitVec 32 := 0#32
  ![v8.toNat, 0, 0, 0]
def k0_off2 (i : grid0.Coords) : Fin 4 → Nat :=
  let arg0 : BitVec 32 := BitVec.ofNat 32 (i 0).val
  let c2_i32 : BitVec 32 := 2#32
  let v0 : BitVec 32 := Scalar.remsi arg0 c2_i32
  let c0_i32_312 : BitVec 32 := 0#32
  let c0_i32_313 : BitVec 32 := 0#32
  let c0_i32_314 : BitVec 32 := 0#32
  ![v0.toNat, 0, 0, 0]
def k0_off3 (i : grid0.Coords) : Fin 4 → Nat :=
  let arg0 : BitVec 32 := BitVec.ofNat 32 (i 0).val
  let c2_i32 : BitVec 32 := 2#32
  let v0 : BitVec 32 := Scalar.remsi arg0 c2_i32
  let c0_i32_312 : BitVec 32 := 0#32
  let c0_i32_313 : BitVec 32 := 0#32
  let c0_i32_314 : BitVec 32 := 0#32
  ![v0.toNat, 0, 0, 0]
def k0_off4 (i : grid0.Coords) : Fin 4 → Nat :=
  let arg0 : BitVec 32 := BitVec.ofNat 32 (i 0).val
  let c2_i32 : BitVec 32 := 2#32
  let v0 : BitVec 32 := Scalar.remsi arg0 c2_i32
  let c0_i32_367 : BitVec 32 := 0#32
  let c0_i32_369 : BitVec 32 := 0#32
  ![v0.toNat, 0, 256, 0]
def k0_off5 (i : grid0.Coords) : Fin 4 → Nat :=
  let arg0 : BitVec 32 := BitVec.ofNat 32 (i 0).val
  let c2_i32 : BitVec 32 := 2#32
  let v0 : BitVec 32 := Scalar.remsi arg0 c2_i32
  let c0_i32_419 : BitVec 32 := 0#32
  let c0_i32_421 : BitVec 32 := 0#32
  ![v0.toNat, 0, 512, 0]
def k0_off6 (i : grid0.Coords) : Fin 4 → Nat :=
  let arg0 : BitVec 32 := BitVec.ofNat 32 (i 0).val
  let c2_i32 : BitVec 32 := 2#32
  let v0 : BitVec 32 := Scalar.remsi arg0 c2_i32
  let c0_i32_535 : BitVec 32 := 0#32
  let c0_i32_537 : BitVec 32 := 0#32
  ![v0.toNat, 0, 1024, 0]
def k0_off7 (i : grid0.Coords) : Fin 4 → Nat :=
  let arg0 : BitVec 32 := BitVec.ofNat 32 (i 0).val
  let c2_i32 : BitVec 32 := 2#32
  let v0 : BitVec 32 := Scalar.remsi arg0 c2_i32
  let c0_i32_565 : BitVec 32 := 0#32
  let c0_i32_567 : BitVec 32 := 0#32
  ![v0.toNat, 0, 768, 0]
def k0_off8 (i : grid0.Coords) : Fin 4 → Nat :=
  let arg0 : BitVec 32 := BitVec.ofNat 32 (i 0).val
  let c2_i32 : BitVec 32 := 2#32
  let v0 : BitVec 32 := Scalar.remsi arg0 c2_i32
  let c0_i32_650 : BitVec 32 := 0#32
  let c0_i32_652 : BitVec 32 := 0#32
  ![v0.toNat, 0, 1536, 0]
def k0_off9 (i : grid0.Coords) : Fin 4 → Nat :=
  let arg0 : BitVec 32 := BitVec.ofNat 32 (i 0).val
  let c2_i32 : BitVec 32 := 2#32
  let v0 : BitVec 32 := Scalar.remsi arg0 c2_i32
  let c0_i32_782 : BitVec 32 := 0#32
  let c0_i32_783 : BitVec 32 := 0#32
  ![v0.toNat, 1, 0, 0]
def k0_off10 (i : grid0.Coords) : Fin 4 → Nat :=
  let arg0 : BitVec 32 := BitVec.ofNat 32 (i 0).val
  let c2_i32 : BitVec 32 := 2#32
  let v0 : BitVec 32 := Scalar.remsi arg0 c2_i32
  let c0_i32_838 : BitVec 32 := 0#32
  ![v0.toNat, 1, 256, 0]
def k0_off11 (i : grid0.Coords) : Fin 4 → Nat :=
  let arg0 : BitVec 32 := BitVec.ofNat 32 (i 0).val
  let c2_i32 : BitVec 32 := 2#32
  let v0 : BitVec 32 := Scalar.remsi arg0 c2_i32
  let c0_i32_890 : BitVec 32 := 0#32
  ![v0.toNat, 1, 512, 0]
def k0_off12 (i : grid0.Coords) : Fin 4 → Nat :=
  let arg0 : BitVec 32 := BitVec.ofNat 32 (i 0).val
  let c2_i32 : BitVec 32 := 2#32
  let v0 : BitVec 32 := Scalar.remsi arg0 c2_i32
  let c0_i32_1006 : BitVec 32 := 0#32
  ![v0.toNat, 1, 1024, 0]
def k0_off13 (i : grid0.Coords) : Fin 4 → Nat :=
  let arg0 : BitVec 32 := BitVec.ofNat 32 (i 0).val
  let c2_i32 : BitVec 32 := 2#32
  let v0 : BitVec 32 := Scalar.remsi arg0 c2_i32
  let c0_i32_1037 : BitVec 32 := 0#32
  ![v0.toNat, 1, 768, 0]
def k0_off14 (i : grid0.Coords) : Fin 4 → Nat :=
  let arg0 : BitVec 32 := BitVec.ofNat 32 (i 0).val
  let c2_i32 : BitVec 32 := 2#32
  let v0 : BitVec 32 := Scalar.remsi arg0 c2_i32
  let c0_i32_1122 : BitVec 32 := 0#32
  ![v0.toNat, 1, 1536, 0]
def k0_off15 (i : grid0.Coords) : Fin 4 → Nat :=
  let arg0 : BitVec 32 := BitVec.ofNat 32 (i 0).val
  let c2_i32 : BitVec 32 := 2#32
  let v0 : BitVec 32 := Scalar.remsi arg0 c2_i32
  let c0_i32_1262 : BitVec 32 := 0#32
  let c0_i32_1263 : BitVec 32 := 0#32
  ![v0.toNat, 2, 0, 0]
def k0_off16 (i : grid0.Coords) : Fin 4 → Nat :=
  let arg0 : BitVec 32 := BitVec.ofNat 32 (i 0).val
  let c2_i32 : BitVec 32 := 2#32
  let v0 : BitVec 32 := Scalar.remsi arg0 c2_i32
  let c0_i32_1318 : BitVec 32 := 0#32
  ![v0.toNat, 2, 256, 0]
def k0_off17 (i : grid0.Coords) : Fin 4 → Nat :=
  let arg0 : BitVec 32 := BitVec.ofNat 32 (i 0).val
  let c2_i32 : BitVec 32 := 2#32
  let v0 : BitVec 32 := Scalar.remsi arg0 c2_i32
  let c0_i32_1361 : BitVec 32 := 0#32
  ![v0.toNat, 2, 512, 0]
def k0_off18 (i : grid0.Coords) : Fin 4 → Nat :=
  let arg0 : BitVec 32 := BitVec.ofNat 32 (i 0).val
  let c2_i32 : BitVec 32 := 2#32
  let v0 : BitVec 32 := Scalar.remsi arg0 c2_i32
  let c0_i32_1486 : BitVec 32 := 0#32
  ![v0.toNat, 2, 1024, 0]
def k0_off19 (i : grid0.Coords) : Fin 4 → Nat :=
  let arg0 : BitVec 32 := BitVec.ofNat 32 (i 0).val
  let c2_i32 : BitVec 32 := 2#32
  let v0 : BitVec 32 := Scalar.remsi arg0 c2_i32
  let c0_i32_1517 : BitVec 32 := 0#32
  ![v0.toNat, 2, 768, 0]
def k0_off20 (i : grid0.Coords) : Fin 4 → Nat :=
  let arg0 : BitVec 32 := BitVec.ofNat 32 (i 0).val
  let c2_i32 : BitVec 32 := 2#32
  let v0 : BitVec 32 := Scalar.remsi arg0 c2_i32
  let c0_i32_1602 : BitVec 32 := 0#32
  ![v0.toNat, 2, 1536, 0]
def k0_off21 (i : grid0.Coords) : Fin 4 → Nat :=
  let arg0 : BitVec 32 := BitVec.ofNat 32 (i 0).val
  let c2_i32 : BitVec 32 := 2#32
  let v0 : BitVec 32 := Scalar.remsi arg0 c2_i32
  let c0_i32_1687 : BitVec 32 := 0#32
  let c0_i32_1688 : BitVec 32 := 0#32
  ![v0.toNat, 3, 0, 0]
def k0_off22 (i : grid0.Coords) : Fin 4 → Nat :=
  let arg0 : BitVec 32 := BitVec.ofNat 32 (i 0).val
  let c2_i32 : BitVec 32 := 2#32
  let v0 : BitVec 32 := Scalar.remsi arg0 c2_i32
  let c0_i32_1716 : BitVec 32 := 0#32
  ![v0.toNat, 3, 256, 0]
def k0_off23 (i : grid0.Coords) : Fin 4 → Nat :=
  let arg0 : BitVec 32 := BitVec.ofNat 32 (i 0).val
  let c2_i32 : BitVec 32 := 2#32
  let v0 : BitVec 32 := Scalar.remsi arg0 c2_i32
  let c0_i32_1744 : BitVec 32 := 0#32
  ![v0.toNat, 3, 512, 0]
def k0_off24 (i : grid0.Coords) : Fin 4 → Nat :=
  let arg0 : BitVec 32 := BitVec.ofNat 32 (i 0).val
  let c2_i32 : BitVec 32 := 2#32
  let v0 : BitVec 32 := Scalar.remsi arg0 c2_i32
  let c0_i32_1833 : BitVec 32 := 0#32
  ![v0.toNat, 3, 1024, 0]
def k0_off25 (i : grid0.Coords) : Fin 4 → Nat :=
  let arg0 : BitVec 32 := BitVec.ofNat 32 (i 0).val
  let c2_i32 : BitVec 32 := 2#32
  let v0 : BitVec 32 := Scalar.remsi arg0 c2_i32
  let c0_i32_1847 : BitVec 32 := 0#32
  ![v0.toNat, 3, 768, 0]
def k0_off26 (i : grid0.Coords) : Fin 4 → Nat :=
  let arg0 : BitVec 32 := BitVec.ofNat 32 (i 0).val
  let c2_i32 : BitVec 32 := 2#32
  let v0 : BitVec 32 := Scalar.remsi arg0 c2_i32
  let c0_i32_1922 : BitVec 32 := 0#32
  ![v0.toNat, 3, 1536, 0]
def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_8 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S4x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S2048x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KernelIdeal.lean ====
variable {F : FTy → Type} [FloatOps F] [Named F]
def κ : String → Option EReal := fun
  | "log2_e" => some (((Real.log 2)⁻¹ : ℝ) : EReal)
  | "neg_log2_e" => some ((-((Real.log 2)⁻¹) : ℝ) : EReal)
  | _ => none
-- ==== ReferenceIdeal.lean ====
abbrev S4x8192x512 : Shape := ⟨3, ![4, 8192, 512]⟩
abbrev S4x8192x1024 : Shape := ⟨3, ![4, 8192, 1024]⟩
abbrev S4x8192x256 : Shape := ⟨3, ![4, 8192, 256]⟩
abbrev S4x8192x4 : Shape := ⟨3, ![4, 8192, 4]⟩
abbrev S4x8192x16 : Shape := ⟨3, ![4, 8192, 16]⟩
abbrev S1024 : Shape := ⟨1, ![1024]⟩
abbrev S16 : Shape := ⟨1, ![16]⟩
abbrev S2048x1024 : Shape := ⟨2, ![2048, 1024]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S4x8192x4x128 : Shape := ⟨4, ![4, 8192, 4, 128]⟩
abbrev S_ : Shape := ⟨0, ![]⟩
abbrev S4x8192x4x256 : Shape := ⟨4, ![4, 8192, 4, 256]⟩
abbrev S4x4x8192 : Shape := ⟨3, ![4, 4, 8192]⟩
abbrev S4x4x8192x1 : Shape := ⟨4, ![4, 4, 8192, 1]⟩
abbrev S4x4x1x8192 : Shape := ⟨4, ![4, 4, 1, 8192]⟩
abbrev S4x4x8192x8192 : Shape := ⟨4, ![4, 4, 8192, 8192]⟩
abbrev S4x4x8192x256 : Shape := ⟨4, ![4, 4, 8192, 256]⟩
abbrev S4x8192x16x64 : Shape := ⟨4, ![4, 8192, 16, 64]⟩
abbrev S1x1x16 : Shape := ⟨3, ![1, 1, 16]⟩
abbrev S4x16x8192 : Shape := ⟨3, ![4, 16, 8192]⟩
abbrev S4x16x8192x1 : Shape := ⟨4, ![4, 16, 8192, 1]⟩
abbrev S4x16x1x8192 : Shape := ⟨4, ![4, 16, 1, 8192]⟩
abbrev S4x16x8192x8192 : Shape := ⟨4, ![4, 16, 8192, 8192]⟩
abbrev S4x8192x2x128 : Shape := ⟨4, ![4, 8192, 2, 128]⟩
abbrev S4x2x8192x8192 : Shape := ⟨4, ![4, 2, 8192, 8192]⟩
abbrev S4x2x8x8192x8192 : Shape := ⟨5, ![4, 2, 8, 8192, 8192]⟩
abbrev S4x8192x16x1 : Shape := ⟨4, ![4, 8192, 16, 1]⟩
abbrev S4x16x64x8192 : Shape := ⟨4, ![4, 16, 64, 8192]⟩
abbrev S16x1 : Shape := ⟨2, ![16, 1]⟩
abbrev S1x1x16x1 : Shape := ⟨4, ![1, 1, 16, 1]⟩
abbrev S4x8192x2x512 : Shape := ⟨4, ![4, 8192, 2, 512]⟩
abbrev S4x8192x2 : Shape := ⟨3, ![4, 8192, 2]⟩
abbrev S4x8192x2x1 : Shape := ⟨4, ![4, 8192, 2, 1]⟩
abbrev S1x1x1024 : Shape := ⟨3, ![1, 1, 1024]⟩
abbrev S4x8192x2048 : Shape := ⟨3, ![4, 8192, 2048]⟩
abbrev S4x8192 : Shape := ⟨2, ![4, 8192]⟩
abbrev S4x8192x1 : Shape := ⟨3, ![4, 8192, 1]⟩
abbrev S32768x1024 : Shape := ⟨2, ![32768, 1024]⟩

abbrev nBuf : Space → Nat
  | .hbm => 159
  | .vmem => 0
  | .smem => 0
  | _ => 0

abbrev hbmTy0_0 (i : Nat) : BufTy := match i % 128 with
  | 0 => ⟨S4x8192x512, .f32⟩
  | 1 => ⟨S4x8192x512, .f32⟩
  | 2 => ⟨S4x8192x1024, .f32⟩
  | 3 => ⟨S4x8192x1024, .f32⟩
  | 4 => ⟨S4x8192x1024, .f32⟩
  | 5 => ⟨S4x8192x1024, .f32⟩
  | 6 => ⟨S4x8192x256, .f32⟩
  | 7 => ⟨S4x8192x256, .f32⟩
  | 8 => ⟨S4x8192x4, .f32⟩
  | 9 => ⟨S4x8192x4, .f32⟩
  | 10 => ⟨S4x8192x16, .f32⟩
  | 11 => ⟨S1024, .f32⟩
  | 12 => ⟨S16, .f32⟩
  | 13 => ⟨S16, .f32⟩
  | 14 => ⟨S4x8192x1024, .f32⟩
  | 15 => ⟨S2048x1024, .f32⟩
  | 16 => ⟨S1024, .f32⟩
  | 17 => ⟨S8192, .i32⟩
  | 18 => ⟨S8192x1, .i32⟩
  | 19 => ⟨S1x8192, .i32⟩
  | 20 => ⟨S8192x8192, .i32⟩
  | 21 => ⟨S8192x8192, .i32⟩
  | 22 => ⟨S8192x8192, .i1⟩
  | 23 => ⟨S4x8192x4x128, .f32⟩
  | 24 => ⟨S_, .f32⟩
  | 25 => ⟨S4x8192x4x128, .f32⟩
  | 26 => ⟨S4x8192x4x128, .f32⟩
  | 27 => ⟨S4x8192x4x128, .f32⟩
  | 28 => ⟨S4x8192x4x256, .f32⟩
  | 29 => ⟨S4x4x8192, .f32⟩
  | 30 => ⟨S_, .f32⟩
  | 31 => ⟨S_, .f32⟩
  | 32 => ⟨S4x8192x4, .f32⟩
  | 33 => ⟨S4x4x8192, .f32⟩
  | 34 => ⟨S4x4x8192x1, .f32⟩
  | 35 => ⟨S4x4x1x8192, .f32⟩
  | 36 => ⟨S4x4x8192x8192, .f32⟩
  | 37 => ⟨S4x4x8192x8192, .f32⟩
  | 38 => ⟨S4x4x8192x8192, .f32⟩
  | 39 => ⟨S4x4x1x8192, .f32⟩
  | 40 => ⟨S4x4x8192x8192, .f32⟩
  | 41 => ⟨S4x4x8192x8192, .f32⟩
  | 42 => ⟨S_, .f32⟩
  | 43 => ⟨S_, .f32⟩
  | 44 => ⟨S4x4x8192x8192, .i1⟩
  | 45 => ⟨S4x4x8192x8192, .f32⟩
  | 46 => ⟨S4x4x8192x8192, .f32⟩
  | 47 => ⟨S_, .f32⟩
  | 48 => ⟨S4x4x8192, .f32⟩
  | 49 => ⟨S4x4x8192, .f32⟩
  | 50 => ⟨S4x4x8192x8192, .f32⟩
  | 51 => ⟨S4x4x8192x1, .f32⟩
  | 52 => ⟨S4x4x8192x8192, .f32⟩
  | 53 => ⟨S4x4x8192x8192, .f32⟩
  | 54 => ⟨S4x4x8192x8192, .f32⟩
  | 55 => ⟨S4x4x8192x8192, .f32⟩
  | 56 => ⟨S4x4x8192x256, .f32⟩
  | 57 => ⟨S_, .f32⟩
  | 58 => ⟨S4x4x8192, .f32⟩
  | 59 => ⟨S4x4x8192, .f32⟩
  | 60 => ⟨S4x4x8192, .f32⟩
  | 61 => ⟨S4x4x8192, .f32⟩
  | 62 => ⟨S4x4x8192, .f32⟩
  | 63 => ⟨S4x4x8192x1, .f32⟩
  | 64 => ⟨S4x4x8192x256, .f32⟩
  | 65 => ⟨S4x4x8192x256, .f32⟩
  | 66 => ⟨S4x4x8192x256, .f32⟩
  | 67 => ⟨S_, .f32⟩
  | 68 => ⟨S4x4x8192, .f32⟩
  | 69 => ⟨S4x4x8192x1, .f32⟩
  | 70 => ⟨S_, .f32⟩
  | 71 => ⟨S4x4x8192x1, .f32⟩
  | 72 => ⟨S4x4x8192x1, .f32⟩
  | 73 => ⟨S_, .f32⟩
  | 74 => ⟨S4x4x8192x1, .f32⟩
  | 75 => ⟨S4x4x8192x1, .f32⟩
  | 76 => ⟨S4x4x8192x1, .f32⟩
  | 77 => ⟨S4x4x8192x256, .f32⟩
  | 78 => ⟨S4x4x8192x256, .f32⟩
  | 79 => ⟨S4x8192x4x256, .f32⟩
  | 80 => ⟨S4x8192x1024, .f32⟩
  | 81 => ⟨S4x8192x1024, .f32⟩
  | 82 => ⟨S4x8192x16x64, .f32⟩
  | 83 => ⟨S16, .f32⟩
  | 84 => ⟨S16, .f32⟩
  | 85 => ⟨S1x1x16, .f32⟩
  | 86 => ⟨S4x8192x16, .f32⟩
  | 87 => ⟨S4x8192x16, .f32⟩
  | 88 => ⟨S_, .f32⟩
  | 89 => ⟨S_, .f32⟩
  | 90 => ⟨S4x8192x16, .f32⟩
  | 91 => ⟨S4x16x8192, .f32⟩
  | 92 => ⟨S4x16x8192x1, .f32⟩
  | 93 => ⟨S4x16x1x8192, .f32⟩
  | 94 => ⟨S4x16x8192x8192, .f32⟩
  | 95 => ⟨S4x16x8192x8192, .f32⟩
  | 96 => ⟨S4x16x8192x8192, .f32⟩
  | 97 => ⟨S_, .f32⟩
  | 98 => ⟨S_, .f32⟩
  | 99 => ⟨S4x16x8192x8192, .i1⟩
  | 100 => ⟨S4x16x8192x8192, .f32⟩
  | 101 => ⟨S4x16x8192x8192, .f32⟩
  | 102 => ⟨S4x16x8192x8192, .f32⟩
  | 103 => ⟨S4x8192x2x128, .f32⟩
  | 104 => ⟨S4x8192x2x128, .f32⟩
  | 105 => ⟨S4x2x8192x8192, .f32⟩
  | 106 => ⟨S4x2x8x8192x8192, .f32⟩
  | 107 => ⟨S4x16x8192x8192, .f32⟩
  | 108 => ⟨S4x16x8192x8192, .f32⟩
  | 109 => ⟨S4x8192x16x1, .f32⟩
  | 110 => ⟨S4x8192x16x64, .f32⟩
  | 111 => ⟨S4x8192x16x64, .f32⟩
  | 112 => ⟨S4x16x64x8192, .f32⟩
  | 113 => ⟨S4x8192x16x64, .f32⟩
  | 114 => ⟨S16x1, .f32⟩
  | 115 => ⟨S1x1x16x1, .f32⟩
  | 116 => ⟨S4x8192x16x64, .f32⟩
  | 117 => ⟨S4x8192x16x64, .f32⟩
  | 118 => ⟨S4x8192x16x64, .f32⟩
  | 119 => ⟨S4x8192x1024, .f32⟩
  | 120 => ⟨S4x8192x1024, .f32⟩
  | 121 => ⟨S4x8192x2x512, .f32⟩
  | 122 => ⟨S4x8192x2x512, .f32⟩
  | 123 => ⟨S_, .f32⟩
  | 124 => ⟨S4x8192x2, .f32⟩
  | 125 => ⟨S4x8192x2x1, .f32⟩
  | 126 => ⟨S_, .f32⟩
  | 127 => ⟨S4x8192x2x1, .f32⟩
  | _ => ⟨S4x8192x512, .f32⟩

abbrev hbmTy0_1 (i : Nat) : BufTy := match i % 128 with
  | 0 => ⟨S4x8192x2x1, .f32⟩
  | 1 => ⟨S_, .f32⟩
  | 2 => ⟨S4x8192x2x1, .f32⟩
  | 3 => ⟨S4x8192x2x1, .f32⟩
  | 4 => ⟨S4x8192x2x1, .f32⟩
  | 5 => ⟨S4x8192x2x512, .f32⟩
  | 6 => ⟨S4x8192x2x512, .f32⟩
  | 7 => ⟨S4x8192x1024, .f32⟩
  | 8 => ⟨S1x1x1024, .f32⟩
  | 9 => ⟨S4x8192x1024, .f32⟩
  | 10 => ⟨S4x8192x1024, .f32⟩
  | 11 => ⟨S4x8192x2048, .f32⟩
  | 12 => ⟨S4x8192x1024, .f32⟩
  | 13 => ⟨S4x8192x1024, .f32⟩
  | 14 => ⟨S4x8192x1024, .f32⟩
  | 15 => ⟨S_, .f32⟩
  | 16 => ⟨S4x8192, .f32⟩
  | 17 => ⟨S4x8192x1, .f32⟩
  | 18 => ⟨S_, .f32⟩
  | 19 => ⟨S4x8192x1, .f32⟩
  | 20 => ⟨S4x8192x1, .f32⟩
  | 21 => ⟨S_, .f32⟩
  | 22 => ⟨S4x8192x1, .f32⟩
  | 23 => ⟨S4x8192x1, .f32⟩
  | 24 => ⟨S4x8192x1, .f32⟩
  | 25 => ⟨S4x8192x1024, .f32⟩
  | 26 => ⟨S4x8192x1024, .f32⟩
  | 27 => ⟨S1x1x1024, .f32⟩
  | 28 => ⟨S4x8192x1024, .f32⟩
  | 29 => ⟨S4x8192x1024, .f32⟩
  | 30 => ⟨S32768x1024, .f32⟩
  | _ => ⟨S4x8192x512, .f32⟩

abbrev hbmTy (i : Nat) : BufTy := match i / 128 with
  | 0 => hbmTy0_0 i
  | 1 => hbmTy0_1 i
  | _ => ⟨S4x8192x512, .f32⟩

abbrev bufTy : (tb : Table) → Fin (tcTables nBuf tb) → BufTy
  | .hbm, ⟨i, _⟩ => hbmTy i
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call0_call0_cst : Ref sig .tc := ⟨.hbm, 30, rfl⟩
abbrev main_call0_call0_v0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_0 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v22 : Ref sig .tc := ⟨.hbm, 46, rfl⟩
abbrev main_cst_1 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_2 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_3 : Ref sig .tc := ⟨.hbm, 67, rfl⟩
abbrev main_v41 : Ref sig .tc := ⟨.hbm, 68, rfl⟩
abbrev main_v42 : Ref sig .tc := ⟨.hbm, 69, rfl⟩
abbrev main_cst_4 : Ref sig .tc := ⟨.hbm, 70, rfl⟩
abbrev main_v43 : Ref sig .tc := ⟨.hbm, 71, rfl⟩
abbrev main_v44 : Ref sig .tc := ⟨.hbm, 72, rfl⟩
abbrev main_cst_5 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_call2_call0_cst : Ref sig .tc := ⟨.hbm, 88, rfl⟩
abbrev main_call2_call0_v0 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_6 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_7 : Ref sig .tc := ⟨.hbm, 123, rfl⟩
abbrev main_v88 : Ref sig .tc := ⟨.hbm, 124, rfl⟩
abbrev main_v89 : Ref sig .tc := ⟨.hbm, 125, rfl⟩
abbrev main_cst_8 : Ref sig .tc := ⟨.hbm, 126, rfl⟩
abbrev main_v90 : Ref sig .tc := ⟨.hbm, 127, rfl⟩
abbrev main_v91 : Ref sig .tc := ⟨.hbm, 128, rfl⟩
abbrev main_cst_9 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_10 : Ref sig .tc := ⟨.hbm, 143, rfl⟩
abbrev main_v105 : Ref sig .tc := ⟨.hbm, 144, rfl⟩
abbrev main_v106 : Ref sig .tc := ⟨.hbm, 145, rfl⟩
abbrev main_cst_11 : Ref sig .tc := ⟨.hbm, 146, rfl⟩
abbrev main_v107 : Ref sig .tc := ⟨.hbm, 147, rfl⟩
abbrev main_v108 : Ref sig .tc := ⟨.hbm, 148, rfl⟩
abbrev main_cst_12 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩

abbrev nD : Nat := 1
abbrev τ : Topo := Topo.v7x

variable {F : FTy → Type} [FloatOps F]
-- ==== InProj.lean ====
abbrev S4x8192x1024 : Shape := ⟨3, ![4, 8192, 1024]⟩
abbrev S1024 : Shape := ⟨1, ![1024]⟩
abbrev S1024x6680 : Shape := ⟨2, ![1024, 6680]⟩
abbrev S4 : Shape := ⟨1, ![4]⟩
abbrev S1536x4 : Shape := ⟨2, ![1536, 4]⟩
abbrev S1536 : Shape := ⟨1, ![1536]⟩
abbrev S16 : Shape := ⟨1, ![16]⟩
abbrev S32768x1024 : Shape := ⟨2, ![32768, 1024]⟩
abbrev S1024x512 : Shape := ⟨2, ![1024, 512]⟩
abbrev S1024x1536 : Shape := ⟨2, ![1024, 1536]⟩
abbrev S512x1024 : Shape := ⟨2, ![512, 1024]⟩
abbrev S1024x1024 : Shape := ⟨2, ![1024, 1024]⟩
abbrev S1024x4 : Shape := ⟨2, ![1024, 4]⟩
abbrev S1024x16 : Shape := ⟨2, ![1024, 16]⟩
abbrev S1024x24 : Shape := ⟨2, ![1024, 24]⟩
abbrev S24x1024 : Shape := ⟨2, ![24, 1024]⟩
abbrev S_ : Shape := ⟨0, ![]⟩
abbrev S32x1024 : Shape := ⟨2, ![32, 1024]⟩
abbrev S24 : Shape := ⟨1, ![24]⟩
abbrev S32 : Shape := ⟨1, ![32]⟩
abbrev S32x1 : Shape := ⟨2, ![32, 1]⟩
abbrev S1x1024 : Shape := ⟨2, ![1, 1024]⟩
abbrev S4x1536 : Shape := ⟨2, ![4, 1536]⟩
abbrev S1x1536 : Shape := ⟨2, ![1, 1536]⟩
abbrev S1024x1 : Shape := ⟨2, ![1024, 1]⟩
abbrev S256x512x128 : Shape := ⟨3, ![256, 512, 128]⟩
abbrev S32768x512 : Shape := ⟨2, ![32768, 512]⟩
abbrev S256x1024x128 : Shape := ⟨3, ![256, 1024, 128]⟩
abbrev S32768x256 : Shape := ⟨2, ![32768, 256]⟩
abbrev S256x32x128 : Shape := ⟨3, ![256, 32, 128]⟩
abbrev S8x512x128 : Shape := ⟨3, ![8, 512, 128]⟩
abbrev S8x1024x128 : Shape := ⟨3, ![8, 1024, 128]⟩
abbrev S1024x256 : Shape := ⟨2, ![1024, 256]⟩
abbrev S8x32x128 : Shape := ⟨3, ![8, 32, 128]⟩
abbrev S2x520x256 : Shape := ⟨3, ![2, 520, 256]⟩
abbrev S8x1536 : Shape := ⟨2, ![8, 1536]⟩
abbrev S512 : Shape := ⟨1, ![512]⟩
abbrev S512x1 : Shape := ⟨2, ![512, 1]⟩
abbrev S8x256 : Shape := ⟨2, ![8, 256]⟩
abbrev S1x520x256 : Shape := ⟨3, ![1, 520, 256]⟩
abbrev S520x256 : Shape := ⟨2, ![520, 256]⟩
abbrev S512x256 : Shape := ⟨2, ![512, 256]⟩
abbrev S1x256 : Shape := ⟨2, ![1, 256]⟩
abbrev S256x512 : Shape := ⟨2, ![256, 512]⟩
abbrev S256x128 : Shape := ⟨2, ![256, 128]⟩
abbrev S1x256x128 : Shape := ⟨3, ![1, 256, 128]⟩
abbrev S544x1024 : Shape := ⟨2, ![544, 1024]⟩
abbrev S544x512 : Shape := ⟨2, ![544, 512]⟩
abbrev S512x512 : Shape := ⟨2, ![512, 512]⟩
abbrev S512x128 : Shape := ⟨2, ![512, 128]⟩
abbrev S1x512x128 : Shape := ⟨3, ![1, 512, 128]⟩
abbrev S32x512 : Shape := ⟨2, ![32, 512]⟩
abbrev S32x128 : Shape := ⟨2, ![32, 128]⟩
abbrev S1x32x128 : Shape := ⟨3, ![1, 32, 128]⟩

abbrev nBuf : Space → Nat
  | .hbm => 49
  | .vmem => 36
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x6680, .f32⟩
  | .hbm, ⟨3, _⟩ => ⟨S4, .f32⟩
  | .hbm, ⟨4, _⟩ => ⟨S4, .f32⟩
  | .hbm, ⟨5, _⟩ => ⟨S1536x4, .f32⟩
  | .hbm, ⟨6, _⟩ => ⟨S1536, .f32⟩
  | .hbm, ⟨7, _⟩ => ⟨S16, .f32⟩
  | .hbm, ⟨8, _⟩ => ⟨S1024, .f32⟩
  | .hbm, ⟨9, _⟩ => ⟨S32768x1024, .f32⟩
  | .hbm, ⟨10, _⟩ => ⟨S1024x6680, .bf16⟩
  | .hbm, ⟨11, _⟩ => ⟨S1024x512, .bf16⟩
  | .hbm, ⟨12, _⟩ => ⟨S1024x1536, .bf16⟩
  | .hbm, ⟨13, _⟩ => ⟨S1024x512, .bf16⟩
  | .hbm, ⟨14, _⟩ => ⟨S512x1024, .bf16⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S1024x4, .bf16⟩
  | .hbm, ⟨24, _⟩ => ⟨S1024x4, .bf16⟩
  | .hbm, ⟨25, _⟩ => ⟨S1024x16, .bf16⟩
  | .hbm, ⟨26, _⟩ => ⟨S1024x24, .bf16⟩
  | .hbm, ⟨27, _⟩ => ⟨S24x1024, .bf16⟩
  | .hbm, ⟨28, _⟩ => ⟨S_, .i32⟩
  | .hbm, ⟨29, _⟩ => ⟨S_, .bf16⟩
  | .hbm, ⟨30, _⟩ => ⟨S32x1024, .bf16⟩
  | .hbm, ⟨31, _⟩ => ⟨S24, .f32⟩
  | .hbm, ⟨32, _⟩ => ⟨S_, .i32⟩
  | .hbm, ⟨33, _⟩ => ⟨S_, .f32⟩
  | .hbm, ⟨34, _⟩ => ⟨S32, .f32⟩
  | .hbm, ⟨35, _⟩ => ⟨S32x1, .f32⟩
  | .hbm, ⟨36, _⟩ => ⟨S1x1024, .f32⟩
  | .hbm, ⟨37, _⟩ => ⟨S4x1536, .f32⟩
  | .hbm, ⟨38, _⟩ => ⟨S1x1536, .f32⟩
  | .hbm, ⟨39, _⟩ => ⟨S1024x1, .f32⟩
  | .hbm, ⟨40, _⟩ => ⟨S256x512x128, .bf16⟩
  | .hbm, ⟨41, _⟩ => ⟨S32768x512, .bf16⟩
  | .hbm, ⟨42, _⟩ => ⟨S256x1024x128, .bf16⟩
  | .hbm, ⟨43, _⟩ => ⟨S256x1024x128, .bf16⟩
  | .hbm, ⟨44, _⟩ => ⟨S256x1024x128, .bf16⟩
  | .hbm, ⟨45, _⟩ => ⟨S256x1024x128, .bf16⟩
  | .hbm, ⟨46, _⟩ => ⟨S32768x256, .bf16⟩
  | .hbm, ⟨47, _⟩ => ⟨S32768x256, .bf16⟩
  | .hbm, ⟨48, _⟩ => ⟨S256x32x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x1536, .bf16⟩
  | .local _ .vmem, ⟨5, _⟩ => ⟨S512x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S32x1024, .bf16⟩
  | .local _ .vmem, ⟨11, _⟩ => ⟨S32x1, .f32⟩
  | .local _ .vmem, ⟨12, _⟩ => ⟨S4x1536, .f32⟩
  | .local _ .vmem, ⟨13, _⟩ => ⟨S1x1536, .f32⟩
  | .local _ .vmem, ⟨14, _⟩ => ⟨S1024x1, .f32⟩
  | .local _ .vmem, ⟨15, _⟩ => ⟨S8x512x128, .bf16⟩
  | .local _ .vmem, ⟨16, _⟩ => ⟨S8x512x128, .bf16⟩
  | .local _ .vmem, ⟨17, _⟩ => ⟨S1024x512, .bf16⟩
  | .local _ .vmem, ⟨18, _⟩ => ⟨S1024x512, .bf16⟩
  | .local _ .vmem, ⟨19, _⟩ => ⟨S8x1024x128, .bf16⟩
  | .local _ .vmem, ⟨20, _⟩ => ⟨S8x1024x128, .bf16⟩
  | .local _ .vmem, ⟨21, _⟩ => ⟨S8x1024x128, .bf16⟩
  | .local _ .vmem, ⟨22, _⟩ => ⟨S8x1024x128, .bf16⟩
  | .local _ .vmem, ⟨23, _⟩ => ⟨S8x1024x128, .bf16⟩
  | .local _ .vmem, ⟨24, _⟩ => ⟨S8x1024x128, .bf16⟩
  | .local _ .vmem, ⟨25, _⟩ => ⟨S8x1024x128, .bf16⟩
  | .local _ .vmem, ⟨26, _⟩ => ⟨S8x1024x128, .bf16⟩
  | .local _ .vmem, ⟨27, _⟩ => ⟨S1024x256, .bf16⟩
  | .local _ .vmem, ⟨28, _⟩ => ⟨S1024x256, .bf16⟩
  | .local _ .vmem, ⟨29, _⟩ => ⟨S1024x256, .bf16⟩
  | .local _ .vmem, ⟨30, _⟩ => ⟨S1024x256, .bf16⟩
  | .local _ .vmem, ⟨31, _⟩ => ⟨S8x32x128, .f32⟩
  | .local _ .vmem, ⟨32, _⟩ => ⟨S8x32x128, .f32⟩
  | .local _ .vmem, ⟨33, _⟩ => ⟨S1024x1024, .bf16⟩
  | .local _ .vmem, ⟨34, _⟩ => ⟨S2x520x256, .f32⟩
  | .local _ .vmem, ⟨35, _⟩ => ⟨S8x1536, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_c_0 : Ref sig .tc := ⟨.hbm, 32, rfl⟩
abbrev main_call1_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27_0 : Ref sig .tc := ⟨.hbm, 40, rfl⟩
abbrev main_v27_1 : Ref sig .tc := ⟨.hbm, 41, rfl⟩
abbrev main_v27_2 : Ref sig .tc := ⟨.hbm, 42, rfl⟩
abbrev main_v27_3 : Ref sig .tc := ⟨.hbm, 43, rfl⟩
abbrev main_v27_4 : Ref sig .tc := ⟨.hbm, 44, rfl⟩
abbrev main_v27_5 : Ref sig .tc := ⟨.hbm, 45, rfl⟩
abbrev main_v27_6 : Ref sig .tc := ⟨.hbm, 46, rfl⟩
abbrev main_v27_7 : Ref sig .tc := ⟨.hbm, 47, rfl⟩
abbrev main_v27_8 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S8x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x1024x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x1024x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x1024x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S8x1024x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1024x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1024x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S8x32x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== ProjectionsIdeal.lean ====
abbrev S4x8192x1024 : Shape := ⟨3, ![4, 8192, 1024]⟩
abbrev S1024 : Shape := ⟨1, ![1024]⟩
abbrev S1024x6680 : Shape := ⟨2, ![1024, 6680]⟩
abbrev S4 : Shape := ⟨1, ![4]⟩
abbrev S1536x4 : Shape := ⟨2, ![1536, 4]⟩
abbrev S1536 : Shape := ⟨1, ![1536]⟩
abbrev S16 : Shape := ⟨1, ![16]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x6680 : Shape := ⟨3, ![4, 8192, 6680]⟩
abbrev S4x8192x512 : Shape := ⟨3, ![4, 8192, 512]⟩
abbrev S4x8192x4 : Shape := ⟨3, ![4, 8192, 4]⟩
abbrev S4x8192x1536 : Shape := ⟨3, ![4, 8192, 1536]⟩
abbrev S4x8192x16 : Shape := ⟨3, ![4, 8192, 16]⟩
abbrev S1x1x4 : Shape := ⟨3, ![1, 1, 4]⟩
abbrev S1x1x16 : Shape := ⟨3, ![1, 1, 16]⟩
abbrev S4x8192x8 : Shape := ⟨3, ![4, 8192, 8]⟩
abbrev S4x8192x32 : Shape := ⟨3, ![4, 8192, 32]⟩
abbrev S4x8195x1536 : Shape := ⟨3, ![4, 8195, 1536]⟩
abbrev S1536x1 : Shape := ⟨2, ![1536, 1]⟩
abbrev S1x1x1536 : Shape := ⟨3, ![1, 1, 1536]⟩
abbrev S4x8192x256 : Shape := ⟨3, ![4, 8192, 256]⟩
abbrev S256x128x512 : Shape := ⟨3, ![256, 128, 512]⟩
abbrev S256x512x128 : Shape := ⟨3, ![256, 512, 128]⟩
abbrev S32768x512 : Shape := ⟨2, ![32768, 512]⟩
abbrev S256x128x1024 : Shape := ⟨3, ![256, 128, 1024]⟩
abbrev S256x1024x128 : Shape := ⟨3, ![256, 1024, 128]⟩
abbrev S32768x256 : Shape := ⟨2, ![32768, 256]⟩
abbrev S256x128x32 : Shape := ⟨3, ![256, 128, 32]⟩
abbrev S256x32x128 : Shape := ⟨3, ![256, 32, 128]⟩

abbrev nBuf : Space → Nat
  | .hbm => 193
  | .vmem => 0
  | .smem => 0
  | _ => 0

abbrev hbmTy0_0 (i : Nat) : BufTy := match i % 128 with
  | 0 => ⟨S4x8192x1024, .f32⟩
  | 1 => ⟨S1024, .f32⟩
  | 2 => ⟨S1024x6680, .f32⟩
  | 3 => ⟨S4, .f32⟩
  | 4 => ⟨S4, .f32⟩
  | 5 => ⟨S1536x4, .f32⟩
  | 6 => ⟨S1536, .f32⟩
  | 7 => ⟨S16, .f32⟩
  | 8 => ⟨S1024, .f32⟩
  | 9 => ⟨S4x8192x1024, .f32⟩
  | 10 => ⟨S_, .f32⟩
  | 11 => ⟨S4x8192, .f32⟩
  | 12 => ⟨S4x8192x1, .f32⟩
  | 13 => ⟨S_, .f32⟩
  | 14 => ⟨S4x8192x1, .f32⟩
  | 15 => ⟨S4x8192x1, .f32⟩
  | 16 => ⟨S_, .f32⟩
  | 17 => ⟨S4x8192x1, .f32⟩
  | 18 => ⟨S4x8192x1, .f32⟩
  | 19 => ⟨S4x8192x1, .f32⟩
  | 20 => ⟨S4x8192x1024, .f32⟩
  | 21 => ⟨S4x8192x1024, .f32⟩
  | 22 => ⟨S1x1x1024, .f32⟩
  | 23 => ⟨S4x8192x1024, .f32⟩
  | 24 => ⟨S4x8192x1024, .f32⟩
  | 25 => ⟨S4x8192x6680, .f32⟩
  | 26 => ⟨S4x8192x512, .f32⟩
  | 27 => ⟨S_, .f32⟩
  | 28 => ⟨S4x8192x512, .f32⟩
  | 29 => ⟨S4x8192x512, .f32⟩
  | 30 => ⟨S4x8192x512, .f32⟩
  | 31 => ⟨S4x8192x1024, .f32⟩
  | 32 => ⟨S4x8192x4, .f32⟩
  | 33 => ⟨S4x8192x4, .f32⟩
  | 34 => ⟨S4x8192x1024, .f32⟩
  | 35 => ⟨S4x8192x1024, .f32⟩
  | 36 => ⟨S4x8192x1024, .f32⟩
  | 37 => ⟨S4x8192x1536, .f32⟩
  | 38 => ⟨S4x8192x16, .f32⟩
  | 39 => ⟨S4x8192x1024, .f32⟩
  | 40 => ⟨S4x8192x1024, .f32⟩
  | 41 => ⟨S_, .f32⟩
  | 42 => ⟨S4x8192x1024, .f32⟩
  | 43 => ⟨S4x8192x1024, .f32⟩
  | 44 => ⟨S_, .f32⟩
  | 45 => ⟨S4x8192x1024, .f32⟩
  | 46 => ⟨S4x8192x1024, .f32⟩
  | 47 => ⟨S1x1x1024, .f32⟩
  | 48 => ⟨S4x8192x1024, .f32⟩
  | 49 => ⟨S4x8192x1024, .f32⟩
  | 50 => ⟨S4x8192x1024, .f32⟩
  | 51 => ⟨S4x8192x1024, .f32⟩
  | 52 => ⟨S_, .f32⟩
  | 53 => ⟨S4x8192x1024, .f32⟩
  | 54 => ⟨S4x8192x1024, .f32⟩
  | 55 => ⟨S_, .f32⟩
  | 56 => ⟨S4x8192x1024, .f32⟩
  | 57 => ⟨S4x8192x1024, .f32⟩
  | 58 => ⟨S4x8192x1024, .f32⟩
  | 59 => ⟨S4x8192x1024, .f32⟩
  | 60 => ⟨S4x8192x1024, .f32⟩
  | 61 => ⟨S4x8192x1024, .f32⟩
  | 62 => ⟨S_, .f32⟩
  | 63 => ⟨S4x8192x1024, .f32⟩
  | 64 => ⟨S4x8192x1024, .f32⟩
  | 65 => ⟨S_, .f32⟩
  | 66 => ⟨S4x8192x1024, .f32⟩
  | 67 => ⟨S4x8192x1024, .f32⟩
  | 68 => ⟨S4x8192x1024, .f32⟩
  | 69 => ⟨S1x1x4, .f32⟩
  | 70 => ⟨S4x8192x4, .f32⟩
  | 71 => ⟨S4x8192x4, .f32⟩
  | 72 => ⟨S_, .f32⟩
  | 73 => ⟨S4x8192x4, .f32⟩
  | 74 => ⟨S4x8192x4, .f32⟩
  | 75 => ⟨S4x8192x4, .f32⟩
  | 76 => ⟨S_, .f32⟩
  | 77 => ⟨S4x8192x4, .f32⟩
  | 78 => ⟨S4x8192x4, .f32⟩
  | 79 => ⟨S1x1x4, .f32⟩
  | 80 => ⟨S4x8192x4, .f32⟩
  | 81 => ⟨S4x8192x4, .f32⟩
  | 82 => ⟨S_, .f32⟩
  | 83 => ⟨S4x8192x4, .f32⟩
  | 84 => ⟨S4x8192x4, .f32⟩
  | 85 => ⟨S4x8192x4, .f32⟩
  | 86 => ⟨S_, .f32⟩
  | 87 => ⟨S4x8192x4, .f32⟩
  | 88 => ⟨S4x8192x4, .f32⟩
  | 89 => ⟨S4x8192x4, .f32⟩
  | 90 => ⟨S_, .f32⟩
  | 91 => ⟨S4x8192x4, .f32⟩
  | 92 => ⟨S4x8192x4, .f32⟩
  | 93 => ⟨S4x8192x4, .f32⟩
  | 94 => ⟨S4x8192x4, .f32⟩
  | 95 => ⟨S4x8192x4, .i1⟩
  | 96 => ⟨S4x8192x4, .f32⟩
  | 97 => ⟨S4x8192x4, .f32⟩
  | 98 => ⟨S4x8192x4, .f32⟩
  | 99 => ⟨S4x8192x4, .f32⟩
  | 100 => ⟨S4x8192x4, .f32⟩
  | 101 => ⟨S4x8192x4, .f32⟩
  | 102 => ⟨S4x8192x4, .f32⟩
  | 103 => ⟨S4x8192x4, .f32⟩
  | 104 => ⟨S4x8192x4, .f32⟩
  | 105 => ⟨S1x1x16, .f32⟩
  | 106 => ⟨S4x8192x16, .f32⟩
  | 107 => ⟨S4x8192x16, .f32⟩
  | 108 => ⟨S_, .f32⟩
  | 109 => ⟨S4x8192x16, .f32⟩
  | 110 => ⟨S4x8192x16, .f32⟩
  | 111 => ⟨S4x8192x16, .f32⟩
  | 112 => ⟨S4x8192x16, .f32⟩
  | 113 => ⟨S4x8192x16, .i1⟩
  | 114 => ⟨S4x8192x16, .f32⟩
  | 115 => ⟨S4x8192x16, .f32⟩
  | 116 => ⟨S4x8192x16, .f32⟩
  | 117 => ⟨S4x8192x16, .f32⟩
  | 118 => ⟨S4x8192x16, .f32⟩
  | 119 => ⟨S4x8192x16, .f32⟩
  | 120 => ⟨S4x8192x16, .f32⟩
  | 121 => ⟨S4x8192x16, .f32⟩
  | 122 => ⟨S_, .f32⟩
  | 123 => ⟨S4x8192x8, .f32⟩
  | 124 => ⟨S4x8192x32, .f32⟩
  | 125 => ⟨S_, .i32⟩
  | 126 => ⟨S_, .f32⟩
  | 127 => ⟨S4x8195x1536, .f32⟩
  | _ => ⟨S4x8192x1024, .f32⟩

abbrev hbmTy0_1 (i : Nat) : BufTy := match i % 128 with
  | 0 => ⟨S4x8192x1536, .f32⟩
  | 1 => ⟨S1536x1, .f32⟩
  | 2 => ⟨S1536, .f32⟩
  | 3 => ⟨S1x1x1536, .f32⟩
  | 4 => ⟨S4x8192x1536, .f32⟩
  | 5 => ⟨S4x8192x1536, .f32⟩
  | 6 => ⟨S1x1x1536, .f32⟩
  | 7 => ⟨S4x8192x1536, .f32⟩
  | 8 => ⟨S4x8192x1536, .f32⟩
  | 9 => ⟨S4x8192x1536, .f32⟩
  | 10 => ⟨S1536x1, .f32⟩
  | 11 => ⟨S1536, .f32⟩
  | 12 => ⟨S1x1x1536, .f32⟩
  | 13 => ⟨S4x8192x1536, .f32⟩
  | 14 => ⟨S4x8192x1536, .f32⟩
  | 15 => ⟨S4x8192x1536, .f32⟩
  | 16 => ⟨S4x8192x1536, .f32⟩
  | 17 => ⟨S1536x1, .f32⟩
  | 18 => ⟨S1536, .f32⟩
  | 19 => ⟨S1x1x1536, .f32⟩
  | 20 => ⟨S4x8192x1536, .f32⟩
  | 21 => ⟨S4x8192x1536, .f32⟩
  | 22 => ⟨S4x8192x1536, .f32⟩
  | 23 => ⟨S4x8192x1536, .f32⟩
  | 24 => ⟨S1536x1, .f32⟩
  | 25 => ⟨S1536, .f32⟩
  | 26 => ⟨S1x1x1536, .f32⟩
  | 27 => ⟨S4x8192x1536, .f32⟩
  | 28 => ⟨S4x8192x1536, .f32⟩
  | 29 => ⟨S4x8192x1536, .f32⟩
  | 30 => ⟨S4x8192x1536, .f32⟩
  | 31 => ⟨S4x8192x1536, .f32⟩
  | 32 => ⟨S_, .f32⟩
  | 33 => ⟨S4x8192x1536, .f32⟩
  | 34 => ⟨S4x8192x1536, .f32⟩
  | 35 => ⟨S_, .f32⟩
  | 36 => ⟨S4x8192x1536, .f32⟩
  | 37 => ⟨S4x8192x1536, .f32⟩
  | 38 => ⟨S4x8192x1536, .f32⟩
  | 39 => ⟨S4x8192x1024, .f32⟩
  | 40 => ⟨S4x8192x256, .f32⟩
  | 41 => ⟨S4x8192x256, .f32⟩
  | 42 => ⟨S256x128x512, .f32⟩
  | 43 => ⟨S256x512x128, .f32⟩
  | 44 => ⟨S256x512x128, .bf16⟩
  | 45 => ⟨S32768x512, .f32⟩
  | 46 => ⟨S32768x512, .bf16⟩
  | 47 => ⟨S256x128x1024, .f32⟩
  | 48 => ⟨S256x1024x128, .f32⟩
  | 49 => ⟨S256x1024x128, .bf16⟩
  | 50 => ⟨S256x128x1024, .f32⟩
  | 51 => ⟨S256x1024x128, .f32⟩
  | 52 => ⟨S256x1024x128, .bf16⟩
  | 53 => ⟨S256x128x1024, .f32⟩
  | 54 => ⟨S256x1024x128, .f32⟩
  | 55 => ⟨S256x1024x128, .bf16⟩
  | 56 => ⟨S256x128x1024, .f32⟩
  | 57 => ⟨S256x1024x128, .f32⟩
  | 58 => ⟨S256x1024x128, .bf16⟩
  | 59 => ⟨S32768x256, .f32⟩
  | 60 => ⟨S32768x256, .bf16⟩
  | 61 => ⟨S32768x256, .f32⟩
  | 62 => ⟨S32768x256, .bf16⟩
  | 63 => ⟨S256x128x32, .f32⟩
  | 64 => ⟨S256x32x128, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_v65 : Ref sig .tc := ⟨.hbm, 88, rfl⟩
abbrev main_call0_v0 : Ref sig .tc := ⟨.hbm, 89, rfl⟩
abbrev main_call0_call0_cst : Ref sig .tc := ⟨.hbm, 90, rfl⟩
abbrev main_call0_call0_v0 : Ref sig .tc := ⟨.hbm, 91, rfl⟩
abbrev main_call0_call0_v1 : Ref sig .tc := ⟨.hbm, 92, rfl⟩
abbrev main_call0_call0_v2 : Ref sig .tc := ⟨.hbm, 93, rfl⟩
abbrev main_call0_call0_v3 : Ref sig .tc := ⟨.hbm, 94, rfl⟩
abbrev main_call0_call0_v4 : Ref sig .tc := ⟨.hbm, 95, rfl⟩
abbrev main_call0_call0_v5 : Ref sig .tc := ⟨.hbm, 96, rfl⟩
abbrev main_call0_call0_v6 : Ref sig .tc := ⟨.hbm, 97, rfl⟩
abbrev main_call0_call0_v7 : Ref sig .tc := ⟨.hbm, 98, rfl⟩
abbrev main_call0_call0_v8 : Ref sig .tc := ⟨.hbm, 99, rfl⟩
abbrev main_call0_call0_v9 : Ref sig .tc := ⟨.hbm, 100, rfl⟩
abbrev main_call0_call0_v10 : Ref sig .tc := ⟨.hbm, 101, rfl⟩
abbrev main_call0_call0_v11 : Ref sig .tc := ⟨.hbm, 102, rfl⟩
abbrev main_call0_v1 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_call1_cst : Ref sig .tc := ⟨.hbm, 108, rfl⟩
abbrev main_call1_v0 : Ref sig .tc := ⟨.hbm, 109, rfl⟩
abbrev main_call1_v1 : Ref sig .tc := ⟨.hbm, 110, rfl⟩
abbrev main_call1_v2 : Ref sig .tc := ⟨.hbm, 111, rfl⟩
abbrev main_call1_v3 : Ref sig .tc := ⟨.hbm, 112, rfl⟩
abbrev main_call1_v4 : Ref sig .tc := ⟨.hbm, 113, rfl⟩
abbrev main_call1_v5 : Ref sig .tc := ⟨.hbm, 114, rfl⟩
abbrev main_call1_v6 : Ref sig .tc := ⟨.hbm, 115, rfl⟩
abbrev main_call1_v7 : Ref sig .tc := ⟨.hbm, 116, rfl⟩
abbrev main_call1_v8 : Ref sig .tc := ⟨.hbm, 117, rfl⟩
abbrev main_call1_v9 : Ref sig .tc := ⟨.hbm, 118, rfl⟩
abbrev main_call1_v10 : Ref sig .tc := ⟨.hbm, 119, rfl⟩
abbrev main_call1_v11 : Ref sig .tc := ⟨.hbm, 120, rfl⟩
abbrev main_v70 : Ref sig .tc := ⟨.hbm, 121, rfl⟩
abbrev main_cst_13 : Ref sig .tc := ⟨.hbm, 122, rfl⟩
abbrev main_v71 : Ref sig .tc := ⟨.hbm, 123, rfl⟩
abbrev main_v72 : Ref sig .tc := ⟨.hbm, 124, rfl⟩
abbrev main_c : Ref sig .tc := ⟨.hbm, 125, rfl⟩
abbrev main_call2_v0 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_cst_14 : Ref sig .tc := ⟨.hbm, 160, rfl⟩
abbrev main_v106 : Ref sig .tc := ⟨.hbm, 161, rfl⟩
abbrev main_v107 : Ref sig .tc := ⟨.hbm, 162, rfl⟩
abbrev main_cst_15 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩

abbrev nD : Nat := 1
abbrev τ : Topo := Topo.v7x

variable {F : FTy → Type} [FloatOps F]
-- ==== Proof.InStep.lean ====
/- What one call of the input projections' body stores, in the order it stores it: the queries `qL`, the keys `kL`,
   the values `vL`, the mLSTM gates `ogL` and the SSD gates `zL`, as tiles of the blocks of their arrays, over the
   normalised rows `xn h` of the call's two half blocks and the weights' blocks. -/
module

public import proofs.«01_k».proof.Proof.Gen.InProjIdeal.Skeleton
public import Idealize.ShloMosaic.Lib.Pipeline.Value

@[expose] public section

set_option maxRecDepth 16384

noncomputable section

namespace Cert.InProjIdeal.Step

open Idealize.ShloMosaic Cert.InProjIdeal Cert.InProjIdeal.Gen

/-- A box of a rank-three shape at any offsets within it. -/
theorem inb3 {m n k p q r a b c : Nat} (h0 : a + p ≤ m) (h1 : b + q ≤ n) (h2 : c + r ≤ k) :
    ∀ x, (![a, b, c] : Fin 3 → Nat) x + (⟨3, ![p, q, r]⟩ : Shape).size x ≤ (⟨3, ![m, n, k]⟩ : Shape).size x := by
  intro x
  match x with
  | ⟨0, _⟩ => exact h0
  | ⟨1, _⟩ => exact h1
  | ⟨2, _⟩ => exact h2

theorem inb2 {m n p q a b : Nat} (h0 : a + p ≤ m) (h1 : b + q ≤ n) :
    ∀ x, (![a, b] : Fin 2 → Nat) x + (⟨2, ![p, q]⟩ : Shape).size x ≤ (⟨2, ![m, n]⟩ : Shape).size x := by
  intro x
  match x with
  | ⟨0, _⟩ => exact h0
  | ⟨1, _⟩ => exact h1

/-! ### Tiles stored one after the other -/

section
variable {s : Shape} {e : EltTy} {Val : EltTy → Type}

/-- The first `N` of a family of tiles, the last stored first in the list. -/
def tiles (size : Fin s.rank → Nat) (off : Nat → Fin s.rank → Nat) (inb : ∀ n a, off n a + size a ≤ s.size a)
    (f : Nat → Shape.Idx ⟨s.rank, size⟩ → Val e) : Nat → List (View.Piece Val s e)
  | 0 => []
  | n + 1 => ⟨Rect.unit (off n) size (inb n), f n⟩ :: tiles size off inb f n

/-- Where the tiles do not meet, the buffer holds each tile's payload at its place. -/
theorem canon_tilesN [∀ e, Inhabited (Val e)] (size : Fin s.rank → Nat) (off : Nat → Fin s.rank → Nat)
    (inb : ∀ n a, off n a + size a ≤ s.size a) (f : Nat → Shape.Idx ⟨s.rank, size⟩ → Val e) (k : Nat)
    (x : Shape.Idx ⟨s.rank, size⟩) (y : s.Idx) (hy : (Rect.unit (off k) size (inb k)).idx x = y) :
    ∀ N, k < N → (∀ n, n < N → n ≠ k → ∃ a, off n a + size a ≤ off k a ∨ off k a + size a ≤ off n a) →
      View.canon (tiles size off inb f N) y = f k x := by
  intro N
  induction N with
  | zero => intro h; omega
  | succ n ih =>
    intro hk hd
    by_cases e : n = k
    · subst e
      subst hy
      exact View.canon_cons_emb (Rect.unit (off n) size (inb n)) (f n) _ x
    · rw [show tiles size off inb f (n + 1) = ⟨Rect.unit (off n) size (inb n), f n⟩ :: tiles size off inb f n from rfl,
        View.canon_cons_of_not_mem]
      · exact ih (by omega) fun m hm hne => hd m (by omega) hne
      · intro hm
        obtain ⟨a, ha⟩ := hd n (by omega) e
        have h1 := (Rect.mem_set_unit (inb := inb n)).mp hm a
        have h2 : (y a : Nat) = off k a + x a := by
          rw [← hy]
          show off k a + 1 * (x a : Nat) = _
          omega
        have h3 : (x a : Nat) < size a := (x a).isLt
        omega
end

variable {F : FTy → Type} [FloatOps F]

/-- A half block's rows, normalised. -/
def xnT (x : FVec F S512x1024 .f32) (nw : FVec F S1x1024 .f32) : FVec F S512x1024 .bf16 := k0_pay6 x nw
/-- Rows times a block of the keys' columns. -/
def kT (xn : FVec F S512x1024 .bf16) (w : FVec F S1024x256 .bf16) : FVec F S512x256 .bf16 := k0_pay18 xn w
/-- The queries of a half block, transposed. -/
def qT (xn : FVec F S512x1024 .bf16) (w : FVec F S512x1024 .bf16) (wg : FVec F S32x1024 .bf16) : FVec F S512x512 .f32 :=
  k0_pay31 w wg xn
/-- A block of transposed weights times the rows. -/
def pT (xn : FVec F S512x1024 .bf16) (w : FVec F S512x1024 .bf16) : FVec F S512x512 .f32 := k0_pay63 w xn
def ogT (xn : FVec F S512x1024 .bf16) (wo wz : FVec F S512x1024 .bf16) (nw : FVec F S512x1 .f32) : FVec F S512x512 .f32 :=
  k0_pay65 (k0_pay62 wo xn) (k0_pay63 wz xn) k0_pay64 nw
def zT (xn : FVec F S512x1024 .bf16) (w : FVec F S512x1024 .bf16) : FVec F S512x512 .f32 := k0_pay115 w xn
/-- The columns of one chunk. -/
def cutT (c : Fin 4) (v : FVec F S512x512 .f32) : FVec F S1x512x128 .bf16 :=
  shapeCast S1x512x128 (truncf .bf16 (extractStridedSlice S512x128 ![0, 128 * c.val] v
    ⟨rfl, inb2 (by omega) (by omega)⟩) bitsLt_bf16_f32) shapeCasts_S512x128_S1x512x128

def f2 (n : Nat) : Fin 2 := ⟨n % 2, Nat.mod_lt _ (by decide)⟩
def f4 (n : Nat) : Fin 4 := ⟨n % 4, Nat.mod_lt _ (by decide)⟩

@[reducible] def rx (h : Fin 2) : Rect S1024x1024 := Rect.unit ![512 * h.val, 0] S512x1024.size (inb2 (by omega) (by omega))

/-- The stores of the normalised rows, the second half's first. -/
def xnL (a : Fin 2 → FVec F S512x1024 .bf16) : Nat → List (View.Piece (Elt F) S1024x1024 .bf16)
  | 0 => []
  | n + 1 => ⟨rx (f2 n), a (f2 n)⟩ :: xnL a n

def kL (xn : Nat → FVec F S512x1024 .bf16) (w : Fin 2 → FVec F S1024x256 .bf16) : Nat → List (View.Piece (Elt F) S1024x512 .bf16) :=
  tiles S512x256.size (fun n => ![512 * (f2 (n / 2)).val, 256 * (f2 n).val]) (fun n => inb2 (by omega) (by omega))
    (fun n => kT (xn n) (w (f2 n)))

def qL (xn : Nat → FVec F S512x1024 .bf16) (w : FVec F S512x1024 .bf16) (wg : FVec F S32x1024 .bf16) :
    Nat → List (View.Piece (Elt F) S8x512x128 .bf16) :=
  tiles S1x512x128.size (fun n => ![4 * (f2 (n / 4)).val + (f4 n).val, 0, 0]) (fun n => inb3 (by omega) (by omega) (by omega))
    (fun n => cutT (f4 n) (qT (xn n) w wg))

/-- The stores of a block of 1024 transposed channels: by half block, by 512 channels, by chunk. -/
def tL (g : Nat → FVec F S512x512 .f32) : Nat → List (View.Piece (Elt F) S8x1024x128 .bf16) :=
  tiles S1x512x128.size (fun n => ![4 * (f2 (n / 8)).val + (f4 n).val, 512 * (f2 (n / 4)).val, 0])
    (fun n => inb3 (by omega) (by omega) (by omega)) (fun n => cutT (f4 n) (g n))

/-- What a load of a half block's rows reads once they are stored. -/
theorem xnL_canon (a : Fin 2 → FVec F S512x1024 .bf16) (thr n : Nat) (h : Fin 2) (hh : n < thr → h.val = 0) :
    (fun y => View.canon (if n < thr then xnL a 1 else xnL a 2) ((rx h).idx y)) = a h := by
  have key : ∀ N : Nat, h.val < N → N ≤ 2 → ∀ y, View.canon (xnL a N) ((rx h).idx y) = a h y := by
    intro N hN hN2 y
    have e : xnL a N = tiles (Val := Elt F) (e := .bf16) (s := S1024x1024) S512x1024.size (fun n => ![512 * (f2 n).val, 0]) (fun n => inb2 (by omega) (by omega))
        (fun n => a (f2 n)) N := by
      clear hN hN2
      induction N with
      | zero => rfl
      | succ n ih => exact congrArg _ ih
    have eh : f2 h.val = h := Fin.ext (Nat.mod_eq_of_lt h.isLt)
    rw [e]
    refine (canon_tilesN (Val := Elt F) (e := .bf16) (s := S1024x1024) S512x1024.size (fun n => ![512 * (f2 n).val, 0]) (fun n => inb2 (by omega) (by omega))
        (fun n => a (f2 n)) h.val y ((rx h).idx y) ?_ N hN ?_).trans ?_
    · funext a
      refine Fin.ext ?_
      show ![512 * (f2 h.val).val, 0] a + 1 * (y a).val = ![512 * h.val, 0] a + 1 * (y a).val
      rw [eh]
    rotate_left
    · show a (f2 h.val) y = _
      rw [eh]
    · intro n hn hne
      refine ⟨⟨0, by decide⟩, ?_⟩
      show 512 * (n % 2) + 512 ≤ 512 * (h.val % 2) ∨ 512 * (h.val % 2) + 512 ≤ 512 * (n % 2)
      omega
  funext y
  by_cases c : n < thr
  · rw [if_pos c]; exact key 1 (by have := hh c; omega) (by omega) y
  · rw [if_neg c]; exact key 2 h.isLt (by omega) y

/-- A half block's normalised rows, from the block and the weights. -/
def XB (x0 : Vec F S1024x1024 .f32) (x1 : Vec F S1x1024 .f32) (h : Fin 2) : FVec F S512x1024 .bf16 :=
  xnT (View.ld x0 (Rect.unit ![512 * h.val, 0] S512x1024.size (inb2 (by omega) (by omega)) : Rect S1024x1024))
    (View.ld x1 (Rect.unit ![0, 0] S1x1024.size (inb2 (by omega) (by omega)) : Rect S1x1024))
/-- Half of the rows of a block of transposed weights. -/
def wR (w : Vec F S1024x1024 .bf16) (j : Fin 2) : FVec F S512x1024 .bf16 :=
  View.ld w (Rect.unit ![512 * j.val, 0] S512x1024.size (inb2 (by omega) (by omega)) : Rect S1024x1024)
def wK (w : Vec F S1024x512 .bf16) (j : Fin 2) : FVec F S1024x256 .bf16 :=
  View.ld w (Rect.unit ![0, 256 * j.val] S1024x256.size (inb2 (by omega) (by omega)) : Rect S1024x512)
def nR (w : Vec F S1024x1 .f32) (j : Fin 2) : FVec F S512x1 .f32 :=
  View.ld w (Rect.unit ![512 * j.val, 0] S512x1.size (inb2 (by omega) (by omega)) : Rect S1024x1)
def wQ (w : Vec F S512x1024 .bf16) : FVec F S512x1024 .bf16 :=
  View.ld w (Rect.unit ![0, 0] S512x1024.size (inb2 (by omega) (by omega)) : Rect S512x1024)
def wG (w : Vec F S32x1024 .bf16) : FVec F S32x1024 .bf16 :=
  View.ld w (Rect.unit ![0, 0] S32x1024.size (inb2 (by omega) (by omega)) : Rect S32x1024)

/-! The stores of the five outputs, over the windows' blocks. -/

def qB (x0 : Vec F S1024x1024 .f32) (x1 : Vec F S1x1024 .f32) (w : Vec F S512x1024 .bf16) (g : Vec F S32x1024 .bf16) :=
  qL (fun n => XB x0 x1 (f2 (n / 4))) (wQ w) (wG g) 8
def kB (x0 : Vec F S1024x1024 .f32) (x1 : Vec F S1x1024 .f32) (w : Vec F S1024x512 .bf16) :=
  kL (fun n => XB x0 x1 (f2 (n / 2))) (wK w) 4
def vB (x0 : Vec F S1024x1024 .f32) (x1 : Vec F S1x1024 .f32) (w : Vec F S1024x1024 .bf16) :=
  tL (fun n => pT (XB x0 x1 (f2 (n / 8))) (wR w (f2 (n / 4)))) 16
def ogB (x0 : Vec F S1024x1024 .f32) (x1 : Vec F S1x1024 .f32) (w z : Vec F S1024x1024 .bf16) (nw : Vec F S1024x1 .f32) :=
  tL (fun n => ogT (XB x0 x1 (f2 (n / 8))) (wR w (f2 (n / 4))) (wR z (f2 (n / 4))) (nR nw (f2 (n / 4)))) 16
def zB (x0 : Vec F S1024x1024 .f32) (x1 : Vec F S1x1024 .f32) (w : Vec F S1024x1024 .bf16) :=
  tL (fun n => zT (XB x0 x1 (f2 (n / 8))) (wR w (f2 (n / 4)))) 16

end Cert.InProjIdeal.Step

end
-- ==== Proof.InCaseA.lean ====
/- Case A of the input projections' body: the tiles it leaves are those of `InStep`. -/
module

public import proofs.«01_k».proof.Proof.InStep
public import proofs.«01_k».proof.Proof.Gen.InProjIdeal.Frame

@[expose] public section

set_option maxRecDepth 16384

noncomputable section

namespace Cert.InProjIdeal.CaseA

open Idealize.ShloMosaic Idealize.ShloMosaic.TcCoe Idealize.SL.Sem Cert.InProjIdeal Cert.InProjIdeal.Gen Cert.InProjIdeal.Step

variable {F : FTy → Type} [FloatOps F]

variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x1536 .bf16) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S32x1024 .bf16) (harg10 : arg10.IsWhole) (arg11 : Memref sig .tc .vmem S32x1 .f32) (harg11 : arg11.IsWhole) (arg12 : Memref sig .tc .vmem S4x1536 .f32) (harg12 : arg12.IsWhole) (arg13 : Memref sig .tc .vmem S1x1536 .f32) (harg13 : arg13.IsWhole) (arg14 : Memref sig .tc .vmem S1024x1 .f32) (harg14 : arg14.IsWhole) (arg15 : Memref sig .tc .vmem S8x512x128 .bf16) (harg15 : arg15.IsWhole) (arg16 : Memref sig .tc .vmem S1024x512 .bf16) (harg16 : arg16.IsWhole) (arg17 : Memref sig .tc .vmem S8x1024x128 .bf16) (harg17 : arg17.IsWhole) (arg18 : Memref sig .tc .vmem S8x1024x128 .bf16) (harg18 : arg18.IsWhole) (arg19 : Memref sig .tc .vmem S8x1024x128 .bf16) (harg19 : arg19.IsWhole) (arg20 : Memref sig .tc .vmem S8x1024x128 .bf16) (harg20 : arg20.IsWhole) (arg21 : Memref sig .tc .vmem S1024x256 .bf16) (harg21 : arg21.IsWhole) (arg22 : Memref sig .tc .vmem S1024x256 .bf16) (harg22 : arg22.IsWhole) (arg23 : Memref sig .tc .vmem S8x32x128 .f32) (harg23 : arg23.IsWhole) (arg24 : Memref sig .tc .vmem S1024x1024 .bf16) (harg24 : arg24.IsWhole) (arg25 : Memref sig .tc .vmem S2x520x256 .f32) (harg25 : arg25.IsWhole) (arg26 : Memref sig .tc .vmem S8x1536 .f32) (harg26 : arg26.IsWhole) (hc0 : cond0_0 i)
    (x0 : Vec F S1024x1024 .f32) (x1 : Vec F S1x1024 .f32) (x2 : Vec F S1024x512 .bf16) (x3 : Vec F S1024x1536 .bf16) (x4 : Vec F S512x1024 .bf16) (x5 : Vec F S1024x1024 .bf16) (x6 : Vec F S1024x1024 .bf16) (x7 : Vec F S1024x1024 .bf16) (x8 : Vec F S1024x1024 .bf16) (x9 : Vec F S32x1024 .bf16) (x10 : Vec F S32x1 .f32) (x11 : Vec F S4x1536 .f32) (x12 : Vec F S1x1536 .f32) (x13 : Vec F S1024x1 .f32)

def XA : Fin 2 → FVec F S512x1024 .bf16 := fun h => xnT (View.readAt (Elt F) arg1.view (Rect.unit ![512 * h.val, 0] S512x1024.size (inb2 (by omega) (by omega) ) : Rect S1024x1024).toLoadRect (harg1.unread x0)) (View.readAt (Elt F) arg2.view (Rect.unit ![0, 0] S1x1024.size (inb2 (by omega) (by omega) ) : Rect S1x1024).toLoadRect (harg2.unread x1))

def Xn (thr d : Nat) : Nat → FVec F S512x1024 .bf16 := fun n =>
  arg24.view.readCov (if n < thr then xnL (XA arg1 harg1 arg2 harg2 x0 x1) 1 else xnL (XA arg1 harg1 arg2 harg2 x0 x1) 2) (rx (f2 (n / d))).toLoadRect

theorem q_run : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13).1 = qL (Xn arg1 harg1 arg2 harg2 arg24 x0 x1 4 4) (View.readAt (Elt F) arg5.view (Rect.unit ![0, 0] S512x1024.size (inb2 (by omega) (by omega) ) : Rect S512x1024).toLoadRect (harg5.unread x4)) (View.readAt (Elt F) arg10.view (Rect.unit ![0, 0] S32x1024.size (inb2 (by omega) (by omega) ) : Rect S32x1024).toLoadRect (harg10.unread x9)) 8 := by
  unfold kernelRun0_A
  rfl

theorem k_run : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13).2.1 = kL (Xn arg1 harg1 arg2 harg2 arg24 x0 x1 2 2) (fun j : Fin 2 => View.readAt (Elt F) arg3.view (Rect.unit ![0, 256 * j.val] S1024x256.size (inb2 (by omega) (by omega) ) : Rect S1024x512).toLoadRect (harg3.unread x2)) 4 := by
  unfold kernelRun0_A
  rfl

theorem v_run : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13).2.2.1 = tL (fun n => pT ((Xn arg1 harg1 arg2 harg2 arg24 x0 x1 8 8) n) (View.readAt (Elt F) arg6.view (Rect.unit ![512 * (f2 (n / 4)).val, 0] S512x1024.size (inb2 (by omega) (by omega) ) : Rect S1024x1024).toLoadRect (harg6.unread x5))) 16 := by
  unfold kernelRun0_A
  rfl

theorem og_run : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13).2.2.2.1 = tL (fun n => ogT ((Xn arg1 harg1 arg2 harg2 arg24 x0 x1 8 8) n) (View.readAt (Elt F) arg7.view (Rect.unit ![512 * (f2 (n / 4)).val, 0] S512x1024.size (inb2 (by omega) (by omega) ) : Rect S1024x1024).toLoadRect (harg7.unread x6)) (View.readAt (Elt F) arg8.view (Rect.unit ![512 * (f2 (n / 4)).val, 0] S512x1024.size (inb2 (by omega) (by omega) ) : Rect S1024x1024).toLoadRect (harg8.unread x7)) (View.readAt (Elt F) arg14.view (Rect.unit ![512 * (f2 (n / 4)).val, 0] S512x1.size (inb2 (by omega) (by omega) ) : Rect S1024x1).toLoadRect (harg14.unread x13))) 16 := by
  unfold kernelRun0_A
  rfl

theorem z_run : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13).2.2.2.2.1 = tL (fun n => zT ((Xn arg1 harg1 arg2 harg2 arg24 x0 x1 4 8) n) (View.readAt (Elt F) arg9.view (Rect.unit ![512 * (f2 (n / 4)).val, 0] S512x1024.size (inb2 (by omega) (by omega) ) : Rect S1024x1024).toLoadRect (harg9.unread x8))) 16 := by
  unfold kernelRun0_A
  rfl

/-- What a load of the normalised rows reads. -/
theorem xn_read (thr d : Nat) (hd : ∀ n, n < thr → n / d % 2 = 0) :
    Xn arg1 harg1 arg2 harg2 arg24 x0 x1 thr d = fun n => XB x0 x1 (f2 (n / d)) := by
  funext n
  unfold Xn
  rw [View.readCov_eq_canon']
  refine (xnL_canon (XA arg1 harg1 arg2 harg2 x0 x1) thr n (f2 (n / d)) (hd n)).trans ?_
  unfold XA XB
  simp only [View.readAt_eq_ld, harg1.read_unread, harg2.read_unread]

theorem q_pieces : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13).1 = qB x0 x1 x4 x9 := by
  rw [q_run, xn_read arg1 harg1 arg2 harg2 arg24 x0 x1 4 4 (by intro n h; omega)]
  simp only [View.readAt_eq_ld, harg5.read_unread, harg10.read_unread]
  rfl

theorem q_out : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 = View.canon (qB x0 x1 x4 x9) :=
  (View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13)).trans (congrArg View.canon (q_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13))

theorem k_pieces : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13).2.1 = kB x0 x1 x2 := by
  rw [k_run, xn_read arg1 harg1 arg2 harg2 arg24 x0 x1 2 2 (by intro n h; omega)]
  simp only [View.readAt_eq_ld, harg3.read_unread]
  rfl

theorem k_out : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 = View.canon (kB x0 x1 x2) :=
  (View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13)).trans (congrArg View.canon (k_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13))

theorem v_pieces : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13).2.2.1 = vB x0 x1 x5 := by
  rw [v_run, xn_read arg1 harg1 arg2 harg2 arg24 x0 x1 8 8 (by intro n h; omega)]
  simp only [View.readAt_eq_ld, harg6.read_unread]
  rfl

theorem v_out : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 = View.canon (vB x0 x1 x5) :=
  (View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13)).trans (congrArg View.canon (v_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13))

theorem og_pieces : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13).2.2.2.1 = ogB x0 x1 x6 x7 x13 := by
  rw [og_run, xn_read arg1 harg1 arg2 harg2 arg24 x0 x1 8 8 (by intro n h; omega)]
  simp only [View.readAt_eq_ld, harg7.read_unread, harg8.read_unread, harg14.read_unread]
  rfl

theorem og_out : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 = View.canon (ogB x0 x1 x6 x7 x13) :=
  (View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13)).trans (congrArg View.canon (og_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13))

theorem z_pieces : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13).2.2.2.2.1 = zB x0 x1 x8 := by
  rw [z_run, xn_read arg1 harg1 arg2 harg2 arg24 x0 x1 4 8 (by intro n h; omega)]
  simp only [View.readAt_eq_ld, harg9.read_unread]
  rfl

theorem z_out : out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 = View.canon (zB x0 x1 x8) :=
  (View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13)).trans (congrArg View.canon (z_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13))

end Cert.InProjIdeal.CaseA

end
-- ==== Proof.InCaseB.lean ====
/- Case B of the input projections' body: the tiles it leaves are those of `InStep`. -/
module

public import proofs.«01_k».proof.Proof.InStep
public import proofs.«01_k».proof.Proof.Gen.InProjIdeal.Frame

@[expose] public section

set_option maxRecDepth 16384

noncomputable section

namespace Cert.InProjIdeal.CaseB

open Idealize.ShloMosaic Idealize.ShloMosaic.TcCoe Idealize.SL.Sem Cert.InProjIdeal Cert.InProjIdeal.Gen Cert.InProjIdeal.Step

variable {F : FTy → Type} [FloatOps F]

variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x1536 .bf16) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S32x1024 .bf16) (harg10 : arg10.IsWhole) (arg11 : Memref sig .tc .vmem S32x1 .f32) (harg11 : arg11.IsWhole) (arg12 : Memref sig .tc .vmem S4x1536 .f32) (harg12 : arg12.IsWhole) (arg13 : Memref sig .tc .vmem S1x1536 .f32) (harg13 : arg13.IsWhole) (arg14 : Memref sig .tc .vmem S1024x1 .f32) (harg14 : arg14.IsWhole) (arg15 : Memref sig .tc .vmem S8x512x128 .bf16) (harg15 : arg15.IsWhole) (arg16 : Memref sig .tc .vmem S1024x512 .bf16) (harg16 : arg16.IsWhole) (arg17 : Memref sig .tc .vmem S8x1024x128 .bf16) (harg17 : arg17.IsWhole) (arg18 : Memref sig .tc .vmem S8x1024x128 .bf16) (harg18 : arg18.IsWhole) (arg19 : Memref sig .tc .vmem S8x1024x128 .bf16) (harg19 : arg19.IsWhole) (arg20 : Memref sig .tc .vmem S8x1024x128 .bf16) (harg20 : arg20.IsWhole) (arg21 : Memref sig .tc .vmem S1024x256 .bf16) (harg21 : arg21.IsWhole) (arg22 : Memref sig .tc .vmem S1024x256 .bf16) (harg22 : arg22.IsWhole) (arg23 : Memref sig .tc .vmem S8x32x128 .f32) (harg23 : arg23.IsWhole) (arg24 : Memref sig .tc .vmem S1024x1024 .bf16) (harg24 : arg24.IsWhole) (arg25 : Memref sig .tc .vmem S2x520x256 .f32) (harg25 : arg25.IsWhole) (arg26 : Memref sig .tc .vmem S8x1536 .f32) (harg26 : arg26.IsWhole) (hc0 : ¬cond0_0 i)
    (x0 : Vec F S1024x1024 .f32) (x1 : Vec F S1x1024 .f32) (x2 : Vec F S1024x512 .bf16) (x3 : Vec F S1024x1536 .bf16) (x4 : Vec F S512x1024 .bf16) (x5 : Vec F S1024x1024 .bf16) (x6 : Vec F S1024x1024 .bf16) (x7 : Vec F S1024x1024 .bf16) (x8 : Vec F S1024x1024 .bf16) (x9 : Vec F S32x1024 .bf16) (x10 : Vec F S32x1 .f32) (x11 : Vec F S4x1536 .f32) (x12 : Vec F S1x1536 .f32) (x13 : Vec F S1024x1 .f32) (xs2 : Vec F S8x1536 .f32)

def XA : Fin 2 → FVec F S512x1024 .bf16 := fun h => xnT (View.readAt (Elt F) arg1.view (Rect.unit ![512 * h.val, 0] S512x1024.size (inb2 (by omega) (by omega) ) : Rect S1024x1024).toLoadRect (harg1.unread x0)) (View.readAt (Elt F) arg2.view (Rect.unit ![0, 0] S1x1024.size (inb2 (by omega) (by omega) ) : Rect S1x1024).toLoadRect (harg2.unread x1))

def Xn (thr d : Nat) : Nat → FVec F S512x1024 .bf16 := fun n =>
  arg24.view.readCov (if n < thr then xnL (XA arg1 harg1 arg2 harg2 x0 x1) 1 else xnL (XA arg1 harg1 arg2 harg2 x0 x1) 2) (rx (f2 (n / d))).toLoadRect

theorem q_run : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2).1 = qL (Xn arg1 harg1 arg2 harg2 arg24 x0 x1 4 4) (View.readAt (Elt F) arg5.view (Rect.unit ![0, 0] S512x1024.size (inb2 (by omega) (by omega) ) : Rect S512x1024).toLoadRect (harg5.unread x4)) (View.readAt (Elt F) arg10.view (Rect.unit ![0, 0] S32x1024.size (inb2 (by omega) (by omega) ) : Rect S32x1024).toLoadRect (harg10.unread x9)) 8 := by
  unfold kernelRun0_B
  rfl

theorem k_run : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2).2.1 = kL (Xn arg1 harg1 arg2 harg2 arg24 x0 x1 2 2) (fun j : Fin 2 => View.readAt (Elt F) arg3.view (Rect.unit ![0, 256 * j.val] S1024x256.size (inb2 (by omega) (by omega) ) : Rect S1024x512).toLoadRect (harg3.unread x2)) 4 := by
  unfold kernelRun0_B
  rfl

theorem v_run : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2).2.2.1 = tL (fun n => pT ((Xn arg1 harg1 arg2 harg2 arg24 x0 x1 8 8) n) (View.readAt (Elt F) arg6.view (Rect.unit ![512 * (f2 (n / 4)).val, 0] S512x1024.size (inb2 (by omega) (by omega) ) : Rect S1024x1024).toLoadRect (harg6.unread x5))) 16 := by
  unfold kernelRun0_B
  rfl

theorem og_run : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2).2.2.2.1 = tL (fun n => ogT ((Xn arg1 harg1 arg2 harg2 arg24 x0 x1 8 8) n) (View.readAt (Elt F) arg7.view (Rect.unit ![512 * (f2 (n / 4)).val, 0] S512x1024.size (inb2 (by omega) (by omega) ) : Rect S1024x1024).toLoadRect (harg7.unread x6)) (View.readAt (Elt F) arg8.view (Rect.unit ![512 * (f2 (n / 4)).val, 0] S512x1024.size (inb2 (by omega) (by omega) ) : Rect S1024x1024).toLoadRect (harg8.unread x7)) (View.readAt (Elt F) arg14.view (Rect.unit ![512 * (f2 (n / 4)).val, 0] S512x1.size (inb2 (by omega) (by omega) ) : Rect S1024x1).toLoadRect (harg14.unread x13))) 16 := by
  unfold kernelRun0_B
  rfl

theorem z_run : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2).2.2.2.2.1 = tL (fun n => zT ((Xn arg1 harg1 arg2 harg2 arg24 x0 x1 4 8) n) (View.readAt (Elt F) arg9.view (Rect.unit ![512 * (f2 (n / 4)).val, 0] S512x1024.size (inb2 (by omega) (by omega) ) : Rect S1024x1024).toLoadRect (harg9.unread x8))) 16 := by
  unfold kernelRun0_B
  rfl

/-- What a load of the normalised rows reads. -/
theorem xn_read (thr d : Nat) (hd : ∀ n, n < thr → n / d % 2 = 0) :
    Xn arg1 harg1 arg2 harg2 arg24 x0 x1 thr d = fun n => XB x0 x1 (f2 (n / d)) := by
  funext n
  unfold Xn
  rw [View.readCov_eq_canon']
  refine (xnL_canon (XA arg1 harg1 arg2 harg2 x0 x1) thr n (f2 (n / d)) (hd n)).trans ?_
  unfold XA XB
  simp only [View.readAt_eq_ld, harg1.read_unread, harg2.read_unread]

theorem q_pieces : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2).1 = qB x0 x1 x4 x9 := by
  rw [q_run, xn_read arg1 harg1 arg2 harg2 arg24 x0 x1 4 4 (by intro n h; omega)]
  simp only [View.readAt_eq_ld, harg5.read_unread, harg10.read_unread]
  rfl

theorem q_out : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2 = View.canon (qB x0 x1 x4 x9) :=
  (View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2)).trans (congrArg View.canon (q_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2))

theorem k_pieces : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2).2.1 = kB x0 x1 x2 := by
  rw [k_run, xn_read arg1 harg1 arg2 harg2 arg24 x0 x1 2 2 (by intro n h; omega)]
  simp only [View.readAt_eq_ld, harg3.read_unread]
  rfl

theorem k_out : out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2 = View.canon (kB x0 x1 x2) :=
  (View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2)).trans (congrArg View.canon (k_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2))

theorem v_pieces : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2).2.2.1 = vB x0 x1 x5 := by
  rw [v_run, xn_read arg1 harg1 arg2 harg2 arg24 x0 x1 8 8 (by intro n h; omega)]
  simp only [View.readAt_eq_ld, harg6.read_unread]
  rfl

theorem v_out : out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2 = View.canon (vB x0 x1 x5) :=
  (View.read_writes_eq_canon _ _ _ (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2)).trans (congrArg View.canon (v_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2))

theorem og_pieces : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2).2.2.2.1 = ogB x0 x1 x6 x7 x13 := by
  rw [og_run, xn_read arg1 harg1 arg2 harg2 arg24 x0 x1 8 8 (by intro n h; omega)]
  simp only [View.readAt_eq_ld, harg7.read_unread, harg8.read_unread, harg14.read_unread]
  rfl

theorem og_out : out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2 = View.canon (ogB x0 x1 x6 x7 x13) :=
  (View.read_writes_eq_canon _ _ _ (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2)).trans (congrArg View.canon (og_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2))

theorem z_pieces : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2).2.2.2.2.1 = zB x0 x1 x8 := by
  rw [z_run, xn_read arg1 harg1 arg2 harg2 arg24 x0 x1 4 8 (by intro n h; omega)]
  simp only [View.readAt_eq_ld, harg9.read_unread]
  rfl

theorem z_out : out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2 = View.canon (zB x0 x1 x8) :=
  (View.read_writes_eq_canon _ _ _ (cover0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2)).trans (congrArg View.canon (z_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2))

end Cert.InProjIdeal.CaseB

end
-- ==== Proof.InOuts.lean ====
/- What each point of the input projections' grid leaves in the five outputs' blocks, over the extended reals. -/
module

public import proofs.«01_k».proof.Proof.InCaseA
public import proofs.«01_k».proof.Proof.InCaseB
public import proofs.«01_k».proof.Proof.Gen.InProjIdeal.Value

@[expose] public section

set_option maxRecDepth 16384

noncomputable section

namespace Cert.InProjIdeal.Outs

open Idealize.ShloMosaic Idealize.ShloMosaic.TcCoe Idealize.SL.Sem Cert.InProjIdeal Cert.InProjIdeal.Gen Cert.InProjIdeal.Step

variable {F : FTy → Type} [FloatOps F] (m : (ℓ : Loc nD τ sig) → Buf (Elt F) ℓ) (c : Dev nD) (t : Fin cfg0.N)

theorem outs14 : (outsAt0 m c t.val t.isLt).1 = View.canon (qB (iblk m c 0 t) (iblk m c 1 t) (iblk m c 4 t) (iblk m c 9 t)) := by
  by_cases h : t.val % 8 = 0
  · rw [outsAt0_A m c t h]
    dsimp only
    exact CaseA.q_out ..
  · rw [outsAt0_B m c t h]
    dsimp only
    exact CaseB.q_out ..

theorem outs15 : (outsAt0 m c t.val t.isLt).2.1 = View.canon (kB (iblk m c 0 t) (iblk m c 1 t) (iblk m c 2 t)) := by
  by_cases h : t.val % 8 = 0
  · rw [outsAt0_A m c t h]
    dsimp only
    exact CaseA.k_out ..
  · rw [outsAt0_B m c t h]
    dsimp only
    exact CaseB.k_out ..

theorem outs16 : (outsAt0 m c t.val t.isLt).2.2.1 = View.canon (vB (iblk m c 0 t) (iblk m c 1 t) (iblk m c 5 t)) := by
  by_cases h : t.val % 8 = 0
  · rw [outsAt0_A m c t h]
    dsimp only
    exact CaseA.v_out ..
  · rw [outsAt0_B m c t h]
    dsimp only
    exact CaseB.v_out ..

theorem outs17 : (outsAt0 m c t.val t.isLt).2.2.2.1 = View.canon (ogB (iblk m c 0 t) (iblk m c 1 t) (iblk m c 6 t) (iblk m c 7 t) (iblk m c 13 t)) := by
  by_cases h : t.val % 8 = 0
  · rw [outsAt0_A m c t h]
    dsimp only
    exact CaseA.og_out ..
  · rw [outsAt0_B m c t h]
    dsimp only
    exact CaseB.og_out ..

theorem outs18 : (outsAt0 m c t.val t.isLt).2.2.2.2.1 = View.canon (zB (iblk m c 0 t) (iblk m c 1 t) (iblk m c 8 t)) := by
  by_cases h : t.val % 8 = 0
  · rw [outsAt0_A m c t h]
    dsimp only
    exact CaseA.z_out ..
  · rw [outsAt0_B m c t h]
    dsimp only
    exact CaseB.z_out ..

end Cert.InProjIdeal.Outs

end
-- ==== Proof.InReadV.lean ====
/- The input projections' host-prepared operands, from the arguments. -/
module

public import proofs.«01_k».proof.Proof.Gen.InProjIdeal.Value
public import Idealize.ShloMosaic.Lib.StableHlo.RunRead

@[expose] public section

set_option maxRecDepth 16384

noncomputable section

namespace Cert.InProjIdeal.Reads

open Idealize.ShloMosaic Idealize.ShloMosaic.TcCoe Idealize.SL.Sem Cert.InProjIdeal Cert.InProjIdeal.Gen

variable {F : FTy → Type} [FloatOps F] (m : (ℓ : Loc nD τ sig) → Buf (Elt F) ℓ) (c : Dev nD)

theorem V_v0 : V m c main_v0 = shapeCast S32768x1024 (m ((c : Thread nD τ).loc main_arg0)) shapeCasts_S4x8192x1024_S32768x1024 := by
  show StableHlo.after [hostOps0, hostOps0_1, hostOps0_2, hostOps0_3, hostOps0_4].flatten (fun b => m (c, b)) (Proc.tc.devRef main_v0) = _
  simp only [hostOps0, hostOps0_1, hostOps0_2, hostOps0_3, hostOps0_4, List.flatten_cons, List.flatten_nil, List.append_nil, List.cons_append, List.nil_append]
  after_reads_simp
  try rfl

theorem V_v2 : V m c main_v2 = (extractStridedSlice S1024x512 ![0, 512] (truncf .bf16 (m ((c : Thread nD τ).loc main_arg2)) bitsLt_bf16_f32 : FVec F S1024x6680 .bf16) slices_S1024x6680_S1024x512_0_512) := by
  show StableHlo.after [hostOps0, hostOps0_1, hostOps0_2, hostOps0_3, hostOps0_4].flatten (fun b => m (c, b)) (Proc.tc.devRef main_v2) = _
  simp only [hostOps0, hostOps0_1, hostOps0_2, hostOps0_3, hostOps0_4, List.flatten_cons, List.flatten_nil, List.append_nil, List.cons_append, List.nil_append]
  after_reads_simp
  try rfl

theorem V_v3 : V m c main_v3 = (extractStridedSlice S1024x1536 ![0, 5128] (truncf .bf16 (m ((c : Thread nD τ).loc main_arg2)) bitsLt_bf16_f32 : FVec F S1024x6680 .bf16) slices_S1024x6680_S1024x1536_0_5128) := by
  show StableHlo.after [hostOps0, hostOps0_1, hostOps0_2, hostOps0_3, hostOps0_4].flatten (fun b => m (c, b)) (Proc.tc.devRef main_v3) = _
  simp only [hostOps0, hostOps0_1, hostOps0_2, hostOps0_3, hostOps0_4, List.flatten_cons, List.flatten_nil, List.append_nil, List.cons_append, List.nil_append]
  after_reads_simp
  try rfl

theorem V_v5 : V m c main_v5 = transpose S512x1024 [1, 0] (extractStridedSlice S1024x512 ![0, 0] (truncf .bf16 (m ((c : Thread nD τ).loc main_arg2)) bitsLt_bf16_f32 : FVec F S1024x6680 .bf16) slices_S1024x6680_S1024x512_0_0) transposes_S1024x512_S512x1024_1_0 := by
  show StableHlo.after [hostOps0, hostOps0_1, hostOps0_2, hostOps0_3, hostOps0_4].flatten (fun b => m (c, b)) (Proc.tc.devRef main_v5) = _
  simp only [hostOps0, hostOps0_1, hostOps0_2, hostOps0_3, hostOps0_4, List.flatten_cons, List.flatten_nil, List.append_nil, List.cons_append, List.nil_append]
  after_reads_simp
  try rfl

theorem V_v7 : V m c main_v7 = transpose S1024x1024 [1, 0] (extractStridedSlice S1024x1024 ![0, 1024] (truncf .bf16 (m ((c : Thread nD τ).loc main_arg2)) bitsLt_bf16_f32 : FVec F S1024x6680 .bf16) slices_S1024x6680_S1024x1024_0_1024) transposes_S1024x1024_S1024x1024_1_0 := by
  show StableHlo.after [hostOps0, hostOps0_1, hostOps0_2, hostOps0_3, hostOps0_4].flatten (fun b => m (c, b)) (Proc.tc.devRef main_v7) = _
  simp only [hostOps0, hostOps0_1, hostOps0_2, hostOps0_3, hostOps0_4, List.flatten_cons, List.flatten_nil, List.append_nil, List.cons_append, List.nil_append]
  after_reads_simp
  try rfl

theorem V_v9 : V m c main_v9 = transpose S1024x1024 [1, 0] (extractStridedSlice S1024x1024 ![0, 2056] (truncf .bf16 (m ((c : Thread nD τ).loc main_arg2)) bitsLt_bf16_f32 : FVec F S1024x6680 .bf16) slices_S1024x6680_S1024x1024_0_2056) transposes_S1024x1024_S1024x1024_1_0 := by
  show StableHlo.after [hostOps0, hostOps0_1, hostOps0_2, hostOps0_3, hostOps0_4].flatten (fun b => m (c, b)) (Proc.tc.devRef main_v9) = _
  simp only [hostOps0, hostOps0_1, hostOps0_2, hostOps0_3, hostOps0_4, List.flatten_cons, List.flatten_nil, List.append_nil, List.cons_append, List.nil_append]
  after_reads_simp
  try rfl

theorem V_v11 : V m c main_v11 = transpose S1024x1024 [1, 0] (extractStridedSlice S1024x1024 ![0, 3080] (truncf .bf16 (m ((c : Thread nD τ).loc main_arg2)) bitsLt_bf16_f32 : FVec F S1024x6680 .bf16) slices_S1024x6680_S1024x1024_0_3080) transposes_S1024x1024_S1024x1024_1_0 := by
  show StableHlo.after [hostOps0, hostOps0_1, hostOps0_2, hostOps0_3, hostOps0_4].flatten (fun b => m (c, b)) (Proc.tc.devRef main_v11) = _
  simp only [hostOps0, hostOps0_1, hostOps0_2, hostOps0_3, hostOps0_4, List.flatten_cons, List.flatten_nil, List.append_nil, List.cons_append, List.nil_append]
  after_reads_simp
  try rfl

theorem V_v13 : V m c main_v13 = transpose S1024x1024 [1, 0] (extractStridedSlice S1024x1024 ![0, 4104] (truncf .bf16 (m ((c : Thread nD τ).loc main_arg2)) bitsLt_bf16_f32 : FVec F S1024x6680 .bf16) slices_S1024x6680_S1024x1024_0_4104) transposes_S1024x1024_S1024x1024_1_0 := by
  show StableHlo.after [hostOps0, hostOps0_1, hostOps0_2, hostOps0_3, hostOps0_4].flatten (fun b => m (c, b)) (Proc.tc.devRef main_v13) = _
  simp only [hostOps0, hostOps0_1, hostOps0_2, hostOps0_3, hostOps0_4, List.flatten_cons, List.flatten_nil, List.append_nil, List.cons_append, List.nil_append]
  after_reads_simp
  try rfl

theorem V_v23 : V m c main_v23 = shapeCast S1x1024 (m ((c : Thread nD τ).loc main_arg1)) shapeCasts_S1024_S1x1024 := by
  show StableHlo.after [hostOps0, hostOps0_1, hostOps0_2, hostOps0_3, hostOps0_4].flatten (fun b => m (c, b)) (Proc.tc.devRef main_v23) = _
  simp only [hostOps0, hostOps0_1, hostOps0_2, hostOps0_3, hostOps0_4, List.flatten_cons, List.flatten_nil, List.append_nil, List.cons_append, List.nil_append]
  after_reads_simp
  try rfl

theorem V_v24 : V m c main_v24 = transpose S4x1536 [1, 0] (m ((c : Thread nD τ).loc main_arg5)) transposes_S1536x4_S4x1536_1_0 := by
  show StableHlo.after [hostOps0, hostOps0_1, hostOps0_2, hostOps0_3, hostOps0_4].flatten (fun b => m (c, b)) (Proc.tc.devRef main_v24) = _
  simp only [hostOps0, hostOps0_1, hostOps0_2, hostOps0_3, hostOps0_4, List.flatten_cons, List.flatten_nil, List.append_nil, List.cons_append, List.nil_append]
  after_reads_simp
  try rfl

theorem V_v25 : V m c main_v25 = shapeCast S1x1536 (m ((c : Thread nD τ).loc main_arg6)) shapeCasts_S1536_S1x1536 := by
  show StableHlo.after [hostOps0, hostOps0_1, hostOps0_2, hostOps0_3, hostOps0_4].flatten (fun b => m (c, b)) (Proc.tc.devRef main_v25) = _
  simp only [hostOps0, hostOps0_1, hostOps0_2, hostOps0_3, hostOps0_4, List.flatten_cons, List.flatten_nil, List.append_nil, List.cons_append, List.nil_append]
  after_reads_simp
  try rfl

theorem V_v26 : V m c main_v26 = shapeCast S1024x1 (m ((c : Thread nD τ).loc main_arg8)) shapeCasts_S1024_S1024x1 := by
  show StableHlo.after [hostOps0, hostOps0_1, hostOps0_2, hostOps0_3, hostOps0_4].flatten (fun b => m (c, b)) (Proc.tc.devRef main_v26) = _
  simp only [hostOps0, hostOps0_1, hostOps0_2, hostOps0_3, hostOps0_4, List.flatten_cons, List.flatten_nil, List.append_nil, List.cons_append, List.nil_append]
  after_reads_simp
  try rfl

theorem catW_congr {a a' b b' : FVec F S1024x4 .bf16} {d d' : FVec F S1024x16 .bf16} (ha : a = a') (hb : b = b') (hd : d = d') :
    concatenate S1024x24 1 [⟨S1024x4, a⟩, ⟨S1024x4, b⟩, ⟨S1024x16, d⟩] concatenates_S1024x4_S1024x4_S1024x16_S1024x24_d1 =
      concatenate S1024x24 1 [⟨S1024x4, a'⟩, ⟨S1024x4, b'⟩, ⟨S1024x16, d'⟩] concatenates_S1024x4_S1024x4_S1024x16_S1024x24_d1 := by
  subst ha hb hd; rfl
theorem catB_congr {a a' b b' : FVec F S4 .f32} {d d' : FVec F S16 .f32} (ha : a = a') (hb : b = b') (hd : d = d') :
    concatenate S24 0 [⟨S4, a⟩, ⟨S4, b⟩, ⟨S16, d⟩] concatenates_S4_S4_S16_S24_d0 =
      concatenate S24 0 [⟨S4, a'⟩, ⟨S4, b'⟩, ⟨S16, d'⟩] concatenates_S4_S4_S16_S24_d0 := by
  subst ha hb hd; rfl

theorem V_v19 : V m c main_v19 = pad S32x1024 ![0, 0] ![8, 0] ![0, 0] (transpose S24x1024 [1, 0]
    (concatenate S1024x24 1 [⟨S1024x4, (extractStridedSlice S1024x4 ![0, 2048] (truncf .bf16 (m ((c : Thread nD τ).loc main_arg2)) bitsLt_bf16_f32 : FVec F S1024x6680 .bf16) slices_S1024x6680_S1024x4_0_2048 : (⟨S1024x4, .bf16⟩ : BufTy).Contents (Elt F))⟩,
      ⟨S1024x4, (extractStridedSlice S1024x4 ![0, 2052] (truncf .bf16 (m ((c : Thread nD τ).loc main_arg2)) bitsLt_bf16_f32 : FVec F S1024x6680 .bf16) slices_S1024x6680_S1024x4_0_2052 : (⟨S1024x4, .bf16⟩ : BufTy).Contents (Elt F))⟩,
      ⟨S1024x16, (extractStridedSlice S1024x16 ![0, 6664] (truncf .bf16 (m ((c : Thread nD τ).loc main_arg2)) bitsLt_bf16_f32 : FVec F S1024x6680 .bf16) slices_S1024x6680_S1024x16_0_6664 : (⟨S1024x16, .bf16⟩ : BufTy).Contents (Elt F))⟩]
      concatenates_S1024x4_S1024x4_S1024x16_S1024x24_d1 : (⟨S1024x24, .bf16⟩ : BufTy).Contents (Elt F)) transposes_S1024x24_S24x1024_1_0)
    (sitofp .bf16 (constantI S_ 32 0#32) : (⟨S_, .bf16⟩ : BufTy).Contents (Elt F)) pads_S24x1024_S32x1024_080_000 h_S_ := by
  show StableHlo.after [hostOps0, hostOps0_1, hostOps0_2, hostOps0_3, hostOps0_4].flatten (fun b => m (c, b)) (Proc.tc.devRef main_v19) = _
  simp only [hostOps0, hostOps0_1, hostOps0_2, hostOps0_3, hostOps0_4, List.flatten_cons, List.flatten_nil, List.append_nil, List.cons_append, List.nil_append]
  after_reads_simp
  dsimp only [Matrix.cons_val]
  refine congrArg (fun z : FVec F S1024x24 .bf16 => pad S32x1024 ![0, 0] ![8, 0] ![0, 0] (transpose S24x1024 [1, 0] z transposes_S1024x24_S24x1024_1_0)
    (sitofp .bf16 (constantI S_ 32 0#32) : (⟨S_, .bf16⟩ : BufTy).Contents (Elt F)) pads_S24x1024_S32x1024_080_000 h_S_) (catW_congr ?_ ?_ ?_)
  · after_reads_simp
  · after_reads_simp
  · after_reads_simp

theorem V_v22 : V m c main_v22 = shapeCast S32x1 (pad S32 ![0] ![8] ![0]
    (concatenate S24 0 [⟨S4, (m ((c : Thread nD τ).loc main_arg3) : (⟨S4, .f32⟩ : BufTy).Contents (Elt F))⟩, ⟨S4, (m ((c : Thread nD τ).loc main_arg4) : (⟨S4, .f32⟩ : BufTy).Contents (Elt F))⟩,
      ⟨S16, (m ((c : Thread nD τ).loc main_arg7) : (⟨S16, .f32⟩ : BufTy).Contents (Elt F))⟩] concatenates_S4_S4_S16_S24_d0 : (⟨S24, .f32⟩ : BufTy).Contents (Elt F))
    (sitofp .f32 (constantI S_ 32 0#32) : (⟨S_, .f32⟩ : BufTy).Contents (Elt F)) pads_S24_S32_080 h_S_) shapeCasts_S32_S32x1 := by
  show StableHlo.after [hostOps0, hostOps0_1, hostOps0_2, hostOps0_3, hostOps0_4].flatten (fun b => m (c, b)) (Proc.tc.devRef main_v22) = _
  simp only [hostOps0, hostOps0_1, hostOps0_2, hostOps0_3, hostOps0_4, List.flatten_cons, List.flatten_nil, List.append_nil, List.cons_append, List.nil_append]
  after_reads_simp
  dsimp only [Matrix.cons_val]
  refine congrArg (fun z : FVec F S24 .f32 => shapeCast S32x1 (pad S32 ![0] ![8] ![0] z
    (sitofp .f32 (constantI S_ 32 0#32) : (⟨S_, .f32⟩ : BufTy).Contents (Elt F)) pads_S24_S32_080 h_S_) shapeCasts_S32_S32x1) (catB_congr ?_ ?_ ?_)
  · after_reads_simp
  · after_reads_simp
  · after_reads_simp

end Cert.InProjIdeal.Reads

end
-- ==== Proof.InRead.lean ====
/- The input projections' windows read at an index, over the extended reals: the arguments themselves. -/
module

public import proofs.«01_k».proof.Proof.InReadV
public import Idealize.ShloMosaic.Lib.Pointwise
public import Idealize.ShloMosaic.Lib.Pipeline.ValueKit

@[expose] public section

set_option maxRecDepth 16384

noncomputable section

namespace Cert.InProjIdeal.Reads

open Idealize.ShloMosaic Idealize.ShloMosaic.TcCoe Idealize.SL.Sem Cert.InProjIdeal Cert.InProjIdeal.Gen

variable (m : (ℓ : Loc nD τ sig) → Buf (Elt Ideal) ℓ) (c : Dev nD) (t : Fin cfg0.N)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx13 : ∀ t : Fin cfg0.N, win0_13.index t = ![0, 0] := by decide +kernel

theorem x_at (r : Fin 1024) (k : Fin 1024) (b : Fin 4) (s : Fin 8192) (h : b.val * 8192 + s.val = 1024 * t.val + r.val) :
    iblk m c 0 t (ix2 r k) = m ((c : Thread nD τ).loc main_arg0) (ix3 b s k) := by
  show V m c main_v0 (((cfg0.win 0).blk t).view.emb (ix2 r k)) = _
  rw [V_v0]
  refine shapeCast_apply _ _ _ _ ?_
  have e0 : (((cfg0.win 0).blk t).view.emb (ix2 r k) 0).val = 1024 * t.val + r.val := by blk_simp [idx0]; omega
  have e1 : (((cfg0.win 0).blk t).view.emb (ix2 r k) 1).val = k.val := by blk_simp [idx0]
  refine (Shape.rowMajor_val_three (d := ![4, 8192, 1024]) _).trans (Eq.trans ?_ (Shape.rowMajor_val_two (d := ![32768, 1024]) _).symm)
  rw [e0, e1]
  show (b.val * 8192 + s.val) * 1024 + k.val = (1024 * t.val + r.val) * 1024 + k.val
  rw [h]

theorem n_at (k : Fin 1024) :
    iblk m c 1 t (ix2 0 k) = m ((c : Thread nD τ).loc main_arg1) (ix1 k) := by
  show V m c main_v23 (((cfg0.win 1).blk t).view.emb (ix2 0 k)) = _
  rw [V_v23]
  pointwise
  blk_ext [idx1]

theorem mn_at (k : Fin 1024) :
    iblk m c 13 t (ix2 k 0) = m ((c : Thread nD τ).loc main_arg8) (ix1 k) := by
  show V m c main_v26 (((cfg0.win 13).blk t).view.emb (ix2 k 0)) = _
  rw [V_v26]
  pointwise
  blk_ext [idx13]

theorem k_at (k : Fin 1024) (j : Fin 512) (C : Fin 6680) (hC : C.val = 512 + j.val) :
    iblk m c 2 t (ix2 k j) = m ((c : Thread nD τ).loc main_arg2) (ix2 k C) := by
  show V m c main_v2 (((cfg0.win 2).blk t).view.emb (ix2 k j)) = _
  rw [V_v2]
  pointwise
  blk_ext [idx2]

theorem q_at (k : Fin 1024) (j : Fin 512) (C : Fin 6680) (hC : C.val = 0 + j.val) :
    iblk m c 4 t (ix2 j k) = m ((c : Thread nD τ).loc main_arg2) (ix2 k C) := by
  show V m c main_v5 (((cfg0.win 4).blk t).view.emb (ix2 j k)) = _
  rw [V_v5]
  pointwise
  blk_ext [idx4]

theorem v_at (k : Fin 1024) (j : Fin 1024) (C : Fin 6680) (hC : C.val = 1024 + j.val) :
    iblk m c 5 t (ix2 j k) = m ((c : Thread nD τ).loc main_arg2) (ix2 k C) := by
  show V m c main_v7 (((cfg0.win 5).blk t).view.emb (ix2 j k)) = _
  rw [V_v7]
  pointwise
  blk_ext [idx5]

theorem o_at (k : Fin 1024) (j : Fin 1024) (C : Fin 6680) (hC : C.val = 2056 + j.val) :
    iblk m c 6 t (ix2 j k) = m ((c : Thread nD τ).loc main_arg2) (ix2 k C) := by
  show V m c main_v9 (((cfg0.win 6).blk t).view.emb (ix2 j k)) = _
  rw [V_v9]
  pointwise
  blk_ext [idx6]

theorem zm_at (k : Fin 1024) (j : Fin 1024) (C : Fin 6680) (hC : C.val = 3080 + j.val) :
    iblk m c 7 t (ix2 j k) = m ((c : Thread nD τ).loc main_arg2) (ix2 k C) := by
  show V m c main_v11 (((cfg0.win 7).blk t).view.emb (ix2 j k)) = _
  rw [V_v11]
  pointwise
  blk_ext [idx7]

theorem zs_at (k : Fin 1024) (j : Fin 1024) (C : Fin 6680) (hC : C.val = 4104 + j.val) :
    iblk m c 8 t (ix2 j k) = m ((c : Thread nD τ).loc main_arg2) (ix2 k C) := by
  show V m c main_v13 (((cfg0.win 8).blk t).view.emb (ix2 j k)) = _
  rw [V_v13]
  pointwise
  blk_ext [idx8]

end Cert.InProjIdeal.Reads

end
-- ==== Proof.InElem.lean ====
/- The input projections' tiles read at an index, over the extended reals. -/
module

public import proofs.«01_k».proof.Proof.InStep
public import Idealize.ShloMosaic.Lib.Pointwise
public import Idealize.ShloMosaic.Lib.MatmulPlain
public import Idealize.ShloMosaic.Lib.Pipeline.ValueKit.Tiles
public import Idealize.ShloMosaic.PureOps.Ideal.Laws

@[expose] public section

set_option maxRecDepth 16384

noncomputable section

namespace Cert.InProjIdeal.Elem

open Idealize.ShloMosaic Idealize.ShloMosaic.TcCoe Idealize.SL.Sem Cert.InProjIdeal Cert.InProjIdeal.Gen Cert.InProjIdeal.Step

/-- One over the root of a row's mean square. -/
def rsS (x : Fin 1024 → EReal) : EReal :=
  FloatOps.rsqrt (F := Ideal) (φ := .f32)
    (Ideal.div (∑ k : Fin 1024, x k * x k) (Ideal.ofBits .f32 0x44800000#32) + Ideal.ofBits .f32 0x358637BD#32)
/-- A row, normalised and weighted. -/
def nrmS (x nw : Fin 1024 → EReal) (d : Fin 1024) : EReal := x d * rsS x * nw d
/-- A normalised row times a column. -/
def prjS (x nw w : Fin 1024 → EReal) : EReal := ∑ k : Fin 1024, nrmS x nw k * w k
def sgS (p : EReal) : EReal :=
  Ideal.div (Ideal.ofBits .f32 0x3F800000#32) (Ideal.ofBits .f32 0x3F800000#32 + FloatOps.exp (F := Ideal) (φ := .f32) (-p))

theorem xnT_at (x : FVec Ideal S512x1024 .f32) (nw : FVec Ideal S1x1024 .f32) (r : Fin 512) (d : Fin 1024) :
    xnT x nw (ix2 r d) = nrmS (fun k => x (ix2 r k)) (fun k => nw (ix2 0 k)) d := by
  unfold xnT k0_pay6
  simp only [shapeCast_self]
  pointwise
  rfl

theorem kT_at (xn : FVec Ideal S512x1024 .bf16) (w : FVec Ideal S1024x256 .bf16) (r : Fin 512) (j : Fin 256) :
    kT xn w (ix2 r j) = ∑ k : Fin 1024, xn (ix2 r k) * w (ix2 k j) := by
  unfold kT k0_pay18
  simp only [shapeCast_self]
  pointwise

theorem pT_at (xn : FVec Ideal S512x1024 .bf16) (w : FVec Ideal S512x1024 .bf16) (r : Fin 512) (j : Fin 512) :
    pT xn w (ix2 r j) = ∑ k : Fin 1024, xn (ix2 j k) * w (ix2 r k) := by
  unfold pT k0_pay63
  simp only [shapeCast_self]
  pointwise
  exact Finset.sum_congr rfl fun k _ => mul_comm _ _

theorem qT_at (xn : FVec Ideal S512x1024 .bf16) (w : FVec Ideal S512x1024 .bf16) (g : FVec Ideal S32x1024 .bf16) (r : Fin 512) (j : Fin 512) :
    qT xn w g (ix2 r j) = (∑ k : Fin 1024, xn (ix2 j k) * w (ix2 r k)) * Ideal.ofBits .f32 0x3DB504F3#32 := by
  unfold qT k0_pay31 k0_pay30
  simp only [shapeCast_self]
  pointwise
  exact congrArg (· * _) (Finset.sum_congr rfl fun k _ => mul_comm _ _)

theorem sig_eq (p : EReal) : Ideal.div (Ideal.ofBits .f32 0x3F800000#32)
    (Ideal.ofBits .f32 0x3F800000#32 + FloatOps.exp (F := Ideal) (φ := .f32) (Ideal.ofBits .f32 0x00000000#32 - p)) = sgS p := by
  have : Ideal.ofBits .f32 0x00000000#32 - p = -p := by
    rw [show Ideal.ofBits .f32 0x00000000#32 = 0 by simp [Ideal.ofBits, Ideal.ieee], zero_sub]
  rw [this]; rfl

theorem zT_at (xn : FVec Ideal S512x1024 .bf16) (w : FVec Ideal S512x1024 .bf16) (r : Fin 512) (j : Fin 512) :
    zT xn w (ix2 r j) = (∑ k : Fin 1024, xn (ix2 j k) * w (ix2 r k)) * sgS (∑ k : Fin 1024, xn (ix2 j k) * w (ix2 r k)) := by
  have e : zT xn w (ix2 r j) = pT xn w (ix2 r j) * Ideal.div (Ideal.ofBits .f32 0x3F800000#32)
    (Ideal.ofBits .f32 0x3F800000#32 + FloatOps.exp (F := Ideal) (φ := .f32) (Ideal.ofBits .f32 0x00000000#32 - pT xn w (ix2 r j))) := rfl
  rw [e, sig_eq, pT_at]

theorem ogT_at (xn : FVec Ideal S512x1024 .bf16) (w z : FVec Ideal S512x1024 .bf16) (nw : FVec Ideal S512x1 .f32) (r : Fin 512) (j : Fin 512) :
    ogT xn w z nw (ix2 r j) = nw (ix2 r 0) * sgS (∑ k : Fin 1024, xn (ix2 j k) * w (ix2 r k)) *
      ((∑ k : Fin 1024, xn (ix2 j k) * z (ix2 r k)) * sgS (∑ k : Fin 1024, xn (ix2 j k) * z (ix2 r k))) := by
  have e : ogT xn w z nw (ix2 r j) = Ideal.div (Ideal.ofBits .f32 0x3F800000#32)
    (Ideal.ofBits .f32 0x3F800000#32 + FloatOps.exp (F := Ideal) (φ := .f32) (Ideal.ofBits .f32 0x00000000#32 - pT xn w (ix2 r j))) *
      zT xn z (ix2 r j) * broadcastTo S512x512 (shapeCast S512x1 nw shapeCasts_S512x1_S512x1) broadcasts_S512x1_S512x512 (ix2 r j) := rfl
  have b : broadcastTo S512x512 (shapeCast S512x1 nw shapeCasts_S512x1_S512x1) broadcasts_S512x1_S512x512 (ix2 r j) = nw (ix2 r 0) := by
    simp only [shapeCast_self]
    pointwise
  rw [e, sig_eq, pT_at, zT_at, b, mul_comm _ (nw (ix2 r 0)), mul_assoc (nw (ix2 r 0))]

theorem cutT_at (c : Fin 4) (v : FVec Ideal S512x512 .f32) (r : Fin 512) (l : Fin 128) :
    cutT c v (ix3 0 r l) = v (ix2 r (⟨128 * c.val + l.val, by omega⟩ : Fin 512)) := by
  unfold cutT
  pointwise

/-! ### The outputs' blocks -/

theorem XB_at (x0 : Vec Ideal S1024x1024 .f32) (x1 : Vec Ideal S1x1024 .f32) (h : Fin 2) (r : Fin 512) (d : Fin 1024) (R : Fin 1024)
    (hR : R.val = 512 * h.val + r.val) :
    XB x0 x1 h (ix2 r d) = nrmS (fun k => x0 (ix2 R k)) (fun k => x1 (ix2 0 k)) d := by
  unfold XB
  rw [xnT_at]
  congr 1
  · funext k
    refine View.ld_unit_apply_of x0 _ _ _ _ _ fun a => ?_
    match a with
    | ⟨0, _⟩ => exact hR
    | ⟨1, _⟩ => exact (Nat.zero_add _).symm
  · funext k
    refine View.ld_unit_apply_of x1 _ _ _ _ _ fun a => ?_
    match a with
    | ⟨0, _⟩ => rfl
    | ⟨1, _⟩ => exact (Nat.zero_add _).symm

theorem wR_at (w : Vec Ideal S1024x1024 .bf16) (j : Fin 2) (r : Fin 512) (k R : Fin 1024) (hR : R.val = 512 * j.val + r.val) :
    wR w j (ix2 r k) = w (ix2 R k) := by
  refine View.ld_unit_apply_of w _ _ _ _ _ fun a => ?_
  match a with
  | ⟨0, _⟩ => exact hR
  | ⟨1, _⟩ => exact (Nat.zero_add _).symm
theorem wK_at (w : Vec Ideal S1024x512 .bf16) (j : Fin 2) (k : Fin 1024) (c : Fin 256) (C : Fin 512) (hC : C.val = 256 * j.val + c.val) :
    wK w j (ix2 k c) = w (ix2 k C) := by
  refine View.ld_unit_apply_of w _ _ _ _ _ fun a => ?_
  match a with
  | ⟨0, _⟩ => exact (Nat.zero_add _).symm
  | ⟨1, _⟩ => exact hC
theorem nR_at (w : Vec Ideal S1024x1 .f32) (j : Fin 2) (r : Fin 512) (R : Fin 1024) (hR : R.val = 512 * j.val + r.val) :
    nR w j (ix2 r 0) = w (ix2 R 0) := by
  refine View.ld_unit_apply_of w _ _ _ _ _ fun a => ?_
  match a with
  | ⟨0, _⟩ => exact hR
  | ⟨1, _⟩ => rfl
theorem wQ_at (w : Vec Ideal S512x1024 .bf16) (r : Fin 512) (k : Fin 1024) : wQ w (ix2 r k) = w (ix2 r k) := by
  refine View.ld_unit_apply_of w _ _ _ _ _ fun a => ?_
  match a with
  | ⟨0, _⟩ => exact (Nat.zero_add _).symm
  | ⟨1, _⟩ => exact (Nat.zero_add _).symm

/-- The normalised row behind lane `l` of chunk `ch`. -/
def rowOf (ch : Fin 8) (l : Fin 128) : Fin 1024 := ⟨128 * ch.val + l.val, by omega⟩

theorem kB_at (x0 : Vec Ideal S1024x1024 .f32) (x1 : Vec Ideal S1x1024 .f32) (w : Vec Ideal S1024x512 .bf16) (r : Fin 1024) (c : Fin 512) :
    View.canon (kB x0 x1 w) (ix2 r c) = prjS (fun k => x0 (ix2 r k)) (fun k => x1 (ix2 0 k)) (fun k => w (ix2 k c)) := by
  refine (canon_tilesN (Val := Elt Ideal) (e := .bf16) (s := S1024x512) S512x256.size
    (fun n => ![512 * (f2 (n / 2)).val, 256 * (f2 n).val]) (fun n => inb2 (by omega) (by omega)) _
    (2 * (r.val / 512) + c.val / 256) (ix2 (⟨r.val % 512, by omega⟩ : Fin 512) (⟨c.val % 256, by omega⟩ : Fin 256)) _ ?_ 4 (by omega) ?_).trans ?_
  · funext a
    refine Fin.ext ?_
    match a with
    | ⟨0, _⟩ => show 512 * ((2 * (r.val / 512) + c.val / 256) / 2 % 2) + 1 * (r.val % 512) = r.val; omega
    | ⟨1, _⟩ => show 256 * ((2 * (r.val / 512) + c.val / 256) % 2) + 1 * (c.val % 256) = c.val; omega
  · intro n hn hne
    by_cases e : n / 2 % 2 = r.val / 512
    · refine ⟨⟨1, by decide⟩, ?_⟩
      show 256 * (n % 2) + 256 ≤ 256 * ((2 * (r.val / 512) + c.val / 256) % 2) ∨ 256 * ((2 * (r.val / 512) + c.val / 256) % 2) + 256 ≤ 256 * (n % 2)
      omega
    · refine ⟨⟨0, by decide⟩, ?_⟩
      show 512 * (n / 2 % 2) + 512 ≤ 512 * ((2 * (r.val / 512) + c.val / 256) / 2 % 2) ∨ 512 * ((2 * (r.val / 512) + c.val / 256) / 2 % 2) + 512 ≤ 512 * (n / 2 % 2)
      omega
  · refine (kT_at _ _ _ _).trans (Finset.sum_congr rfl fun k _ => ?_)
    refine congrArg₂ (· * ·) ?_ ?_
    · refine XB_at x0 x1 _ _ k r ?_
      show r.val = 512 * ((2 * (r.val / 512) + c.val / 256) / 2 % 2) + r.val % 512
      omega
    · refine wK_at w _ k _ c ?_
      show c.val = 256 * ((2 * (r.val / 512) + c.val / 256) % 2) + c.val % 256
      omega

theorem qB_at (x0 : Vec Ideal S1024x1024 .f32) (x1 : Vec Ideal S1x1024 .f32) (w : Vec Ideal S512x1024 .bf16) (g : Vec Ideal S32x1024 .bf16)
    (ch : Fin 8) (r : Fin 512) (l : Fin 128) :
    View.canon (qB x0 x1 w g) (ix3 ch r l) =
      prjS (fun k => x0 (ix2 (rowOf ch l) k)) (fun k => x1 (ix2 0 k)) (fun k => w (ix2 r k)) * Ideal.ofBits .f32 0x3DB504F3#32 := by
  refine (canon_tilesN (Val := Elt Ideal) (e := .bf16) (s := S8x512x128) S1x512x128.size
    (fun n => ![4 * (f2 (n / 4)).val + (f4 n).val, 0, 0]) (fun n => inb3 (by omega) (by omega) (by omega)) _
    ch.val (ix3 (0 : Fin 1) r l) _ ?_ 8 ch.isLt ?_).trans ?_
  · funext a
    refine Fin.ext ?_
    match a with
    | ⟨0, _⟩ => show (4 * (ch.val / 4 % 2) + ch.val % 4) + 1 * 0 = ch.val; omega
    | ⟨1, _⟩ => show 0 + 1 * r.val = r.val; omega
    | ⟨2, _⟩ => show 0 + 1 * l.val = l.val; omega
  · intro n hn hne
    refine ⟨⟨0, by decide⟩, ?_⟩
    show (4 * (n / 4 % 2) + n % 4) + 1 ≤ 4 * (ch.val / 4 % 2) + ch.val % 4 ∨ (4 * (ch.val / 4 % 2) + ch.val % 4) + 1 ≤ 4 * (n / 4 % 2) + n % 4
    omega
  · refine (cutT_at _ _ _ _).trans ((qT_at _ _ _ _ _).trans (congrArg (· * _) (Finset.sum_congr rfl fun k _ => ?_)))
    refine congrArg₂ (· * ·) ?_ (wQ_at w r k)
    refine XB_at x0 x1 _ _ k (rowOf ch l) ?_
    show 128 * ch.val + l.val = 512 * (ch.val / 4 % 2) + (128 * (ch.val % 4) + l.val)
    omega

/-- A block of 1024 transposed channels, at an index. -/
theorem tL_at (g : Nat → FVec Ideal S512x512 .f32) (ch : Fin 8) (r : Fin 1024) (l : Fin 128) :
    View.canon (tL g 16) (ix3 ch r l) = g (8 * (ch.val / 4) + 4 * (r.val / 512) + ch.val % 4)
      (ix2 (⟨r.val % 512, by omega⟩ : Fin 512) (⟨128 * (ch.val % 4) + l.val, by omega⟩ : Fin 512)) := by
  obtain ⟨N, hN⟩ : ∃ N, N = 8 * (ch.val / 4) + 4 * (r.val / 512) + ch.val % 4 := ⟨_, rfl⟩
  have h1 : N / 8 % 2 = ch.val / 4 := by omega
  have h2 : N / 4 % 2 = r.val / 512 := by omega
  have h3 : N % 4 = ch.val % 4 := by omega
  rw [← hN]
  refine (canon_tilesN (Val := Elt Ideal) (e := .bf16) (s := S8x1024x128) S1x512x128.size
    (fun n => ![4 * (f2 (n / 8)).val + (f4 n).val, 512 * (f2 (n / 4)).val, 0]) (fun n => inb3 (by omega) (by omega) (by omega)) _
    N (ix3 (0 : Fin 1) (⟨r.val % 512, by omega⟩ : Fin 512) l) _ ?_ 16 (by omega) ?_).trans ?_
  · funext a
    refine Fin.ext ?_
    match a with
    | ⟨0, _⟩ => show (4 * (N / 8 % 2) + N % 4) + 1 * 0 = ch.val; omega
    | ⟨1, _⟩ => show 512 * (N / 4 % 2) + 1 * (r.val % 512) = r.val; omega
    | ⟨2, _⟩ => show 0 + 1 * l.val = l.val; omega
  · intro n hn hne
    by_cases e : n / 4 % 2 = N / 4 % 2
    · refine ⟨⟨0, by decide⟩, ?_⟩
      show (4 * (n / 8 % 2) + n % 4) + 1 ≤ 4 * (N / 8 % 2) + N % 4 ∨ (4 * (N / 8 % 2) + N % 4) + 1 ≤ 4 * (n / 8 % 2) + n % 4
      omega
    · refine ⟨⟨1, by decide⟩, ?_⟩
      show 512 * (n / 4 % 2) + 512 ≤ 512 * (N / 4 % 2) ∨ 512 * (N / 4 % 2) + 512 ≤ 512 * (n / 4 % 2)
      omega
  · refine (cutT_at _ _ _ _).trans (congrArg (fun j => g N (ix2 _ j)) (Fin.ext ?_))
    show 128 * (N % 4) + l.val = 128 * (ch.val % 4) + l.val
    omega

theorem sum_at (x0 : Vec Ideal S1024x1024 .f32) (x1 : Vec Ideal S1x1024 .f32) (w : Vec Ideal S1024x1024 .bf16) (ch : Fin 8) (r : Fin 1024) (l : Fin 128)
    (N : Nat) (hN : N = 8 * (ch.val / 4) + 4 * (r.val / 512) + ch.val % 4) :
    (∑ k : Fin 1024, XB x0 x1 (f2 (N / 8)) (ix2 (⟨128 * (ch.val % 4) + l.val, by omega⟩ : Fin 512) k) *
      wR w (f2 (N / 4)) (ix2 (⟨r.val % 512, by omega⟩ : Fin 512) k) : EReal) =
    prjS (fun k => x0 (ix2 (rowOf ch l) k)) (fun k => x1 (ix2 0 k)) (fun k => w (ix2 r k)) := by
  refine Finset.sum_congr rfl fun k _ => congrArg₂ (· * ·) ?_ ?_
  · refine XB_at x0 x1 _ _ k (rowOf ch l) ?_
    show 128 * ch.val + l.val = 512 * (N / 8 % 2) + (128 * (ch.val % 4) + l.val)
    omega
  · refine wR_at w _ _ k r ?_
    show r.val = 512 * (N / 4 % 2) + r.val % 512
    omega

theorem vB_at (x0 : Vec Ideal S1024x1024 .f32) (x1 : Vec Ideal S1x1024 .f32) (w : Vec Ideal S1024x1024 .bf16) (ch : Fin 8) (r : Fin 1024) (l : Fin 128) :
    View.canon (vB x0 x1 w) (ix3 ch r l) = prjS (fun k => x0 (ix2 (rowOf ch l) k)) (fun k => x1 (ix2 0 k)) (fun k => w (ix2 r k)) :=
  (tL_at _ ch r l).trans ((pT_at _ _ _ _).trans (sum_at x0 x1 w ch r l _ rfl))

/-- A gate's value, from its projection. -/
def siluS (p : EReal) : EReal := p * sgS p

theorem zB_at (x0 : Vec Ideal S1024x1024 .f32) (x1 : Vec Ideal S1x1024 .f32) (w : Vec Ideal S1024x1024 .bf16) (ch : Fin 8) (r : Fin 1024) (l : Fin 128) :
    View.canon (zB x0 x1 w) (ix3 ch r l) = siluS (prjS (fun k => x0 (ix2 (rowOf ch l) k)) (fun k => x1 (ix2 0 k)) (fun k => w (ix2 r k))) :=
  (tL_at _ ch r l).trans ((zT_at _ _ _ _).trans (congrArg siluS (sum_at x0 x1 w ch r l _ rfl)))

theorem ogB_at (x0 : Vec Ideal S1024x1024 .f32) (x1 : Vec Ideal S1x1024 .f32) (w z : Vec Ideal S1024x1024 .bf16) (nw : Vec Ideal S1024x1 .f32)
    (ch : Fin 8) (r : Fin 1024) (l : Fin 128) :
    View.canon (ogB x0 x1 w z nw) (ix3 ch r l) =
      nw (ix2 r 0) * sgS (prjS (fun k => x0 (ix2 (rowOf ch l) k)) (fun k => x1 (ix2 0 k)) (fun k => w (ix2 r k))) *
        siluS (prjS (fun k => x0 (ix2 (rowOf ch l) k)) (fun k => x1 (ix2 0 k)) (fun k => z (ix2 r k))) := by
  refine (tL_at _ ch r l).trans ((ogT_at _ _ _ _ _ _).trans ?_)
  refine congrArg₂ (· * ·) (congrArg₂ (· * ·) (nR_at nw _ _ r ?_) (congrArg sgS (sum_at x0 x1 w ch r l _ rfl)))
    (congrArg siluS (sum_at x0 x1 z ch r l _ rfl))
  show r.val = 512 * ((8 * (ch.val / 4) + 4 * (r.val / 512) + ch.val % 4) / 4 % 2) + r.val % 512
  omega

end Cert.InProjIdeal.Elem

end
-- ==== Proof.InRef.lean ====
/- The reference's results read at an index, over the extended reals, as rows of the normalised input times columns. -/
module

public import proofs.«01_k».proof.Proof.InElem
public import proofs.«01_k».proof.Proof.Gen.ProjectionsIdeal.Read
public import Idealize.ShloMosaic.Lib.Pipeline.ValueKit

@[expose] public section

set_option maxRecDepth 16384

noncomputable section

namespace Cert.ProjectionsIdeal.Elem

open Idealize.ShloMosaic Idealize.ShloMosaic.TcCoe Idealize.SL.Sem Cert.ProjectionsIdeal Cert.ProjectionsIdeal.Gen Cert.ProjectionsIdeal.Read
open Cert.InProjIdeal.Elem (nrmS rsS prjS sgS siluS)

variable (x0 : (⟨S4x8192x1024, .f32⟩ : BufTy).Contents (Elt Ideal)) (x1 : (⟨S1024, .f32⟩ : BufTy).Contents (Elt Ideal))
  (x2 : (⟨S1024x6680, .f32⟩ : BufTy).Contents (Elt Ideal)) (x8 : (⟨S1024, .f32⟩ : BufTy).Contents (Elt Ideal))

theorem zero_f32 : Ideal.ofBits .f32 0x00000000#32 = 0 := by simp [Ideal.ofBits, Ideal.ieee]

theorem h_at (b : Fin 4) (s : Fin 8192) (d : Fin 1024) :
    val_main_v12 (F := Ideal) x0 x1 (ix3 b s d) = nrmS (fun k => x0 (ix3 b s k)) (fun k => x1 (ix1 k)) d := by
  have e1 : val_main_v1 (F := Ideal) x0 (ix2 b s) = ∑ k : Fin 1024, x0 (ix3 b s k) * x0 (ix3 b s k) := by
    rw [val_main_v1_apply]
    refine Eq.trans (congrArg (· + _) zero_f32) ?_
    rw [zero_add]
    refine Finset.sum_congr rfl fun k _ => ?_
    have : idx_main_v1 (ix2 b s) k = ix3 b s k := by
      funext a; match a with | ⟨0, _⟩ => rfl | ⟨1, _⟩ => rfl | ⟨2, _⟩ => rfl
    rw [this]; rfl
  rw [val_main_v12_apply, val_main_v9_apply, val_main_v8_apply, val_main_v7_apply, val_main_v6_apply, val_main_v5_apply,
    val_main_v4_apply, val_main_v3_apply, val_main_v2_apply, val_main_v11_apply, val_main_v10_apply]
  have i2 : idx_main_v2 (idx_main_v8 (ix3 b s d)) = ix2 b s := by
    funext a; match a with | ⟨0, _⟩ => rfl | ⟨1, _⟩ => rfl
  have i11 : idx_main_v10 (idx_main_v11 (ix3 b s d)) = ix1 d := by
    funext a; match a with | ⟨0, _⟩ => rfl
  rw [i2, i11, e1]
  rfl

theorem proj_at (b : Fin 4) (s : Fin 8192) (C : Fin 6680) :
    val_main_v13 (F := Ideal) x0 x1 x2 (ix3 b s C) = prjS (fun k => x0 (ix3 b s k)) (fun k => x1 (ix1 k)) (fun k => x2 (ix2 k C)) := by
  rw [val_main_v13_apply]
  refine Finset.sum_congr rfl fun k _ => congrArg₂ (· * ·) ?_ ?_
  · rw [show lidx_main_v13 (ix3 b s C) k = ix3 b s k by
      funext a; match a with | ⟨0, _⟩ => rfl | ⟨1, _⟩ => rfl | ⟨2, _⟩ => rfl]
    exact h_at x0 x1 b s k
  · exact congrArg x2 (by funext a; match a with | ⟨0, _⟩ => rfl | ⟨1, _⟩ => rfl)

theorem q_ref (ch : Fin 256) (r : Fin 512) (l : Fin 128) (b : Fin 4) (s : Fin 8192) (h : b.val * 8192 + s.val = 128 * ch.val + l.val)
    (C : Fin 6680) (hC : C.val = r.val) :
    val_main_v116 (F := Ideal) x0 x1 x2 (ix3 ch r l) =
      prjS (fun k => x0 (ix3 b s k)) (fun k => x1 (ix1 k)) (fun k => x2 (ix2 k C)) * Ideal.ofBits .f32 0x3DB504F3#32 := by
  rw [val_main_v116_apply, val_main_v115_apply, val_main_v114_apply, val_main_v16_apply, val_main_v15_apply, val_main_v14_apply]
  rw [show idx_main_v14 (idx_main_v114 (idx_main_v115 (ix3 ch r l))) = ix3 b s C by
    funext a; refine Fin.ext ?_
    match a with
    | ⟨0, _⟩ => show ((ch.val * 128 + l.val) * 512 + r.val) / 4194304 = b.val; omega
    | ⟨1, _⟩ => show ((ch.val * 128 + l.val) * 512 + r.val) / 512 % 8192 = s.val; omega
    | ⟨2, _⟩ => show ((ch.val * 128 + l.val) * 512 + r.val) % 512 = C.val; omega]
  rw [proj_at]
  rfl

theorem k_ref (R : Fin 32768) (j : Fin 512) (b : Fin 4) (s : Fin 8192) (h : b.val * 8192 + s.val = R.val) (C : Fin 6680) (hC : C.val = 512 + j.val) :
    val_main_v118 (F := Ideal) x0 x1 x2 (ix2 R j) = prjS (fun k => x0 (ix3 b s k)) (fun k => x1 (ix1 k)) (fun k => x2 (ix2 k C)) := by
  rw [val_main_v118_apply, val_main_v117_apply, val_main_v17_apply]
  rw [show idx_main_v17 (idx_main_v117 (ix2 R j)) = ix3 b s C by
    funext a; refine Fin.ext ?_
    match a with
    | ⟨0, _⟩ => show (R.val * 512 + j.val) / 4194304 = b.val; omega
    | ⟨1, _⟩ => show (R.val * 512 + j.val) / 512 % 8192 = s.val; omega
    | ⟨2, _⟩ => show 512 + (R.val * 512 + j.val) % 512 = C.val; omega]
  exact proj_at x0 x1 x2 b s C

theorem v_ref (ch : Fin 256) (r : Fin 1024) (l : Fin 128) (b : Fin 4) (s : Fin 8192) (h : b.val * 8192 + s.val = 128 * ch.val + l.val)
    (C : Fin 6680) (hC : C.val = 1024 + r.val) :
    val_main_v121 (F := Ideal) x0 x1 x2 (ix3 ch r l) = prjS (fun k => x0 (ix3 b s k)) (fun k => x1 (ix1 k)) (fun k => x2 (ix2 k C)) := by
  rw [val_main_v121_apply, val_main_v120_apply, val_main_v119_apply, val_main_v18_apply]
  rw [show idx_main_v18 (idx_main_v119 (idx_main_v120 (ix3 ch r l))) = ix3 b s C by
    funext a; refine Fin.ext ?_
    match a with
    | ⟨0, _⟩ => show ((ch.val * 128 + l.val) * 1024 + r.val) / 8388608 = b.val; omega
    | ⟨1, _⟩ => show ((ch.val * 128 + l.val) * 1024 + r.val) / 1024 % 8192 = s.val; omega
    | ⟨2, _⟩ => show 1024 + ((ch.val * 128 + l.val) * 1024 + r.val) % 1024 = C.val; omega]
  exact proj_at x0 x1 x2 b s C

theorem idx_tr (ch : Fin 256) (r : Fin 1024) (l : Fin 128) (b : Fin 4) (s : Fin 8192) (h : b.val * 8192 + s.val = 128 * ch.val + l.val) :
    idx_main_v122 (idx_main_v123 (ix3 ch r l)) = ix3 b s r := by
  funext a; refine Fin.ext ?_
  match a with
  | ⟨0, _⟩ => show ((ch.val * 128 + l.val) * 1024 + r.val) / 8388608 = b.val; omega
  | ⟨1, _⟩ => show ((ch.val * 128 + l.val) * 1024 + r.val) / 1024 % 8192 = s.val; omega
  | ⟨2, _⟩ => show ((ch.val * 128 + l.val) * 1024 + r.val) % 1024 = r.val; omega

theorem z_ref (ch : Fin 256) (r : Fin 1024) (l : Fin 128) (b : Fin 4) (s : Fin 8192) (h : b.val * 8192 + s.val = 128 * ch.val + l.val)
    (C : Fin 6680) (hC : C.val = 4104 + r.val) :
    val_main_v127 (F := Ideal) x0 x1 x2 (ix3 ch r l) = siluS (prjS (fun k => x0 (ix3 b s k)) (fun k => x1 (ix1 k)) (fun k => x2 (ix2 k C))) := by
  rw [val_main_v127_apply, val_main_v126_apply, val_main_v125_apply,
    show idx_main_v125 (idx_main_v126 (ix3 ch r l)) = ix3 b s r from idx_tr ch r l b s h,
    val_main_v49_apply, val_main_v48_apply, val_main_v46_apply, val_main_v44_apply, val_main_v43_apply, val_main_v23_apply,
    show idx_main_v23 (ix3 b s r) = ix3 b s C by
      funext a; refine Fin.ext ?_
      match a with | ⟨0, _⟩ => rfl | ⟨1, _⟩ => rfl | ⟨2, _⟩ => exact hC.symm,
    proj_at]
  rfl

theorem og_ref (ch : Fin 256) (r : Fin 1024) (l : Fin 128) (b : Fin 4) (s : Fin 8192) (h : b.val * 8192 + s.val = 128 * ch.val + l.val)
    (C D : Fin 6680) (hC : C.val = 2056 + r.val) (hD : D.val = 3080 + r.val) :
    val_main_v124 (F := Ideal) x0 x1 x2 x8 (ix3 ch r l) =
      x8 (ix1 r) * sgS (prjS (fun k => x0 (ix3 b s k)) (fun k => x1 (ix1 k)) (fun k => x2 (ix2 k C))) *
        siluS (prjS (fun k => x0 (ix3 b s k)) (fun k => x1 (ix1 k)) (fun k => x2 (ix2 k D))) := by
  rw [val_main_v124_apply, val_main_v123_apply, val_main_v122_apply, idx_tr ch r l b s h,
    val_main_v42_apply, val_main_v41_apply, val_main_v40_apply, val_main_v38_apply, val_main_v36_apply, val_main_v35_apply, val_main_v22_apply,
    val_main_v34_apply, val_main_v33_apply, val_main_v32_apply, val_main_v31_apply, val_main_v29_apply, val_main_v27_apply, val_main_v26_apply,
    val_main_v21_apply,
    show idx_main_v21 (ix3 b s r) = ix3 b s C by
      funext a; refine Fin.ext ?_
      match a with | ⟨0, _⟩ => rfl | ⟨1, _⟩ => rfl | ⟨2, _⟩ => exact hC.symm,
    show idx_main_v22 (ix3 b s r) = ix3 b s D by
      funext a; refine Fin.ext ?_
      match a with | ⟨0, _⟩ => rfl | ⟨1, _⟩ => rfl | ⟨2, _⟩ => exact hD.symm,
    show idx_main_v32 (idx_main_v33 (ix3 b s r)) = ix1 r by
      funext a; match a with | ⟨0, _⟩ => rfl,
    proj_at, proj_at]
  rfl

end Cert.ProjectionsIdeal.Elem

end
-- ==== Proof.InFinal.lean ====
/- The input projections' arrays after the run are the reference's results. -/
module

public import proofs.«01_k».proof.Proof.InOuts
public import proofs.«01_k».proof.Proof.InRead
public import proofs.«01_k».proof.Proof.InRef

@[expose] public section

set_option maxRecDepth 16384

noncomputable section

namespace Cert.InProjIdeal.Final

open Idealize.ShloMosaic Idealize.ShloMosaic.TcCoe Idealize.SL.Sem Cert.InProjIdeal Cert.InProjIdeal.Gen Cert.InProjIdeal.Step
open Cert.InProjIdeal.Elem Cert.InProjIdeal.Reads Cert.InProjIdeal.Outs

variable (m : (ℓ : Loc nD τ sig) → Buf (Elt Ideal) ℓ) (c : Dev nD)

theorem idx14 : ∀ t : Fin cfg0.N, win0_14.index t = ![t.val, 0, 0] := by decide +kernel
theorem idx15 : ∀ t : Fin cfg0.N, win0_15.index t = ![t.val, 0] := by decide +kernel
theorem idx16 : ∀ t : Fin cfg0.N, win0_16.index t = ![t.val, 0, 0] := by decide +kernel
theorem idx17 : ∀ t : Fin cfg0.N, win0_17.index t = ![t.val, 0, 0] := by decide +kernel
theorem idx18 : ∀ t : Fin cfg0.N, win0_18.index t = ![t.val, 0, 0] := by decide +kernel

/-- A projection of a block's row, its operands read from the arguments. -/
theorem prj_eq (t : Fin cfg0.N) (r : Fin 1024) (b : Fin 4) (s : Fin 8192) (h : b.val * 8192 + s.val = 1024 * t.val + r.val)
    (w w' : Fin 1024 → EReal) (hw : ∀ k, w k = w' k) :
    prjS (fun k => iblk m c 0 t (ix2 r k)) (fun k => iblk m c 1 t (ix2 0 k)) w =
      prjS (fun k => m ((c : Thread nD τ).loc main_arg0) (ix3 b s k)) (fun k => m ((c : Thread nD τ).loc main_arg1) (ix1 k)) w' := by
  rw [show w = w' from funext hw]
  exact congrArg₂ (fun x n => prjS x n w') (funext fun k => x_at m c t r k b s h) (funext fun k => n_at m c t k)

theorem k_val : (dats m 0 c).arrAt 15 cfg0.N = ProjectionsIdeal.Read.val_main_v118 (F := Ideal) (m ((c : Thread nD τ).loc main_arg0)) (m ((c : Thread nD τ).loc main_arg1)) (m ((c : Thread nD τ).loc main_arg2)) := by
  refine (dats m 0 c).arrAt_eq_of_covers 15 _ (by decide +kernel) fun t hf y => ?_
  blk_simp
  rw [after0_15, outs15]
  have ht : t.val < 32 := lt_of_lt_of_eq t.isLt N_0
  obtain ⟨r, j, rfl⟩ : ∃ (r : Fin 1024) (j : Fin 512), y = ix2 r j := ⟨y 0, y 1, eq_ix2 y⟩
  have e : ((cfg0.win 15).blk t).view.emb (ix2 r j) = ix2 (⟨1024 * t.val + r.val, by omega⟩ : Fin 32768) j := by
    blk_ext [idx15]
  obtain ⟨b, s, h⟩ : ∃ (b : Fin 4) (s : Fin 8192), b.val * 8192 + s.val = 1024 * t.val + r.val :=
    ⟨⟨(1024 * t.val + r.val) / 8192, by omega⟩, ⟨(1024 * t.val + r.val) % 8192, by omega⟩, by show (1024 * t.val + r.val) / 8192 * 8192 + (1024 * t.val + r.val) % 8192 = _; omega⟩
  rw [kB_at]
  refine (prj_eq m c t r b s h _ _ fun k => k_at m c t k j ⟨512 + j.val, by omega⟩ rfl).trans ?_
  refine ((congrArg (ProjectionsIdeal.Read.val_main_v118 (F := Ideal) (m ((c : Thread nD τ).loc main_arg0)) (m ((c : Thread nD τ).loc main_arg1)) (m ((c : Thread nD τ).loc main_arg2))) e).trans ?_).symm
  exact ProjectionsIdeal.Elem.k_ref _ _ _ _ j b s h _ rfl

theorem q_val : (dats m 0 c).arrAt 14 cfg0.N = ProjectionsIdeal.Read.val_main_v116 (F := Ideal) (m ((c : Thread nD τ).loc main_arg0)) (m ((c : Thread nD τ).loc main_arg1)) (m ((c : Thread nD τ).loc main_arg2)) := by
  refine (dats m 0 c).arrAt_eq_of_covers 14 _ (by decide +kernel) fun t hf y => ?_
  blk_simp
  rw [after0_14, outs14]
  have ht : t.val < 32 := lt_of_lt_of_eq t.isLt N_0
  obtain ⟨ch, r, l, rfl⟩ : ∃ (ch : Fin 8) (r : Fin 512) (l : Fin 128), y = ix3 ch r l := ⟨y 0, y 1, y 2, eq_ix3 y⟩
  have e : ((cfg0.win 14).blk t).view.emb (ix3 ch r l) = ix3 (⟨8 * t.val + ch.val, by omega⟩ : Fin 256) r l := by
    blk_ext [idx14]
  obtain ⟨b, s, h⟩ : ∃ (b : Fin 4) (s : Fin 8192), b.val * 8192 + s.val = 1024 * t.val + (rowOf ch l).val :=
    ⟨⟨(1024 * t.val + (rowOf ch l).val) / 8192, by omega⟩, ⟨(1024 * t.val + (rowOf ch l).val) % 8192, by omega⟩,
      by show (1024 * t.val + (rowOf ch l).val) / 8192 * 8192 + (1024 * t.val + (rowOf ch l).val) % 8192 = _; omega⟩
  have h' : b.val * 8192 + s.val = 128 * (⟨8 * t.val + ch.val, by omega⟩ : Fin 256).val + l.val := by
    rw [h]; show 1024 * t.val + (128 * ch.val + l.val) = 128 * (8 * t.val + ch.val) + l.val; omega
  rw [qB_at]
  refine (congrArg (· * _) (prj_eq m c t (rowOf ch l) b s h _ _ fun k => q_at m c t k r ⟨0 + r.val, by omega⟩ rfl)).trans ?_
  refine ((congrArg (ProjectionsIdeal.Read.val_main_v116 (F := Ideal) (m ((c : Thread nD τ).loc main_arg0)) (m ((c : Thread nD τ).loc main_arg1)) (m ((c : Thread nD τ).loc main_arg2))) e).trans ?_).symm
  exact ProjectionsIdeal.Elem.q_ref _ _ _ _ r l b s h' _ (Nat.zero_add _)

theorem v_val : (dats m 0 c).arrAt 16 cfg0.N = ProjectionsIdeal.Read.val_main_v121 (F := Ideal) (m ((c : Thread nD τ).loc main_arg0)) (m ((c : Thread nD τ).loc main_arg1)) (m ((c : Thread nD τ).loc main_arg2)) := by
  refine (dats m 0 c).arrAt_eq_of_covers 16 _ (by decide +kernel) fun t hf y => ?_
  blk_simp
  rw [after0_16, outs16]
  have ht : t.val < 32 := lt_of_lt_of_eq t.isLt N_0
  obtain ⟨ch, r, l, rfl⟩ : ∃ (ch : Fin 8) (r : Fin 1024) (l : Fin 128), y = ix3 ch r l := ⟨y 0, y 1, y 2, eq_ix3 y⟩
  have e : ((cfg0.win 16).blk t).view.emb (ix3 ch r l) = ix3 (⟨8 * t.val + ch.val, by omega⟩ : Fin 256) r l := by
    blk_ext [idx16]
  obtain ⟨b, s, h⟩ : ∃ (b : Fin 4) (s : Fin 8192), b.val * 8192 + s.val = 1024 * t.val + (rowOf ch l).val :=
    ⟨⟨(1024 * t.val + (rowOf ch l).val) / 8192, by omega⟩, ⟨(1024 * t.val + (rowOf ch l).val) % 8192, by omega⟩,
      by show (1024 * t.val + (rowOf ch l).val) / 8192 * 8192 + (1024 * t.val + (rowOf ch l).val) % 8192 = _; omega⟩
  have h' : b.val * 8192 + s.val = 128 * (⟨8 * t.val + ch.val, by omega⟩ : Fin 256).val + l.val := by
    rw [h]; show 1024 * t.val + (128 * ch.val + l.val) = 128 * (8 * t.val + ch.val) + l.val; omega
  rw [vB_at]
  refine (prj_eq m c t (rowOf ch l) b s h _ _ fun k => v_at m c t k r ⟨1024 + r.val, by omega⟩ rfl).trans ?_
  refine ((congrArg (ProjectionsIdeal.Read.val_main_v121 (F := Ideal) (m ((c : Thread nD τ).loc main_arg0)) (m ((c : Thread nD τ).loc main_arg1)) (m ((c : Thread nD τ).loc main_arg2))) e).trans ?_).symm
  exact ProjectionsIdeal.Elem.v_ref _ _ _ _ r l b s h' _ rfl

theorem og_val : (dats m 0 c).arrAt 17 cfg0.N = ProjectionsIdeal.Read.val_main_v124 (F := Ideal) (m ((c : Thread nD τ).loc main_arg0)) (m ((c : Thread nD τ).loc main_arg1)) (m ((c : Thread nD τ).loc main_arg2)) (m ((c : Thread nD τ).loc main_arg8)) := by
  refine (dats m 0 c).arrAt_eq_of_covers 17 _ (by decide +kernel) fun t hf y => ?_
  blk_simp
  rw [after0_17, outs17]
  have ht : t.val < 32 := lt_of_lt_of_eq t.isLt N_0
  obtain ⟨ch, r, l, rfl⟩ : ∃ (ch : Fin 8) (r : Fin 1024) (l : Fin 128), y = ix3 ch r l := ⟨y 0, y 1, y 2, eq_ix3 y⟩
  have e : ((cfg0.win 17).blk t).view.emb (ix3 ch r l) = ix3 (⟨8 * t.val + ch.val, by omega⟩ : Fin 256) r l := by
    blk_ext [idx17]
  obtain ⟨b, s, h⟩ : ∃ (b : Fin 4) (s : Fin 8192), b.val * 8192 + s.val = 1024 * t.val + (rowOf ch l).val :=
    ⟨⟨(1024 * t.val + (rowOf ch l).val) / 8192, by omega⟩, ⟨(1024 * t.val + (rowOf ch l).val) % 8192, by omega⟩,
      by show (1024 * t.val + (rowOf ch l).val) / 8192 * 8192 + (1024 * t.val + (rowOf ch l).val) % 8192 = _; omega⟩
  have h' : b.val * 8192 + s.val = 128 * (⟨8 * t.val + ch.val, by omega⟩ : Fin 256).val + l.val := by
    rw [h]; show 1024 * t.val + (128 * ch.val + l.val) = 128 * (8 * t.val + ch.val) + l.val; omega
  rw [ogB_at]
  refine (congrArg₂ (fun a b : EReal => a * b) (congrArg₂ (fun a b : EReal => a * b) (mn_at m c t r)
      (congrArg sgS (prj_eq m c t (rowOf ch l) b s h _ _ fun k => o_at m c t k r ⟨2056 + r.val, by omega⟩ rfl)))
    (congrArg siluS (prj_eq m c t (rowOf ch l) b s h _ _ fun k => zm_at m c t k r ⟨3080 + r.val, by omega⟩ rfl))).trans ?_
  refine ((congrArg (ProjectionsIdeal.Read.val_main_v124 (F := Ideal) (m ((c : Thread nD τ).loc main_arg0)) (m ((c : Thread nD τ).loc main_arg1)) (m ((c : Thread nD τ).loc main_arg2)) (m ((c : Thread nD τ).loc main_arg8))) e).trans ?_).symm
  exact ProjectionsIdeal.Elem.og_ref _ _ _ _ _ r l b s h' _ _ rfl rfl

theorem z_val : (dats m 0 c).arrAt 18 cfg0.N = ProjectionsIdeal.Read.val_main_v127 (F := Ideal) (m ((c : Thread nD τ).loc main_arg0)) (m ((c : Thread nD τ).loc main_arg1)) (m ((c : Thread nD τ).loc main_arg2)) := by
  refine (dats m 0 c).arrAt_eq_of_covers 18 _ (by decide +kernel) fun t hf y => ?_
  blk_simp
  rw [after0_18, outs18]
  have ht : t.val < 32 := lt_of_lt_of_eq t.isLt N_0
  obtain ⟨ch, r, l, rfl⟩ : ∃ (ch : Fin 8) (r : Fin 1024) (l : Fin 128), y = ix3 ch r l := ⟨y 0, y 1, y 2, eq_ix3 y⟩
  have e : ((cfg0.win 18).blk t).view.emb (ix3 ch r l) = ix3 (⟨8 * t.val + ch.val, by omega⟩ : Fin 256) r l := by
    blk_ext [idx18]
  obtain ⟨b, s, h⟩ : ∃ (b : Fin 4) (s : Fin 8192), b.val * 8192 + s.val = 1024 * t.val + (rowOf ch l).val :=
    ⟨⟨(1024 * t.val + (rowOf ch l).val) / 8192, by omega⟩, ⟨(1024 * t.val + (rowOf ch l).val) % 8192, by omega⟩,
      by show (1024 * t.val + (rowOf ch l).val) / 8192 * 8192 + (1024 * t.val + (rowOf ch l).val) % 8192 = _; omega⟩
  have h' : b.val * 8192 + s.val = 128 * (⟨8 * t.val + ch.val, by omega⟩ : Fin 256).val + l.val := by
    rw [h]; show 1024 * t.val + (128 * ch.val + l.val) = 128 * (8 * t.val + ch.val) + l.val; omega
  rw [zB_at]
  refine (congrArg siluS (prj_eq m c t (rowOf ch l) b s h _ _ fun k => zs_at m c t k r ⟨4104 + r.val, by omega⟩ rfl)).trans ?_
  refine ((congrArg (ProjectionsIdeal.Read.val_main_v127 (F := Ideal) (m ((c : Thread nD τ).loc main_arg0)) (m ((c : Thread nD τ).loc main_arg1)) (m ((c : Thread nD τ).loc main_arg2))) e).trans ?_).symm
  exact ProjectionsIdeal.Elem.z_ref _ _ _ _ r l b s h' _ rfl

end Cert.InProjIdeal.Final

end
-- ==== Proof.InConv.lean ====
/- The causal convolution of the input projections' body: what its line buffer holds over one half block's 256 channels, the
   eight rows carried from before and the half block's 512 rows, and what the loads at an offset of one, two and three rows read. -/
module

public import proofs.«01_k».proof.Proof.InStep
public import Idealize.ShloMosaic.Lib.Pointwise
public import Idealize.ShloMosaic.PureOps.Ideal.Laws

@[expose] public section

set_option maxRecDepth 16384

noncomputable section

namespace Cert.InProjIdeal.Conv

open Idealize.ShloMosaic Cert.InProjIdeal Cert.InProjIdeal.Gen Cert.InProjIdeal.Step

variable {F : FTy → Type} [FloatOps F]

theorem consSz (i : Fin 2) : (![1, 520, 256] : Fin 3 → Nat) i.succ = S520x256.size i := by
  match i with
  | ⟨0, _⟩ => rfl
  | ⟨1, _⟩ => rfl

@[reducible] def slot (n : Nat) : Rect S2x520x256 :=
  Rect.unit ![n % 2, 0, 0] S1x520x256.size (inb3 (by omega) (by omega) (by omega))
@[reducible] def rbt : Rect S520x256 := Rect.unit ![8, 0] S512x256.size (inb2 (by omega) (by omega))
@[reducible] def rbc : Rect S520x256 := Rect.unit ![0, 0] S8x256.size (inb2 (by omega) (by omega))
@[reducible] def rlt (t : Nat) : Rect S520x256 := Rect.unit ![8 - t, 0] S512x256.size (inb2 (by omega) (by omega))
@[reducible] def rlc : Rect S520x256 := Rect.unit ![512, 0] S8x256.size (inb2 (by omega) (by omega))

/-- The half block's rows in slot `n` of the buffer. -/
@[reducible] def bt (n : Nat) : Rect S2x520x256 := (slot n).within (rbt.consLift ![1, 520, 256] rfl consSz) (fun _ => rfl)
/-- The carried rows in slot `n`. -/
@[reducible] def bc (n : Nat) : Rect S2x520x256 := (slot n).within (rbc.consLift ![1, 520, 256] rfl consSz) (fun _ => rfl)
/-- The rows read `t` rows earlier. -/
@[reducible] def lt (n t : Nat) : LoadRect S2x520x256 :=
  (slot n).withinL ((rlt t).toLoadRect.consLift ![1, 520, 256] rfl consSz) (fun _ => rfl)
/-- The rows to carry on. -/
@[reducible] def lc (n : Nat) : LoadRect S2x520x256 :=
  (slot n).withinL (rlc.toLoadRect.consLift ![1, 520, 256] rfl consSz) (fun _ => rfl)

def pbt (n : Nat) (u : FVec F S512x256 .f32) : View.Piece (Elt F) S2x520x256 .f32 :=
  ⟨bt n, Rect.payAlong (rbt.numel_consLift ![1, 520, 256] rfl consSz) u⟩
def pbc (n : Nat) (u : FVec F S8x256 .f32) : View.Piece (Elt F) S2x520x256 .f32 :=
  ⟨bc n, Rect.payAlong (rbc.numel_consLift ![1, 520, 256] rfl consSz) u⟩

/-- The rows of a half block `t` rows earlier: of the half block, or of the carried ones. -/
def lagT (u : FVec F S512x256 .f32) (ci : FVec F S8x256 .f32) (t : Nat) (ht : t < 4) : FVec F S512x256 .f32 := fun y =>
  if h : t ≤ (y 0).val then u (ix2 (⟨(y 0).val - t, lt_of_le_of_lt (Nat.sub_le _ _) (y 0).isLt⟩ : Fin 512) (y 1))
  else ci (ix2 (⟨8 - t + (y 0).val, by omega⟩ : Fin 8) (y 1))
/-- The last eight rows. -/
def cutC (u : FVec F S512x256 .f32) : FVec F S8x256 .f32 := fun y =>
  u (ix2 (⟨504 + (y 0).val, by have : (y 0).val < 8 := (y 0).isLt; omega⟩ : Fin 512) (y 1))

theorem emb_bt (n : Nat) (p : Fin 2) (hp : p.val = n % 2) (r : Fin 512) (j : Fin 256) (R : Fin 520) (hR : R.val = 8 + r.val) :
    (bt n).emb (ix3 (0 : Fin 1) r j) = (ix3 p R j : S2x520x256.Idx) := by
  funext a
  refine Fin.ext ?_
  match a with
  | ⟨0, _⟩ => show n % 2 + 0 + 1 * 0 = p.val; omega
  | ⟨1, _⟩ => show 0 + 8 + 1 * r.val = R.val; omega
  | ⟨2, _⟩ => show 0 + 0 + 1 * j.val = j.val; omega

theorem emb_bc (n : Nat) (p : Fin 2) (hp : p.val = n % 2) (r : Fin 8) (j : Fin 256) (R : Fin 520) (hR : R.val = r.val) :
    (bc n).emb (ix3 (0 : Fin 1) r j) = (ix3 p R j : S2x520x256.Idx) := by
  funext a
  refine Fin.ext ?_
  match a with
  | ⟨0, _⟩ => show n % 2 + 0 + 1 * 0 = p.val; omega
  | ⟨1, _⟩ => show 0 + 0 + 1 * r.val = R.val; omega
  | ⟨2, _⟩ => show 0 + 0 + 1 * j.val = j.val; omega

/-- The buffer's rows from the eighth on are the half block's. -/
theorem buf_hi (n : Nat) (p : Fin 2) (hp : p.val = n % 2) (u : FVec F S512x256 .f32) (ci : FVec F S8x256 .f32)
    (L : List (View.Piece (Elt F) S2x520x256 .f32)) (r : Fin 512) (j : Fin 256) (R : Fin 520) (hR : R.val = 8 + r.val) :
    View.canon (pbt n u :: pbc n ci :: L) (ix3 p R j) = u (ix2 r j) := by
  rw [← emb_bt n p hp r j R hR]
  refine (View.canon_cons_emb (bt n) _ _ _).trans ?_
  refine Rect.payAlong_consLift rbt ![1, 520, 256] rfl consSz u _ _ (ix2 r j) fun i => ?_
  match i with
  | ⟨0, _⟩ => rfl
  | ⟨1, _⟩ => rfl

/-- and the first eight the carried ones. -/
theorem buf_lo (n : Nat) (p : Fin 2) (hp : p.val = n % 2) (u : FVec F S512x256 .f32) (ci : FVec F S8x256 .f32)
    (L : List (View.Piece (Elt F) S2x520x256 .f32)) (r : Fin 8) (j : Fin 256) (R : Fin 520) (hR : R.val = r.val) :
    View.canon (pbt n u :: pbc n ci :: L) (ix3 p R j) = ci (ix2 r j) := by
  rw [show pbt n u = ⟨bt n, (pbt n u).2⟩ from rfl, View.canon_cons_of_not_mem]
  · rw [← emb_bc n p hp r j R hR]
    refine (View.canon_cons_emb (bc n) _ _ _).trans ?_
    refine Rect.payAlong_consLift rbc ![1, 520, 256] rfl consSz ci _ _ (ix2 r j) fun i => ?_
    match i with
    | ⟨0, _⟩ => rfl
    | ⟨1, _⟩ => rfl
  · intro hm
    obtain ⟨x, hx⟩ := (bt n).mem_set.mp hm ⟨1, by decide⟩
    have h2 : R.val = 0 + 8 + 1 * x := hx.2
    omega

theorem lag_eq (n t : Nat) (ht : t < 4) (u : FVec F S512x256 .f32) (ci : FVec F S8x256 .f32) (L : List (View.Piece (Elt F) S2x520x256 .f32))
    {κ : Kind} {sp : Space} (v : View sig κ sp S2x520x256 .f32)
    (hR : (rlt t).toLoadRect.shape.numel = (lt n t).shape.numel) :
    (LoadRect.valAlong hR (v.readCov (pbt n u :: pbc n ci :: L) (lt n t)) : FVec F S512x256 .f32) = lagT u ci t ht := by
  funext y
  obtain ⟨r, j, rfl⟩ : ∃ (r : Fin 512) (j : Fin 256), y = ix2 r j := ⟨y 0, y 1, eq_ix2 y⟩
  rw [View.readCov_eq_canon']
  have hx : Shape.reshapeEquiv hR (ix2 r j) = Fin.cons ⟨0, Nat.one_pos⟩ (ix2 r j) :=
    Shape.reshapeEquiv_cons_one (d := (rlt t).toLoadRect.size) _ _
  have e : (lt n t).idx (Shape.reshapeEquiv hR (ix2 r j)) = (ix3 (⟨n % 2, by omega⟩ : Fin 2) (⟨8 - t + r.val, by omega⟩ : Fin 520) j : S2x520x256.Idx) := by
    rw [hx]
    funext a
    refine Fin.ext ?_
    match a with
    | ⟨0, _⟩ => show n % 2 + 0 + 1 * 0 = n % 2; omega
    | ⟨1, _⟩ => show 0 + (8 - t) + 1 * r.val = 8 - t + r.val; omega
    | ⟨2, _⟩ => show 0 + 0 + 1 * j.val = j.val; omega
  refine (congrArg _ e).trans ?_
  by_cases h : t ≤ r.val
  · refine (buf_hi n _ rfl u ci L (⟨r.val - t, by omega⟩ : Fin 512) j _ ?_).trans ?_
    · show 8 - t + r.val = 8 + (r.val - t); omega
    · have e : lagT u ci t ht (ix2 r j) = if h : t ≤ r.val then u (ix2 (⟨r.val - t, by omega⟩ : Fin 512) j) else ci (ix2 (⟨8 - t + r.val, by omega⟩ : Fin 8) j) := rfl
      rw [e, dif_pos h]
  · refine (buf_lo n _ rfl u ci L (⟨8 - t + r.val, by omega⟩ : Fin 8) j _ rfl).trans ?_
    have e : lagT u ci t ht (ix2 r j) = if h : t ≤ r.val then u (ix2 (⟨r.val - t, by omega⟩ : Fin 512) j) else ci (ix2 (⟨8 - t + r.val, by omega⟩ : Fin 8) j) := rfl
    rw [e, dif_neg h]

theorem cut_eq (n : Nat) (u : FVec F S512x256 .f32) (ci : FVec F S8x256 .f32) (L : List (View.Piece (Elt F) S2x520x256 .f32))
    {κ : Kind} {sp : Space} (v : View sig κ sp S2x520x256 .f32)
    (hR : rlc.toLoadRect.shape.numel = (lc n).shape.numel) :
    (LoadRect.valAlong hR (v.readCov (pbt n u :: pbc n ci :: L) (lc n)) : FVec F S8x256 .f32) = cutC u := by
  funext y
  obtain ⟨r, j, rfl⟩ : ∃ (r : Fin 8) (j : Fin 256), y = ix2 r j := ⟨y 0, y 1, eq_ix2 y⟩
  rw [View.readCov_eq_canon']
  have hx : Shape.reshapeEquiv hR (ix2 r j) = Fin.cons ⟨0, Nat.one_pos⟩ (ix2 r j) :=
    Shape.reshapeEquiv_cons_one (d := rlc.toLoadRect.size) _ _
  have e : (lc n).idx (Shape.reshapeEquiv hR (ix2 r j)) = (ix3 (⟨n % 2, by omega⟩ : Fin 2) (⟨512 + r.val, by omega⟩ : Fin 520) j : S2x520x256.Idx) := by
    rw [hx]
    funext a
    refine Fin.ext ?_
    match a with
    | ⟨0, _⟩ => show n % 2 + 0 + 1 * 0 = n % 2; omega
    | ⟨1, _⟩ => show 0 + 512 + 1 * r.val = 512 + r.val; omega
    | ⟨2, _⟩ => show 0 + 0 + 1 * j.val = j.val; omega
  refine (congrArg _ e).trans ?_
  exact buf_hi n _ rfl u ci L (⟨504 + r.val, by omega⟩ : Fin 512) j _ (by show 512 + r.val = 8 + (504 + r.val); omega)

/-! ### The tiles stored -/

/-- Rows times a block of the convolution's columns. -/
def uT (xn : FVec F S512x1024 .bf16) (w : FVec F S1024x256 .bf16) : FVec F S512x256 .f32 := k0_pay8 xn w
/-- The convolution of a half block's 256 channels, its gate applied: the bias, the four taps' weights, the rows at each tap. -/
def cvT (cb w3 w2 w1 w0 : FVec F S1x256 .f32) (l0 l1 l2 l3 : FVec F S512x256 .f32) : FVec F S512x256 .bf16 :=
  have a0 : FVec F S512x256 .f32 := addf (broadcastTo S512x256 (shapeCast S1x256 cb shapeCasts_S1x256_S1x256) broadcasts_S1x256_S512x256)
    (mulf (broadcastTo S512x256 (shapeCast S1x256 w3 shapeCasts_S1x256_S1x256) broadcasts_S1x256_S512x256) l0)
  have a1 : FVec F S512x256 .f32 := addf a0 (mulf (broadcastTo S512x256 (shapeCast S1x256 w2 shapeCasts_S1x256_S1x256) broadcasts_S1x256_S512x256) l1)
  have a2 : FVec F S512x256 .f32 := addf a1 (mulf (broadcastTo S512x256 (shapeCast S1x256 w1 shapeCasts_S1x256_S1x256) broadcasts_S1x256_S512x256) l2)
  have a3 : FVec F S512x256 .f32 := addf a2 (mulf (broadcastTo S512x256 (shapeCast S1x256 w0 shapeCasts_S1x256_S1x256) broadcasts_S1x256_S512x256) l3)
  truncf .bf16 (mulf a3 (divf (broadcast S512x256 (Scalar.ofBits .f32 0x3F800000#32))
    (addf (broadcast S512x256 (Scalar.ofBits .f32 0x3F800000#32)) (exp (subf (broadcast S512x256 (Scalar.ofBits .f32 0x00000000#32)) a3))))) bitsLt_bf16_f32
/-- One chunk of it, transposed. -/
def xcutT (c : Fin 4) (v : FVec F S512x256 .bf16) : FVec F S1x256x128 .bf16 :=
  shapeCast S1x256x128 (extractStridedSlice S256x128 ![0, 128 * c.val] (transpose S256x512 [1, 0] v transposes_S512x256_p1_0_S256x512)
    ⟨rfl, inb2 (by omega) (by omega)⟩) shapeCasts_S256x128_S1x256x128

/-- The carried rows' stores, by blocks of 256 channels, over what the buffer held before. -/
def caL (u : Nat → FVec F S512x256 .f32) (L0 : List (View.Piece (Elt F) S8x1536 .f32)) : Nat → List (View.Piece (Elt F) S8x1536 .f32)
  | 0 => L0
  | n + 1 => ⟨Rect.unit ![0, 256 * (n % 6)] S8x256.size (inb2 (by omega) (by omega)), cutC (u n)⟩ :: caL u L0 n

@[reducible] def rcc (n : Nat) : Rect S8x1536 := Rect.unit ![0, 256 * (n % 6)] S8x256.size (inb2 (by omega) (by omega))

theorem mem_rcc {n : Nat} {y : S8x1536.Idx} (h : y ∈ (rcc n).set) : 256 * (n % 6) ≤ (y 1).val ∧ (y 1).val < 256 * (n % 6) + 256 :=
  (Rect.mem_set_unit (s := S8x1536) (off := ![0, 256 * (n % 6)]) (size := S8x256.size) (inb := inb2 (m := 8) (n := 1536) (p := 8) (q := 256) (a := 0) (b := 256 * (n % 6)) (by omega) (by omega))).mp h (1 : Fin 2)
theorem rcc_lo (n : Nat) (y : Shape.Idx ⟨2, S8x256.size⟩) :
    256 * (n % 6) ≤ ((rcc n).idx y 1).val ∧ ((rcc n).idx y 1).val < 256 * (n % 6) + 256 := by
  have h : (y 1).val < 256 := (y 1).isLt
  have e : ((rcc n).idx y 1).val = 256 * (n % 6) + 1 * (y 1).val := rfl
  omega

/-- A block not carried over yet still holds what the buffer held before. -/
theorem caL_old (u : Nat → FVec F S512x256 .f32) (L0 : List (View.Piece (Elt F) S8x1536 .f32)) (k : Nat) (hk : k < 6)
    (y : Shape.Idx ⟨2, S8x256.size⟩) : ∀ N, N ≤ k → View.canon (caL u L0 N) ((rcc k).idx y) = View.canon L0 ((rcc k).idx y) := by
  intro N
  induction N with
  | zero => intro _; rfl
  | succ n ih =>
    intro hN
    rw [show caL u L0 (n + 1) = ⟨rcc n, cutC (u n)⟩ :: caL u L0 n from rfl, View.canon_cons_of_not_mem]
    · exact ih (by omega)
    · intro hm
      have h1 := mem_rcc hm
      have h2 := rcc_lo k y
      omega

/-- A block carried over holds the last eight rows. -/
theorem caL_new (u : Nat → FVec F S512x256 .f32) (L0 : List (View.Piece (Elt F) S8x1536 .f32)) (k : Nat)
    (y : Shape.Idx ⟨2, S8x256.size⟩) : ∀ N, k < N → N ≤ k + 6 → View.canon (caL u L0 N) ((rcc k).idx y) = cutC (u k) y := by
  intro N
  induction N with
  | zero => intro h; omega
  | succ n ih =>
    intro hk hN
    by_cases e : n = k
    · subst e
      exact View.canon_cons_emb (rcc n) _ _ y
    · rw [show caL u L0 (n + 1) = ⟨rcc n, cutC (u n)⟩ :: caL u L0 n from rfl, View.canon_cons_of_not_mem]
      · exact ih (by omega) (by omega)
      · intro hm
        have h1 := mem_rcc hm
        have h2 := rcc_lo k y
        omega

def lagR (n t : Nat) {κ : Kind} {sp : Space} (v : View sig κ sp S2x520x256 .f32) (L : List (View.Piece (Elt F) S2x520x256 .f32)) :
    FVec F S512x256 .f32 := LoadRect.valAlong ((rlt t).toLoadRect.numel_consLift ![1, 520, 256] rfl consSz) (v.readCov L (lt n t))
def cutR (n : Nat) {κ : Kind} {sp : Space} (v : View sig κ sp S2x520x256 .f32) (L : List (View.Piece (Elt F) S2x520x256 .f32)) :
    FVec F S8x256 .f32 := k0_pay11 (LoadRect.valAlong (rlc.toLoadRect.numel_consLift ![1, 520, 256] rfl consSz) (v.readCov L (lc n)))
theorem lagR_eq (n t : Nat) (ht : t < 4) (u : FVec F S512x256 .f32) (ci : FVec F S8x256 .f32) (L : List (View.Piece (Elt F) S2x520x256 .f32))
    {κ : Kind} {sp : Space} (v : View sig κ sp S2x520x256 .f32) : lagR n t v (pbt n u :: pbc n ci :: L) = lagT u ci t ht := lag_eq n t ht u ci L v _
theorem cutR_eq (n : Nat) (u : FVec F S512x256 .f32) (ci : FVec F S8x256 .f32) (L : List (View.Piece (Elt F) S2x520x256 .f32))
    {κ : Kind} {sp : Space} (v : View sig κ sp S2x520x256 .f32) : cutR n v (pbt n u :: pbc n ci :: L) = cutC u :=
  (shapeCast_self _ _).trans (cut_eq n u ci L v _)

/-- The stores of the convolution's first part: by half block, by 256 channels, by chunk. -/
def xsL (g : Nat → Nat → FVec F S512x256 .bf16) : Nat → List (View.Piece (Elt F) S8x1024x128 .bf16) :=
  tiles S1x256x128.size (fun n => ![4 * (f2 (n / 16)).val + (f4 n).val, 256 * (f4 (n / 4)).val, 0])
    (fun n => inb3 (by omega) (by omega) (by omega)) (fun n => xcutT (f4 n) (g (n / 16) (n / 4 % 4)))
/-- The stores of its other two parts: by half block. -/
def bmL (g : Nat → FVec F S512x256 .bf16) : Nat → List (View.Piece (Elt F) S1024x256 .bf16) :=
  tiles S512x256.size (fun n => ![512 * (f2 n).val, 0]) (fun n => inb2 (by omega) (by omega)) g

/-- The small gates of a half block, from its rows, the weights and the bias. -/
def gT (xn : FVec F S512x1024 .bf16) (w : FVec F S512x1024 .bf16) (wg : FVec F S32x1024 .bf16) (gb : FVec F S32x1 .f32) : FVec F S32x512 .f32 :=
  have r : FVec F S544x512 .f32 := k0_pay30 w wg xn
  k0_pay45 (k0_pay38 r gb) (k0_pay39 r gb) k0_pay40 k0_pay41 k0_pay42 (k0_pay43 r gb) (k0_pay44 r gb)
def gcutT (c : Fin 4) (v : FVec F S32x512 .f32) : FVec F S1x32x128 .f32 :=
  shapeCast S1x32x128 (extractStridedSlice S32x128 ![0, 128 * c.val] v ⟨rfl, inb2 (by omega) (by omega)⟩) shapeCasts_S32x128_S1x32x128
def gtL (g : Nat → FVec F S32x512 .f32) : Nat → List (View.Piece (Elt F) S8x32x128 .f32) :=
  tiles S1x32x128.size (fun n => ![4 * (f2 (n / 4)).val + (f4 n).val, 0, 0]) (fun n => inb3 (by omega) (by omega) (by omega))
    (fun n => gcutT (f4 n) (g (n / 4)))

/-- A block of the convolution's weights' columns. -/
def wX (w : Vec F S1024x1536 .bf16) (n : Nat) : FVec F S1024x256 .bf16 :=
  View.ld w (Rect.unit ![0, 256 * (n % 6)] S1024x256.size (inb2 (by omega) (by omega)) : Rect S1024x1536)
/-- A block of one tap's weights, of the bias, of the carried rows. -/
def wT (w : Vec F S4x1536 .f32) (t : Fin 4) (n : Nat) : FVec F S1x256 .f32 :=
  View.ld w (Rect.unit ![t.val, 256 * (n % 6)] S1x256.size (inb2 (by omega) (by omega)) : Rect S4x1536)
def wB (w : Vec F S1x1536 .f32) (n : Nat) : FVec F S1x256 .f32 :=
  View.ld w (Rect.unit ![0, 256 * (n % 6)] S1x256.size (inb2 (by omega) (by omega)) : Rect S1x1536)
def wC (w : Vec F S8x1536 .f32) (n : Nat) : FVec F S8x256 .f32 :=
  View.ld w (Rect.unit ![0, 256 * (n % 6)] S8x256.size (inb2 (by omega) (by omega)) : Rect S8x1536)
def wgb (w : Vec F S32x1 .f32) : FVec F S32x1 .f32 :=
  View.ld w (Rect.unit ![0, 0] S32x1.size (inb2 (by omega) (by omega)) : Rect S32x1)

/-- The projection that block `n` of the convolution puts into the buffer. -/
def uB (x0 : Vec F S1024x1024 .f32) (x1 : Vec F S1x1024 .f32) (w : Vec F S1024x1536 .bf16) (n : Nat) : FVec F S512x256 .f32 :=
  uT (XB x0 x1 (f2 (n / 6))) (wX w n)
/-- The rows it carries in: the ones carried into the call, and after that the first half block's last ones. -/
def ciB (x0 : Vec F S1024x1024 .f32) (x1 : Vec F S1x1024 .f32) (w : Vec F S1024x1536 .bf16) (xc : Vec F S8x1536 .f32) (n : Nat) : FVec F S8x256 .f32 :=
  if n < 6 then wC xc n else cutC (uB x0 x1 w (n - 6))
/-- What block `n` computes. -/
def cvB (x0 : Vec F S1024x1024 .f32) (x1 : Vec F S1x1024 .f32) (w : Vec F S1024x1536 .bf16) (cw : Vec F S4x1536 .f32) (cb : Vec F S1x1536 .f32)
    (xc : Vec F S8x1536 .f32) (n : Nat) : FVec F S512x256 .bf16 :=
  cvT (wB cb n) (wT cw 3 n) (wT cw 2 n) (wT cw 1 n) (wT cw 0 n)
    (lagT (uB x0 x1 w n) (ciB x0 x1 w xc n) 0 (by decide)) (lagT (uB x0 x1 w n) (ciB x0 x1 w xc n) 1 (by decide))
    (lagT (uB x0 x1 w n) (ciB x0 x1 w xc n) 2 (by decide)) (lagT (uB x0 x1 w n) (ciB x0 x1 w xc n) 3 (by decide))

theorem ciB_lo (x0 : Vec F S1024x1024 .f32) (x1 : Vec F S1x1024 .f32) (w : Vec F S1024x1536 .bf16) (xc : Vec F S8x1536 .f32) (n : Nat) (h : n < 6) :
    wC xc n = ciB x0 x1 w xc n := (if_pos h).symm
/-- What a load of the carried rows reads, once they are the first half block's. -/
theorem ci_read (x0 : Vec F S1024x1024 .f32) (x1 : Vec F S1x1024 .f32) (w : Vec F S1024x1536 .bf16) (xc : Vec F S8x1536 .f32)
    (L0 : List (View.Piece (Elt F) S8x1536 .f32)) {κ : Kind} {sp : Space} (v : View sig κ sp S8x1536 .f32) (n : Nat) (h : ¬ n < 6) :
    k0_pay7 (v.readCov (caL (uB x0 x1 w) L0 n) (rcc n).toLoadRect) = ciB x0 x1 w xc n := by
  refine (shapeCast_self _ _).trans ?_
  rw [View.readCov_eq_canon']
  rw [show ciB x0 x1 w xc n = cutC (uB x0 x1 w (n - 6)) from if_neg h]
  funext y
  refine Eq.trans ?_ (caL_new (uB x0 x1 w) L0 (n - 6) y n (by omega) (by omega))
  show View.canon _ ((rcc n).idx y) = _
  refine congrArg _ ?_
  funext a
  refine Fin.ext ?_
  have : n % 6 = (n - 6) % 6 := by omega
  match a with
  | ⟨0, _⟩ => rfl
  | ⟨1, _⟩ => show 256 * (n % 6) + 1 * (y 1).val = 256 * ((n - 6) % 6) + 1 * (y 1).val; rw [this]
/-- and while they are still what the buffer held before. -/
theorem ci_read0 (x0 : Vec F S1024x1024 .f32) (x1 : Vec F S1x1024 .f32) (w : Vec F S1024x1536 .bf16)
    (L0 : List (View.Piece (Elt F) S8x1536 .f32)) {κ : Kind} {sp : Space} (v : View sig κ sp S8x1536 .f32) (n : Nat) (h : n < 6) :
    k0_pay7 (v.readCov (caL (uB x0 x1 w) L0 n) (rcc n).toLoadRect) = ciB x0 x1 w (View.canon L0) n := by
  refine (shapeCast_self _ _).trans ?_
  rw [View.readCov_eq_canon']
  rw [show ciB x0 x1 w (View.canon L0) n = wC (View.canon L0) n from if_pos h]
  funext y
  exact caL_old (uB x0 x1 w) L0 n h y n (le_refl _)

/-- The carried rows at the start of a sequence. -/
def zeroC : Vec F S8x1536 .f32 := View.canon [⟨Rect.unit ![0, 0] S8x1536.size (inb2 (by omega) (by omega)), k0_pay5⟩]

def xsB (x0 : Vec F S1024x1024 .f32) (x1 : Vec F S1x1024 .f32) (w : Vec F S1024x1536 .bf16) (cw : Vec F S4x1536 .f32) (cb : Vec F S1x1536 .f32)
    (xc : Vec F S8x1536 .f32) := xsL (fun h j => cvB x0 x1 w cw cb xc (6 * h + j)) 32
def bmB (x0 : Vec F S1024x1024 .f32) (x1 : Vec F S1x1024 .f32) (w : Vec F S1024x1536 .bf16) (cw : Vec F S4x1536 .f32) (cb : Vec F S1x1536 .f32)
    (xc : Vec F S8x1536 .f32) := bmL (fun h => cvB x0 x1 w cw cb xc (6 * h + 4)) 2
def cmB (x0 : Vec F S1024x1024 .f32) (x1 : Vec F S1x1024 .f32) (w : Vec F S1024x1536 .bf16) (cw : Vec F S4x1536 .f32) (cb : Vec F S1x1536 .f32)
    (xc : Vec F S8x1536 .f32) := bmL (fun h => cvB x0 x1 w cw cb xc (6 * h + 5)) 2
def gtB (x0 : Vec F S1024x1024 .f32) (x1 : Vec F S1x1024 .f32) (w : Vec F S512x1024 .bf16) (g : Vec F S32x1024 .bf16) (gb : Vec F S32x1 .f32) :=
  gtL (fun h => gT (XB x0 x1 (f2 h)) (wQ w) (wG g) (wgb gb)) 8

end Cert.InProjIdeal.Conv

end
-- ==== Proof.InConvA.lean ====
/- Case A of the input projections' body: the convolution's stores, the carried rows and the small gates are those of `InConv`. -/
module

public import proofs.«01_k».proof.Proof.InConv
public import proofs.«01_k».proof.Proof.InCaseA

@[expose] public section

set_option maxRecDepth 16384

noncomputable section

namespace Cert.InProjIdeal.ConvA

open Idealize.ShloMosaic Idealize.ShloMosaic.TcCoe Idealize.SL.Sem Cert.InProjIdeal Cert.InProjIdeal.Gen Cert.InProjIdeal.Step Cert.InProjIdeal.Conv

variable {F : FTy → Type} [FloatOps F]

variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x1536 .bf16) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S32x1024 .bf16) (harg10 : arg10.IsWhole) (arg11 : Memref sig .tc .vmem S32x1 .f32) (harg11 : arg11.IsWhole) (arg12 : Memref sig .tc .vmem S4x1536 .f32) (harg12 : arg12.IsWhole) (arg13 : Memref sig .tc .vmem S1x1536 .f32) (harg13 : arg13.IsWhole) (arg14 : Memref sig .tc .vmem S1024x1 .f32) (harg14 : arg14.IsWhole) (arg15 : Memref sig .tc .vmem S8x512x128 .bf16) (harg15 : arg15.IsWhole) (arg16 : Memref sig .tc .vmem S1024x512 .bf16) (harg16 : arg16.IsWhole) (arg17 : Memref sig .tc .vmem S8x1024x128 .bf16) (harg17 : arg17.IsWhole) (arg18 : Memref sig .tc .vmem S8x1024x128 .bf16) (harg18 : arg18.IsWhole) (arg19 : Memref sig .tc .vmem S8x1024x128 .bf16) (harg19 : arg19.IsWhole) (arg20 : Memref sig .tc .vmem S8x1024x128 .bf16) (harg20 : arg20.IsWhole) (arg21 : Memref sig .tc .vmem S1024x256 .bf16) (harg21 : arg21.IsWhole) (arg22 : Memref sig .tc .vmem S1024x256 .bf16) (harg22 : arg22.IsWhole) (arg23 : Memref sig .tc .vmem S8x32x128 .f32) (harg23 : arg23.IsWhole) (arg24 : Memref sig .tc .vmem S1024x1024 .bf16) (harg24 : arg24.IsWhole) (arg25 : Memref sig .tc .vmem S2x520x256 .f32) (harg25 : arg25.IsWhole) (arg26 : Memref sig .tc .vmem S8x1536 .f32) (harg26 : arg26.IsWhole) (hc0 : cond0_0 i)
    (x0 : Vec F S1024x1024 .f32) (x1 : Vec F S1x1024 .f32) (x2 : Vec F S1024x512 .bf16) (x3 : Vec F S1024x1536 .bf16) (x4 : Vec F S512x1024 .bf16) (x5 : Vec F S1024x1024 .bf16) (x6 : Vec F S1024x1024 .bf16) (x7 : Vec F S1024x1024 .bf16) (x8 : Vec F S1024x1024 .bf16) (x9 : Vec F S32x1024 .bf16) (x10 : Vec F S32x1 .f32) (x11 : Vec F S4x1536 .f32) (x12 : Vec F S1x1536 .f32) (x13 : Vec F S1024x1 .f32)

theorem xn0 : (kernelRun0_A.sl.v39 c arg1 harg1 arg2 harg2 arg24 x0 x1) = XB x0 x1 0 :=
  congrFun (CaseA.xn_read arg1 harg1 arg2 harg2 arg24 x0 x1 1 1 (by intro n h; omega)) 0

theorem xn1 : (kernelRun0_A.sl.v822 c arg1 harg1 arg2 harg2 arg24 x0 x1) = XB x0 x1 1 :=
  congrFun (CaseA.xn_read arg1 harg1 arg2 harg2 arg24 x0 x1 1 1 (by intro n h; omega)) 1

theorem hs2_0 : (kernelRun0_A.sl.HS2_1 (F := F)) = caL (uB x0 x1 x3) ([⟨Rect.unit ![0, 0] S8x1536.size (inb2 (by omega) (by omega)), k0_pay5⟩] : List (View.Piece (Elt F) S8x1536 .f32)) 0 := rfl

theorem hs1_0 : (kernelRun0_A.sl.HS1_2 c arg1 harg1 arg2 harg2 arg4 harg4 arg24 arg26 x0 x1 x3) = pbt 0 (uB x0 x1 x3 0) :: pbc 0 ((ciB x0 x1 x3 (zeroC (F := F))) 0) :: [] := by
  refine (show _ = pbt 0 (uT (kernelRun0_A.sl.v39 c arg1 harg1 arg2 harg2 arg24 x0 x1) (View.readAt (Elt F) arg4.view (Rect.unit ![0, 256 * (0 % 6)] S1024x256.size (inb2 (by omega) (by omega)) : Rect S1024x1536).toLoadRect (harg4.unread x3))) :: pbc 0 (k0_pay7 (arg26.view.readCov (kernelRun0_A.sl.HS2_1 (F := F)) (rcc 0).toLoadRect)) :: [] from rfl).trans ?_
  have e : k0_pay7 (arg26.view.readCov (kernelRun0_A.sl.HS2_1 (F := F)) (rcc 0).toLoadRect) = (ciB x0 x1 x3 (zeroC (F := F))) 0 := by
    rw [hs2_0]
    exact ci_read0 x0 x1 x3 ([⟨Rect.unit ![0, 0] S8x1536.size (inb2 (by omega) (by omega)), k0_pay5⟩] : List (View.Piece (Elt F) S8x1536 .f32)) arg26.view 0 (by decide)
  rw [e, xn0, View.readAt_eq_ld, harg4.read_unread]
  rfl

theorem hs2_1 : (kernelRun0_A.sl.HS2_2 c arg1 harg1 arg2 harg2 arg4 harg4 arg24 arg25 arg26 x0 x1 x3) = caL (uB x0 x1 x3) ([⟨Rect.unit ![0, 0] S8x1536.size (inb2 (by omega) (by omega)), k0_pay5⟩] : List (View.Piece (Elt F) S8x1536 .f32)) 1 := by
  refine (show _ = (⟨rcc 0, cutR 0 arg25.view (kernelRun0_A.sl.HS1_2 c arg1 harg1 arg2 harg2 arg4 harg4 arg24 arg26 x0 x1 x3)⟩ : View.Piece (Elt F) S8x1536 .f32) :: (kernelRun0_A.sl.HS2_1 (F := F)) from rfl).trans ?_
  rw [hs1_0, cutR_eq, hs2_0]
  rfl

theorem hs1_1 : (kernelRun0_A.sl.HS1_4 c arg1 harg1 arg2 harg2 arg4 harg4 arg24 arg25 arg26 x0 x1 x3) = pbt 1 (uB x0 x1 x3 1) :: pbc 1 ((ciB x0 x1 x3 (zeroC (F := F))) 1) :: (kernelRun0_A.sl.HS1_2 c arg1 harg1 arg2 harg2 arg4 harg4 arg24 arg26 x0 x1 x3) := by
  refine (show _ = pbt 1 (uT (kernelRun0_A.sl.v39 c arg1 harg1 arg2 harg2 arg24 x0 x1) (View.readAt (Elt F) arg4.view (Rect.unit ![0, 256 * (1 % 6)] S1024x256.size (inb2 (by omega) (by omega)) : Rect S1024x1536).toLoadRect (harg4.unread x3))) :: pbc 1 (k0_pay7 (arg26.view.readCov (kernelRun0_A.sl.HS2_2 c arg1 harg1 arg2 harg2 arg4 harg4 arg24 arg25 arg26 x0 x1 x3) (rcc 1).toLoadRect)) :: (kernelRun0_A.sl.HS1_2 c arg1 harg1 arg2 harg2 arg4 harg4 arg24 arg26 x0 x1 x3) from rfl).trans ?_
  have e : k0_pay7 (arg26.view.readCov (kernelRun0_A.sl.HS2_2 c arg1 harg1 arg2 harg2 arg4 harg4 arg24 arg25 arg26 x0 x1 x3) (rcc 1).toLoadRect) = (ciB x0 x1 x3 (zeroC (F := F))) 1 := by
    rw [hs2_1]
    exact ci_read0 x0 x1 x3 ([⟨Rect.unit ![0, 0] S8x1536.size (inb2 (by omega) (by omega)), k0_pay5⟩] : List (View.Piece (Elt F) S8x1536 .f32)) arg26.view 1 (by decide)
  rw [e, xn0, View.readAt_eq_ld, harg4.read_unread]
  rfl

theorem hs2_2 : (kernelRun0_A.sl.HS2_3 c arg1 harg1 arg2 harg2 arg4 harg4 arg24 arg25 arg26 x0 x1 x3) = caL (uB x0 x1 x3) ([⟨Rect.unit ![0, 0] S8x1536.size (inb2 (by omega) (by omega)), k0_pay5⟩] : List (View.Piece (Elt F) S8x1536 .f32)) 2 := by
  refine (show _ = (⟨rcc 1, cutR 1 arg25.view (kernelRun0_A.sl.HS1_4 c arg1 harg1 arg2 harg2 arg4 harg4 arg24 arg25 arg26 x0 x1 x3)⟩ : View.Piece (Elt F) S8x1536 .f32) :: (kernelRun0_A.sl.HS2_2 c arg1 harg1 arg2 harg2 arg4 harg4 arg24 arg25 arg26 x0 x1 x3) from rfl).trans ?_
  rw [hs1_1, cutR_eq, hs2_1]
  rfl

theorem hs1_2 : (kernelRun0_A.sl.HS1_6 c arg1 harg1 arg2 harg2 arg4 harg4 arg24 arg25 arg26 x0 x1 x3) = pbt 2 (uB x0 x1 x3 2) :: pbc 2 ((ciB x0 x1 x3 (zeroC (F := F))) 2) :: (kernelRun0_A.sl.HS1_4 c arg1 harg1 arg2 harg2 arg4 harg4 arg24 arg25 arg26 x0 x1 x3) := by
  refine (show _ = pbt 2 (uT (kernelRun0_A.sl.v39 c arg1 harg1 arg2 harg2 arg24 x0 x1) (View.readAt (Elt F) arg4.view (Rect.unit ![0, 256 * (2 % 6)] S1024x256.size (inb2 (by omega) (by omega)) : Rect S1024x1536).toLoadRect (harg4.unread x3))) :: pbc 2 (k0_pay7 (arg26.view.readCov (kernelRun0_A.sl.HS2_3 c arg1 harg1 arg2 harg2 arg4 harg4 arg24 arg25 arg26 x0 x1 x3) (rcc 2).toLoadRect)) :: (kernelRun0_A.sl.HS1_4 c arg1 harg1 arg2 harg2 arg4 harg4 arg24 arg25 arg26 x0 x1 x3) from rfl).trans ?_
  have e : k0_pay7 (arg26.view.readCov (kernelRun0_A.sl.HS2_3 c arg1 harg1 arg2 harg2 arg4 harg4 arg24 arg25 arg26 x0 x1 x3) (rcc 2).toLoadRect) = (ciB x0 x1 x3 (zeroC (F := F))) 2 := by
    rw [hs2_2]
    exact ci_read0 x0 x1 x3 ([⟨Rect.unit ![0, 0] S8x1536.size (inb2 (by omega) (by omega)), k0_pay5⟩] : List (View.Piece (Elt F) S8x1536 .f32)) arg26.view 2 (by decide)
  rw [e, xn0, View.readAt_eq_ld, harg4.read_unread]
  rfl

theorem hs2_3 : (kernelRun0_A.sl.HS2_4 c arg1 harg1 arg2 harg2 arg4 harg4 arg24 arg25 arg26 x0 x1 x3) = caL (uB x0 x1 x3) ([⟨Rect.unit ![0, 0] S8x1536.size (inb2 (by omega) (by omega)), k0_pay5⟩] : List (View.Piece (Elt F) S8x1536 .f32)) 3 := by
  refine (show _ = (⟨rcc 2, cutR 2 arg25.view (kernelRun0_A.sl.HS1_6 c arg1 harg1 arg2 harg2 arg4 harg4 arg24 arg25 arg26 x0 x1 x3)⟩ : View.Piece (Elt F) S8x1536 .f32) :: (kernelRun0_A.sl.HS2_3 c arg1 harg1 arg2 harg2 arg4 harg4 arg24 arg25 arg26 x0 x1 x3) from rfl).trans ?_
  rw [hs1_2, cutR_eq, hs2_2]
  rfl

theorem hs1_3 : (kernelRun0_A.sl.HS1_8 c arg1 harg1 arg2 harg2 arg4 harg4 arg24 arg25 arg26 x0 x1 x3) = pbt 3 (uB x0 x1 x3 3) :: pbc 3 ((ciB x0 x1 x3 (zeroC (F := F))) 3) :: (kernelRun0_A.sl.HS1_6 c arg1 harg1 arg2 harg2 arg4 harg4 arg24 arg25 arg26 x0 x1 x3) := by
  refine (show _ = pbt 3 (uT (kernelRun0_A.sl.v39 c arg1 harg1 arg2 harg2 arg24 x0 x1) (View.readAt (Elt F) arg4.view (Rect.unit ![0, 256 * (3 % 6)] S1024x256.size (inb2 (by omega) (by omega)) : Rect S1024x1536).toLoadRect (harg4.unread x3))) :: pbc 3 (k0_pay7 (arg26.view.readCov (kernelRun0_A.sl.HS2_4 c arg1 harg1 arg2 harg2 arg4 harg4 arg24 arg25 arg26 x0 x1 x3) (rcc 3).toLoadRect)) :: (kernelRun0_A.sl.HS1_6 c arg1 harg1 arg2 harg2 arg4 harg4 arg24 arg25 arg26 x0 x1 x3) from rfl).trans ?_
  have e : k0_pay7 (arg26.view.readCov (kernelRun0_A.sl.HS2_4 c arg1 harg1 arg2 harg2 arg4 harg4 arg24 arg25 arg26 x0 x1 x3) (rcc 3).toLoadRect) = (ciB x0 x1 x3 (zeroC (F := F))) 3 := by
    rw [hs2_3]
    exact ci_read0 x0 x1 x3 ([⟨Rect.unit ![0, 0] S8x1536.size (inb2 (by omega) (by omega)), k0_pay5⟩] : List (View.Piece (Elt F) S8x1536 .f32)) arg26.view 3 (by decide)
  rw [e, xn0, View.readAt_eq_ld, harg4.read_unread]
  rfl

theorem hs2_4 : (kernelRun0_A.sl.HS2_5 c arg1 harg1 arg2 harg2 arg4 harg4 arg24 arg25 arg26 x0 x1 x3) = caL (uB x0 x1 x3) ([⟨Rect.unit ![0, 0] S8x1536.size (inb2 (by omega) (by omega)), k0_pay5⟩] : List (View.Piece (Elt F) S8x1536 .f32)) 4 := by
  refine (show _ = (⟨rcc 3, cutR 3 arg25.view (kernelRun0_A.sl.HS1_8 c arg1 harg1 arg2 harg2 arg4 harg4 arg24 arg25 arg26 x0 x1 x3)⟩ : View.Piece (Elt F) S8x1536 .f32) :: (kernelRun0_A.sl.HS2_4 c arg1 harg1 arg2 harg2 arg4 harg4 arg24 arg25 arg26 x0 x1 x3) from rfl).trans ?_
  rw [hs1_3, cutR_eq, hs2_3]
  rfl

theorem hs1_4 : (kernelRun0_A.sl.HS1_10 c arg1 harg1 arg2 harg2 arg4 harg4 arg24 arg25 arg26 x0 x1 x3) = pbt 4 (uB x0 x1 x3 4) :: pbc 4 ((ciB x0 x1 x3 (zeroC (F := F))) 4) :: (kernelRun0_A.sl.HS1_8 c arg1 harg1 arg2 harg2 arg4 harg4 arg24 arg25 arg26 x0 x1 x3) := by
  refine (show _ = pbt 4 (uT (kernelRun0_A.sl.v39 c arg1 harg1 arg2 harg2 arg24 x0 x1) (View.readAt (Elt F) arg4.view (Rect.unit ![0, 256 * (4 % 6)] S1024x256.size (inb2 (by omega) (by omega)) : Rect S1024x1536).toLoadRect (harg4.unread x3))) :: pbc 4 (k0_pay7 (arg26.view.readCov (kernelRun0_A.sl.HS2_5 c arg1 harg1 arg2 harg2 arg4 harg4 arg24 arg25 arg26 x0 x1 x3) (rcc 4).toLoadRect)) :: (kernelRun0_A.sl.HS1_8 c arg1 harg1 arg2 harg2 arg4 harg4 arg24 arg25 arg26 x0 x1 x3) from rfl).trans ?_
  have e : k0_pay7 (arg26.view.readCov (kernelRun0_A.sl.HS2_5 c arg1 harg1 arg2 harg2 arg4 harg4 arg24 arg25 arg26 x0 x1 x3) (rcc 4).toLoadRect) = (ciB x0 x1 x3 (zeroC (F := F))) 4 := by
    rw [hs2_4]
    exact ci_read0 x0 x1 x3 ([⟨Rect.unit ![0, 0] S8x1536.size (inb2 (by omega) (by omega)), k0_pay5⟩] : List (View.Piece (Elt F) S8x1536 .f32)) arg26.view 4 (by decide)
  rw [e, xn0, View.readAt_eq_ld, harg4.read_unread]
  rfl

theorem hs2_5 : (kernelRun0_A.sl.HS2_6 c arg1 harg1 arg2 harg2 arg4 harg4 arg24 arg25 arg26 x0 x1 x3) = caL (uB x0 x1 x3) ([⟨Rect.unit ![0, 0] S8x1536.size (inb2 (by omega) (by omega)), k0_pay5⟩] : List (View.Piece (Elt F) S8x1536 .f32)) 5 := by
  refine (show _ = (⟨rcc 4, cutR 4 arg25.view (kernelRun0_A.sl.HS1_10 c arg1 harg1 arg2 harg2 arg4 harg4 arg24 arg25 arg26 x0 x1 x3)⟩ : View.Piece (Elt F) S8x1536 .f32) :: (kernelRun0_A.sl.HS2_5 c arg1 harg1 arg2 harg2 arg4 harg4 arg24 arg25 arg26 x0 x1 x3) from rfl).trans ?_
  rw [hs1_4, cutR_eq, hs2_4]
  rfl

theorem hs1_5 : (kernelRun0_A.sl.HS1_12 c arg1 harg1 arg2 harg2 arg4 harg4 arg24 arg25 arg26 x0 x1 x3) = pbt 5 (uB x0 x1 x3 5) :: pbc 5 ((ciB x0 x1 x3 (zeroC (F := F))) 5) :: (kernelRun0_A.sl.HS1_10 c arg1 harg1 arg2 harg2 arg4 harg4 arg24 arg25 arg26 x0 x1 x3) := by
  refine (show _ = pbt 5 (uT (kernelRun0_A.sl.v39 c arg1 harg1 arg2 harg2 arg24 x0 x1) (View.readAt (Elt F) arg4.view (Rect.unit ![0, 256 * (5 % 6)] S1024x256.size (inb2 (by omega) (by omega)) : Rect S1024x1536).toLoadRect (harg4.unread x3))) :: pbc 5 (k0_pay7 (arg26.view.readCov (kernelRun0_A.sl.HS2_6 c arg1 harg1 arg2 harg2 arg4 harg4 arg24 arg25 arg26 x0 x1 x3) (rcc 5).toLoadRect)) :: (kernelRun0_A.sl.HS1_10 c arg1 harg1 arg2 harg2 arg4 harg4 arg24 arg25 arg26 x0 x1 x3) from rfl).trans ?_
  have e : k0_pay7 (arg26.view.readCov (kernelRun0_A.sl.HS2_6 c arg1 harg1 arg2 harg2 arg4 harg4 arg24 arg25 arg26 x0 x1 x3) (rcc 5).toLoadRect) = (ciB x0 x1 x3 (zeroC (F := F))) 5 := by
    rw [hs2_5]
    exact ci_read0 x0 x1 x3 ([⟨Rect.unit ![0, 0] S8x1536.size (inb2 (by omega) (by omega)), k0_pay5⟩] : List (View.Piece (Elt F) S8x1536 .f32)) arg26.view 5 (by decide)
  rw [e, xn0, View.readAt_eq_ld, harg4.read_unread]
  rfl

theorem hs2_6 : (kernelRun0_A.sl.HS2_7 c arg1 harg1 arg2 harg2 arg4 harg4 arg24 arg25 arg26 x0 x1 x3) = caL (uB x0 x1 x3) ([⟨Rect.unit ![0, 0] S8x1536.size (inb2 (by omega) (by omega)), k0_pay5⟩] : List (View.Piece (Elt F) S8x1536 .f32)) 6 := by
  refine (show _ = (⟨rcc 5, cutR 5 arg25.view (kernelRun0_A.sl.HS1_12 c arg1 harg1 arg2 harg2 arg4 harg4 arg24 arg25 arg26 x0 x1 x3)⟩ : View.Piece (Elt F) S8x1536 .f32) :: (kernelRun0_A.sl.HS2_6 c arg1 harg1 arg2 harg2 arg4 harg4 arg24 arg25 arg26 x0 x1 x3) from rfl).trans ?_
  rw [hs1_5, cutR_eq, hs2_5]
  rfl

theorem hs1_6 : (kernelRun0_A.sl.HS1_14 c arg1 harg1 arg2 harg2 arg4 harg4 arg24 arg25 arg26 x0 x1 x3) = pbt 6 (uB x0 x1 x3 6) :: pbc 6 ((ciB x0 x1 x3 (zeroC (F := F))) 6) :: (kernelRun0_A.sl.HS1_12 c arg1 harg1 arg2 harg2 arg4 harg4 arg24 arg25 arg26 x0 x1 x3) := by
  refine (show _ = pbt 6 (uT (kernelRun0_A.sl.v822 c arg1 harg1 arg2 harg2 arg24 x0 x1) (View.readAt (Elt F) arg4.view (Rect.unit ![0, 256 * (6 % 6)] S1024x256.size (inb2 (by omega) (by omega)) : Rect S1024x1536).toLoadRect (harg4.unread x3))) :: pbc 6 (k0_pay7 (arg26.view.readCov (kernelRun0_A.sl.HS2_7 c arg1 harg1 arg2 harg2 arg4 harg4 arg24 arg25 arg26 x0 x1 x3) (rcc 6).toLoadRect)) :: (kernelRun0_A.sl.HS1_12 c arg1 harg1 arg2 harg2 arg4 harg4 arg24 arg25 arg26 x0 x1 x3) from rfl).trans ?_
  have e : k0_pay7 (arg26.view.readCov (kernelRun0_A.sl.HS2_7 c arg1 harg1 arg2 harg2 arg4 harg4 arg24 arg25 arg26 x0 x1 x3) (rcc 6).toLoadRect) = (ciB x0 x1 x3 (zeroC (F := F))) 6 := by
    rw [hs2_6]
    exact ci_read x0 x1 x3 (zeroC (F := F)) ([⟨Rect.unit ![0, 0] S8x1536.size (inb2 (by omega) (by omega)), k0_pay5⟩] : List (View.Piece (Elt F) S8x1536 .f32)) arg26.view 6 (by decide)
  rw [e, xn1, View.readAt_eq_ld, harg4.read_unread]
  rfl

theorem hs2_7 : (kernelRun0_A.sl.HS2_8 c arg1 harg1 arg2 harg2 arg4 harg4 arg24 arg25 arg26 x0 x1 x3) = caL (uB x0 x1 x3) ([⟨Rect.unit ![0, 0] S8x1536.size (inb2 (by omega) (by omega)), k0_pay5⟩] : List (View.Piece (Elt F) S8x1536 .f32)) 7 := by
  refine (show _ = (⟨rcc 6, cutR 6 arg25.view (kernelRun0_A.sl.HS1_14 c arg1 harg1 arg2 harg2 arg4 harg4 arg24 arg25 arg26 x0 x1 x3)⟩ : View.Piece (Elt F) S8x1536 .f32) :: (kernelRun0_A.sl.HS2_7 c arg1 harg1 arg2 harg2 arg4 harg4 arg24 arg25 arg26 x0 x1 x3) from rfl).trans ?_
  rw [hs1_6, cutR_eq, hs2_6]
  rfl

theorem hs1_7 : (kernelRun0_A.sl.HS1_16 c arg1 harg1 arg2 harg2 arg4 harg4 arg24 arg25 arg26 x0 x1 x3) = pbt 7 (uB x0 x1 x3 7) :: pbc 7 ((ciB x0 x1 x3 (zeroC (F := F))) 7) :: (kernelRun0_A.sl.HS1_14 c arg1 harg1 arg2 harg2 arg4 harg4 arg24 arg25 arg26 x0 x1 x3) := by
  refine (show _ = pbt 7 (uT (kernelRun0_A.sl.v822 c arg1 harg1 arg2 harg2 arg24 x0 x1) (View.readAt (Elt F) arg4.view (Rect.unit ![0, 256 * (7 % 6)] S1024x256.size (inb2 (by omega) (by omega)) : Rect S1024x1536).toLoadRect (harg4.unread x3))) :: pbc 7 (k0_pay7 (arg26.view.readCov (kernelRun0_A.sl.HS2_8 c arg1 harg1 arg2 harg2 arg4 harg4 arg24 arg25 arg26 x0 x1 x3) (rcc 7).toLoadRect)) :: (kernelRun0_A.sl.HS1_14 c arg1 harg1 arg2 harg2 arg4 harg4 arg24 arg25 arg26 x0 x1 x3) from rfl).trans ?_
  have e : k0_pay7 (arg26.view.readCov (kernelRun0_A.sl.HS2_8 c arg1 harg1 arg2 harg2 arg4 harg4 arg24 arg25 arg26 x0 x1 x3) (rcc 7).toLoadRect) = (ciB x0 x1 x3 (zeroC (F := F))) 7 := by
    rw [hs2_7]
    exact ci_read x0 x1 x3 (zeroC (F := F)) ([⟨Rect.unit ![0, 0] S8x1536.size (inb2 (by omega) (by omega)), k0_pay5⟩] : List (View.Piece (Elt F) S8x1536 .f32)) arg26.view 7 (by decide)
  rw [e, xn1, View.readAt_eq_ld, harg4.read_unread]
  rfl

theorem hs2_8 : (kernelRun0_A.sl.HS2_9 c arg1 harg1 arg2 harg2 arg4 harg4 arg24 arg25 arg26 x0 x1 x3) = caL (uB x0 x1 x3) ([⟨Rect.unit ![0, 0] S8x1536.size (inb2 (by omega) (by omega)), k0_pay5⟩] : List (View.Piece (Elt F) S8x1536 .f32)) 8 := by
  refine (show _ = (⟨rcc 7, cutR 7 arg25.view (kernelRun0_A.sl.HS1_16 c arg1 harg1 arg2 harg2 arg4 harg4 arg24 arg25 arg26 x0 x1 x3)⟩ : View.Piece (Elt F) S8x1536 .f32) :: (kernelRun0_A.sl.HS2_8 c arg1 harg1 arg2 harg2 arg4 harg4 arg24 arg25 arg26 x0 x1 x3) from rfl).trans ?_
  rw [hs1_7, cutR_eq, hs2_7]
  rfl

theorem hs1_8 : (kernelRun0_A.sl.HS1_18 c arg1 harg1 arg2 harg2 arg4 harg4 arg24 arg25 arg26 x0 x1 x3) = pbt 8 (uB x0 x1 x3 8) :: pbc 8 ((ciB x0 x1 x3 (zeroC (F := F))) 8) :: (kernelRun0_A.sl.HS1_16 c arg1 harg1 arg2 harg2 arg4 harg4 arg24 arg25 arg26 x0 x1 x3) := by
  refine (show _ = pbt 8 (uT (kernelRun0_A.sl.v822 c arg1 harg1 arg2 harg2 arg24 x0 x1) (View.readAt (Elt F) arg4.view (Rect.unit ![0, 256 * (8 % 6)] S1024x256.size (inb2 (by omega) (by omega)) : Rect S1024x1536).toLoadRect (harg4.unread x3))) :: pbc 8 (k0_pay7 (arg26.view.readCov (kernelRun0_A.sl.HS2_9 c arg1 harg1 arg2 harg2 arg4 harg4 arg24 arg25 arg26 x0 x1 x3) (rcc 8).toLoadRect)) :: (kernelRun0_A.sl.HS1_16 c arg1 harg1 arg2 harg2 arg4 harg4 arg24 arg25 arg26 x0 x1 x3) from rfl).trans ?_
  have e : k0_pay7 (arg26.view.readCov (kernelRun0_A.sl.HS2_9 c arg1 harg1 arg2 harg2 arg4 harg4 arg24 arg25 arg26 x0 x1 x3) (rcc 8).toLoadRect) = (ciB x0 x1 x3 (zeroC (F := F))) 8 := by
    rw [hs2_8]
    exact ci_read x0 x1 x3 (zeroC (F := F)) ([⟨Rect.unit ![0, 0] S8x1536.size (inb2 (by omega) (by omega)), k0_pay5⟩] : List (View.Piece (Elt F) S8x1536 .f32)) arg26.view 8 (by decide)
  rw [e, xn1, View.readAt_eq_ld, harg4.read_unread]
  rfl

theorem hs2_9 : (kernelRun0_A.sl.HS2_10 c arg1 harg1 arg2 harg2 arg4 harg4 arg24 arg25 arg26 x0 x1 x3) = caL (uB x0 x1 x3) ([⟨Rect.unit ![0, 0] S8x1536.size (inb2 (by omega) (by omega)), k0_pay5⟩] : List (View.Piece (Elt F) S8x1536 .f32)) 9 := by
  refine (show _ = (⟨rcc 8, cutR 8 arg25.view (kernelRun0_A.sl.HS1_18 c arg1 harg1 arg2 harg2 arg4 harg4 arg24 arg25 arg26 x0 x1 x3)⟩ : View.Piece (Elt F) S8x1536 .f32) :: (kernelRun0_A.sl.HS2_9 c arg1 harg1 arg2 harg2 arg4 harg4 arg24 arg25 arg26 x0 x1 x3) from rfl).trans ?_
  rw [hs1_8, cutR_eq, hs2_8]
  rfl

theorem hs1_9 : (kernelRun0_A.sl.HS1_20 c arg1 harg1 arg2 harg2 arg4 harg4 arg24 arg25 arg26 x0 x1 x3) = pbt 9 (uB x0 x1 x3 9) :: pbc 9 ((ciB x0 x1 x3 (zeroC (F := F))) 9) :: (kernelRun0_A.sl.HS1_18 c arg1 harg1 arg2 harg2 arg4 harg4 arg24 arg25 arg26 x0 x1 x3) := by
  refine (show _ = pbt 9 (uT (kernelRun0_A.sl.v822 c arg1 harg1 arg2 harg2 arg24 x0 x1) (View.readAt (Elt F) arg4.view (Rect.unit ![0, 256 * (9 % 6)] S1024x256.size (inb2 (by omega) (by omega)) : Rect S1024x1536).toLoadRect (harg4.unread x3))) :: pbc 9 (k0_pay7 (arg26.view.readCov (kernelRun0_A.sl.HS2_10 c arg1 harg1 arg2 harg2 arg4 harg4 arg24 arg25 arg26 x0 x1 x3) (rcc 9).toLoadRect)) :: (kernelRun0_A.sl.HS1_18 c arg1 harg1 arg2 harg2 arg4 harg4 arg24 arg25 arg26 x0 x1 x3) from rfl).trans ?_
  have e : k0_pay7 (arg26.view.readCov (kernelRun0_A.sl.HS2_10 c arg1 harg1 arg2 harg2 arg4 harg4 arg24 arg25 arg26 x0 x1 x3) (rcc 9).toLoadRect) = (ciB x0 x1 x3 (zeroC (F := F))) 9 := by
    rw [hs2_9]
    exact ci_read x0 x1 x3 (zeroC (F := F)) ([⟨Rect.unit ![0, 0] S8x1536.size (inb2 (by omega) (by omega)), k0_pay5⟩] : List (View.Piece (Elt F) S8x1536 .f32)) arg26.view 9 (by decide)
  rw [e, xn1, View.readAt_eq_ld, harg4.read_unread]
  rfl

theorem hs2_10 : (kernelRun0_A.sl.HS2_11 c arg1 harg1 arg2 harg2 arg4 harg4 arg24 arg25 arg26 x0 x1 x3) = caL (uB x0 x1 x3) ([⟨Rect.unit ![0, 0] S8x1536.size (inb2 (by omega) (by omega)), k0_pay5⟩] : List (View.Piece (Elt F) S8x1536 .f32)) 10 := by
  refine (show _ = (⟨rcc 9, cutR 9 arg25.view (kernelRun0_A.sl.HS1_20 c arg1 harg1 arg2 harg2 arg4 harg4 arg24 arg25 arg26 x0 x1 x3)⟩ : View.Piece (Elt F) S8x1536 .f32) :: (kernelRun0_A.sl.HS2_10 c arg1 harg1 arg2 harg2 arg4 harg4 arg24 arg25 arg26 x0 x1 x3) from rfl).trans ?_
  rw [hs1_9, cutR_eq, hs2_9]
  rfl

theorem hs1_10 : (kernelRun0_A.sl.HS1_22 c arg1 harg1 arg2 harg2 arg4 harg4 arg24 arg25 arg26 x0 x1 x3) = pbt 10 (uB x0 x1 x3 10) :: pbc 10 ((ciB x0 x1 x3 (zeroC (F := F))) 10) :: (kernelRun0_A.sl.HS1_20 c arg1 harg1 arg2 harg2 arg4 harg4 arg24 arg25 arg26 x0 x1 x3) := by
  refine (show _ = pbt 10 (uT (kernelRun0_A.sl.v822 c arg1 harg1 arg2 harg2 arg24 x0 x1) (View.readAt (Elt F) arg4.view (Rect.unit ![0, 256 * (10 % 6)] S1024x256.size (inb2 (by omega) (by omega)) : Rect S1024x1536).toLoadRect (harg4.unread x3))) :: pbc 10 (k0_pay7 (arg26.view.readCov (kernelRun0_A.sl.HS2_11 c arg1 harg1 arg2 harg2 arg4 harg4 arg24 arg25 arg26 x0 x1 x3) (rcc 10).toLoadRect)) :: (kernelRun0_A.sl.HS1_20 c arg1 harg1 arg2 harg2 arg4 harg4 arg24 arg25 arg26 x0 x1 x3) from rfl).trans ?_
  have e : k0_pay7 (arg26.view.readCov (kernelRun0_A.sl.HS2_11 c arg1 harg1 arg2 harg2 arg4 harg4 arg24 arg25 arg26 x0 x1 x3) (rcc 10).toLoadRect) = (ciB x0 x1 x3 (zeroC (F := F))) 10 := by
    rw [hs2_10]
    exact ci_read x0 x1 x3 (zeroC (F := F)) ([⟨Rect.unit ![0, 0] S8x1536.size (inb2 (by omega) (by omega)), k0_pay5⟩] : List (View.Piece (Elt F) S8x1536 .f32)) arg26.view 10 (by decide)
  rw [e, xn1, View.readAt_eq_ld, harg4.read_unread]
  rfl

theorem hs2_11 : (kernelRun0_A.sl.HS2_12 c arg1 harg1 arg2 harg2 arg4 harg4 arg24 arg25 arg26 x0 x1 x3) = caL (uB x0 x1 x3) ([⟨Rect.unit ![0, 0] S8x1536.size (inb2 (by omega) (by omega)), k0_pay5⟩] : List (View.Piece (Elt F) S8x1536 .f32)) 11 := by
  refine (show _ = (⟨rcc 10, cutR 10 arg25.view (kernelRun0_A.sl.HS1_22 c arg1 harg1 arg2 harg2 arg4 harg4 arg24 arg25 arg26 x0 x1 x3)⟩ : View.Piece (Elt F) S8x1536 .f32) :: (kernelRun0_A.sl.HS2_11 c arg1 harg1 arg2 harg2 arg4 harg4 arg24 arg25 arg26 x0 x1 x3) from rfl).trans ?_
  rw [hs1_10, cutR_eq, hs2_10]
  rfl

theorem hs1_11 : (kernelRun0_A.sl.HS1_24 c arg1 harg1 arg2 harg2 arg4 harg4 arg24 arg25 arg26 x0 x1 x3) = pbt 11 (uB x0 x1 x3 11) :: pbc 11 ((ciB x0 x1 x3 (zeroC (F := F))) 11) :: (kernelRun0_A.sl.HS1_22 c arg1 harg1 arg2 harg2 arg4 harg4 arg24 arg25 arg26 x0 x1 x3) := by
  refine (show _ = pbt 11 (uT (kernelRun0_A.sl.v822 c arg1 harg1 arg2 harg2 arg24 x0 x1) (View.readAt (Elt F) arg4.view (Rect.unit ![0, 256 * (11 % 6)] S1024x256.size (inb2 (by omega) (by omega)) : Rect S1024x1536).toLoadRect (harg4.unread x3))) :: pbc 11 (k0_pay7 (arg26.view.readCov (kernelRun0_A.sl.HS2_12 c arg1 harg1 arg2 harg2 arg4 harg4 arg24 arg25 arg26 x0 x1 x3) (rcc 11).toLoadRect)) :: (kernelRun0_A.sl.HS1_22 c arg1 harg1 arg2 harg2 arg4 harg4 arg24 arg25 arg26 x0 x1 x3) from rfl).trans ?_
  have e : k0_pay7 (arg26.view.readCov (kernelRun0_A.sl.HS2_12 c arg1 harg1 arg2 harg2 arg4 harg4 arg24 arg25 arg26 x0 x1 x3) (rcc 11).toLoadRect) = (ciB x0 x1 x3 (zeroC (F := F))) 11 := by
    rw [hs2_11]
    exact ci_read x0 x1 x3 (zeroC (F := F)) ([⟨Rect.unit ![0, 0] S8x1536.size (inb2 (by omega) (by omega)), k0_pay5⟩] : List (View.Piece (Elt F) S8x1536 .f32)) arg26.view 11 (by decide)
  rw [e, xn1, View.readAt_eq_ld, harg4.read_unread]
  rfl

/-- What each block computes, as the body writes it. -/
def V : Nat → FVec F S512x256 .bf16
  | 0 => cvT (View.readAt (Elt F) arg13.view (Rect.unit ![0, 256 * (0 % 6)] S1x256.size (inb2 (by omega) (by omega)) : Rect S1x1536).toLoadRect (harg13.unread x12)) (View.readAt (Elt F) arg12.view (Rect.unit ![3, 256 * (0 % 6)] S1x256.size (inb2 (by omega) (by omega)) : Rect S4x1536).toLoadRect (harg12.unread x11)) (View.readAt (Elt F) arg12.view (Rect.unit ![2, 256 * (0 % 6)] S1x256.size (inb2 (by omega) (by omega)) : Rect S4x1536).toLoadRect (harg12.unread x11)) (View.readAt (Elt F) arg12.view (Rect.unit ![1, 256 * (0 % 6)] S1x256.size (inb2 (by omega) (by omega)) : Rect S4x1536).toLoadRect (harg12.unread x11)) (View.readAt (Elt F) arg12.view (Rect.unit ![0, 256 * (0 % 6)] S1x256.size (inb2 (by omega) (by omega)) : Rect S4x1536).toLoadRect (harg12.unread x11)) (lagR 0 0 arg25.view (kernelRun0_A.sl.HS1_2 c arg1 harg1 arg2 harg2 arg4 harg4 arg24 arg26 x0 x1 x3)) (lagR 0 1 arg25.view (kernelRun0_A.sl.HS1_2 c arg1 harg1 arg2 harg2 arg4 harg4 arg24 arg26 x0 x1 x3)) (lagR 0 2 arg25.view (kernelRun0_A.sl.HS1_2 c arg1 harg1 arg2 harg2 arg4 harg4 arg24 arg26 x0 x1 x3)) (lagR 0 3 arg25.view (kernelRun0_A.sl.HS1_2 c arg1 harg1 arg2 harg2 arg4 harg4 arg24 arg26 x0 x1 x3))
  | 1 => cvT (View.readAt (Elt F) arg13.view (Rect.unit ![0, 256 * (1 % 6)] S1x256.size (inb2 (by omega) (by omega)) : Rect S1x1536).toLoadRect (harg13.unread x12)) (View.readAt (Elt F) arg12.view (Rect.unit ![3, 256 * (1 % 6)] S1x256.size (inb2 (by omega) (by omega)) : Rect S4x1536).toLoadRect (harg12.unread x11)) (View.readAt (Elt F) arg12.view (Rect.unit ![2, 256 * (1 % 6)] S1x256.size (inb2 (by omega) (by omega)) : Rect S4x1536).toLoadRect (harg12.unread x11)) (View.readAt (Elt F) arg12.view (Rect.unit ![1, 256 * (1 % 6)] S1x256.size (inb2 (by omega) (by omega)) : Rect S4x1536).toLoadRect (harg12.unread x11)) (View.readAt (Elt F) arg12.view (Rect.unit ![0, 256 * (1 % 6)] S1x256.size (inb2 (by omega) (by omega)) : Rect S4x1536).toLoadRect (harg12.unread x11)) (lagR 1 0 arg25.view (kernelRun0_A.sl.HS1_4 c arg1 harg1 arg2 harg2 arg4 harg4 arg24 arg25 arg26 x0 x1 x3)) (lagR 1 1 arg25.view (kernelRun0_A.sl.HS1_4 c arg1 harg1 arg2 harg2 arg4 harg4 arg24 arg25 arg26 x0 x1 x3)) (lagR 1 2 arg25.view (kernelRun0_A.sl.HS1_4 c arg1 harg1 arg2 harg2 arg4 harg4 arg24 arg25 arg26 x0 x1 x3)) (lagR 1 3 arg25.view (kernelRun0_A.sl.HS1_4 c arg1 harg1 arg2 harg2 arg4 harg4 arg24 arg25 arg26 x0 x1 x3))
  | 2 => cvT (View.readAt (Elt F) arg13.view (Rect.unit ![0, 256 * (2 % 6)] S1x256.size (inb2 (by omega) (by omega)) : Rect S1x1536).toLoadRect (harg13.unread x12)) (View.readAt (Elt F) arg12.view (Rect.unit ![3, 256 * (2 % 6)] S1x256.size (inb2 (by omega) (by omega)) : Rect S4x1536).toLoadRect (harg12.unread x11)) (View.readAt (Elt F) arg12.view (Rect.unit ![2, 256 * (2 % 6)] S1x256.size (inb2 (by omega) (by omega)) : Rect S4x1536).toLoadRect (harg12.unread x11)) (View.readAt (Elt F) arg12.view (Rect.unit ![1, 256 * (2 % 6)] S1x256.size (inb2 (by omega) (by omega)) : Rect S4x1536).toLoadRect (harg12.unread x11)) (View.readAt (Elt F) arg12.view (Rect.unit ![0, 256 * (2 % 6)] S1x256.size (inb2 (by omega) (by omega)) : Rect S4x1536).toLoadRect (harg12.unread x11)) (lagR 2 0 arg25.view (kernelRun0_A.sl.HS1_6 c arg1 harg1 arg2 harg2 arg4 harg4 arg24 arg25 arg26 x0 x1 x3)) (lagR 2 1 arg25.view (kernelRun0_A.sl.HS1_6 c arg1 harg1 arg2 harg2 arg4 harg4 arg24 arg25 arg26 x0 x1 x3)) (lagR 2 2 arg25.view (kernelRun0_A.sl.HS1_6 c arg1 harg1 arg2 harg2 arg4 harg4 arg24 arg25 arg26 x0 x1 x3)) (lagR 2 3 arg25.view (kernelRun0_A.sl.HS1_6 c arg1 harg1 arg2 harg2 arg4 harg4 arg24 arg25 arg26 x0 x1 x3))
  | 3 => cvT (View.readAt (Elt F) arg13.view (Rect.unit ![0, 256 * (3 % 6)] S1x256.size (inb2 (by omega) (by omega)) : Rect S1x1536).toLoadRect (harg13.unread x12)) (View.readAt (Elt F) arg12.view (Rect.unit ![3, 256 * (3 % 6)] S1x256.size (inb2 (by omega) (by omega)) : Rect S4x1536).toLoadRect (harg12.unread x11)) (View.readAt (Elt F) arg12.view (Rect.unit ![2, 256 * (3 % 6)] S1x256.size (inb2 (by omega) (by omega)) : Rect S4x1536).toLoadRect (harg12.unread x11)) (View.readAt (Elt F) arg12.view (Rect.unit ![1, 256 * (3 % 6)] S1x256.size (inb2 (by omega) (by omega)) : Rect S4x1536).toLoadRect (harg12.unread x11)) (View.readAt (Elt F) arg12.view (Rect.unit ![0, 256 * (3 % 6)] S1x256.size (inb2 (by omega) (by omega)) : Rect S4x1536).toLoadRect (harg12.unread x11)) (lagR 3 0 arg25.view (kernelRun0_A.sl.HS1_8 c arg1 harg1 arg2 harg2 arg4 harg4 arg24 arg25 arg26 x0 x1 x3)) (lagR 3 1 arg25.view (kernelRun0_A.sl.HS1_8 c arg1 harg1 arg2 harg2 arg4 harg4 arg24 arg25 arg26 x0 x1 x3)) (lagR 3 2 arg25.view (kernelRun0_A.sl.HS1_8 c arg1 harg1 arg2 harg2 arg4 harg4 arg24 arg25 arg26 x0 x1 x3)) (lagR 3 3 arg25.view (kernelRun0_A.sl.HS1_8 c arg1 harg1 arg2 harg2 arg4 harg4 arg24 arg25 arg26 x0 x1 x3))
  | 4 => cvT (View.readAt (Elt F) arg13.view (Rect.unit ![0, 256 * (4 % 6)] S1x256.size (inb2 (by omega) (by omega)) : Rect S1x1536).toLoadRect (harg13.unread x12)) (View.readAt (Elt F) arg12.view (Rect.unit ![3, 256 * (4 % 6)] S1x256.size (inb2 (by omega) (by omega)) : Rect S4x1536).toLoadRect (harg12.unread x11)) (View.readAt (Elt F) arg12.view (Rect.unit ![2, 256 * (4 % 6)] S1x256.size (inb2 (by omega) (by omega)) : Rect S4x1536).toLoadRect (harg12.unread x11)) (View.readAt (Elt F) arg12.view (Rect.unit ![1, 256 * (4 % 6)] S1x256.size (inb2 (by omega) (by omega)) : Rect S4x1536).toLoadRect (harg12.unread x11)) (View.readAt (Elt F) arg12.view (Rect.unit ![0, 256 * (4 % 6)] S1x256.size (inb2 (by omega) (by omega)) : Rect S4x1536).toLoadRect (harg12.unread x11)) (lagR 4 0 arg25.view (kernelRun0_A.sl.HS1_10 c arg1 harg1 arg2 harg2 arg4 harg4 arg24 arg25 arg26 x0 x1 x3)) (lagR 4 1 arg25.view (kernelRun0_A.sl.HS1_10 c arg1 harg1 arg2 harg2 arg4 harg4 arg24 arg25 arg26 x0 x1 x3)) (lagR 4 2 arg25.view (kernelRun0_A.sl.HS1_10 c arg1 harg1 arg2 harg2 arg4 harg4 arg24 arg25 arg26 x0 x1 x3)) (lagR 4 3 arg25.view (kernelRun0_A.sl.HS1_10 c arg1 harg1 arg2 harg2 arg4 harg4 arg24 arg25 arg26 x0 x1 x3))
  | 5 => cvT (View.readAt (Elt F) arg13.view (Rect.unit ![0, 256 * (5 % 6)] S1x256.size (inb2 (by omega) (by omega)) : Rect S1x1536).toLoadRect (harg13.unread x12)) (View.readAt (Elt F) arg12.view (Rect.unit ![3, 256 * (5 % 6)] S1x256.size (inb2 (by omega) (by omega)) : Rect S4x1536).toLoadRect (harg12.unread x11)) (View.readAt (Elt F) arg12.view (Rect.unit ![2, 256 * (5 % 6)] S1x256.size (inb2 (by omega) (by omega)) : Rect S4x1536).toLoadRect (harg12.unread x11)) (View.readAt (Elt F) arg12.view (Rect.unit ![1, 256 * (5 % 6)] S1x256.size (inb2 (by omega) (by omega)) : Rect S4x1536).toLoadRect (harg12.unread x11)) (View.readAt (Elt F) arg12.view (Rect.unit ![0, 256 * (5 % 6)] S1x256.size (inb2 (by omega) (by omega)) : Rect S4x1536).toLoadRect (harg12.unread x11)) (lagR 5 0 arg25.view (kernelRun0_A.sl.HS1_12 c arg1 harg1 arg2 harg2 arg4 harg4 arg24 arg25 arg26 x0 x1 x3)) (lagR 5 1 arg25.view (kernelRun0_A.sl.HS1_12 c arg1 harg1 arg2 harg2 arg4 harg4 arg24 arg25 arg26 x0 x1 x3)) (lagR 5 2 arg25.view (kernelRun0_A.sl.HS1_12 c arg1 harg1 arg2 harg2 arg4 harg4 arg24 arg25 arg26 x0 x1 x3)) (lagR 5 3 arg25.view (kernelRun0_A.sl.HS1_12 c arg1 harg1 arg2 harg2 arg4 harg4 arg24 arg25 arg26 x0 x1 x3))
  | 6 => cvT (View.readAt (Elt F) arg13.view (Rect.unit ![0, 256 * (6 % 6)] S1x256.size (inb2 (by omega) (by omega)) : Rect S1x1536).toLoadRect (harg13.unread x12)) (View.readAt (Elt F) arg12.view (Rect.unit ![3, 256 * (6 % 6)] S1x256.size (inb2 (by omega) (by omega)) : Rect S4x1536).toLoadRect (harg12.unread x11)) (View.readAt (Elt F) arg12.view (Rect.unit ![2, 256 * (6 % 6)] S1x256.size (inb2 (by omega) (by omega)) : Rect S4x1536).toLoadRect (harg12.unread x11)) (View.readAt (Elt F) arg12.view (Rect.unit ![1, 256 * (6 % 6)] S1x256.size (inb2 (by omega) (by omega)) : Rect S4x1536).toLoadRect (harg12.unread x11)) (View.readAt (Elt F) arg12.view (Rect.unit ![0, 256 * (6 % 6)] S1x256.size (inb2 (by omega) (by omega)) : Rect S4x1536).toLoadRect (harg12.unread x11)) (lagR 6 0 arg25.view (kernelRun0_A.sl.HS1_14 c arg1 harg1 arg2 harg2 arg4 harg4 arg24 arg25 arg26 x0 x1 x3)) (lagR 6 1 arg25.view (kernelRun0_A.sl.HS1_14 c arg1 harg1 arg2 harg2 arg4 harg4 arg24 arg25 arg26 x0 x1 x3)) (lagR 6 2 arg25.view (kernelRun0_A.sl.HS1_14 c arg1 harg1 arg2 harg2 arg4 harg4 arg24 arg25 arg26 x0 x1 x3)) (lagR 6 3 arg25.view (kernelRun0_A.sl.HS1_14 c arg1 harg1 arg2 harg2 arg4 harg4 arg24 arg25 arg26 x0 x1 x3))
  | 7 => cvT (View.readAt (Elt F) arg13.view (Rect.unit ![0, 256 * (7 % 6)] S1x256.size (inb2 (by omega) (by omega)) : Rect S1x1536).toLoadRect (harg13.unread x12)) (View.readAt (Elt F) arg12.view (Rect.unit ![3, 256 * (7 % 6)] S1x256.size (inb2 (by omega) (by omega)) : Rect S4x1536).toLoadRect (harg12.unread x11)) (View.readAt (Elt F) arg12.view (Rect.unit ![2, 256 * (7 % 6)] S1x256.size (inb2 (by omega) (by omega)) : Rect S4x1536).toLoadRect (harg12.unread x11)) (View.readAt (Elt F) arg12.view (Rect.unit ![1, 256 * (7 % 6)] S1x256.size (inb2 (by omega) (by omega)) : Rect S4x1536).toLoadRect (harg12.unread x11)) (View.readAt (Elt F) arg12.view (Rect.unit ![0, 256 * (7 % 6)] S1x256.size (inb2 (by omega) (by omega)) : Rect S4x1536).toLoadRect (harg12.unread x11)) (lagR 7 0 arg25.view (kernelRun0_A.sl.HS1_16 c arg1 harg1 arg2 harg2 arg4 harg4 arg24 arg25 arg26 x0 x1 x3)) (lagR 7 1 arg25.view (kernelRun0_A.sl.HS1_16 c arg1 harg1 arg2 harg2 arg4 harg4 arg24 arg25 arg26 x0 x1 x3)) (lagR 7 2 arg25.view (kernelRun0_A.sl.HS1_16 c arg1 harg1 arg2 harg2 arg4 harg4 arg24 arg25 arg26 x0 x1 x3)) (lagR 7 3 arg25.view (kernelRun0_A.sl.HS1_16 c arg1 harg1 arg2 harg2 arg4 harg4 arg24 arg25 arg26 x0 x1 x3))
  | 8 => cvT (View.readAt (Elt F) arg13.view (Rect.unit ![0, 256 * (8 % 6)] S1x256.size (inb2 (by omega) (by omega)) : Rect S1x1536).toLoadRect (harg13.unread x12)) (View.readAt (Elt F) arg12.view (Rect.unit ![3, 256 * (8 % 6)] S1x256.size (inb2 (by omega) (by omega)) : Rect S4x1536).toLoadRect (harg12.unread x11)) (View.readAt (Elt F) arg12.view (Rect.unit ![2, 256 * (8 % 6)] S1x256.size (inb2 (by omega) (by omega)) : Rect S4x1536).toLoadRect (harg12.unread x11)) (View.readAt (Elt F) arg12.view (Rect.unit ![1, 256 * (8 % 6)] S1x256.size (inb2 (by omega) (by omega)) : Rect S4x1536).toLoadRect (harg12.unread x11)) (View.readAt (Elt F) arg12.view (Rect.unit ![0, 256 * (8 % 6)] S1x256.size (inb2 (by omega) (by omega)) : Rect S4x1536).toLoadRect (harg12.unread x11)) (lagR 8 0 arg25.view (kernelRun0_A.sl.HS1_18 c arg1 harg1 arg2 harg2 arg4 harg4 arg24 arg25 arg26 x0 x1 x3)) (lagR 8 1 arg25.view (kernelRun0_A.sl.HS1_18 c arg1 harg1 arg2 harg2 arg4 harg4 arg24 arg25 arg26 x0 x1 x3)) (lagR 8 2 arg25.view (kernelRun0_A.sl.HS1_18 c arg1 harg1 arg2 harg2 arg4 harg4 arg24 arg25 arg26 x0 x1 x3)) (lagR 8 3 arg25.view (kernelRun0_A.sl.HS1_18 c arg1 harg1 arg2 harg2 arg4 harg4 arg24 arg25 arg26 x0 x1 x3))
  | 9 => cvT (View.readAt (Elt F) arg13.view (Rect.unit ![0, 256 * (9 % 6)] S1x256.size (inb2 (by omega) (by omega)) : Rect S1x1536).toLoadRect (harg13.unread x12)) (View.readAt (Elt F) arg12.view (Rect.unit ![3, 256 * (9 % 6)] S1x256.size (inb2 (by omega) (by omega)) : Rect S4x1536).toLoadRect (harg12.unread x11)) (View.readAt (Elt F) arg12.view (Rect.unit ![2, 256 * (9 % 6)] S1x256.size (inb2 (by omega) (by omega)) : Rect S4x1536).toLoadRect (harg12.unread x11)) (View.readAt (Elt F) arg12.view (Rect.unit ![1, 256 * (9 % 6)] S1x256.size (inb2 (by omega) (by omega)) : Rect S4x1536).toLoadRect (harg12.unread x11)) (View.readAt (Elt F) arg12.view (Rect.unit ![0, 256 * (9 % 6)] S1x256.size (inb2 (by omega) (by omega)) : Rect S4x1536).toLoadRect (harg12.unread x11)) (lagR 9 0 arg25.view (kernelRun0_A.sl.HS1_20 c arg1 harg1 arg2 harg2 arg4 harg4 arg24 arg25 arg26 x0 x1 x3)) (lagR 9 1 arg25.view (kernelRun0_A.sl.HS1_20 c arg1 harg1 arg2 harg2 arg4 harg4 arg24 arg25 arg26 x0 x1 x3)) (lagR 9 2 arg25.view (kernelRun0_A.sl.HS1_20 c arg1 harg1 arg2 harg2 arg4 harg4 arg24 arg25 arg26 x0 x1 x3)) (lagR 9 3 arg25.view (kernelRun0_A.sl.HS1_20 c arg1 harg1 arg2 harg2 arg4 harg4 arg24 arg25 arg26 x0 x1 x3))
  | 10 => cvT (View.readAt (Elt F) arg13.view (Rect.unit ![0, 256 * (10 % 6)] S1x256.size (inb2 (by omega) (by omega)) : Rect S1x1536).toLoadRect (harg13.unread x12)) (View.readAt (Elt F) arg12.view (Rect.unit ![3, 256 * (10 % 6)] S1x256.size (inb2 (by omega) (by omega)) : Rect S4x1536).toLoadRect (harg12.unread x11)) (View.readAt (Elt F) arg12.view (Rect.unit ![2, 256 * (10 % 6)] S1x256.size (inb2 (by omega) (by omega)) : Rect S4x1536).toLoadRect (harg12.unread x11)) (View.readAt (Elt F) arg12.view (Rect.unit ![1, 256 * (10 % 6)] S1x256.size (inb2 (by omega) (by omega)) : Rect S4x1536).toLoadRect (harg12.unread x11)) (View.readAt (Elt F) arg12.view (Rect.unit ![0, 256 * (10 % 6)] S1x256.size (inb2 (by omega) (by omega)) : Rect S4x1536).toLoadRect (harg12.unread x11)) (lagR 10 0 arg25.view (kernelRun0_A.sl.HS1_22 c arg1 harg1 arg2 harg2 arg4 harg4 arg24 arg25 arg26 x0 x1 x3)) (lagR 10 1 arg25.view (kernelRun0_A.sl.HS1_22 c arg1 harg1 arg2 harg2 arg4 harg4 arg24 arg25 arg26 x0 x1 x3)) (lagR 10 2 arg25.view (kernelRun0_A.sl.HS1_22 c arg1 harg1 arg2 harg2 arg4 harg4 arg24 arg25 arg26 x0 x1 x3)) (lagR 10 3 arg25.view (kernelRun0_A.sl.HS1_22 c arg1 harg1 arg2 harg2 arg4 harg4 arg24 arg25 arg26 x0 x1 x3))
  | 11 => cvT (View.readAt (Elt F) arg13.view (Rect.unit ![0, 256 * (11 % 6)] S1x256.size (inb2 (by omega) (by omega)) : Rect S1x1536).toLoadRect (harg13.unread x12)) (View.readAt (Elt F) arg12.view (Rect.unit ![3, 256 * (11 % 6)] S1x256.size (inb2 (by omega) (by omega)) : Rect S4x1536).toLoadRect (harg12.unread x11)) (View.readAt (Elt F) arg12.view (Rect.unit ![2, 256 * (11 % 6)] S1x256.size (inb2 (by omega) (by omega)) : Rect S4x1536).toLoadRect (harg12.unread x11)) (View.readAt (Elt F) arg12.view (Rect.unit ![1, 256 * (11 % 6)] S1x256.size (inb2 (by omega) (by omega)) : Rect S4x1536).toLoadRect (harg12.unread x11)) (View.readAt (Elt F) arg12.view (Rect.unit ![0, 256 * (11 % 6)] S1x256.size (inb2 (by omega) (by omega)) : Rect S4x1536).toLoadRect (harg12.unread x11)) (lagR 11 0 arg25.view (kernelRun0_A.sl.HS1_24 c arg1 harg1 arg2 harg2 arg4 harg4 arg24 arg25 arg26 x0 x1 x3)) (lagR 11 1 arg25.view (kernelRun0_A.sl.HS1_24 c arg1 harg1 arg2 harg2 arg4 harg4 arg24 arg25 arg26 x0 x1 x3)) (lagR 11 2 arg25.view (kernelRun0_A.sl.HS1_24 c arg1 harg1 arg2 harg2 arg4 harg4 arg24 arg25 arg26 x0 x1 x3)) (lagR 11 3 arg25.view (kernelRun0_A.sl.HS1_24 c arg1 harg1 arg2 harg2 arg4 harg4 arg24 arg25 arg26 x0 x1 x3))
  | n => cvB x0 x1 x3 x11 x12 (zeroC (F := F)) n

theorem V_eq : (V c arg1 harg1 arg2 harg2 arg4 harg4 arg12 harg12 arg13 harg13 arg24 arg25 arg26 x0 x1 x3 x11 x12) = cvB x0 x1 x3 x11 x12 (zeroC (F := F)) := by
  funext n
  match n with
  | 0 =>
    refine (show _ = cvT (View.readAt (Elt F) arg13.view (Rect.unit ![0, 256 * (0 % 6)] S1x256.size (inb2 (by omega) (by omega)) : Rect S1x1536).toLoadRect (harg13.unread x12)) (View.readAt (Elt F) arg12.view (Rect.unit ![3, 256 * (0 % 6)] S1x256.size (inb2 (by omega) (by omega)) : Rect S4x1536).toLoadRect (harg12.unread x11)) (View.readAt (Elt F) arg12.view (Rect.unit ![2, 256 * (0 % 6)] S1x256.size (inb2 (by omega) (by omega)) : Rect S4x1536).toLoadRect (harg12.unread x11)) (View.readAt (Elt F) arg12.view (Rect.unit ![1, 256 * (0 % 6)] S1x256.size (inb2 (by omega) (by omega)) : Rect S4x1536).toLoadRect (harg12.unread x11)) (View.readAt (Elt F) arg12.view (Rect.unit ![0, 256 * (0 % 6)] S1x256.size (inb2 (by omega) (by omega)) : Rect S4x1536).toLoadRect (harg12.unread x11)) (lagR 0 0 arg25.view (kernelRun0_A.sl.HS1_2 c arg1 harg1 arg2 harg2 arg4 harg4 arg24 arg26 x0 x1 x3)) (lagR 0 1 arg25.view (kernelRun0_A.sl.HS1_2 c arg1 harg1 arg2 harg2 arg4 harg4 arg24 arg26 x0 x1 x3)) (lagR 0 2 arg25.view (kernelRun0_A.sl.HS1_2 c arg1 harg1 arg2 harg2 arg4 harg4 arg24 arg26 x0 x1 x3)) (lagR 0 3 arg25.view (kernelRun0_A.sl.HS1_2 c arg1 harg1 arg2 harg2 arg4 harg4 arg24 arg26 x0 x1 x3)) from rfl).trans ?_
    simp only [hs1_0, lagR_eq _ 0 (by decide), lagR_eq _ 1 (by decide), lagR_eq _ 2 (by decide), lagR_eq _ 3 (by decide), View.readAt_eq_ld, harg12.read_unread, harg13.read_unread]
    rfl
  | 1 =>
    refine (show _ = cvT (View.readAt (Elt F) arg13.view (Rect.unit ![0, 256 * (1 % 6)] S1x256.size (inb2 (by omega) (by omega)) : Rect S1x1536).toLoadRect (harg13.unread x12)) (View.readAt (Elt F) arg12.view (Rect.unit ![3, 256 * (1 % 6)] S1x256.size (inb2 (by omega) (by omega)) : Rect S4x1536).toLoadRect (harg12.unread x11)) (View.readAt (Elt F) arg12.view (Rect.unit ![2, 256 * (1 % 6)] S1x256.size (inb2 (by omega) (by omega)) : Rect S4x1536).toLoadRect (harg12.unread x11)) (View.readAt (Elt F) arg12.view (Rect.unit ![1, 256 * (1 % 6)] S1x256.size (inb2 (by omega) (by omega)) : Rect S4x1536).toLoadRect (harg12.unread x11)) (View.readAt (Elt F) arg12.view (Rect.unit ![0, 256 * (1 % 6)] S1x256.size (inb2 (by omega) (by omega)) : Rect S4x1536).toLoadRect (harg12.unread x11)) (lagR 1 0 arg25.view (kernelRun0_A.sl.HS1_4 c arg1 harg1 arg2 harg2 arg4 harg4 arg24 arg25 arg26 x0 x1 x3)) (lagR 1 1 arg25.view (kernelRun0_A.sl.HS1_4 c arg1 harg1 arg2 harg2 arg4 harg4 arg24 arg25 arg26 x0 x1 x3)) (lagR 1 2 arg25.view (kernelRun0_A.sl.HS1_4 c arg1 harg1 arg2 harg2 arg4 harg4 arg24 arg25 arg26 x0 x1 x3)) (lagR 1 3 arg25.view (kernelRun0_A.sl.HS1_4 c arg1 harg1 arg2 harg2 arg4 harg4 arg24 arg25 arg26 x0 x1 x3)) from rfl).trans ?_
    simp only [hs1_1, lagR_eq _ 0 (by decide), lagR_eq _ 1 (by decide), lagR_eq _ 2 (by decide), lagR_eq _ 3 (by decide), View.readAt_eq_ld, harg12.read_unread, harg13.read_unread]
    rfl
  | 2 =>
    refine (show _ = cvT (View.readAt (Elt F) arg13.view (Rect.unit ![0, 256 * (2 % 6)] S1x256.size (inb2 (by omega) (by omega)) : Rect S1x1536).toLoadRect (harg13.unread x12)) (View.readAt (Elt F) arg12.view (Rect.unit ![3, 256 * (2 % 6)] S1x256.size (inb2 (by omega) (by omega)) : Rect S4x1536).toLoadRect (harg12.unread x11)) (View.readAt (Elt F) arg12.view (Rect.unit ![2, 256 * (2 % 6)] S1x256.size (inb2 (by omega) (by omega)) : Rect S4x1536).toLoadRect (harg12.unread x11)) (View.readAt (Elt F) arg12.view (Rect.unit ![1, 256 * (2 % 6)] S1x256.size (inb2 (by omega) (by omega)) : Rect S4x1536).toLoadRect (harg12.unread x11)) (View.readAt (Elt F) arg12.view (Rect.unit ![0, 256 * (2 % 6)] S1x256.size (inb2 (by omega) (by omega)) : Rect S4x1536).toLoadRect (harg12.unread x11)) (lagR 2 0 arg25.view (kernelRun0_A.sl.HS1_6 c arg1 harg1 arg2 harg2 arg4 harg4 arg24 arg25 arg26 x0 x1 x3)) (lagR 2 1 arg25.view (kernelRun0_A.sl.HS1_6 c arg1 harg1 arg2 harg2 arg4 harg4 arg24 arg25 arg26 x0 x1 x3)) (lagR 2 2 arg25.view (kernelRun0_A.sl.HS1_6 c arg1 harg1 arg2 harg2 arg4 harg4 arg24 arg25 arg26 x0 x1 x3)) (lagR 2 3 arg25.view (kernelRun0_A.sl.HS1_6 c arg1 harg1 arg2 harg2 arg4 harg4 arg24 arg25 arg26 x0 x1 x3)) from rfl).trans ?_
    simp only [hs1_2, lagR_eq _ 0 (by decide), lagR_eq _ 1 (by decide), lagR_eq _ 2 (by decide), lagR_eq _ 3 (by decide), View.readAt_eq_ld, harg12.read_unread, harg13.read_unread]
    rfl
  | 3 =>
    refine (show _ = cvT (View.readAt (Elt F) arg13.view (Rect.unit ![0, 256 * (3 % 6)] S1x256.size (inb2 (by omega) (by omega)) : Rect S1x1536).toLoadRect (harg13.unread x12)) (View.readAt (Elt F) arg12.view (Rect.unit ![3, 256 * (3 % 6)] S1x256.size (inb2 (by omega) (by omega)) : Rect S4x1536).toLoadRect (harg12.unread x11)) (View.readAt (Elt F) arg12.view (Rect.unit ![2, 256 * (3 % 6)] S1x256.size (inb2 (by omega) (by omega)) : Rect S4x1536).toLoadRect (harg12.unread x11)) (View.readAt (Elt F) arg12.view (Rect.unit ![1, 256 * (3 % 6)] S1x256.size (inb2 (by omega) (by omega)) : Rect S4x1536).toLoadRect (harg12.unread x11)) (View.readAt (Elt F) arg12.view (Rect.unit ![0, 256 * (3 % 6)] S1x256.size (inb2 (by omega) (by omega)) : Rect S4x1536).toLoadRect (harg12.unread x11)) (lagR 3 0 arg25.view (kernelRun0_A.sl.HS1_8 c arg1 harg1 arg2 harg2 arg4 harg4 arg24 arg25 arg26 x0 x1 x3)) (lagR 3 1 arg25.view (kernelRun0_A.sl.HS1_8 c arg1 harg1 arg2 harg2 arg4 harg4 arg24 arg25 arg26 x0 x1 x3)) (lagR 3 2 arg25.view (kernelRun0_A.sl.HS1_8 c arg1 harg1 arg2 harg2 arg4 harg4 arg24 arg25 arg26 x0 x1 x3)) (lagR 3 3 arg25.view (kernelRun0_A.sl.HS1_8 c arg1 harg1 arg2 harg2 arg4 harg4 arg24 arg25 arg26 x0 x1 x3)) from rfl).trans ?_
    simp only [hs1_3, lagR_eq _ 0 (by decide), lagR_eq _ 1 (by decide), lagR_eq _ 2 (by decide), lagR_eq _ 3 (by decide), View.readAt_eq_ld, harg12.read_unread, harg13.read_unread]
    rfl
  | 4 =>
    refine (show _ = cvT (View.readAt (Elt F) arg13.view (Rect.unit ![0, 256 * (4 % 6)] S1x256.size (inb2 (by omega) (by omega)) : Rect S1x1536).toLoadRect (harg13.unread x12)) (View.readAt (Elt F) arg12.view (Rect.unit ![3, 256 * (4 % 6)] S1x256.size (inb2 (by omega) (by omega)) : Rect S4x1536).toLoadRect (harg12.unread x11)) (View.readAt (Elt F) arg12.view (Rect.unit ![2, 256 * (4 % 6)] S1x256.size (inb2 (by omega) (by omega)) : Rect S4x1536).toLoadRect (harg12.unread x11)) (View.readAt (Elt F) arg12.view (Rect.unit ![1, 256 * (4 % 6)] S1x256.size (inb2 (by omega) (by omega)) : Rect S4x1536).toLoadRect (harg12.unread x11)) (View.readAt (Elt F) arg12.view (Rect.unit ![0, 256 * (4 % 6)] S1x256.size (inb2 (by omega) (by omega)) : Rect S4x1536).toLoadRect (harg12.unread x11)) (lagR 4 0 arg25.view (kernelRun0_A.sl.HS1_10 c arg1 harg1 arg2 harg2 arg4 harg4 arg24 arg25 arg26 x0 x1 x3)) (lagR 4 1 arg25.view (kernelRun0_A.sl.HS1_10 c arg1 harg1 arg2 harg2 arg4 harg4 arg24 arg25 arg26 x0 x1 x3)) (lagR 4 2 arg25.view (kernelRun0_A.sl.HS1_10 c arg1 harg1 arg2 harg2 arg4 harg4 arg24 arg25 arg26 x0 x1 x3)) (lagR 4 3 arg25.view (kernelRun0_A.sl.HS1_10 c arg1 harg1 arg2 harg2 arg4 harg4 arg24 arg25 arg26 x0 x1 x3)) from rfl).trans ?_
    simp only [hs1_4, lagR_eq _ 0 (by decide), lagR_eq _ 1 (by decide), lagR_eq _ 2 (by decide), lagR_eq _ 3 (by decide), View.readAt_eq_ld, harg12.read_unread, harg13.read_unread]
    rfl
  | 5 =>
    refine (show _ = cvT (View.readAt (Elt F) arg13.view (Rect.unit ![0, 256 * (5 % 6)] S1x256.size (inb2 (by omega) (by omega)) : Rect S1x1536).toLoadRect (harg13.unread x12)) (View.readAt (Elt F) arg12.view (Rect.unit ![3, 256 * (5 % 6)] S1x256.size (inb2 (by omega) (by omega)) : Rect S4x1536).toLoadRect (harg12.unread x11)) (View.readAt (Elt F) arg12.view (Rect.unit ![2, 256 * (5 % 6)] S1x256.size (inb2 (by omega) (by omega)) : Rect S4x1536).toLoadRect (harg12.unread x11)) (View.readAt (Elt F) arg12.view (Rect.unit ![1, 256 * (5 % 6)] S1x256.size (inb2 (by omega) (by omega)) : Rect S4x1536).toLoadRect (harg12.unread x11)) (View.readAt (Elt F) arg12.view (Rect.unit ![0, 256 * (5 % 6)] S1x256.size (inb2 (by omega) (by omega)) : Rect S4x1536).toLoadRect (harg12.unread x11)) (lagR 5 0 arg25.view (kernelRun0_A.sl.HS1_12 c arg1 harg1 arg2 harg2 arg4 harg4 arg24 arg25 arg26 x0 x1 x3)) (lagR 5 1 arg25.view (kernelRun0_A.sl.HS1_12 c arg1 harg1 arg2 harg2 arg4 harg4 arg24 arg25 arg26 x0 x1 x3)) (lagR 5 2 arg25.view (kernelRun0_A.sl.HS1_12 c arg1 harg1 arg2 harg2 arg4 harg4 arg24 arg25 arg26 x0 x1 x3)) (lagR 5 3 arg25.view (kernelRun0_A.sl.HS1_12 c arg1 harg1 arg2 harg2 arg4 harg4 arg24 arg25 arg26 x0 x1 x3)) from rfl).trans ?_
    simp only [hs1_5, lagR_eq _ 0 (by decide), lagR_eq _ 1 (by decide), lagR_eq _ 2 (by decide), lagR_eq _ 3 (by decide), View.readAt_eq_ld, harg12.read_unread, harg13.read_unread]
    rfl
  | 6 =>
    refine (show _ = cvT (View.readAt (Elt F) arg13.view (Rect.unit ![0, 256 * (6 % 6)] S1x256.size (inb2 (by omega) (by omega)) : Rect S1x1536).toLoadRect (harg13.unread x12)) (View.readAt (Elt F) arg12.view (Rect.unit ![3, 256 * (6 % 6)] S1x256.size (inb2 (by omega) (by omega)) : Rect S4x1536).toLoadRect (harg12.unread x11)) (View.readAt (Elt F) arg12.view (Rect.unit ![2, 256 * (6 % 6)] S1x256.size (inb2 (by omega) (by omega)) : Rect S4x1536).toLoadRect (harg12.unread x11)) (View.readAt (Elt F) arg12.view (Rect.unit ![1, 256 * (6 % 6)] S1x256.size (inb2 (by omega) (by omega)) : Rect S4x1536).toLoadRect (harg12.unread x11)) (View.readAt (Elt F) arg12.view (Rect.unit ![0, 256 * (6 % 6)] S1x256.size (inb2 (by omega) (by omega)) : Rect S4x1536).toLoadRect (harg12.unread x11)) (lagR 6 0 arg25.view (kernelRun0_A.sl.HS1_14 c arg1 harg1 arg2 harg2 arg4 harg4 arg24 arg25 arg26 x0 x1 x3)) (lagR 6 1 arg25.view (kernelRun0_A.sl.HS1_14 c arg1 harg1 arg2 harg2 arg4 harg4 arg24 arg25 arg26 x0 x1 x3)) (lagR 6 2 arg25.view (kernelRun0_A.sl.HS1_14 c arg1 harg1 arg2 harg2 arg4 harg4 arg24 arg25 arg26 x0 x1 x3)) (lagR 6 3 arg25.view (kernelRun0_A.sl.HS1_14 c arg1 harg1 arg2 harg2 arg4 harg4 arg24 arg25 arg26 x0 x1 x3)) from rfl).trans ?_
    simp only [hs1_6, lagR_eq _ 0 (by decide), lagR_eq _ 1 (by decide), lagR_eq _ 2 (by decide), lagR_eq _ 3 (by decide), View.readAt_eq_ld, harg12.read_unread, harg13.read_unread]
    rfl
  | 7 =>
    refine (show _ = cvT (View.readAt (Elt F) arg13.view (Rect.unit ![0, 256 * (7 % 6)] S1x256.size (inb2 (by omega) (by omega)) : Rect S1x1536).toLoadRect (harg13.unread x12)) (View.readAt (Elt F) arg12.view (Rect.unit ![3, 256 * (7 % 6)] S1x256.size (inb2 (by omega) (by omega)) : Rect S4x1536).toLoadRect (harg12.unread x11)) (View.readAt (Elt F) arg12.view (Rect.unit ![2, 256 * (7 % 6)] S1x256.size (inb2 (by omega) (by omega)) : Rect S4x1536).toLoadRect (harg12.unread x11)) (View.readAt (Elt F) arg12.view (Rect.unit ![1, 256 * (7 % 6)] S1x256.size (inb2 (by omega) (by omega)) : Rect S4x1536).toLoadRect (harg12.unread x11)) (View.readAt (Elt F) arg12.view (Rect.unit ![0, 256 * (7 % 6)] S1x256.size (inb2 (by omega) (by omega)) : Rect S4x1536).toLoadRect (harg12.unread x11)) (lagR 7 0 arg25.view (kernelRun0_A.sl.HS1_16 c arg1 harg1 arg2 harg2 arg4 harg4 arg24 arg25 arg26 x0 x1 x3)) (lagR 7 1 arg25.view (kernelRun0_A.sl.HS1_16 c arg1 harg1 arg2 harg2 arg4 harg4 arg24 arg25 arg26 x0 x1 x3)) (lagR 7 2 arg25.view (kernelRun0_A.sl.HS1_16 c arg1 harg1 arg2 harg2 arg4 harg4 arg24 arg25 arg26 x0 x1 x3)) (lagR 7 3 arg25.view (kernelRun0_A.sl.HS1_16 c arg1 harg1 arg2 harg2 arg4 harg4 arg24 arg25 arg26 x0 x1 x3)) from rfl).trans ?_
    simp only [hs1_7, lagR_eq _ 0 (by decide), lagR_eq _ 1 (by decide), lagR_eq _ 2 (by decide), lagR_eq _ 3 (by decide), View.readAt_eq_ld, harg12.read_unread, harg13.read_unread]
    rfl
  | 8 =>
    refine (show _ = cvT (View.readAt (Elt F) arg13.view (Rect.unit ![0, 256 * (8 % 6)] S1x256.size (inb2 (by omega) (by omega)) : Rect S1x1536).toLoadRect (harg13.unread x12)) (View.readAt (Elt F) arg12.view (Rect.unit ![3, 256 * (8 % 6)] S1x256.size (inb2 (by omega) (by omega)) : Rect S4x1536).toLoadRect (harg12.unread x11)) (View.readAt (Elt F) arg12.view (Rect.unit ![2, 256 * (8 % 6)] S1x256.size (inb2 (by omega) (by omega)) : Rect S4x1536).toLoadRect (harg12.unread x11)) (View.readAt (Elt F) arg12.view (Rect.unit ![1, 256 * (8 % 6)] S1x256.size (inb2 (by omega) (by omega)) : Rect S4x1536).toLoadRect (harg12.unread x11)) (View.readAt (Elt F) arg12.view (Rect.unit ![0, 256 * (8 % 6)] S1x256.size (inb2 (by omega) (by omega)) : Rect S4x1536).toLoadRect (harg12.unread x11)) (lagR 8 0 arg25.view (kernelRun0_A.sl.HS1_18 c arg1 harg1 arg2 harg2 arg4 harg4 arg24 arg25 arg26 x0 x1 x3)) (lagR 8 1 arg25.view (kernelRun0_A.sl.HS1_18 c arg1 harg1 arg2 harg2 arg4 harg4 arg24 arg25 arg26 x0 x1 x3)) (lagR 8 2 arg25.view (kernelRun0_A.sl.HS1_18 c arg1 harg1 arg2 harg2 arg4 harg4 arg24 arg25 arg26 x0 x1 x3)) (lagR 8 3 arg25.view (kernelRun0_A.sl.HS1_18 c arg1 harg1 arg2 harg2 arg4 harg4 arg24 arg25 arg26 x0 x1 x3)) from rfl).trans ?_
    simp only [hs1_8, lagR_eq _ 0 (by decide), lagR_eq _ 1 (by decide), lagR_eq _ 2 (by decide), lagR_eq _ 3 (by decide), View.readAt_eq_ld, harg12.read_unread, harg13.read_unread]
    rfl
  | 9 =>
    refine (show _ = cvT (View.readAt (Elt F) arg13.view (Rect.unit ![0, 256 * (9 % 6)] S1x256.size (inb2 (by omega) (by omega)) : Rect S1x1536).toLoadRect (harg13.unread x12)) (View.readAt (Elt F) arg12.view (Rect.unit ![3, 256 * (9 % 6)] S1x256.size (inb2 (by omega) (by omega)) : Rect S4x1536).toLoadRect (harg12.unread x11)) (View.readAt (Elt F) arg12.view (Rect.unit ![2, 256 * (9 % 6)] S1x256.size (inb2 (by omega) (by omega)) : Rect S4x1536).toLoadRect (harg12.unread x11)) (View.readAt (Elt F) arg12.view (Rect.unit ![1, 256 * (9 % 6)] S1x256.size (inb2 (by omega) (by omega)) : Rect S4x1536).toLoadRect (harg12.unread x11)) (View.readAt (Elt F) arg12.view (Rect.unit ![0, 256 * (9 % 6)] S1x256.size (inb2 (by omega) (by omega)) : Rect S4x1536).toLoadRect (harg12.unread x11)) (lagR 9 0 arg25.view (kernelRun0_A.sl.HS1_20 c arg1 harg1 arg2 harg2 arg4 harg4 arg24 arg25 arg26 x0 x1 x3)) (lagR 9 1 arg25.view (kernelRun0_A.sl.HS1_20 c arg1 harg1 arg2 harg2 arg4 harg4 arg24 arg25 arg26 x0 x1 x3)) (lagR 9 2 arg25.view (kernelRun0_A.sl.HS1_20 c arg1 harg1 arg2 harg2 arg4 harg4 arg24 arg25 arg26 x0 x1 x3)) (lagR 9 3 arg25.view (kernelRun0_A.sl.HS1_20 c arg1 harg1 arg2 harg2 arg4 harg4 arg24 arg25 arg26 x0 x1 x3)) from rfl).trans ?_
    simp only [hs1_9, lagR_eq _ 0 (by decide), lagR_eq _ 1 (by decide), lagR_eq _ 2 (by decide), lagR_eq _ 3 (by decide), View.readAt_eq_ld, harg12.read_unread, harg13.read_unread]
    rfl
  | 10 =>
    refine (show _ = cvT (View.readAt (Elt F) arg13.view (Rect.unit ![0, 256 * (10 % 6)] S1x256.size (inb2 (by omega) (by omega)) : Rect S1x1536).toLoadRect (harg13.unread x12)) (View.readAt (Elt F) arg12.view (Rect.unit ![3, 256 * (10 % 6)] S1x256.size (inb2 (by omega) (by omega)) : Rect S4x1536).toLoadRect (harg12.unread x11)) (View.readAt (Elt F) arg12.view (Rect.unit ![2, 256 * (10 % 6)] S1x256.size (inb2 (by omega) (by omega)) : Rect S4x1536).toLoadRect (harg12.unread x11)) (View.readAt (Elt F) arg12.view (Rect.unit ![1, 256 * (10 % 6)] S1x256.size (inb2 (by omega) (by omega)) : Rect S4x1536).toLoadRect (harg12.unread x11)) (View.readAt (Elt F) arg12.view (Rect.unit ![0, 256 * (10 % 6)] S1x256.size (inb2 (by omega) (by omega)) : Rect S4x1536).toLoadRect (harg12.unread x11)) (lagR 10 0 arg25.view (kernelRun0_A.sl.HS1_22 c arg1 harg1 arg2 harg2 arg4 harg4 arg24 arg25 arg26 x0 x1 x3)) (lagR 10 1 arg25.view (kernelRun0_A.sl.HS1_22 c arg1 harg1 arg2 harg2 arg4 harg4 arg24 arg25 arg26 x0 x1 x3)) (lagR 10 2 arg25.view (kernelRun0_A.sl.HS1_22 c arg1 harg1 arg2 harg2 arg4 harg4 arg24 arg25 arg26 x0 x1 x3)) (lagR 10 3 arg25.view (kernelRun0_A.sl.HS1_22 c arg1 harg1 arg2 harg2 arg4 harg4 arg24 arg25 arg26 x0 x1 x3)) from rfl).trans ?_
    simp only [hs1_10, lagR_eq _ 0 (by decide), lagR_eq _ 1 (by decide), lagR_eq _ 2 (by decide), lagR_eq _ 3 (by decide), View.readAt_eq_ld, harg12.read_unread, harg13.read_unread]
    rfl
  | 11 =>
    refine (show _ = cvT (View.readAt (Elt F) arg13.view (Rect.unit ![0, 256 * (11 % 6)] S1x256.size (inb2 (by omega) (by omega)) : Rect S1x1536).toLoadRect (harg13.unread x12)) (View.readAt (Elt F) arg12.view (Rect.unit ![3, 256 * (11 % 6)] S1x256.size (inb2 (by omega) (by omega)) : Rect S4x1536).toLoadRect (harg12.unread x11)) (View.readAt (Elt F) arg12.view (Rect.unit ![2, 256 * (11 % 6)] S1x256.size (inb2 (by omega) (by omega)) : Rect S4x1536).toLoadRect (harg12.unread x11)) (View.readAt (Elt F) arg12.view (Rect.unit ![1, 256 * (11 % 6)] S1x256.size (inb2 (by omega) (by omega)) : Rect S4x1536).toLoadRect (harg12.unread x11)) (View.readAt (Elt F) arg12.view (Rect.unit ![0, 256 * (11 % 6)] S1x256.size (inb2 (by omega) (by omega)) : Rect S4x1536).toLoadRect (harg12.unread x11)) (lagR 11 0 arg25.view (kernelRun0_A.sl.HS1_24 c arg1 harg1 arg2 harg2 arg4 harg4 arg24 arg25 arg26 x0 x1 x3)) (lagR 11 1 arg25.view (kernelRun0_A.sl.HS1_24 c arg1 harg1 arg2 harg2 arg4 harg4 arg24 arg25 arg26 x0 x1 x3)) (lagR 11 2 arg25.view (kernelRun0_A.sl.HS1_24 c arg1 harg1 arg2 harg2 arg4 harg4 arg24 arg25 arg26 x0 x1 x3)) (lagR 11 3 arg25.view (kernelRun0_A.sl.HS1_24 c arg1 harg1 arg2 harg2 arg4 harg4 arg24 arg25 arg26 x0 x1 x3)) from rfl).trans ?_
    simp only [hs1_11, lagR_eq _ 0 (by decide), lagR_eq _ 1 (by decide), lagR_eq _ 2 (by decide), lagR_eq _ 3 (by decide), View.readAt_eq_ld, harg12.read_unread, harg13.read_unread]
    rfl
  | n + 12 => rfl

theorem xs_run : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13).2.2.2.2.2.1 = xsL (fun h j => (V c arg1 harg1 arg2 harg2 arg4 harg4 arg12 harg12 arg13 harg13 arg24 arg25 arg26 x0 x1 x3 x11 x12) (6 * h + j)) 32 := by
  unfold kernelRun0_A
  rfl

theorem xs_out : out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 = View.canon (xsB x0 x1 x3 x11 x12 (zeroC (F := F))) :=
  (View.read_writes_eq_canon _ _ _ (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13)).trans (congrArg View.canon (by
    rw [xs_run, V_eq]
    rfl))

theorem bm_run : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13).2.2.2.2.2.2.1 = bmL (fun h => (V c arg1 harg1 arg2 harg2 arg4 harg4 arg12 harg12 arg13 harg13 arg24 arg25 arg26 x0 x1 x3 x11 x12) (6 * h + 4)) 2 := by
  unfold kernelRun0_A
  rfl

theorem bm_out : out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 = View.canon (bmB x0 x1 x3 x11 x12 (zeroC (F := F))) :=
  (View.read_writes_eq_canon _ _ _ (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13)).trans (congrArg View.canon (by
    rw [bm_run, V_eq]
    rfl))

theorem cm_run : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13).2.2.2.2.2.2.2.1 = bmL (fun h => (V c arg1 harg1 arg2 harg2 arg4 harg4 arg12 harg12 arg13 harg13 arg24 arg25 arg26 x0 x1 x3 x11 x12) (6 * h + 5)) 2 := by
  unfold kernelRun0_A
  rfl

theorem cm_out : out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 = View.canon (cmB x0 x1 x3 x11 x12 (zeroC (F := F))) :=
  (View.read_writes_eq_canon _ _ _ (cover0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13)).trans (congrArg View.canon (by
    rw [cm_run, V_eq]
    rfl))

theorem gt_run : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13).2.2.2.2.2.2.2.2.1 = gtL (fun n => gT (CaseA.Xn arg1 harg1 arg2 harg2 arg24 x0 x1 1 1 n) (View.readAt (Elt F) arg5.view (Rect.unit ![0, 0] S512x1024.size (inb2 (by omega) (by omega)) : Rect S512x1024).toLoadRect (harg5.unread x4)) (View.readAt (Elt F) arg10.view (Rect.unit ![0, 0] S32x1024.size (inb2 (by omega) (by omega)) : Rect S32x1024).toLoadRect (harg10.unread x9)) (View.readAt (Elt F) arg11.view (Rect.unit ![0, 0] S32x1.size (inb2 (by omega) (by omega)) : Rect S32x1).toLoadRect (harg11.unread x10))) 8 := by
  unfold kernelRun0_A
  rfl

theorem gt_out : out0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 = View.canon (gtB x0 x1 x4 x9 x10) :=
  (View.read_writes_eq_canon _ _ _ (cover0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13)).trans (congrArg View.canon (by
    rw [gt_run, CaseA.xn_read arg1 harg1 arg2 harg2 arg24 x0 x1 1 1 (by intro n h; omega)]
    simp only [View.readAt_eq_ld, harg5.read_unread, harg10.read_unread, harg11.read_unread, Nat.div_one]
    rfl))

theorem cr_run : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13).2.2.2.2.2.2.2.2.2.1 = ⟨rcc 11, cutR 11 arg25.view (kernelRun0_A.sl.HS1_24 c arg1 harg1 arg2 harg2 arg4 harg4 arg24 arg25 arg26 x0 x1 x3)⟩ :: (kernelRun0_A.sl.HS2_12 c arg1 harg1 arg2 harg2 arg4 harg4 arg24 arg25 arg26 x0 x1 x3) := by
  unfold kernelRun0_A
  rfl

theorem cr_out : sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 = View.canon (caL (uB x0 x1 x3) ([⟨Rect.unit ![0, 0] S8x1536.size (inb2 (by omega) (by omega)), k0_pay5⟩] : List (View.Piece (Elt F) S8x1536 .f32)) 12) :=
  (View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13)).trans (congrArg View.canon (by
    rw [cr_run, hs1_11, cutR_eq, hs2_11]
    rfl))

end Cert.InProjIdeal.ConvA

end
-- ==== Proof.InConvB.lean ====
/- Case B of the input projections' body: the convolution's stores, the carried rows and the small gates are those of `InConv`. -/
module

public import proofs.«01_k».proof.Proof.InConv
public import proofs.«01_k».proof.Proof.InCaseB

@[expose] public section

set_option maxRecDepth 16384

noncomputable section

namespace Cert.InProjIdeal.ConvB

open Idealize.ShloMosaic Idealize.ShloMosaic.TcCoe Idealize.SL.Sem Cert.InProjIdeal Cert.InProjIdeal.Gen Cert.InProjIdeal.Step Cert.InProjIdeal.Conv

variable {F : FTy → Type} [FloatOps F]

variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x512 .bf16) (harg3 : arg3.IsWhole) (arg4 : Memref sig .tc .vmem S1024x1536 .bf16) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S32x1024 .bf16) (harg10 : arg10.IsWhole) (arg11 : Memref sig .tc .vmem S32x1 .f32) (harg11 : arg11.IsWhole) (arg12 : Memref sig .tc .vmem S4x1536 .f32) (harg12 : arg12.IsWhole) (arg13 : Memref sig .tc .vmem S1x1536 .f32) (harg13 : arg13.IsWhole) (arg14 : Memref sig .tc .vmem S1024x1 .f32) (harg14 : arg14.IsWhole) (arg15 : Memref sig .tc .vmem S8x512x128 .bf16) (harg15 : arg15.IsWhole) (arg16 : Memref sig .tc .vmem S1024x512 .bf16) (harg16 : arg16.IsWhole) (arg17 : Memref sig .tc .vmem S8x1024x128 .bf16) (harg17 : arg17.IsWhole) (arg18 : Memref sig .tc .vmem S8x1024x128 .bf16) (harg18 : arg18.IsWhole) (arg19 : Memref sig .tc .vmem S8x1024x128 .bf16) (harg19 : arg19.IsWhole) (arg20 : Memref sig .tc .vmem S8x1024x128 .bf16) (harg20 : arg20.IsWhole) (arg21 : Memref sig .tc .vmem S1024x256 .bf16) (harg21 : arg21.IsWhole) (arg22 : Memref sig .tc .vmem S1024x256 .bf16) (harg22 : arg22.IsWhole) (arg23 : Memref sig .tc .vmem S8x32x128 .f32) (harg23 : arg23.IsWhole) (arg24 : Memref sig .tc .vmem S1024x1024 .bf16) (harg24 : arg24.IsWhole) (arg25 : Memref sig .tc .vmem S2x520x256 .f32) (harg25 : arg25.IsWhole) (arg26 : Memref sig .tc .vmem S8x1536 .f32) (harg26 : arg26.IsWhole) (hc0 : ¬cond0_0 i)
    (x0 : Vec F S1024x1024 .f32) (x1 : Vec F S1x1024 .f32) (x2 : Vec F S1024x512 .bf16) (x3 : Vec F S1024x1536 .bf16) (x4 : Vec F S512x1024 .bf16) (x5 : Vec F S1024x1024 .bf16) (x6 : Vec F S1024x1024 .bf16) (x7 : Vec F S1024x1024 .bf16) (x8 : Vec F S1024x1024 .bf16) (x9 : Vec F S32x1024 .bf16) (x10 : Vec F S32x1 .f32) (x11 : Vec F S4x1536 .f32) (x12 : Vec F S1x1536 .f32) (x13 : Vec F S1024x1 .f32) (xs2 : Vec F S8x1536 .f32)

theorem xn0 : (kernelRun0_B.sl.v39 c arg1 harg1 arg2 harg2 arg24 x0 x1) = XB x0 x1 0 :=
  congrFun (CaseB.xn_read arg1 harg1 arg2 harg2 arg24 x0 x1 1 1 (by intro n h; omega)) 0

theorem xn1 : (kernelRun0_B.sl.v822 c arg1 harg1 arg2 harg2 arg24 x0 x1) = XB x0 x1 1 :=
  congrFun (CaseB.xn_read arg1 harg1 arg2 harg2 arg24 x0 x1 1 1 (by intro n h; omega)) 1

theorem hs1_0 : (kernelRun0_B.sl.HS1_2 c arg1 harg1 arg2 harg2 arg4 harg4 arg24 arg26 harg26 x0 x1 x3 xs2) = pbt 0 (uB x0 x1 x3 0) :: pbc 0 ((ciB x0 x1 x3 xs2) 0) :: [] := by
  refine (show _ = pbt 0 (uT (kernelRun0_B.sl.v39 c arg1 harg1 arg2 harg2 arg24 x0 x1) (View.readAt (Elt F) arg4.view (Rect.unit ![0, 256 * (0 % 6)] S1024x256.size (inb2 (by omega) (by omega)) : Rect S1024x1536).toLoadRect (harg4.unread x3))) :: pbc 0 (k0_pay7 (View.readAt (Elt F) arg26.view (rcc 0).toLoadRect (harg26.unread xs2))) :: [] from rfl).trans ?_
  have e : k0_pay7 (View.readAt (Elt F) arg26.view (rcc 0).toLoadRect (harg26.unread xs2)) = (ciB x0 x1 x3 xs2) 0 := by
    refine (shapeCast_self _ _).trans ?_
    rw [View.readAt_eq_ld, harg26.read_unread]
    exact ciB_lo x0 x1 x3 xs2 0 (by decide)
  rw [e, xn0, View.readAt_eq_ld, harg4.read_unread]
  rfl

theorem hs1_1 : (kernelRun0_B.sl.HS1_4 c arg1 harg1 arg2 harg2 arg4 harg4 arg24 arg26 harg26 x0 x1 x3 xs2) = pbt 1 (uB x0 x1 x3 1) :: pbc 1 ((ciB x0 x1 x3 xs2) 1) :: (kernelRun0_B.sl.HS1_2 c arg1 harg1 arg2 harg2 arg4 harg4 arg24 arg26 harg26 x0 x1 x3 xs2) := by
  refine (show _ = pbt 1 (uT (kernelRun0_B.sl.v39 c arg1 harg1 arg2 harg2 arg24 x0 x1) (View.readAt (Elt F) arg4.view (Rect.unit ![0, 256 * (1 % 6)] S1024x256.size (inb2 (by omega) (by omega)) : Rect S1024x1536).toLoadRect (harg4.unread x3))) :: pbc 1 (k0_pay7 (View.readAt (Elt F) arg26.view (rcc 1).toLoadRect (harg26.unread xs2))) :: (kernelRun0_B.sl.HS1_2 c arg1 harg1 arg2 harg2 arg4 harg4 arg24 arg26 harg26 x0 x1 x3 xs2) from rfl).trans ?_
  have e : k0_pay7 (View.readAt (Elt F) arg26.view (rcc 1).toLoadRect (harg26.unread xs2)) = (ciB x0 x1 x3 xs2) 1 := by
    refine (shapeCast_self _ _).trans ?_
    rw [View.readAt_eq_ld, harg26.read_unread]
    exact ciB_lo x0 x1 x3 xs2 1 (by decide)
  rw [e, xn0, View.readAt_eq_ld, harg4.read_unread]
  rfl

theorem hs1_2 : (kernelRun0_B.sl.HS1_6 c arg1 harg1 arg2 harg2 arg4 harg4 arg24 arg26 harg26 x0 x1 x3 xs2) = pbt 2 (uB x0 x1 x3 2) :: pbc 2 ((ciB x0 x1 x3 xs2) 2) :: (kernelRun0_B.sl.HS1_4 c arg1 harg1 arg2 harg2 arg4 harg4 arg24 arg26 harg26 x0 x1 x3 xs2) := by
  refine (show _ = pbt 2 (uT (kernelRun0_B.sl.v39 c arg1 harg1 arg2 harg2 arg24 x0 x1) (View.readAt (Elt F) arg4.view (Rect.unit ![0, 256 * (2 % 6)] S1024x256.size (inb2 (by omega) (by omega)) : Rect S1024x1536).toLoadRect (harg4.unread x3))) :: pbc 2 (k0_pay7 (View.readAt (Elt F) arg26.view (rcc 2).toLoadRect (harg26.unread xs2))) :: (kernelRun0_B.sl.HS1_4 c arg1 harg1 arg2 harg2 arg4 harg4 arg24 arg26 harg26 x0 x1 x3 xs2) from rfl).trans ?_
  have e : k0_pay7 (View.readAt (Elt F) arg26.view (rcc 2).toLoadRect (harg26.unread xs2)) = (ciB x0 x1 x3 xs2) 2 := by
    refine (shapeCast_self _ _).trans ?_
    rw [View.readAt_eq_ld, harg26.read_unread]
    exact ciB_lo x0 x1 x3 xs2 2 (by decide)
  rw [e, xn0, View.readAt_eq_ld, harg4.read_unread]
  rfl

theorem hs1_3 : (kernelRun0_B.sl.HS1_8 c arg1 harg1 arg2 harg2 arg4 harg4 arg24 arg26 harg26 x0 x1 x3 xs2) = pbt 3 (uB x0 x1 x3 3) :: pbc 3 ((ciB x0 x1 x3 xs2) 3) :: (kernelRun0_B.sl.HS1_6 c arg1 harg1 arg2 harg2 arg4 harg4 arg24 arg26 harg26 x0 x1 x3 xs2) := by
  refine (show _ = pbt 3 (uT (kernelRun0_B.sl.v39 c arg1 harg1 arg2 harg2 arg24 x0 x1) (View.readAt (Elt F) arg4.view (Rect.unit ![0, 256 * (3 % 6)] S1024x256.size (inb2 (by omega) (by omega)) : Rect S1024x1536).toLoadRect (harg4.unread x3))) :: pbc 3 (k0_pay7 (View.readAt (Elt F) arg26.view (rcc 3).toLoadRect (harg26.unread xs2))) :: (kernelRun0_B.sl.HS1_6 c arg1 harg1 arg2 harg2 arg4 harg4 arg24 arg26 harg26 x0 x1 x3 xs2) from rfl).trans ?_
  have e : k0_pay7 (View.readAt (Elt F) arg26.view (rcc 3).toLoadRect (harg26.unread xs2)) = (ciB x0 x1 x3 xs2) 3 := by
    refine (shapeCast_self _ _).trans ?_
    rw [View.readAt_eq_ld, harg26.read_unread]
    exact ciB_lo x0 x1 x3 xs2 3 (by decide)
  rw [e, xn0, View.readAt_eq_ld, harg4.read_unread]
  rfl

theorem hs1_4 : (kernelRun0_B.sl.HS1_10 c arg1 harg1 arg2 harg2 arg4 harg4 arg24 arg26 harg26 x0 x1 x3 xs2) = pbt 4 (uB x0 x1 x3 4) :: pbc 4 ((ciB x0 x1 x3 xs2) 4) :: (kernelRun0_B.sl.HS1_8 c arg1 harg1 arg2 harg2 arg4 harg4 arg24 arg26 harg26 x0 x1 x3 xs2) := by
  refine (show _ = pbt 4 (uT (kernelRun0_B.sl.v39 c arg1 harg1 arg2 harg2 arg24 x0 x1) (View.readAt (Elt F) arg4.view (Rect.unit ![0, 256 * (4 % 6)] S1024x256.size (inb2 (by omega) (by omega)) : Rect S1024x1536).toLoadRect (harg4.unread x3))) :: pbc 4 (k0_pay7 (View.readAt (Elt F) arg26.view (rcc 4).toLoadRect (harg26.unread xs2))) :: (kernelRun0_B.sl.HS1_8 c arg1 harg1 arg2 harg2 arg4 harg4 arg24 arg26 harg26 x0 x1 x3 xs2) from rfl).trans ?_
  have e : k0_pay7 (View.readAt (Elt F) arg26.view (rcc 4).toLoadRect (harg26.unread xs2)) = (ciB x0 x1 x3 xs2) 4 := by
    refine (shapeCast_self _ _).trans ?_
    rw [View.readAt_eq_ld, harg26.read_unread]
    exact ciB_lo x0 x1 x3 xs2 4 (by decide)
  rw [e, xn0, View.readAt_eq_ld, harg4.read_unread]
  rfl

theorem hs1_5 : (kernelRun0_B.sl.HS1_12 c arg1 harg1 arg2 harg2 arg4 harg4 arg24 arg26 harg26 x0 x1 x3 xs2) = pbt 5 (uB x0 x1 x3 5) :: pbc 5 ((ciB x0 x1 x3 xs2) 5) :: (kernelRun0_B.sl.HS1_10 c arg1 harg1 arg2 harg2 arg4 harg4 arg24 arg26 harg26 x0 x1 x3 xs2) := by
  refine (show _ = pbt 5 (uT (kernelRun0_B.sl.v39 c arg1 harg1 arg2 harg2 arg24 x0 x1) (View.readAt (Elt F) arg4.view (Rect.unit ![0, 256 * (5 % 6)] S1024x256.size (inb2 (by omega) (by omega)) : Rect S1024x1536).toLoadRect (harg4.unread x3))) :: pbc 5 (k0_pay7 (View.readAt (Elt F) arg26.view (rcc 5).toLoadRect (harg26.unread xs2))) :: (kernelRun0_B.sl.HS1_10 c arg1 harg1 arg2 harg2 arg4 harg4 arg24 arg26 harg26 x0 x1 x3 xs2) from rfl).trans ?_
  have e : k0_pay7 (View.readAt (Elt F) arg26.view (rcc 5).toLoadRect (harg26.unread xs2)) = (ciB x0 x1 x3 xs2) 5 := by
    refine (shapeCast_self _ _).trans ?_
    rw [View.readAt_eq_ld, harg26.read_unread]
    exact ciB_lo x0 x1 x3 xs2 5 (by decide)
  rw [e, xn0, View.readAt_eq_ld, harg4.read_unread]
  rfl

theorem hs2_6 : (kernelRun0_B.sl.HS2_6 c arg1 harg1 arg2 harg2 arg4 harg4 arg24 arg25 arg26 harg26 x0 x1 x3 xs2) = caL (uB x0 x1 x3) ([] : List (View.Piece (Elt F) S8x1536 .f32)) 6 := by
  refine (show _ = [(⟨rcc 5, cutR 5 arg25.view (kernelRun0_B.sl.HS1_12 c arg1 harg1 arg2 harg2 arg4 harg4 arg24 arg26 harg26 x0 x1 x3 xs2)⟩ : View.Piece (Elt F) S8x1536 .f32), (⟨rcc 4, cutR 4 arg25.view (kernelRun0_B.sl.HS1_10 c arg1 harg1 arg2 harg2 arg4 harg4 arg24 arg26 harg26 x0 x1 x3 xs2)⟩ : View.Piece (Elt F) S8x1536 .f32), (⟨rcc 3, cutR 3 arg25.view (kernelRun0_B.sl.HS1_8 c arg1 harg1 arg2 harg2 arg4 harg4 arg24 arg26 harg26 x0 x1 x3 xs2)⟩ : View.Piece (Elt F) S8x1536 .f32), (⟨rcc 2, cutR 2 arg25.view (kernelRun0_B.sl.HS1_6 c arg1 harg1 arg2 harg2 arg4 harg4 arg24 arg26 harg26 x0 x1 x3 xs2)⟩ : View.Piece (Elt F) S8x1536 .f32), (⟨rcc 1, cutR 1 arg25.view (kernelRun0_B.sl.HS1_4 c arg1 harg1 arg2 harg2 arg4 harg4 arg24 arg26 harg26 x0 x1 x3 xs2)⟩ : View.Piece (Elt F) S8x1536 .f32), (⟨rcc 0, cutR 0 arg25.view (kernelRun0_B.sl.HS1_2 c arg1 harg1 arg2 harg2 arg4 harg4 arg24 arg26 harg26 x0 x1 x3 xs2)⟩ : View.Piece (Elt F) S8x1536 .f32)] from rfl).trans ?_
  rw [hs1_0, cutR_eq, hs1_1, cutR_eq, hs1_2, cutR_eq, hs1_3, cutR_eq, hs1_4, cutR_eq, hs1_5, cutR_eq]
  rfl

theorem hs1_6 : (kernelRun0_B.sl.HS1_14 c arg1 harg1 arg2 harg2 arg4 harg4 arg24 arg25 arg26 harg26 x0 x1 x3 xs2) = pbt 6 (uB x0 x1 x3 6) :: pbc 6 ((ciB x0 x1 x3 xs2) 6) :: (kernelRun0_B.sl.HS1_12 c arg1 harg1 arg2 harg2 arg4 harg4 arg24 arg26 harg26 x0 x1 x3 xs2) := by
  refine (show _ = pbt 6 (uT (kernelRun0_B.sl.v822 c arg1 harg1 arg2 harg2 arg24 x0 x1) (View.readAt (Elt F) arg4.view (Rect.unit ![0, 256 * (6 % 6)] S1024x256.size (inb2 (by omega) (by omega)) : Rect S1024x1536).toLoadRect (harg4.unread x3))) :: pbc 6 (k0_pay7 (arg26.view.readCov (kernelRun0_B.sl.HS2_6 c arg1 harg1 arg2 harg2 arg4 harg4 arg24 arg25 arg26 harg26 x0 x1 x3 xs2) (rcc 6).toLoadRect)) :: (kernelRun0_B.sl.HS1_12 c arg1 harg1 arg2 harg2 arg4 harg4 arg24 arg26 harg26 x0 x1 x3 xs2) from rfl).trans ?_
  have e : k0_pay7 (arg26.view.readCov (kernelRun0_B.sl.HS2_6 c arg1 harg1 arg2 harg2 arg4 harg4 arg24 arg25 arg26 harg26 x0 x1 x3 xs2) (rcc 6).toLoadRect) = (ciB x0 x1 x3 xs2) 6 := by
    rw [hs2_6]
    exact ci_read x0 x1 x3 xs2 ([] : List (View.Piece (Elt F) S8x1536 .f32)) arg26.view 6 (by decide)
  rw [e, xn1, View.readAt_eq_ld, harg4.read_unread]
  rfl

theorem hs2_7 : (kernelRun0_B.sl.HS2_7 c arg1 harg1 arg2 harg2 arg4 harg4 arg24 arg25 arg26 harg26 x0 x1 x3 xs2) = caL (uB x0 x1 x3) ([] : List (View.Piece (Elt F) S8x1536 .f32)) 7 := by
  refine (show _ = (⟨rcc 6, cutR 6 arg25.view (kernelRun0_B.sl.HS1_14 c arg1 harg1 arg2 harg2 arg4 harg4 arg24 arg25 arg26 harg26 x0 x1 x3 xs2)⟩ : View.Piece (Elt F) S8x1536 .f32) :: (kernelRun0_B.sl.HS2_6 c arg1 harg1 arg2 harg2 arg4 harg4 arg24 arg25 arg26 harg26 x0 x1 x3 xs2) from rfl).trans ?_
  rw [hs1_6, cutR_eq, hs2_6]
  rfl

theorem hs1_7 : (kernelRun0_B.sl.HS1_16 c arg1 harg1 arg2 harg2 arg4 harg4 arg24 arg25 arg26 harg26 x0 x1 x3 xs2) = pbt 7 (uB x0 x1 x3 7) :: pbc 7 ((ciB x0 x1 x3 xs2) 7) :: (kernelRun0_B.sl.HS1_14 c arg1 harg1 arg2 harg2 arg4 harg4 arg24 arg25 arg26 harg26 x0 x1 x3 xs2) := by
  refine (show _ = pbt 7 (uT (kernelRun0_B.sl.v822 c arg1 harg1 arg2 harg2 arg24 x0 x1) (View.readAt (Elt F) arg4.view (Rect.unit ![0, 256 * (7 % 6)] S1024x256.size (inb2 (by omega) (by omega)) : Rect S1024x1536).toLoadRect (harg4.unread x3))) :: pbc 7 (k0_pay7 (arg26.view.readCov (kernelRun0_B.sl.HS2_7 c arg1 harg1 arg2 harg2 arg4 harg4 arg24 arg25 arg26 harg26 x0 x1 x3 xs2) (rcc 7).toLoadRect)) :: (kernelRun0_B.sl.HS1_14 c arg1 harg1 arg2 harg2 arg4 harg4 arg24 arg25 arg26 harg26 x0 x1 x3 xs2) from rfl).trans ?_
  have e : k0_pay7 (arg26.view.readCov (kernelRun0_B.sl.HS2_7 c arg1 harg1 arg2 harg2 arg4 harg4 arg24 arg25 arg26 harg26 x0 x1 x3 xs2) (rcc 7).toLoadRect) = (ciB x0 x1 x3 xs2) 7 := by
    rw [hs2_7]
    exact ci_read x0 x1 x3 xs2 ([] : List (View.Piece (Elt F) S8x1536 .f32)) arg26.view 7 (by decide)
  rw [e, xn1, View.readAt_eq_ld, harg4.read_unread]
  rfl

theorem hs2_8 : (kernelRun0_B.sl.HS2_8 c arg1 harg1 arg2 harg2 arg4 harg4 arg24 arg25 arg26 harg26 x0 x1 x3 xs2) = caL (uB x0 x1 x3) ([] : List (View.Piece (Elt F) S8x1536 .f32)) 8 := by
  refine (show _ = (⟨rcc 7, cutR 7 arg25.view (kernelRun0_B.sl.HS1_16 c arg1 harg1 arg2 harg2 arg4 harg4 arg24 arg25 arg26 harg26 x0 x1 x3 xs2)⟩ : View.Piece (Elt F) S8x1536 .f32) :: (kernelRun0_B.sl.HS2_7 c arg1 harg1 arg2 harg2 arg4 harg4 arg24 arg25 arg26 harg26 x0 x1 x3 xs2) from rfl).trans ?_
  rw [hs1_7, cutR_eq, hs2_7]
  rfl

theorem hs1_8 : (kernelRun0_B.sl.HS1_18 c arg1 harg1 arg2 harg2 arg4 harg4 arg24 arg25 arg26 harg26 x0 x1 x3 xs2) = pbt 8 (uB x0 x1 x3 8) :: pbc 8 ((ciB x0 x1 x3 xs2) 8) :: (kernelRun0_B.sl.HS1_16 c arg1 harg1 arg2 harg2 arg4 harg4 arg24 arg25 arg26 harg26 x0 x1 x3 xs2) := by
  refine (show _ = pbt 8 (uT (kernelRun0_B.sl.v822 c arg1 harg1 arg2 harg2 arg24 x0 x1) (View.readAt (Elt F) arg4.view (Rect.unit ![0, 256 * (8 % 6)] S1024x256.size (inb2 (by omega) (by omega)) : Rect S1024x1536).toLoadRect (harg4.unread x3))) :: pbc 8 (k0_pay7 (arg26.view.readCov (kernelRun0_B.sl.HS2_8 c arg1 harg1 arg2 harg2 arg4 harg4 arg24 arg25 arg26 harg26 x0 x1 x3 xs2) (rcc 8).toLoadRect)) :: (kernelRun0_B.sl.HS1_16 c arg1 harg1 arg2 harg2 arg4 harg4 arg24 arg25 arg26 harg26 x0 x1 x3 xs2) from rfl).trans ?_
  have e : k0_pay7 (arg26.view.readCov (kernelRun0_B.sl.HS2_8 c arg1 harg1 arg2 harg2 arg4 harg4 arg24 arg25 arg26 harg26 x0 x1 x3 xs2) (rcc 8).toLoadRect) = (ciB x0 x1 x3 xs2) 8 := by
    rw [hs2_8]
    exact ci_read x0 x1 x3 xs2 ([] : List (View.Piece (Elt F) S8x1536 .f32)) arg26.view 8 (by decide)
  rw [e, xn1, View.readAt_eq_ld, harg4.read_unread]
  rfl

theorem hs2_9 : (kernelRun0_B.sl.HS2_9 c arg1 harg1 arg2 harg2 arg4 harg4 arg24 arg25 arg26 harg26 x0 x1 x3 xs2) = caL (uB x0 x1 x3) ([] : List (View.Piece (Elt F) S8x1536 .f32)) 9 := by
  refine (show _ = (⟨rcc 8, cutR 8 arg25.view (kernelRun0_B.sl.HS1_18 c arg1 harg1 arg2 harg2 arg4 harg4 arg24 arg25 arg26 harg26 x0 x1 x3 xs2)⟩ : View.Piece (Elt F) S8x1536 .f32) :: (kernelRun0_B.sl.HS2_8 c arg1 harg1 arg2 harg2 arg4 harg4 arg24 arg25 arg26 harg26 x0 x1 x3 xs2) from rfl).trans ?_
  rw [hs1_8, cutR_eq, hs2_8]
  rfl

theorem hs1_9 : (kernelRun0_B.sl.HS1_20 c arg1 harg1 arg2 harg2 arg4 harg4 arg24 arg25 arg26 harg26 x0 x1 x3 xs2) = pbt 9 (uB x0 x1 x3 9) :: pbc 9 ((ciB x0 x1 x3 xs2) 9) :: (kernelRun0_B.sl.HS1_18 c arg1 harg1 arg2 harg2 arg4 harg4 arg24 arg25 arg26 harg26 x0 x1 x3 xs2) := by
  refine (show _ = pbt 9 (uT (kernelRun0_B.sl.v822 c arg1 harg1 arg2 harg2 arg24 x0 x1) (View.readAt (Elt F) arg4.view (Rect.unit ![0, 256 * (9 % 6)] S1024x256.size (inb2 (by omega) (by omega)) : Rect S1024x1536).toLoadRect (harg4.unread x3))) :: pbc 9 (k0_pay7 (arg26.view.readCov (kernelRun0_B.sl.HS2_9 c arg1 harg1 arg2 harg2 arg4 harg4 arg24 arg25 arg26 harg26 x0 x1 x3 xs2) (rcc 9).toLoadRect)) :: (kernelRun0_B.sl.HS1_18 c arg1 harg1 arg2 harg2 arg4 harg4 arg24 arg25 arg26 harg26 x0 x1 x3 xs2) from rfl).trans ?_
  have e : k0_pay7 (arg26.view.readCov (kernelRun0_B.sl.HS2_9 c arg1 harg1 arg2 harg2 arg4 harg4 arg24 arg25 arg26 harg26 x0 x1 x3 xs2) (rcc 9).toLoadRect) = (ciB x0 x1 x3 xs2) 9 := by
    rw [hs2_9]
    exact ci_read x0 x1 x3 xs2 ([] : List (View.Piece (Elt F) S8x1536 .f32)) arg26.view 9 (by decide)
  rw [e, xn1, View.readAt_eq_ld, harg4.read_unread]
  rfl

theorem hs2_10 : (kernelRun0_B.sl.HS2_10 c arg1 harg1 arg2 harg2 arg4 harg4 arg24 arg25 arg26 harg26 x0 x1 x3 xs2) = caL (uB x0 x1 x3) ([] : List (View.Piece (Elt F) S8x1536 .f32)) 10 := by
  refine (show _ = (⟨rcc 9, cutR 9 arg25.view (kernelRun0_B.sl.HS1_20 c arg1 harg1 arg2 harg2 arg4 harg4 arg24 arg25 arg26 harg26 x0 x1 x3 xs2)⟩ : View.Piece (Elt F) S8x1536 .f32) :: (kernelRun0_B.sl.HS2_9 c arg1 harg1 arg2 harg2 arg4 harg4 arg24 arg25 arg26 harg26 x0 x1 x3 xs2) from rfl).trans ?_
  rw [hs1_9, cutR_eq, hs2_9]
  rfl

theorem hs1_10 : (kernelRun0_B.sl.HS1_22 c arg1 harg1 arg2 harg2 arg4 harg4 arg24 arg25 arg26 harg26 x0 x1 x3 xs2) = pbt 10 (uB x0 x1 x3 10) :: pbc 10 ((ciB x0 x1 x3 xs2) 10) :: (kernelRun0_B.sl.HS1_20 c arg1 harg1 arg2 harg2 arg4 harg4 arg24 arg25 arg26 harg26 x0 x1 x3 xs2) := by
  refine (show _ = pbt 10 (uT (kernelRun0_B.sl.v822 c arg1 harg1 arg2 harg2 arg24 x0 x1) (View.readAt (Elt F) arg4.view (Rect.unit ![0, 256 * (10 % 6)] S1024x256.size (inb2 (by omega) (by omega)) : Rect S1024x1536).toLoadRect (harg4.unread x3))) :: pbc 10 (k0_pay7 (arg26.view.readCov (kernelRun0_B.sl.HS2_10 c arg1 harg1 arg2 harg2 arg4 harg4 arg24 arg25 arg26 harg26 x0 x1 x3 xs2) (rcc 10).toLoadRect)) :: (kernelRun0_B.sl.HS1_20 c arg1 harg1 arg2 harg2 arg4 harg4 arg24 arg25 arg26 harg26 x0 x1 x3 xs2) from rfl).trans ?_
  have e : k0_pay7 (arg26.view.readCov (kernelRun0_B.sl.HS2_10 c arg1 harg1 arg2 harg2 arg4 harg4 arg24 arg25 arg26 harg26 x0 x1 x3 xs2) (rcc 10).toLoadRect) = (ciB x0 x1 x3 xs2) 10 := by
    rw [hs2_10]
    exact ci_read x0 x1 x3 xs2 ([] : List (View.Piece (Elt F) S8x1536 .f32)) arg26.view 10 (by decide)
  rw [e, xn1, View.readAt_eq_ld, harg4.read_unread]
  rfl

theorem hs2_11 : (kernelRun0_B.sl.HS2_11 c arg1 harg1 arg2 harg2 arg4 harg4 arg24 arg25 arg26 harg26 x0 x1 x3 xs2) = caL (uB x0 x1 x3) ([] : List (View.Piece (Elt F) S8x1536 .f32)) 11 := by
  refine (show _ = (⟨rcc 10, cutR 10 arg25.view (kernelRun0_B.sl.HS1_22 c arg1 harg1 arg2 harg2 arg4 harg4 arg24 arg25 arg26 harg26 x0 x1 x3 xs2)⟩ : View.Piece (Elt F) S8x1536 .f32) :: (kernelRun0_B.sl.HS2_10 c arg1 harg1 arg2 harg2 arg4 harg4 arg24 arg25 arg26 harg26 x0 x1 x3 xs2) from rfl).trans ?_
  rw [hs1_10, cutR_eq, hs2_10]
  rfl

theorem hs1_11 : (kernelRun0_B.sl.HS1_24 c arg1 harg1 arg2 harg2 arg4 harg4 arg24 arg25 arg26 harg26 x0 x1 x3 xs2) = pbt 11 (uB x0 x1 x3 11) :: pbc 11 ((ciB x0 x1 x3 xs2) 11) :: (kernelRun0_B.sl.HS1_22 c arg1 harg1 arg2 harg2 arg4 harg4 arg24 arg25 arg26 harg26 x0 x1 x3 xs2) := by
  refine (show _ = pbt 11 (uT (kernelRun0_B.sl.v822 c arg1 harg1 arg2 harg2 arg24 x0 x1) (View.readAt (Elt F) arg4.view (Rect.unit ![0, 256 * (11 % 6)] S1024x256.size (inb2 (by omega) (by omega)) : Rect S1024x1536).toLoadRect (harg4.unread x3))) :: pbc 11 (k0_pay7 (arg26.view.readCov (kernelRun0_B.sl.HS2_11 c arg1 harg1 arg2 harg2 arg4 harg4 arg24 arg25 arg26 harg26 x0 x1 x3 xs2) (rcc 11).toLoadRect)) :: (kernelRun0_B.sl.HS1_22 c arg1 harg1 arg2 harg2 arg4 harg4 arg24 arg25 arg26 harg26 x0 x1 x3 xs2) from rfl).trans ?_
  have e : k0_pay7 (arg26.view.readCov (kernelRun0_B.sl.HS2_11 c arg1 harg1 arg2 harg2 arg4 harg4 arg24 arg25 arg26 harg26 x0 x1 x3 xs2) (rcc 11).toLoadRect) = (ciB x0 x1 x3 xs2) 11 := by
    rw [hs2_11]
    exact ci_read x0 x1 x3 xs2 ([] : List (View.Piece (Elt F) S8x1536 .f32)) arg26.view 11 (by decide)
  rw [e, xn1, View.readAt_eq_ld, harg4.read_unread]
  rfl

/-- What each block computes, as the body writes it. -/
def V : Nat → FVec F S512x256 .bf16
  | 0 => cvT (View.readAt (Elt F) arg13.view (Rect.unit ![0, 256 * (0 % 6)] S1x256.size (inb2 (by omega) (by omega)) : Rect S1x1536).toLoadRect (harg13.unread x12)) (View.readAt (Elt F) arg12.view (Rect.unit ![3, 256 * (0 % 6)] S1x256.size (inb2 (by omega) (by omega)) : Rect S4x1536).toLoadRect (harg12.unread x11)) (View.readAt (Elt F) arg12.view (Rect.unit ![2, 256 * (0 % 6)] S1x256.size (inb2 (by omega) (by omega)) : Rect S4x1536).toLoadRect (harg12.unread x11)) (View.readAt (Elt F) arg12.view (Rect.unit ![1, 256 * (0 % 6)] S1x256.size (inb2 (by omega) (by omega)) : Rect S4x1536).toLoadRect (harg12.unread x11)) (View.readAt (Elt F) arg12.view (Rect.unit ![0, 256 * (0 % 6)] S1x256.size (inb2 (by omega) (by omega)) : Rect S4x1536).toLoadRect (harg12.unread x11)) (lagR 0 0 arg25.view (kernelRun0_B.sl.HS1_2 c arg1 harg1 arg2 harg2 arg4 harg4 arg24 arg26 harg26 x0 x1 x3 xs2)) (lagR 0 1 arg25.view (kernelRun0_B.sl.HS1_2 c arg1 harg1 arg2 harg2 arg4 harg4 arg24 arg26 harg26 x0 x1 x3 xs2)) (lagR 0 2 arg25.view (kernelRun0_B.sl.HS1_2 c arg1 harg1 arg2 harg2 arg4 harg4 arg24 arg26 harg26 x0 x1 x3 xs2)) (lagR 0 3 arg25.view (kernelRun0_B.sl.HS1_2 c arg1 harg1 arg2 harg2 arg4 harg4 arg24 arg26 harg26 x0 x1 x3 xs2))
  | 1 => cvT (View.readAt (Elt F) arg13.view (Rect.unit ![0, 256 * (1 % 6)] S1x256.size (inb2 (by omega) (by omega)) : Rect S1x1536).toLoadRect (harg13.unread x12)) (View.readAt (Elt F) arg12.view (Rect.unit ![3, 256 * (1 % 6)] S1x256.size (inb2 (by omega) (by omega)) : Rect S4x1536).toLoadRect (harg12.unread x11)) (View.readAt (Elt F) arg12.view (Rect.unit ![2, 256 * (1 % 6)] S1x256.size (inb2 (by omega) (by omega)) : Rect S4x1536).toLoadRect (harg12.unread x11)) (View.readAt (Elt F) arg12.view (Rect.unit ![1, 256 * (1 % 6)] S1x256.size (inb2 (by omega) (by omega)) : Rect S4x1536).toLoadRect (harg12.unread x11)) (View.readAt (Elt F) arg12.view (Rect.unit ![0, 256 * (1 % 6)] S1x256.size (inb2 (by omega) (by omega)) : Rect S4x1536).toLoadRect (harg12.unread x11)) (lagR 1 0 arg25.view (kernelRun0_B.sl.HS1_4 c arg1 harg1 arg2 harg2 arg4 harg4 arg24 arg26 harg26 x0 x1 x3 xs2)) (lagR 1 1 arg25.view (kernelRun0_B.sl.HS1_4 c arg1 harg1 arg2 harg2 arg4 harg4 arg24 arg26 harg26 x0 x1 x3 xs2)) (lagR 1 2 arg25.view (kernelRun0_B.sl.HS1_4 c arg1 harg1 arg2 harg2 arg4 harg4 arg24 arg26 harg26 x0 x1 x3 xs2)) (lagR 1 3 arg25.view (kernelRun0_B.sl.HS1_4 c arg1 harg1 arg2 harg2 arg4 harg4 arg24 arg26 harg26 x0 x1 x3 xs2))
  | 2 => cvT (View.readAt (Elt F) arg13.view (Rect.unit ![0, 256 * (2 % 6)] S1x256.size (inb2 (by omega) (by omega)) : Rect S1x1536).toLoadRect (harg13.unread x12)) (View.readAt (Elt F) arg12.view (Rect.unit ![3, 256 * (2 % 6)] S1x256.size (inb2 (by omega) (by omega)) : Rect S4x1536).toLoadRect (harg12.unread x11)) (View.readAt (Elt F) arg12.view (Rect.unit ![2, 256 * (2 % 6)] S1x256.size (inb2 (by omega) (by omega)) : Rect S4x1536).toLoadRect (harg12.unread x11)) (View.readAt (Elt F) arg12.view (Rect.unit ![1, 256 * (2 % 6)] S1x256.size (inb2 (by omega) (by omega)) : Rect S4x1536).toLoadRect (harg12.unread x11)) (View.readAt (Elt F) arg12.view (Rect.unit ![0, 256 * (2 % 6)] S1x256.size (inb2 (by omega) (by omega)) : Rect S4x1536).toLoadRect (harg12.unread x11)) (lagR 2 0 arg25.view (kernelRun0_B.sl.HS1_6 c arg1 harg1 arg2 harg2 arg4 harg4 arg24 arg26 harg26 x0 x1 x3 xs2)) (lagR 2 1 arg25.view (kernelRun0_B.sl.HS1_6 c arg1 harg1 arg2 harg2 arg4 harg4 arg24 arg26 harg26 x0 x1 x3 xs2)) (lagR 2 2 arg25.view (kernelRun0_B.sl.HS1_6 c arg1 harg1 arg2 harg2 arg4 harg4 arg24 arg26 harg26 x0 x1 x3 xs2)) (lagR 2 3 arg25.view (kernelRun0_B.sl.HS1_6 c arg1 harg1 arg2 harg2 arg4 harg4 arg24 arg26 harg26 x0 x1 x3 xs2))
  | 3 => cvT (View.readAt (Elt F) arg13.view (Rect.unit ![0, 256 * (3 % 6)] S1x256.size (inb2 (by omega) (by omega)) : Rect S1x1536).toLoadRect (harg13.unread x12)) (View.readAt (Elt F) arg12.view (Rect.unit ![3, 256 * (3 % 6)] S1x256.size (inb2 (by omega) (by omega)) : Rect S4x1536).toLoadRect (harg12.unread x11)) (View.readAt (Elt F) arg12.view (Rect.unit ![2, 256 * (3 % 6)] S1x256.size (inb2 (by omega) (by omega)) : Rect S4x1536).toLoadRect (harg12.unread x11)) (View.readAt (Elt F) arg12.view (Rect.unit ![1, 256 * (3 % 6)] S1x256.size (inb2 (by omega) (by omega)) : Rect S4x1536).toLoadRect (harg12.unread x11)) (View.readAt (Elt F) arg12.view (Rect.unit ![0, 256 * (3 % 6)] S1x256.size (inb2 (by omega) (by omega)) : Rect S4x1536).toLoadRect (harg12.unread x11)) (lagR 3 0 arg25.view (kernelRun0_B.sl.HS1_8 c arg1 harg1 arg2 harg2 arg4 harg4 arg24 arg26 harg26 x0 x1 x3 xs2)) (lagR 3 1 arg25.view (kernelRun0_B.sl.HS1_8 c arg1 harg1 arg2 harg2 arg4 harg4 arg24 arg26 harg26 x0 x1 x3 xs2)) (lagR 3 2 arg25.view (kernelRun0_B.sl.HS1_8 c arg1 harg1 arg2 harg2 arg4 harg4 arg24 arg26 harg26 x0 x1 x3 xs2)) (lagR 3 3 arg25.view (kernelRun0_B.sl.HS1_8 c arg1 harg1 arg2 harg2 arg4 harg4 arg24 arg26 harg26 x0 x1 x3 xs2))
  | 4 => cvT (View.readAt (Elt F) arg13.view (Rect.unit ![0, 256 * (4 % 6)] S1x256.size (inb2 (by omega) (by omega)) : Rect S1x1536).toLoadRect (harg13.unread x12)) (View.readAt (Elt F) arg12.view (Rect.unit ![3, 256 * (4 % 6)] S1x256.size (inb2 (by omega) (by omega)) : Rect S4x1536).toLoadRect (harg12.unread x11)) (View.readAt (Elt F) arg12.view (Rect.unit ![2, 256 * (4 % 6)] S1x256.size (inb2 (by omega) (by omega)) : Rect S4x1536).toLoadRect (harg12.unread x11)) (View.readAt (Elt F) arg12.view (Rect.unit ![1, 256 * (4 % 6)] S1x256.size (inb2 (by omega) (by omega)) : Rect S4x1536).toLoadRect (harg12.unread x11)) (View.readAt (Elt F) arg12.view (Rect.unit ![0, 256 * (4 % 6)] S1x256.size (inb2 (by omega) (by omega)) : Rect S4x1536).toLoadRect (harg12.unread x11)) (lagR 4 0 arg25.view (kernelRun0_B.sl.HS1_10 c arg1 harg1 arg2 harg2 arg4 harg4 arg24 arg26 harg26 x0 x1 x3 xs2)) (lagR 4 1 arg25.view (kernelRun0_B.sl.HS1_10 c arg1 harg1 arg2 harg2 arg4 harg4 arg24 arg26 harg26 x0 x1 x3 xs2)) (lagR 4 2 arg25.view (kernelRun0_B.sl.HS1_10 c arg1 harg1 arg2 harg2 arg4 harg4 arg24 arg26 harg26 x0 x1 x3 xs2)) (lagR 4 3 arg25.view (kernelRun0_B.sl.HS1_10 c arg1 harg1 arg2 harg2 arg4 harg4 arg24 arg26 harg26 x0 x1 x3 xs2))
  | 5 => cvT (View.readAt (Elt F) arg13.view (Rect.unit ![0, 256 * (5 % 6)] S1x256.size (inb2 (by omega) (by omega)) : Rect S1x1536).toLoadRect (harg13.unread x12)) (View.readAt (Elt F) arg12.view (Rect.unit ![3, 256 * (5 % 6)] S1x256.size (inb2 (by omega) (by omega)) : Rect S4x1536).toLoadRect (harg12.unread x11)) (View.readAt (Elt F) arg12.view (Rect.unit ![2, 256 * (5 % 6)] S1x256.size (inb2 (by omega) (by omega)) : Rect S4x1536).toLoadRect (harg12.unread x11)) (View.readAt (Elt F) arg12.view (Rect.unit ![1, 256 * (5 % 6)] S1x256.size (inb2 (by omega) (by omega)) : Rect S4x1536).toLoadRect (harg12.unread x11)) (View.readAt (Elt F) arg12.view (Rect.unit ![0, 256 * (5 % 6)] S1x256.size (inb2 (by omega) (by omega)) : Rect S4x1536).toLoadRect (harg12.unread x11)) (lagR 5 0 arg25.view (kernelRun0_B.sl.HS1_12 c arg1 harg1 arg2 harg2 arg4 harg4 arg24 arg26 harg26 x0 x1 x3 xs2)) (lagR 5 1 arg25.view (kernelRun0_B.sl.HS1_12 c arg1 harg1 arg2 harg2 arg4 harg4 arg24 arg26 harg26 x0 x1 x3 xs2)) (lagR 5 2 arg25.view (kernelRun0_B.sl.HS1_12 c arg1 harg1 arg2 harg2 arg4 harg4 arg24 arg26 harg26 x0 x1 x3 xs2)) (lagR 5 3 arg25.view (kernelRun0_B.sl.HS1_12 c arg1 harg1 arg2 harg2 arg4 harg4 arg24 arg26 harg26 x0 x1 x3 xs2))
  | 6 => cvT (View.readAt (Elt F) arg13.view (Rect.unit ![0, 256 * (6 % 6)] S1x256.size (inb2 (by omega) (by omega)) : Rect S1x1536).toLoadRect (harg13.unread x12)) (View.readAt (Elt F) arg12.view (Rect.unit ![3, 256 * (6 % 6)] S1x256.size (inb2 (by omega) (by omega)) : Rect S4x1536).toLoadRect (harg12.unread x11)) (View.readAt (Elt F) arg12.view (Rect.unit ![2, 256 * (6 % 6)] S1x256.size (inb2 (by omega) (by omega)) : Rect S4x1536).toLoadRect (harg12.unread x11)) (View.readAt (Elt F) arg12.view (Rect.unit ![1, 256 * (6 % 6)] S1x256.size (inb2 (by omega) (by omega)) : Rect S4x1536).toLoadRect (harg12.unread x11)) (View.readAt (Elt F) arg12.view (Rect.unit ![0, 256 * (6 % 6)] S1x256.size (inb2 (by omega) (by omega)) : Rect S4x1536).toLoadRect (harg12.unread x11)) (lagR 6 0 arg25.view (kernelRun0_B.sl.HS1_14 c arg1 harg1 arg2 harg2 arg4 harg4 arg24 arg25 arg26 harg26 x0 x1 x3 xs2)) (lagR 6 1 arg25.view (kernelRun0_B.sl.HS1_14 c arg1 harg1 arg2 harg2 arg4 harg4 arg24 arg25 arg26 harg26 x0 x1 x3 xs2)) (lagR 6 2 arg25.view (kernelRun0_B.sl.HS1_14 c arg1 harg1 arg2 harg2 arg4 harg4 arg24 arg25 arg26 harg26 x0 x1 x3 xs2)) (lagR 6 3 arg25.view (kernelRun0_B.sl.HS1_14 c arg1 harg1 arg2 harg2 arg4 harg4 arg24 arg25 arg26 harg26 x0 x1 x3 xs2))
  | 7 => cvT (View.readAt (Elt F) arg13.view (Rect.unit ![0, 256 * (7 % 6)] S1x256.size (inb2 (by omega) (by omega)) : Rect S1x1536).toLoadRect (harg13.unread x12)) (View.readAt (Elt F) arg12.view (Rect.unit ![3, 256 * (7 % 6)] S1x256.size (inb2 (by omega) (by omega)) : Rect S4x1536).toLoadRect (harg12.unread x11)) (View.readAt (Elt F) arg12.view (Rect.unit ![2, 256 * (7 % 6)] S1x256.size (inb2 (by omega) (by omega)) : Rect S4x1536).toLoadRect (harg12.unread x11)) (View.readAt (Elt F) arg12.view (Rect.unit ![1, 256 * (7 % 6)] S1x256.size (inb2 (by omega) (by omega)) : Rect S4x1536).toLoadRect (harg12.unread x11)) (View.readAt (Elt F) arg12.view (Rect.unit ![0, 256 * (7 % 6)] S1x256.size (inb2 (by omega) (by omega)) : Rect S4x1536).toLoadRect (harg12.unread x11)) (lagR 7 0 arg25.view (kernelRun0_B.sl.HS1_16 c arg1 harg1 arg2 harg2 arg4 harg4 arg24 arg25 arg26 harg26 x0 x1 x3 xs2)) (lagR 7 1 arg25.view (kernelRun0_B.sl.HS1_16 c arg1 harg1 arg2 harg2 arg4 harg4 arg24 arg25 arg26 harg26 x0 x1 x3 xs2)) (lagR 7 2 arg25.view (kernelRun0_B.sl.HS1_16 c arg1 harg1 arg2 harg2 arg4 harg4 arg24 arg25 arg26 harg26 x0 x1 x3 xs2)) (lagR 7 3 arg25.view (kernelRun0_B.sl.HS1_16 c arg1 harg1 arg2 harg2 arg4 harg4 arg24 arg25 arg26 harg26 x0 x1 x3 xs2))
  | 8 => cvT (View.readAt (Elt F) arg13.view (Rect.unit ![0, 256 * (8 % 6)] S1x256.size (inb2 (by omega) (by omega)) : Rect S1x1536).toLoadRect (harg13.unread x12)) (View.readAt (Elt F) arg12.view (Rect.unit ![3, 256 * (8 % 6)] S1x256.size (inb2 (by omega) (by omega)) : Rect S4x1536).toLoadRect (harg12.unread x11)) (View.readAt (Elt F) arg12.view (Rect.unit ![2, 256 * (8 % 6)] S1x256.size (inb2 (by omega) (by omega)) : Rect S4x1536).toLoadRect (harg12.unread x11)) (View.readAt (Elt F) arg12.view (Rect.unit ![1, 256 * (8 % 6)] S1x256.size (inb2 (by omega) (by omega)) : Rect S4x1536).toLoadRect (harg12.unread x11)) (View.readAt (Elt F) arg12.view (Rect.unit ![0, 256 * (8 % 6)] S1x256.size (inb2 (by omega) (by omega)) : Rect S4x1536).toLoadRect (harg12.unread x11)) (lagR 8 0 arg25.view (kernelRun0_B.sl.HS1_18 c arg1 harg1 arg2 harg2 arg4 harg4 arg24 arg25 arg26 harg26 x0 x1 x3 xs2)) (lagR 8 1 arg25.view (kernelRun0_B.sl.HS1_18 c arg1 harg1 arg2 harg2 arg4 harg4 arg24 arg25 arg26 harg26 x0 x1 x3 xs2)) (lagR 8 2 arg25.view (kernelRun0_B.sl.HS1_18 c arg1 harg1 arg2 harg2 arg4 harg4 arg24 arg25 arg26 harg26 x0 x1 x3 xs2)) (lagR 8 3 arg25.view (kernelRun0_B.sl.HS1_18 c arg1 harg1 arg2 harg2 arg4 harg4 arg24 arg25 arg26 harg26 x0 x1 x3 xs2))
  | 9 => cvT (View.readAt (Elt F) arg13.view (Rect.unit ![0, 256 * (9 % 6)] S1x256.size (inb2 (by omega) (by omega)) : Rect S1x1536).toLoadRect (harg13.unread x12)) (View.readAt (Elt F) arg12.view (Rect.unit ![3, 256 * (9 % 6)] S1x256.size (inb2 (by omega) (by omega)) : Rect S4x1536).toLoadRect (harg12.unread x11)) (View.readAt (Elt F) arg12.view (Rect.unit ![2, 256 * (9 % 6)] S1x256.size (inb2 (by omega) (by omega)) : Rect S4x1536).toLoadRect (harg12.unread x11)) (View.readAt (Elt F) arg12.view (Rect.unit ![1, 256 * (9 % 6)] S1x256.size (inb2 (by omega) (by omega)) : Rect S4x1536).toLoadRect (harg12.unread x11)) (View.readAt (Elt F) arg12.view (Rect.unit ![0, 256 * (9 % 6)] S1x256.size (inb2 (by omega) (by omega)) : Rect S4x1536).toLoadRect (harg12.unread x11)) (lagR 9 0 arg25.view (kernelRun0_B.sl.HS1_20 c arg1 harg1 arg2 harg2 arg4 harg4 arg24 arg25 arg26 harg26 x0 x1 x3 xs2)) (lagR 9 1 arg25.view (kernelRun0_B.sl.HS1_20 c arg1 harg1 arg2 harg2 arg4 harg4 arg24 arg25 arg26 harg26 x0 x1 x3 xs2)) (lagR 9 2 arg25.view (kernelRun0_B.sl.HS1_20 c arg1 harg1 arg2 harg2 arg4 harg4 arg24 arg25 arg26 harg26 x0 x1 x3 xs2)) (lagR 9 3 arg25.view (kernelRun0_B.sl.HS1_20 c arg1 harg1 arg2 harg2 arg4 harg4 arg24 arg25 arg26 harg26 x0 x1 x3 xs2))
  | 10 => cvT (View.readAt (Elt F) arg13.view (Rect.unit ![0, 256 * (10 % 6)] S1x256.size (inb2 (by omega) (by omega)) : Rect S1x1536).toLoadRect (harg13.unread x12)) (View.readAt (Elt F) arg12.view (Rect.unit ![3, 256 * (10 % 6)] S1x256.size (inb2 (by omega) (by omega)) : Rect S4x1536).toLoadRect (harg12.unread x11)) (View.readAt (Elt F) arg12.view (Rect.unit ![2, 256 * (10 % 6)] S1x256.size (inb2 (by omega) (by omega)) : Rect S4x1536).toLoadRect (harg12.unread x11)) (View.readAt (Elt F) arg12.view (Rect.unit ![1, 256 * (10 % 6)] S1x256.size (inb2 (by omega) (by omega)) : Rect S4x1536).toLoadRect (harg12.unread x11)) (View.readAt (Elt F) arg12.view (Rect.unit ![0, 256 * (10 % 6)] S1x256.size (inb2 (by omega) (by omega)) : Rect S4x1536).toLoadRect (harg12.unread x11)) (lagR 10 0 arg25.view (kernelRun0_B.sl.HS1_22 c arg1 harg1 arg2 harg2 arg4 harg4 arg24 arg25 arg26 harg26 x0 x1 x3 xs2)) (lagR 10 1 arg25.view (kernelRun0_B.sl.HS1_22 c arg1 harg1 arg2 harg2 arg4 harg4 arg24 arg25 arg26 harg26 x0 x1 x3 xs2)) (lagR 10 2 arg25.view (kernelRun0_B.sl.HS1_22 c arg1 harg1 arg2 harg2 arg4 harg4 arg24 arg25 arg26 harg26 x0 x1 x3 xs2)) (lagR 10 3 arg25.view (kernelRun0_B.sl.HS1_22 c arg1 harg1 arg2 harg2 arg4 harg4 arg24 arg25 arg26 harg26 x0 x1 x3 xs2))
  | 11 => cvT (View.readAt (Elt F) arg13.view (Rect.unit ![0, 256 * (11 % 6)] S1x256.size (inb2 (by omega) (by omega)) : Rect S1x1536).toLoadRect (harg13.unread x12)) (View.readAt (Elt F) arg12.view (Rect.unit ![3, 256 * (11 % 6)] S1x256.size (inb2 (by omega) (by omega)) : Rect S4x1536).toLoadRect (harg12.unread x11)) (View.readAt (Elt F) arg12.view (Rect.unit ![2, 256 * (11 % 6)] S1x256.size (inb2 (by omega) (by omega)) : Rect S4x1536).toLoadRect (harg12.unread x11)) (View.readAt (Elt F) arg12.view (Rect.unit ![1, 256 * (11 % 6)] S1x256.size (inb2 (by omega) (by omega)) : Rect S4x1536).toLoadRect (harg12.unread x11)) (View.readAt (Elt F) arg12.view (Rect.unit ![0, 256 * (11 % 6)] S1x256.size (inb2 (by omega) (by omega)) : Rect S4x1536).toLoadRect (harg12.unread x11)) (lagR 11 0 arg25.view (kernelRun0_B.sl.HS1_24 c arg1 harg1 arg2 harg2 arg4 harg4 arg24 arg25 arg26 harg26 x0 x1 x3 xs2)) (lagR 11 1 arg25.view (kernelRun0_B.sl.HS1_24 c arg1 harg1 arg2 harg2 arg4 harg4 arg24 arg25 arg26 harg26 x0 x1 x3 xs2)) (lagR 11 2 arg25.view (kernelRun0_B.sl.HS1_24 c arg1 harg1 arg2 harg2 arg4 harg4 arg24 arg25 arg26 harg26 x0 x1 x3 xs2)) (lagR 11 3 arg25.view (kernelRun0_B.sl.HS1_24 c arg1 harg1 arg2 harg2 arg4 harg4 arg24 arg25 arg26 harg26 x0 x1 x3 xs2))
  | n => cvB x0 x1 x3 x11 x12 xs2 n

theorem V_eq : (V c arg1 harg1 arg2 harg2 arg4 harg4 arg12 harg12 arg13 harg13 arg24 arg25 arg26 harg26 x0 x1 x3 x11 x12 xs2) = cvB x0 x1 x3 x11 x12 xs2 := by
  funext n
  match n with
  | 0 =>
    refine (show _ = cvT (View.readAt (Elt F) arg13.view (Rect.unit ![0, 256 * (0 % 6)] S1x256.size (inb2 (by omega) (by omega)) : Rect S1x1536).toLoadRect (harg13.unread x12)) (View.readAt (Elt F) arg12.view (Rect.unit ![3, 256 * (0 % 6)] S1x256.size (inb2 (by omega) (by omega)) : Rect S4x1536).toLoadRect (harg12.unread x11)) (View.readAt (Elt F) arg12.view (Rect.unit ![2, 256 * (0 % 6)] S1x256.size (inb2 (by omega) (by omega)) : Rect S4x1536).toLoadRect (harg12.unread x11)) (View.readAt (Elt F) arg12.view (Rect.unit ![1, 256 * (0 % 6)] S1x256.size (inb2 (by omega) (by omega)) : Rect S4x1536).toLoadRect (harg12.unread x11)) (View.readAt (Elt F) arg12.view (Rect.unit ![0, 256 * (0 % 6)] S1x256.size (inb2 (by omega) (by omega)) : Rect S4x1536).toLoadRect (harg12.unread x11)) (lagR 0 0 arg25.view (kernelRun0_B.sl.HS1_2 c arg1 harg1 arg2 harg2 arg4 harg4 arg24 arg26 harg26 x0 x1 x3 xs2)) (lagR 0 1 arg25.view (kernelRun0_B.sl.HS1_2 c arg1 harg1 arg2 harg2 arg4 harg4 arg24 arg26 harg26 x0 x1 x3 xs2)) (lagR 0 2 arg25.view (kernelRun0_B.sl.HS1_2 c arg1 harg1 arg2 harg2 arg4 harg4 arg24 arg26 harg26 x0 x1 x3 xs2)) (lagR 0 3 arg25.view (kernelRun0_B.sl.HS1_2 c arg1 harg1 arg2 harg2 arg4 harg4 arg24 arg26 harg26 x0 x1 x3 xs2)) from rfl).trans ?_
    simp only [hs1_0, lagR_eq _ 0 (by decide), lagR_eq _ 1 (by decide), lagR_eq _ 2 (by decide), lagR_eq _ 3 (by decide), View.readAt_eq_ld, harg12.read_unread, harg13.read_unread]
    rfl
  | 1 =>
    refine (show _ = cvT (View.readAt (Elt F) arg13.view (Rect.unit ![0, 256 * (1 % 6)] S1x256.size (inb2 (by omega) (by omega)) : Rect S1x1536).toLoadRect (harg13.unread x12)) (View.readAt (Elt F) arg12.view (Rect.unit ![3, 256 * (1 % 6)] S1x256.size (inb2 (by omega) (by omega)) : Rect S4x1536).toLoadRect (harg12.unread x11)) (View.readAt (Elt F) arg12.view (Rect.unit ![2, 256 * (1 % 6)] S1x256.size (inb2 (by omega) (by omega)) : Rect S4x1536).toLoadRect (harg12.unread x11)) (View.readAt (Elt F) arg12.view (Rect.unit ![1, 256 * (1 % 6)] S1x256.size (inb2 (by omega) (by omega)) : Rect S4x1536).toLoadRect (harg12.unread x11)) (View.readAt (Elt F) arg12.view (Rect.unit ![0, 256 * (1 % 6)] S1x256.size (inb2 (by omega) (by omega)) : Rect S4x1536).toLoadRect (harg12.unread x11)) (lagR 1 0 arg25.view (kernelRun0_B.sl.HS1_4 c arg1 harg1 arg2 harg2 arg4 harg4 arg24 arg26 harg26 x0 x1 x3 xs2)) (lagR 1 1 arg25.view (kernelRun0_B.sl.HS1_4 c arg1 harg1 arg2 harg2 arg4 harg4 arg24 arg26 harg26 x0 x1 x3 xs2)) (lagR 1 2 arg25.view (kernelRun0_B.sl.HS1_4 c arg1 harg1 arg2 harg2 arg4 harg4 arg24 arg26 harg26 x0 x1 x3 xs2)) (lagR 1 3 arg25.view (kernelRun0_B.sl.HS1_4 c arg1 harg1 arg2 harg2 arg4 harg4 arg24 arg26 harg26 x0 x1 x3 xs2)) from rfl).trans ?_
    simp only [hs1_1, lagR_eq _ 0 (by decide), lagR_eq _ 1 (by decide), lagR_eq _ 2 (by decide), lagR_eq _ 3 (by decide), View.readAt_eq_ld, harg12.read_unread, harg13.read_unread]
    rfl
  | 2 =>
    refine (show _ = cvT (View.readAt (Elt F) arg13.view (Rect.unit ![0, 256 * (2 % 6)] S1x256.size (inb2 (by omega) (by omega)) : Rect S1x1536).toLoadRect (harg13.unread x12)) (View.readAt (Elt F) arg12.view (Rect.unit ![3, 256 * (2 % 6)] S1x256.size (inb2 (by omega) (by omega)) : Rect S4x1536).toLoadRect (harg12.unread x11)) (View.readAt (Elt F) arg12.view (Rect.unit ![2, 256 * (2 % 6)] S1x256.size (inb2 (by omega) (by omega)) : Rect S4x1536).toLoadRect (harg12.unread x11)) (View.readAt (Elt F) arg12.view (Rect.unit ![1, 256 * (2 % 6)] S1x256.size (inb2 (by omega) (by omega)) : Rect S4x1536).toLoadRect (harg12.unread x11)) (View.readAt (Elt F) arg12.view (Rect.unit ![0, 256 * (2 % 6)] S1x256.size (inb2 (by omega) (by omega)) : Rect S4x1536).toLoadRect (harg12.unread x11)) (lagR 2 0 arg25.view (kernelRun0_B.sl.HS1_6 c arg1 harg1 arg2 harg2 arg4 harg4 arg24 arg26 harg26 x0 x1 x3 xs2)) (lagR 2 1 arg25.view (kernelRun0_B.sl.HS1_6 c arg1 harg1 arg2 harg2 arg4 harg4 arg24 arg26 harg26 x0 x1 x3 xs2)) (lagR 2 2 arg25.view (kernelRun0_B.sl.HS1_6 c arg1 harg1 arg2 harg2 arg4 harg4 arg24 arg26 harg26 x0 x1 x3 xs2)) (lagR 2 3 arg25.view (kernelRun0_B.sl.HS1_6 c arg1 harg1 arg2 harg2 arg4 harg4 arg24 arg26 harg26 x0 x1 x3 xs2)) from rfl).trans ?_
    simp only [hs1_2, lagR_eq _ 0 (by decide), lagR_eq _ 1 (by decide), lagR_eq _ 2 (by decide), lagR_eq _ 3 (by decide), View.readAt_eq_ld, harg12.read_unread, harg13.read_unread]
    rfl
  | 3 =>
    refine (show _ = cvT (View.readAt (Elt F) arg13.view (Rect.unit ![0, 256 * (3 % 6)] S1x256.size (inb2 (by omega) (by omega)) : Rect S1x1536).toLoadRect (harg13.unread x12)) (View.readAt (Elt F) arg12.view (Rect.unit ![3, 256 * (3 % 6)] S1x256.size (inb2 (by omega) (by omega)) : Rect S4x1536).toLoadRect (harg12.unread x11)) (View.readAt (Elt F) arg12.view (Rect.unit ![2, 256 * (3 % 6)] S1x256.size (inb2 (by omega) (by omega)) : Rect S4x1536).toLoadRect (harg12.unread x11)) (View.readAt (Elt F) arg12.view (Rect.unit ![1, 256 * (3 % 6)] S1x256.size (inb2 (by omega) (by omega)) : Rect S4x1536).toLoadRect (harg12.unread x11)) (View.readAt (Elt F) arg12.view (Rect.unit ![0, 256 * (3 % 6)] S1x256.size (inb2 (by omega) (by omega)) : Rect S4x1536).toLoadRect (harg12.unread x11)) (lagR 3 0 arg25.view (kernelRun0_B.sl.HS1_8 c arg1 harg1 arg2 harg2 arg4 harg4 arg24 arg26 harg26 x0 x1 x3 xs2)) (lagR 3 1 arg25.view (kernelRun0_B.sl.HS1_8 c arg1 harg1 arg2 harg2 arg4 harg4 arg24 arg26 harg26 x0 x1 x3 xs2)) (lagR 3 2 arg25.view (kernelRun0_B.sl.HS1_8 c arg1 harg1 arg2 harg2 arg4 harg4 arg24 arg26 harg26 x0 x1 x3 xs2)) (lagR 3 3 arg25.view (kernelRun0_B.sl.HS1_8 c arg1 harg1 arg2 harg2 arg4 harg4 arg24 arg26 harg26 x0 x1 x3 xs2)) from rfl).trans ?_
    simp only [hs1_3, lagR_eq _ 0 (by decide), lagR_eq _ 1 (by decide), lagR_eq _ 2 (by decide), lagR_eq _ 3 (by decide), View.readAt_eq_ld, harg12.read_unread, harg13.read_unread]
    rfl
  | 4 =>
    refine (show _ = cvT (View.readAt (Elt F) arg13.view (Rect.unit ![0, 256 * (4 % 6)] S1x256.size (inb2 (by omega) (by omega)) : Rect S1x1536).toLoadRect (harg13.unread x12)) (View.readAt (Elt F) arg12.view (Rect.unit ![3, 256 * (4 % 6)] S1x256.size (inb2 (by omega) (by omega)) : Rect S4x1536).toLoadRect (harg12.unread x11)) (View.readAt (Elt F) arg12.view (Rect.unit ![2, 256 * (4 % 6)] S1x256.size (inb2 (by omega) (by omega)) : Rect S4x1536).toLoadRect (harg12.unread x11)) (View.readAt (Elt F) arg12.view (Rect.unit ![1, 256 * (4 % 6)] S1x256.size (inb2 (by omega) (by omega)) : Rect S4x1536).toLoadRect (harg12.unread x11)) (View.readAt (Elt F) arg12.view (Rect.unit ![0, 256 * (4 % 6)] S1x256.size (inb2 (by omega) (by omega)) : Rect S4x1536).toLoadRect (harg12.unread x11)) (lagR 4 0 arg25.view (kernelRun0_B.sl.HS1_10 c arg1 harg1 arg2 harg2 arg4 harg4 arg24 arg26 harg26 x0 x1 x3 xs2)) (lagR 4 1 arg25.view (kernelRun0_B.sl.HS1_10 c arg1 harg1 arg2 harg2 arg4 harg4 arg24 arg26 harg26 x0 x1 x3 xs2)) (lagR 4 2 arg25.view (kernelRun0_B.sl.HS1_10 c arg1 harg1 arg2 harg2 arg4 harg4 arg24 arg26 harg26 x0 x1 x3 xs2)) (lagR 4 3 arg25.view (kernelRun0_B.sl.HS1_10 c arg1 harg1 arg2 harg2 arg4 harg4 arg24 arg26 harg26 x0 x1 x3 xs2)) from rfl).trans ?_
    simp only [hs1_4, lagR_eq _ 0 (by decide), lagR_eq _ 1 (by decide), lagR_eq _ 2 (by decide), lagR_eq _ 3 (by decide), View.readAt_eq_ld, harg12.read_unread, harg13.read_unread]
    rfl
  | 5 =>
    refine (show _ = cvT (View.readAt (Elt F) arg13.view (Rect.unit ![0, 256 * (5 % 6)] S1x256.size (inb2 (by omega) (by omega)) : Rect S1x1536).toLoadRect (harg13.unread x12)) (View.readAt (Elt F) arg12.view (Rect.unit ![3, 256 * (5 % 6)] S1x256.size (inb2 (by omega) (by omega)) : Rect S4x1536).toLoadRect (harg12.unread x11)) (View.readAt (Elt F) arg12.view (Rect.unit ![2, 256 * (5 % 6)] S1x256.size (inb2 (by omega) (by omega)) : Rect S4x1536).toLoadRect (harg12.unread x11)) (View.readAt (Elt F) arg12.view (Rect.unit ![1, 256 * (5 % 6)] S1x256.size (inb2 (by omega) (by omega)) : Rect S4x1536).toLoadRect (harg12.unread x11)) (View.readAt (Elt F) arg12.view (Rect.unit ![0, 256 * (5 % 6)] S1x256.size (inb2 (by omega) (by omega)) : Rect S4x1536).toLoadRect (harg12.unread x11)) (lagR 5 0 arg25.view (kernelRun0_B.sl.HS1_12 c arg1 harg1 arg2 harg2 arg4 harg4 arg24 arg26 harg26 x0 x1 x3 xs2)) (lagR 5 1 arg25.view (kernelRun0_B.sl.HS1_12 c arg1 harg1 arg2 harg2 arg4 harg4 arg24 arg26 harg26 x0 x1 x3 xs2)) (lagR 5 2 arg25.view (kernelRun0_B.sl.HS1_12 c arg1 harg1 arg2 harg2 arg4 harg4 arg24 arg26 harg26 x0 x1 x3 xs2)) (lagR 5 3 arg25.view (kernelRun0_B.sl.HS1_12 c arg1 harg1 arg2 harg2 arg4 harg4 arg24 arg26 harg26 x0 x1 x3 xs2)) from rfl).trans ?_
    simp only [hs1_5, lagR_eq _ 0 (by decide), lagR_eq _ 1 (by decide), lagR_eq _ 2 (by decide), lagR_eq _ 3 (by decide), View.readAt_eq_ld, harg12.read_unread, harg13.read_unread]
    rfl
  | 6 =>
    refine (show _ = cvT (View.readAt (Elt F) arg13.view (Rect.unit ![0, 256 * (6 % 6)] S1x256.size (inb2 (by omega) (by omega)) : Rect S1x1536).toLoadRect (harg13.unread x12)) (View.readAt (Elt F) arg12.view (Rect.unit ![3, 256 * (6 % 6)] S1x256.size (inb2 (by omega) (by omega)) : Rect S4x1536).toLoadRect (harg12.unread x11)) (View.readAt (Elt F) arg12.view (Rect.unit ![2, 256 * (6 % 6)] S1x256.size (inb2 (by omega) (by omega)) : Rect S4x1536).toLoadRect (harg12.unread x11)) (View.readAt (Elt F) arg12.view (Rect.unit ![1, 256 * (6 % 6)] S1x256.size (inb2 (by omega) (by omega)) : Rect S4x1536).toLoadRect (harg12.unread x11)) (View.readAt (Elt F) arg12.view (Rect.unit ![0, 256 * (6 % 6)] S1x256.size (inb2 (by omega) (by omega)) : Rect S4x1536).toLoadRect (harg12.unread x11)) (lagR 6 0 arg25.view (kernelRun0_B.sl.HS1_14 c arg1 harg1 arg2 harg2 arg4 harg4 arg24 arg25 arg26 harg26 x0 x1 x3 xs2)) (lagR 6 1 arg25.view (kernelRun0_B.sl.HS1_14 c arg1 harg1 arg2 harg2 arg4 harg4 arg24 arg25 arg26 harg26 x0 x1 x3 xs2)) (lagR 6 2 arg25.view (kernelRun0_B.sl.HS1_14 c arg1 harg1 arg2 harg2 arg4 harg4 arg24 arg25 arg26 harg26 x0 x1 x3 xs2)) (lagR 6 3 arg25.view (kernelRun0_B.sl.HS1_14 c arg1 harg1 arg2 harg2 arg4 harg4 arg24 arg25 arg26 harg26 x0 x1 x3 xs2)) from rfl).trans ?_
    simp only [hs1_6, lagR_eq _ 0 (by decide), lagR_eq _ 1 (by decide), lagR_eq _ 2 (by decide), lagR_eq _ 3 (by decide), View.readAt_eq_ld, harg12.read_unread, harg13.read_unread]
    rfl
  | 7 =>
    refine (show _ = cvT (View.readAt (Elt F) arg13.view (Rect.unit ![0, 256 * (7 % 6)] S1x256.size (inb2 (by omega) (by omega)) : Rect S1x1536).toLoadRect (harg13.unread x12)) (View.readAt (Elt F) arg12.view (Rect.unit ![3, 256 * (7 % 6)] S1x256.size (inb2 (by omega) (by omega)) : Rect S4x1536).toLoadRect (harg12.unread x11)) (View.readAt (Elt F) arg12.view (Rect.unit ![2, 256 * (7 % 6)] S1x256.size (inb2 (by omega) (by omega)) : Rect S4x1536).toLoadRect (harg12.unread x11)) (View.readAt (Elt F) arg12.view (Rect.unit ![1, 256 * (7 % 6)] S1x256.size (inb2 (by omega) (by omega)) : Rect S4x1536).toLoadRect (harg12.unread x11)) (View.readAt (Elt F) arg12.view (Rect.unit ![0, 256 * (7 % 6)] S1x256.size (inb2 (by omega) (by omega)) : Rect S4x1536).toLoadRect (harg12.unread x11)) (lagR 7 0 arg25.view (kernelRun0_B.sl.HS1_16 c arg1 harg1 arg2 harg2 arg4 harg4 arg24 arg25 arg26 harg26 x0 x1 x3 xs2)) (lagR 7 1 arg25.view (kernelRun0_B.sl.HS1_16 c arg1 harg1 arg2 harg2 arg4 harg4 arg24 arg25 arg26 harg26 x0 x1 x3 xs2)) (lagR 7 2 arg25.view (kernelRun0_B.sl.HS1_16 c arg1 harg1 arg2 harg2 arg4 harg4 arg24 arg25 arg26 harg26 x0 x1 x3 xs2)) (lagR 7 3 arg25.view (kernelRun0_B.sl.HS1_16 c arg1 harg1 arg2 harg2 arg4 harg4 arg24 arg25 arg26 harg26 x0 x1 x3 xs2)) from rfl).trans ?_
    simp only [hs1_7, lagR_eq _ 0 (by decide), lagR_eq _ 1 (by decide), lagR_eq _ 2 (by decide), lagR_eq _ 3 (by decide), View.readAt_eq_ld, harg12.read_unread, harg13.read_unread]
    rfl
  | 8 =>
    refine (show _ = cvT (View.readAt (Elt F) arg13.view (Rect.unit ![0, 256 * (8 % 6)] S1x256.size (inb2 (by omega) (by omega)) : Rect S1x1536).toLoadRect (harg13.unread x12)) (View.readAt (Elt F) arg12.view (Rect.unit ![3, 256 * (8 % 6)] S1x256.size (inb2 (by omega) (by omega)) : Rect S4x1536).toLoadRect (harg12.unread x11)) (View.readAt (Elt F) arg12.view (Rect.unit ![2, 256 * (8 % 6)] S1x256.size (inb2 (by omega) (by omega)) : Rect S4x1536).toLoadRect (harg12.unread x11)) (View.readAt (Elt F) arg12.view (Rect.unit ![1, 256 * (8 % 6)] S1x256.size (inb2 (by omega) (by omega)) : Rect S4x1536).toLoadRect (harg12.unread x11)) (View.readAt (Elt F) arg12.view (Rect.unit ![0, 256 * (8 % 6)] S1x256.size (inb2 (by omega) (by omega)) : Rect S4x1536).toLoadRect (harg12.unread x11)) (lagR 8 0 arg25.view (kernelRun0_B.sl.HS1_18 c arg1 harg1 arg2 harg2 arg4 harg4 arg24 arg25 arg26 harg26 x0 x1 x3 xs2)) (lagR 8 1 arg25.view (kernelRun0_B.sl.HS1_18 c arg1 harg1 arg2 harg2 arg4 harg4 arg24 arg25 arg26 harg26 x0 x1 x3 xs2)) (lagR 8 2 arg25.view (kernelRun0_B.sl.HS1_18 c arg1 harg1 arg2 harg2 arg4 harg4 arg24 arg25 arg26 harg26 x0 x1 x3 xs2)) (lagR 8 3 arg25.view (kernelRun0_B.sl.HS1_18 c arg1 harg1 arg2 harg2 arg4 harg4 arg24 arg25 arg26 harg26 x0 x1 x3 xs2)) from rfl).trans ?_
    simp only [hs1_8, lagR_eq _ 0 (by decide), lagR_eq _ 1 (by decide), lagR_eq _ 2 (by decide), lagR_eq _ 3 (by decide), View.readAt_eq_ld, harg12.read_unread, harg13.read_unread]
    rfl
  | 9 =>
    refine (show _ = cvT (View.readAt (Elt F) arg13.view (Rect.unit ![0, 256 * (9 % 6)] S1x256.size (inb2 (by omega) (by omega)) : Rect S1x1536).toLoadRect (harg13.unread x12)) (View.readAt (Elt F) arg12.view (Rect.unit ![3, 256 * (9 % 6)] S1x256.size (inb2 (by omega) (by omega)) : Rect S4x1536).toLoadRect (harg12.unread x11)) (View.readAt (Elt F) arg12.view (Rect.unit ![2, 256 * (9 % 6)] S1x256.size (inb2 (by omega) (by omega)) : Rect S4x1536).toLoadRect (harg12.unread x11)) (View.readAt (Elt F) arg12.view (Rect.unit ![1, 256 * (9 % 6)] S1x256.size (inb2 (by omega) (by omega)) : Rect S4x1536).toLoadRect (harg12.unread x11)) (View.readAt (Elt F) arg12.view (Rect.unit ![0, 256 * (9 % 6)] S1x256.size (inb2 (by omega) (by omega)) : Rect S4x1536).toLoadRect (harg12.unread x11)) (lagR 9 0 arg25.view (kernelRun0_B.sl.HS1_20 c arg1 harg1 arg2 harg2 arg4 harg4 arg24 arg25 arg26 harg26 x0 x1 x3 xs2)) (lagR 9 1 arg25.view (kernelRun0_B.sl.HS1_20 c arg1 harg1 arg2 harg2 arg4 harg4 arg24 arg25 arg26 harg26 x0 x1 x3 xs2)) (lagR 9 2 arg25.view (kernelRun0_B.sl.HS1_20 c arg1 harg1 arg2 harg2 arg4 harg4 arg24 arg25 arg26 harg26 x0 x1 x3 xs2)) (lagR 9 3 arg25.view (kernelRun0_B.sl.HS1_20 c arg1 harg1 arg2 harg2 arg4 harg4 arg24 arg25 arg26 harg26 x0 x1 x3 xs2)) from rfl).trans ?_
    simp only [hs1_9, lagR_eq _ 0 (by decide), lagR_eq _ 1 (by decide), lagR_eq _ 2 (by decide), lagR_eq _ 3 (by decide), View.readAt_eq_ld, harg12.read_unread, harg13.read_unread]
    rfl
  | 10 =>
    refine (show _ = cvT (View.readAt (Elt F) arg13.view (Rect.unit ![0, 256 * (10 % 6)] S1x256.size (inb2 (by omega) (by omega)) : Rect S1x1536).toLoadRect (harg13.unread x12)) (View.readAt (Elt F) arg12.view (Rect.unit ![3, 256 * (10 % 6)] S1x256.size (inb2 (by omega) (by omega)) : Rect S4x1536).toLoadRect (harg12.unread x11)) (View.readAt (Elt F) arg12.view (Rect.unit ![2, 256 * (10 % 6)] S1x256.size (inb2 (by omega) (by omega)) : Rect S4x1536).toLoadRect (harg12.unread x11)) (View.readAt (Elt F) arg12.view (Rect.unit ![1, 256 * (10 % 6)] S1x256.size (inb2 (by omega) (by omega)) : Rect S4x1536).toLoadRect (harg12.unread x11)) (View.readAt (Elt F) arg12.view (Rect.unit ![0, 256 * (10 % 6)] S1x256.size (inb2 (by omega) (by omega)) : Rect S4x1536).toLoadRect (harg12.unread x11)) (lagR 10 0 arg25.view (kernelRun0_B.sl.HS1_22 c arg1 harg1 arg2 harg2 arg4 harg4 arg24 arg25 arg26 harg26 x0 x1 x3 xs2)) (lagR 10 1 arg25.view (kernelRun0_B.sl.HS1_22 c arg1 harg1 arg2 harg2 arg4 harg4 arg24 arg25 arg26 harg26 x0 x1 x3 xs2)) (lagR 10 2 arg25.view (kernelRun0_B.sl.HS1_22 c arg1 harg1 arg2 harg2 arg4 harg4 arg24 arg25 arg26 harg26 x0 x1 x3 xs2)) (lagR 10 3 arg25.view (kernelRun0_B.sl.HS1_22 c arg1 harg1 arg2 harg2 arg4 harg4 arg24 arg25 arg26 harg26 x0 x1 x3 xs2)) from rfl).trans ?_
    simp only [hs1_10, lagR_eq _ 0 (by decide), lagR_eq _ 1 (by decide), lagR_eq _ 2 (by decide), lagR_eq _ 3 (by decide), View.readAt_eq_ld, harg12.read_unread, harg13.read_unread]
    rfl
  | 11 =>
    refine (show _ = cvT (View.readAt (Elt F) arg13.view (Rect.unit ![0, 256 * (11 % 6)] S1x256.size (inb2 (by omega) (by omega)) : Rect S1x1536).toLoadRect (harg13.unread x12)) (View.readAt (Elt F) arg12.view (Rect.unit ![3, 256 * (11 % 6)] S1x256.size (inb2 (by omega) (by omega)) : Rect S4x1536).toLoadRect (harg12.unread x11)) (View.readAt (Elt F) arg12.view (Rect.unit ![2, 256 * (11 % 6)] S1x256.size (inb2 (by omega) (by omega)) : Rect S4x1536).toLoadRect (harg12.unread x11)) (View.readAt (Elt F) arg12.view (Rect.unit ![1, 256 * (11 % 6)] S1x256.size (inb2 (by omega) (by omega)) : Rect S4x1536).toLoadRect (harg12.unread x11)) (View.readAt (Elt F) arg12.view (Rect.unit ![0, 256 * (11 % 6)] S1x256.size (inb2 (by omega) (by omega)) : Rect S4x1536).toLoadRect (harg12.unread x11)) (lagR 11 0 arg25.view (kernelRun0_B.sl.HS1_24 c arg1 harg1 arg2 harg2 arg4 harg4 arg24 arg25 arg26 harg26 x0 x1 x3 xs2)) (lagR 11 1 arg25.view (kernelRun0_B.sl.HS1_24 c arg1 harg1 arg2 harg2 arg4 harg4 arg24 arg25 arg26 harg26 x0 x1 x3 xs2)) (lagR 11 2 arg25.view (kernelRun0_B.sl.HS1_24 c arg1 harg1 arg2 harg2 arg4 harg4 arg24 arg25 arg26 harg26 x0 x1 x3 xs2)) (lagR 11 3 arg25.view (kernelRun0_B.sl.HS1_24 c arg1 harg1 arg2 harg2 arg4 harg4 arg24 arg25 arg26 harg26 x0 x1 x3 xs2)) from rfl).trans ?_
    simp only [hs1_11, lagR_eq _ 0 (by decide), lagR_eq _ 1 (by decide), lagR_eq _ 2 (by decide), lagR_eq _ 3 (by decide), View.readAt_eq_ld, harg12.read_unread, harg13.read_unread]
    rfl
  | n + 12 => rfl

theorem xs_run : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2).2.2.2.2.2.1 = xsL (fun h j => (V c arg1 harg1 arg2 harg2 arg4 harg4 arg12 harg12 arg13 harg13 arg24 arg25 arg26 harg26 x0 x1 x3 x11 x12 xs2) (6 * h + j)) 32 := by
  unfold kernelRun0_B
  rfl

theorem xs_out : out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2 = View.canon (xsB x0 x1 x3 x11 x12 xs2) :=
  (View.read_writes_eq_canon _ _ _ (cover0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2)).trans (congrArg View.canon (by
    rw [xs_run, V_eq]
    rfl))

theorem bm_run : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2).2.2.2.2.2.2.1 = bmL (fun h => (V c arg1 harg1 arg2 harg2 arg4 harg4 arg12 harg12 arg13 harg13 arg24 arg25 arg26 harg26 x0 x1 x3 x11 x12 xs2) (6 * h + 4)) 2 := by
  unfold kernelRun0_B
  rfl

theorem bm_out : out0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2 = View.canon (bmB x0 x1 x3 x11 x12 xs2) :=
  (View.read_writes_eq_canon _ _ _ (cover0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2)).trans (congrArg View.canon (by
    rw [bm_run, V_eq]
    rfl))

theorem cm_run : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2).2.2.2.2.2.2.2.1 = bmL (fun h => (V c arg1 harg1 arg2 harg2 arg4 harg4 arg12 harg12 arg13 harg13 arg24 arg25 arg26 harg26 x0 x1 x3 x11 x12 xs2) (6 * h + 5)) 2 := by
  unfold kernelRun0_B
  rfl

theorem cm_out : out0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2 = View.canon (cmB x0 x1 x3 x11 x12 xs2) :=
  (View.read_writes_eq_canon _ _ _ (cover0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2)).trans (congrArg View.canon (by
    rw [cm_run, V_eq]
    rfl))

theorem gt_run : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2).2.2.2.2.2.2.2.2.1 = gtL (fun n => gT (CaseB.Xn arg1 harg1 arg2 harg2 arg24 x0 x1 1 1 n) (View.readAt (Elt F) arg5.view (Rect.unit ![0, 0] S512x1024.size (inb2 (by omega) (by omega)) : Rect S512x1024).toLoadRect (harg5.unread x4)) (View.readAt (Elt F) arg10.view (Rect.unit ![0, 0] S32x1024.size (inb2 (by omega) (by omega)) : Rect S32x1024).toLoadRect (harg10.unread x9)) (View.readAt (Elt F) arg11.view (Rect.unit ![0, 0] S32x1.size (inb2 (by omega) (by omega)) : Rect S32x1).toLoadRect (harg11.unread x10))) 8 := by
  unfold kernelRun0_B
  rfl

theorem gt_out : out0_B_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2 = View.canon (gtB x0 x1 x4 x9 x10) :=
  (View.read_writes_eq_canon _ _ _ (cover0_B_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2)).trans (congrArg View.canon (by
    rw [gt_run, CaseB.xn_read arg1 harg1 arg2 harg2 arg24 x0 x1 1 1 (by intro n h; omega)]
    simp only [View.readAt_eq_ld, harg5.read_unread, harg10.read_unread, harg11.read_unread, Nat.div_one]
    rfl))

theorem cr_run : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2).2.2.2.2.2.2.2.2.2.1 = ⟨rcc 11, cutR 11 arg25.view (kernelRun0_B.sl.HS1_24 c arg1 harg1 arg2 harg2 arg4 harg4 arg24 arg25 arg26 harg26 x0 x1 x3 xs2)⟩ :: (kernelRun0_B.sl.HS2_11 c arg1 harg1 arg2 harg2 arg4 harg4 arg24 arg25 arg26 harg26 x0 x1 x3 xs2) := by
  unfold kernelRun0_B
  rfl

theorem cr_out : sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2 = View.canon (caL (uB x0 x1 x3) ([] : List (View.Piece (Elt F) S8x1536 .f32)) 12) :=
  (View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 xs2)).trans (congrArg View.canon (by
    rw [cr_run, hs1_11, cutR_eq, hs2_11]
    rfl))

end Cert.InProjIdeal.ConvB

end
-- ==== Proof.InConvElem.lean ====
/- The convolution's and the small gates' tiles read at an index, over the extended reals. -/
module

public import proofs.«01_k».proof.Proof.InConv
public import proofs.«01_k».proof.Proof.InElem
public import Mathlib.Tactic.Abel

@[expose] public section

set_option maxRecDepth 16384

noncomputable section

namespace Cert.InProjIdeal.ConvElem

open Idealize.ShloMosaic Idealize.ShloMosaic.TcCoe Idealize.SL.Sem Cert.InProjIdeal Cert.InProjIdeal.Gen Cert.InProjIdeal.Step
open Cert.InProjIdeal.Elem Cert.InProjIdeal.Conv

/-- A channel of the convolution with its gate: the bias, the taps' weights and the rows at each tap. -/
def cvS (cb w3 w2 w1 w0 l0 l1 l2 l3 : EReal) : EReal := siluS (cb + w3 * l0 + w2 * l1 + w1 * l2 + w0 * l3)

theorem bc_at (w : FVec Ideal S1x256 .f32) (r : Fin 512) (j : Fin 256) :
    broadcastTo S512x256 (shapeCast S1x256 w shapeCasts_S1x256_S1x256) broadcasts_S1x256_S512x256 (ix2 r j) = w (ix2 0 j) := by
  simp only [shapeCast_self]
  pointwise

theorem cvT_at (cb w3 w2 w1 w0 : FVec Ideal S1x256 .f32) (l0 l1 l2 l3 : FVec Ideal S512x256 .f32) (r : Fin 512) (j : Fin 256) :
    cvT cb w3 w2 w1 w0 l0 l1 l2 l3 (ix2 r j) = cvS (cb (ix2 0 j)) (w3 (ix2 0 j)) (w2 (ix2 0 j)) (w1 (ix2 0 j)) (w0 (ix2 0 j))
      (l0 (ix2 r j)) (l1 (ix2 r j)) (l2 (ix2 r j)) (l3 (ix2 r j)) := by
  obtain ⟨a, ha⟩ : ∃ a : FVec Ideal S1x256 .f32 → EReal, a = fun w =>
    broadcastTo S512x256 (shapeCast S1x256 w shapeCasts_S1x256_S1x256) broadcasts_S1x256_S512x256 (ix2 r j) := ⟨_, rfl⟩
  have b : ∀ w, a w = w (ix2 0 j) := fun w => (congrFun ha w).trans (bc_at w r j)
  have e : cvT cb w3 w2 w1 w0 l0 l1 l2 l3 (ix2 r j) =
      (a cb + a w3 * l0 (ix2 r j) + a w2 * l1 (ix2 r j) + a w1 * l2 (ix2 r j) + a w0 * l3 (ix2 r j)) *
        Ideal.div (Ideal.ofBits .f32 0x3F800000#32) (Ideal.ofBits .f32 0x3F800000#32 + FloatOps.exp (F := Ideal) (φ := .f32)
          (Ideal.ofBits .f32 0x00000000#32 - (a cb + a w3 * l0 (ix2 r j) + a w2 * l1 (ix2 r j) + a w1 * l2 (ix2 r j) + a w0 * l3 (ix2 r j)))) := by
    subst ha; rfl
  rw [e, sig_eq]
  simp only [b]
  rfl

theorem xcutT_at (c : Fin 4) (v : FVec Ideal S512x256 .bf16) (d : Fin 256) (l : Fin 128) :
    xcutT c v (ix3 0 d l) = v (ix2 (⟨128 * c.val + l.val, by omega⟩ : Fin 512) d) := by
  unfold xcutT
  pointwise

theorem uT_at (xn : FVec Ideal S512x1024 .bf16) (w : FVec Ideal S1024x256 .bf16) (r : Fin 512) (j : Fin 256) :
    uT xn w (ix2 r j) = ∑ k : Fin 1024, xn (ix2 r k) * w (ix2 k j) := by
  unfold uT k0_pay8
  simp only [shapeCast_self]
  pointwise

theorem wX_at (w : Vec Ideal S1024x1536 .bf16) (n : Nat) (k : Fin 1024) (j : Fin 256) (C : Fin 1536) (hC : C.val = 256 * (n % 6) + j.val) :
    wX w n (ix2 k j) = w (ix2 k C) := by
  refine View.ld_unit_apply_of w _ _ _ _ _ fun a => ?_
  match a with
  | ⟨0, _⟩ => exact (Nat.zero_add _).symm
  | ⟨1, _⟩ => exact hC
theorem wT_at (w : Vec Ideal S4x1536 .f32) (t : Fin 4) (n : Nat) (j : Fin 256) (C : Fin 1536) (hC : C.val = 256 * (n % 6) + j.val) :
    wT w t n (ix2 0 j) = w (ix2 t C) := by
  refine View.ld_unit_apply_of w _ _ _ _ _ fun a => ?_
  match a with
  | ⟨0, _⟩ => rfl
  | ⟨1, _⟩ => exact hC
theorem wB_at (w : Vec Ideal S1x1536 .f32) (n : Nat) (j : Fin 256) (C : Fin 1536) (hC : C.val = 256 * (n % 6) + j.val) :
    wB w n (ix2 0 j) = w (ix2 0 C) := by
  refine View.ld_unit_apply_of w _ _ _ _ _ fun a => ?_
  match a with
  | ⟨0, _⟩ => rfl
  | ⟨1, _⟩ => exact hC
theorem wC_at (w : Vec Ideal S8x1536 .f32) (n : Nat) (i : Fin 8) (j : Fin 256) (C : Fin 1536) (hC : C.val = 256 * (n % 6) + j.val) :
    wC w n (ix2 i j) = w (ix2 i C) := by
  refine View.ld_unit_apply_of w _ _ _ _ _ fun a => ?_
  match a with
  | ⟨0, _⟩ => exact (Nat.zero_add _).symm
  | ⟨1, _⟩ => exact hC

variable (x0 : Vec Ideal S1024x1024 .f32) (x1 : Vec Ideal S1x1024 .f32) (w : Vec Ideal S1024x1536 .bf16)

theorem uB_at (n : Nat) (r : Fin 512) (j : Fin 256) (R : Fin 1024) (C : Fin 1536) (hR : R.val = 512 * (n / 6 % 2) + r.val)
    (hC : C.val = 256 * (n % 6) + j.val) :
    uB x0 x1 w n (ix2 r j) = prjS (fun k => x0 (ix2 R k)) (fun k => x1 (ix2 0 k)) (fun k => w (ix2 k C)) :=
  (uT_at _ _ _ _).trans (Finset.sum_congr rfl fun k _ => congrArg₂ (· * ·) (XB_at x0 x1 _ _ k R hR) (wX_at w n k j C hC))

/-- A row's projection `s` rows before row `R` of the block, or what was carried into it. -/
def lagE (xc : Vec Ideal S8x1536 .f32) (R : Fin 1024) (C : Fin 1536) (s : Nat) (hs : s < 4) : EReal :=
  if h : s ≤ R.val then prjS (fun k => x0 (ix2 (⟨R.val - s, by omega⟩ : Fin 1024) k)) (fun k => x1 (ix2 0 k)) (fun k => w (ix2 k C))
  else xc (ix2 (⟨8 - s + R.val, by omega⟩ : Fin 8) C)

theorem lag_at (xc : Vec Ideal S8x1536 .f32) (n : Nat) (hn : n < 12) (r : Fin 512) (j : Fin 256) (R : Fin 1024) (C : Fin 1536)
    (hR : R.val = 512 * (n / 6) + r.val) (hC : C.val = 256 * (n % 6) + j.val) (s : Nat) (hs : s < 4) :
    lagT (uB x0 x1 w n) (ciB x0 x1 w xc n) s hs (ix2 r j) = lagE x0 x1 w xc R C s hs := by
  have e : lagT (uB x0 x1 w n) (ciB x0 x1 w xc n) s hs (ix2 r j) =
    if h : s ≤ r.val then uB x0 x1 w n (ix2 (⟨r.val - s, by omega⟩ : Fin 512) j)
    else ciB x0 x1 w xc n (ix2 (⟨8 - s + r.val, by omega⟩ : Fin 8) j) := rfl
  rw [e]
  unfold lagE
  by_cases h : s ≤ r.val
  · rw [dif_pos h, dif_pos (by omega : s ≤ R.val)]
    exact uB_at x0 x1 w n _ j _ C (by show R.val - s = 512 * (n / 6 % 2) + (r.val - s); omega) hC
  · rw [dif_neg h]
    by_cases h6 : n < 6
    · rw [dif_neg (by omega : ¬ s ≤ R.val), show ciB x0 x1 w xc n = wC xc n from if_pos h6]
      refine (wC_at xc n _ j C hC).trans (congrArg (fun i => xc (ix2 i C)) (Fin.ext ?_))
      show 8 - s + r.val = 8 - s + R.val
      omega
    · rw [dif_pos (by omega : s ≤ R.val), show ciB x0 x1 w xc n = cutC (uB x0 x1 w (n - 6)) from if_neg h6]
      exact uB_at x0 x1 w (n - 6) (⟨504 + (8 - s + r.val), by omega⟩ : Fin 512) j _ C
        (by show R.val - s = 512 * ((n - 6) / 6 % 2) + (504 + (8 - s + r.val)); omega) (by omega)

/-- A channel of the convolution at a row of the block. -/
def cvE (cw : Vec Ideal S4x1536 .f32) (cb : Vec Ideal S1x1536 .f32) (xc : Vec Ideal S8x1536 .f32) (R : Fin 1024) (C : Fin 1536) : EReal :=
  cvS (cb (ix2 0 C)) (cw (ix2 3 C)) (cw (ix2 2 C)) (cw (ix2 1 C)) (cw (ix2 0 C))
    (lagE x0 x1 w xc R C 0 (by decide)) (lagE x0 x1 w xc R C 1 (by decide)) (lagE x0 x1 w xc R C 2 (by decide)) (lagE x0 x1 w xc R C 3 (by decide))

theorem cvB_at (cw : Vec Ideal S4x1536 .f32) (cb : Vec Ideal S1x1536 .f32) (xc : Vec Ideal S8x1536 .f32) (n : Nat) (hn : n < 12)
    (r : Fin 512) (j : Fin 256) (R : Fin 1024) (C : Fin 1536) (hR : R.val = 512 * (n / 6) + r.val) (hC : C.val = 256 * (n % 6) + j.val) :
    cvB x0 x1 w cw cb xc n (ix2 r j) = cvE x0 x1 w cw cb xc R C := by
  unfold cvB cvE
  rw [cvT_at, wB_at cb n j C hC, wT_at cw 3 n j C hC, wT_at cw 2 n j C hC, wT_at cw 1 n j C hC, wT_at cw 0 n j C hC,
    lag_at x0 x1 w xc n hn r j R C hR hC, lag_at x0 x1 w xc n hn r j R C hR hC, lag_at x0 x1 w xc n hn r j R C hR hC,
    lag_at x0 x1 w xc n hn r j R C hR hC]

theorem xsB_at (cw : Vec Ideal S4x1536 .f32) (cb : Vec Ideal S1x1536 .f32) (xc : Vec Ideal S8x1536 .f32)
    (ch : Fin 8) (d : Fin 1024) (l : Fin 128) (C : Fin 1536) (hC : C.val = d.val) :
    View.canon (xsB x0 x1 w cw cb xc) (ix3 ch d l) = cvE x0 x1 w cw cb xc (rowOf ch l) C := by
  obtain ⟨N, hN⟩ : ∃ N, N = 16 * (ch.val / 4) + 4 * (d.val / 256) + ch.val % 4 := ⟨_, rfl⟩
  have h1 : N / 16 % 2 = ch.val / 4 := by omega
  have h2 : N / 4 % 4 = d.val / 256 := by omega
  have h3 : N % 4 = ch.val % 4 := by omega
  have h4 : N / 16 = ch.val / 4 := by omega
  refine (canon_tilesN (Val := Elt Ideal) (e := .bf16) (s := S8x1024x128) S1x256x128.size
    (fun n => ![4 * (f2 (n / 16)).val + (f4 n).val, 256 * (f4 (n / 4)).val, 0]) (fun n => inb3 (by omega) (by omega) (by omega)) _
    N (ix3 (0 : Fin 1) (⟨d.val % 256, by omega⟩ : Fin 256) l) _ ?_ 32 (by omega) ?_).trans ?_
  · funext a
    refine Fin.ext ?_
    match a with
    | ⟨0, _⟩ => show (4 * (N / 16 % 2) + N % 4) + 1 * 0 = ch.val; omega
    | ⟨1, _⟩ => show 256 * (N / 4 % 4) + 1 * (d.val % 256) = d.val; omega
    | ⟨2, _⟩ => show 0 + 1 * l.val = l.val; omega
  · intro n hn hne
    by_cases e : n / 4 % 4 = N / 4 % 4
    · refine ⟨⟨0, by decide⟩, ?_⟩
      show (4 * (n / 16 % 2) + n % 4) + 1 ≤ 4 * (N / 16 % 2) + N % 4 ∨ (4 * (N / 16 % 2) + N % 4) + 1 ≤ 4 * (n / 16 % 2) + n % 4
      omega
    · refine ⟨⟨1, by decide⟩, ?_⟩
      show 256 * (n / 4 % 4) + 256 ≤ 256 * (N / 4 % 4) ∨ 256 * (N / 4 % 4) + 256 ≤ 256 * (n / 4 % 4)
      omega
  · refine (xcutT_at _ _ _ _).trans ?_
    refine cvB_at x0 x1 w cw cb xc (6 * (N / 16) + N / 4 % 4) (by omega) _ _ _ C ?_ ?_
    · show 128 * ch.val + l.val = 512 * ((6 * (N / 16) + N / 4 % 4) / 6) + (128 * (N % 4) + l.val)
      omega
    · show C.val = 256 * ((6 * (N / 16) + N / 4 % 4) % 6) + d.val % 256
      omega

/-- A half-block-by-half-block array, at an index. -/
theorem bmL_at (g : Nat → FVec Ideal S512x256 .bf16) (R : Fin 1024) (d : Fin 256) :
    View.canon (bmL g 2) (ix2 R d) = g (R.val / 512) (ix2 (⟨R.val % 512, by omega⟩ : Fin 512) d) := by
  refine (canon_tilesN (Val := Elt Ideal) (e := .bf16) (s := S1024x256) S512x256.size
    (fun n => ![512 * (f2 n).val, 0]) (fun n => inb2 (by omega) (by omega)) _
    (R.val / 512) (ix2 (⟨R.val % 512, by omega⟩ : Fin 512) d) _ ?_ 2 (by omega) ?_)
  · funext a
    refine Fin.ext ?_
    match a with
    | ⟨0, _⟩ => show 512 * (R.val / 512 % 2) + 1 * (R.val % 512) = R.val; omega
    | ⟨1, _⟩ => show 0 + 1 * d.val = d.val; omega
  · intro n hn hne
    refine ⟨⟨0, by decide⟩, ?_⟩
    show 512 * (n % 2) + 512 ≤ 512 * (R.val / 512 % 2) ∨ 512 * (R.val / 512 % 2) + 512 ≤ 512 * (n % 2)
    omega

theorem bmB_at (cw : Vec Ideal S4x1536 .f32) (cb : Vec Ideal S1x1536 .f32) (xc : Vec Ideal S8x1536 .f32)
    (R : Fin 1024) (d : Fin 256) (C : Fin 1536) (hC : C.val = 1024 + d.val) :
    View.canon (bmB x0 x1 w cw cb xc) (ix2 R d) = cvE x0 x1 w cw cb xc R C :=
  (bmL_at _ R d).trans (cvB_at x0 x1 w cw cb xc (6 * (R.val / 512) + 4) (by omega) _ _ R C
    (by show R.val = 512 * ((6 * (R.val / 512) + 4) / 6) + R.val % 512; omega) (by omega))
theorem cmB_at (cw : Vec Ideal S4x1536 .f32) (cb : Vec Ideal S1x1536 .f32) (xc : Vec Ideal S8x1536 .f32)
    (R : Fin 1024) (d : Fin 256) (C : Fin 1536) (hC : C.val = 1280 + d.val) :
    View.canon (cmB x0 x1 w cw cb xc) (ix2 R d) = cvE x0 x1 w cw cb xc R C :=
  (bmL_at _ R d).trans (cvB_at x0 x1 w cw cb xc (6 * (R.val / 512) + 5) (by omega) _ _ R C
    (by show R.val = 512 * ((6 * (R.val / 512) + 5) / 6) + R.val % 512; omega) (by omega))

/-- The rows carried out of a call are its last eight. -/
theorem carry_at (L0 : List (View.Piece (Elt Ideal) S8x1536 .f32)) (i : Fin 8) (C : Fin 1536) (R : Fin 1024) (hR : R.val = 1016 + i.val) :
    View.canon (caL (uB x0 x1 w) L0 12) (ix2 i C) = prjS (fun k => x0 (ix2 R k)) (fun k => x1 (ix2 0 k)) (fun k => w (ix2 k C)) := by
  have e : (rcc (6 + C.val / 256)).idx (ix2 i (⟨C.val % 256, by omega⟩ : Fin 256)) = (ix2 i C : S8x1536.Idx) := by
    funext a
    refine Fin.ext ?_
    match a with
    | ⟨0, _⟩ => show 0 + 1 * i.val = i.val; omega
    | ⟨1, _⟩ => show 256 * ((6 + C.val / 256) % 6) + 1 * (C.val % 256) = C.val; omega
  rw [← e]
  refine (caL_new (uB x0 x1 w) L0 (6 + C.val / 256) _ 12 (by omega) (by omega)).trans ?_
  exact uB_at x0 x1 w (6 + C.val / 256) (⟨504 + i.val, by omega⟩ : Fin 512) _ R C
    (by show R.val = 512 * ((6 + C.val / 256) / 6 % 2) + (504 + i.val); omega) (by show C.val = 256 * ((6 + C.val / 256) % 6) + C.val % 256; omega)

theorem zeroC_at (i : Fin 8) (C : Fin 1536) : zeroC (F := Ideal) (ix2 i C) = 0 := by
  have e : (Rect.unit ![0, 0] S8x1536.size (inb2 (by omega) (by omega)) : Rect S8x1536).idx (ix2 i C) = (ix2 i C : S8x1536.Idx) := by
    funext a
    refine Fin.ext ?_
    match a with
    | ⟨0, _⟩ => show 0 + 1 * i.val = i.val; omega
    | ⟨1, _⟩ => show 0 + 1 * C.val = C.val; omega
  unfold zeroC
  refine (congrArg _ e.symm).trans ((View.canon_cons_emb _ _ _ _).trans ?_)
  show Ideal.ofBits .f32 0x00000000#32 = 0
  simp [Ideal.ofBits, Ideal.ieee]

/-! ### The small gates -/

/-- A gate, capped softly. -/
def capS (g : EReal) : EReal :=
  Ideal.ofBits .f32 0x41700000#32 * FloatOps.tanh (F := Ideal) (φ := .f32) (Ideal.div g (Ideal.ofBits .f32 0x41700000#32))
/-- The softplus of a gate. -/
def spS (g : EReal) : EReal := max g 0 + Ideal.log1p (Ideal.exp (-(max g (-g))))
/-- A gate of row `g`: the input gates, the forget gates, the time steps, and zeros. -/
def gateS (g : Nat) (p : EReal) : EReal :=
  if g < 4 then capS p else if g < 8 then -spS (-capS p) else if g < 24 then spS p else 0

theorem zero_f32 : Ideal.ofBits .f32 0x00000000#32 = 0 := by simp [Ideal.ofBits, Ideal.ieee]

theorem log1p_exp_ne_bot (y : EReal) : Ideal.log1p (Ideal.exp y) ≠ ⊥ := by
  unfold Ideal.log1p
  induction y with
  | bot => rw [Ideal.exp_bot, add_zero]; exact (show Ideal.log ((1 : ℝ) : EReal) ≠ ⊥ by rw [Ideal.log_coe, if_neg (by norm_num)]; exact EReal.coe_ne_bot _)
  | top => rw [Ideal.exp_top]; exact (show Ideal.log (((1 : ℝ) : EReal) + ⊤) ≠ ⊥ by rw [EReal.coe_add_top]; exact top_ne_bot)
  | coe r =>
    rw [Ideal.exp_coe]
    have e : (1 : EReal) + (Real.exp r : EReal) = ((1 + Real.exp r : ℝ) : EReal) := rfl
    have h : ¬ (1 + Real.exp r ≤ 0) := not_le.mpr (by positivity)
    rw [e, Ideal.log_coe, if_neg h]
    exact EReal.coe_ne_bot _

theorem lf_eq (u : EReal) : min u 0 - Ideal.log1p (Ideal.exp (0 - max u (-u))) = -spS (-u) := by
  unfold spS
  rw [zero_sub, neg_neg, max_comm (-u) u]
  have hb : Ideal.log1p (Ideal.exp (-(max u (-u)))) ≠ ⊥ := log1p_exp_ne_bot _
  have ha : max (-u) 0 ≠ ⊥ := ne_of_gt (lt_of_lt_of_le EReal.bot_lt_zero (le_max_right _ _))
  rw [EReal.neg_add (Or.inl ha) (Or.inr hb)]
  congr 1
  rcases le_total u 0 with h | h
  · have h' : 0 ≤ -u := by simpa using EReal.neg_le_neg_iff.mpr h
    rw [min_eq_left h, max_eq_left h', neg_neg]
  · have h' : -u ≤ 0 := by simpa using EReal.neg_le_neg_iff.mpr h
    rw [min_eq_right h, max_eq_right h', neg_zero]

theorem sel4 (g : Fin 32) (x y : EReal) :
    Scalar.select (IntOp.cmpi .slt (BitVec.ofNat 32 g.val) 4#32) x y = if g.val < 4 then x else y := by
  have h : ∀ g : Fin 32, IntOp.cmpi .slt (BitVec.ofNat 32 g.val) 4#32 = if g.val < 4 then 1#1 else 0#1 := by decide
  rw [h g]
  split_ifs <;> rfl

theorem sel8 (g : Fin 32) (x y : EReal) :
    Scalar.select (IntOp.cmpi .slt (BitVec.ofNat 32 g.val) 8#32) x y = if g.val < 8 then x else y := by
  have h : ∀ g : Fin 32, IntOp.cmpi .slt (BitVec.ofNat 32 g.val) 8#32 = if g.val < 8 then 1#1 else 0#1 := by decide
  rw [h g]
  split_ifs <;> rfl

theorem sel24 (g : Fin 32) (x y : EReal) :
    Scalar.select (IntOp.cmpi .slt (BitVec.ofNat 32 g.val) 24#32) x y = if g.val < 24 then x else y := by
  have h : ∀ g : Fin 32, IntOp.cmpi .slt (BitVec.ofNat 32 g.val) 24#32 = if g.val < 24 then 1#1 else 0#1 := by decide
  rw [h g]
  split_ifs <;> rfl

theorem gT_at (xn : FVec Ideal S512x1024 .bf16) (w : FVec Ideal S512x1024 .bf16) (wg : FVec Ideal S32x1024 .bf16) (gb : FVec Ideal S32x1 .f32)
    (g : Fin 32) (j : Fin 512) :
    gT xn w wg gb (ix2 g j) = gateS g.val ((∑ k : Fin 1024, xn (ix2 j k) * wg (ix2 g k)) + gb (ix2 g 0)) := by
  have eg : (k0_pay37 (F := Ideal) (k0_pay30 w wg xn) gb (ix2 g j) : EReal) = (∑ k : Fin 1024, xn (ix2 j k) * wg (ix2 g k)) + gb (ix2 g 0) := by
    unfold k0_pay37 k0_pay30
    simp only [shapeCast_self]
    pointwise
    exact congrArg (· + _) (Finset.sum_congr rfl fun k _ => mul_comm _ _)
  obtain ⟨p, hp⟩ : ∃ p : EReal, p = k0_pay37 (F := Ideal) (k0_pay30 w wg xn) gb (ix2 g j) := ⟨_, rfl⟩
  rw [← eg, ← hp]
  have h38 : (k0_pay38 (F := Ideal) (k0_pay30 w wg xn) gb (ix2 g j) : EReal) = capS p := by subst hp; rfl
  have h39 : (k0_pay39 (F := Ideal) (k0_pay30 w wg xn) gb (ix2 g j) : EReal) =
      min (k0_pay38 (F := Ideal) (k0_pay30 w wg xn) gb (ix2 g j)) (Ideal.ofBits .f32 0x00000000#32) -
        Ideal.log1p (Ideal.exp (Ideal.ofBits .f32 0x00000000#32 - max (k0_pay38 (F := Ideal) (k0_pay30 w wg xn) gb (ix2 g j)) (-k0_pay38 (F := Ideal) (k0_pay30 w wg xn) gb (ix2 g j)))) := rfl
  have h43 : (k0_pay43 (F := Ideal) (k0_pay30 w wg xn) gb (ix2 g j) : EReal) = max p (Ideal.ofBits .f32 0x00000000#32) := by subst hp; rfl
  have h44 : (k0_pay44 (F := Ideal) (k0_pay30 w wg xn) gb (ix2 g j) : EReal) =
      Ideal.log1p (Ideal.exp (Ideal.ofBits .f32 0x00000000#32 - max p (-p))) := by subst hp; rfl
  rw [h38, zero_f32, lf_eq] at h39
  rw [zero_f32] at h43
  rw [zero_f32, zero_sub] at h44
  unfold gT k0_pay45 k0_pay40 k0_pay41 k0_pay42
  pointwise
  rw [h38, h39, h43, h44]
  refine (sel4 _ _ _).trans ?_
  rw [sel8, sel24]
  rfl

theorem gcutT_at (c : Fin 4) (v : FVec Ideal S32x512 .f32) (g : Fin 32) (l : Fin 128) :
    gcutT c v (ix3 0 g l) = v (ix2 g (⟨128 * c.val + l.val, by omega⟩ : Fin 512)) := by
  unfold gcutT
  pointwise

theorem wG_at (w : Vec Ideal S32x1024 .bf16) (r : Fin 32) (k : Fin 1024) : wG w (ix2 r k) = w (ix2 r k) := by
  refine View.ld_unit_apply_of w _ _ _ _ _ fun a => ?_
  match a with
  | ⟨0, _⟩ => exact (Nat.zero_add _).symm
  | ⟨1, _⟩ => exact (Nat.zero_add _).symm
theorem wgb_at (w : Vec Ideal S32x1 .f32) (r : Fin 32) : wgb w (ix2 r 0) = w (ix2 r 0) := by
  refine View.ld_unit_apply_of w _ _ _ _ _ fun a => ?_
  match a with
  | ⟨0, _⟩ => exact (Nat.zero_add _).symm
  | ⟨1, _⟩ => rfl

theorem gtB_at (wq : Vec Ideal S512x1024 .bf16) (wg : Vec Ideal S32x1024 .bf16) (gb : Vec Ideal S32x1 .f32) (ch : Fin 8) (g : Fin 32) (l : Fin 128) :
    View.canon (gtB x0 x1 wq wg gb) (ix3 ch g l) =
      gateS g.val (prjS (fun k => x0 (ix2 (rowOf ch l) k)) (fun k => x1 (ix2 0 k)) (fun k => wg (ix2 g k)) + gb (ix2 g 0)) := by
  refine (canon_tilesN (Val := Elt Ideal) (e := .f32) (s := S8x32x128) S1x32x128.size
    (fun n => ![4 * (f2 (n / 4)).val + (f4 n).val, 0, 0]) (fun n => inb3 (by omega) (by omega) (by omega)) _
    ch.val (ix3 (0 : Fin 1) g l) _ ?_ 8 ch.isLt ?_).trans ?_
  · funext a
    refine Fin.ext ?_
    match a with
    | ⟨0, _⟩ => show (4 * (ch.val / 4 % 2) + ch.val % 4) + 1 * 0 = ch.val; omega
    | ⟨1, _⟩ => show 0 + 1 * g.val = g.val; omega
    | ⟨2, _⟩ => show 0 + 1 * l.val = l.val; omega
  · intro n hn hne
    refine ⟨⟨0, by decide⟩, ?_⟩
    show (4 * (n / 4 % 2) + n % 4) + 1 ≤ 4 * (ch.val / 4 % 2) + ch.val % 4 ∨ (4 * (ch.val / 4 % 2) + ch.val % 4) + 1 ≤ 4 * (n / 4 % 2) + n % 4
    omega
  · refine (gcutT_at _ _ _ _).trans ((gT_at _ _ _ _ _ _).trans (congrArg (gateS g.val) (congrArg₂ (fun a b : EReal => a + b) (Finset.sum_congr rfl fun k _ => ?_) (wgb_at gb g))))
    refine congrArg₂ (· * ·) ?_ (wG_at wg g k)
    refine XB_at x0 x1 _ _ k (rowOf ch l) ?_
    show 128 * ch.val + l.val = 512 * (ch.val / 4 % 2) + (128 * (ch.val % 4) + l.val)
    omega

end Cert.InProjIdeal.ConvElem

end
-- ==== Proof.InConvOuts.lean ====
/- What each point of the input projections' grid leaves in the convolution's and the small gates' blocks, and what it carries to the next. -/
module

public import proofs.«01_k».proof.Proof.InConvA
public import proofs.«01_k».proof.Proof.InConvB
public import proofs.«01_k».proof.Proof.InConvElem
public import proofs.«01_k».proof.Proof.Gen.InProjIdeal.Value

@[expose] public section

set_option maxRecDepth 16384

noncomputable section

namespace Cert.InProjIdeal.Outs

open Idealize.ShloMosaic Idealize.ShloMosaic.TcCoe Idealize.SL.Sem Cert.InProjIdeal Cert.InProjIdeal.Gen Cert.InProjIdeal.Step Cert.InProjIdeal.Conv

section
variable {F : FTy → Type} [FloatOps F] (m : (ℓ : Loc nD τ sig) → Buf (Elt F) ℓ) (c : Dev nD) (t : Fin cfg0.N)

/-- The rows carried into a point: zeros at a sequence's first, the last rows of the point before elsewhere. -/
def XCt : Vec F S8x1536 .f32 :=
  if t.val % 8 = 0 then zeroC (F := F)
  else (outsAt0 m c (t.val - 1) (Nat.lt_of_le_of_lt (Nat.sub_le _ _) t.isLt)).2.2.2.2.2.2.2.2.2

theorem outs19 : (outsAt0 m c t.val t.isLt).2.2.2.2.2.1 = View.canon (xsB (iblk m c 0 t) (iblk m c 1 t) (iblk m c 3 t) (iblk m c 11 t) (iblk m c 12 t) (XCt m c t)) := by
  by_cases h : t.val % 8 = 0
  · rw [show XCt m c t = zeroC (F := F) from if_pos h, outsAt0_A m c t h]
    dsimp only
    exact ConvA.xs_out ..
  · rw [show XCt m c t = _ from if_neg h, outsAt0_B m c t h]
    dsimp only
    exact ConvB.xs_out ..

theorem outs20 : (outsAt0 m c t.val t.isLt).2.2.2.2.2.2.1 = View.canon (bmB (iblk m c 0 t) (iblk m c 1 t) (iblk m c 3 t) (iblk m c 11 t) (iblk m c 12 t) (XCt m c t)) := by
  by_cases h : t.val % 8 = 0
  · rw [show XCt m c t = zeroC (F := F) from if_pos h, outsAt0_A m c t h]
    dsimp only
    exact ConvA.bm_out ..
  · rw [show XCt m c t = _ from if_neg h, outsAt0_B m c t h]
    dsimp only
    exact ConvB.bm_out ..

theorem outs21 : (outsAt0 m c t.val t.isLt).2.2.2.2.2.2.2.1 = View.canon (cmB (iblk m c 0 t) (iblk m c 1 t) (iblk m c 3 t) (iblk m c 11 t) (iblk m c 12 t) (XCt m c t)) := by
  by_cases h : t.val % 8 = 0
  · rw [show XCt m c t = zeroC (F := F) from if_pos h, outsAt0_A m c t h]
    dsimp only
    exact ConvA.cm_out ..
  · rw [show XCt m c t = _ from if_neg h, outsAt0_B m c t h]
    dsimp only
    exact ConvB.cm_out ..

theorem outs22 : (outsAt0 m c t.val t.isLt).2.2.2.2.2.2.2.2.1 = View.canon (gtB (iblk m c 0 t) (iblk m c 1 t) (iblk m c 4 t) (iblk m c 9 t) (iblk m c 10 t)) := by
  by_cases h : t.val % 8 = 0
  · rw [outsAt0_A m c t h]
    dsimp only
    exact ConvA.gt_out ..
  · rw [outsAt0_B m c t h]
    dsimp only
    exact ConvB.gt_out ..

theorem carry_out : ∃ L0, (outsAt0 m c t.val t.isLt).2.2.2.2.2.2.2.2.2 = View.canon (caL (uB (iblk m c 0 t) (iblk m c 1 t) (iblk m c 3 t)) L0 12) := by
  by_cases h : t.val % 8 = 0
  · refine ⟨[⟨Rect.unit ![0, 0] S8x1536.size (inb2 (by omega) (by omega)), k0_pay5 (F := F)⟩], ?_⟩
    rw [outsAt0_A m c t h]
    dsimp only
    exact ConvA.cr_out ..
  · refine ⟨[], ?_⟩
    rw [outsAt0_B m c t h]
    dsimp only
    exact ConvB.cr_out ..
end

variable (m : (ℓ : Loc nD τ sig) → Buf (Elt Ideal) ℓ) (c : Dev nD) (t : Fin cfg0.N)

theorem XCt_zero (h : t.val % 8 = 0) (i : Fin 8) (C : Fin 1536) : XCt m c t (ix2 i C) = 0 := by
  rw [show XCt m c t = zeroC (F := Ideal) from if_pos h]
  exact ConvElem.zeroC_at i C

theorem XCt_at (h : ¬ t.val % 8 = 0) (t' : Fin cfg0.N) (ht : t'.val = t.val - 1) (i : Fin 8) (C : Fin 1536) (R : Fin 1024) (hR : R.val = 1016 + i.val) :
    XCt m c t (ix2 i C) = Elem.prjS (fun k => iblk m c 0 t' (ix2 R k)) (fun k => iblk m c 1 t' (ix2 0 k)) (fun k => iblk m c 3 t' (ix2 k C)) := by
  obtain ⟨L0, e⟩ := carry_out m c t'
  obtain ⟨n, hn⟩ := t'
  obtain rfl : n = t.val - 1 := ht
  rw [show XCt m c t = _ from if_neg h]
  exact (congrFun e (ix2 i C)).trans (ConvElem.carry_at _ _ _ L0 i C R hR)

end Cert.InProjIdeal.Outs

end
-- ==== Proof.InReadConv.lean ====
/- The convolution's and the small gates' windows read at an index, over the extended reals: the arguments themselves. -/
module

public import proofs.«01_k».proof.Proof.InRead
public import Idealize.ShloMosaic.Lib.KernelVsHost

@[expose] public section

set_option maxRecDepth 16384

noncomputable section

namespace Cert.InProjIdeal.Reads

open Idealize.ShloMosaic Idealize.ShloMosaic.TcCoe Idealize.SL.Sem Cert.InProjIdeal Cert.InProjIdeal.Gen

theorem idx3 : ∀ t : Fin cfg0.N, win0_3.index t = ![0, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![0, 0] := by decide +kernel
theorem idx12 : ∀ t : Fin cfg0.N, win0_12.index t = ![0, 0] := by decide +kernel

/-- Three arrays side by side, at an index. -/
theorem catW (a b : FVec Ideal S1024x4 .bf16) (d : FVec Ideal S1024x16 .bf16) (k : Fin 1024) (g : Fin 24) :
    concatenate S1024x24 1 [⟨S1024x4, a⟩, ⟨S1024x4, b⟩, ⟨S1024x16, d⟩] concatenates_S1024x4_S1024x4_S1024x16_S1024x24_d1 (ix2 k g) =
      if h : g.val < 4 then a (ix2 k (⟨g.val, h⟩ : Fin 4)) else if h' : g.val < 8 then b (ix2 k (⟨g.val - 4, by omega⟩ : Fin 4))
      else d (ix2 k (⟨g.val - 8, by omega⟩ : Fin 16)) := by
  by_cases h : g.val < 4
  · rw [dif_pos h]
    refine concatenate_apply_piece (t := S1024x24) 1 [⟨S1024x4, a⟩, ⟨S1024x4, b⟩, ⟨S1024x16, d⟩] _ (ix2 k g) 0 (show 0 < 3 by decide) S1024x4 a rfl rfl 0 rfl _ (fun x hx => ?_) ?_
    · match x with
      | ⟨0, _⟩ => rfl
      | ⟨1, _⟩ => exact absurd rfl hx
    · exact Nat.zero_add _
  · rw [dif_neg h]
    by_cases h' : g.val < 8
    · rw [dif_pos h']
      refine concatenate_apply_piece (t := S1024x24) 1 [⟨S1024x4, a⟩, ⟨S1024x4, b⟩, ⟨S1024x16, d⟩] _ (ix2 k g) 1 (show 1 < 3 by decide) S1024x4 b rfl rfl 4 rfl _ (fun x hx => ?_) ?_
      · match x with
        | ⟨0, _⟩ => rfl
        | ⟨1, _⟩ => exact absurd rfl hx
      · show 4 + (g.val - 4) = g.val; omega
    · rw [dif_neg h']
      refine concatenate_apply_piece (t := S1024x24) 1 [⟨S1024x4, a⟩, ⟨S1024x4, b⟩, ⟨S1024x16, d⟩] _ (ix2 k g) 2 (show 2 < 3 by decide) S1024x16 d rfl rfl 8 rfl _ (fun x hx => ?_) ?_
      · match x with
        | ⟨0, _⟩ => rfl
        | ⟨1, _⟩ => exact absurd rfl hx
      · show 8 + (g.val - 8) = g.val; omega

theorem catB (a b : FVec Ideal S4 .f32) (d : FVec Ideal S16 .f32) (g : Fin 24) :
    concatenate S24 0 [⟨S4, a⟩, ⟨S4, b⟩, ⟨S16, d⟩] concatenates_S4_S4_S16_S24_d0 (ix1 g) =
      if h : g.val < 4 then a (ix1 (⟨g.val, h⟩ : Fin 4)) else if h' : g.val < 8 then b (ix1 (⟨g.val - 4, by omega⟩ : Fin 4))
      else d (ix1 (⟨g.val - 8, by omega⟩ : Fin 16)) := by
  by_cases h : g.val < 4
  · rw [dif_pos h]
    refine concatenate_apply_piece (t := S24) 0 [⟨S4, a⟩, ⟨S4, b⟩, ⟨S16, d⟩] _ (ix1 g) 0 (show 0 < 3 by decide) S4 a rfl rfl 0 rfl _ (fun x hx => ?_) ?_
    · match x with
      | ⟨0, _⟩ => exact absurd rfl hx
    · exact Nat.zero_add _
  · rw [dif_neg h]
    by_cases h' : g.val < 8
    · rw [dif_pos h']
      refine concatenate_apply_piece (t := S24) 0 [⟨S4, a⟩, ⟨S4, b⟩, ⟨S16, d⟩] _ (ix1 g) 1 (show 1 < 3 by decide) S4 b rfl rfl 4 rfl _ (fun x hx => ?_) ?_
      · match x with
        | ⟨0, _⟩ => exact absurd rfl hx
      · show 4 + (g.val - 4) = g.val; omega
    · rw [dif_neg h']
      refine concatenate_apply_piece (t := S24) 0 [⟨S4, a⟩, ⟨S4, b⟩, ⟨S16, d⟩] _ (ix1 g) 2 (show 2 < 3 by decide) S16 d rfl rfl 8 rfl _ (fun x hx => ?_) ?_
      · match x with
        | ⟨0, _⟩ => exact absurd rfl hx
      · show 8 + (g.val - 8) = g.val; omega

variable (m : (ℓ : Loc nD τ sig) → Buf (Elt Ideal) ℓ) (c : Dev nD) (t : Fin cfg0.N)

theorem xw_at (k : Fin 1024) (j : Fin 1536) (C : Fin 6680) (hC : C.val = 5128 + j.val) :
    iblk m c 3 t (ix2 k j) = m ((c : Thread nD τ).loc main_arg2) (ix2 k C) := by
  show V m c main_v3 (((cfg0.win 3).blk t).view.emb (ix2 k j)) = _
  rw [V_v3]
  pointwise
  blk_ext [idx3]

theorem cw_at (i : Fin 4) (j : Fin 1536) :
    iblk m c 11 t (ix2 i j) = m ((c : Thread nD τ).loc main_arg5) (ix2 j i) := by
  show V m c main_v24 (((cfg0.win 11).blk t).view.emb (ix2 i j)) = _
  rw [V_v24]
  pointwise
  blk_ext [idx11]

theorem cb_at (j : Fin 1536) :
    iblk m c 12 t (ix2 0 j) = m ((c : Thread nD τ).loc main_arg6) (ix1 j) := by
  show V m c main_v25 (((cfg0.win 12).blk t).view.emb (ix2 0 j)) = _
  rw [V_v25]
  pointwise
  blk_ext [idx12]

theorem gw_at (g : Fin 32) (h : g.val < 24) (k : Fin 1024) (C : Fin 6680) (hC : C.val = if g.val < 8 then 2048 + g.val else 6656 + g.val) :
    iblk m c 9 t (ix2 g k) = m ((c : Thread nD τ).loc main_arg2) (ix2 k C) := by
  show V m c main_v19 (((cfg0.win 9).blk t).view.emb (ix2 g k)) = _
  have e : ((cfg0.win 9).blk t).view.emb (ix2 g k) = (ix2 g k : S32x1024.Idx) := by
    blk_ext [idx9]
  rw [V_v19]
  refine (congrArg _ e).trans ?_
  refine (pad_apply_of_inside _ _ _ _ _ _ _ _ (ix2 (⟨g.val, h⟩ : Fin 24) k) fun a => ?_).trans ?_
  · match a with
    | ⟨0, _⟩ => show g.val = 0 + g.val * (0 + 1); omega
    | ⟨1, _⟩ => show k.val = 0 + k.val * (0 + 1); omega
  refine (transpose_apply _ _ _ (ix2 (⟨g.val, h⟩ : Fin 24) k) (ix2 k (⟨g.val, h⟩ : Fin 24)) fun a => ?_).trans ?_
  · match a with
    | ⟨0, _⟩ => rfl
    | ⟨1, _⟩ => rfl
  refine (catW _ _ _ k ⟨g.val, h⟩).trans ?_
  dsimp only
  split_ifs at hC ⊢ <;> first
    | omega
    | (pointwise; refine congrArg _ (congrArg (ix2 k) (Fin.ext ?_)); show _ = C.val; simp only []; omega)

theorem gb_at (g : Fin 32) (h : g.val < 24) :
    iblk m c 10 t (ix2 g 0) = if h4 : g.val < 4 then m ((c : Thread nD τ).loc main_arg3) (ix1 (⟨g.val, h4⟩ : Fin 4))
      else if h8 : g.val < 8 then m ((c : Thread nD τ).loc main_arg4) (ix1 (⟨g.val - 4, by omega⟩ : Fin 4))
      else m ((c : Thread nD τ).loc main_arg7) (ix1 (⟨g.val - 8, by omega⟩ : Fin 16)) := by
  show V m c main_v22 (((cfg0.win 10).blk t).view.emb (ix2 g 0)) = _
  have e : ((cfg0.win 10).blk t).view.emb (ix2 g 0) = (ix2 g 0 : S32x1.Idx) := by
    blk_ext [idx10]
  rw [V_v22]
  refine (congrArg _ e).trans ?_
  refine (shapeCast_apply _ _ (ix2 g 0) (ix1 g) ?_).trans ?_
  · refine (Shape.rowMajor_val_one (d := ![32]) _).trans (Eq.trans ?_ (Shape.rowMajor_val_two (d := ![32, 1]) _).symm)
    show g.val = g.val * 1 + 0
    omega
  refine (pad_apply_of_inside _ _ _ _ _ _ _ _ (ix1 (⟨g.val, h⟩ : Fin 24)) fun a => ?_).trans ?_
  · match a with
    | ⟨0, _⟩ => show g.val = 0 + g.val * (0 + 1); omega
  exact catB _ _ _ ⟨g.val, h⟩

end Cert.InProjIdeal.Reads

end
-- ==== Proof.InRefConv.lean ====
/- The reference's convolution and small gates read at an index, over the extended reals. -/
module

public import proofs.«01_k».proof.Proof.InRef
public import proofs.«01_k».proof.Proof.InConvElem
public import Idealize.ShloMosaic.Lib.KernelVsHost

@[expose] public section

set_option maxRecDepth 16384

noncomputable section

namespace Cert.ProjectionsIdeal.Elem

open Idealize.ShloMosaic Idealize.ShloMosaic.TcCoe Idealize.SL.Sem Cert.ProjectionsIdeal Cert.ProjectionsIdeal.Gen Cert.ProjectionsIdeal.Read
open Cert.InProjIdeal.Elem (nrmS rsS prjS sgS siluS)
open Cert.InProjIdeal.ConvElem (cvS capS spS gateS)

variable (x0 : (⟨S4x8192x1024, .f32⟩ : BufTy).Contents (Elt Ideal)) (x1 : (⟨S1024, .f32⟩ : BufTy).Contents (Elt Ideal))
  (x2 : (⟨S1024x6680, .f32⟩ : BufTy).Contents (Elt Ideal)) (x3 x4 : (⟨S4, .f32⟩ : BufTy).Contents (Elt Ideal))
  (x5 : (⟨S1536x4, .f32⟩ : BufTy).Contents (Elt Ideal)) (x6 : (⟨S1536, .f32⟩ : BufTy).Contents (Elt Ideal))
  (x7 : (⟨S16, .f32⟩ : BufTy).Contents (Elt Ideal))

/-- A channel's projection `s` rows before row `S` of its sequence: zero before the first row. -/
def lagS (b : Fin 4) (S : Fin 8192) (D : Fin 6680) (s : Nat) : EReal :=
  if h : s ≤ S.val then prjS (fun k => x0 (ix3 b (⟨S.val - s, by omega⟩ : Fin 8192) k)) (fun k => x1 (ix1 k)) (fun k => x2 (ix2 k D)) else 0

theorem zero_int : FloatOps.sitofp (F := Ideal) .f32 (0#32) = (0 : EReal) := by
  show (((0#32 : BitVec 32).toInt : ℝ) : EReal) = 0
  simp

theorem pad_at (b : Fin 4) (S : Fin 8192) (C : Fin 1536) (D : Fin 6680) (hD : D.val = 5128 + C.val) (s : Nat) (hs : s ≤ 3)
    (J : S4x8195x1536.Idx) (j0 : (J 0).val = b.val) (j1 : (J 1).val = S.val + (3 - s)) (j2 : (J 2).val = C.val) :
    val_main_v73 (F := Ideal) x0 x1 x2 J = lagS x0 x1 x2 b S D s := by
  unfold lagS val_main_v73
  by_cases h : s ≤ S.val
  · rw [dif_pos h]
    refine (pad_apply_of_inside _ _ _ _ _ _ _ _ (ix3 b (⟨S.val - s, by omega⟩ : Fin 8192) C) fun a => ?_).trans ?_
    · match a with
      | ⟨0, _⟩ => refine Eq.trans j0 ?_; show b.val = 0 + b.val * (0 + 1); omega
      | ⟨1, _⟩ => refine Eq.trans j1 ?_; show S.val + (3 - s) = 3 + (S.val - s) * (0 + 1); omega
      | ⟨2, _⟩ => refine Eq.trans j2 ?_; show C.val = 0 + C.val * (0 + 1); omega
    rw [val_main_v24_apply, show idx_main_v24 (ix3 b (⟨S.val - s, by omega⟩ : Fin 8192) C) = ix3 b (⟨S.val - s, by omega⟩ : Fin 8192) D by
      funext a; refine Fin.ext ?_
      match a with | ⟨0, _⟩ => rfl | ⟨1, _⟩ => rfl | ⟨2, _⟩ => exact hD.symm]
    exact proj_at x0 x1 x2 b _ D
  · rw [dif_neg h]
    refine (pad_apply_of_not_inside _ _ _ _ _ _ _ _ 1 fun hh => ?_).trans ?_
    · have : 3 ≤ (J 1).val := hh.1
      omega
    · rw [val_main_call2_v0_apply, val_main_c_apply]
      exact zero_int

theorem cw_ref (b : Fin 4) (S : Fin 8192) (C : Fin 1536) :
    val_main_v78 (F := Ideal) x5 (ix3 b S C) = x5 (ix2 C 0) ∧ val_main_v87 (F := Ideal) x5 (ix3 b S C) = x5 (ix2 C 1) ∧
      val_main_v94 (F := Ideal) x5 (ix3 b S C) = x5 (ix2 C 2) ∧ val_main_v101 (F := Ideal) x5 (ix3 b S C) = x5 (ix2 C 3) := by
  refine ⟨?_, ?_, ?_, ?_⟩
  · rw [val_main_v78_apply, val_main_v77_apply, val_main_v76_apply, val_main_v75_apply]
    refine congrArg x5 (funext fun a => Fin.ext ?_)
    match a with
    | ⟨0, _⟩ => show C.val / 1 = C.val; omega
    | ⟨1, _⟩ => rfl
  · rw [val_main_v87_apply, val_main_v86_apply, val_main_v85_apply, val_main_v84_apply]
    refine congrArg x5 (funext fun a => Fin.ext ?_)
    match a with
    | ⟨0, _⟩ => show C.val / 1 = C.val; omega
    | ⟨1, _⟩ => rfl
  · rw [val_main_v94_apply, val_main_v93_apply, val_main_v92_apply, val_main_v91_apply]
    refine congrArg x5 (funext fun a => Fin.ext ?_)
    match a with
    | ⟨0, _⟩ => show C.val / 1 = C.val; omega
    | ⟨1, _⟩ => rfl
  · rw [val_main_v101_apply, val_main_v100_apply, val_main_v99_apply, val_main_v98_apply]
    refine congrArg x5 (funext fun a => Fin.ext ?_)
    match a with
    | ⟨0, _⟩ => show C.val / 1 = C.val; omega
    | ⟨1, _⟩ => rfl

theorem cvsum (cb w3 w2 w1 w0 l0 l1 l2 l3 : EReal) :
    cb + l3 * w0 + l2 * w1 + l1 * w2 + l0 * w3 = cb + w3 * l0 + w2 * l1 + w1 * l2 + w0 * l3 := by
  rw [mul_comm l3, mul_comm l2, mul_comm l1, mul_comm l0]
  abel

theorem cv_ref (b : Fin 4) (S : Fin 8192) (C : Fin 1536) (D : Fin 6680) (hD : D.val = 5128 + C.val) :
    val_main_v110 (F := Ideal) x0 x1 x2 x5 x6 (ix3 b S C) =
      cvS (x6 (ix1 C)) (x5 (ix2 C 3)) (x5 (ix2 C 2)) (x5 (ix2 C 1)) (x5 (ix2 C 0))
        (lagS x0 x1 x2 b S D 0) (lagS x0 x1 x2 b S D 1) (lagS x0 x1 x2 b S D 2) (lagS x0 x1 x2 b S D 3) := by
  obtain ⟨w0, w1, w2, w3⟩ := cw_ref x5 b S C
  have e : val_main_v103 (F := Ideal) x0 x1 x2 x5 x6 (ix3 b S C) =
      x6 (ix1 C) + lagS x0 x1 x2 b S D 3 * x5 (ix2 C 0) + lagS x0 x1 x2 b S D 2 * x5 (ix2 C 1) +
        lagS x0 x1 x2 b S D 1 * x5 (ix2 C 2) + lagS x0 x1 x2 b S D 0 * x5 (ix2 C 3) := by
    rw [val_main_v103_apply, val_main_v102_apply, val_main_v96_apply, val_main_v95_apply, val_main_v89_apply, val_main_v88_apply,
      val_main_v82_apply, val_main_v79_apply, w0, w1, w2, w3, val_main_v81_apply, val_main_v80_apply,
      val_main_v74_apply, val_main_v83_apply, val_main_v90_apply, val_main_v97_apply,
      pad_at x0 x1 x2 b S C D hD 3 (by omega) _ rfl rfl rfl,
      pad_at x0 x1 x2 b S C D hD 2 (by omega) _ rfl (Nat.add_comm _ _) rfl,
      pad_at x0 x1 x2 b S C D hD 1 (by omega) _ rfl (Nat.add_comm _ _) rfl,
      pad_at x0 x1 x2 b S C D hD 0 (by omega) _ rfl (Nat.add_comm _ _) rfl,
      show idx_main_v80 (idx_main_v81 (ix3 b S C)) = ix1 C by
        funext a; match a with | ⟨0, _⟩ => rfl]
    rfl
  rw [val_main_v110_apply, val_main_v109_apply, val_main_v107_apply, val_main_v105_apply, val_main_v104_apply, e, cvsum]
  rfl

theorem xs_ref (ch : Fin 256) (r : Fin 1024) (l : Fin 128) (b : Fin 4) (S : Fin 8192) (h : b.val * 8192 + S.val = 128 * ch.val + l.val)
    (C : Fin 1536) (hC : C.val = r.val) :
    val_main_v130 (F := Ideal) x0 x1 x2 x5 x6 (ix3 ch r l) = val_main_v110 (F := Ideal) x0 x1 x2 x5 x6 (ix3 b S C) := by
  rw [val_main_v130_apply, val_main_v129_apply, val_main_v128_apply, val_main_v111_apply]
  refine congrArg (val_main_v110 (F := Ideal) x0 x1 x2 x5 x6) (funext fun a => Fin.ext ?_)
  match a with
  | ⟨0, _⟩ => show ((ch.val * 128 + l.val) * 1024 + r.val) / 8388608 = b.val; omega
  | ⟨1, _⟩ => show ((ch.val * 128 + l.val) * 1024 + r.val) / 1024 % 8192 = S.val; omega
  | ⟨2, _⟩ => show ((ch.val * 128 + l.val) * 1024 + r.val) % 1024 = C.val; omega

theorem bm_ref (R : Fin 32768) (d : Fin 256) (b : Fin 4) (S : Fin 8192) (h : b.val * 8192 + S.val = R.val)
    (C : Fin 1536) (hC : C.val = 1024 + d.val) :
    val_main_v132 (F := Ideal) x0 x1 x2 x5 x6 (ix2 R d) = val_main_v110 (F := Ideal) x0 x1 x2 x5 x6 (ix3 b S C) := by
  rw [val_main_v132_apply, val_main_v131_apply, val_main_v112_apply]
  refine congrArg (val_main_v110 (F := Ideal) x0 x1 x2 x5 x6) (funext fun a => Fin.ext ?_)
  match a with
  | ⟨0, _⟩ => show (R.val * 256 + d.val) / 2097152 = b.val; omega
  | ⟨1, _⟩ => show (R.val * 256 + d.val) / 256 % 8192 = S.val; omega
  | ⟨2, _⟩ => show 1024 + (R.val * 256 + d.val) % 256 = C.val; omega

theorem cm_ref (R : Fin 32768) (d : Fin 256) (b : Fin 4) (S : Fin 8192) (h : b.val * 8192 + S.val = R.val)
    (C : Fin 1536) (hC : C.val = 1280 + d.val) :
    val_main_v134 (F := Ideal) x0 x1 x2 x5 x6 (ix2 R d) = val_main_v110 (F := Ideal) x0 x1 x2 x5 x6 (ix3 b S C) := by
  rw [val_main_v134_apply, val_main_v133_apply, val_main_v113_apply]
  refine congrArg (val_main_v110 (F := Ideal) x0 x1 x2 x5 x6) (funext fun a => Fin.ext ?_)
  match a with
  | ⟨0, _⟩ => show (R.val * 256 + d.val) / 2097152 = b.val; omega
  | ⟨1, _⟩ => show (R.val * 256 + d.val) / 256 % 8192 = S.val; omega
  | ⟨2, _⟩ => show 1280 + (R.val * 256 + d.val) % 256 = C.val; omega

/-- The reference's softplus: its comparison of a difference with itself never holds over the extended reals. -/
theorem sp_ref (u z : EReal) (hz : z = 0) :
    Scalar.select (FloatOps.cmpf (F := Ideal) (φ := .f32) .une (FloatOps.subf (F := Ideal) (φ := .f32) u z) (FloatOps.subf (F := Ideal) (φ := .f32) u z))
      (FloatOps.addf (F := Ideal) (φ := .f32) u z)
      (FloatOps.addf (F := Ideal) (φ := .f32) (FloatOps.maximumf (F := Ideal) (φ := .f32) u z)
        (FloatOps.hostUnary (F := Ideal) (φ := .f32) .log1p (FloatOps.hostUnary (F := Ideal) (φ := .f32) .exp
          (FloatOps.hostNegf (F := Ideal) (φ := .f32) (FloatOps.hostAbsf (F := Ideal) (φ := .f32) (FloatOps.subf (F := Ideal) (φ := .f32) u z)))))) = spS u := by
  subst hz
  have e : FloatOps.subf (F := Ideal) (φ := .f32) u (0 : EReal) = u := sub_zero u
  rw [e]
  have e2 : FloatOps.cmpf (F := Ideal) (φ := .f32) .une u u = 0#1 := by
    show BitVec.ofBool (decide (u ≠ u)) = 0#1
    simp
  rw [e2]
  rfl

/-- The gates side by side: which of the four arrays a row comes from. -/
theorem cat0 (b : Fin 4) (S : Fin 8192) (g : Fin 32) (h : g.val < 4) :
    val_main_v72 (F := Ideal) x0 x1 x2 x3 x4 x7 (ix3 b S g) = val_main_v57 (F := Ideal) x0 x1 x2 x3 (ix3 b S (⟨g.val, h⟩ : Fin 4)) := by
  refine (concatenate_apply_piece (t := S4x8192x32) 2 [⟨S4x8192x4, val_main_v57 (F := Ideal) x0 x1 x2 x3⟩, ⟨S4x8192x4, val_main_v66 (F := Ideal) x0 x1 x2 x4⟩,
      ⟨S4x8192x16, val_main_v70 (F := Ideal) x0 x1 x2 x7⟩, ⟨S4x8192x8, val_main_v71 (F := Ideal)⟩] _ (ix3 b S g)
      0 (show 0 < 4 by decide) S4x8192x4 (val_main_v57 (F := Ideal) x0 x1 x2 x3) rfl rfl 0 rfl (ix3 b S (⟨g.val, h⟩ : Fin 4)) (fun x hx => ?_) ?_)
  · match x with
    | ⟨0, _⟩ => rfl
    | ⟨1, _⟩ => rfl
    | ⟨2, _⟩ => exact absurd rfl hx
  · exact Nat.zero_add _

theorem cat1 (b : Fin 4) (S : Fin 8192) (g : Fin 32) (h : 4 ≤ g.val ∧ g.val < 8) :
    val_main_v72 (F := Ideal) x0 x1 x2 x3 x4 x7 (ix3 b S g) = val_main_v66 (F := Ideal) x0 x1 x2 x4 (ix3 b S (⟨g.val - 4, by omega⟩ : Fin 4)) := by
  refine (concatenate_apply_piece (t := S4x8192x32) 2 [⟨S4x8192x4, val_main_v57 (F := Ideal) x0 x1 x2 x3⟩, ⟨S4x8192x4, val_main_v66 (F := Ideal) x0 x1 x2 x4⟩,
      ⟨S4x8192x16, val_main_v70 (F := Ideal) x0 x1 x2 x7⟩, ⟨S4x8192x8, val_main_v71 (F := Ideal)⟩] _ (ix3 b S g)
      1 (show 1 < 4 by decide) S4x8192x4 (val_main_v66 (F := Ideal) x0 x1 x2 x4) rfl rfl 4 rfl (ix3 b S (⟨g.val - 4, by omega⟩ : Fin 4)) (fun x hx => ?_) ?_)
  · match x with
    | ⟨0, _⟩ => rfl
    | ⟨1, _⟩ => rfl
    | ⟨2, _⟩ => exact absurd rfl hx
  · show 4 + (g.val - 4) = g.val; omega

theorem cat2 (b : Fin 4) (S : Fin 8192) (g : Fin 32) (h : 8 ≤ g.val ∧ g.val < 24) :
    val_main_v72 (F := Ideal) x0 x1 x2 x3 x4 x7 (ix3 b S g) = val_main_v70 (F := Ideal) x0 x1 x2 x7 (ix3 b S (⟨g.val - 8, by omega⟩ : Fin 16)) := by
  refine (concatenate_apply_piece (t := S4x8192x32) 2 [⟨S4x8192x4, val_main_v57 (F := Ideal) x0 x1 x2 x3⟩, ⟨S4x8192x4, val_main_v66 (F := Ideal) x0 x1 x2 x4⟩,
      ⟨S4x8192x16, val_main_v70 (F := Ideal) x0 x1 x2 x7⟩, ⟨S4x8192x8, val_main_v71 (F := Ideal)⟩] _ (ix3 b S g)
      2 (show 2 < 4 by decide) S4x8192x16 (val_main_v70 (F := Ideal) x0 x1 x2 x7) rfl rfl 8 rfl (ix3 b S (⟨g.val - 8, by omega⟩ : Fin 16)) (fun x hx => ?_) ?_)
  · match x with
    | ⟨0, _⟩ => rfl
    | ⟨1, _⟩ => rfl
    | ⟨2, _⟩ => exact absurd rfl hx
  · show 8 + (g.val - 8) = g.val; omega

theorem cat3 (b : Fin 4) (S : Fin 8192) (g : Fin 32) (h : 24 ≤ g.val) :
    val_main_v72 (F := Ideal) x0 x1 x2 x3 x4 x7 (ix3 b S g) = val_main_v71 (F := Ideal) (ix3 b S (⟨g.val - 24, by omega⟩ : Fin 8)) := by
  refine (concatenate_apply_piece (t := S4x8192x32) 2 [⟨S4x8192x4, val_main_v57 (F := Ideal) x0 x1 x2 x3⟩, ⟨S4x8192x4, val_main_v66 (F := Ideal) x0 x1 x2 x4⟩,
      ⟨S4x8192x16, val_main_v70 (F := Ideal) x0 x1 x2 x7⟩, ⟨S4x8192x8, val_main_v71 (F := Ideal)⟩] _ (ix3 b S g)
      3 (show 3 < 4 by decide) S4x8192x8 (val_main_v71 (F := Ideal)) rfl rfl 24 rfl (ix3 b S (⟨g.val - 24, by omega⟩ : Fin 8)) (fun x hx => ?_) ?_)
  · match x with
    | ⟨0, _⟩ => rfl
    | ⟨1, _⟩ => rfl
    | ⟨2, _⟩ => exact absurd rfl hx
  · show 24 + (g.val - 24) = g.val; omega

theorem i_ref (b : Fin 4) (S : Fin 8192) (g : Fin 4) (C : Fin 6680) (hC : C.val = 2048 + g.val) :
    val_main_v57 (F := Ideal) x0 x1 x2 x3 (ix3 b S g) =
      capS (prjS (fun k => x0 (ix3 b S k)) (fun k => x1 (ix1 k)) (fun k => x2 (ix2 k C)) + x3 (ix1 g)) := by
  rw [val_main_v57_apply, val_main_v55_apply, val_main_v54_apply, val_main_v52_apply, val_main_v19_apply, val_main_v51_apply, val_main_v50_apply,
    show idx_main_v19 (ix3 b S g) = ix3 b S C by
      funext a; refine Fin.ext ?_
      match a with | ⟨0, _⟩ => rfl | ⟨1, _⟩ => rfl | ⟨2, _⟩ => exact hC.symm,
    show idx_main_v50 (idx_main_v51 (ix3 b S g)) = ix1 g by
      funext a; match a with | ⟨0, _⟩ => rfl,
    proj_at]
  rfl

theorem f_ref (b : Fin 4) (S : Fin 8192) (g : Fin 4) (C : Fin 6680) (hC : C.val = 2052 + g.val) :
    val_main_v66 (F := Ideal) x0 x1 x2 x4 (ix3 b S g) =
      -spS (-capS (prjS (fun k => x0 (ix3 b S k)) (fun k => x1 (ix1 k)) (fun k => x2 (ix2 k C)) + x4 (ix1 g))) := by
  have e : val_main_call0_v0 (F := Ideal) x0 x1 x2 x4 (ix3 b S g) =
      -capS (prjS (fun k => x0 (ix3 b S k)) (fun k => x1 (ix1 k)) (fun k => x2 (ix2 k C)) + x4 (ix1 g)) := by
    rw [val_main_call0_v0_apply, val_main_v65_apply, val_main_v63_apply, val_main_v62_apply, val_main_v60_apply, val_main_v20_apply,
      val_main_v59_apply, val_main_v58_apply,
      show idx_main_v20 (ix3 b S g) = ix3 b S C by
        funext a; refine Fin.ext ?_
        match a with | ⟨0, _⟩ => rfl | ⟨1, _⟩ => rfl | ⟨2, _⟩ => exact hC.symm,
      show idx_main_v58 (idx_main_v59 (ix3 b S g)) = ix1 g by
        funext a; match a with | ⟨0, _⟩ => rfl,
      proj_at]
    rfl
  rw [val_main_v66_apply, val_main_call0_v1_apply, val_main_call0_call0_v4_apply, val_main_call0_call0_v6_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v0_apply, val_main_call0_call0_v2_apply,
    val_main_call0_call0_v5_apply, val_main_call0_call0_cst_apply, e]
  exact congrArg (fun x : EReal => -x) (sp_ref _ _ zero_f32)

theorem d_ref (b : Fin 4) (S : Fin 8192) (g : Fin 16) (C : Fin 6680) (hC : C.val = 6664 + g.val) :
    val_main_v70 (F := Ideal) x0 x1 x2 x7 (ix3 b S g) =
      spS (prjS (fun k => x0 (ix3 b S k)) (fun k => x1 (ix1 k)) (fun k => x2 (ix2 k C)) + x7 (ix1 g)) := by
  have e : val_main_v69 (F := Ideal) x0 x1 x2 x7 (ix3 b S g) =
      prjS (fun k => x0 (ix3 b S k)) (fun k => x1 (ix1 k)) (fun k => x2 (ix2 k C)) + x7 (ix1 g) := by
    rw [val_main_v69_apply, val_main_v25_apply, val_main_v68_apply, val_main_v67_apply,
      show idx_main_v25 (ix3 b S g) = ix3 b S C by
        funext a; refine Fin.ext ?_
        match a with | ⟨0, _⟩ => rfl | ⟨1, _⟩ => rfl | ⟨2, _⟩ => exact hC.symm,
      show idx_main_v67 (idx_main_v68 (ix3 b S g)) = ix1 g by
        funext a; match a with | ⟨0, _⟩ => rfl,
      proj_at]
    rfl
  rw [val_main_v70_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply, val_main_call1_cst_apply, e]
  exact sp_ref _ _ zero_f32

/-- A gate of row `g`, from its projection and its bias. -/
theorem gt_ref (ch : Fin 256) (g : Fin 32) (l : Fin 128) (b : Fin 4) (S : Fin 8192) (h : b.val * 8192 + S.val = 128 * ch.val + l.val)
    (p : EReal) (hp : ∀ h : g.val < 24, ∀ C : Fin 6680, C.val = (if g.val < 8 then 2048 + g.val else 6656 + g.val) →
      p = prjS (fun k => x0 (ix3 b S k)) (fun k => x1 (ix1 k)) (fun k => x2 (ix2 k C)) +
        (if h4 : g.val < 4 then x3 (ix1 (⟨g.val, h4⟩ : Fin 4))
          else if h8 : g.val < 8 then x4 (ix1 (⟨g.val - 4, by omega⟩ : Fin 4)) else x7 (ix1 (⟨g.val - 8, by omega⟩ : Fin 16)))) :
    val_main_v136 (F := Ideal) x0 x1 x2 x3 x4 x7 (ix3 ch g l) = gateS g.val p := by
  rw [val_main_v136_apply, val_main_v135_apply, show idx_main_v135 (idx_main_v136 (ix3 ch g l)) = ix3 b S g by
    funext a; refine Fin.ext ?_
    match a with
    | ⟨0, _⟩ => show ((ch.val * 128 + l.val) * 32 + g.val) / 262144 = b.val; omega
    | ⟨1, _⟩ => show ((ch.val * 128 + l.val) * 32 + g.val) / 32 % 8192 = S.val; omega
    | ⟨2, _⟩ => show ((ch.val * 128 + l.val) * 32 + g.val) % 32 = g.val; omega]
  unfold gateS
  by_cases h4 : g.val < 4
  · rw [if_pos h4, cat0 x0 x1 x2 x3 x4 x7 b S g h4, i_ref x0 x1 x2 x3 b S _ (⟨2048 + g.val, by omega⟩ : Fin 6680) rfl,
      hp (by omega) (⟨2048 + g.val, by omega⟩ : Fin 6680) (if_pos (by omega)).symm, dif_pos h4]
  · rw [if_neg h4]
    by_cases h8 : g.val < 8
    · rw [if_pos h8, cat1 x0 x1 x2 x3 x4 x7 b S g ⟨by omega, h8⟩, f_ref x0 x1 x2 x4 b S _ (⟨2048 + g.val, by omega⟩ : Fin 6680) (by show 2048 + g.val = 2052 + (g.val - 4); omega),
        hp (by omega) (⟨2048 + g.val, by omega⟩ : Fin 6680) (if_pos h8).symm, dif_neg h4, dif_pos h8]
    · rw [if_neg h8]
      by_cases h24 : g.val < 24
      · rw [if_pos h24, cat2 x0 x1 x2 x3 x4 x7 b S g ⟨by omega, h24⟩, d_ref x0 x1 x2 x7 b S _ (⟨6656 + g.val, by omega⟩ : Fin 6680) (by show 6656 + g.val = 6664 + (g.val - 8); omega),
          hp h24 (⟨6656 + g.val, by omega⟩ : Fin 6680) (if_neg h8).symm, dif_neg h4, dif_neg h8]
      · rw [if_neg h24, cat3 x0 x1 x2 x3 x4 x7 b S g (by omega), val_main_v71_apply, val_main_cst_13_apply]
        exact zero_f32

end Cert.ProjectionsIdeal.Elem

end
-- ==== Proof.InConvFinal.lean ====
/- The convolution's and the small gates' arrays after the run are the reference's results. -/
module

public import proofs.«01_k».proof.Proof.InFinal
public import proofs.«01_k».proof.Proof.InConvOuts
public import proofs.«01_k».proof.Proof.InReadConv
public import proofs.«01_k».proof.Proof.InRefConv

@[expose] public section

set_option maxRecDepth 16384

noncomputable section

namespace Cert.InProjIdeal.Final

open Idealize.ShloMosaic Idealize.ShloMosaic.TcCoe Idealize.SL.Sem Cert.InProjIdeal Cert.InProjIdeal.Gen Cert.InProjIdeal.Step
open Cert.InProjIdeal.Elem Cert.InProjIdeal.Reads Cert.InProjIdeal.Outs Cert.InProjIdeal.ConvElem Cert.InProjIdeal.Conv

variable (m : (ℓ : Loc nD τ sig) → Buf (Elt Ideal) ℓ) (c : Dev nD)

theorem idx19 : ∀ t : Fin cfg0.N, win0_19.index t = ![t.val, 0, 0] := by decide +kernel
theorem idx20 : ∀ t : Fin cfg0.N, win0_20.index t = ![t.val, 0] := by decide +kernel
theorem idx21 : ∀ t : Fin cfg0.N, win0_21.index t = ![t.val, 0] := by decide +kernel
theorem idx22 : ∀ t : Fin cfg0.N, win0_22.index t = ![t.val, 0, 0] := by decide +kernel

/-- A channel's projection some rows before a row of the block, the rows carried into it among them, from the arguments. -/
theorem lag_eq (t : Fin cfg0.N) (R : Fin 1024) (b : Fin 4) (S : Fin 8192) (h : b.val * 8192 + S.val = 1024 * t.val + R.val)
    (C : Fin 1536) (D : Fin 6680) (hD : D.val = 5128 + C.val) (s : Nat) (hs : s < 4) :
    lagE (iblk m c 0 t) (iblk m c 1 t) (iblk m c 3 t) (XCt m c t) R C s hs =
      ProjectionsIdeal.Elem.lagS (m ((c : Thread nD τ).loc main_arg0)) (m ((c : Thread nD τ).loc main_arg1)) (m ((c : Thread nD τ).loc main_arg2)) b S D s := by
  unfold lagE ProjectionsIdeal.Elem.lagS
  by_cases hR : s ≤ R.val
  · rw [dif_pos hR, dif_pos (by omega : s ≤ S.val)]
    exact prj_eq m c t _ b (⟨S.val - s, by omega⟩ : Fin 8192) (by show b.val * 8192 + (S.val - s) = 1024 * t.val + (R.val - s); omega) _ _ fun k => xw_at m c t k C D hD
  · rw [dif_neg hR]
    by_cases ht : t.val % 8 = 0
    · rw [dif_neg (by omega : ¬ s ≤ S.val)]
      exact XCt_zero m c t ht _ C
    · rw [dif_pos (by omega : s ≤ S.val)]
      refine (XCt_at m c t ht ⟨t.val - 1, Nat.lt_of_le_of_lt (Nat.sub_le _ _) t.isLt⟩ rfl _ C (⟨1016 + (8 - s + R.val), by omega⟩ : Fin 1024) rfl).trans ?_
      exact prj_eq m c ⟨t.val - 1, Nat.lt_of_le_of_lt (Nat.sub_le _ _) t.isLt⟩ _ b (⟨S.val - s, by omega⟩ : Fin 8192)
        (by show b.val * 8192 + (S.val - s) = 1024 * (t.val - 1) + (1016 + (8 - s + R.val)); omega) _ _ fun k => xw_at m c _ k C D hD

theorem cv_eq (t : Fin cfg0.N) (R : Fin 1024) (b : Fin 4) (S : Fin 8192) (h : b.val * 8192 + S.val = 1024 * t.val + R.val) (C : Fin 1536) :
    cvE (iblk m c 0 t) (iblk m c 1 t) (iblk m c 3 t) (iblk m c 11 t) (iblk m c 12 t) (XCt m c t) R C =
      ProjectionsIdeal.Read.val_main_v110 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix3 b S C) := by
  rw [ProjectionsIdeal.Elem.cv_ref _ _ _ _ _ b S C (⟨5128 + C.val, by omega⟩ : Fin 6680) rfl]
  unfold cvE
  rw [lag_eq m c t R b S h C (⟨5128 + C.val, by omega⟩ : Fin 6680) rfl, lag_eq m c t R b S h C (⟨5128 + C.val, by omega⟩ : Fin 6680) rfl,
    lag_eq m c t R b S h C (⟨5128 + C.val, by omega⟩ : Fin 6680) rfl, lag_eq m c t R b S h C (⟨5128 + C.val, by omega⟩ : Fin 6680) rfl,
    cb_at, cw_at, cw_at, cw_at, cw_at]

theorem xs_val : (dats m 0 c).arrAt 19 cfg0.N = ProjectionsIdeal.Read.val_main_v130 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  refine (dats m 0 c).arrAt_eq_of_covers 19 _ (by decide +kernel) fun t hf y => ?_
  blk_simp
  rw [after0_19, outs19]
  have ht : t.val < 32 := lt_of_lt_of_eq t.isLt N_0
  obtain ⟨ch, r, l, rfl⟩ : ∃ (ch : Fin 8) (r : Fin 1024) (l : Fin 128), y = ix3 ch r l := ⟨y 0, y 1, y 2, eq_ix3 y⟩
  have e : ((cfg0.win 19).blk t).view.emb (ix3 ch r l) = ix3 (⟨8 * t.val + ch.val, by omega⟩ : Fin 256) r l := by
    blk_ext [idx19]
  obtain ⟨b, s, h⟩ : ∃ (b : Fin 4) (s : Fin 8192), b.val * 8192 + s.val = 1024 * t.val + (rowOf ch l).val :=
    ⟨⟨(1024 * t.val + (rowOf ch l).val) / 8192, by omega⟩, ⟨(1024 * t.val + (rowOf ch l).val) % 8192, by omega⟩,
      by show (1024 * t.val + (rowOf ch l).val) / 8192 * 8192 + (1024 * t.val + (rowOf ch l).val) % 8192 = _; omega⟩
  have h' : b.val * 8192 + s.val = 128 * (⟨8 * t.val + ch.val, by omega⟩ : Fin 256).val + l.val := by
    rw [h]; show 1024 * t.val + (128 * ch.val + l.val) = 128 * (8 * t.val + ch.val) + l.val; omega
  rw [xsB_at _ _ _ _ _ _ ch r l (⟨r.val, by omega⟩ : Fin 1536) rfl, cv_eq m c t (rowOf ch l) b s h]
  refine ((congrArg (ProjectionsIdeal.Read.val_main_v130 (F := Ideal) (m ((c : Thread nD τ).loc main_arg0)) (m ((c : Thread nD τ).loc main_arg1)) (m ((c : Thread nD τ).loc main_arg2)) (m ((c : Thread nD τ).loc main_arg5)) (m ((c : Thread nD τ).loc main_arg6))) e).trans ?_).symm
  exact ProjectionsIdeal.Elem.xs_ref _ _ _ _ _ _ r l b s h' _ rfl

theorem bm_val : (dats m 0 c).arrAt 20 cfg0.N = ProjectionsIdeal.Read.val_main_v132 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  refine (dats m 0 c).arrAt_eq_of_covers 20 _ (by decide +kernel) fun t hf y => ?_
  blk_simp
  rw [after0_20, outs20]
  have ht : t.val < 32 := lt_of_lt_of_eq t.isLt N_0
  obtain ⟨r, j, rfl⟩ : ∃ (r : Fin 1024) (j : Fin 256), y = ix2 r j := ⟨y 0, y 1, eq_ix2 y⟩
  have e : ((cfg0.win 20).blk t).view.emb (ix2 r j) = ix2 (⟨1024 * t.val + r.val, by omega⟩ : Fin 32768) j := by
    blk_ext [idx20]
  obtain ⟨b, s, h⟩ : ∃ (b : Fin 4) (s : Fin 8192), b.val * 8192 + s.val = 1024 * t.val + r.val :=
    ⟨⟨(1024 * t.val + r.val) / 8192, by omega⟩, ⟨(1024 * t.val + r.val) % 8192, by omega⟩, by show (1024 * t.val + r.val) / 8192 * 8192 + (1024 * t.val + r.val) % 8192 = _; omega⟩
  rw [bmB_at _ _ _ _ _ _ r j (⟨1024 + j.val, by omega⟩ : Fin 1536) rfl, cv_eq m c t r b s h]
  refine ((congrArg (ProjectionsIdeal.Read.val_main_v132 (F := Ideal) (m ((c : Thread nD τ).loc main_arg0)) (m ((c : Thread nD τ).loc main_arg1)) (m ((c : Thread nD τ).loc main_arg2)) (m ((c : Thread nD τ).loc main_arg5)) (m ((c : Thread nD τ).loc main_arg6))) e).trans ?_).symm
  exact ProjectionsIdeal.Elem.bm_ref _ _ _ _ _ _ j b s h _ rfl

theorem cm_val : (dats m 0 c).arrAt 21 cfg0.N = ProjectionsIdeal.Read.val_main_v134 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  refine (dats m 0 c).arrAt_eq_of_covers 21 _ (by decide +kernel) fun t hf y => ?_
  blk_simp
  rw [after0_21, outs21]
  have ht : t.val < 32 := lt_of_lt_of_eq t.isLt N_0
  obtain ⟨r, j, rfl⟩ : ∃ (r : Fin 1024) (j : Fin 256), y = ix2 r j := ⟨y 0, y 1, eq_ix2 y⟩
  have e : ((cfg0.win 21).blk t).view.emb (ix2 r j) = ix2 (⟨1024 * t.val + r.val, by omega⟩ : Fin 32768) j := by
    blk_ext [idx21]
  obtain ⟨b, s, h⟩ : ∃ (b : Fin 4) (s : Fin 8192), b.val * 8192 + s.val = 1024 * t.val + r.val :=
    ⟨⟨(1024 * t.val + r.val) / 8192, by omega⟩, ⟨(1024 * t.val + r.val) % 8192, by omega⟩, by show (1024 * t.val + r.val) / 8192 * 8192 + (1024 * t.val + r.val) % 8192 = _; omega⟩
  rw [cmB_at _ _ _ _ _ _ r j (⟨1280 + j.val, by omega⟩ : Fin 1536) rfl, cv_eq m c t r b s h]
  refine ((congrArg (ProjectionsIdeal.Read.val_main_v134 (F := Ideal) (m ((c : Thread nD τ).loc main_arg0)) (m ((c : Thread nD τ).loc main_arg1)) (m ((c : Thread nD τ).loc main_arg2)) (m ((c : Thread nD τ).loc main_arg5)) (m ((c : Thread nD τ).loc main_arg6))) e).trans ?_).symm
  exact ProjectionsIdeal.Elem.cm_ref _ _ _ _ _ _ j b s h _ rfl

theorem gt_val : (dats m 0 c).arrAt 22 cfg0.N = ProjectionsIdeal.Read.val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := by
  refine (dats m 0 c).arrAt_eq_of_covers 22 _ (by decide +kernel) fun t hf y => ?_
  blk_simp
  rw [after0_22, outs22]
  have ht : t.val < 32 := lt_of_lt_of_eq t.isLt N_0
  obtain ⟨ch, r, l, rfl⟩ : ∃ (ch : Fin 8) (r : Fin 32) (l : Fin 128), y = ix3 ch r l := ⟨y 0, y 1, y 2, eq_ix3 y⟩
  have e : ((cfg0.win 22).blk t).view.emb (ix3 ch r l) = ix3 (⟨8 * t.val + ch.val, by omega⟩ : Fin 256) r l := by
    blk_ext [idx22]
  obtain ⟨b, s, h⟩ : ∃ (b : Fin 4) (s : Fin 8192), b.val * 8192 + s.val = 1024 * t.val + (rowOf ch l).val :=
    ⟨⟨(1024 * t.val + (rowOf ch l).val) / 8192, by omega⟩, ⟨(1024 * t.val + (rowOf ch l).val) % 8192, by omega⟩,
      by show (1024 * t.val + (rowOf ch l).val) / 8192 * 8192 + (1024 * t.val + (rowOf ch l).val) % 8192 = _; omega⟩
  have h' : b.val * 8192 + s.val = 128 * (⟨8 * t.val + ch.val, by omega⟩ : Fin 256).val + l.val := by
    rw [h]; show 1024 * t.val + (128 * ch.val + l.val) = 128 * (8 * t.val + ch.val) + l.val; omega
  rw [gtB_at]
  refine ((congrArg (ProjectionsIdeal.Read.val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))) e).trans ?_).symm
  refine ProjectionsIdeal.Elem.gt_ref _ _ _ _ _ _ _ r l b s h' _ fun h24 C hC => ?_
  exact congrArg₂ (fun a b : EReal => a + b) (prj_eq m c t (rowOf ch l) b s h _ _ fun k => gw_at m c t r h24 k C hC) (gb_at m c t r h24)

end Cert.InProjIdeal.Final

end
-- ==== Proof.MixReadV.lean ====
/- The mixer's host-prepared operands, from the arguments. -/
module

public import proofs.«01_k».proof.Proof.Gen.KernelIdeal.Value
public import Idealize.ShloMosaic.Lib.StableHlo.RunRead

@[expose] public section

set_option maxRecDepth 16384

noncomputable section

namespace Cert.KernelIdeal.MixReads

open Idealize.ShloMosaic Idealize.ShloMosaic.TcCoe Idealize.SL.Sem Cert.KernelIdeal Cert.KernelIdeal.Gen

variable {F : FTy → Type} [FloatOps F] (m : (ℓ : Loc nD τ sig) → Buf (Elt F) ℓ) (c : Dev nD)

theorem V_v6 : V m c main_v6 = transpose S256x512x128 [0, 2, 1] (shapeCast S256x128x512 (truncf .bf16 (mulf (m ((c : Thread nD τ).loc main_arg0)) (broadcastInDim S4x8192x512 ![] bcast_S_S4x8192x512 (constant S_ .f32 0x3DB504F3#32))) bitsLt_bf16_f32 : FVec F S4x8192x512 .bf16) shapeCasts_S4x8192x512_S256x128x512) transposes_S256x128x512_S256x512x128_0_2_1 := by
  show StableHlo.after [hostOps0, hostOps0_1, hostOps0_2].flatten (fun b => m (c, b)) (Proc.tc.devRef main_v6) = _
  simp only [hostOps0, hostOps0_1, hostOps0_2, List.flatten_cons, List.flatten_nil, List.append_nil, List.cons_append, List.nil_append]
  after_reads_simp
  try rfl

theorem V_v8 : V m c main_v8 = shapeCast S32768x512 (truncf .bf16 (m ((c : Thread nD τ).loc main_arg1)) bitsLt_bf16_f32 : FVec F S4x8192x512 .bf16) shapeCasts_S4x8192x512_S32768x512 := by
  show StableHlo.after [hostOps0, hostOps0_1, hostOps0_2].flatten (fun b => m (c, b)) (Proc.tc.devRef main_v8) = _
  simp only [hostOps0, hostOps0_1, hostOps0_2, List.flatten_cons, List.flatten_nil, List.append_nil, List.cons_append, List.nil_append]
  after_reads_simp
  try rfl

theorem V_v11 : V m c main_v11 = transpose S256x1024x128 [0, 2, 1] (shapeCast S256x128x1024 (truncf .bf16 (m ((c : Thread nD τ).loc main_arg2)) bitsLt_bf16_f32 : FVec F S4x8192x1024 .bf16) shapeCasts_S4x8192x1024_S256x128x1024) transposes_S256x128x1024_S256x1024x128_0_2_1 := by
  show StableHlo.after [hostOps0, hostOps0_1, hostOps0_2].flatten (fun b => m (c, b)) (Proc.tc.devRef main_v11) = _
  simp only [hostOps0, hostOps0_1, hostOps0_2, List.flatten_cons, List.flatten_nil, List.append_nil, List.cons_append, List.nil_append]
  after_reads_simp
  try rfl

theorem V_v14 : V m c main_v14 = transpose S256x1024x128 [0, 2, 1] (shapeCast S256x128x1024 (truncf .bf16 (m ((c : Thread nD τ).loc main_arg3)) bitsLt_bf16_f32 : FVec F S4x8192x1024 .bf16) shapeCasts_S4x8192x1024_S256x128x1024) transposes_S256x128x1024_S256x1024x128_0_2_1 := by
  show StableHlo.after [hostOps0, hostOps0_1, hostOps0_2].flatten (fun b => m (c, b)) (Proc.tc.devRef main_v14) = _
  simp only [hostOps0, hostOps0_1, hostOps0_2, List.flatten_cons, List.flatten_nil, List.append_nil, List.cons_append, List.nil_append]
  after_reads_simp
  try rfl

theorem V_v17 : V m c main_v17 = transpose S256x1024x128 [0, 2, 1] (shapeCast S256x128x1024 (truncf .bf16 (m ((c : Thread nD τ).loc main_arg4)) bitsLt_bf16_f32 : FVec F S4x8192x1024 .bf16) shapeCasts_S4x8192x1024_S256x128x1024) transposes_S256x128x1024_S256x1024x128_0_2_1 := by
  show StableHlo.after [hostOps0, hostOps0_1, hostOps0_2].flatten (fun b => m (c, b)) (Proc.tc.devRef main_v17) = _
  simp only [hostOps0, hostOps0_1, hostOps0_2, List.flatten_cons, List.flatten_nil, List.append_nil, List.cons_append, List.nil_append]
  after_reads_simp
  try rfl

theorem V_v20 : V m c main_v20 = transpose S256x1024x128 [0, 2, 1] (shapeCast S256x128x1024 (truncf .bf16 (m ((c : Thread nD τ).loc main_arg5)) bitsLt_bf16_f32 : FVec F S4x8192x1024 .bf16) shapeCasts_S4x8192x1024_S256x128x1024) transposes_S256x128x1024_S256x1024x128_0_2_1 := by
  show StableHlo.after [hostOps0, hostOps0_1, hostOps0_2].flatten (fun b => m (c, b)) (Proc.tc.devRef main_v20) = _
  simp only [hostOps0, hostOps0_1, hostOps0_2, List.flatten_cons, List.flatten_nil, List.append_nil, List.cons_append, List.nil_append]
  after_reads_simp
  try rfl

theorem V_v22 : V m c main_v22 = shapeCast S32768x256 (truncf .bf16 (m ((c : Thread nD τ).loc main_arg6)) bitsLt_bf16_f32 : FVec F S4x8192x256 .bf16) shapeCasts_S4x8192x256_S32768x256 := by
  show StableHlo.after [hostOps0, hostOps0_1, hostOps0_2].flatten (fun b => m (c, b)) (Proc.tc.devRef main_v22) = _
  simp only [hostOps0, hostOps0_1, hostOps0_2, List.flatten_cons, List.flatten_nil, List.append_nil, List.cons_append, List.nil_append]
  after_reads_simp
  try rfl

theorem V_v24 : V m c main_v24 = shapeCast S32768x256 (truncf .bf16 (m ((c : Thread nD τ).loc main_arg7)) bitsLt_bf16_f32 : FVec F S4x8192x256 .bf16) shapeCasts_S4x8192x256_S32768x256 := by
  show StableHlo.after [hostOps0, hostOps0_1, hostOps0_2].flatten (fun b => m (c, b)) (Proc.tc.devRef main_v24) = _
  simp only [hostOps0, hostOps0_1, hostOps0_2, List.flatten_cons, List.flatten_nil, List.append_nil, List.cons_append, List.nil_append]
  after_reads_simp
  try rfl

theorem V_v26 : V m c main_v26 = transpose S256x32x128 [0, 2, 1] (shapeCast S256x128x32 (pad S4x8192x32 ![0, 0, 0] ![0, 0, 8] ![0, 0, 0] (concatenate S4x8192x24 2 [⟨S4x8192x4, (m ((c : Thread nD τ).loc main_arg8))⟩, ⟨S4x8192x4, (m ((c : Thread nD τ).loc main_arg9))⟩, ⟨S4x8192x16, (m ((c : Thread nD τ).loc main_arg10))⟩] concatenates_S4x8192x4_S4x8192x4_S4x8192x16_S4x8192x24_d2) (sitofp .f32 (constantI S_ 32 0#32) : FVec F S_ .f32) pads_S4x8192x24_S4x8192x32_000_000_080 h_S_) shapeCasts_S4x8192x32_S256x128x32) transposes_S256x128x32_S256x32x128_0_2_1 := by
  show StableHlo.after [hostOps0, hostOps0_1, hostOps0_2].flatten (fun b => m (c, b)) (Proc.tc.devRef main_v26) = _
  simp only [hostOps0, hostOps0_1, hostOps0_2, List.flatten_cons, List.flatten_nil, List.append_nil, List.cons_append, List.nil_append]
  after_reads_simp
  try rfl

theorem V_v28 : V m c main_v28 = broadcastInDim S1024x128 ![0, 1] bcast_S1024x1_S1024x128_0_1 (shapeCast S1024x1 (m ((c : Thread nD τ).loc main_arg11)) shapeCasts_S1024_S1024x1) := by
  show StableHlo.after [hostOps0, hostOps0_1, hostOps0_2].flatten (fun b => m (c, b)) (Proc.tc.devRef main_v28) = _
  simp only [hostOps0, hostOps0_1, hostOps0_2, List.flatten_cons, List.flatten_nil, List.append_nil, List.cons_append, List.nil_append]
  after_reads_simp
  try rfl

theorem V_v32 : V m c main_v32 = broadcastInDim S1024x128 ![0, 1] bcast_S1024x1_S1024x128_0_1 (shapeCast S1024x1 (shapeCast S1024 (broadcastInDim S16x64 ![0] bcast_S16_S16x64_0 (m ((c : Thread nD τ).loc main_arg12))) shapeCasts_S16x64_S1024) shapeCasts_S1024_S1024x1) := by
  show StableHlo.after [hostOps0, hostOps0_1, hostOps0_2].flatten (fun b => m (c, b)) (Proc.tc.devRef main_v32) = _
  simp only [hostOps0, hostOps0_1, hostOps0_2, List.flatten_cons, List.flatten_nil, List.append_nil, List.cons_append, List.nil_append]
  after_reads_simp
  try rfl

theorem V_v34 : V m c main_v34 = broadcastInDim S16x128 ![0, 1] bcast_S16x1_S16x128_0_1 (shapeCast S16x1 (m ((c : Thread nD τ).loc main_arg13)) shapeCasts_S16_S16x1) := by
  show StableHlo.after [hostOps0, hostOps0_1, hostOps0_2].flatten (fun b => m (c, b)) (Proc.tc.devRef main_v34) = _
  simp only [hostOps0, hostOps0_1, hostOps0_2, List.flatten_cons, List.flatten_nil, List.append_nil, List.cons_append, List.nil_append]
  after_reads_simp
  try rfl

theorem V_v35 : V m c main_v35 = shapeCast S32768x1024 (m ((c : Thread nD τ).loc main_arg14)) shapeCasts_S4x8192x1024_S32768x1024 := by
  show StableHlo.after [hostOps0, hostOps0_1, hostOps0_2].flatten (fun b => m (c, b)) (Proc.tc.devRef main_v35) = _
  simp only [hostOps0, hostOps0_1, hostOps0_2, List.flatten_cons, List.flatten_nil, List.append_nil, List.cons_append, List.nil_append]
  after_reads_simp
  try rfl

theorem V_v36 : V m c main_v36 = (truncf .bf16 (m ((c : Thread nD τ).loc main_arg15)) bitsLt_bf16_f32 : FVec F S2048x1024 .bf16) := by
  show StableHlo.after [hostOps0, hostOps0_1, hostOps0_2].flatten (fun b => m (c, b)) (Proc.tc.devRef main_v36) = _
  simp only [hostOps0, hostOps0_1, hostOps0_2, List.flatten_cons, List.flatten_nil, List.append_nil, List.cons_append, List.nil_append]
  after_reads_simp
  try rfl

theorem V_v37 : V m c main_v37 = shapeCast S1x1024 (m ((c : Thread nD τ).loc main_arg16)) shapeCasts_S1024_S1x1024 := by
  show StableHlo.after [hostOps0, hostOps0_1, hostOps0_2].flatten (fun b => m (c, b)) (Proc.tc.devRef main_v37) = _
  simp only [hostOps0, hostOps0_1, hostOps0_2, List.flatten_cons, List.flatten_nil, List.append_nil, List.cons_append, List.nil_append]
  after_reads_simp
  try rfl

end Cert.KernelIdeal.MixReads

end
-- ==== Proof.Step.lean ====
/- What one call of the kernel's body computes, as functions of the blocks it loads: the gates' running sums of a
   chunk, one chunk of one head of the two recurrences, and the projection of the tile before. Each follows the
   body's operations in order; nothing is proved about their values here. -/
module

public import proofs.«01_k».proof.Proof.Gen.KernelIdeal.Skeleton

@[expose] public section

set_option maxRecDepth 16384

noncomputable section

namespace Cert.KernelIdeal.Step

open Idealize.ShloMosaic Cert.KernelIdeal Cert.KernelIdeal.Gen

variable {F : FTy → Type} [FloatOps F] [Named F]

/-- A block of a matrix at any offsets within it. -/
theorem slices2 {m n p q a b : Nat} (h0 : a + p ≤ m) (h1 : b + q ≤ n) :
    (⟨2, ![m, n]⟩ : Shape).Slices ![a, b] ⟨2, ![p, q]⟩ := by
  refine ⟨rfl, ?_⟩
  intro x
  match x with
  | ⟨0, _⟩ => exact h0
  | ⟨1, _⟩ => exact h1

/-! ### The gates of a chunk -/

/-- The running sums of the four chunks' gates, scaled, a chunk's 32 rows after the other's. -/
def cum (al : FVec F S16x128 .f32) (g : Fin 4 → FVec F S1x32x128 .f32) : FVec F S128x128 .f32 :=
  matmul dot_S128x128_S128x128_S128x128_1_0_0_1_n_n (some .fp32)
    (concatenate S128x128 0 [⟨S32x128, k0_pay9 al (g 0)⟩, ⟨S32x128, k0_pay10 al (g 1)⟩, ⟨S32x128, k0_pay11 al (g 2)⟩,
      ⟨S32x128, mulf (shapeCast S32x128 (g 3) shapeCasts_S1x32x128_S32x128) (k0_pay8 al)⟩]
      concatenates_S32x128_S32x128_S32x128_S32x128_S128x128_d0) k0_pay7 (constant S128x128 .f32 0x00000000#32)

/-- The running sums of chunk `c`. -/
def cumC (cu : FVec F S128x128 .f32) (c : Fin 4) : FVec F S32x128 .f32 :=
  extractStridedSlice S32x128 ![32 * c.val, 0] cu (slices2 (by omega) (by omega))

def bAll (cu : FVec F S128x128 .f32) (c : Fin 4) : FVec F S4x128 .f32 :=
  extractStridedSlice S4x128 ![4, 0] (cumC cu c) slices_S32x128_o4_0_S4x128

def uAll (cu : FVec F S128x128 .f32) (c : Fin 4) (gc : FVec F S1x32x128 .f32) : FVec F S4x128 .f32 :=
  subf (mulf (extractStridedSlice S4x128 ![0, 0] (shapeCast S32x128 gc shapeCasts_S1x32x128_S32x128) slices_S32x128_o0_0_S4x128)
    (broadcast S4x128 (Named.named κ "log2_e" 0x3FB8AA3B#32))) (bAll cu c)

def dtA (gc : FVec F S1x32x128 .f32) : FVec F S16x128 .f32 :=
  extractStridedSlice S16x128 ![8, 0] (shapeCast S32x128 gc shapeCasts_S1x32x128_S32x128) slices_S32x128_o8_0_S16x128

def aCum (cu : FVec F S128x128 .f32) (c : Fin 4) : FVec F S16x128 .f32 :=
  extractStridedSlice S16x128 ![8, 0] (cumC cu c) slices_S32x128_o8_0_S16x128

def aLast (cu : FVec F S128x128 .f32) (c : Fin 4) : FVec F S16x1 .f32 :=
  extractStridedSlice S16x1 ![0, 127] (aCum cu c) slices_S16x128_o0_127_S16x1

def eaA (cu : FVec F S128x128 .f32) (c : Fin 4) : FVec F S16x128 .f32 := exp2 (aCum cu c)

def dEnd (cu : FVec F S128x128 .f32) (c : Fin 4) : FVec F S16x128 .f32 :=
  exp2 (subf (broadcastTo S16x128 (aLast cu c) broadcasts_S16x1_S16x128) (aCum cu c))

def cDec (cu : FVec F S128x128 .f32) (c : Fin 4) : FVec F S16x1 .f32 := exp2 (aLast cu c)

def row4 (a : FVec F S4x128 .f32) (h : Fin 4) : FVec F S1x128 .f32 :=
  extractStridedSlice S1x128 ![h.val, 0] a (slices2 (by omega) (by omega))

def row16 (a : FVec F S16x128 .f32) (i : Fin 16) : FVec F S1x128 .f32 :=
  extractStridedSlice S1x128 ![i.val, 0] a (slices2 (by omega) (by omega))

def row16s (a : FVec F S16x1 .f32) (i : Fin 16) : FVec F S1x1 .f32 :=
  extractStridedSlice S1x1 ![i.val, 0] a (slices2 (by omega) (by omega))

/-! ### One chunk of one head of the matrix memory -/

/-- A row as the column of a square. -/
def colOf (u : FVec F S1x128 .f32) : FVec F S128x128 .f32 :=
  transpose S128x128 [1, 0] (broadcastTo S128x128 (shapeCast S1x128 u shapeCasts_S1x128_S1x128) broadcasts_S1x128_S128x128)
    transposes_S128x128_p1_0_S128x128

def negInf : FVec F S128x128 .f32 := broadcast S128x128 (FloatOps.ofBits .f32 0xFF800000#32)

def uMsk (u : FVec F S1x128 .f32) : FVec F S128x128 .f32 := select k0_pay6 (colOf u) negInf

def mPrev (mp : FVec F S1x1x128 .f32) : FVec F S1x1 .f32 :=
  extractStridedSlice S1x1 ![0, 0] (shapeCast S1x128 mp shapeCasts_S1x1x128_S1x128) slices_S1x128_o0_0_S1x1

def mm (u : FVec F S1x128 .f32) (mp : FVec F S1x1x128 .f32) : FVec F S1x128 .f32 :=
  maximumf (broadcastTo S1x128 (mPrev mp) broadcasts_S1x1_S1x128)
    (shapeCast S1x128 (multiReduction .maximumf [0] S128 (uMsk u) 0xFF800000#32 reduces_S128x128_S128 (.inl rfl) rfl) shapeCasts_S128_S1x128)

def isc (u : FVec F S1x128 .f32) (mp : FVec F S1x1x128 .f32) : FVec F S1x128 .f32 :=
  exp2 (subf (broadcastTo S1x128 (mPrev mp) broadcasts_S1x1_S1x128) (mm u mp))

def mmLast (u : FVec F S1x128 .f32) (mp : FVec F S1x1x128 .f32) : FVec F S1x1 .f32 :=
  extractStridedSlice S1x1 ![0, 127] (mm u mp) slices_S1x128_o0_127_S1x1

def kMat (kL : FVec F S128x128 .bf16) : FVec F S128x128 .bf16 := shapeCast S128x128 kL shapeCasts_S128x128_S128x128

def qMat (qL : FVec F S1x128x128 .bf16) : FVec F S128x128 .bf16 := shapeCast S128x128 qL shapeCasts_S1x128x128_S128x128

def vAug (vL : FVec F S1x256x128 .bf16) : FVec F S272x128 .bf16 :=
  concatenate S272x128 0 [⟨S256x128, shapeCast S256x128 vL shapeCasts_S1x256x128_S256x128⟩,
    ⟨S16x128, broadcast S16x128 (FloatOps.ofBits .bf16 0x3F80#16)⟩] concatenates_S256x128_S16x128_S272x128_d0

def ctM (cp : FVec F S1x272x128 .f32) : FVec F S272x128 .f32 := shapeCast S272x128 cp shapeCasts_S1x272x128_S272x128

def stM (qL : FVec F S1x128x128 .bf16) (kL : FVec F S128x128 .bf16) (u : FVec F S1x128 .f32) (mp : FVec F S1x1x128 .f32) :
    FVec F S128x128 .f32 :=
  mulf (matmul dot_S128x128_S128x128_S128x128_1_0_0_1_n_n none (kMat kL) (qMat qL) (constant S128x128 .f32 0x00000000#32))
    (exp2 (subf (uMsk u) (broadcastTo S128x128 (mm u mp) broadcasts_S1x128_S128x128)))

/-- The numerators' rows and, below them, the denominators'. -/
def numAug (qL : FVec F S1x128x128 .bf16) (kL : FVec F S128x128 .bf16) (vL : FVec F S1x256x128 .bf16) (u : FVec F S1x128 .f32)
    (mp : FVec F S1x1x128 .f32) (cp : FVec F S1x272x128 .f32) : FVec F S272x128 .f32 :=
  matmul dot_S272x256_S256x128_S272x128_1_0_0_1_n_n none
    (concatenate S272x256 1 [⟨S272x128, vAug vL⟩, ⟨S272x128, truncf .bf16 (ctM cp) bitsLt_bf16_f32⟩] concatenates_S272x128_S272x128_S272x256_d1)
    (concatenate S256x128 0 [⟨S128x128, truncf .bf16 (stM qL kL u mp) bitsLt_bf16_f32⟩,
      ⟨S128x128, truncf .bf16 (mulf (extf .f32 (qMat qL) bitsLt_bf16_f32) (broadcastTo S128x128 (isc u mp) broadcasts_S1x128_S128x128)) bitsLt_bf16_f32⟩]
      concatenates_S128x128_S128x128_S256x128_d0)
    (constant S272x128 .f32 0x00000000#32)

/-- The memory after the chunk. -/
def ctNew (kL : FVec F S128x128 .bf16) (vL : FVec F S1x256x128 .bf16) (u : FVec F S1x128 .f32) (mp : FVec F S1x1x128 .f32)
    (cp : FVec F S1x272x128 .f32) : FVec F S1x272x128 .f32 :=
  shapeCast S1x272x128
    (addf (mulf (broadcastTo S272x128 (extractStridedSlice S1x1 ![0, 127] (isc u mp) slices_S1x128_o0_127_S1x1) broadcasts_S1x1_S272x128) (ctM cp))
      (matmul dot_S272x128_S128x128_S272x128_1_0_0_1_n_n none (vAug vL)
        (truncf .bf16 (mulf (extf .f32 (kMat kL) bitsLt_bf16_f32)
          (exp2 (subf (colOf u) (broadcastTo S128x128 (mmLast u mp) broadcasts_S1x1_S128x128)))) bitsLt_bf16_f32)
        (constant S272x128 .f32 0x00000000#32)))
    shapeCasts_S272x128_S1x272x128

/-- The memory's stabiliser after the chunk. -/
def mNew (b : FVec F S1x128 .f32) (u : FVec F S1x128 .f32) (mp : FVec F S1x1x128 .f32) : FVec F S1x1x128 .f32 :=
  shapeCast S1x1x128
    (broadcastTo S1x128 (shapeCast S1x1 (addf (extractStridedSlice S1x1 ![0, 127] b slices_S1x128_o0_127_S1x1) (mmLast u mp))
      shapeCasts_S1x1_S1x1) broadcasts_S1x1_S1x128)
    shapeCasts_S1x128_S1x1x128

def rden (na : FVec F S272x128 .f32) (b : FVec F S1x128 .f32) (u : FVec F S1x128 .f32) (mp : FVec F S1x1x128 .f32) : FVec F S1x128 .f32 :=
  divf (broadcast S1x128 (FloatOps.ofBits .f32 0x3F800000#32))
    (maximumf (absf (extractStridedSlice S1x128 ![256, 0] na slices_S272x128_o256_0_S1x128))
      (exp2 (subf (broadcast S1x128 (FloatOps.ofBits .f32 0x00000000#32)) (addf b (mm u mp)))))

def numM (na : FVec F S272x128 .f32) : FVec F S256x128 .f32 := extractStridedSlice S256x128 ![0, 0] na slices_S272x128_o0_0_S256x128

def msqM (na : FVec F S272x128 .f32) : FVec F S1x128 .f32 :=
  divf (shapeCast S1x128 (multiReduction .add [0] S128 (mulf (numM na) (numM na)) 0x00000000#32 reduces_S256x128_S128 (.inl rfl) rfl) shapeCasts_S128_S1x128)
    (broadcast S1x128 (FloatOps.ofBits .f32 0x43800000#32))

/-- The head's normalised and gated output over the chunk. -/
def outM (na : FVec F S272x128 .f32) (b : FVec F S1x128 .f32) (u : FVec F S1x128 .f32) (mp : FVec F S1x1x128 .f32)
    (oL : FVec F S1x256x128 .bf16) : FVec F S1x1x256x128 .bf16 :=
  shapeCast S1x1x256x128 (shapeCast S1x256x128
    (mulf (truncf .bf16 (mulf (numM na) (broadcastTo S256x128
        (mulf (rden na b u mp) (rsqrt (addf (mulf (mulf (rden na b u mp) (rden na b u mp)) (msqM na))
          (broadcast S1x128 (FloatOps.ofBits .f32 0x358637BD#32))))) broadcasts_S1x128_S256x128)) bitsLt_bf16_f32)
      (shapeCast S256x128 oL shapeCasts_S1x256x128_S256x128)) shapeCasts_S256x128_S1x256x128) shapeCasts_S1x256x128_S1x1x256x128

/-! ### One chunk of one head of the state space -/

def xM (xL : FVec F S1x64x128 .bf16) : FVec F S64x128 .f32 :=
  extf .f32 (shapeCast S64x128 xL shapeCasts_S1x64x128_S64x128) bitsLt_bf16_f32

def xdt (xL : FVec F S1x64x128 .bf16) (dr : FVec F S1x128 .f32) : FVec F S64x128 .f32 :=
  mulf (xM xL) (broadcastTo S64x128 dr broadcasts_S1x128_S64x128)

def cbt (bL cL : FVec F S128x128 .bf16) : FVec F S128x128 .f32 :=
  matmul dot_S128x128_S128x128_S128x128_1_1_0_0_n_n none (kMat bL) (kMat cL) (constant S128x128 .f32 0x00000000#32)

def decay (ar : FVec F S1x128 .f32) : FVec F S128x128 .f32 :=
  exp2 (select k0_pay6 (subf (broadcastTo S128x128 ar broadcasts_S1x128_S128x128) (colOf ar)) negInf)

def yd (bL cL : FVec F S128x128 .bf16) (xL : FVec F S1x64x128 .bf16) (ar dr : FVec F S1x128 .f32) : FVec F S64x128 .f32 :=
  matmul dot_S64x128_S128x128_S64x128_1_0_0_1_n_n none (truncf .bf16 (xdt xL dr) bitsLt_bf16_f32)
    (truncf .bf16 (mulf (cbt bL cL) (decay ar)) bitsLt_bf16_f32) (constant S64x128 .f32 0x00000000#32)

def hM (hg : FVec F S1x512x128 .f32) : FVec F S512x128 .f32 := shapeCast S512x128 hg shapeCasts_S1x512x128_S512x128

def yOff (cL : FVec F S128x128 .bf16) (hg : FVec F S1x512x128 .f32) : FVec F S512x128 .f32 :=
  matmul dot_S512x128_S128x128_S512x128_1_1_0_0_n_n none (truncf .bf16 (hM hg) bitsLt_bf16_f32) (kMat cL)
    (constant S512x128 .f32 0x00000000#32)

/-- Eight heads' rows, one head's after the other's. -/
def cat8 {φ : FTy} (f : Fin 8 → FVec F S64x128 φ) : FVec F S512x128 φ :=
  concatenate S512x128 0 [⟨S64x128, f 0⟩, ⟨S64x128, f 1⟩, ⟨S64x128, f 2⟩, ⟨S64x128, f 3⟩, ⟨S64x128, f 4⟩, ⟨S64x128, f 5⟩,
    ⟨S64x128, f 6⟩, ⟨S64x128, f 7⟩] concatenates_S64x128_S64x128_S64x128_S64x128_S64x128_S64x128_S64x128_S64x128_S512x128_d0

def rows64 (a : FVec F S512x128 .f32) (r : Fin 8) : FVec F S64x128 .f32 :=
  extractStridedSlice S64x128 ![64 * r.val, 0] a (slices2 (by omega) (by omega))

def xd (xL : FVec F S1x64x128 .bf16) (dr er : FVec F S1x128 .f32) : FVec F S64x128 .bf16 :=
  truncf .bf16 (mulf (xdt xL dr) (broadcastTo S64x128 er broadcasts_S1x128_S64x128)) bitsLt_bf16_f32

def upd (bL : FVec F S128x128 .bf16) (xL : Fin 8 → FVec F S1x64x128 .bf16) (dr er : Fin 8 → FVec F S1x128 .f32) : FVec F S512x128 .f32 :=
  matmul dot_S512x128_S128x128_S512x128_1_0_0_1_n_n none (cat8 fun r => xd (xL r) (dr r) (er r)) (kMat bL)
    (constant S512x128 .f32 0x00000000#32)

/-- The rows of head `r` of the state after the chunk. -/
def hNew (bL : FVec F S128x128 .bf16) (xL : Fin 8 → FVec F S1x64x128 .bf16) (dr er : Fin 8 → FVec F S1x128 .f32)
    (cd : FVec F S1x1 .f32) (hg : FVec F S1x512x128 .f32) (r : Fin 8) : FVec F S1x64x128 .f32 :=
  shapeCast S1x64x128
    (addf (mulf (broadcastTo S64x128 cd broadcasts_S1x1_S64x128) (rows64 (hM hg) r)) (rows64 (upd bL xL dr er) r))
    shapeCasts_S64x128_S1x64x128

def yM (bL cL : FVec F S128x128 .bf16) (xL zL : FVec F S1x64x128 .bf16) (ar dr ear : FVec F S1x128 .f32) (dsk : FVec F S64x128 .f32)
    (hg : FVec F S1x512x128 .f32) (r : Fin 8) : FVec F S64x128 .f32 :=
  mulf (addf (addf (yd bL cL xL ar dr) (mulf (rows64 (yOff cL hg) r) (broadcastTo S64x128 ear broadcasts_S1x128_S64x128)))
      (mulf (shapeCast S64x128 dsk shapeCasts_S64x128_S64x128) (xM xL))) (xM zL)

/-- A group's eight heads, normalised together and weighted. -/
def outS (y : FVec F S512x128 .f32) (nw : FVec F S512x128 .f32) : FVec F S1x1x512x128 .bf16 :=
  shapeCast S1x1x512x128 (shapeCast S1x512x128
    (truncf .bf16 (mulf (mulf y (broadcastTo S512x128 (rsqrt (addf
        (divf (shapeCast S1x128 (multiReduction .add [0] S128 (mulf y y) 0x00000000#32 reduces_S512x128_S128 (.inl rfl) rfl) shapeCasts_S128_S1x128)
          (broadcast S1x128 (FloatOps.ofBits .f32 0x44000000#32)))
        (broadcast S1x128 (FloatOps.ofBits .f32 0x358637BD#32)))) broadcasts_S1x128_S512x128))
      (shapeCast S512x128 nw shapeCasts_S512x128_S512x128)) bitsLt_bf16_f32) shapeCasts_S512x128_S1x512x128)
    shapeCasts_S1x512x128_S1x1x512x128

/-! ### The projection of the tile before -/

/-- The projected tile, normalised and weighted. -/
def outT (acc : FVec F S512x1024 .f32) (w : FVec F S1x1024 .f32) : FVec F S512x1024 .f32 :=
  mulf (mulf acc (broadcastTo S512x1024 (rsqrt (addf
      (divf (shapeCast S512x1 (multiReduction .add [1] S512 (mulf acc acc) 0x00000000#32 reduces_S512x1024_S512 (.inl rfl) rfl) shapeCasts_S512_S512x1)
        (broadcast S512x1 (FloatOps.ofBits .f32 0x44800000#32)))
      (broadcast S512x1 (FloatOps.ofBits .f32 0x358637BD#32)))) broadcasts_S512x1_S512x1024))
    (broadcastTo S512x1024 (shapeCast S1x1024 w shapeCasts_S1x1024_S1x1024) broadcasts_S1x1024_S512x1024)

end Cert.KernelIdeal.Step

end
-- ==== Proof.Pieces.lean ====
/- What one call of the body stores, in the order it stores it: the pieces of the stabilisers `mL` and the memories
   `ctL`, by (chunk, head); of the states `hL`, by (chunk, group); of the heads' outputs `mixL`, by chunk; of the
   transposed outputs of the tile before and of its projection, `mixrmL` and `accL`. The blocks it loads from its
   operands are the structure `Blk`, and what a load of a carried buffer reads is the structure `Lds`, a function of
   the number of stores made, of the pieces so far and of the row loaded. -/
module

public import proofs.«01_k».proof.Proof.Step
public import Idealize.ShloMosaic.Lib.Pipeline.Value

@[expose] public section

set_option maxRecDepth 16384

noncomputable section

namespace Cert.KernelIdeal.Step

open Idealize.ShloMosaic Cert.KernelIdeal Cert.KernelIdeal.Gen

variable {F : FTy → Type} [FloatOps F] [Named F]

/-- A box of a rank-three shape at any offsets within it. -/
theorem inb3 {m n k p q r a b c : Nat} (h0 : a + p ≤ m) (h1 : b + q ≤ n) (h2 : c + r ≤ k) :
    ∀ x, (![a, b, c] : Fin 3 → Nat) x + (⟨3, ![p, q, r]⟩ : Shape).size x ≤ (⟨3, ![m, n, k]⟩ : Shape).size x := by
  intro x
  match x with
  | ⟨0, _⟩ => exact h0
  | ⟨1, _⟩ => exact h1
  | ⟨2, _⟩ => exact h2

/-- A box of a rank-four shape at any offsets within it. -/
theorem inb4 {l m n k o p q r a b c d : Nat} (h0 : a + o ≤ l) (h1 : b + p ≤ m) (h2 : c + q ≤ n) (h3 : d + r ≤ k) :
    ∀ x, (![a, b, c, d] : Fin 4 → Nat) x + (⟨4, ![o, p, q, r]⟩ : Shape).size x ≤ (⟨4, ![l, m, n, k]⟩ : Shape).size x := by
  intro x
  match x with
  | ⟨0, _⟩ => exact h0
  | ⟨1, _⟩ => exact h1
  | ⟨2, _⟩ => exact h2
  | ⟨3, _⟩ => exact h3

/-- A box of a matrix at any offsets within it. -/
theorem inb2 {m n p q a b : Nat} (h0 : a + p ≤ m) (h1 : b + q ≤ n) :
    ∀ x, (![a, b] : Fin 2 → Nat) x + (⟨2, ![p, q]⟩ : Shape).size x ≤ (⟨2, ![m, n]⟩ : Shape).size x := by
  intro x
  match x with
  | ⟨0, _⟩ => exact h0
  | ⟨1, _⟩ => exact h1

@[reducible] def r17 (h : Fin 4) : Rect S4x272x128 := Rect.unit ![h.val, 0, 0] S1x272x128.size (inb3 (by omega) (by omega) (by omega))
@[reducible] def r18 (h : Fin 4) : Rect S4x1x128 := Rect.unit ![h.val, 0, 0] S1x1x128.size (inb3 (by omega) (by omega) (by omega))
@[reducible] def r19 (g : Fin 2) (r : Fin 8) : Rect S2x512x128 :=
  Rect.unit ![g.val, 64 * r.val, 0] S1x64x128.size (inb3 (by omega) (by omega) (by omega))
@[reducible] def r19g (g : Fin 2) : Rect S2x512x128 := Rect.unit ![g.val, 0, 0] S1x512x128.size (inb3 (by omega) (by omega) (by omega))

@[reducible] def rMixM (s : Fin 2) (c h : Fin 4) : Rect S2x4x2048x128 :=
  Rect.unit ![s.val, c.val, 256 * h.val, 0] S1x1x256x128.size (inb4 (by omega) (by omega) (by omega) (by omega))
@[reducible] def rMixS (s : Fin 2) (c : Fin 4) (g : Fin 2) : Rect S2x4x2048x128 :=
  Rect.unit ![s.val, c.val, 1024 + 512 * g.val, 0] S1x1x512x128.size (inb4 (by omega) (by omega) (by omega) (by omega))

/-- The chunk and the head of the `n`-th store over (chunk, head). -/
@[reducible] def ch4 (n : Nat) : Fin 4 := ⟨n / 4 % 4, Nat.mod_lt _ (by decide)⟩
@[reducible] def hd4 (n : Nat) : Fin 4 := ⟨n % 4, Nat.mod_lt _ (by decide)⟩

/-- The chunk and the group of the `n`-th group over (chunk, group). -/
@[reducible] def ch2 (n : Nat) : Fin 4 := ⟨n / 2 % 4, Nat.mod_lt _ (by decide)⟩
@[reducible] def gr2 (n : Nat) : Fin 2 := ⟨n % 2, Nat.mod_lt _ (by decide)⟩
@[reducible] def hd16 (g : Fin 2) (r : Fin 8) : Fin 16 := ⟨8 * g.val + r.val, by omega⟩

variable (F) in
/-- The blocks one call loads from its operands. -/
structure Blk where
  q : Fin 4 → Fin 4 → FVec F S1x128x128 .bf16
  k : Fin 4 → Fin 4 → FVec F S128x128 .bf16
  v : Fin 4 → Fin 4 → FVec F S1x256x128 .bf16
  o : Fin 4 → Fin 4 → FVec F S1x256x128 .bf16
  z : Fin 4 → Fin 2 → Fin 8 → FVec F S1x64x128 .bf16
  x : Fin 4 → Fin 2 → Fin 8 → FVec F S1x64x128 .bf16
  b : Fin 4 → Fin 2 → FVec F S128x128 .bf16
  c : Fin 4 → Fin 2 → FVec F S128x128 .bf16
  g : Fin 4 → FVec F S1x32x128 .f32
  nw : Fin 2 → FVec F S512x128 .f32
  ds : Fin 2 → Fin 8 → FVec F S64x128 .f32
  al : FVec F S16x128 .f32

variable (F) in
/-- What its loads of the carried buffers read. -/
structure Lds where
  m : Nat → List (View.Piece (Elt F) S4x1x128 .f32) → Fin 4 → FVec F S1x1x128 .f32
  ct : Nat → List (View.Piece (Elt F) S4x272x128 .f32) → Fin 4 → FVec F S1x272x128 .f32
  h : Nat → List (View.Piece (Elt F) S2x512x128 .f32) → Fin 2 → FVec F S1x512x128 .f32

namespace Blk
variable (B : Blk F)

def cu : FVec F S128x128 .f32 := cum B.al B.g
def bR (c h : Fin 4) : FVec F S1x128 .f32 := row4 (bAll B.cu c) h
def uR (c h : Fin 4) : FVec F S1x128 .f32 := row4 (uAll B.cu c (B.g c)) h
def dR (c : Fin 4) (g : Fin 2) (r : Fin 8) : FVec F S1x128 .f32 := row16 (dtA (B.g c)) (hd16 g r)
def eR (c : Fin 4) (g : Fin 2) (r : Fin 8) : FVec F S1x128 .f32 := row16 (dEnd B.cu c) (hd16 g r)
def cR (c : Fin 4) (g : Fin 2) (r : Fin 8) : FVec F S1x1 .f32 := row16s (cDec B.cu c) (hd16 g r)
def aR (c : Fin 4) (g : Fin 2) (r : Fin 8) : FVec F S1x128 .f32 := row16 (aCum B.cu c) (hd16 g r)
def eaR (c : Fin 4) (g : Fin 2) (r : Fin 8) : FVec F S1x128 .f32 := row16 (eaA B.cu c) (hd16 g r)

/-- The stabiliser, the memory and the states after one chunk, and the outputs over it, from those before. -/
def mS (c h : Fin 4) (mp : FVec F S1x1x128 .f32) : FVec F S1x1x128 .f32 := mNew (B.bR c h) (B.uR c h) mp
def ctS (c h : Fin 4) (mp : FVec F S1x1x128 .f32) (cp : FVec F S1x272x128 .f32) : FVec F S1x272x128 .f32 :=
  ctNew (B.k c h) (B.v c h) (B.uR c h) mp cp
def hS (c : Fin 4) (g : Fin 2) (hg : FVec F S1x512x128 .f32) (r : Fin 8) : FVec F S1x64x128 .f32 :=
  hNew (B.b c g) (B.x c g) (B.dR c g) (B.eR c g) (B.cR c g r) hg r
def oM (c h : Fin 4) (mp : FVec F S1x1x128 .f32) (cp : FVec F S1x272x128 .f32) : FVec F S1x1x256x128 .bf16 :=
  outM (numAug (B.q c h) (B.k c h) (B.v c h) (B.uR c h) mp cp) (B.bR c h) (B.uR c h) mp (B.o c h)
def oS (c : Fin 4) (g : Fin 2) (hg : FVec F S1x512x128 .f32) : FVec F S1x1x512x128 .bf16 :=
  outS (cat8 fun r => yM (B.b c g) (B.c c g) (B.x c g r) (B.z c g r) (B.aR c g r) (B.dR c g r) (B.eaR c g r) (B.ds g r) hg r) (B.nw g)

end Blk

section
variable (st : Fin 4 → Fin 4 → FVec F S1x1x128 .f32 → FVec F S1x1x128 .f32)
  (ld : Nat → List (View.Piece (Elt F) S4x1x128 .f32) → Fin 4 → FVec F S1x1x128 .f32) (mi : List (View.Piece (Elt F) S4x1x128 .f32))

def mStep (n : Nat) (mp : FVec F S1x1x128 .f32) (L : List (View.Piece (Elt F) S4x1x128 .f32)) : List (View.Piece (Elt F) S4x1x128 .f32) :=
  ⟨r18 (hd4 n), st (ch4 n) (hd4 n) mp⟩ :: L

def mG : Nat → List (View.Piece (Elt F) S4x1x128 .f32)
  | 0 => mi
  | n + 1 => mStep st n (ld n (mG n) (hd4 n)) (mG n)

end

section
variable (st : Fin 4 → Fin 4 → FVec F S1x1x128 .f32 → FVec F S1x272x128 .f32 → FVec F S1x272x128 .f32) (mA : Nat → FVec F S1x1x128 .f32)
  (ld : Nat → List (View.Piece (Elt F) S4x272x128 .f32) → Fin 4 → FVec F S1x272x128 .f32) (ci : List (View.Piece (Elt F) S4x272x128 .f32))

def ctStep (n : Nat) (mp : FVec F S1x1x128 .f32) (cp : FVec F S1x272x128 .f32) (L : List (View.Piece (Elt F) S4x272x128 .f32)) :
    List (View.Piece (Elt F) S4x272x128 .f32) :=
  ⟨r17 (hd4 n), st (ch4 n) (hd4 n) mp cp⟩ :: L

def ctG : Nat → List (View.Piece (Elt F) S4x272x128 .f32)
  | 0 => ci
  | n + 1 => ctStep st n (mA n) (ld n (ctG n) (hd4 n)) (ctG n)

end

section
variable (st : Fin 4 → Fin 2 → FVec F S1x512x128 .f32 → Fin 8 → FVec F S1x64x128 .f32)
  (ld : Nat → List (View.Piece (Elt F) S2x512x128 .f32) → Fin 2 → FVec F S1x512x128 .f32) (hi : List (View.Piece (Elt F) S2x512x128 .f32))

def hStep (n : Nat) (hg : FVec F S1x512x128 .f32) (L : List (View.Piece (Elt F) S2x512x128 .f32)) : List (View.Piece (Elt F) S2x512x128 .f32) :=
  ⟨r19 (gr2 n) 7, st (ch2 n) (gr2 n) hg 7⟩ :: ⟨r19 (gr2 n) 6, st (ch2 n) (gr2 n) hg 6⟩ :: ⟨r19 (gr2 n) 5, st (ch2 n) (gr2 n) hg 5⟩ ::
  ⟨r19 (gr2 n) 4, st (ch2 n) (gr2 n) hg 4⟩ :: ⟨r19 (gr2 n) 3, st (ch2 n) (gr2 n) hg 3⟩ :: ⟨r19 (gr2 n) 2, st (ch2 n) (gr2 n) hg 2⟩ ::
  ⟨r19 (gr2 n) 1, st (ch2 n) (gr2 n) hg 1⟩ :: ⟨r19 (gr2 n) 0, st (ch2 n) (gr2 n) hg 0⟩ :: L

def hG : Nat → List (View.Piece (Elt F) S2x512x128 .f32)
  | 0 => hi
  | n + 1 => hStep st n (ld n (hG n) (gr2 n)) (hG n)

end

section
variable (oM : Fin 4 → Fin 4 → FVec F S1x1x128 .f32 → FVec F S1x272x128 .f32 → FVec F S1x1x256x128 .bf16)
  (oS : Fin 4 → Fin 2 → FVec F S1x512x128 .f32 → FVec F S1x1x512x128 .bf16)
  (mA : Nat → FVec F S1x1x128 .f32) (cA : Nat → FVec F S1x272x128 .f32) (hA : Nat → FVec F S1x512x128 .f32)
  (xi : List (View.Piece (Elt F) S2x4x2048x128 .bf16)) (s : Fin 2)

def mixStep (n : Nat) (L : List (View.Piece (Elt F) S2x4x2048x128 .bf16)) : List (View.Piece (Elt F) S2x4x2048x128 .bf16) :=
  ⟨rMixS s (ch4 (4 * n)) 1, oS (ch4 (4 * n)) 1 (hA (2 * n + 1))⟩ ::
  ⟨rMixM s (ch4 (4 * n)) 3, oM (ch4 (4 * n)) 3 (mA (4 * n + 3)) (cA (4 * n + 3))⟩ ::
  ⟨rMixS s (ch4 (4 * n)) 0, oS (ch4 (4 * n)) 0 (hA (2 * n))⟩ ::
  ⟨rMixM s (ch4 (4 * n)) 2, oM (ch4 (4 * n)) 2 (mA (4 * n + 2)) (cA (4 * n + 2))⟩ ::
  ⟨rMixM s (ch4 (4 * n)) 1, oM (ch4 (4 * n)) 1 (mA (4 * n + 1)) (cA (4 * n + 1))⟩ ::
  ⟨rMixM s (ch4 (4 * n)) 0, oM (ch4 (4 * n)) 0 (mA (4 * n)) (cA (4 * n))⟩ :: L

def mixG : Nat → List (View.Piece (Elt F) S2x4x2048x128 .bf16)
  | 0 => xi
  | n + 1 => mixStep oM oS mA cA hA s n (mixG n)

end

theorem mixG_congr {oM : Fin 4 → Fin 4 → FVec F S1x1x128 .f32 → FVec F S1x272x128 .f32 → FVec F S1x1x256x128 .bf16}
    {oS : Fin 4 → Fin 2 → FVec F S1x512x128 .f32 → FVec F S1x1x512x128 .bf16}
    {mA mA' : Nat → FVec F S1x1x128 .f32} {cA cA' : Nat → FVec F S1x272x128 .f32} {hA hA' : Nat → FVec F S1x512x128 .f32}
    {xi : List (View.Piece (Elt F) S2x4x2048x128 .bf16)} {s : Fin 2} (hm : ∀ n < 16, mA n = mA' n) (hc : ∀ n < 16, cA n = cA' n)
    (hh : ∀ n < 8, hA n = hA' n) : ∀ n ≤ 4, mixG oM oS mA cA hA xi s n = mixG oM oS mA' cA' hA' xi s n
  | 0, _ => rfl
  | n + 1, hn => by
    simp only [mixG, mixStep]
    rw [mixG_congr hm hc hh n (by omega), hm (4 * n) (by omega), hm (4 * n + 1) (by omega), hm (4 * n + 2) (by omega), hm (4 * n + 3) (by omega),
      hc (4 * n) (by omega), hc (4 * n + 1) (by omega), hc (4 * n + 2) (by omega), hc (4 * n + 3) (by omega),
      hh (2 * n) (by omega), hh (2 * n + 1) (by omega)]

section
variable (B : Blk F) (ld : Lds F) (mi : List (View.Piece (Elt F) S4x1x128 .f32)) (ci : List (View.Piece (Elt F) S4x272x128 .f32))
  (hi : List (View.Piece (Elt F) S2x512x128 .f32)) (xi : List (View.Piece (Elt F) S2x4x2048x128 .bf16)) (s : Fin 2)

/-- The pieces, and what the loads of the `n`-th store read. -/
def mL : Nat → List (View.Piece (Elt F) S4x1x128 .f32) := mG B.mS ld.m mi
def mAt (n : Nat) : FVec F S1x1x128 .f32 := ld.m n (mL B ld mi n) (hd4 n)
def ctL : Nat → List (View.Piece (Elt F) S4x272x128 .f32) := ctG B.ctS (mAt B ld mi) ld.ct ci
def ctAt (n : Nat) : FVec F S1x272x128 .f32 := ld.ct n (ctL B ld mi ci n) (hd4 n)
def hL : Nat → List (View.Piece (Elt F) S2x512x128 .f32) := hG B.hS ld.h hi
def hAt (n : Nat) : FVec F S1x512x128 .f32 := ld.h n (hL B ld hi n) (gr2 n)
def mixL : Nat → List (View.Piece (Elt F) S2x4x2048x128 .bf16) :=
  mixG B.oM B.oS (mAt B ld mi) (ctAt B ld mi ci) (hAt B ld hi) xi s

end

/-! ### The projection of the tile before -/

def mixrmL (mx : Fin 4 → FVec F S1x2048x128 .bf16) : List (View.Piece (Elt F) S512x2048 .bf16) :=
  [⟨Rect.unit ![384, 0] S128x2048.size (inb2 (by omega) (by omega)), k0_pay16 (mx 3)⟩,
    ⟨Rect.unit ![256, 0] S128x2048.size (inb2 (by omega) (by omega)), k0_pay16 (mx 2)⟩,
    ⟨Rect.unit ![128, 0] S128x2048.size (inb2 (by omega) (by omega)), k0_pay16 (mx 1)⟩,
    ⟨Rect.unit ![0, 0] S128x2048.size (inb2 (by omega) (by omega)), k0_pay16 (mx 0)⟩]

def accL (xT : Fin 4 → FVec F S512x256 .f32) (w : Fin 4 → FVec F S2048x256 .bf16) (mr : FVec F S512x2048 .bf16) :
    List (View.Piece (Elt F) S512x1024 .f32) :=
  [⟨Rect.unit ![0, 768] S512x256.size (inb2 (by omega) (by omega)), k0_pay17 (xT 3) mr (w 3)⟩,
    ⟨Rect.unit ![0, 512] S512x256.size (inb2 (by omega) (by omega)), k0_pay17 (xT 2) mr (w 2)⟩,
    ⟨Rect.unit ![0, 256] S512x256.size (inb2 (by omega) (by omega)), k0_pay17 (xT 1) mr (w 1)⟩,
    ⟨Rect.unit ![0, 0] S512x256.size (inb2 (by omega) (by omega)), k0_pay17 (xT 0) mr (w 0)⟩]

/-! ### The blocks, of the operands' windows -/

section
variable (x0 : Vec F S4x512x128 .bf16) (x1 : Vec F S512x512 .bf16) (x2 x3 x4 x5 : Vec F S4x1024x128 .bf16) (x6 x7 : Vec F S512x256 .bf16)
  (x8 : Vec F S4x32x128 .f32) (x9 x10 : Vec F S1024x128 .f32) (x11 : Vec F S16x128 .f32) (x12 : Vec F S512x1024 .f32)
  (x13 : Vec F S2048x1024 .bf16) (x14 : Vec F S1x1024 .f32)

def blkOf : Blk F where
  q c h := View.ld x0 (Rect.unit ![c.val, 128 * h.val, 0] S1x128x128.size (inb3 (by omega) (by omega) (by omega)))
  k c h := View.ld x1 (Rect.unit ![128 * c.val, 128 * h.val] S128x128.size (inb2 (by omega) (by omega)))
  v c h := View.ld x2 (Rect.unit ![c.val, 256 * h.val, 0] S1x256x128.size (inb3 (by omega) (by omega) (by omega)))
  o c h := View.ld x3 (Rect.unit ![c.val, 256 * h.val, 0] S1x256x128.size (inb3 (by omega) (by omega) (by omega)))
  z c g r := View.ld x4 (Rect.unit ![c.val, 64 * (8 * g.val + r.val), 0] S1x64x128.size (inb3 (by omega) (by omega) (by omega)))
  x c g r := View.ld x5 (Rect.unit ![c.val, 64 * (8 * g.val + r.val), 0] S1x64x128.size (inb3 (by omega) (by omega) (by omega)))
  b c g := View.ld x6 (Rect.unit ![128 * c.val, 128 * g.val] S128x128.size (inb2 (by omega) (by omega)))
  c c g := View.ld x7 (Rect.unit ![128 * c.val, 128 * g.val] S128x128.size (inb2 (by omega) (by omega)))
  g c := View.ld x8 (Rect.unit ![c.val, 0, 0] S1x32x128.size (inb3 (by omega) (by omega) (by omega)))
  nw g := View.ld x9 (Rect.unit ![512 * g.val, 0] S512x128.size (inb2 (by omega) (by omega)))
  ds g r := View.ld x10 (Rect.unit ![64 * (8 * g.val + r.val), 0] S64x128.size (inb2 (by omega) (by omega)))
  al := View.ld x11 (Rect.unit ![0, 0] S16x128.size (inb2 (by omega) (by omega)))

def xTOf (j : Fin 4) : FVec F S512x256 .f32 := View.ld x12 (Rect.unit ![0, 256 * j.val] S512x256.size (inb2 (by omega) (by omega)))
def wOf (j : Fin 4) : FVec F S2048x256 .bf16 := View.ld x13 (Rect.unit ![0, 256 * j.val] S2048x256.size (inb2 (by omega) (by omega)))
def fwOf : FVec F S1x1024 .f32 := View.ld x14 (Rect.unit ![0, 0] S1x1024.size (inb2 (by omega) (by omega)))

end

/-! ### What the loads of the carried buffers read -/

/-- Where the buffers start from what the call before left. -/
def ldK (xs0 : Vec F S4x272x128 .f32) (xs1 : Vec F S4x1x128 .f32) (xs2 : Vec F S2x512x128 .f32) : Lds F where
  m n L h := if n < 4 then View.ld xs1 (r18 h) else fun j => View.canon L ((r18 h).toLoadRect.idx j)
  ct n L h := if n < 4 then View.ld xs0 (r17 h) else fun j => View.canon L ((r17 h).toLoadRect.idx j)
  h n L g := if n < 2 then View.ld xs2 (r19g g) else fun j => View.canon L ((r19g g).toLoadRect.idx j)

/-- Where the body has just filled them. -/
def ldZ : Lds F where
  m _ L h := fun j => View.canon L ((r18 h).toLoadRect.idx j)
  ct _ L h := fun j => View.canon L ((r17 h).toLoadRect.idx j)
  h _ L g := fun j => View.canon L ((r19g g).toLoadRect.idx j)

def mI : List (View.Piece (Elt F) S4x1x128 .f32) :=
  [⟨Rect.unit ![0, 0, 0] S4x1x128.size (inb3 (by omega) (by omega) (by omega)), k0_pay4⟩]
def ctI : List (View.Piece (Elt F) S4x272x128 .f32) :=
  [⟨Rect.unit ![0, 0, 0] S4x272x128.size (inb3 (by omega) (by omega) (by omega)), k0_pay3⟩]
def hI : List (View.Piece (Elt F) S2x512x128 .f32) :=
  [⟨Rect.unit ![0, 0, 0] S2x512x128.size (inb3 (by omega) (by omega) (by omega)), k0_pay5⟩]

end Cert.KernelIdeal.Step

end
-- ==== Proof.CaseA.lean ====
/- Case A of the body: the pieces it leaves are those of `Pieces`, over the blocks of its operands' windows. -/
module

public import proofs.«01_k».proof.Proof.Pieces
public import proofs.«01_k».proof.Proof.Gen.KernelIdeal.Frame.RunA

@[expose] public section

set_option maxRecDepth 16384

noncomputable section

namespace Cert.KernelIdeal.CaseA

open Idealize.ShloMosaic Idealize.ShloMosaic.TcCoe Idealize.SL.Sem Cert.KernelIdeal Cert.KernelIdeal.Gen Cert.KernelIdeal.Step

variable {F : FTy → Type} [FloatOps F] [Named F]

variable (c : Dev nD) (i : grid0.Coords) (arg1 : Memref sig .tc .vmem S4x512x128 .bf16) (harg1 : arg1.IsWhole) (arg2 : Memref sig .tc .vmem S512x512 .bf16) (harg2 : arg2.IsWhole) (arg3 : Memref sig .tc .vmem S4x1024x128 .bf16) (harg3 : arg3.IsWhole) (arg4 : Memref sig .tc .vmem S4x1024x128 .bf16) (harg4 : arg4.IsWhole) (arg5 : Memref sig .tc .vmem S4x1024x128 .bf16) (harg5 : arg5.IsWhole) (arg6 : Memref sig .tc .vmem S4x1024x128 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S4x32x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S16x128 .f32) (harg12 : arg12.IsWhole) (arg13 : Memref sig .tc .vmem S512x1024 .f32) (harg13 : arg13.IsWhole) (arg14 : Memref sig .tc .vmem S2048x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S4x272x128 .f32) (harg17 : arg17.IsWhole) (arg18 : Memref sig .tc .vmem S4x1x128 .f32) (harg18 : arg18.IsWhole) (arg19 : Memref sig .tc .vmem S2x512x128 .f32) (harg19 : arg19.IsWhole) (arg20 : Memref sig .tc .vmem S2x4x2048x128 .bf16) (harg20 : arg20.IsWhole) (arg21 : Memref sig .tc .vmem S512x2048 .bf16) (harg21 : arg21.IsWhole) (arg22 : Memref sig .tc .vmem S512x1024 .f32) (harg22 : arg22.IsWhole) (hc0 : cond0_0 i) (hc1 : cond0_1 i) (hl0 : k0_off1 i = ![1, 0, 0, 0]) (hl1 : k0_off10 i = ![0, 1, 256, 0]) (hl2 : k0_off11 i = ![0, 1, 512, 0]) (hl3 : k0_off12 i = ![0, 1, 1024, 0]) (hl4 : k0_off13 i = ![0, 1, 768, 0]) (hl5 : k0_off14 i = ![0, 1, 1536, 0]) (hl6 : k0_off15 i = ![0, 2, 0, 0]) (hl7 : k0_off16 i = ![0, 2, 256, 0]) (hl8 : k0_off17 i = ![0, 2, 512, 0]) (hl9 : k0_off18 i = ![0, 2, 1024, 0]) (hl10 : k0_off19 i = ![0, 2, 768, 0]) (hl11 : k0_off2 i = ![0, 0, 0, 0]) (hl12 : k0_off20 i = ![0, 2, 1536, 0]) (hl13 : k0_off21 i = ![0, 3, 0, 0]) (hl14 : k0_off22 i = ![0, 3, 256, 0]) (hl15 : k0_off23 i = ![0, 3, 512, 0]) (hl16 : k0_off24 i = ![0, 3, 1024, 0]) (hl17 : k0_off25 i = ![0, 3, 768, 0]) (hl18 : k0_off26 i = ![0, 3, 1536, 0]) (hl19 : k0_off3 i = ![0, 0, 0, 0]) (hl20 : k0_off4 i = ![0, 0, 256, 0]) (hl21 : k0_off5 i = ![0, 0, 512, 0]) (hl22 : k0_off6 i = ![0, 0, 1024, 0]) (hl23 : k0_off7 i = ![0, 0, 768, 0]) (hl24 : k0_off8 i = ![0, 0, 1536, 0]) (hl25 : k0_off9 i = ![0, 1, 0, 0])
    (x0 : Vec F S4x512x128 .bf16) (x1 : Vec F S512x512 .bf16) (x2 : Vec F S4x1024x128 .bf16) (x3 : Vec F S4x1024x128 .bf16) (x4 : Vec F S4x1024x128 .bf16) (x5 : Vec F S4x1024x128 .bf16) (x6 : Vec F S512x256 .bf16) (x7 : Vec F S512x256 .bf16) (x8 : Vec F S4x32x128 .f32) (x9 : Vec F S1024x128 .f32) (x10 : Vec F S1024x128 .f32) (x11 : Vec F S16x128 .f32) (x12 : Vec F S512x1024 .f32) (x13 : Vec F S2048x1024 .bf16) (x14 : Vec F S1x1024 .f32)

def b_q : Fin 4 → Fin 4 → FVec F S1x128x128 .bf16 := fun c h => View.readAt (Elt F) arg1.view (Rect.unit ![c.val, 128 * h.val, 0] S1x128x128.size (inb3 (by omega) (by omega) (by omega)) : Rect S4x512x128).toLoadRect (harg1.unread x0)
def b_k : Fin 4 → Fin 4 → FVec F S128x128 .bf16 := fun c h => View.readAt (Elt F) arg2.view (Rect.unit ![128 * c.val, 128 * h.val] S128x128.size (inb2 (by omega) (by omega)) : Rect S512x512).toLoadRect (harg2.unread x1)
def b_v : Fin 4 → Fin 4 → FVec F S1x256x128 .bf16 := fun c h => View.readAt (Elt F) arg3.view (Rect.unit ![c.val, 256 * h.val, 0] S1x256x128.size (inb3 (by omega) (by omega) (by omega)) : Rect S4x1024x128).toLoadRect (harg3.unread x2)
def b_o : Fin 4 → Fin 4 → FVec F S1x256x128 .bf16 := fun c h => View.readAt (Elt F) arg4.view (Rect.unit ![c.val, 256 * h.val, 0] S1x256x128.size (inb3 (by omega) (by omega) (by omega)) : Rect S4x1024x128).toLoadRect (harg4.unread x3)
def b_z : Fin 4 → Fin 2 → Fin 8 → FVec F S1x64x128 .bf16 := fun c g r => View.readAt (Elt F) arg5.view (Rect.unit ![c.val, 64 * (8 * g.val + r.val), 0] S1x64x128.size (inb3 (by omega) (by omega) (by omega)) : Rect S4x1024x128).toLoadRect (harg5.unread x4)
def b_x : Fin 4 → Fin 2 → Fin 8 → FVec F S1x64x128 .bf16 := fun c g r => View.readAt (Elt F) arg6.view (Rect.unit ![c.val, 64 * (8 * g.val + r.val), 0] S1x64x128.size (inb3 (by omega) (by omega) (by omega)) : Rect S4x1024x128).toLoadRect (harg6.unread x5)
def b_b : Fin 4 → Fin 2 → FVec F S128x128 .bf16 := fun c g => View.readAt (Elt F) arg7.view (Rect.unit ![128 * c.val, 128 * g.val] S128x128.size (inb2 (by omega) (by omega)) : Rect S512x256).toLoadRect (harg7.unread x6)
def b_c : Fin 4 → Fin 2 → FVec F S128x128 .bf16 := fun c g => View.readAt (Elt F) arg8.view (Rect.unit ![128 * c.val, 128 * g.val] S128x128.size (inb2 (by omega) (by omega)) : Rect S512x256).toLoadRect (harg8.unread x7)
def b_g : Fin 4 → FVec F S1x32x128 .f32 := fun c => View.readAt (Elt F) arg9.view (Rect.unit ![c.val, 0, 0] S1x32x128.size (inb3 (by omega) (by omega) (by omega)) : Rect S4x32x128).toLoadRect (harg9.unread x8)
def b_nw : Fin 2 → FVec F S512x128 .f32 := fun g => View.readAt (Elt F) arg10.view (Rect.unit ![512 * g.val, 0] S512x128.size (inb2 (by omega) (by omega)) : Rect S1024x128).toLoadRect (harg10.unread x9)
def b_ds : Fin 2 → Fin 8 → FVec F S64x128 .f32 := fun g r => View.readAt (Elt F) arg11.view (Rect.unit ![64 * (8 * g.val + r.val), 0] S64x128.size (inb2 (by omega) (by omega)) : Rect S1024x128).toLoadRect (harg11.unread x10)
def b_al : FVec F S16x128 .f32 := View.readAt (Elt F) arg12.view (Rect.unit ![0, 0] S16x128.size (inb2 (by omega) (by omega)) : Rect S16x128).toLoadRect (harg12.unread x11)
def b_cu : FVec F S128x128 .f32 := cum (b_al arg12 harg12 x11) (b_g arg9 harg9 x8)

def l_m : Nat → List (View.Piece (Elt F) S4x1x128 .f32) → Fin 4 → FVec F S1x1x128 .f32 := fun _ L h => arg18.view.readCov L (r18 h).toLoadRect
def l_ct : Nat → List (View.Piece (Elt F) S4x272x128 .f32) → Fin 4 → FVec F S1x272x128 .f32 := fun _ L h => arg17.view.readCov L (r17 h).toLoadRect
def l_h : Nat → List (View.Piece (Elt F) S2x512x128 .f32) → Fin 2 → FVec F S1x512x128 .f32 := fun _ L g => arg19.view.readCov L (r19g g).toLoadRect

def blk : Blk F := ⟨(b_q arg1 harg1 x0), (b_k arg2 harg2 x1), (b_v arg3 harg3 x2), (b_o arg4 harg4 x3), (b_z arg5 harg5 x4), (b_x arg6 harg6 x5), (b_b arg7 harg7 x6), (b_c arg8 harg8 x7), (b_g arg9 harg9 x8), (b_nw arg10 harg10 x9), (b_ds arg11 harg11 x10), (b_al arg12 harg12 x11)⟩

def lds : Lds F := ⟨(l_m arg18), (l_ct arg17), (l_h arg19)⟩

theorem blk_eq : blk arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 = blkOf x0 x1 x2 x3 x4 x5 x6 x7 x8 x9 x10 x11 := by
  unfold blk blkOf b_q b_k b_v b_o b_z b_x b_b b_c b_g b_nw b_ds b_al
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]

theorem lds_eq : lds arg17 arg18 arg19 = (ldZ : Lds F) := by
  unfold lds l_m l_ct l_h ldZ
  simp only [View.readCov_eq_canon']
  try rfl

def Ms : Nat → List (View.Piece (Elt F) S4x1x128 .f32)
  | 0 => kernelRun0_A.sl.HS1_1
  | 1 => kernelRun0_A.sl.HS1_2 c arg9 harg9 arg12 harg12 arg18 x8 x11
  | 2 => kernelRun0_A.sl.HS1_3 c arg9 harg9 arg12 harg12 arg18 x8 x11
  | 3 => kernelRun0_A.sl.HS1_4 c arg9 harg9 arg12 harg12 arg18 x8 x11
  | 4 => kernelRun0_A.sl.HS1_5 c arg9 harg9 arg12 harg12 arg18 x8 x11
  | 5 => kernelRun0_A.sl.HS1_6 c arg9 harg9 arg12 harg12 arg18 x8 x11
  | 6 => kernelRun0_A.sl.HS1_7 c arg9 harg9 arg12 harg12 arg18 x8 x11
  | 7 => kernelRun0_A.sl.HS1_8 c arg9 harg9 arg12 harg12 arg18 x8 x11
  | 8 => kernelRun0_A.sl.HS1_9 c arg9 harg9 arg12 harg12 arg18 x8 x11
  | 9 => kernelRun0_A.sl.HS1_10 c arg9 harg9 arg12 harg12 arg18 x8 x11
  | 10 => kernelRun0_A.sl.HS1_11 c arg9 harg9 arg12 harg12 arg18 x8 x11
  | 11 => kernelRun0_A.sl.HS1_12 c arg9 harg9 arg12 harg12 arg18 x8 x11
  | 12 => kernelRun0_A.sl.HS1_13 c arg9 harg9 arg12 harg12 arg18 x8 x11
  | 13 => kernelRun0_A.sl.HS1_14 c arg9 harg9 arg12 harg12 arg18 x8 x11
  | 14 => kernelRun0_A.sl.HS1_15 c arg9 harg9 arg12 harg12 arg18 x8 x11
  | 15 => kernelRun0_A.sl.HS1_16 c arg9 harg9 arg12 harg12 arg18 x8 x11
  | _ => []

theorem ms_0 : (Ms c arg9 harg9 arg12 harg12 arg18 x8 x11) 0 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 0 := by
  rfl

theorem ms_1 : (Ms c arg9 harg9 arg12 harg12 arg18 x8 x11) 1 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 1 :=
  (show (Ms c arg9 harg9 arg12 harg12 arg18 x8 x11) 1 = mStep (fun c h mp => mNew (row4 (bAll (b_cu arg9 harg9 arg12 harg12 x8 x11) c) h) (row4 (uAll (b_cu arg9 harg9 arg12 harg12 x8 x11) c ((b_g arg9 harg9 x8) c)) h) mp) 0 ((l_m arg18) 0 ((Ms c arg9 harg9 arg12 harg12 arg18 x8 x11) 0) (hd4 0)) ((Ms c arg9 harg9 arg12 harg12 arg18 x8 x11) 0) from rfl).trans (by rw [ms_0]; rfl)

theorem ms_2 : (Ms c arg9 harg9 arg12 harg12 arg18 x8 x11) 2 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 2 :=
  (show (Ms c arg9 harg9 arg12 harg12 arg18 x8 x11) 2 = mStep (fun c h mp => mNew (row4 (bAll (b_cu arg9 harg9 arg12 harg12 x8 x11) c) h) (row4 (uAll (b_cu arg9 harg9 arg12 harg12 x8 x11) c ((b_g arg9 harg9 x8) c)) h) mp) 1 ((l_m arg18) 1 ((Ms c arg9 harg9 arg12 harg12 arg18 x8 x11) 1) (hd4 1)) ((Ms c arg9 harg9 arg12 harg12 arg18 x8 x11) 1) from rfl).trans (by rw [ms_1]; rfl)

theorem ms_3 : (Ms c arg9 harg9 arg12 harg12 arg18 x8 x11) 3 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 3 :=
  (show (Ms c arg9 harg9 arg12 harg12 arg18 x8 x11) 3 = mStep (fun c h mp => mNew (row4 (bAll (b_cu arg9 harg9 arg12 harg12 x8 x11) c) h) (row4 (uAll (b_cu arg9 harg9 arg12 harg12 x8 x11) c ((b_g arg9 harg9 x8) c)) h) mp) 2 ((l_m arg18) 2 ((Ms c arg9 harg9 arg12 harg12 arg18 x8 x11) 2) (hd4 2)) ((Ms c arg9 harg9 arg12 harg12 arg18 x8 x11) 2) from rfl).trans (by rw [ms_2]; rfl)

theorem ms_4 : (Ms c arg9 harg9 arg12 harg12 arg18 x8 x11) 4 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 4 :=
  (show (Ms c arg9 harg9 arg12 harg12 arg18 x8 x11) 4 = mStep (fun c h mp => mNew (row4 (bAll (b_cu arg9 harg9 arg12 harg12 x8 x11) c) h) (row4 (uAll (b_cu arg9 harg9 arg12 harg12 x8 x11) c ((b_g arg9 harg9 x8) c)) h) mp) 3 ((l_m arg18) 3 ((Ms c arg9 harg9 arg12 harg12 arg18 x8 x11) 3) (hd4 3)) ((Ms c arg9 harg9 arg12 harg12 arg18 x8 x11) 3) from rfl).trans (by rw [ms_3]; rfl)

theorem ms_5 : (Ms c arg9 harg9 arg12 harg12 arg18 x8 x11) 5 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 5 :=
  (show (Ms c arg9 harg9 arg12 harg12 arg18 x8 x11) 5 = mStep (fun c h mp => mNew (row4 (bAll (b_cu arg9 harg9 arg12 harg12 x8 x11) c) h) (row4 (uAll (b_cu arg9 harg9 arg12 harg12 x8 x11) c ((b_g arg9 harg9 x8) c)) h) mp) 4 ((l_m arg18) 4 ((Ms c arg9 harg9 arg12 harg12 arg18 x8 x11) 4) (hd4 4)) ((Ms c arg9 harg9 arg12 harg12 arg18 x8 x11) 4) from rfl).trans (by rw [ms_4]; rfl)

theorem ms_6 : (Ms c arg9 harg9 arg12 harg12 arg18 x8 x11) 6 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 6 :=
  (show (Ms c arg9 harg9 arg12 harg12 arg18 x8 x11) 6 = mStep (fun c h mp => mNew (row4 (bAll (b_cu arg9 harg9 arg12 harg12 x8 x11) c) h) (row4 (uAll (b_cu arg9 harg9 arg12 harg12 x8 x11) c ((b_g arg9 harg9 x8) c)) h) mp) 5 ((l_m arg18) 5 ((Ms c arg9 harg9 arg12 harg12 arg18 x8 x11) 5) (hd4 5)) ((Ms c arg9 harg9 arg12 harg12 arg18 x8 x11) 5) from rfl).trans (by rw [ms_5]; rfl)

theorem ms_7 : (Ms c arg9 harg9 arg12 harg12 arg18 x8 x11) 7 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 7 :=
  (show (Ms c arg9 harg9 arg12 harg12 arg18 x8 x11) 7 = mStep (fun c h mp => mNew (row4 (bAll (b_cu arg9 harg9 arg12 harg12 x8 x11) c) h) (row4 (uAll (b_cu arg9 harg9 arg12 harg12 x8 x11) c ((b_g arg9 harg9 x8) c)) h) mp) 6 ((l_m arg18) 6 ((Ms c arg9 harg9 arg12 harg12 arg18 x8 x11) 6) (hd4 6)) ((Ms c arg9 harg9 arg12 harg12 arg18 x8 x11) 6) from rfl).trans (by rw [ms_6]; rfl)

theorem ms_8 : (Ms c arg9 harg9 arg12 harg12 arg18 x8 x11) 8 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 8 :=
  (show (Ms c arg9 harg9 arg12 harg12 arg18 x8 x11) 8 = mStep (fun c h mp => mNew (row4 (bAll (b_cu arg9 harg9 arg12 harg12 x8 x11) c) h) (row4 (uAll (b_cu arg9 harg9 arg12 harg12 x8 x11) c ((b_g arg9 harg9 x8) c)) h) mp) 7 ((l_m arg18) 7 ((Ms c arg9 harg9 arg12 harg12 arg18 x8 x11) 7) (hd4 7)) ((Ms c arg9 harg9 arg12 harg12 arg18 x8 x11) 7) from rfl).trans (by rw [ms_7]; rfl)

theorem ms_9 : (Ms c arg9 harg9 arg12 harg12 arg18 x8 x11) 9 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 9 :=
  (show (Ms c arg9 harg9 arg12 harg12 arg18 x8 x11) 9 = mStep (fun c h mp => mNew (row4 (bAll (b_cu arg9 harg9 arg12 harg12 x8 x11) c) h) (row4 (uAll (b_cu arg9 harg9 arg12 harg12 x8 x11) c ((b_g arg9 harg9 x8) c)) h) mp) 8 ((l_m arg18) 8 ((Ms c arg9 harg9 arg12 harg12 arg18 x8 x11) 8) (hd4 8)) ((Ms c arg9 harg9 arg12 harg12 arg18 x8 x11) 8) from rfl).trans (by rw [ms_8]; rfl)

theorem ms_10 : (Ms c arg9 harg9 arg12 harg12 arg18 x8 x11) 10 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 10 :=
  (show (Ms c arg9 harg9 arg12 harg12 arg18 x8 x11) 10 = mStep (fun c h mp => mNew (row4 (bAll (b_cu arg9 harg9 arg12 harg12 x8 x11) c) h) (row4 (uAll (b_cu arg9 harg9 arg12 harg12 x8 x11) c ((b_g arg9 harg9 x8) c)) h) mp) 9 ((l_m arg18) 9 ((Ms c arg9 harg9 arg12 harg12 arg18 x8 x11) 9) (hd4 9)) ((Ms c arg9 harg9 arg12 harg12 arg18 x8 x11) 9) from rfl).trans (by rw [ms_9]; rfl)

theorem ms_11 : (Ms c arg9 harg9 arg12 harg12 arg18 x8 x11) 11 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 11 :=
  (show (Ms c arg9 harg9 arg12 harg12 arg18 x8 x11) 11 = mStep (fun c h mp => mNew (row4 (bAll (b_cu arg9 harg9 arg12 harg12 x8 x11) c) h) (row4 (uAll (b_cu arg9 harg9 arg12 harg12 x8 x11) c ((b_g arg9 harg9 x8) c)) h) mp) 10 ((l_m arg18) 10 ((Ms c arg9 harg9 arg12 harg12 arg18 x8 x11) 10) (hd4 10)) ((Ms c arg9 harg9 arg12 harg12 arg18 x8 x11) 10) from rfl).trans (by rw [ms_10]; rfl)

theorem ms_12 : (Ms c arg9 harg9 arg12 harg12 arg18 x8 x11) 12 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 12 :=
  (show (Ms c arg9 harg9 arg12 harg12 arg18 x8 x11) 12 = mStep (fun c h mp => mNew (row4 (bAll (b_cu arg9 harg9 arg12 harg12 x8 x11) c) h) (row4 (uAll (b_cu arg9 harg9 arg12 harg12 x8 x11) c ((b_g arg9 harg9 x8) c)) h) mp) 11 ((l_m arg18) 11 ((Ms c arg9 harg9 arg12 harg12 arg18 x8 x11) 11) (hd4 11)) ((Ms c arg9 harg9 arg12 harg12 arg18 x8 x11) 11) from rfl).trans (by rw [ms_11]; rfl)

theorem ms_13 : (Ms c arg9 harg9 arg12 harg12 arg18 x8 x11) 13 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 13 :=
  (show (Ms c arg9 harg9 arg12 harg12 arg18 x8 x11) 13 = mStep (fun c h mp => mNew (row4 (bAll (b_cu arg9 harg9 arg12 harg12 x8 x11) c) h) (row4 (uAll (b_cu arg9 harg9 arg12 harg12 x8 x11) c ((b_g arg9 harg9 x8) c)) h) mp) 12 ((l_m arg18) 12 ((Ms c arg9 harg9 arg12 harg12 arg18 x8 x11) 12) (hd4 12)) ((Ms c arg9 harg9 arg12 harg12 arg18 x8 x11) 12) from rfl).trans (by rw [ms_12]; rfl)

theorem ms_14 : (Ms c arg9 harg9 arg12 harg12 arg18 x8 x11) 14 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 14 :=
  (show (Ms c arg9 harg9 arg12 harg12 arg18 x8 x11) 14 = mStep (fun c h mp => mNew (row4 (bAll (b_cu arg9 harg9 arg12 harg12 x8 x11) c) h) (row4 (uAll (b_cu arg9 harg9 arg12 harg12 x8 x11) c ((b_g arg9 harg9 x8) c)) h) mp) 13 ((l_m arg18) 13 ((Ms c arg9 harg9 arg12 harg12 arg18 x8 x11) 13) (hd4 13)) ((Ms c arg9 harg9 arg12 harg12 arg18 x8 x11) 13) from rfl).trans (by rw [ms_13]; rfl)

theorem ms_15 : (Ms c arg9 harg9 arg12 harg12 arg18 x8 x11) 15 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 15 :=
  (show (Ms c arg9 harg9 arg12 harg12 arg18 x8 x11) 15 = mStep (fun c h mp => mNew (row4 (bAll (b_cu arg9 harg9 arg12 harg12 x8 x11) c) h) (row4 (uAll (b_cu arg9 harg9 arg12 harg12 x8 x11) c ((b_g arg9 harg9 x8) c)) h) mp) 14 ((l_m arg18) 14 ((Ms c arg9 harg9 arg12 harg12 arg18 x8 x11) 14) (hd4 14)) ((Ms c arg9 harg9 arg12 harg12 arg18 x8 x11) 14) from rfl).trans (by rw [ms_14]; rfl)

theorem m_run : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14).2.2.1 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 16 := by
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14).2.2.1 = mStep (fun c h mp => mNew (row4 (bAll (b_cu arg9 harg9 arg12 harg12 x8 x11) c) h) (row4 (uAll (b_cu arg9 harg9 arg12 harg12 x8 x11) c ((b_g arg9 harg9 x8) c)) h) mp) 15 ((l_m arg18) 15 ((Ms c arg9 harg9 arg12 harg12 arg18 x8 x11) 15) (hd4 15)) ((Ms c arg9 harg9 arg12 harg12 arg18 x8 x11) 15) := by
    unfold kernelRun0_A
    rfl
  rw [e, ms_15]
  rfl

theorem m_pieces : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14).2.2.1 =
    mL (blkOf x0 x1 x2 x3 x4 x5 x6 x7 x8 x9 x10 x11) ldZ mI 16 := by
  rw [m_run, ← blk_eq arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11, ← lds_eq (F := F) arg17 arg18 arg19]
  rfl

def Cs : Nat → List (View.Piece (Elt F) S4x272x128 .f32)
  | 0 => kernelRun0_A.sl.HS0_1
  | 1 => kernelRun0_A.sl.HS0_2 c arg2 harg2 arg3 harg3 arg9 harg9 arg12 harg12 arg17 arg18 x1 x2 x8 x11
  | 2 => kernelRun0_A.sl.HS0_3 c arg2 harg2 arg3 harg3 arg9 harg9 arg12 harg12 arg17 arg18 x1 x2 x8 x11
  | 3 => kernelRun0_A.sl.HS0_4 c arg2 harg2 arg3 harg3 arg9 harg9 arg12 harg12 arg17 arg18 x1 x2 x8 x11
  | 4 => kernelRun0_A.sl.HS0_5 c arg2 harg2 arg3 harg3 arg9 harg9 arg12 harg12 arg17 arg18 x1 x2 x8 x11
  | 5 => kernelRun0_A.sl.HS0_6 c arg2 harg2 arg3 harg3 arg9 harg9 arg12 harg12 arg17 arg18 x1 x2 x8 x11
  | 6 => kernelRun0_A.sl.HS0_7 c arg2 harg2 arg3 harg3 arg9 harg9 arg12 harg12 arg17 arg18 x1 x2 x8 x11
  | 7 => kernelRun0_A.sl.HS0_8 c arg2 harg2 arg3 harg3 arg9 harg9 arg12 harg12 arg17 arg18 x1 x2 x8 x11
  | 8 => kernelRun0_A.sl.HS0_9 c arg2 harg2 arg3 harg3 arg9 harg9 arg12 harg12 arg17 arg18 x1 x2 x8 x11
  | 9 => kernelRun0_A.sl.HS0_10 c arg2 harg2 arg3 harg3 arg9 harg9 arg12 harg12 arg17 arg18 x1 x2 x8 x11
  | 10 => kernelRun0_A.sl.HS0_11 c arg2 harg2 arg3 harg3 arg9 harg9 arg12 harg12 arg17 arg18 x1 x2 x8 x11
  | 11 => kernelRun0_A.sl.HS0_12 c arg2 harg2 arg3 harg3 arg9 harg9 arg12 harg12 arg17 arg18 x1 x2 x8 x11
  | 12 => kernelRun0_A.sl.HS0_13 c arg2 harg2 arg3 harg3 arg9 harg9 arg12 harg12 arg17 arg18 x1 x2 x8 x11
  | 13 => kernelRun0_A.sl.HS0_14 c arg2 harg2 arg3 harg3 arg9 harg9 arg12 harg12 arg17 arg18 x1 x2 x8 x11
  | 14 => kernelRun0_A.sl.HS0_15 c arg2 harg2 arg3 harg3 arg9 harg9 arg12 harg12 arg17 arg18 x1 x2 x8 x11
  | 15 => kernelRun0_A.sl.HS0_16 c arg2 harg2 arg3 harg3 arg9 harg9 arg12 harg12 arg17 arg18 x1 x2 x8 x11
  | _ => []

theorem cs_0 : (Cs c arg2 harg2 arg3 harg3 arg9 harg9 arg12 harg12 arg17 arg18 x1 x2 x8 x11) 0 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 0 := by
  rfl

theorem cs_1 : (Cs c arg2 harg2 arg3 harg3 arg9 harg9 arg12 harg12 arg17 arg18 x1 x2 x8 x11) 1 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 1 :=
  (show (Cs c arg2 harg2 arg3 harg3 arg9 harg9 arg12 harg12 arg17 arg18 x1 x2 x8 x11) 1 = ctStep (fun c h mp cp => ctNew ((b_k arg2 harg2 x1) c h) ((b_v arg3 harg3 x2) c h) (row4 (uAll (b_cu arg9 harg9 arg12 harg12 x8 x11) c ((b_g arg9 harg9 x8) c)) h) mp cp) 0 ((l_m arg18) 0 ((Ms c arg9 harg9 arg12 harg12 arg18 x8 x11) 0) (hd4 0)) ((l_ct arg17) 0 ((Cs c arg2 harg2 arg3 harg3 arg9 harg9 arg12 harg12 arg17 arg18 x1 x2 x8 x11) 0) (hd4 0)) ((Cs c arg2 harg2 arg3 harg3 arg9 harg9 arg12 harg12 arg17 arg18 x1 x2 x8 x11) 0) from rfl).trans (by rw [ms_0, cs_0]; rfl)

theorem cs_2 : (Cs c arg2 harg2 arg3 harg3 arg9 harg9 arg12 harg12 arg17 arg18 x1 x2 x8 x11) 2 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 2 :=
  (show (Cs c arg2 harg2 arg3 harg3 arg9 harg9 arg12 harg12 arg17 arg18 x1 x2 x8 x11) 2 = ctStep (fun c h mp cp => ctNew ((b_k arg2 harg2 x1) c h) ((b_v arg3 harg3 x2) c h) (row4 (uAll (b_cu arg9 harg9 arg12 harg12 x8 x11) c ((b_g arg9 harg9 x8) c)) h) mp cp) 1 ((l_m arg18) 1 ((Ms c arg9 harg9 arg12 harg12 arg18 x8 x11) 1) (hd4 1)) ((l_ct arg17) 1 ((Cs c arg2 harg2 arg3 harg3 arg9 harg9 arg12 harg12 arg17 arg18 x1 x2 x8 x11) 1) (hd4 1)) ((Cs c arg2 harg2 arg3 harg3 arg9 harg9 arg12 harg12 arg17 arg18 x1 x2 x8 x11) 1) from rfl).trans (by rw [ms_1, cs_1]; rfl)

theorem cs_3 : (Cs c arg2 harg2 arg3 harg3 arg9 harg9 arg12 harg12 arg17 arg18 x1 x2 x8 x11) 3 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 3 :=
  (show (Cs c arg2 harg2 arg3 harg3 arg9 harg9 arg12 harg12 arg17 arg18 x1 x2 x8 x11) 3 = ctStep (fun c h mp cp => ctNew ((b_k arg2 harg2 x1) c h) ((b_v arg3 harg3 x2) c h) (row4 (uAll (b_cu arg9 harg9 arg12 harg12 x8 x11) c ((b_g arg9 harg9 x8) c)) h) mp cp) 2 ((l_m arg18) 2 ((Ms c arg9 harg9 arg12 harg12 arg18 x8 x11) 2) (hd4 2)) ((l_ct arg17) 2 ((Cs c arg2 harg2 arg3 harg3 arg9 harg9 arg12 harg12 arg17 arg18 x1 x2 x8 x11) 2) (hd4 2)) ((Cs c arg2 harg2 arg3 harg3 arg9 harg9 arg12 harg12 arg17 arg18 x1 x2 x8 x11) 2) from rfl).trans (by rw [ms_2, cs_2]; rfl)

theorem cs_4 : (Cs c arg2 harg2 arg3 harg3 arg9 harg9 arg12 harg12 arg17 arg18 x1 x2 x8 x11) 4 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 4 :=
  (show (Cs c arg2 harg2 arg3 harg3 arg9 harg9 arg12 harg12 arg17 arg18 x1 x2 x8 x11) 4 = ctStep (fun c h mp cp => ctNew ((b_k arg2 harg2 x1) c h) ((b_v arg3 harg3 x2) c h) (row4 (uAll (b_cu arg9 harg9 arg12 harg12 x8 x11) c ((b_g arg9 harg9 x8) c)) h) mp cp) 3 ((l_m arg18) 3 ((Ms c arg9 harg9 arg12 harg12 arg18 x8 x11) 3) (hd4 3)) ((l_ct arg17) 3 ((Cs c arg2 harg2 arg3 harg3 arg9 harg9 arg12 harg12 arg17 arg18 x1 x2 x8 x11) 3) (hd4 3)) ((Cs c arg2 harg2 arg3 harg3 arg9 harg9 arg12 harg12 arg17 arg18 x1 x2 x8 x11) 3) from rfl).trans (by rw [ms_3, cs_3]; rfl)

theorem cs_5 : (Cs c arg2 harg2 arg3 harg3 arg9 harg9 arg12 harg12 arg17 arg18 x1 x2 x8 x11) 5 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 5 :=
  (show (Cs c arg2 harg2 arg3 harg3 arg9 harg9 arg12 harg12 arg17 arg18 x1 x2 x8 x11) 5 = ctStep (fun c h mp cp => ctNew ((b_k arg2 harg2 x1) c h) ((b_v arg3 harg3 x2) c h) (row4 (uAll (b_cu arg9 harg9 arg12 harg12 x8 x11) c ((b_g arg9 harg9 x8) c)) h) mp cp) 4 ((l_m arg18) 4 ((Ms c arg9 harg9 arg12 harg12 arg18 x8 x11) 4) (hd4 4)) ((l_ct arg17) 4 ((Cs c arg2 harg2 arg3 harg3 arg9 harg9 arg12 harg12 arg17 arg18 x1 x2 x8 x11) 4) (hd4 4)) ((Cs c arg2 harg2 arg3 harg3 arg9 harg9 arg12 harg12 arg17 arg18 x1 x2 x8 x11) 4) from rfl).trans (by rw [ms_4, cs_4]; rfl)

theorem cs_6 : (Cs c arg2 harg2 arg3 harg3 arg9 harg9 arg12 harg12 arg17 arg18 x1 x2 x8 x11) 6 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 6 :=
  (show (Cs c arg2 harg2 arg3 harg3 arg9 harg9 arg12 harg12 arg17 arg18 x1 x2 x8 x11) 6 = ctStep (fun c h mp cp => ctNew ((b_k arg2 harg2 x1) c h) ((b_v arg3 harg3 x2) c h) (row4 (uAll (b_cu arg9 harg9 arg12 harg12 x8 x11) c ((b_g arg9 harg9 x8) c)) h) mp cp) 5 ((l_m arg18) 5 ((Ms c arg9 harg9 arg12 harg12 arg18 x8 x11) 5) (hd4 5)) ((l_ct arg17) 5 ((Cs c arg2 harg2 arg3 harg3 arg9 harg9 arg12 harg12 arg17 arg18 x1 x2 x8 x11) 5) (hd4 5)) ((Cs c arg2 harg2 arg3 harg3 arg9 harg9 arg12 harg12 arg17 arg18 x1 x2 x8 x11) 5) from rfl).trans (by rw [ms_5, cs_5]; rfl)

theorem cs_7 : (Cs c arg2 harg2 arg3 harg3 arg9 harg9 arg12 harg12 arg17 arg18 x1 x2 x8 x11) 7 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 7 :=
  (show (Cs c arg2 harg2 arg3 harg3 arg9 harg9 arg12 harg12 arg17 arg18 x1 x2 x8 x11) 7 = ctStep (fun c h mp cp => ctNew ((b_k arg2 harg2 x1) c h) ((b_v arg3 harg3 x2) c h) (row4 (uAll (b_cu arg9 harg9 arg12 harg12 x8 x11) c ((b_g arg9 harg9 x8) c)) h) mp cp) 6 ((l_m arg18) 6 ((Ms c arg9 harg9 arg12 harg12 arg18 x8 x11) 6) (hd4 6)) ((l_ct arg17) 6 ((Cs c arg2 harg2 arg3 harg3 arg9 harg9 arg12 harg12 arg17 arg18 x1 x2 x8 x11) 6) (hd4 6)) ((Cs c arg2 harg2 arg3 harg3 arg9 harg9 arg12 harg12 arg17 arg18 x1 x2 x8 x11) 6) from rfl).trans (by rw [ms_6, cs_6]; rfl)

theorem cs_8 : (Cs c arg2 harg2 arg3 harg3 arg9 harg9 arg12 harg12 arg17 arg18 x1 x2 x8 x11) 8 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 8 :=
  (show (Cs c arg2 harg2 arg3 harg3 arg9 harg9 arg12 harg12 arg17 arg18 x1 x2 x8 x11) 8 = ctStep (fun c h mp cp => ctNew ((b_k arg2 harg2 x1) c h) ((b_v arg3 harg3 x2) c h) (row4 (uAll (b_cu arg9 harg9 arg12 harg12 x8 x11) c ((b_g arg9 harg9 x8) c)) h) mp cp) 7 ((l_m arg18) 7 ((Ms c arg9 harg9 arg12 harg12 arg18 x8 x11) 7) (hd4 7)) ((l_ct arg17) 7 ((Cs c arg2 harg2 arg3 harg3 arg9 harg9 arg12 harg12 arg17 arg18 x1 x2 x8 x11) 7) (hd4 7)) ((Cs c arg2 harg2 arg3 harg3 arg9 harg9 arg12 harg12 arg17 arg18 x1 x2 x8 x11) 7) from rfl).trans (by rw [ms_7, cs_7]; rfl)

theorem cs_9 : (Cs c arg2 harg2 arg3 harg3 arg9 harg9 arg12 harg12 arg17 arg18 x1 x2 x8 x11) 9 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 9 :=
  (show (Cs c arg2 harg2 arg3 harg3 arg9 harg9 arg12 harg12 arg17 arg18 x1 x2 x8 x11) 9 = ctStep (fun c h mp cp => ctNew ((b_k arg2 harg2 x1) c h) ((b_v arg3 harg3 x2) c h) (row4 (uAll (b_cu arg9 harg9 arg12 harg12 x8 x11) c ((b_g arg9 harg9 x8) c)) h) mp cp) 8 ((l_m arg18) 8 ((Ms c arg9 harg9 arg12 harg12 arg18 x8 x11) 8) (hd4 8)) ((l_ct arg17) 8 ((Cs c arg2 harg2 arg3 harg3 arg9 harg9 arg12 harg12 arg17 arg18 x1 x2 x8 x11) 8) (hd4 8)) ((Cs c arg2 harg2 arg3 harg3 arg9 harg9 arg12 harg12 arg17 arg18 x1 x2 x8 x11) 8) from rfl).trans (by rw [ms_8, cs_8]; rfl)

theorem cs_10 : (Cs c arg2 harg2 arg3 harg3 arg9 harg9 arg12 harg12 arg17 arg18 x1 x2 x8 x11) 10 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 10 :=
  (show (Cs c arg2 harg2 arg3 harg3 arg9 harg9 arg12 harg12 arg17 arg18 x1 x2 x8 x11) 10 = ctStep (fun c h mp cp => ctNew ((b_k arg2 harg2 x1) c h) ((b_v arg3 harg3 x2) c h) (row4 (uAll (b_cu arg9 harg9 arg12 harg12 x8 x11) c ((b_g arg9 harg9 x8) c)) h) mp cp) 9 ((l_m arg18) 9 ((Ms c arg9 harg9 arg12 harg12 arg18 x8 x11) 9) (hd4 9)) ((l_ct arg17) 9 ((Cs c arg2 harg2 arg3 harg3 arg9 harg9 arg12 harg12 arg17 arg18 x1 x2 x8 x11) 9) (hd4 9)) ((Cs c arg2 harg2 arg3 harg3 arg9 harg9 arg12 harg12 arg17 arg18 x1 x2 x8 x11) 9) from rfl).trans (by rw [ms_9, cs_9]; rfl)

theorem cs_11 : (Cs c arg2 harg2 arg3 harg3 arg9 harg9 arg12 harg12 arg17 arg18 x1 x2 x8 x11) 11 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 11 :=
  (show (Cs c arg2 harg2 arg3 harg3 arg9 harg9 arg12 harg12 arg17 arg18 x1 x2 x8 x11) 11 = ctStep (fun c h mp cp => ctNew ((b_k arg2 harg2 x1) c h) ((b_v arg3 harg3 x2) c h) (row4 (uAll (b_cu arg9 harg9 arg12 harg12 x8 x11) c ((b_g arg9 harg9 x8) c)) h) mp cp) 10 ((l_m arg18) 10 ((Ms c arg9 harg9 arg12 harg12 arg18 x8 x11) 10) (hd4 10)) ((l_ct arg17) 10 ((Cs c arg2 harg2 arg3 harg3 arg9 harg9 arg12 harg12 arg17 arg18 x1 x2 x8 x11) 10) (hd4 10)) ((Cs c arg2 harg2 arg3 harg3 arg9 harg9 arg12 harg12 arg17 arg18 x1 x2 x8 x11) 10) from rfl).trans (by rw [ms_10, cs_10]; rfl)

theorem cs_12 : (Cs c arg2 harg2 arg3 harg3 arg9 harg9 arg12 harg12 arg17 arg18 x1 x2 x8 x11) 12 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 12 :=
  (show (Cs c arg2 harg2 arg3 harg3 arg9 harg9 arg12 harg12 arg17 arg18 x1 x2 x8 x11) 12 = ctStep (fun c h mp cp => ctNew ((b_k arg2 harg2 x1) c h) ((b_v arg3 harg3 x2) c h) (row4 (uAll (b_cu arg9 harg9 arg12 harg12 x8 x11) c ((b_g arg9 harg9 x8) c)) h) mp cp) 11 ((l_m arg18) 11 ((Ms c arg9 harg9 arg12 harg12 arg18 x8 x11) 11) (hd4 11)) ((l_ct arg17) 11 ((Cs c arg2 harg2 arg3 harg3 arg9 harg9 arg12 harg12 arg17 arg18 x1 x2 x8 x11) 11) (hd4 11)) ((Cs c arg2 harg2 arg3 harg3 arg9 harg9 arg12 harg12 arg17 arg18 x1 x2 x8 x11) 11) from rfl).trans (by rw [ms_11, cs_11]; rfl)

theorem cs_13 : (Cs c arg2 harg2 arg3 harg3 arg9 harg9 arg12 harg12 arg17 arg18 x1 x2 x8 x11) 13 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 13 :=
  (show (Cs c arg2 harg2 arg3 harg3 arg9 harg9 arg12 harg12 arg17 arg18 x1 x2 x8 x11) 13 = ctStep (fun c h mp cp => ctNew ((b_k arg2 harg2 x1) c h) ((b_v arg3 harg3 x2) c h) (row4 (uAll (b_cu arg9 harg9 arg12 harg12 x8 x11) c ((b_g arg9 harg9 x8) c)) h) mp cp) 12 ((l_m arg18) 12 ((Ms c arg9 harg9 arg12 harg12 arg18 x8 x11) 12) (hd4 12)) ((l_ct arg17) 12 ((Cs c arg2 harg2 arg3 harg3 arg9 harg9 arg12 harg12 arg17 arg18 x1 x2 x8 x11) 12) (hd4 12)) ((Cs c arg2 harg2 arg3 harg3 arg9 harg9 arg12 harg12 arg17 arg18 x1 x2 x8 x11) 12) from rfl).trans (by rw [ms_12, cs_12]; rfl)

theorem cs_14 : (Cs c arg2 harg2 arg3 harg3 arg9 harg9 arg12 harg12 arg17 arg18 x1 x2 x8 x11) 14 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 14 :=
  (show (Cs c arg2 harg2 arg3 harg3 arg9 harg9 arg12 harg12 arg17 arg18 x1 x2 x8 x11) 14 = ctStep (fun c h mp cp => ctNew ((b_k arg2 harg2 x1) c h) ((b_v arg3 harg3 x2) c h) (row4 (uAll (b_cu arg9 harg9 arg12 harg12 x8 x11) c ((b_g arg9 harg9 x8) c)) h) mp cp) 13 ((l_m arg18) 13 ((Ms c arg9 harg9 arg12 harg12 arg18 x8 x11) 13) (hd4 13)) ((l_ct arg17) 13 ((Cs c arg2 harg2 arg3 harg3 arg9 harg9 arg12 harg12 arg17 arg18 x1 x2 x8 x11) 13) (hd4 13)) ((Cs c arg2 harg2 arg3 harg3 arg9 harg9 arg12 harg12 arg17 arg18 x1 x2 x8 x11) 13) from rfl).trans (by rw [ms_13, cs_13]; rfl)

theorem cs_15 : (Cs c arg2 harg2 arg3 harg3 arg9 harg9 arg12 harg12 arg17 arg18 x1 x2 x8 x11) 15 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 15 :=
  (show (Cs c arg2 harg2 arg3 harg3 arg9 harg9 arg12 harg12 arg17 arg18 x1 x2 x8 x11) 15 = ctStep (fun c h mp cp => ctNew ((b_k arg2 harg2 x1) c h) ((b_v arg3 harg3 x2) c h) (row4 (uAll (b_cu arg9 harg9 arg12 harg12 x8 x11) c ((b_g arg9 harg9 x8) c)) h) mp cp) 14 ((l_m arg18) 14 ((Ms c arg9 harg9 arg12 harg12 arg18 x8 x11) 14) (hd4 14)) ((l_ct arg17) 14 ((Cs c arg2 harg2 arg3 harg3 arg9 harg9 arg12 harg12 arg17 arg18 x1 x2 x8 x11) 14) (hd4 14)) ((Cs c arg2 harg2 arg3 harg3 arg9 harg9 arg12 harg12 arg17 arg18 x1 x2 x8 x11) 14) from rfl).trans (by rw [ms_14, cs_14]; rfl)

theorem ct_run : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14).2.1 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 16 := by
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14).2.1 = ctStep (fun c h mp cp => ctNew ((b_k arg2 harg2 x1) c h) ((b_v arg3 harg3 x2) c h) (row4 (uAll (b_cu arg9 harg9 arg12 harg12 x8 x11) c ((b_g arg9 harg9 x8) c)) h) mp cp) 15 ((l_m arg18) 15 ((Ms c arg9 harg9 arg12 harg12 arg18 x8 x11) 15) (hd4 15)) ((l_ct arg17) 15 ((Cs c arg2 harg2 arg3 harg3 arg9 harg9 arg12 harg12 arg17 arg18 x1 x2 x8 x11) 15) (hd4 15)) ((Cs c arg2 harg2 arg3 harg3 arg9 harg9 arg12 harg12 arg17 arg18 x1 x2 x8 x11) 15) := by
    unfold kernelRun0_A
    rfl
  rw [e, ms_15, cs_15]
  rfl

theorem ct_pieces : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14).2.1 =
    ctL (blkOf x0 x1 x2 x3 x4 x5 x6 x7 x8 x9 x10 x11) ldZ mI ctI 16 := by
  rw [ct_run, ← blk_eq arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11, ← lds_eq (F := F) arg17 arg18 arg19]
  rfl

def Hs : Nat → List (View.Piece (Elt F) S2x512x128 .f32)
  | 0 => kernelRun0_A.sl.HS2_1
  | 1 => kernelRun0_A.sl.HS2_9 c arg6 harg6 arg7 harg7 arg9 harg9 arg12 harg12 arg19 x5 x6 x8 x11
  | 2 => kernelRun0_A.sl.HS2_17 c arg6 harg6 arg7 harg7 arg9 harg9 arg12 harg12 arg19 x5 x6 x8 x11
  | 3 => kernelRun0_A.sl.HS2_25 c arg6 harg6 arg7 harg7 arg9 harg9 arg12 harg12 arg19 x5 x6 x8 x11
  | 4 => kernelRun0_A.sl.HS2_33 c arg6 harg6 arg7 harg7 arg9 harg9 arg12 harg12 arg19 x5 x6 x8 x11
  | 5 => kernelRun0_A.sl.HS2_41 c arg6 harg6 arg7 harg7 arg9 harg9 arg12 harg12 arg19 x5 x6 x8 x11
  | 6 => kernelRun0_A.sl.HS2_49 c arg6 harg6 arg7 harg7 arg9 harg9 arg12 harg12 arg19 x5 x6 x8 x11
  | 7 => kernelRun0_A.sl.HS2_57 c arg6 harg6 arg7 harg7 arg9 harg9 arg12 harg12 arg19 x5 x6 x8 x11
  | _ => []

theorem hs_0 : (Hs c arg6 harg6 arg7 harg7 arg9 harg9 arg12 harg12 arg19 x5 x6 x8 x11) 0 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19) hI) 0 := by
  rfl

theorem hs_1 : (Hs c arg6 harg6 arg7 harg7 arg9 harg9 arg12 harg12 arg19 x5 x6 x8 x11) 1 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19) hI) 1 :=
  (show (Hs c arg6 harg6 arg7 harg7 arg9 harg9 arg12 harg12 arg19 x5 x6 x8 x11) 1 = hStep (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) 0 ((l_h arg19) 0 ((Hs c arg6 harg6 arg7 harg7 arg9 harg9 arg12 harg12 arg19 x5 x6 x8 x11) 0) (gr2 0)) ((Hs c arg6 harg6 arg7 harg7 arg9 harg9 arg12 harg12 arg19 x5 x6 x8 x11) 0) from rfl).trans (by rw [hs_0]; rfl)

theorem hs_2 : (Hs c arg6 harg6 arg7 harg7 arg9 harg9 arg12 harg12 arg19 x5 x6 x8 x11) 2 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19) hI) 2 :=
  (show (Hs c arg6 harg6 arg7 harg7 arg9 harg9 arg12 harg12 arg19 x5 x6 x8 x11) 2 = hStep (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) 1 ((l_h arg19) 1 ((Hs c arg6 harg6 arg7 harg7 arg9 harg9 arg12 harg12 arg19 x5 x6 x8 x11) 1) (gr2 1)) ((Hs c arg6 harg6 arg7 harg7 arg9 harg9 arg12 harg12 arg19 x5 x6 x8 x11) 1) from rfl).trans (by rw [hs_1]; rfl)

theorem hs_3 : (Hs c arg6 harg6 arg7 harg7 arg9 harg9 arg12 harg12 arg19 x5 x6 x8 x11) 3 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19) hI) 3 :=
  (show (Hs c arg6 harg6 arg7 harg7 arg9 harg9 arg12 harg12 arg19 x5 x6 x8 x11) 3 = hStep (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) 2 ((l_h arg19) 2 ((Hs c arg6 harg6 arg7 harg7 arg9 harg9 arg12 harg12 arg19 x5 x6 x8 x11) 2) (gr2 2)) ((Hs c arg6 harg6 arg7 harg7 arg9 harg9 arg12 harg12 arg19 x5 x6 x8 x11) 2) from rfl).trans (by rw [hs_2]; rfl)

theorem hs_4 : (Hs c arg6 harg6 arg7 harg7 arg9 harg9 arg12 harg12 arg19 x5 x6 x8 x11) 4 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19) hI) 4 :=
  (show (Hs c arg6 harg6 arg7 harg7 arg9 harg9 arg12 harg12 arg19 x5 x6 x8 x11) 4 = hStep (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) 3 ((l_h arg19) 3 ((Hs c arg6 harg6 arg7 harg7 arg9 harg9 arg12 harg12 arg19 x5 x6 x8 x11) 3) (gr2 3)) ((Hs c arg6 harg6 arg7 harg7 arg9 harg9 arg12 harg12 arg19 x5 x6 x8 x11) 3) from rfl).trans (by rw [hs_3]; rfl)

theorem hs_5 : (Hs c arg6 harg6 arg7 harg7 arg9 harg9 arg12 harg12 arg19 x5 x6 x8 x11) 5 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19) hI) 5 :=
  (show (Hs c arg6 harg6 arg7 harg7 arg9 harg9 arg12 harg12 arg19 x5 x6 x8 x11) 5 = hStep (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) 4 ((l_h arg19) 4 ((Hs c arg6 harg6 arg7 harg7 arg9 harg9 arg12 harg12 arg19 x5 x6 x8 x11) 4) (gr2 4)) ((Hs c arg6 harg6 arg7 harg7 arg9 harg9 arg12 harg12 arg19 x5 x6 x8 x11) 4) from rfl).trans (by rw [hs_4]; rfl)

theorem hs_6 : (Hs c arg6 harg6 arg7 harg7 arg9 harg9 arg12 harg12 arg19 x5 x6 x8 x11) 6 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19) hI) 6 :=
  (show (Hs c arg6 harg6 arg7 harg7 arg9 harg9 arg12 harg12 arg19 x5 x6 x8 x11) 6 = hStep (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) 5 ((l_h arg19) 5 ((Hs c arg6 harg6 arg7 harg7 arg9 harg9 arg12 harg12 arg19 x5 x6 x8 x11) 5) (gr2 5)) ((Hs c arg6 harg6 arg7 harg7 arg9 harg9 arg12 harg12 arg19 x5 x6 x8 x11) 5) from rfl).trans (by rw [hs_5]; rfl)

theorem hs_7 : (Hs c arg6 harg6 arg7 harg7 arg9 harg9 arg12 harg12 arg19 x5 x6 x8 x11) 7 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19) hI) 7 :=
  (show (Hs c arg6 harg6 arg7 harg7 arg9 harg9 arg12 harg12 arg19 x5 x6 x8 x11) 7 = hStep (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) 6 ((l_h arg19) 6 ((Hs c arg6 harg6 arg7 harg7 arg9 harg9 arg12 harg12 arg19 x5 x6 x8 x11) 6) (gr2 6)) ((Hs c arg6 harg6 arg7 harg7 arg9 harg9 arg12 harg12 arg19 x5 x6 x8 x11) 6) from rfl).trans (by rw [hs_6]; rfl)

theorem h_run : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14).2.2.2.1 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19) hI) 8 := by
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14).2.2.2.1 = hStep (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) 7 ((l_h arg19) 7 ((Hs c arg6 harg6 arg7 harg7 arg9 harg9 arg12 harg12 arg19 x5 x6 x8 x11) 7) (gr2 7)) ((Hs c arg6 harg6 arg7 harg7 arg9 harg9 arg12 harg12 arg19 x5 x6 x8 x11) 7) := by
    unfold kernelRun0_A
    rfl
  rw [e, hs_7]
  rfl

theorem h_pieces : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14).2.2.2.1 =
    hL (blkOf x0 x1 x2 x3 x4 x5 x6 x7 x8 x9 x10 x11) ldZ hI 8 := by
  rw [h_run, ← blk_eq arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11, ← lds_eq (F := F) arg17 arg18 arg19]
  rfl

theorem ms_all (n : Nat) (hn : n < 16) : (fun n => (l_m arg18) n ((Ms c arg9 harg9 arg12 harg12 arg18 x8 x11) n) (hd4 n)) n = (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) n := by
  interval_cases n
  · simp only [ms_0]
  · simp only [ms_1]
  · simp only [ms_2]
  · simp only [ms_3]
  · simp only [ms_4]
  · simp only [ms_5]
  · simp only [ms_6]
  · simp only [ms_7]
  · simp only [ms_8]
  · simp only [ms_9]
  · simp only [ms_10]
  · simp only [ms_11]
  · simp only [ms_12]
  · simp only [ms_13]
  · simp only [ms_14]
  · simp only [ms_15]

theorem cs_all (n : Nat) (hn : n < 16) : (fun n => (l_ct arg17) n ((Cs c arg2 harg2 arg3 harg3 arg9 harg9 arg12 harg12 arg17 arg18 x1 x2 x8 x11) n) (hd4 n)) n = (fun n => (l_ct arg17) n ((ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) n) (hd4 n)) n := by
  interval_cases n
  · simp only [cs_0]
  · simp only [cs_1]
  · simp only [cs_2]
  · simp only [cs_3]
  · simp only [cs_4]
  · simp only [cs_5]
  · simp only [cs_6]
  · simp only [cs_7]
  · simp only [cs_8]
  · simp only [cs_9]
  · simp only [cs_10]
  · simp only [cs_11]
  · simp only [cs_12]
  · simp only [cs_13]
  · simp only [cs_14]
  · simp only [cs_15]

theorem hs_all (n : Nat) (hn : n < 8) : (fun n => (l_h arg19) n ((Hs c arg6 harg6 arg7 harg7 arg9 harg9 arg12 harg12 arg19 x5 x6 x8 x11) n) (gr2 n)) n = (fun n => (l_h arg19) n ((hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19) hI) n) (gr2 n)) n := by
  interval_cases n
  · simp only [hs_0]
  · simp only [hs_1]
  · simp only [hs_2]
  · simp only [hs_3]
  · simp only [hs_4]
  · simp only [hs_5]
  · simp only [hs_6]
  · simp only [hs_7]

def Xs : Nat → List (View.Piece (Elt F) S2x4x2048x128 .bf16)
  | 0 => kernelRun0_A.sl.HS3_1
  | 1 => kernelRun0_A.sl.HS3_7 c i arg1 harg1 arg2 harg2 arg3 harg3 arg4 harg4 arg5 harg5 arg6 harg6 arg7 harg7 arg8 harg8 arg9 harg9 arg10 harg10 arg11 harg11 arg12 harg12 arg17 arg18 arg19 hl19 hl20 hl21 hl22 hl23 hl24 x0 x1 x2 x3 x4 x5 x6 x7 x8 x9 x10 x11
  | 2 => kernelRun0_A.sl.HS3_13 c i arg1 harg1 arg2 harg2 arg3 harg3 arg4 harg4 arg5 harg5 arg6 harg6 arg7 harg7 arg8 harg8 arg9 harg9 arg10 harg10 arg11 harg11 arg12 harg12 arg17 arg18 arg19 hl1 hl2 hl3 hl4 hl5 hl19 hl20 hl21 hl22 hl23 hl24 hl25 x0 x1 x2 x3 x4 x5 x6 x7 x8 x9 x10 x11
  | 3 => kernelRun0_A.sl.HS3_19 c i arg1 harg1 arg2 harg2 arg3 harg3 arg4 harg4 arg5 harg5 arg6 harg6 arg7 harg7 arg8 harg8 arg9 harg9 arg10 harg10 arg11 harg11 arg12 harg12 arg17 arg18 arg19 hl1 hl2 hl3 hl4 hl5 hl6 hl7 hl8 hl9 hl10 hl12 hl19 hl20 hl21 hl22 hl23 hl24 hl25 x0 x1 x2 x3 x4 x5 x6 x7 x8 x9 x10 x11
  | _ => []

theorem xs_1 : (Xs c i arg1 harg1 arg2 harg2 arg3 harg3 arg4 harg4 arg5 harg5 arg6 harg6 arg7 harg7 arg8 harg8 arg9 harg9 arg10 harg10 arg11 harg11 arg12 harg12 arg17 arg18 arg19 hl1 hl2 hl3 hl4 hl5 hl6 hl7 hl8 hl9 hl10 hl12 hl19 hl20 hl21 hl22 hl23 hl24 hl25 x0 x1 x2 x3 x4 x5 x6 x7 x8 x9 x10 x11) 1 = (mixG (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18) n ((Ms c arg9 harg9 arg12 harg12 arg18 x8 x11) n) (hd4 n)) (fun n => (l_ct arg17) n ((Cs c arg2 harg2 arg3 harg3 arg9 harg9 arg12 harg12 arg17 arg18 x1 x2 x8 x11) n) (hd4 n)) (fun n => (l_h arg19) n ((Hs c arg6 harg6 arg7 harg7 arg9 harg9 arg12 harg12 arg19 x5 x6 x8 x11) n) (gr2 n)) [⟨Rect.unit ![0, 0, 0, 0] S2x4x2048x128.size (inb4 (by omega) (by omega) (by omega) (by omega)), k0_pay2⟩] 0) 1 :=
  (show (Xs c i arg1 harg1 arg2 harg2 arg3 harg3 arg4 harg4 arg5 harg5 arg6 harg6 arg7 harg7 arg8 harg8 arg9 harg9 arg10 harg10 arg11 harg11 arg12 harg12 arg17 arg18 arg19 hl1 hl2 hl3 hl4 hl5 hl6 hl7 hl8 hl9 hl10 hl12 hl19 hl20 hl21 hl22 hl23 hl24 hl25 x0 x1 x2 x3 x4 x5 x6 x7 x8 x9 x10 x11) 1 = mixStep (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18) n ((Ms c arg9 harg9 arg12 harg12 arg18 x8 x11) n) (hd4 n)) (fun n => (l_ct arg17) n ((Cs c arg2 harg2 arg3 harg3 arg9 harg9 arg12 harg12 arg17 arg18 x1 x2 x8 x11) n) (hd4 n)) (fun n => (l_h arg19) n ((Hs c arg6 harg6 arg7 harg7 arg9 harg9 arg12 harg12 arg19 x5 x6 x8 x11) n) (gr2 n)) 0 0 ((Xs c i arg1 harg1 arg2 harg2 arg3 harg3 arg4 harg4 arg5 harg5 arg6 harg6 arg7 harg7 arg8 harg8 arg9 harg9 arg10 harg10 arg11 harg11 arg12 harg12 arg17 arg18 arg19 hl1 hl2 hl3 hl4 hl5 hl6 hl7 hl8 hl9 hl10 hl12 hl19 hl20 hl21 hl22 hl23 hl24 hl25 x0 x1 x2 x3 x4 x5 x6 x7 x8 x9 x10 x11) 0) from rfl).trans (by rfl)

theorem xs_2 : (Xs c i arg1 harg1 arg2 harg2 arg3 harg3 arg4 harg4 arg5 harg5 arg6 harg6 arg7 harg7 arg8 harg8 arg9 harg9 arg10 harg10 arg11 harg11 arg12 harg12 arg17 arg18 arg19 hl1 hl2 hl3 hl4 hl5 hl6 hl7 hl8 hl9 hl10 hl12 hl19 hl20 hl21 hl22 hl23 hl24 hl25 x0 x1 x2 x3 x4 x5 x6 x7 x8 x9 x10 x11) 2 = (mixG (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18) n ((Ms c arg9 harg9 arg12 harg12 arg18 x8 x11) n) (hd4 n)) (fun n => (l_ct arg17) n ((Cs c arg2 harg2 arg3 harg3 arg9 harg9 arg12 harg12 arg17 arg18 x1 x2 x8 x11) n) (hd4 n)) (fun n => (l_h arg19) n ((Hs c arg6 harg6 arg7 harg7 arg9 harg9 arg12 harg12 arg19 x5 x6 x8 x11) n) (gr2 n)) [⟨Rect.unit ![0, 0, 0, 0] S2x4x2048x128.size (inb4 (by omega) (by omega) (by omega) (by omega)), k0_pay2⟩] 0) 2 :=
  (show (Xs c i arg1 harg1 arg2 harg2 arg3 harg3 arg4 harg4 arg5 harg5 arg6 harg6 arg7 harg7 arg8 harg8 arg9 harg9 arg10 harg10 arg11 harg11 arg12 harg12 arg17 arg18 arg19 hl1 hl2 hl3 hl4 hl5 hl6 hl7 hl8 hl9 hl10 hl12 hl19 hl20 hl21 hl22 hl23 hl24 hl25 x0 x1 x2 x3 x4 x5 x6 x7 x8 x9 x10 x11) 2 = mixStep (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18) n ((Ms c arg9 harg9 arg12 harg12 arg18 x8 x11) n) (hd4 n)) (fun n => (l_ct arg17) n ((Cs c arg2 harg2 arg3 harg3 arg9 harg9 arg12 harg12 arg17 arg18 x1 x2 x8 x11) n) (hd4 n)) (fun n => (l_h arg19) n ((Hs c arg6 harg6 arg7 harg7 arg9 harg9 arg12 harg12 arg19 x5 x6 x8 x11) n) (gr2 n)) 0 1 ((Xs c i arg1 harg1 arg2 harg2 arg3 harg3 arg4 harg4 arg5 harg5 arg6 harg6 arg7 harg7 arg8 harg8 arg9 harg9 arg10 harg10 arg11 harg11 arg12 harg12 arg17 arg18 arg19 hl1 hl2 hl3 hl4 hl5 hl6 hl7 hl8 hl9 hl10 hl12 hl19 hl20 hl21 hl22 hl23 hl24 hl25 x0 x1 x2 x3 x4 x5 x6 x7 x8 x9 x10 x11) 1) from rfl).trans (by rw [xs_1]; rfl)

theorem xs_3 : (Xs c i arg1 harg1 arg2 harg2 arg3 harg3 arg4 harg4 arg5 harg5 arg6 harg6 arg7 harg7 arg8 harg8 arg9 harg9 arg10 harg10 arg11 harg11 arg12 harg12 arg17 arg18 arg19 hl1 hl2 hl3 hl4 hl5 hl6 hl7 hl8 hl9 hl10 hl12 hl19 hl20 hl21 hl22 hl23 hl24 hl25 x0 x1 x2 x3 x4 x5 x6 x7 x8 x9 x10 x11) 3 = (mixG (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18) n ((Ms c arg9 harg9 arg12 harg12 arg18 x8 x11) n) (hd4 n)) (fun n => (l_ct arg17) n ((Cs c arg2 harg2 arg3 harg3 arg9 harg9 arg12 harg12 arg17 arg18 x1 x2 x8 x11) n) (hd4 n)) (fun n => (l_h arg19) n ((Hs c arg6 harg6 arg7 harg7 arg9 harg9 arg12 harg12 arg19 x5 x6 x8 x11) n) (gr2 n)) [⟨Rect.unit ![0, 0, 0, 0] S2x4x2048x128.size (inb4 (by omega) (by omega) (by omega) (by omega)), k0_pay2⟩] 0) 3 :=
  (show (Xs c i arg1 harg1 arg2 harg2 arg3 harg3 arg4 harg4 arg5 harg5 arg6 harg6 arg7 harg7 arg8 harg8 arg9 harg9 arg10 harg10 arg11 harg11 arg12 harg12 arg17 arg18 arg19 hl1 hl2 hl3 hl4 hl5 hl6 hl7 hl8 hl9 hl10 hl12 hl19 hl20 hl21 hl22 hl23 hl24 hl25 x0 x1 x2 x3 x4 x5 x6 x7 x8 x9 x10 x11) 3 = mixStep (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18) n ((Ms c arg9 harg9 arg12 harg12 arg18 x8 x11) n) (hd4 n)) (fun n => (l_ct arg17) n ((Cs c arg2 harg2 arg3 harg3 arg9 harg9 arg12 harg12 arg17 arg18 x1 x2 x8 x11) n) (hd4 n)) (fun n => (l_h arg19) n ((Hs c arg6 harg6 arg7 harg7 arg9 harg9 arg12 harg12 arg19 x5 x6 x8 x11) n) (gr2 n)) 0 2 ((Xs c i arg1 harg1 arg2 harg2 arg3 harg3 arg4 harg4 arg5 harg5 arg6 harg6 arg7 harg7 arg8 harg8 arg9 harg9 arg10 harg10 arg11 harg11 arg12 harg12 arg17 arg18 arg19 hl1 hl2 hl3 hl4 hl5 hl6 hl7 hl8 hl9 hl10 hl12 hl19 hl20 hl21 hl22 hl23 hl24 hl25 x0 x1 x2 x3 x4 x5 x6 x7 x8 x9 x10 x11) 2) from rfl).trans (by rw [xs_2]; rfl)

theorem mix_run : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14).2.2.2.2.1 = (mixG (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (fun n => (l_ct arg17) n ((ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) n) (hd4 n)) (fun n => (l_h arg19) n ((hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19) hI) n) (gr2 n)) [⟨Rect.unit ![0, 0, 0, 0] S2x4x2048x128.size (inb4 (by omega) (by omega) (by omega) (by omega)), k0_pay2⟩] 0) 4 := by
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14).2.2.2.2.1 = mixStep (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18) n ((Ms c arg9 harg9 arg12 harg12 arg18 x8 x11) n) (hd4 n)) (fun n => (l_ct arg17) n ((Cs c arg2 harg2 arg3 harg3 arg9 harg9 arg12 harg12 arg17 arg18 x1 x2 x8 x11) n) (hd4 n)) (fun n => (l_h arg19) n ((Hs c arg6 harg6 arg7 harg7 arg9 harg9 arg12 harg12 arg19 x5 x6 x8 x11) n) (gr2 n)) 0 3 ((Xs c i arg1 harg1 arg2 harg2 arg3 harg3 arg4 harg4 arg5 harg5 arg6 harg6 arg7 harg7 arg8 harg8 arg9 harg9 arg10 harg10 arg11 harg11 arg12 harg12 arg17 arg18 arg19 hl1 hl2 hl3 hl4 hl5 hl6 hl7 hl8 hl9 hl10 hl12 hl19 hl20 hl21 hl22 hl23 hl24 hl25 x0 x1 x2 x3 x4 x5 x6 x7 x8 x9 x10 x11) 3) := by
    unfold kernelRun0_A
    rfl
  rw [e, xs_3]
  refine mixG_congr ?_ ?_ ?_ 4 (by omega)
  · apply ms_all
  · apply cs_all
  · apply hs_all

theorem mix_pieces : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14).2.2.2.2.1 =
    mixL (blkOf x0 x1 x2 x3 x4 x5 x6 x7 x8 x9 x10 x11) ldZ mI ctI hI [⟨Rect.unit ![0, 0, 0, 0] S2x4x2048x128.size (inb4 (by omega) (by omega) (by omega) (by omega)), k0_pay2⟩] 0 4 := by
  rw [mix_run, ← blk_eq arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11, ← lds_eq (F := F) arg17 arg18 arg19]
  rfl

end Cert.KernelIdeal.CaseA

end
-- ==== Proof.CaseB.lean ====
/- Case B of the body: the pieces it leaves are those of `Pieces`, over the blocks of its operands' windows and what the call before left in the carried buffers. -/
module

public import proofs.«01_k».proof.Proof.Pieces
public import proofs.«01_k».proof.Proof.Gen.KernelIdeal.Frame.RunB

@[expose] public section

set_option maxRecDepth 16384

noncomputable section

namespace Cert.KernelIdeal.CaseB

open Idealize.ShloMosaic Idealize.ShloMosaic.TcCoe Idealize.SL.Sem Cert.KernelIdeal Cert.KernelIdeal.Gen Cert.KernelIdeal.Step

variable {F : FTy → Type} [FloatOps F] [Named F]

variable (c : Dev nD) (i : grid0.Coords) (arg1 : Memref sig .tc .vmem S4x512x128 .bf16) (harg1 : arg1.IsWhole) (arg2 : Memref sig .tc .vmem S512x512 .bf16) (harg2 : arg2.IsWhole) (arg3 : Memref sig .tc .vmem S4x1024x128 .bf16) (harg3 : arg3.IsWhole) (arg4 : Memref sig .tc .vmem S4x1024x128 .bf16) (harg4 : arg4.IsWhole) (arg5 : Memref sig .tc .vmem S4x1024x128 .bf16) (harg5 : arg5.IsWhole) (arg6 : Memref sig .tc .vmem S4x1024x128 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S4x32x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S16x128 .f32) (harg12 : arg12.IsWhole) (arg13 : Memref sig .tc .vmem S512x1024 .f32) (harg13 : arg13.IsWhole) (arg14 : Memref sig .tc .vmem S2048x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S4x272x128 .f32) (harg17 : arg17.IsWhole) (arg18 : Memref sig .tc .vmem S4x1x128 .f32) (harg18 : arg18.IsWhole) (arg19 : Memref sig .tc .vmem S2x512x128 .f32) (harg19 : arg19.IsWhole) (arg20 : Memref sig .tc .vmem S2x4x2048x128 .bf16) (harg20 : arg20.IsWhole) (arg21 : Memref sig .tc .vmem S512x2048 .bf16) (harg21 : arg21.IsWhole) (arg22 : Memref sig .tc .vmem S512x1024 .f32) (harg22 : arg22.IsWhole) (hc0 : ¬cond0_0 i) (hc1 : ¬cond0_1 i) (hc2 : cond0_2 i) (hl0 : k0_off1 i = ![0, 0, 0, 0]) (hl1 : k0_off10 i = ![1, 1, 256, 0]) (hl2 : k0_off11 i = ![1, 1, 512, 0]) (hl3 : k0_off12 i = ![1, 1, 1024, 0]) (hl4 : k0_off13 i = ![1, 1, 768, 0]) (hl5 : k0_off14 i = ![1, 1, 1536, 0]) (hl6 : k0_off15 i = ![1, 2, 0, 0]) (hl7 : k0_off16 i = ![1, 2, 256, 0]) (hl8 : k0_off17 i = ![1, 2, 512, 0]) (hl9 : k0_off18 i = ![1, 2, 1024, 0]) (hl10 : k0_off19 i = ![1, 2, 768, 0]) (hl11 : k0_off2 i = ![1, 0, 0, 0]) (hl12 : k0_off20 i = ![1, 2, 1536, 0]) (hl13 : k0_off21 i = ![1, 3, 0, 0]) (hl14 : k0_off22 i = ![1, 3, 256, 0]) (hl15 : k0_off23 i = ![1, 3, 512, 0]) (hl16 : k0_off24 i = ![1, 3, 1024, 0]) (hl17 : k0_off25 i = ![1, 3, 768, 0]) (hl18 : k0_off26 i = ![1, 3, 1536, 0]) (hl19 : k0_off3 i = ![1, 0, 0, 0]) (hl20 : k0_off4 i = ![1, 0, 256, 0]) (hl21 : k0_off5 i = ![1, 0, 512, 0]) (hl22 : k0_off6 i = ![1, 0, 1024, 0]) (hl23 : k0_off7 i = ![1, 0, 768, 0]) (hl24 : k0_off8 i = ![1, 0, 1536, 0]) (hl25 : k0_off9 i = ![1, 1, 0, 0])
    (x0 : Vec F S4x512x128 .bf16) (x1 : Vec F S512x512 .bf16) (x2 : Vec F S4x1024x128 .bf16) (x3 : Vec F S4x1024x128 .bf16) (x4 : Vec F S4x1024x128 .bf16) (x5 : Vec F S4x1024x128 .bf16) (x6 : Vec F S512x256 .bf16) (x7 : Vec F S512x256 .bf16) (x8 : Vec F S4x32x128 .f32) (x9 : Vec F S1024x128 .f32) (x10 : Vec F S1024x128 .f32) (x11 : Vec F S16x128 .f32) (x12 : Vec F S512x1024 .f32) (x13 : Vec F S2048x1024 .bf16) (x14 : Vec F S1x1024 .f32) (xs0 : Vec F S4x272x128 .f32) (xs1 : Vec F S4x1x128 .f32) (xs2 : Vec F S2x512x128 .f32) (xs3 : Vec F S2x4x2048x128 .bf16)

def b_q : Fin 4 → Fin 4 → FVec F S1x128x128 .bf16 := fun c h => View.readAt (Elt F) arg1.view (Rect.unit ![c.val, 128 * h.val, 0] S1x128x128.size (inb3 (by omega) (by omega) (by omega)) : Rect S4x512x128).toLoadRect (harg1.unread x0)
def b_k : Fin 4 → Fin 4 → FVec F S128x128 .bf16 := fun c h => View.readAt (Elt F) arg2.view (Rect.unit ![128 * c.val, 128 * h.val] S128x128.size (inb2 (by omega) (by omega)) : Rect S512x512).toLoadRect (harg2.unread x1)
def b_v : Fin 4 → Fin 4 → FVec F S1x256x128 .bf16 := fun c h => View.readAt (Elt F) arg3.view (Rect.unit ![c.val, 256 * h.val, 0] S1x256x128.size (inb3 (by omega) (by omega) (by omega)) : Rect S4x1024x128).toLoadRect (harg3.unread x2)
def b_o : Fin 4 → Fin 4 → FVec F S1x256x128 .bf16 := fun c h => View.readAt (Elt F) arg4.view (Rect.unit ![c.val, 256 * h.val, 0] S1x256x128.size (inb3 (by omega) (by omega) (by omega)) : Rect S4x1024x128).toLoadRect (harg4.unread x3)
def b_z : Fin 4 → Fin 2 → Fin 8 → FVec F S1x64x128 .bf16 := fun c g r => View.readAt (Elt F) arg5.view (Rect.unit ![c.val, 64 * (8 * g.val + r.val), 0] S1x64x128.size (inb3 (by omega) (by omega) (by omega)) : Rect S4x1024x128).toLoadRect (harg5.unread x4)
def b_x : Fin 4 → Fin 2 → Fin 8 → FVec F S1x64x128 .bf16 := fun c g r => View.readAt (Elt F) arg6.view (Rect.unit ![c.val, 64 * (8 * g.val + r.val), 0] S1x64x128.size (inb3 (by omega) (by omega) (by omega)) : Rect S4x1024x128).toLoadRect (harg6.unread x5)
def b_b : Fin 4 → Fin 2 → FVec F S128x128 .bf16 := fun c g => View.readAt (Elt F) arg7.view (Rect.unit ![128 * c.val, 128 * g.val] S128x128.size (inb2 (by omega) (by omega)) : Rect S512x256).toLoadRect (harg7.unread x6)
def b_c : Fin 4 → Fin 2 → FVec F S128x128 .bf16 := fun c g => View.readAt (Elt F) arg8.view (Rect.unit ![128 * c.val, 128 * g.val] S128x128.size (inb2 (by omega) (by omega)) : Rect S512x256).toLoadRect (harg8.unread x7)
def b_g : Fin 4 → FVec F S1x32x128 .f32 := fun c => View.readAt (Elt F) arg9.view (Rect.unit ![c.val, 0, 0] S1x32x128.size (inb3 (by omega) (by omega) (by omega)) : Rect S4x32x128).toLoadRect (harg9.unread x8)
def b_nw : Fin 2 → FVec F S512x128 .f32 := fun g => View.readAt (Elt F) arg10.view (Rect.unit ![512 * g.val, 0] S512x128.size (inb2 (by omega) (by omega)) : Rect S1024x128).toLoadRect (harg10.unread x9)
def b_ds : Fin 2 → Fin 8 → FVec F S64x128 .f32 := fun g r => View.readAt (Elt F) arg11.view (Rect.unit ![64 * (8 * g.val + r.val), 0] S64x128.size (inb2 (by omega) (by omega)) : Rect S1024x128).toLoadRect (harg11.unread x10)
def b_al : FVec F S16x128 .f32 := View.readAt (Elt F) arg12.view (Rect.unit ![0, 0] S16x128.size (inb2 (by omega) (by omega)) : Rect S16x128).toLoadRect (harg12.unread x11)
def b_cu : FVec F S128x128 .f32 := cum (b_al arg12 harg12 x11) (b_g arg9 harg9 x8)

def l_m : Nat → List (View.Piece (Elt F) S4x1x128 .f32) → Fin 4 → FVec F S1x1x128 .f32 := fun n L h => if n < 4 then View.readAt (Elt F) arg18.view (r18 h).toLoadRect (harg18.unread xs1) else arg18.view.readCov L (r18 h).toLoadRect
def l_ct : Nat → List (View.Piece (Elt F) S4x272x128 .f32) → Fin 4 → FVec F S1x272x128 .f32 := fun n L h => if n < 4 then View.readAt (Elt F) arg17.view (r17 h).toLoadRect (harg17.unread xs0) else arg17.view.readCov L (r17 h).toLoadRect
def l_h : Nat → List (View.Piece (Elt F) S2x512x128 .f32) → Fin 2 → FVec F S1x512x128 .f32 := fun n L g => if n < 2 then View.readAt (Elt F) arg19.view (r19g g).toLoadRect (harg19.unread xs2) else arg19.view.readCov L (r19g g).toLoadRect

def blk : Blk F := ⟨(b_q arg1 harg1 x0), (b_k arg2 harg2 x1), (b_v arg3 harg3 x2), (b_o arg4 harg4 x3), (b_z arg5 harg5 x4), (b_x arg6 harg6 x5), (b_b arg7 harg7 x6), (b_c arg8 harg8 x7), (b_g arg9 harg9 x8), (b_nw arg10 harg10 x9), (b_ds arg11 harg11 x10), (b_al arg12 harg12 x11)⟩

def lds : Lds F := ⟨(l_m arg18 harg18 xs1), (l_ct arg17 harg17 xs0), (l_h arg19 harg19 xs2)⟩

theorem blk_eq : blk arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 = blkOf x0 x1 x2 x3 x4 x5 x6 x7 x8 x9 x10 x11 := by
  unfold blk blkOf b_q b_k b_v b_o b_z b_x b_b b_c b_g b_nw b_ds b_al
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]

theorem lds_eq : lds arg17 harg17 arg18 harg18 arg19 harg19 xs0 xs1 xs2 = (ldK xs0 xs1 xs2) := by
  unfold lds l_m l_ct l_h ldK
  simp only [View.readCov_eq_canon', View.readAt_eq_ld, harg17.read_unread, harg18.read_unread, harg19.read_unread]
  try rfl

theorem l_m_lt (n : Nat) (hn : n < 4) (L L' : List (View.Piece (Elt F) S4x1x128 .f32)) (h : Fin 4) :
    l_m arg18 harg18 xs1 n L h = l_m arg18 harg18 xs1 n L' h := by
  unfold l_m
  rw [if_pos hn, if_pos hn]

theorem l_ct_lt (n : Nat) (hn : n < 4) (L L' : List (View.Piece (Elt F) S4x272x128 .f32)) (h : Fin 4) :
    l_ct arg17 harg17 xs0 n L h = l_ct arg17 harg17 xs0 n L' h := by
  unfold l_ct
  rw [if_pos hn, if_pos hn]

theorem l_h_lt (n : Nat) (hn : n < 2) (L L' : List (View.Piece (Elt F) S2x512x128 .f32)) (h : Fin 2) :
    l_h arg19 harg19 xs2 n L h = l_h arg19 harg19 xs2 n L' h := by
  unfold l_h
  rw [if_pos hn, if_pos hn]

def Ms : Nat → List (View.Piece (Elt F) S4x1x128 .f32)
  | 4 => kernelRun0_B.sl.HS1_4 c arg9 harg9 arg12 harg12 arg18 harg18 x8 x11 xs1
  | 5 => kernelRun0_B.sl.HS1_5 c arg9 harg9 arg12 harg12 arg18 harg18 x8 x11 xs1
  | 6 => kernelRun0_B.sl.HS1_6 c arg9 harg9 arg12 harg12 arg18 harg18 x8 x11 xs1
  | 7 => kernelRun0_B.sl.HS1_7 c arg9 harg9 arg12 harg12 arg18 harg18 x8 x11 xs1
  | 8 => kernelRun0_B.sl.HS1_8 c arg9 harg9 arg12 harg12 arg18 harg18 x8 x11 xs1
  | 9 => kernelRun0_B.sl.HS1_9 c arg9 harg9 arg12 harg12 arg18 harg18 x8 x11 xs1
  | 10 => kernelRun0_B.sl.HS1_10 c arg9 harg9 arg12 harg12 arg18 harg18 x8 x11 xs1
  | 11 => kernelRun0_B.sl.HS1_11 c arg9 harg9 arg12 harg12 arg18 harg18 x8 x11 xs1
  | 12 => kernelRun0_B.sl.HS1_12 c arg9 harg9 arg12 harg12 arg18 harg18 x8 x11 xs1
  | 13 => kernelRun0_B.sl.HS1_13 c arg9 harg9 arg12 harg12 arg18 harg18 x8 x11 xs1
  | 14 => kernelRun0_B.sl.HS1_14 c arg9 harg9 arg12 harg12 arg18 harg18 x8 x11 xs1
  | 15 => kernelRun0_B.sl.HS1_15 c arg9 harg9 arg12 harg12 arg18 harg18 x8 x11 xs1
  | _ => []

theorem ms_4 : (Ms c arg9 harg9 arg12 harg12 arg18 harg18 x8 x11 xs1) 4 = (mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) 4 := by
  rfl

theorem ms_5 : (Ms c arg9 harg9 arg12 harg12 arg18 harg18 x8 x11 xs1) 5 = (mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) 5 :=
  (show (Ms c arg9 harg9 arg12 harg12 arg18 harg18 x8 x11 xs1) 5 = mStep (fun c h mp => mNew (row4 (bAll (b_cu arg9 harg9 arg12 harg12 x8 x11) c) h) (row4 (uAll (b_cu arg9 harg9 arg12 harg12 x8 x11) c ((b_g arg9 harg9 x8) c)) h) mp) 4 ((l_m arg18 harg18 xs1) 4 ((Ms c arg9 harg9 arg12 harg12 arg18 harg18 x8 x11 xs1) 4) (hd4 4)) ((Ms c arg9 harg9 arg12 harg12 arg18 harg18 x8 x11 xs1) 4) from rfl).trans (by rw [ms_4]; rfl)

theorem ms_6 : (Ms c arg9 harg9 arg12 harg12 arg18 harg18 x8 x11 xs1) 6 = (mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) 6 :=
  (show (Ms c arg9 harg9 arg12 harg12 arg18 harg18 x8 x11 xs1) 6 = mStep (fun c h mp => mNew (row4 (bAll (b_cu arg9 harg9 arg12 harg12 x8 x11) c) h) (row4 (uAll (b_cu arg9 harg9 arg12 harg12 x8 x11) c ((b_g arg9 harg9 x8) c)) h) mp) 5 ((l_m arg18 harg18 xs1) 5 ((Ms c arg9 harg9 arg12 harg12 arg18 harg18 x8 x11 xs1) 5) (hd4 5)) ((Ms c arg9 harg9 arg12 harg12 arg18 harg18 x8 x11 xs1) 5) from rfl).trans (by rw [ms_5]; rfl)

theorem ms_7 : (Ms c arg9 harg9 arg12 harg12 arg18 harg18 x8 x11 xs1) 7 = (mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) 7 :=
  (show (Ms c arg9 harg9 arg12 harg12 arg18 harg18 x8 x11 xs1) 7 = mStep (fun c h mp => mNew (row4 (bAll (b_cu arg9 harg9 arg12 harg12 x8 x11) c) h) (row4 (uAll (b_cu arg9 harg9 arg12 harg12 x8 x11) c ((b_g arg9 harg9 x8) c)) h) mp) 6 ((l_m arg18 harg18 xs1) 6 ((Ms c arg9 harg9 arg12 harg12 arg18 harg18 x8 x11 xs1) 6) (hd4 6)) ((Ms c arg9 harg9 arg12 harg12 arg18 harg18 x8 x11 xs1) 6) from rfl).trans (by rw [ms_6]; rfl)

theorem ms_8 : (Ms c arg9 harg9 arg12 harg12 arg18 harg18 x8 x11 xs1) 8 = (mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) 8 :=
  (show (Ms c arg9 harg9 arg12 harg12 arg18 harg18 x8 x11 xs1) 8 = mStep (fun c h mp => mNew (row4 (bAll (b_cu arg9 harg9 arg12 harg12 x8 x11) c) h) (row4 (uAll (b_cu arg9 harg9 arg12 harg12 x8 x11) c ((b_g arg9 harg9 x8) c)) h) mp) 7 ((l_m arg18 harg18 xs1) 7 ((Ms c arg9 harg9 arg12 harg12 arg18 harg18 x8 x11 xs1) 7) (hd4 7)) ((Ms c arg9 harg9 arg12 harg12 arg18 harg18 x8 x11 xs1) 7) from rfl).trans (by rw [ms_7]; rfl)

theorem ms_9 : (Ms c arg9 harg9 arg12 harg12 arg18 harg18 x8 x11 xs1) 9 = (mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) 9 :=
  (show (Ms c arg9 harg9 arg12 harg12 arg18 harg18 x8 x11 xs1) 9 = mStep (fun c h mp => mNew (row4 (bAll (b_cu arg9 harg9 arg12 harg12 x8 x11) c) h) (row4 (uAll (b_cu arg9 harg9 arg12 harg12 x8 x11) c ((b_g arg9 harg9 x8) c)) h) mp) 8 ((l_m arg18 harg18 xs1) 8 ((Ms c arg9 harg9 arg12 harg12 arg18 harg18 x8 x11 xs1) 8) (hd4 8)) ((Ms c arg9 harg9 arg12 harg12 arg18 harg18 x8 x11 xs1) 8) from rfl).trans (by rw [ms_8]; rfl)

theorem ms_10 : (Ms c arg9 harg9 arg12 harg12 arg18 harg18 x8 x11 xs1) 10 = (mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) 10 :=
  (show (Ms c arg9 harg9 arg12 harg12 arg18 harg18 x8 x11 xs1) 10 = mStep (fun c h mp => mNew (row4 (bAll (b_cu arg9 harg9 arg12 harg12 x8 x11) c) h) (row4 (uAll (b_cu arg9 harg9 arg12 harg12 x8 x11) c ((b_g arg9 harg9 x8) c)) h) mp) 9 ((l_m arg18 harg18 xs1) 9 ((Ms c arg9 harg9 arg12 harg12 arg18 harg18 x8 x11 xs1) 9) (hd4 9)) ((Ms c arg9 harg9 arg12 harg12 arg18 harg18 x8 x11 xs1) 9) from rfl).trans (by rw [ms_9]; rfl)

theorem ms_11 : (Ms c arg9 harg9 arg12 harg12 arg18 harg18 x8 x11 xs1) 11 = (mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) 11 :=
  (show (Ms c arg9 harg9 arg12 harg12 arg18 harg18 x8 x11 xs1) 11 = mStep (fun c h mp => mNew (row4 (bAll (b_cu arg9 harg9 arg12 harg12 x8 x11) c) h) (row4 (uAll (b_cu arg9 harg9 arg12 harg12 x8 x11) c ((b_g arg9 harg9 x8) c)) h) mp) 10 ((l_m arg18 harg18 xs1) 10 ((Ms c arg9 harg9 arg12 harg12 arg18 harg18 x8 x11 xs1) 10) (hd4 10)) ((Ms c arg9 harg9 arg12 harg12 arg18 harg18 x8 x11 xs1) 10) from rfl).trans (by rw [ms_10]; rfl)

theorem ms_12 : (Ms c arg9 harg9 arg12 harg12 arg18 harg18 x8 x11 xs1) 12 = (mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) 12 :=
  (show (Ms c arg9 harg9 arg12 harg12 arg18 harg18 x8 x11 xs1) 12 = mStep (fun c h mp => mNew (row4 (bAll (b_cu arg9 harg9 arg12 harg12 x8 x11) c) h) (row4 (uAll (b_cu arg9 harg9 arg12 harg12 x8 x11) c ((b_g arg9 harg9 x8) c)) h) mp) 11 ((l_m arg18 harg18 xs1) 11 ((Ms c arg9 harg9 arg12 harg12 arg18 harg18 x8 x11 xs1) 11) (hd4 11)) ((Ms c arg9 harg9 arg12 harg12 arg18 harg18 x8 x11 xs1) 11) from rfl).trans (by rw [ms_11]; rfl)

theorem ms_13 : (Ms c arg9 harg9 arg12 harg12 arg18 harg18 x8 x11 xs1) 13 = (mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) 13 :=
  (show (Ms c arg9 harg9 arg12 harg12 arg18 harg18 x8 x11 xs1) 13 = mStep (fun c h mp => mNew (row4 (bAll (b_cu arg9 harg9 arg12 harg12 x8 x11) c) h) (row4 (uAll (b_cu arg9 harg9 arg12 harg12 x8 x11) c ((b_g arg9 harg9 x8) c)) h) mp) 12 ((l_m arg18 harg18 xs1) 12 ((Ms c arg9 harg9 arg12 harg12 arg18 harg18 x8 x11 xs1) 12) (hd4 12)) ((Ms c arg9 harg9 arg12 harg12 arg18 harg18 x8 x11 xs1) 12) from rfl).trans (by rw [ms_12]; rfl)

theorem ms_14 : (Ms c arg9 harg9 arg12 harg12 arg18 harg18 x8 x11 xs1) 14 = (mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) 14 :=
  (show (Ms c arg9 harg9 arg12 harg12 arg18 harg18 x8 x11 xs1) 14 = mStep (fun c h mp => mNew (row4 (bAll (b_cu arg9 harg9 arg12 harg12 x8 x11) c) h) (row4 (uAll (b_cu arg9 harg9 arg12 harg12 x8 x11) c ((b_g arg9 harg9 x8) c)) h) mp) 13 ((l_m arg18 harg18 xs1) 13 ((Ms c arg9 harg9 arg12 harg12 arg18 harg18 x8 x11 xs1) 13) (hd4 13)) ((Ms c arg9 harg9 arg12 harg12 arg18 harg18 x8 x11 xs1) 13) from rfl).trans (by rw [ms_13]; rfl)

theorem ms_15 : (Ms c arg9 harg9 arg12 harg12 arg18 harg18 x8 x11 xs1) 15 = (mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) 15 :=
  (show (Ms c arg9 harg9 arg12 harg12 arg18 harg18 x8 x11 xs1) 15 = mStep (fun c h mp => mNew (row4 (bAll (b_cu arg9 harg9 arg12 harg12 x8 x11) c) h) (row4 (uAll (b_cu arg9 harg9 arg12 harg12 x8 x11) c ((b_g arg9 harg9 x8) c)) h) mp) 14 ((l_m arg18 harg18 xs1) 14 ((Ms c arg9 harg9 arg12 harg12 arg18 harg18 x8 x11 xs1) 14) (hd4 14)) ((Ms c arg9 harg9 arg12 harg12 arg18 harg18 x8 x11 xs1) 14) from rfl).trans (by rw [ms_14]; rfl)

theorem m_run : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs0 xs1 xs2 xs3).2.2.1 = (mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) 16 := by
  have e : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs0 xs1 xs2 xs3).2.2.1 = mStep (fun c h mp => mNew (row4 (bAll (b_cu arg9 harg9 arg12 harg12 x8 x11) c) h) (row4 (uAll (b_cu arg9 harg9 arg12 harg12 x8 x11) c ((b_g arg9 harg9 x8) c)) h) mp) 15 ((l_m arg18 harg18 xs1) 15 ((Ms c arg9 harg9 arg12 harg12 arg18 harg18 x8 x11 xs1) 15) (hd4 15)) ((Ms c arg9 harg9 arg12 harg12 arg18 harg18 x8 x11 xs1) 15) := by
    unfold kernelRun0_B
    rfl
  rw [e, ms_15]
  rfl

theorem m_pieces : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs0 xs1 xs2 xs3).2.2.1 =
    mL (blkOf x0 x1 x2 x3 x4 x5 x6 x7 x8 x9 x10 x11) (ldK xs0 xs1 xs2) [] 16 := by
  rw [m_run, ← blk_eq arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11, ← lds_eq arg17 harg17 arg18 harg18 arg19 harg19 xs0 xs1 xs2]
  rfl

def Cs : Nat → List (View.Piece (Elt F) S4x272x128 .f32)
  | 4 => kernelRun0_B.sl.HS0_4 c arg2 harg2 arg3 harg3 arg9 harg9 arg12 harg12 arg17 harg17 arg18 harg18 x1 x2 x8 x11 xs0 xs1
  | 5 => kernelRun0_B.sl.HS0_5 c arg2 harg2 arg3 harg3 arg9 harg9 arg12 harg12 arg17 harg17 arg18 harg18 x1 x2 x8 x11 xs0 xs1
  | 6 => kernelRun0_B.sl.HS0_6 c arg2 harg2 arg3 harg3 arg9 harg9 arg12 harg12 arg17 harg17 arg18 harg18 x1 x2 x8 x11 xs0 xs1
  | 7 => kernelRun0_B.sl.HS0_7 c arg2 harg2 arg3 harg3 arg9 harg9 arg12 harg12 arg17 harg17 arg18 harg18 x1 x2 x8 x11 xs0 xs1
  | 8 => kernelRun0_B.sl.HS0_8 c arg2 harg2 arg3 harg3 arg9 harg9 arg12 harg12 arg17 harg17 arg18 harg18 x1 x2 x8 x11 xs0 xs1
  | 9 => kernelRun0_B.sl.HS0_9 c arg2 harg2 arg3 harg3 arg9 harg9 arg12 harg12 arg17 harg17 arg18 harg18 x1 x2 x8 x11 xs0 xs1
  | 10 => kernelRun0_B.sl.HS0_10 c arg2 harg2 arg3 harg3 arg9 harg9 arg12 harg12 arg17 harg17 arg18 harg18 x1 x2 x8 x11 xs0 xs1
  | 11 => kernelRun0_B.sl.HS0_11 c arg2 harg2 arg3 harg3 arg9 harg9 arg12 harg12 arg17 harg17 arg18 harg18 x1 x2 x8 x11 xs0 xs1
  | 12 => kernelRun0_B.sl.HS0_12 c arg2 harg2 arg3 harg3 arg9 harg9 arg12 harg12 arg17 harg17 arg18 harg18 x1 x2 x8 x11 xs0 xs1
  | 13 => kernelRun0_B.sl.HS0_13 c arg2 harg2 arg3 harg3 arg9 harg9 arg12 harg12 arg17 harg17 arg18 harg18 x1 x2 x8 x11 xs0 xs1
  | 14 => kernelRun0_B.sl.HS0_14 c arg2 harg2 arg3 harg3 arg9 harg9 arg12 harg12 arg17 harg17 arg18 harg18 x1 x2 x8 x11 xs0 xs1
  | 15 => kernelRun0_B.sl.HS0_15 c arg2 harg2 arg3 harg3 arg9 harg9 arg12 harg12 arg17 harg17 arg18 harg18 x1 x2 x8 x11 xs0 xs1
  | _ => []

theorem cs_4 : (Cs c arg2 harg2 arg3 harg3 arg9 harg9 arg12 harg12 arg17 harg17 arg18 harg18 x1 x2 x8 x11 xs0 xs1) 4 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (l_ct arg17 harg17 xs0) []) 4 := by
  rfl

theorem cs_5 : (Cs c arg2 harg2 arg3 harg3 arg9 harg9 arg12 harg12 arg17 harg17 arg18 harg18 x1 x2 x8 x11 xs0 xs1) 5 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (l_ct arg17 harg17 xs0) []) 5 :=
  (show (Cs c arg2 harg2 arg3 harg3 arg9 harg9 arg12 harg12 arg17 harg17 arg18 harg18 x1 x2 x8 x11 xs0 xs1) 5 = ctStep (fun c h mp cp => ctNew ((b_k arg2 harg2 x1) c h) ((b_v arg3 harg3 x2) c h) (row4 (uAll (b_cu arg9 harg9 arg12 harg12 x8 x11) c ((b_g arg9 harg9 x8) c)) h) mp cp) 4 ((l_m arg18 harg18 xs1) 4 ((Ms c arg9 harg9 arg12 harg12 arg18 harg18 x8 x11 xs1) 4) (hd4 4)) ((l_ct arg17 harg17 xs0) 4 ((Cs c arg2 harg2 arg3 harg3 arg9 harg9 arg12 harg12 arg17 harg17 arg18 harg18 x1 x2 x8 x11 xs0 xs1) 4) (hd4 4)) ((Cs c arg2 harg2 arg3 harg3 arg9 harg9 arg12 harg12 arg17 harg17 arg18 harg18 x1 x2 x8 x11 xs0 xs1) 4) from rfl).trans (by rw [ms_4, cs_4]; rfl)

theorem cs_6 : (Cs c arg2 harg2 arg3 harg3 arg9 harg9 arg12 harg12 arg17 harg17 arg18 harg18 x1 x2 x8 x11 xs0 xs1) 6 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (l_ct arg17 harg17 xs0) []) 6 :=
  (show (Cs c arg2 harg2 arg3 harg3 arg9 harg9 arg12 harg12 arg17 harg17 arg18 harg18 x1 x2 x8 x11 xs0 xs1) 6 = ctStep (fun c h mp cp => ctNew ((b_k arg2 harg2 x1) c h) ((b_v arg3 harg3 x2) c h) (row4 (uAll (b_cu arg9 harg9 arg12 harg12 x8 x11) c ((b_g arg9 harg9 x8) c)) h) mp cp) 5 ((l_m arg18 harg18 xs1) 5 ((Ms c arg9 harg9 arg12 harg12 arg18 harg18 x8 x11 xs1) 5) (hd4 5)) ((l_ct arg17 harg17 xs0) 5 ((Cs c arg2 harg2 arg3 harg3 arg9 harg9 arg12 harg12 arg17 harg17 arg18 harg18 x1 x2 x8 x11 xs0 xs1) 5) (hd4 5)) ((Cs c arg2 harg2 arg3 harg3 arg9 harg9 arg12 harg12 arg17 harg17 arg18 harg18 x1 x2 x8 x11 xs0 xs1) 5) from rfl).trans (by rw [ms_5, cs_5]; rfl)

theorem cs_7 : (Cs c arg2 harg2 arg3 harg3 arg9 harg9 arg12 harg12 arg17 harg17 arg18 harg18 x1 x2 x8 x11 xs0 xs1) 7 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (l_ct arg17 harg17 xs0) []) 7 :=
  (show (Cs c arg2 harg2 arg3 harg3 arg9 harg9 arg12 harg12 arg17 harg17 arg18 harg18 x1 x2 x8 x11 xs0 xs1) 7 = ctStep (fun c h mp cp => ctNew ((b_k arg2 harg2 x1) c h) ((b_v arg3 harg3 x2) c h) (row4 (uAll (b_cu arg9 harg9 arg12 harg12 x8 x11) c ((b_g arg9 harg9 x8) c)) h) mp cp) 6 ((l_m arg18 harg18 xs1) 6 ((Ms c arg9 harg9 arg12 harg12 arg18 harg18 x8 x11 xs1) 6) (hd4 6)) ((l_ct arg17 harg17 xs0) 6 ((Cs c arg2 harg2 arg3 harg3 arg9 harg9 arg12 harg12 arg17 harg17 arg18 harg18 x1 x2 x8 x11 xs0 xs1) 6) (hd4 6)) ((Cs c arg2 harg2 arg3 harg3 arg9 harg9 arg12 harg12 arg17 harg17 arg18 harg18 x1 x2 x8 x11 xs0 xs1) 6) from rfl).trans (by rw [ms_6, cs_6]; rfl)

theorem cs_8 : (Cs c arg2 harg2 arg3 harg3 arg9 harg9 arg12 harg12 arg17 harg17 arg18 harg18 x1 x2 x8 x11 xs0 xs1) 8 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (l_ct arg17 harg17 xs0) []) 8 :=
  (show (Cs c arg2 harg2 arg3 harg3 arg9 harg9 arg12 harg12 arg17 harg17 arg18 harg18 x1 x2 x8 x11 xs0 xs1) 8 = ctStep (fun c h mp cp => ctNew ((b_k arg2 harg2 x1) c h) ((b_v arg3 harg3 x2) c h) (row4 (uAll (b_cu arg9 harg9 arg12 harg12 x8 x11) c ((b_g arg9 harg9 x8) c)) h) mp cp) 7 ((l_m arg18 harg18 xs1) 7 ((Ms c arg9 harg9 arg12 harg12 arg18 harg18 x8 x11 xs1) 7) (hd4 7)) ((l_ct arg17 harg17 xs0) 7 ((Cs c arg2 harg2 arg3 harg3 arg9 harg9 arg12 harg12 arg17 harg17 arg18 harg18 x1 x2 x8 x11 xs0 xs1) 7) (hd4 7)) ((Cs c arg2 harg2 arg3 harg3 arg9 harg9 arg12 harg12 arg17 harg17 arg18 harg18 x1 x2 x8 x11 xs0 xs1) 7) from rfl).trans (by rw [ms_7, cs_7]; rfl)

theorem cs_9 : (Cs c arg2 harg2 arg3 harg3 arg9 harg9 arg12 harg12 arg17 harg17 arg18 harg18 x1 x2 x8 x11 xs0 xs1) 9 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (l_ct arg17 harg17 xs0) []) 9 :=
  (show (Cs c arg2 harg2 arg3 harg3 arg9 harg9 arg12 harg12 arg17 harg17 arg18 harg18 x1 x2 x8 x11 xs0 xs1) 9 = ctStep (fun c h mp cp => ctNew ((b_k arg2 harg2 x1) c h) ((b_v arg3 harg3 x2) c h) (row4 (uAll (b_cu arg9 harg9 arg12 harg12 x8 x11) c ((b_g arg9 harg9 x8) c)) h) mp cp) 8 ((l_m arg18 harg18 xs1) 8 ((Ms c arg9 harg9 arg12 harg12 arg18 harg18 x8 x11 xs1) 8) (hd4 8)) ((l_ct arg17 harg17 xs0) 8 ((Cs c arg2 harg2 arg3 harg3 arg9 harg9 arg12 harg12 arg17 harg17 arg18 harg18 x1 x2 x8 x11 xs0 xs1) 8) (hd4 8)) ((Cs c arg2 harg2 arg3 harg3 arg9 harg9 arg12 harg12 arg17 harg17 arg18 harg18 x1 x2 x8 x11 xs0 xs1) 8) from rfl).trans (by rw [ms_8, cs_8]; rfl)

theorem cs_10 : (Cs c arg2 harg2 arg3 harg3 arg9 harg9 arg12 harg12 arg17 harg17 arg18 harg18 x1 x2 x8 x11 xs0 xs1) 10 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (l_ct arg17 harg17 xs0) []) 10 :=
  (show (Cs c arg2 harg2 arg3 harg3 arg9 harg9 arg12 harg12 arg17 harg17 arg18 harg18 x1 x2 x8 x11 xs0 xs1) 10 = ctStep (fun c h mp cp => ctNew ((b_k arg2 harg2 x1) c h) ((b_v arg3 harg3 x2) c h) (row4 (uAll (b_cu arg9 harg9 arg12 harg12 x8 x11) c ((b_g arg9 harg9 x8) c)) h) mp cp) 9 ((l_m arg18 harg18 xs1) 9 ((Ms c arg9 harg9 arg12 harg12 arg18 harg18 x8 x11 xs1) 9) (hd4 9)) ((l_ct arg17 harg17 xs0) 9 ((Cs c arg2 harg2 arg3 harg3 arg9 harg9 arg12 harg12 arg17 harg17 arg18 harg18 x1 x2 x8 x11 xs0 xs1) 9) (hd4 9)) ((Cs c arg2 harg2 arg3 harg3 arg9 harg9 arg12 harg12 arg17 harg17 arg18 harg18 x1 x2 x8 x11 xs0 xs1) 9) from rfl).trans (by rw [ms_9, cs_9]; rfl)

theorem cs_11 : (Cs c arg2 harg2 arg3 harg3 arg9 harg9 arg12 harg12 arg17 harg17 arg18 harg18 x1 x2 x8 x11 xs0 xs1) 11 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (l_ct arg17 harg17 xs0) []) 11 :=
  (show (Cs c arg2 harg2 arg3 harg3 arg9 harg9 arg12 harg12 arg17 harg17 arg18 harg18 x1 x2 x8 x11 xs0 xs1) 11 = ctStep (fun c h mp cp => ctNew ((b_k arg2 harg2 x1) c h) ((b_v arg3 harg3 x2) c h) (row4 (uAll (b_cu arg9 harg9 arg12 harg12 x8 x11) c ((b_g arg9 harg9 x8) c)) h) mp cp) 10 ((l_m arg18 harg18 xs1) 10 ((Ms c arg9 harg9 arg12 harg12 arg18 harg18 x8 x11 xs1) 10) (hd4 10)) ((l_ct arg17 harg17 xs0) 10 ((Cs c arg2 harg2 arg3 harg3 arg9 harg9 arg12 harg12 arg17 harg17 arg18 harg18 x1 x2 x8 x11 xs0 xs1) 10) (hd4 10)) ((Cs c arg2 harg2 arg3 harg3 arg9 harg9 arg12 harg12 arg17 harg17 arg18 harg18 x1 x2 x8 x11 xs0 xs1) 10) from rfl).trans (by rw [ms_10, cs_10]; rfl)

theorem cs_12 : (Cs c arg2 harg2 arg3 harg3 arg9 harg9 arg12 harg12 arg17 harg17 arg18 harg18 x1 x2 x8 x11 xs0 xs1) 12 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (l_ct arg17 harg17 xs0) []) 12 :=
  (show (Cs c arg2 harg2 arg3 harg3 arg9 harg9 arg12 harg12 arg17 harg17 arg18 harg18 x1 x2 x8 x11 xs0 xs1) 12 = ctStep (fun c h mp cp => ctNew ((b_k arg2 harg2 x1) c h) ((b_v arg3 harg3 x2) c h) (row4 (uAll (b_cu arg9 harg9 arg12 harg12 x8 x11) c ((b_g arg9 harg9 x8) c)) h) mp cp) 11 ((l_m arg18 harg18 xs1) 11 ((Ms c arg9 harg9 arg12 harg12 arg18 harg18 x8 x11 xs1) 11) (hd4 11)) ((l_ct arg17 harg17 xs0) 11 ((Cs c arg2 harg2 arg3 harg3 arg9 harg9 arg12 harg12 arg17 harg17 arg18 harg18 x1 x2 x8 x11 xs0 xs1) 11) (hd4 11)) ((Cs c arg2 harg2 arg3 harg3 arg9 harg9 arg12 harg12 arg17 harg17 arg18 harg18 x1 x2 x8 x11 xs0 xs1) 11) from rfl).trans (by rw [ms_11, cs_11]; rfl)

theorem cs_13 : (Cs c arg2 harg2 arg3 harg3 arg9 harg9 arg12 harg12 arg17 harg17 arg18 harg18 x1 x2 x8 x11 xs0 xs1) 13 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (l_ct arg17 harg17 xs0) []) 13 :=
  (show (Cs c arg2 harg2 arg3 harg3 arg9 harg9 arg12 harg12 arg17 harg17 arg18 harg18 x1 x2 x8 x11 xs0 xs1) 13 = ctStep (fun c h mp cp => ctNew ((b_k arg2 harg2 x1) c h) ((b_v arg3 harg3 x2) c h) (row4 (uAll (b_cu arg9 harg9 arg12 harg12 x8 x11) c ((b_g arg9 harg9 x8) c)) h) mp cp) 12 ((l_m arg18 harg18 xs1) 12 ((Ms c arg9 harg9 arg12 harg12 arg18 harg18 x8 x11 xs1) 12) (hd4 12)) ((l_ct arg17 harg17 xs0) 12 ((Cs c arg2 harg2 arg3 harg3 arg9 harg9 arg12 harg12 arg17 harg17 arg18 harg18 x1 x2 x8 x11 xs0 xs1) 12) (hd4 12)) ((Cs c arg2 harg2 arg3 harg3 arg9 harg9 arg12 harg12 arg17 harg17 arg18 harg18 x1 x2 x8 x11 xs0 xs1) 12) from rfl).trans (by rw [ms_12, cs_12]; rfl)

theorem cs_14 : (Cs c arg2 harg2 arg3 harg3 arg9 harg9 arg12 harg12 arg17 harg17 arg18 harg18 x1 x2 x8 x11 xs0 xs1) 14 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (l_ct arg17 harg17 xs0) []) 14 :=
  (show (Cs c arg2 harg2 arg3 harg3 arg9 harg9 arg12 harg12 arg17 harg17 arg18 harg18 x1 x2 x8 x11 xs0 xs1) 14 = ctStep (fun c h mp cp => ctNew ((b_k arg2 harg2 x1) c h) ((b_v arg3 harg3 x2) c h) (row4 (uAll (b_cu arg9 harg9 arg12 harg12 x8 x11) c ((b_g arg9 harg9 x8) c)) h) mp cp) 13 ((l_m arg18 harg18 xs1) 13 ((Ms c arg9 harg9 arg12 harg12 arg18 harg18 x8 x11 xs1) 13) (hd4 13)) ((l_ct arg17 harg17 xs0) 13 ((Cs c arg2 harg2 arg3 harg3 arg9 harg9 arg12 harg12 arg17 harg17 arg18 harg18 x1 x2 x8 x11 xs0 xs1) 13) (hd4 13)) ((Cs c arg2 harg2 arg3 harg3 arg9 harg9 arg12 harg12 arg17 harg17 arg18 harg18 x1 x2 x8 x11 xs0 xs1) 13) from rfl).trans (by rw [ms_13, cs_13]; rfl)

theorem cs_15 : (Cs c arg2 harg2 arg3 harg3 arg9 harg9 arg12 harg12 arg17 harg17 arg18 harg18 x1 x2 x8 x11 xs0 xs1) 15 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (l_ct arg17 harg17 xs0) []) 15 :=
  (show (Cs c arg2 harg2 arg3 harg3 arg9 harg9 arg12 harg12 arg17 harg17 arg18 harg18 x1 x2 x8 x11 xs0 xs1) 15 = ctStep (fun c h mp cp => ctNew ((b_k arg2 harg2 x1) c h) ((b_v arg3 harg3 x2) c h) (row4 (uAll (b_cu arg9 harg9 arg12 harg12 x8 x11) c ((b_g arg9 harg9 x8) c)) h) mp cp) 14 ((l_m arg18 harg18 xs1) 14 ((Ms c arg9 harg9 arg12 harg12 arg18 harg18 x8 x11 xs1) 14) (hd4 14)) ((l_ct arg17 harg17 xs0) 14 ((Cs c arg2 harg2 arg3 harg3 arg9 harg9 arg12 harg12 arg17 harg17 arg18 harg18 x1 x2 x8 x11 xs0 xs1) 14) (hd4 14)) ((Cs c arg2 harg2 arg3 harg3 arg9 harg9 arg12 harg12 arg17 harg17 arg18 harg18 x1 x2 x8 x11 xs0 xs1) 14) from rfl).trans (by rw [ms_14, cs_14]; rfl)

theorem ct_run : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs0 xs1 xs2 xs3).2.1 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (l_ct arg17 harg17 xs0) []) 16 := by
  have e : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs0 xs1 xs2 xs3).2.1 = ctStep (fun c h mp cp => ctNew ((b_k arg2 harg2 x1) c h) ((b_v arg3 harg3 x2) c h) (row4 (uAll (b_cu arg9 harg9 arg12 harg12 x8 x11) c ((b_g arg9 harg9 x8) c)) h) mp cp) 15 ((l_m arg18 harg18 xs1) 15 ((Ms c arg9 harg9 arg12 harg12 arg18 harg18 x8 x11 xs1) 15) (hd4 15)) ((l_ct arg17 harg17 xs0) 15 ((Cs c arg2 harg2 arg3 harg3 arg9 harg9 arg12 harg12 arg17 harg17 arg18 harg18 x1 x2 x8 x11 xs0 xs1) 15) (hd4 15)) ((Cs c arg2 harg2 arg3 harg3 arg9 harg9 arg12 harg12 arg17 harg17 arg18 harg18 x1 x2 x8 x11 xs0 xs1) 15) := by
    unfold kernelRun0_B
    rfl
  rw [e, ms_15, cs_15]
  rfl

theorem ct_pieces : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs0 xs1 xs2 xs3).2.1 =
    ctL (blkOf x0 x1 x2 x3 x4 x5 x6 x7 x8 x9 x10 x11) (ldK xs0 xs1 xs2) [] [] 16 := by
  rw [ct_run, ← blk_eq arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11, ← lds_eq arg17 harg17 arg18 harg18 arg19 harg19 xs0 xs1 xs2]
  rfl

def Hs : Nat → List (View.Piece (Elt F) S2x512x128 .f32)
  | 2 => kernelRun0_B.sl.HS2_16 c arg6 harg6 arg7 harg7 arg9 harg9 arg12 harg12 arg19 harg19 x5 x6 x8 x11 xs2
  | 3 => kernelRun0_B.sl.HS2_24 c arg6 harg6 arg7 harg7 arg9 harg9 arg12 harg12 arg19 harg19 x5 x6 x8 x11 xs2
  | 4 => kernelRun0_B.sl.HS2_32 c arg6 harg6 arg7 harg7 arg9 harg9 arg12 harg12 arg19 harg19 x5 x6 x8 x11 xs2
  | 5 => kernelRun0_B.sl.HS2_40 c arg6 harg6 arg7 harg7 arg9 harg9 arg12 harg12 arg19 harg19 x5 x6 x8 x11 xs2
  | 6 => kernelRun0_B.sl.HS2_48 c arg6 harg6 arg7 harg7 arg9 harg9 arg12 harg12 arg19 harg19 x5 x6 x8 x11 xs2
  | 7 => kernelRun0_B.sl.HS2_56 c arg6 harg6 arg7 harg7 arg9 harg9 arg12 harg12 arg19 harg19 x5 x6 x8 x11 xs2
  | _ => []

theorem hs_2 : (Hs c arg6 harg6 arg7 harg7 arg9 harg9 arg12 harg12 arg19 harg19 x5 x6 x8 x11 xs2) 2 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19 harg19 xs2) []) 2 := by
  rfl

theorem hs_3 : (Hs c arg6 harg6 arg7 harg7 arg9 harg9 arg12 harg12 arg19 harg19 x5 x6 x8 x11 xs2) 3 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19 harg19 xs2) []) 3 :=
  (show (Hs c arg6 harg6 arg7 harg7 arg9 harg9 arg12 harg12 arg19 harg19 x5 x6 x8 x11 xs2) 3 = hStep (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) 2 ((l_h arg19 harg19 xs2) 2 ((Hs c arg6 harg6 arg7 harg7 arg9 harg9 arg12 harg12 arg19 harg19 x5 x6 x8 x11 xs2) 2) (gr2 2)) ((Hs c arg6 harg6 arg7 harg7 arg9 harg9 arg12 harg12 arg19 harg19 x5 x6 x8 x11 xs2) 2) from rfl).trans (by rw [hs_2]; rfl)

theorem hs_4 : (Hs c arg6 harg6 arg7 harg7 arg9 harg9 arg12 harg12 arg19 harg19 x5 x6 x8 x11 xs2) 4 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19 harg19 xs2) []) 4 :=
  (show (Hs c arg6 harg6 arg7 harg7 arg9 harg9 arg12 harg12 arg19 harg19 x5 x6 x8 x11 xs2) 4 = hStep (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) 3 ((l_h arg19 harg19 xs2) 3 ((Hs c arg6 harg6 arg7 harg7 arg9 harg9 arg12 harg12 arg19 harg19 x5 x6 x8 x11 xs2) 3) (gr2 3)) ((Hs c arg6 harg6 arg7 harg7 arg9 harg9 arg12 harg12 arg19 harg19 x5 x6 x8 x11 xs2) 3) from rfl).trans (by rw [hs_3]; rfl)

theorem hs_5 : (Hs c arg6 harg6 arg7 harg7 arg9 harg9 arg12 harg12 arg19 harg19 x5 x6 x8 x11 xs2) 5 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19 harg19 xs2) []) 5 :=
  (show (Hs c arg6 harg6 arg7 harg7 arg9 harg9 arg12 harg12 arg19 harg19 x5 x6 x8 x11 xs2) 5 = hStep (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) 4 ((l_h arg19 harg19 xs2) 4 ((Hs c arg6 harg6 arg7 harg7 arg9 harg9 arg12 harg12 arg19 harg19 x5 x6 x8 x11 xs2) 4) (gr2 4)) ((Hs c arg6 harg6 arg7 harg7 arg9 harg9 arg12 harg12 arg19 harg19 x5 x6 x8 x11 xs2) 4) from rfl).trans (by rw [hs_4]; rfl)

theorem hs_6 : (Hs c arg6 harg6 arg7 harg7 arg9 harg9 arg12 harg12 arg19 harg19 x5 x6 x8 x11 xs2) 6 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19 harg19 xs2) []) 6 :=
  (show (Hs c arg6 harg6 arg7 harg7 arg9 harg9 arg12 harg12 arg19 harg19 x5 x6 x8 x11 xs2) 6 = hStep (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) 5 ((l_h arg19 harg19 xs2) 5 ((Hs c arg6 harg6 arg7 harg7 arg9 harg9 arg12 harg12 arg19 harg19 x5 x6 x8 x11 xs2) 5) (gr2 5)) ((Hs c arg6 harg6 arg7 harg7 arg9 harg9 arg12 harg12 arg19 harg19 x5 x6 x8 x11 xs2) 5) from rfl).trans (by rw [hs_5]; rfl)

theorem hs_7 : (Hs c arg6 harg6 arg7 harg7 arg9 harg9 arg12 harg12 arg19 harg19 x5 x6 x8 x11 xs2) 7 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19 harg19 xs2) []) 7 :=
  (show (Hs c arg6 harg6 arg7 harg7 arg9 harg9 arg12 harg12 arg19 harg19 x5 x6 x8 x11 xs2) 7 = hStep (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) 6 ((l_h arg19 harg19 xs2) 6 ((Hs c arg6 harg6 arg7 harg7 arg9 harg9 arg12 harg12 arg19 harg19 x5 x6 x8 x11 xs2) 6) (gr2 6)) ((Hs c arg6 harg6 arg7 harg7 arg9 harg9 arg12 harg12 arg19 harg19 x5 x6 x8 x11 xs2) 6) from rfl).trans (by rw [hs_6]; rfl)

theorem h_run : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs0 xs1 xs2 xs3).2.2.2.1 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19 harg19 xs2) []) 8 := by
  have e : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs0 xs1 xs2 xs3).2.2.2.1 = hStep (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) 7 ((l_h arg19 harg19 xs2) 7 ((Hs c arg6 harg6 arg7 harg7 arg9 harg9 arg12 harg12 arg19 harg19 x5 x6 x8 x11 xs2) 7) (gr2 7)) ((Hs c arg6 harg6 arg7 harg7 arg9 harg9 arg12 harg12 arg19 harg19 x5 x6 x8 x11 xs2) 7) := by
    unfold kernelRun0_B
    rfl
  rw [e, hs_7]
  rfl

theorem h_pieces : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs0 xs1 xs2 xs3).2.2.2.1 =
    hL (blkOf x0 x1 x2 x3 x4 x5 x6 x7 x8 x9 x10 x11) (ldK xs0 xs1 xs2) [] 8 := by
  rw [h_run, ← blk_eq arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11, ← lds_eq arg17 harg17 arg18 harg18 arg19 harg19 xs0 xs1 xs2]
  rfl

theorem ms_all (n : Nat) (hn : n < 16) : (fun n => (l_m arg18 harg18 xs1) n ((Ms c arg9 harg9 arg12 harg12 arg18 harg18 x8 x11 xs1) n) (hd4 n)) n = (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) n := by
  interval_cases n
  · beta_reduce; apply l_m_lt; decide
  · beta_reduce; apply l_m_lt; decide
  · beta_reduce; apply l_m_lt; decide
  · beta_reduce; apply l_m_lt; decide
  · simp only [ms_4]
  · simp only [ms_5]
  · simp only [ms_6]
  · simp only [ms_7]
  · simp only [ms_8]
  · simp only [ms_9]
  · simp only [ms_10]
  · simp only [ms_11]
  · simp only [ms_12]
  · simp only [ms_13]
  · simp only [ms_14]
  · simp only [ms_15]

theorem cs_all (n : Nat) (hn : n < 16) : (fun n => (l_ct arg17 harg17 xs0) n ((Cs c arg2 harg2 arg3 harg3 arg9 harg9 arg12 harg12 arg17 harg17 arg18 harg18 x1 x2 x8 x11 xs0 xs1) n) (hd4 n)) n = (fun n => (l_ct arg17 harg17 xs0) n ((ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (l_ct arg17 harg17 xs0) []) n) (hd4 n)) n := by
  interval_cases n
  · beta_reduce; apply l_ct_lt; decide
  · beta_reduce; apply l_ct_lt; decide
  · beta_reduce; apply l_ct_lt; decide
  · beta_reduce; apply l_ct_lt; decide
  · simp only [cs_4]
  · simp only [cs_5]
  · simp only [cs_6]
  · simp only [cs_7]
  · simp only [cs_8]
  · simp only [cs_9]
  · simp only [cs_10]
  · simp only [cs_11]
  · simp only [cs_12]
  · simp only [cs_13]
  · simp only [cs_14]
  · simp only [cs_15]

theorem hs_all (n : Nat) (hn : n < 8) : (fun n => (l_h arg19 harg19 xs2) n ((Hs c arg6 harg6 arg7 harg7 arg9 harg9 arg12 harg12 arg19 harg19 x5 x6 x8 x11 xs2) n) (gr2 n)) n = (fun n => (l_h arg19 harg19 xs2) n ((hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19 harg19 xs2) []) n) (gr2 n)) n := by
  interval_cases n
  · beta_reduce; apply l_h_lt; decide
  · beta_reduce; apply l_h_lt; decide
  · simp only [hs_2]
  · simp only [hs_3]
  · simp only [hs_4]
  · simp only [hs_5]
  · simp only [hs_6]
  · simp only [hs_7]

def Xs : Nat → List (View.Piece (Elt F) S2x4x2048x128 .bf16)
  | 1 => kernelRun0_B.sl.HS3_6 c i arg1 harg1 arg2 harg2 arg3 harg3 arg4 harg4 arg5 harg5 arg6 harg6 arg7 harg7 arg8 harg8 arg9 harg9 arg10 harg10 arg11 harg11 arg12 harg12 arg17 harg17 arg18 harg18 arg19 harg19 hl19 hl20 hl21 hl22 hl23 hl24 x0 x1 x2 x3 x4 x5 x6 x7 x8 x9 x10 x11 xs0 xs1 xs2
  | 2 => kernelRun0_B.sl.HS3_12 c i arg1 harg1 arg2 harg2 arg3 harg3 arg4 harg4 arg5 harg5 arg6 harg6 arg7 harg7 arg8 harg8 arg9 harg9 arg10 harg10 arg11 harg11 arg12 harg12 arg17 harg17 arg18 harg18 arg19 harg19 hl1 hl2 hl3 hl4 hl5 hl19 hl20 hl21 hl22 hl23 hl24 hl25 x0 x1 x2 x3 x4 x5 x6 x7 x8 x9 x10 x11 xs0 xs1 xs2
  | 3 => kernelRun0_B.sl.HS3_18 c i arg1 harg1 arg2 harg2 arg3 harg3 arg4 harg4 arg5 harg5 arg6 harg6 arg7 harg7 arg8 harg8 arg9 harg9 arg10 harg10 arg11 harg11 arg12 harg12 arg17 harg17 arg18 harg18 arg19 harg19 hl1 hl2 hl3 hl4 hl5 hl6 hl7 hl8 hl9 hl10 hl12 hl19 hl20 hl21 hl22 hl23 hl24 hl25 x0 x1 x2 x3 x4 x5 x6 x7 x8 x9 x10 x11 xs0 xs1 xs2
  | _ => []

theorem xs_1 : (Xs c i arg1 harg1 arg2 harg2 arg3 harg3 arg4 harg4 arg5 harg5 arg6 harg6 arg7 harg7 arg8 harg8 arg9 harg9 arg10 harg10 arg11 harg11 arg12 harg12 arg17 harg17 arg18 harg18 arg19 harg19 hl1 hl2 hl3 hl4 hl5 hl6 hl7 hl8 hl9 hl10 hl12 hl19 hl20 hl21 hl22 hl23 hl24 hl25 x0 x1 x2 x3 x4 x5 x6 x7 x8 x9 x10 x11 xs0 xs1 xs2) 1 = (mixG (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18 harg18 xs1) n ((Ms c arg9 harg9 arg12 harg12 arg18 harg18 x8 x11 xs1) n) (hd4 n)) (fun n => (l_ct arg17 harg17 xs0) n ((Cs c arg2 harg2 arg3 harg3 arg9 harg9 arg12 harg12 arg17 harg17 arg18 harg18 x1 x2 x8 x11 xs0 xs1) n) (hd4 n)) (fun n => (l_h arg19 harg19 xs2) n ((Hs c arg6 harg6 arg7 harg7 arg9 harg9 arg12 harg12 arg19 harg19 x5 x6 x8 x11 xs2) n) (gr2 n)) [] 1) 1 :=
  (show (Xs c i arg1 harg1 arg2 harg2 arg3 harg3 arg4 harg4 arg5 harg5 arg6 harg6 arg7 harg7 arg8 harg8 arg9 harg9 arg10 harg10 arg11 harg11 arg12 harg12 arg17 harg17 arg18 harg18 arg19 harg19 hl1 hl2 hl3 hl4 hl5 hl6 hl7 hl8 hl9 hl10 hl12 hl19 hl20 hl21 hl22 hl23 hl24 hl25 x0 x1 x2 x3 x4 x5 x6 x7 x8 x9 x10 x11 xs0 xs1 xs2) 1 = mixStep (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18 harg18 xs1) n ((Ms c arg9 harg9 arg12 harg12 arg18 harg18 x8 x11 xs1) n) (hd4 n)) (fun n => (l_ct arg17 harg17 xs0) n ((Cs c arg2 harg2 arg3 harg3 arg9 harg9 arg12 harg12 arg17 harg17 arg18 harg18 x1 x2 x8 x11 xs0 xs1) n) (hd4 n)) (fun n => (l_h arg19 harg19 xs2) n ((Hs c arg6 harg6 arg7 harg7 arg9 harg9 arg12 harg12 arg19 harg19 x5 x6 x8 x11 xs2) n) (gr2 n)) 1 0 [] from rfl).trans (by rfl)

theorem xs_2 : (Xs c i arg1 harg1 arg2 harg2 arg3 harg3 arg4 harg4 arg5 harg5 arg6 harg6 arg7 harg7 arg8 harg8 arg9 harg9 arg10 harg10 arg11 harg11 arg12 harg12 arg17 harg17 arg18 harg18 arg19 harg19 hl1 hl2 hl3 hl4 hl5 hl6 hl7 hl8 hl9 hl10 hl12 hl19 hl20 hl21 hl22 hl23 hl24 hl25 x0 x1 x2 x3 x4 x5 x6 x7 x8 x9 x10 x11 xs0 xs1 xs2) 2 = (mixG (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18 harg18 xs1) n ((Ms c arg9 harg9 arg12 harg12 arg18 harg18 x8 x11 xs1) n) (hd4 n)) (fun n => (l_ct arg17 harg17 xs0) n ((Cs c arg2 harg2 arg3 harg3 arg9 harg9 arg12 harg12 arg17 harg17 arg18 harg18 x1 x2 x8 x11 xs0 xs1) n) (hd4 n)) (fun n => (l_h arg19 harg19 xs2) n ((Hs c arg6 harg6 arg7 harg7 arg9 harg9 arg12 harg12 arg19 harg19 x5 x6 x8 x11 xs2) n) (gr2 n)) [] 1) 2 :=
  (show (Xs c i arg1 harg1 arg2 harg2 arg3 harg3 arg4 harg4 arg5 harg5 arg6 harg6 arg7 harg7 arg8 harg8 arg9 harg9 arg10 harg10 arg11 harg11 arg12 harg12 arg17 harg17 arg18 harg18 arg19 harg19 hl1 hl2 hl3 hl4 hl5 hl6 hl7 hl8 hl9 hl10 hl12 hl19 hl20 hl21 hl22 hl23 hl24 hl25 x0 x1 x2 x3 x4 x5 x6 x7 x8 x9 x10 x11 xs0 xs1 xs2) 2 = mixStep (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18 harg18 xs1) n ((Ms c arg9 harg9 arg12 harg12 arg18 harg18 x8 x11 xs1) n) (hd4 n)) (fun n => (l_ct arg17 harg17 xs0) n ((Cs c arg2 harg2 arg3 harg3 arg9 harg9 arg12 harg12 arg17 harg17 arg18 harg18 x1 x2 x8 x11 xs0 xs1) n) (hd4 n)) (fun n => (l_h arg19 harg19 xs2) n ((Hs c arg6 harg6 arg7 harg7 arg9 harg9 arg12 harg12 arg19 harg19 x5 x6 x8 x11 xs2) n) (gr2 n)) 1 1 ((Xs c i arg1 harg1 arg2 harg2 arg3 harg3 arg4 harg4 arg5 harg5 arg6 harg6 arg7 harg7 arg8 harg8 arg9 harg9 arg10 harg10 arg11 harg11 arg12 harg12 arg17 harg17 arg18 harg18 arg19 harg19 hl1 hl2 hl3 hl4 hl5 hl6 hl7 hl8 hl9 hl10 hl12 hl19 hl20 hl21 hl22 hl23 hl24 hl25 x0 x1 x2 x3 x4 x5 x6 x7 x8 x9 x10 x11 xs0 xs1 xs2) 1) from rfl).trans (by rw [xs_1]; rfl)

theorem xs_3 : (Xs c i arg1 harg1 arg2 harg2 arg3 harg3 arg4 harg4 arg5 harg5 arg6 harg6 arg7 harg7 arg8 harg8 arg9 harg9 arg10 harg10 arg11 harg11 arg12 harg12 arg17 harg17 arg18 harg18 arg19 harg19 hl1 hl2 hl3 hl4 hl5 hl6 hl7 hl8 hl9 hl10 hl12 hl19 hl20 hl21 hl22 hl23 hl24 hl25 x0 x1 x2 x3 x4 x5 x6 x7 x8 x9 x10 x11 xs0 xs1 xs2) 3 = (mixG (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18 harg18 xs1) n ((Ms c arg9 harg9 arg12 harg12 arg18 harg18 x8 x11 xs1) n) (hd4 n)) (fun n => (l_ct arg17 harg17 xs0) n ((Cs c arg2 harg2 arg3 harg3 arg9 harg9 arg12 harg12 arg17 harg17 arg18 harg18 x1 x2 x8 x11 xs0 xs1) n) (hd4 n)) (fun n => (l_h arg19 harg19 xs2) n ((Hs c arg6 harg6 arg7 harg7 arg9 harg9 arg12 harg12 arg19 harg19 x5 x6 x8 x11 xs2) n) (gr2 n)) [] 1) 3 :=
  (show (Xs c i arg1 harg1 arg2 harg2 arg3 harg3 arg4 harg4 arg5 harg5 arg6 harg6 arg7 harg7 arg8 harg8 arg9 harg9 arg10 harg10 arg11 harg11 arg12 harg12 arg17 harg17 arg18 harg18 arg19 harg19 hl1 hl2 hl3 hl4 hl5 hl6 hl7 hl8 hl9 hl10 hl12 hl19 hl20 hl21 hl22 hl23 hl24 hl25 x0 x1 x2 x3 x4 x5 x6 x7 x8 x9 x10 x11 xs0 xs1 xs2) 3 = mixStep (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18 harg18 xs1) n ((Ms c arg9 harg9 arg12 harg12 arg18 harg18 x8 x11 xs1) n) (hd4 n)) (fun n => (l_ct arg17 harg17 xs0) n ((Cs c arg2 harg2 arg3 harg3 arg9 harg9 arg12 harg12 arg17 harg17 arg18 harg18 x1 x2 x8 x11 xs0 xs1) n) (hd4 n)) (fun n => (l_h arg19 harg19 xs2) n ((Hs c arg6 harg6 arg7 harg7 arg9 harg9 arg12 harg12 arg19 harg19 x5 x6 x8 x11 xs2) n) (gr2 n)) 1 2 ((Xs c i arg1 harg1 arg2 harg2 arg3 harg3 arg4 harg4 arg5 harg5 arg6 harg6 arg7 harg7 arg8 harg8 arg9 harg9 arg10 harg10 arg11 harg11 arg12 harg12 arg17 harg17 arg18 harg18 arg19 harg19 hl1 hl2 hl3 hl4 hl5 hl6 hl7 hl8 hl9 hl10 hl12 hl19 hl20 hl21 hl22 hl23 hl24 hl25 x0 x1 x2 x3 x4 x5 x6 x7 x8 x9 x10 x11 xs0 xs1 xs2) 2) from rfl).trans (by rw [xs_2]; rfl)

theorem mix_run : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs0 xs1 xs2 xs3).2.2.2.2.1 = (mixG (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (fun n => (l_ct arg17 harg17 xs0) n ((ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (l_ct arg17 harg17 xs0) []) n) (hd4 n)) (fun n => (l_h arg19 harg19 xs2) n ((hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19 harg19 xs2) []) n) (gr2 n)) [] 1) 4 := by
  have e : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs0 xs1 xs2 xs3).2.2.2.2.1 = mixStep (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18 harg18 xs1) n ((Ms c arg9 harg9 arg12 harg12 arg18 harg18 x8 x11 xs1) n) (hd4 n)) (fun n => (l_ct arg17 harg17 xs0) n ((Cs c arg2 harg2 arg3 harg3 arg9 harg9 arg12 harg12 arg17 harg17 arg18 harg18 x1 x2 x8 x11 xs0 xs1) n) (hd4 n)) (fun n => (l_h arg19 harg19 xs2) n ((Hs c arg6 harg6 arg7 harg7 arg9 harg9 arg12 harg12 arg19 harg19 x5 x6 x8 x11 xs2) n) (gr2 n)) 1 3 ((Xs c i arg1 harg1 arg2 harg2 arg3 harg3 arg4 harg4 arg5 harg5 arg6 harg6 arg7 harg7 arg8 harg8 arg9 harg9 arg10 harg10 arg11 harg11 arg12 harg12 arg17 harg17 arg18 harg18 arg19 harg19 hl1 hl2 hl3 hl4 hl5 hl6 hl7 hl8 hl9 hl10 hl12 hl19 hl20 hl21 hl22 hl23 hl24 hl25 x0 x1 x2 x3 x4 x5 x6 x7 x8 x9 x10 x11 xs0 xs1 xs2) 3) := by
    unfold kernelRun0_B
    rfl
  rw [e, xs_3]
  refine mixG_congr ?_ ?_ ?_ 4 (by omega)
  · apply ms_all
  · apply cs_all
  · apply hs_all

theorem mix_pieces : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs0 xs1 xs2 xs3).2.2.2.2.1 =
    mixL (blkOf x0 x1 x2 x3 x4 x5 x6 x7 x8 x9 x10 x11) (ldK xs0 xs1 xs2) [] [] [] [] 1 4 := by
  rw [mix_run, ← blk_eq arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11, ← lds_eq arg17 harg17 arg18 harg18 arg19 harg19 xs0 xs1 xs2]
  rfl

def mx (d : Fin 4) : FVec F S1x2048x128 .bf16 :=
  View.readAt (Elt F) ((arg20.slice (Rect.unit (k0_off1 i) S1x4x2048x128.size (by rw [hl0]; exact inb4 (by omega) (by omega) (by omega) (by omega))) (fun _ => rfl)).squeeze S4x2048x128
      squeezes_S1x4x2048x128_S4x2048x128).view
    (Rect.unit ![d.val, 0, 0] S1x2048x128.size (inb3 (by omega) (by omega) (by omega)) : Rect S4x2048x128).toLoadRect (harg20.unread xs3)

theorem out_run : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs0 xs1 xs2 xs3).1 =
    [⟨(Rect.unit ![0, 0] S512x1024.size (inb2 (by omega) (by omega)) : Rect S512x1024),
      outT (arg22.view.readCov (accL
          (fun j => View.readAt (Elt F) arg13.view (Rect.unit ![0, 256 * j.val] S512x256.size (inb2 (by omega) (by omega)) : Rect S512x1024).toLoadRect (harg13.unread x12))
          (fun j => View.readAt (Elt F) arg14.view (Rect.unit ![0, 256 * j.val] S2048x256.size (inb2 (by omega) (by omega)) : Rect S2048x1024).toLoadRect (harg14.unread x13))
          (arg21.view.readCov (mixrmL (mx i arg20 harg20 hl0 xs3)) (Rect.unit ![0, 0] S512x2048.size (inb2 (by omega) (by omega)) : Rect S512x2048).toLoadRect))
        (Rect.unit ![0, 0] S512x1024.size (inb2 (by omega) (by omega)) : Rect S512x1024).toLoadRect)
        (View.readAt (Elt F) arg15.view (Rect.unit ![0, 0] S1x1024.size (inb2 (by omega) (by omega)) : Rect S1x1024).toLoadRect (harg15.unread x14))⟩] := by
  unfold kernelRun0_B
  rfl

end Cert.KernelIdeal.CaseB

end
-- ==== Proof.CaseC.lean ====
/- Case C of the body: the pieces it leaves are those of `Pieces`, over the blocks of its operands' windows and what the call before left in the carried buffers. -/
module

public import proofs.«01_k».proof.Proof.Pieces
public import proofs.«01_k».proof.Proof.Gen.KernelIdeal.Frame.RunC

@[expose] public section

set_option maxRecDepth 16384

noncomputable section

namespace Cert.KernelIdeal.CaseC

open Idealize.ShloMosaic Idealize.ShloMosaic.TcCoe Idealize.SL.Sem Cert.KernelIdeal Cert.KernelIdeal.Gen Cert.KernelIdeal.Step

variable {F : FTy → Type} [FloatOps F] [Named F]

variable (c : Dev nD) (i : grid0.Coords) (arg1 : Memref sig .tc .vmem S4x512x128 .bf16) (harg1 : arg1.IsWhole) (arg2 : Memref sig .tc .vmem S512x512 .bf16) (harg2 : arg2.IsWhole) (arg3 : Memref sig .tc .vmem S4x1024x128 .bf16) (harg3 : arg3.IsWhole) (arg4 : Memref sig .tc .vmem S4x1024x128 .bf16) (harg4 : arg4.IsWhole) (arg5 : Memref sig .tc .vmem S4x1024x128 .bf16) (harg5 : arg5.IsWhole) (arg6 : Memref sig .tc .vmem S4x1024x128 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S4x32x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S16x128 .f32) (harg12 : arg12.IsWhole) (arg13 : Memref sig .tc .vmem S512x1024 .f32) (harg13 : arg13.IsWhole) (arg14 : Memref sig .tc .vmem S2048x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S4x272x128 .f32) (harg17 : arg17.IsWhole) (arg18 : Memref sig .tc .vmem S4x1x128 .f32) (harg18 : arg18.IsWhole) (arg19 : Memref sig .tc .vmem S2x512x128 .f32) (harg19 : arg19.IsWhole) (arg20 : Memref sig .tc .vmem S2x4x2048x128 .bf16) (harg20 : arg20.IsWhole) (arg21 : Memref sig .tc .vmem S512x2048 .bf16) (harg21 : arg21.IsWhole) (arg22 : Memref sig .tc .vmem S512x1024 .f32) (harg22 : arg22.IsWhole) (hc0 : ¬cond0_0 i) (hc1 : ¬cond0_1 i) (hc2 : ¬cond0_2 i) (hl0 : k0_off1 i = ![1, 0, 0, 0]) (hl1 : k0_off10 i = ![0, 1, 256, 0]) (hl2 : k0_off11 i = ![0, 1, 512, 0]) (hl3 : k0_off12 i = ![0, 1, 1024, 0]) (hl4 : k0_off13 i = ![0, 1, 768, 0]) (hl5 : k0_off14 i = ![0, 1, 1536, 0]) (hl6 : k0_off15 i = ![0, 2, 0, 0]) (hl7 : k0_off16 i = ![0, 2, 256, 0]) (hl8 : k0_off17 i = ![0, 2, 512, 0]) (hl9 : k0_off18 i = ![0, 2, 1024, 0]) (hl10 : k0_off19 i = ![0, 2, 768, 0]) (hl11 : k0_off2 i = ![0, 0, 0, 0]) (hl12 : k0_off20 i = ![0, 2, 1536, 0]) (hl13 : k0_off21 i = ![0, 3, 0, 0]) (hl14 : k0_off22 i = ![0, 3, 256, 0]) (hl15 : k0_off23 i = ![0, 3, 512, 0]) (hl16 : k0_off24 i = ![0, 3, 1024, 0]) (hl17 : k0_off25 i = ![0, 3, 768, 0]) (hl18 : k0_off26 i = ![0, 3, 1536, 0]) (hl19 : k0_off3 i = ![0, 0, 0, 0]) (hl20 : k0_off4 i = ![0, 0, 256, 0]) (hl21 : k0_off5 i = ![0, 0, 512, 0]) (hl22 : k0_off6 i = ![0, 0, 1024, 0]) (hl23 : k0_off7 i = ![0, 0, 768, 0]) (hl24 : k0_off8 i = ![0, 0, 1536, 0]) (hl25 : k0_off9 i = ![0, 1, 0, 0])
    (x0 : Vec F S4x512x128 .bf16) (x1 : Vec F S512x512 .bf16) (x2 : Vec F S4x1024x128 .bf16) (x3 : Vec F S4x1024x128 .bf16) (x4 : Vec F S4x1024x128 .bf16) (x5 : Vec F S4x1024x128 .bf16) (x6 : Vec F S512x256 .bf16) (x7 : Vec F S512x256 .bf16) (x8 : Vec F S4x32x128 .f32) (x9 : Vec F S1024x128 .f32) (x10 : Vec F S1024x128 .f32) (x11 : Vec F S16x128 .f32) (x12 : Vec F S512x1024 .f32) (x13 : Vec F S2048x1024 .bf16) (x14 : Vec F S1x1024 .f32) (xs0 : Vec F S4x272x128 .f32) (xs1 : Vec F S4x1x128 .f32) (xs2 : Vec F S2x512x128 .f32) (xs3 : Vec F S2x4x2048x128 .bf16)

def b_q : Fin 4 → Fin 4 → FVec F S1x128x128 .bf16 := fun c h => View.readAt (Elt F) arg1.view (Rect.unit ![c.val, 128 * h.val, 0] S1x128x128.size (inb3 (by omega) (by omega) (by omega)) : Rect S4x512x128).toLoadRect (harg1.unread x0)
def b_k : Fin 4 → Fin 4 → FVec F S128x128 .bf16 := fun c h => View.readAt (Elt F) arg2.view (Rect.unit ![128 * c.val, 128 * h.val] S128x128.size (inb2 (by omega) (by omega)) : Rect S512x512).toLoadRect (harg2.unread x1)
def b_v : Fin 4 → Fin 4 → FVec F S1x256x128 .bf16 := fun c h => View.readAt (Elt F) arg3.view (Rect.unit ![c.val, 256 * h.val, 0] S1x256x128.size (inb3 (by omega) (by omega) (by omega)) : Rect S4x1024x128).toLoadRect (harg3.unread x2)
def b_o : Fin 4 → Fin 4 → FVec F S1x256x128 .bf16 := fun c h => View.readAt (Elt F) arg4.view (Rect.unit ![c.val, 256 * h.val, 0] S1x256x128.size (inb3 (by omega) (by omega) (by omega)) : Rect S4x1024x128).toLoadRect (harg4.unread x3)
def b_z : Fin 4 → Fin 2 → Fin 8 → FVec F S1x64x128 .bf16 := fun c g r => View.readAt (Elt F) arg5.view (Rect.unit ![c.val, 64 * (8 * g.val + r.val), 0] S1x64x128.size (inb3 (by omega) (by omega) (by omega)) : Rect S4x1024x128).toLoadRect (harg5.unread x4)
def b_x : Fin 4 → Fin 2 → Fin 8 → FVec F S1x64x128 .bf16 := fun c g r => View.readAt (Elt F) arg6.view (Rect.unit ![c.val, 64 * (8 * g.val + r.val), 0] S1x64x128.size (inb3 (by omega) (by omega) (by omega)) : Rect S4x1024x128).toLoadRect (harg6.unread x5)
def b_b : Fin 4 → Fin 2 → FVec F S128x128 .bf16 := fun c g => View.readAt (Elt F) arg7.view (Rect.unit ![128 * c.val, 128 * g.val] S128x128.size (inb2 (by omega) (by omega)) : Rect S512x256).toLoadRect (harg7.unread x6)
def b_c : Fin 4 → Fin 2 → FVec F S128x128 .bf16 := fun c g => View.readAt (Elt F) arg8.view (Rect.unit ![128 * c.val, 128 * g.val] S128x128.size (inb2 (by omega) (by omega)) : Rect S512x256).toLoadRect (harg8.unread x7)
def b_g : Fin 4 → FVec F S1x32x128 .f32 := fun c => View.readAt (Elt F) arg9.view (Rect.unit ![c.val, 0, 0] S1x32x128.size (inb3 (by omega) (by omega) (by omega)) : Rect S4x32x128).toLoadRect (harg9.unread x8)
def b_nw : Fin 2 → FVec F S512x128 .f32 := fun g => View.readAt (Elt F) arg10.view (Rect.unit ![512 * g.val, 0] S512x128.size (inb2 (by omega) (by omega)) : Rect S1024x128).toLoadRect (harg10.unread x9)
def b_ds : Fin 2 → Fin 8 → FVec F S64x128 .f32 := fun g r => View.readAt (Elt F) arg11.view (Rect.unit ![64 * (8 * g.val + r.val), 0] S64x128.size (inb2 (by omega) (by omega)) : Rect S1024x128).toLoadRect (harg11.unread x10)
def b_al : FVec F S16x128 .f32 := View.readAt (Elt F) arg12.view (Rect.unit ![0, 0] S16x128.size (inb2 (by omega) (by omega)) : Rect S16x128).toLoadRect (harg12.unread x11)
def b_cu : FVec F S128x128 .f32 := cum (b_al arg12 harg12 x11) (b_g arg9 harg9 x8)

def l_m : Nat → List (View.Piece (Elt F) S4x1x128 .f32) → Fin 4 → FVec F S1x1x128 .f32 := fun n L h => if n < 4 then View.readAt (Elt F) arg18.view (r18 h).toLoadRect (harg18.unread xs1) else arg18.view.readCov L (r18 h).toLoadRect
def l_ct : Nat → List (View.Piece (Elt F) S4x272x128 .f32) → Fin 4 → FVec F S1x272x128 .f32 := fun n L h => if n < 4 then View.readAt (Elt F) arg17.view (r17 h).toLoadRect (harg17.unread xs0) else arg17.view.readCov L (r17 h).toLoadRect
def l_h : Nat → List (View.Piece (Elt F) S2x512x128 .f32) → Fin 2 → FVec F S1x512x128 .f32 := fun n L g => if n < 2 then View.readAt (Elt F) arg19.view (r19g g).toLoadRect (harg19.unread xs2) else arg19.view.readCov L (r19g g).toLoadRect

def blk : Blk F := ⟨(b_q arg1 harg1 x0), (b_k arg2 harg2 x1), (b_v arg3 harg3 x2), (b_o arg4 harg4 x3), (b_z arg5 harg5 x4), (b_x arg6 harg6 x5), (b_b arg7 harg7 x6), (b_c arg8 harg8 x7), (b_g arg9 harg9 x8), (b_nw arg10 harg10 x9), (b_ds arg11 harg11 x10), (b_al arg12 harg12 x11)⟩

def lds : Lds F := ⟨(l_m arg18 harg18 xs1), (l_ct arg17 harg17 xs0), (l_h arg19 harg19 xs2)⟩

theorem blk_eq : blk arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 = blkOf x0 x1 x2 x3 x4 x5 x6 x7 x8 x9 x10 x11 := by
  unfold blk blkOf b_q b_k b_v b_o b_z b_x b_b b_c b_g b_nw b_ds b_al
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]

theorem lds_eq : lds arg17 harg17 arg18 harg18 arg19 harg19 xs0 xs1 xs2 = (ldK xs0 xs1 xs2) := by
  unfold lds l_m l_ct l_h ldK
  simp only [View.readCov_eq_canon', View.readAt_eq_ld, harg17.read_unread, harg18.read_unread, harg19.read_unread]
  try rfl

theorem l_m_lt (n : Nat) (hn : n < 4) (L L' : List (View.Piece (Elt F) S4x1x128 .f32)) (h : Fin 4) :
    l_m arg18 harg18 xs1 n L h = l_m arg18 harg18 xs1 n L' h := by
  unfold l_m
  rw [if_pos hn, if_pos hn]

theorem l_ct_lt (n : Nat) (hn : n < 4) (L L' : List (View.Piece (Elt F) S4x272x128 .f32)) (h : Fin 4) :
    l_ct arg17 harg17 xs0 n L h = l_ct arg17 harg17 xs0 n L' h := by
  unfold l_ct
  rw [if_pos hn, if_pos hn]

theorem l_h_lt (n : Nat) (hn : n < 2) (L L' : List (View.Piece (Elt F) S2x512x128 .f32)) (h : Fin 2) :
    l_h arg19 harg19 xs2 n L h = l_h arg19 harg19 xs2 n L' h := by
  unfold l_h
  rw [if_pos hn, if_pos hn]

def Ms : Nat → List (View.Piece (Elt F) S4x1x128 .f32)
  | 4 => kernelRun0_C.sl.HS1_4 c arg9 harg9 arg12 harg12 arg18 harg18 x8 x11 xs1
  | 5 => kernelRun0_C.sl.HS1_5 c arg9 harg9 arg12 harg12 arg18 harg18 x8 x11 xs1
  | 6 => kernelRun0_C.sl.HS1_6 c arg9 harg9 arg12 harg12 arg18 harg18 x8 x11 xs1
  | 7 => kernelRun0_C.sl.HS1_7 c arg9 harg9 arg12 harg12 arg18 harg18 x8 x11 xs1
  | 8 => kernelRun0_C.sl.HS1_8 c arg9 harg9 arg12 harg12 arg18 harg18 x8 x11 xs1
  | 9 => kernelRun0_C.sl.HS1_9 c arg9 harg9 arg12 harg12 arg18 harg18 x8 x11 xs1
  | 10 => kernelRun0_C.sl.HS1_10 c arg9 harg9 arg12 harg12 arg18 harg18 x8 x11 xs1
  | 11 => kernelRun0_C.sl.HS1_11 c arg9 harg9 arg12 harg12 arg18 harg18 x8 x11 xs1
  | 12 => kernelRun0_C.sl.HS1_12 c arg9 harg9 arg12 harg12 arg18 harg18 x8 x11 xs1
  | 13 => kernelRun0_C.sl.HS1_13 c arg9 harg9 arg12 harg12 arg18 harg18 x8 x11 xs1
  | 14 => kernelRun0_C.sl.HS1_14 c arg9 harg9 arg12 harg12 arg18 harg18 x8 x11 xs1
  | 15 => kernelRun0_C.sl.HS1_15 c arg9 harg9 arg12 harg12 arg18 harg18 x8 x11 xs1
  | _ => []

theorem ms_4 : (Ms c arg9 harg9 arg12 harg12 arg18 harg18 x8 x11 xs1) 4 = (mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) 4 := by
  rfl

theorem ms_5 : (Ms c arg9 harg9 arg12 harg12 arg18 harg18 x8 x11 xs1) 5 = (mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) 5 :=
  (show (Ms c arg9 harg9 arg12 harg12 arg18 harg18 x8 x11 xs1) 5 = mStep (fun c h mp => mNew (row4 (bAll (b_cu arg9 harg9 arg12 harg12 x8 x11) c) h) (row4 (uAll (b_cu arg9 harg9 arg12 harg12 x8 x11) c ((b_g arg9 harg9 x8) c)) h) mp) 4 ((l_m arg18 harg18 xs1) 4 ((Ms c arg9 harg9 arg12 harg12 arg18 harg18 x8 x11 xs1) 4) (hd4 4)) ((Ms c arg9 harg9 arg12 harg12 arg18 harg18 x8 x11 xs1) 4) from rfl).trans (by rw [ms_4]; rfl)

theorem ms_6 : (Ms c arg9 harg9 arg12 harg12 arg18 harg18 x8 x11 xs1) 6 = (mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) 6 :=
  (show (Ms c arg9 harg9 arg12 harg12 arg18 harg18 x8 x11 xs1) 6 = mStep (fun c h mp => mNew (row4 (bAll (b_cu arg9 harg9 arg12 harg12 x8 x11) c) h) (row4 (uAll (b_cu arg9 harg9 arg12 harg12 x8 x11) c ((b_g arg9 harg9 x8) c)) h) mp) 5 ((l_m arg18 harg18 xs1) 5 ((Ms c arg9 harg9 arg12 harg12 arg18 harg18 x8 x11 xs1) 5) (hd4 5)) ((Ms c arg9 harg9 arg12 harg12 arg18 harg18 x8 x11 xs1) 5) from rfl).trans (by rw [ms_5]; rfl)

theorem ms_7 : (Ms c arg9 harg9 arg12 harg12 arg18 harg18 x8 x11 xs1) 7 = (mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) 7 :=
  (show (Ms c arg9 harg9 arg12 harg12 arg18 harg18 x8 x11 xs1) 7 = mStep (fun c h mp => mNew (row4 (bAll (b_cu arg9 harg9 arg12 harg12 x8 x11) c) h) (row4 (uAll (b_cu arg9 harg9 arg12 harg12 x8 x11) c ((b_g arg9 harg9 x8) c)) h) mp) 6 ((l_m arg18 harg18 xs1) 6 ((Ms c arg9 harg9 arg12 harg12 arg18 harg18 x8 x11 xs1) 6) (hd4 6)) ((Ms c arg9 harg9 arg12 harg12 arg18 harg18 x8 x11 xs1) 6) from rfl).trans (by rw [ms_6]; rfl)

theorem ms_8 : (Ms c arg9 harg9 arg12 harg12 arg18 harg18 x8 x11 xs1) 8 = (mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) 8 :=
  (show (Ms c arg9 harg9 arg12 harg12 arg18 harg18 x8 x11 xs1) 8 = mStep (fun c h mp => mNew (row4 (bAll (b_cu arg9 harg9 arg12 harg12 x8 x11) c) h) (row4 (uAll (b_cu arg9 harg9 arg12 harg12 x8 x11) c ((b_g arg9 harg9 x8) c)) h) mp) 7 ((l_m arg18 harg18 xs1) 7 ((Ms c arg9 harg9 arg12 harg12 arg18 harg18 x8 x11 xs1) 7) (hd4 7)) ((Ms c arg9 harg9 arg12 harg12 arg18 harg18 x8 x11 xs1) 7) from rfl).trans (by rw [ms_7]; rfl)

theorem ms_9 : (Ms c arg9 harg9 arg12 harg12 arg18 harg18 x8 x11 xs1) 9 = (mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) 9 :=
  (show (Ms c arg9 harg9 arg12 harg12 arg18 harg18 x8 x11 xs1) 9 = mStep (fun c h mp => mNew (row4 (bAll (b_cu arg9 harg9 arg12 harg12 x8 x11) c) h) (row4 (uAll (b_cu arg9 harg9 arg12 harg12 x8 x11) c ((b_g arg9 harg9 x8) c)) h) mp) 8 ((l_m arg18 harg18 xs1) 8 ((Ms c arg9 harg9 arg12 harg12 arg18 harg18 x8 x11 xs1) 8) (hd4 8)) ((Ms c arg9 harg9 arg12 harg12 arg18 harg18 x8 x11 xs1) 8) from rfl).trans (by rw [ms_8]; rfl)

theorem ms_10 : (Ms c arg9 harg9 arg12 harg12 arg18 harg18 x8 x11 xs1) 10 = (mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) 10 :=
  (show (Ms c arg9 harg9 arg12 harg12 arg18 harg18 x8 x11 xs1) 10 = mStep (fun c h mp => mNew (row4 (bAll (b_cu arg9 harg9 arg12 harg12 x8 x11) c) h) (row4 (uAll (b_cu arg9 harg9 arg12 harg12 x8 x11) c ((b_g arg9 harg9 x8) c)) h) mp) 9 ((l_m arg18 harg18 xs1) 9 ((Ms c arg9 harg9 arg12 harg12 arg18 harg18 x8 x11 xs1) 9) (hd4 9)) ((Ms c arg9 harg9 arg12 harg12 arg18 harg18 x8 x11 xs1) 9) from rfl).trans (by rw [ms_9]; rfl)

theorem ms_11 : (Ms c arg9 harg9 arg12 harg12 arg18 harg18 x8 x11 xs1) 11 = (mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) 11 :=
  (show (Ms c arg9 harg9 arg12 harg12 arg18 harg18 x8 x11 xs1) 11 = mStep (fun c h mp => mNew (row4 (bAll (b_cu arg9 harg9 arg12 harg12 x8 x11) c) h) (row4 (uAll (b_cu arg9 harg9 arg12 harg12 x8 x11) c ((b_g arg9 harg9 x8) c)) h) mp) 10 ((l_m arg18 harg18 xs1) 10 ((Ms c arg9 harg9 arg12 harg12 arg18 harg18 x8 x11 xs1) 10) (hd4 10)) ((Ms c arg9 harg9 arg12 harg12 arg18 harg18 x8 x11 xs1) 10) from rfl).trans (by rw [ms_10]; rfl)

theorem ms_12 : (Ms c arg9 harg9 arg12 harg12 arg18 harg18 x8 x11 xs1) 12 = (mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) 12 :=
  (show (Ms c arg9 harg9 arg12 harg12 arg18 harg18 x8 x11 xs1) 12 = mStep (fun c h mp => mNew (row4 (bAll (b_cu arg9 harg9 arg12 harg12 x8 x11) c) h) (row4 (uAll (b_cu arg9 harg9 arg12 harg12 x8 x11) c ((b_g arg9 harg9 x8) c)) h) mp) 11 ((l_m arg18 harg18 xs1) 11 ((Ms c arg9 harg9 arg12 harg12 arg18 harg18 x8 x11 xs1) 11) (hd4 11)) ((Ms c arg9 harg9 arg12 harg12 arg18 harg18 x8 x11 xs1) 11) from rfl).trans (by rw [ms_11]; rfl)

theorem ms_13 : (Ms c arg9 harg9 arg12 harg12 arg18 harg18 x8 x11 xs1) 13 = (mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) 13 :=
  (show (Ms c arg9 harg9 arg12 harg12 arg18 harg18 x8 x11 xs1) 13 = mStep (fun c h mp => mNew (row4 (bAll (b_cu arg9 harg9 arg12 harg12 x8 x11) c) h) (row4 (uAll (b_cu arg9 harg9 arg12 harg12 x8 x11) c ((b_g arg9 harg9 x8) c)) h) mp) 12 ((l_m arg18 harg18 xs1) 12 ((Ms c arg9 harg9 arg12 harg12 arg18 harg18 x8 x11 xs1) 12) (hd4 12)) ((Ms c arg9 harg9 arg12 harg12 arg18 harg18 x8 x11 xs1) 12) from rfl).trans (by rw [ms_12]; rfl)

theorem ms_14 : (Ms c arg9 harg9 arg12 harg12 arg18 harg18 x8 x11 xs1) 14 = (mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) 14 :=
  (show (Ms c arg9 harg9 arg12 harg12 arg18 harg18 x8 x11 xs1) 14 = mStep (fun c h mp => mNew (row4 (bAll (b_cu arg9 harg9 arg12 harg12 x8 x11) c) h) (row4 (uAll (b_cu arg9 harg9 arg12 harg12 x8 x11) c ((b_g arg9 harg9 x8) c)) h) mp) 13 ((l_m arg18 harg18 xs1) 13 ((Ms c arg9 harg9 arg12 harg12 arg18 harg18 x8 x11 xs1) 13) (hd4 13)) ((Ms c arg9 harg9 arg12 harg12 arg18 harg18 x8 x11 xs1) 13) from rfl).trans (by rw [ms_13]; rfl)

theorem ms_15 : (Ms c arg9 harg9 arg12 harg12 arg18 harg18 x8 x11 xs1) 15 = (mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) 15 :=
  (show (Ms c arg9 harg9 arg12 harg12 arg18 harg18 x8 x11 xs1) 15 = mStep (fun c h mp => mNew (row4 (bAll (b_cu arg9 harg9 arg12 harg12 x8 x11) c) h) (row4 (uAll (b_cu arg9 harg9 arg12 harg12 x8 x11) c ((b_g arg9 harg9 x8) c)) h) mp) 14 ((l_m arg18 harg18 xs1) 14 ((Ms c arg9 harg9 arg12 harg12 arg18 harg18 x8 x11 xs1) 14) (hd4 14)) ((Ms c arg9 harg9 arg12 harg12 arg18 harg18 x8 x11 xs1) 14) from rfl).trans (by rw [ms_14]; rfl)

theorem m_run : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs0 xs1 xs2 xs3).2.2.1 = (mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) 16 := by
  have e : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs0 xs1 xs2 xs3).2.2.1 = mStep (fun c h mp => mNew (row4 (bAll (b_cu arg9 harg9 arg12 harg12 x8 x11) c) h) (row4 (uAll (b_cu arg9 harg9 arg12 harg12 x8 x11) c ((b_g arg9 harg9 x8) c)) h) mp) 15 ((l_m arg18 harg18 xs1) 15 ((Ms c arg9 harg9 arg12 harg12 arg18 harg18 x8 x11 xs1) 15) (hd4 15)) ((Ms c arg9 harg9 arg12 harg12 arg18 harg18 x8 x11 xs1) 15) := by
    unfold kernelRun0_C
    rfl
  rw [e, ms_15]
  rfl

theorem m_pieces : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs0 xs1 xs2 xs3).2.2.1 =
    mL (blkOf x0 x1 x2 x3 x4 x5 x6 x7 x8 x9 x10 x11) (ldK xs0 xs1 xs2) [] 16 := by
  rw [m_run, ← blk_eq arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11, ← lds_eq arg17 harg17 arg18 harg18 arg19 harg19 xs0 xs1 xs2]
  rfl

def Cs : Nat → List (View.Piece (Elt F) S4x272x128 .f32)
  | 4 => kernelRun0_C.sl.HS0_4 c arg2 harg2 arg3 harg3 arg9 harg9 arg12 harg12 arg17 harg17 arg18 harg18 x1 x2 x8 x11 xs0 xs1
  | 5 => kernelRun0_C.sl.HS0_5 c arg2 harg2 arg3 harg3 arg9 harg9 arg12 harg12 arg17 harg17 arg18 harg18 x1 x2 x8 x11 xs0 xs1
  | 6 => kernelRun0_C.sl.HS0_6 c arg2 harg2 arg3 harg3 arg9 harg9 arg12 harg12 arg17 harg17 arg18 harg18 x1 x2 x8 x11 xs0 xs1
  | 7 => kernelRun0_C.sl.HS0_7 c arg2 harg2 arg3 harg3 arg9 harg9 arg12 harg12 arg17 harg17 arg18 harg18 x1 x2 x8 x11 xs0 xs1
  | 8 => kernelRun0_C.sl.HS0_8 c arg2 harg2 arg3 harg3 arg9 harg9 arg12 harg12 arg17 harg17 arg18 harg18 x1 x2 x8 x11 xs0 xs1
  | 9 => kernelRun0_C.sl.HS0_9 c arg2 harg2 arg3 harg3 arg9 harg9 arg12 harg12 arg17 harg17 arg18 harg18 x1 x2 x8 x11 xs0 xs1
  | 10 => kernelRun0_C.sl.HS0_10 c arg2 harg2 arg3 harg3 arg9 harg9 arg12 harg12 arg17 harg17 arg18 harg18 x1 x2 x8 x11 xs0 xs1
  | 11 => kernelRun0_C.sl.HS0_11 c arg2 harg2 arg3 harg3 arg9 harg9 arg12 harg12 arg17 harg17 arg18 harg18 x1 x2 x8 x11 xs0 xs1
  | 12 => kernelRun0_C.sl.HS0_12 c arg2 harg2 arg3 harg3 arg9 harg9 arg12 harg12 arg17 harg17 arg18 harg18 x1 x2 x8 x11 xs0 xs1
  | 13 => kernelRun0_C.sl.HS0_13 c arg2 harg2 arg3 harg3 arg9 harg9 arg12 harg12 arg17 harg17 arg18 harg18 x1 x2 x8 x11 xs0 xs1
  | 14 => kernelRun0_C.sl.HS0_14 c arg2 harg2 arg3 harg3 arg9 harg9 arg12 harg12 arg17 harg17 arg18 harg18 x1 x2 x8 x11 xs0 xs1
  | 15 => kernelRun0_C.sl.HS0_15 c arg2 harg2 arg3 harg3 arg9 harg9 arg12 harg12 arg17 harg17 arg18 harg18 x1 x2 x8 x11 xs0 xs1
  | _ => []

theorem cs_4 : (Cs c arg2 harg2 arg3 harg3 arg9 harg9 arg12 harg12 arg17 harg17 arg18 harg18 x1 x2 x8 x11 xs0 xs1) 4 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (l_ct arg17 harg17 xs0) []) 4 := by
  rfl

theorem cs_5 : (Cs c arg2 harg2 arg3 harg3 arg9 harg9 arg12 harg12 arg17 harg17 arg18 harg18 x1 x2 x8 x11 xs0 xs1) 5 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (l_ct arg17 harg17 xs0) []) 5 :=
  (show (Cs c arg2 harg2 arg3 harg3 arg9 harg9 arg12 harg12 arg17 harg17 arg18 harg18 x1 x2 x8 x11 xs0 xs1) 5 = ctStep (fun c h mp cp => ctNew ((b_k arg2 harg2 x1) c h) ((b_v arg3 harg3 x2) c h) (row4 (uAll (b_cu arg9 harg9 arg12 harg12 x8 x11) c ((b_g arg9 harg9 x8) c)) h) mp cp) 4 ((l_m arg18 harg18 xs1) 4 ((Ms c arg9 harg9 arg12 harg12 arg18 harg18 x8 x11 xs1) 4) (hd4 4)) ((l_ct arg17 harg17 xs0) 4 ((Cs c arg2 harg2 arg3 harg3 arg9 harg9 arg12 harg12 arg17 harg17 arg18 harg18 x1 x2 x8 x11 xs0 xs1) 4) (hd4 4)) ((Cs c arg2 harg2 arg3 harg3 arg9 harg9 arg12 harg12 arg17 harg17 arg18 harg18 x1 x2 x8 x11 xs0 xs1) 4) from rfl).trans (by rw [ms_4, cs_4]; rfl)

theorem cs_6 : (Cs c arg2 harg2 arg3 harg3 arg9 harg9 arg12 harg12 arg17 harg17 arg18 harg18 x1 x2 x8 x11 xs0 xs1) 6 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (l_ct arg17 harg17 xs0) []) 6 :=
  (show (Cs c arg2 harg2 arg3 harg3 arg9 harg9 arg12 harg12 arg17 harg17 arg18 harg18 x1 x2 x8 x11 xs0 xs1) 6 = ctStep (fun c h mp cp => ctNew ((b_k arg2 harg2 x1) c h) ((b_v arg3 harg3 x2) c h) (row4 (uAll (b_cu arg9 harg9 arg12 harg12 x8 x11) c ((b_g arg9 harg9 x8) c)) h) mp cp) 5 ((l_m arg18 harg18 xs1) 5 ((Ms c arg9 harg9 arg12 harg12 arg18 harg18 x8 x11 xs1) 5) (hd4 5)) ((l_ct arg17 harg17 xs0) 5 ((Cs c arg2 harg2 arg3 harg3 arg9 harg9 arg12 harg12 arg17 harg17 arg18 harg18 x1 x2 x8 x11 xs0 xs1) 5) (hd4 5)) ((Cs c arg2 harg2 arg3 harg3 arg9 harg9 arg12 harg12 arg17 harg17 arg18 harg18 x1 x2 x8 x11 xs0 xs1) 5) from rfl).trans (by rw [ms_5, cs_5]; rfl)

theorem cs_7 : (Cs c arg2 harg2 arg3 harg3 arg9 harg9 arg12 harg12 arg17 harg17 arg18 harg18 x1 x2 x8 x11 xs0 xs1) 7 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (l_ct arg17 harg17 xs0) []) 7 :=
  (show (Cs c arg2 harg2 arg3 harg3 arg9 harg9 arg12 harg12 arg17 harg17 arg18 harg18 x1 x2 x8 x11 xs0 xs1) 7 = ctStep (fun c h mp cp => ctNew ((b_k arg2 harg2 x1) c h) ((b_v arg3 harg3 x2) c h) (row4 (uAll (b_cu arg9 harg9 arg12 harg12 x8 x11) c ((b_g arg9 harg9 x8) c)) h) mp cp) 6 ((l_m arg18 harg18 xs1) 6 ((Ms c arg9 harg9 arg12 harg12 arg18 harg18 x8 x11 xs1) 6) (hd4 6)) ((l_ct arg17 harg17 xs0) 6 ((Cs c arg2 harg2 arg3 harg3 arg9 harg9 arg12 harg12 arg17 harg17 arg18 harg18 x1 x2 x8 x11 xs0 xs1) 6) (hd4 6)) ((Cs c arg2 harg2 arg3 harg3 arg9 harg9 arg12 harg12 arg17 harg17 arg18 harg18 x1 x2 x8 x11 xs0 xs1) 6) from rfl).trans (by rw [ms_6, cs_6]; rfl)

theorem cs_8 : (Cs c arg2 harg2 arg3 harg3 arg9 harg9 arg12 harg12 arg17 harg17 arg18 harg18 x1 x2 x8 x11 xs0 xs1) 8 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (l_ct arg17 harg17 xs0) []) 8 :=
  (show (Cs c arg2 harg2 arg3 harg3 arg9 harg9 arg12 harg12 arg17 harg17 arg18 harg18 x1 x2 x8 x11 xs0 xs1) 8 = ctStep (fun c h mp cp => ctNew ((b_k arg2 harg2 x1) c h) ((b_v arg3 harg3 x2) c h) (row4 (uAll (b_cu arg9 harg9 arg12 harg12 x8 x11) c ((b_g arg9 harg9 x8) c)) h) mp cp) 7 ((l_m arg18 harg18 xs1) 7 ((Ms c arg9 harg9 arg12 harg12 arg18 harg18 x8 x11 xs1) 7) (hd4 7)) ((l_ct arg17 harg17 xs0) 7 ((Cs c arg2 harg2 arg3 harg3 arg9 harg9 arg12 harg12 arg17 harg17 arg18 harg18 x1 x2 x8 x11 xs0 xs1) 7) (hd4 7)) ((Cs c arg2 harg2 arg3 harg3 arg9 harg9 arg12 harg12 arg17 harg17 arg18 harg18 x1 x2 x8 x11 xs0 xs1) 7) from rfl).trans (by rw [ms_7, cs_7]; rfl)

theorem cs_9 : (Cs c arg2 harg2 arg3 harg3 arg9 harg9 arg12 harg12 arg17 harg17 arg18 harg18 x1 x2 x8 x11 xs0 xs1) 9 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (l_ct arg17 harg17 xs0) []) 9 :=
  (show (Cs c arg2 harg2 arg3 harg3 arg9 harg9 arg12 harg12 arg17 harg17 arg18 harg18 x1 x2 x8 x11 xs0 xs1) 9 = ctStep (fun c h mp cp => ctNew ((b_k arg2 harg2 x1) c h) ((b_v arg3 harg3 x2) c h) (row4 (uAll (b_cu arg9 harg9 arg12 harg12 x8 x11) c ((b_g arg9 harg9 x8) c)) h) mp cp) 8 ((l_m arg18 harg18 xs1) 8 ((Ms c arg9 harg9 arg12 harg12 arg18 harg18 x8 x11 xs1) 8) (hd4 8)) ((l_ct arg17 harg17 xs0) 8 ((Cs c arg2 harg2 arg3 harg3 arg9 harg9 arg12 harg12 arg17 harg17 arg18 harg18 x1 x2 x8 x11 xs0 xs1) 8) (hd4 8)) ((Cs c arg2 harg2 arg3 harg3 arg9 harg9 arg12 harg12 arg17 harg17 arg18 harg18 x1 x2 x8 x11 xs0 xs1) 8) from rfl).trans (by rw [ms_8, cs_8]; rfl)

theorem cs_10 : (Cs c arg2 harg2 arg3 harg3 arg9 harg9 arg12 harg12 arg17 harg17 arg18 harg18 x1 x2 x8 x11 xs0 xs1) 10 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (l_ct arg17 harg17 xs0) []) 10 :=
  (show (Cs c arg2 harg2 arg3 harg3 arg9 harg9 arg12 harg12 arg17 harg17 arg18 harg18 x1 x2 x8 x11 xs0 xs1) 10 = ctStep (fun c h mp cp => ctNew ((b_k arg2 harg2 x1) c h) ((b_v arg3 harg3 x2) c h) (row4 (uAll (b_cu arg9 harg9 arg12 harg12 x8 x11) c ((b_g arg9 harg9 x8) c)) h) mp cp) 9 ((l_m arg18 harg18 xs1) 9 ((Ms c arg9 harg9 arg12 harg12 arg18 harg18 x8 x11 xs1) 9) (hd4 9)) ((l_ct arg17 harg17 xs0) 9 ((Cs c arg2 harg2 arg3 harg3 arg9 harg9 arg12 harg12 arg17 harg17 arg18 harg18 x1 x2 x8 x11 xs0 xs1) 9) (hd4 9)) ((Cs c arg2 harg2 arg3 harg3 arg9 harg9 arg12 harg12 arg17 harg17 arg18 harg18 x1 x2 x8 x11 xs0 xs1) 9) from rfl).trans (by rw [ms_9, cs_9]; rfl)

theorem cs_11 : (Cs c arg2 harg2 arg3 harg3 arg9 harg9 arg12 harg12 arg17 harg17 arg18 harg18 x1 x2 x8 x11 xs0 xs1) 11 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (l_ct arg17 harg17 xs0) []) 11 :=
  (show (Cs c arg2 harg2 arg3 harg3 arg9 harg9 arg12 harg12 arg17 harg17 arg18 harg18 x1 x2 x8 x11 xs0 xs1) 11 = ctStep (fun c h mp cp => ctNew ((b_k arg2 harg2 x1) c h) ((b_v arg3 harg3 x2) c h) (row4 (uAll (b_cu arg9 harg9 arg12 harg12 x8 x11) c ((b_g arg9 harg9 x8) c)) h) mp cp) 10 ((l_m arg18 harg18 xs1) 10 ((Ms c arg9 harg9 arg12 harg12 arg18 harg18 x8 x11 xs1) 10) (hd4 10)) ((l_ct arg17 harg17 xs0) 10 ((Cs c arg2 harg2 arg3 harg3 arg9 harg9 arg12 harg12 arg17 harg17 arg18 harg18 x1 x2 x8 x11 xs0 xs1) 10) (hd4 10)) ((Cs c arg2 harg2 arg3 harg3 arg9 harg9 arg12 harg12 arg17 harg17 arg18 harg18 x1 x2 x8 x11 xs0 xs1) 10) from rfl).trans (by rw [ms_10, cs_10]; rfl)

theorem cs_12 : (Cs c arg2 harg2 arg3 harg3 arg9 harg9 arg12 harg12 arg17 harg17 arg18 harg18 x1 x2 x8 x11 xs0 xs1) 12 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (l_ct arg17 harg17 xs0) []) 12 :=
  (show (Cs c arg2 harg2 arg3 harg3 arg9 harg9 arg12 harg12 arg17 harg17 arg18 harg18 x1 x2 x8 x11 xs0 xs1) 12 = ctStep (fun c h mp cp => ctNew ((b_k arg2 harg2 x1) c h) ((b_v arg3 harg3 x2) c h) (row4 (uAll (b_cu arg9 harg9 arg12 harg12 x8 x11) c ((b_g arg9 harg9 x8) c)) h) mp cp) 11 ((l_m arg18 harg18 xs1) 11 ((Ms c arg9 harg9 arg12 harg12 arg18 harg18 x8 x11 xs1) 11) (hd4 11)) ((l_ct arg17 harg17 xs0) 11 ((Cs c arg2 harg2 arg3 harg3 arg9 harg9 arg12 harg12 arg17 harg17 arg18 harg18 x1 x2 x8 x11 xs0 xs1) 11) (hd4 11)) ((Cs c arg2 harg2 arg3 harg3 arg9 harg9 arg12 harg12 arg17 harg17 arg18 harg18 x1 x2 x8 x11 xs0 xs1) 11) from rfl).trans (by rw [ms_11, cs_11]; rfl)

theorem cs_13 : (Cs c arg2 harg2 arg3 harg3 arg9 harg9 arg12 harg12 arg17 harg17 arg18 harg18 x1 x2 x8 x11 xs0 xs1) 13 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (l_ct arg17 harg17 xs0) []) 13 :=
  (show (Cs c arg2 harg2 arg3 harg3 arg9 harg9 arg12 harg12 arg17 harg17 arg18 harg18 x1 x2 x8 x11 xs0 xs1) 13 = ctStep (fun c h mp cp => ctNew ((b_k arg2 harg2 x1) c h) ((b_v arg3 harg3 x2) c h) (row4 (uAll (b_cu arg9 harg9 arg12 harg12 x8 x11) c ((b_g arg9 harg9 x8) c)) h) mp cp) 12 ((l_m arg18 harg18 xs1) 12 ((Ms c arg9 harg9 arg12 harg12 arg18 harg18 x8 x11 xs1) 12) (hd4 12)) ((l_ct arg17 harg17 xs0) 12 ((Cs c arg2 harg2 arg3 harg3 arg9 harg9 arg12 harg12 arg17 harg17 arg18 harg18 x1 x2 x8 x11 xs0 xs1) 12) (hd4 12)) ((Cs c arg2 harg2 arg3 harg3 arg9 harg9 arg12 harg12 arg17 harg17 arg18 harg18 x1 x2 x8 x11 xs0 xs1) 12) from rfl).trans (by rw [ms_12, cs_12]; rfl)

theorem cs_14 : (Cs c arg2 harg2 arg3 harg3 arg9 harg9 arg12 harg12 arg17 harg17 arg18 harg18 x1 x2 x8 x11 xs0 xs1) 14 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (l_ct arg17 harg17 xs0) []) 14 :=
  (show (Cs c arg2 harg2 arg3 harg3 arg9 harg9 arg12 harg12 arg17 harg17 arg18 harg18 x1 x2 x8 x11 xs0 xs1) 14 = ctStep (fun c h mp cp => ctNew ((b_k arg2 harg2 x1) c h) ((b_v arg3 harg3 x2) c h) (row4 (uAll (b_cu arg9 harg9 arg12 harg12 x8 x11) c ((b_g arg9 harg9 x8) c)) h) mp cp) 13 ((l_m arg18 harg18 xs1) 13 ((Ms c arg9 harg9 arg12 harg12 arg18 harg18 x8 x11 xs1) 13) (hd4 13)) ((l_ct arg17 harg17 xs0) 13 ((Cs c arg2 harg2 arg3 harg3 arg9 harg9 arg12 harg12 arg17 harg17 arg18 harg18 x1 x2 x8 x11 xs0 xs1) 13) (hd4 13)) ((Cs c arg2 harg2 arg3 harg3 arg9 harg9 arg12 harg12 arg17 harg17 arg18 harg18 x1 x2 x8 x11 xs0 xs1) 13) from rfl).trans (by rw [ms_13, cs_13]; rfl)

theorem cs_15 : (Cs c arg2 harg2 arg3 harg3 arg9 harg9 arg12 harg12 arg17 harg17 arg18 harg18 x1 x2 x8 x11 xs0 xs1) 15 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (l_ct arg17 harg17 xs0) []) 15 :=
  (show (Cs c arg2 harg2 arg3 harg3 arg9 harg9 arg12 harg12 arg17 harg17 arg18 harg18 x1 x2 x8 x11 xs0 xs1) 15 = ctStep (fun c h mp cp => ctNew ((b_k arg2 harg2 x1) c h) ((b_v arg3 harg3 x2) c h) (row4 (uAll (b_cu arg9 harg9 arg12 harg12 x8 x11) c ((b_g arg9 harg9 x8) c)) h) mp cp) 14 ((l_m arg18 harg18 xs1) 14 ((Ms c arg9 harg9 arg12 harg12 arg18 harg18 x8 x11 xs1) 14) (hd4 14)) ((l_ct arg17 harg17 xs0) 14 ((Cs c arg2 harg2 arg3 harg3 arg9 harg9 arg12 harg12 arg17 harg17 arg18 harg18 x1 x2 x8 x11 xs0 xs1) 14) (hd4 14)) ((Cs c arg2 harg2 arg3 harg3 arg9 harg9 arg12 harg12 arg17 harg17 arg18 harg18 x1 x2 x8 x11 xs0 xs1) 14) from rfl).trans (by rw [ms_14, cs_14]; rfl)

theorem ct_run : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs0 xs1 xs2 xs3).2.1 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (l_ct arg17 harg17 xs0) []) 16 := by
  have e : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs0 xs1 xs2 xs3).2.1 = ctStep (fun c h mp cp => ctNew ((b_k arg2 harg2 x1) c h) ((b_v arg3 harg3 x2) c h) (row4 (uAll (b_cu arg9 harg9 arg12 harg12 x8 x11) c ((b_g arg9 harg9 x8) c)) h) mp cp) 15 ((l_m arg18 harg18 xs1) 15 ((Ms c arg9 harg9 arg12 harg12 arg18 harg18 x8 x11 xs1) 15) (hd4 15)) ((l_ct arg17 harg17 xs0) 15 ((Cs c arg2 harg2 arg3 harg3 arg9 harg9 arg12 harg12 arg17 harg17 arg18 harg18 x1 x2 x8 x11 xs0 xs1) 15) (hd4 15)) ((Cs c arg2 harg2 arg3 harg3 arg9 harg9 arg12 harg12 arg17 harg17 arg18 harg18 x1 x2 x8 x11 xs0 xs1) 15) := by
    unfold kernelRun0_C
    rfl
  rw [e, ms_15, cs_15]
  rfl

theorem ct_pieces : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs0 xs1 xs2 xs3).2.1 =
    ctL (blkOf x0 x1 x2 x3 x4 x5 x6 x7 x8 x9 x10 x11) (ldK xs0 xs1 xs2) [] [] 16 := by
  rw [ct_run, ← blk_eq arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11, ← lds_eq arg17 harg17 arg18 harg18 arg19 harg19 xs0 xs1 xs2]
  rfl

def Hs : Nat → List (View.Piece (Elt F) S2x512x128 .f32)
  | 2 => kernelRun0_C.sl.HS2_16 c arg6 harg6 arg7 harg7 arg9 harg9 arg12 harg12 arg19 harg19 x5 x6 x8 x11 xs2
  | 3 => kernelRun0_C.sl.HS2_24 c arg6 harg6 arg7 harg7 arg9 harg9 arg12 harg12 arg19 harg19 x5 x6 x8 x11 xs2
  | 4 => kernelRun0_C.sl.HS2_32 c arg6 harg6 arg7 harg7 arg9 harg9 arg12 harg12 arg19 harg19 x5 x6 x8 x11 xs2
  | 5 => kernelRun0_C.sl.HS2_40 c arg6 harg6 arg7 harg7 arg9 harg9 arg12 harg12 arg19 harg19 x5 x6 x8 x11 xs2
  | 6 => kernelRun0_C.sl.HS2_48 c arg6 harg6 arg7 harg7 arg9 harg9 arg12 harg12 arg19 harg19 x5 x6 x8 x11 xs2
  | 7 => kernelRun0_C.sl.HS2_56 c arg6 harg6 arg7 harg7 arg9 harg9 arg12 harg12 arg19 harg19 x5 x6 x8 x11 xs2
  | _ => []

theorem hs_2 : (Hs c arg6 harg6 arg7 harg7 arg9 harg9 arg12 harg12 arg19 harg19 x5 x6 x8 x11 xs2) 2 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19 harg19 xs2) []) 2 := by
  rfl

theorem hs_3 : (Hs c arg6 harg6 arg7 harg7 arg9 harg9 arg12 harg12 arg19 harg19 x5 x6 x8 x11 xs2) 3 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19 harg19 xs2) []) 3 :=
  (show (Hs c arg6 harg6 arg7 harg7 arg9 harg9 arg12 harg12 arg19 harg19 x5 x6 x8 x11 xs2) 3 = hStep (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) 2 ((l_h arg19 harg19 xs2) 2 ((Hs c arg6 harg6 arg7 harg7 arg9 harg9 arg12 harg12 arg19 harg19 x5 x6 x8 x11 xs2) 2) (gr2 2)) ((Hs c arg6 harg6 arg7 harg7 arg9 harg9 arg12 harg12 arg19 harg19 x5 x6 x8 x11 xs2) 2) from rfl).trans (by rw [hs_2]; rfl)

theorem hs_4 : (Hs c arg6 harg6 arg7 harg7 arg9 harg9 arg12 harg12 arg19 harg19 x5 x6 x8 x11 xs2) 4 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19 harg19 xs2) []) 4 :=
  (show (Hs c arg6 harg6 arg7 harg7 arg9 harg9 arg12 harg12 arg19 harg19 x5 x6 x8 x11 xs2) 4 = hStep (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) 3 ((l_h arg19 harg19 xs2) 3 ((Hs c arg6 harg6 arg7 harg7 arg9 harg9 arg12 harg12 arg19 harg19 x5 x6 x8 x11 xs2) 3) (gr2 3)) ((Hs c arg6 harg6 arg7 harg7 arg9 harg9 arg12 harg12 arg19 harg19 x5 x6 x8 x11 xs2) 3) from rfl).trans (by rw [hs_3]; rfl)

theorem hs_5 : (Hs c arg6 harg6 arg7 harg7 arg9 harg9 arg12 harg12 arg19 harg19 x5 x6 x8 x11 xs2) 5 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19 harg19 xs2) []) 5 :=
  (show (Hs c arg6 harg6 arg7 harg7 arg9 harg9 arg12 harg12 arg19 harg19 x5 x6 x8 x11 xs2) 5 = hStep (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) 4 ((l_h arg19 harg19 xs2) 4 ((Hs c arg6 harg6 arg7 harg7 arg9 harg9 arg12 harg12 arg19 harg19 x5 x6 x8 x11 xs2) 4) (gr2 4)) ((Hs c arg6 harg6 arg7 harg7 arg9 harg9 arg12 harg12 arg19 harg19 x5 x6 x8 x11 xs2) 4) from rfl).trans (by rw [hs_4]; rfl)

theorem hs_6 : (Hs c arg6 harg6 arg7 harg7 arg9 harg9 arg12 harg12 arg19 harg19 x5 x6 x8 x11 xs2) 6 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19 harg19 xs2) []) 6 :=
  (show (Hs c arg6 harg6 arg7 harg7 arg9 harg9 arg12 harg12 arg19 harg19 x5 x6 x8 x11 xs2) 6 = hStep (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) 5 ((l_h arg19 harg19 xs2) 5 ((Hs c arg6 harg6 arg7 harg7 arg9 harg9 arg12 harg12 arg19 harg19 x5 x6 x8 x11 xs2) 5) (gr2 5)) ((Hs c arg6 harg6 arg7 harg7 arg9 harg9 arg12 harg12 arg19 harg19 x5 x6 x8 x11 xs2) 5) from rfl).trans (by rw [hs_5]; rfl)

theorem hs_7 : (Hs c arg6 harg6 arg7 harg7 arg9 harg9 arg12 harg12 arg19 harg19 x5 x6 x8 x11 xs2) 7 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19 harg19 xs2) []) 7 :=
  (show (Hs c arg6 harg6 arg7 harg7 arg9 harg9 arg12 harg12 arg19 harg19 x5 x6 x8 x11 xs2) 7 = hStep (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) 6 ((l_h arg19 harg19 xs2) 6 ((Hs c arg6 harg6 arg7 harg7 arg9 harg9 arg12 harg12 arg19 harg19 x5 x6 x8 x11 xs2) 6) (gr2 6)) ((Hs c arg6 harg6 arg7 harg7 arg9 harg9 arg12 harg12 arg19 harg19 x5 x6 x8 x11 xs2) 6) from rfl).trans (by rw [hs_6]; rfl)

theorem h_run : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs0 xs1 xs2 xs3).2.2.2.1 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19 harg19 xs2) []) 8 := by
  have e : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs0 xs1 xs2 xs3).2.2.2.1 = hStep (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) 7 ((l_h arg19 harg19 xs2) 7 ((Hs c arg6 harg6 arg7 harg7 arg9 harg9 arg12 harg12 arg19 harg19 x5 x6 x8 x11 xs2) 7) (gr2 7)) ((Hs c arg6 harg6 arg7 harg7 arg9 harg9 arg12 harg12 arg19 harg19 x5 x6 x8 x11 xs2) 7) := by
    unfold kernelRun0_C
    rfl
  rw [e, hs_7]
  rfl

theorem h_pieces : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs0 xs1 xs2 xs3).2.2.2.1 =
    hL (blkOf x0 x1 x2 x3 x4 x5 x6 x7 x8 x9 x10 x11) (ldK xs0 xs1 xs2) [] 8 := by
  rw [h_run, ← blk_eq arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11, ← lds_eq arg17 harg17 arg18 harg18 arg19 harg19 xs0 xs1 xs2]
  rfl

theorem ms_all (n : Nat) (hn : n < 16) : (fun n => (l_m arg18 harg18 xs1) n ((Ms c arg9 harg9 arg12 harg12 arg18 harg18 x8 x11 xs1) n) (hd4 n)) n = (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) n := by
  interval_cases n
  · beta_reduce; apply l_m_lt; decide
  · beta_reduce; apply l_m_lt; decide
  · beta_reduce; apply l_m_lt; decide
  · beta_reduce; apply l_m_lt; decide
  · simp only [ms_4]
  · simp only [ms_5]
  · simp only [ms_6]
  · simp only [ms_7]
  · simp only [ms_8]
  · simp only [ms_9]
  · simp only [ms_10]
  · simp only [ms_11]
  · simp only [ms_12]
  · simp only [ms_13]
  · simp only [ms_14]
  · simp only [ms_15]

theorem cs_all (n : Nat) (hn : n < 16) : (fun n => (l_ct arg17 harg17 xs0) n ((Cs c arg2 harg2 arg3 harg3 arg9 harg9 arg12 harg12 arg17 harg17 arg18 harg18 x1 x2 x8 x11 xs0 xs1) n) (hd4 n)) n = (fun n => (l_ct arg17 harg17 xs0) n ((ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (l_ct arg17 harg17 xs0) []) n) (hd4 n)) n := by
  interval_cases n
  · beta_reduce; apply l_ct_lt; decide
  · beta_reduce; apply l_ct_lt; decide
  · beta_reduce; apply l_ct_lt; decide
  · beta_reduce; apply l_ct_lt; decide
  · simp only [cs_4]
  · simp only [cs_5]
  · simp only [cs_6]
  · simp only [cs_7]
  · simp only [cs_8]
  · simp only [cs_9]
  · simp only [cs_10]
  · simp only [cs_11]
  · simp only [cs_12]
  · simp only [cs_13]
  · simp only [cs_14]
  · simp only [cs_15]

theorem hs_all (n : Nat) (hn : n < 8) : (fun n => (l_h arg19 harg19 xs2) n ((Hs c arg6 harg6 arg7 harg7 arg9 harg9 arg12 harg12 arg19 harg19 x5 x6 x8 x11 xs2) n) (gr2 n)) n = (fun n => (l_h arg19 harg19 xs2) n ((hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19 harg19 xs2) []) n) (gr2 n)) n := by
  interval_cases n
  · beta_reduce; apply l_h_lt; decide
  · beta_reduce; apply l_h_lt; decide
  · simp only [hs_2]
  · simp only [hs_3]
  · simp only [hs_4]
  · simp only [hs_5]
  · simp only [hs_6]
  · simp only [hs_7]

def Xs : Nat → List (View.Piece (Elt F) S2x4x2048x128 .bf16)
  | 1 => kernelRun0_C.sl.HS3_6 c i arg1 harg1 arg2 harg2 arg3 harg3 arg4 harg4 arg5 harg5 arg6 harg6 arg7 harg7 arg8 harg8 arg9 harg9 arg10 harg10 arg11 harg11 arg12 harg12 arg17 harg17 arg18 harg18 arg19 harg19 hl19 hl20 hl21 hl22 hl23 hl24 x0 x1 x2 x3 x4 x5 x6 x7 x8 x9 x10 x11 xs0 xs1 xs2
  | 2 => kernelRun0_C.sl.HS3_12 c i arg1 harg1 arg2 harg2 arg3 harg3 arg4 harg4 arg5 harg5 arg6 harg6 arg7 harg7 arg8 harg8 arg9 harg9 arg10 harg10 arg11 harg11 arg12 harg12 arg17 harg17 arg18 harg18 arg19 harg19 hl1 hl2 hl3 hl4 hl5 hl19 hl20 hl21 hl22 hl23 hl24 hl25 x0 x1 x2 x3 x4 x5 x6 x7 x8 x9 x10 x11 xs0 xs1 xs2
  | 3 => kernelRun0_C.sl.HS3_18 c i arg1 harg1 arg2 harg2 arg3 harg3 arg4 harg4 arg5 harg5 arg6 harg6 arg7 harg7 arg8 harg8 arg9 harg9 arg10 harg10 arg11 harg11 arg12 harg12 arg17 harg17 arg18 harg18 arg19 harg19 hl1 hl2 hl3 hl4 hl5 hl6 hl7 hl8 hl9 hl10 hl12 hl19 hl20 hl21 hl22 hl23 hl24 hl25 x0 x1 x2 x3 x4 x5 x6 x7 x8 x9 x10 x11 xs0 xs1 xs2
  | _ => []

theorem xs_1 : (Xs c i arg1 harg1 arg2 harg2 arg3 harg3 arg4 harg4 arg5 harg5 arg6 harg6 arg7 harg7 arg8 harg8 arg9 harg9 arg10 harg10 arg11 harg11 arg12 harg12 arg17 harg17 arg18 harg18 arg19 harg19 hl1 hl2 hl3 hl4 hl5 hl6 hl7 hl8 hl9 hl10 hl12 hl19 hl20 hl21 hl22 hl23 hl24 hl25 x0 x1 x2 x3 x4 x5 x6 x7 x8 x9 x10 x11 xs0 xs1 xs2) 1 = (mixG (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18 harg18 xs1) n ((Ms c arg9 harg9 arg12 harg12 arg18 harg18 x8 x11 xs1) n) (hd4 n)) (fun n => (l_ct arg17 harg17 xs0) n ((Cs c arg2 harg2 arg3 harg3 arg9 harg9 arg12 harg12 arg17 harg17 arg18 harg18 x1 x2 x8 x11 xs0 xs1) n) (hd4 n)) (fun n => (l_h arg19 harg19 xs2) n ((Hs c arg6 harg6 arg7 harg7 arg9 harg9 arg12 harg12 arg19 harg19 x5 x6 x8 x11 xs2) n) (gr2 n)) [] 0) 1 :=
  (show (Xs c i arg1 harg1 arg2 harg2 arg3 harg3 arg4 harg4 arg5 harg5 arg6 harg6 arg7 harg7 arg8 harg8 arg9 harg9 arg10 harg10 arg11 harg11 arg12 harg12 arg17 harg17 arg18 harg18 arg19 harg19 hl1 hl2 hl3 hl4 hl5 hl6 hl7 hl8 hl9 hl10 hl12 hl19 hl20 hl21 hl22 hl23 hl24 hl25 x0 x1 x2 x3 x4 x5 x6 x7 x8 x9 x10 x11 xs0 xs1 xs2) 1 = mixStep (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18 harg18 xs1) n ((Ms c arg9 harg9 arg12 harg12 arg18 harg18 x8 x11 xs1) n) (hd4 n)) (fun n => (l_ct arg17 harg17 xs0) n ((Cs c arg2 harg2 arg3 harg3 arg9 harg9 arg12 harg12 arg17 harg17 arg18 harg18 x1 x2 x8 x11 xs0 xs1) n) (hd4 n)) (fun n => (l_h arg19 harg19 xs2) n ((Hs c arg6 harg6 arg7 harg7 arg9 harg9 arg12 harg12 arg19 harg19 x5 x6 x8 x11 xs2) n) (gr2 n)) 0 0 [] from rfl).trans (by rfl)

theorem xs_2 : (Xs c i arg1 harg1 arg2 harg2 arg3 harg3 arg4 harg4 arg5 harg5 arg6 harg6 arg7 harg7 arg8 harg8 arg9 harg9 arg10 harg10 arg11 harg11 arg12 harg12 arg17 harg17 arg18 harg18 arg19 harg19 hl1 hl2 hl3 hl4 hl5 hl6 hl7 hl8 hl9 hl10 hl12 hl19 hl20 hl21 hl22 hl23 hl24 hl25 x0 x1 x2 x3 x4 x5 x6 x7 x8 x9 x10 x11 xs0 xs1 xs2) 2 = (mixG (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18 harg18 xs1) n ((Ms c arg9 harg9 arg12 harg12 arg18 harg18 x8 x11 xs1) n) (hd4 n)) (fun n => (l_ct arg17 harg17 xs0) n ((Cs c arg2 harg2 arg3 harg3 arg9 harg9 arg12 harg12 arg17 harg17 arg18 harg18 x1 x2 x8 x11 xs0 xs1) n) (hd4 n)) (fun n => (l_h arg19 harg19 xs2) n ((Hs c arg6 harg6 arg7 harg7 arg9 harg9 arg12 harg12 arg19 harg19 x5 x6 x8 x11 xs2) n) (gr2 n)) [] 0) 2 :=
  (show (Xs c i arg1 harg1 arg2 harg2 arg3 harg3 arg4 harg4 arg5 harg5 arg6 harg6 arg7 harg7 arg8 harg8 arg9 harg9 arg10 harg10 arg11 harg11 arg12 harg12 arg17 harg17 arg18 harg18 arg19 harg19 hl1 hl2 hl3 hl4 hl5 hl6 hl7 hl8 hl9 hl10 hl12 hl19 hl20 hl21 hl22 hl23 hl24 hl25 x0 x1 x2 x3 x4 x5 x6 x7 x8 x9 x10 x11 xs0 xs1 xs2) 2 = mixStep (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18 harg18 xs1) n ((Ms c arg9 harg9 arg12 harg12 arg18 harg18 x8 x11 xs1) n) (hd4 n)) (fun n => (l_ct arg17 harg17 xs0) n ((Cs c arg2 harg2 arg3 harg3 arg9 harg9 arg12 harg12 arg17 harg17 arg18 harg18 x1 x2 x8 x11 xs0 xs1) n) (hd4 n)) (fun n => (l_h arg19 harg19 xs2) n ((Hs c arg6 harg6 arg7 harg7 arg9 harg9 arg12 harg12 arg19 harg19 x5 x6 x8 x11 xs2) n) (gr2 n)) 0 1 ((Xs c i arg1 harg1 arg2 harg2 arg3 harg3 arg4 harg4 arg5 harg5 arg6 harg6 arg7 harg7 arg8 harg8 arg9 harg9 arg10 harg10 arg11 harg11 arg12 harg12 arg17 harg17 arg18 harg18 arg19 harg19 hl1 hl2 hl3 hl4 hl5 hl6 hl7 hl8 hl9 hl10 hl12 hl19 hl20 hl21 hl22 hl23 hl24 hl25 x0 x1 x2 x3 x4 x5 x6 x7 x8 x9 x10 x11 xs0 xs1 xs2) 1) from rfl).trans (by rw [xs_1]; rfl)

theorem xs_3 : (Xs c i arg1 harg1 arg2 harg2 arg3 harg3 arg4 harg4 arg5 harg5 arg6 harg6 arg7 harg7 arg8 harg8 arg9 harg9 arg10 harg10 arg11 harg11 arg12 harg12 arg17 harg17 arg18 harg18 arg19 harg19 hl1 hl2 hl3 hl4 hl5 hl6 hl7 hl8 hl9 hl10 hl12 hl19 hl20 hl21 hl22 hl23 hl24 hl25 x0 x1 x2 x3 x4 x5 x6 x7 x8 x9 x10 x11 xs0 xs1 xs2) 3 = (mixG (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18 harg18 xs1) n ((Ms c arg9 harg9 arg12 harg12 arg18 harg18 x8 x11 xs1) n) (hd4 n)) (fun n => (l_ct arg17 harg17 xs0) n ((Cs c arg2 harg2 arg3 harg3 arg9 harg9 arg12 harg12 arg17 harg17 arg18 harg18 x1 x2 x8 x11 xs0 xs1) n) (hd4 n)) (fun n => (l_h arg19 harg19 xs2) n ((Hs c arg6 harg6 arg7 harg7 arg9 harg9 arg12 harg12 arg19 harg19 x5 x6 x8 x11 xs2) n) (gr2 n)) [] 0) 3 :=
  (show (Xs c i arg1 harg1 arg2 harg2 arg3 harg3 arg4 harg4 arg5 harg5 arg6 harg6 arg7 harg7 arg8 harg8 arg9 harg9 arg10 harg10 arg11 harg11 arg12 harg12 arg17 harg17 arg18 harg18 arg19 harg19 hl1 hl2 hl3 hl4 hl5 hl6 hl7 hl8 hl9 hl10 hl12 hl19 hl20 hl21 hl22 hl23 hl24 hl25 x0 x1 x2 x3 x4 x5 x6 x7 x8 x9 x10 x11 xs0 xs1 xs2) 3 = mixStep (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18 harg18 xs1) n ((Ms c arg9 harg9 arg12 harg12 arg18 harg18 x8 x11 xs1) n) (hd4 n)) (fun n => (l_ct arg17 harg17 xs0) n ((Cs c arg2 harg2 arg3 harg3 arg9 harg9 arg12 harg12 arg17 harg17 arg18 harg18 x1 x2 x8 x11 xs0 xs1) n) (hd4 n)) (fun n => (l_h arg19 harg19 xs2) n ((Hs c arg6 harg6 arg7 harg7 arg9 harg9 arg12 harg12 arg19 harg19 x5 x6 x8 x11 xs2) n) (gr2 n)) 0 2 ((Xs c i arg1 harg1 arg2 harg2 arg3 harg3 arg4 harg4 arg5 harg5 arg6 harg6 arg7 harg7 arg8 harg8 arg9 harg9 arg10 harg10 arg11 harg11 arg12 harg12 arg17 harg17 arg18 harg18 arg19 harg19 hl1 hl2 hl3 hl4 hl5 hl6 hl7 hl8 hl9 hl10 hl12 hl19 hl20 hl21 hl22 hl23 hl24 hl25 x0 x1 x2 x3 x4 x5 x6 x7 x8 x9 x10 x11 xs0 xs1 xs2) 2) from rfl).trans (by rw [xs_2]; rfl)

theorem mix_run : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs0 xs1 xs2 xs3).2.2.2.2.1 = (mixG (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (fun n => (l_ct arg17 harg17 xs0) n ((ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18 harg18 xs1) n ((mG (fun c h mp => mNew (row4 (bAll (b_cu arg9 harg9 arg12 harg12 x8 x11) c) h) (row4 (uAll (b_cu arg9 harg9 arg12 harg12 x8 x11) c ((b_g arg9 harg9 x8) c)) h) mp) (l_m arg18 harg18 xs1) []) n) (hd4 n)) (l_ct arg17 harg17 xs0) []) n) (hd4 n)) (fun n => (l_h arg19 harg19 xs2) n ((hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19 harg19 xs2) []) n) (gr2 n)) [] 0) 4 := by
  have e : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs0 xs1 xs2 xs3).2.2.2.2.1 = mixStep (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18 harg18 xs1) n ((Ms c arg9 harg9 arg12 harg12 arg18 harg18 x8 x11 xs1) n) (hd4 n)) (fun n => (l_ct arg17 harg17 xs0) n ((Cs c arg2 harg2 arg3 harg3 arg9 harg9 arg12 harg12 arg17 harg17 arg18 harg18 x1 x2 x8 x11 xs0 xs1) n) (hd4 n)) (fun n => (l_h arg19 harg19 xs2) n ((Hs c arg6 harg6 arg7 harg7 arg9 harg9 arg12 harg12 arg19 harg19 x5 x6 x8 x11 xs2) n) (gr2 n)) 0 3 ((Xs c i arg1 harg1 arg2 harg2 arg3 harg3 arg4 harg4 arg5 harg5 arg6 harg6 arg7 harg7 arg8 harg8 arg9 harg9 arg10 harg10 arg11 harg11 arg12 harg12 arg17 harg17 arg18 harg18 arg19 harg19 hl1 hl2 hl3 hl4 hl5 hl6 hl7 hl8 hl9 hl10 hl12 hl19 hl20 hl21 hl22 hl23 hl24 hl25 x0 x1 x2 x3 x4 x5 x6 x7 x8 x9 x10 x11 xs0 xs1 xs2) 3) := by
    unfold kernelRun0_C
    rfl
  rw [e, xs_3]
  refine mixG_congr ?_ ?_ ?_ 4 (by omega)
  · apply ms_all
  · apply cs_all
  · apply hs_all

theorem mix_pieces : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs0 xs1 xs2 xs3).2.2.2.2.1 =
    mixL (blkOf x0 x1 x2 x3 x4 x5 x6 x7 x8 x9 x10 x11) (ldK xs0 xs1 xs2) [] [] [] [] 0 4 := by
  rw [mix_run, ← blk_eq arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11, ← lds_eq arg17 harg17 arg18 harg18 arg19 harg19 xs0 xs1 xs2]
  rfl

def mx (d : Fin 4) : FVec F S1x2048x128 .bf16 :=
  View.readAt (Elt F) ((arg20.slice (Rect.unit (k0_off1 i) S1x4x2048x128.size (by rw [hl0]; exact inb4 (by omega) (by omega) (by omega) (by omega))) (fun _ => rfl)).squeeze S4x2048x128
      squeezes_S1x4x2048x128_S4x2048x128).view
    (Rect.unit ![d.val, 0, 0] S1x2048x128.size (inb3 (by omega) (by omega) (by omega)) : Rect S4x2048x128).toLoadRect (harg20.unread xs3)

theorem out_run : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs0 xs1 xs2 xs3).1 =
    [⟨(Rect.unit ![0, 0] S512x1024.size (inb2 (by omega) (by omega)) : Rect S512x1024),
      outT (arg22.view.readCov (accL
          (fun j => View.readAt (Elt F) arg13.view (Rect.unit ![0, 256 * j.val] S512x256.size (inb2 (by omega) (by omega)) : Rect S512x1024).toLoadRect (harg13.unread x12))
          (fun j => View.readAt (Elt F) arg14.view (Rect.unit ![0, 256 * j.val] S2048x256.size (inb2 (by omega) (by omega)) : Rect S2048x1024).toLoadRect (harg14.unread x13))
          (arg21.view.readCov (mixrmL (mx i arg20 harg20 hl0 xs3)) (Rect.unit ![0, 0] S512x2048.size (inb2 (by omega) (by omega)) : Rect S512x2048).toLoadRect))
        (Rect.unit ![0, 0] S512x1024.size (inb2 (by omega) (by omega)) : Rect S512x1024).toLoadRect)
        (View.readAt (Elt F) arg15.view (Rect.unit ![0, 0] S1x1024.size (inb2 (by omega) (by omega)) : Rect S1x1024).toLoadRect (harg15.unread x14))⟩] := by
  unfold kernelRun0_C
  rfl

end Cert.KernelIdeal.CaseC

end
-- ==== Proof.CaseD.lean ====
/- Case D of the body: the pieces it leaves are those of `Pieces`, over the blocks of its operands' windows. -/
module

public import proofs.«01_k».proof.Proof.Pieces
public import proofs.«01_k».proof.Proof.Gen.KernelIdeal.Frame.RunD

@[expose] public section

set_option maxRecDepth 16384

noncomputable section

namespace Cert.KernelIdeal.CaseD

open Idealize.ShloMosaic Idealize.ShloMosaic.TcCoe Idealize.SL.Sem Cert.KernelIdeal Cert.KernelIdeal.Gen Cert.KernelIdeal.Step

variable {F : FTy → Type} [FloatOps F] [Named F]

variable (c : Dev nD) (i : grid0.Coords) (arg1 : Memref sig .tc .vmem S4x512x128 .bf16) (harg1 : arg1.IsWhole) (arg2 : Memref sig .tc .vmem S512x512 .bf16) (harg2 : arg2.IsWhole) (arg3 : Memref sig .tc .vmem S4x1024x128 .bf16) (harg3 : arg3.IsWhole) (arg4 : Memref sig .tc .vmem S4x1024x128 .bf16) (harg4 : arg4.IsWhole) (arg5 : Memref sig .tc .vmem S4x1024x128 .bf16) (harg5 : arg5.IsWhole) (arg6 : Memref sig .tc .vmem S4x1024x128 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S4x32x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S16x128 .f32) (harg12 : arg12.IsWhole) (arg13 : Memref sig .tc .vmem S512x1024 .f32) (harg13 : arg13.IsWhole) (arg14 : Memref sig .tc .vmem S2048x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S4x272x128 .f32) (harg17 : arg17.IsWhole) (arg18 : Memref sig .tc .vmem S4x1x128 .f32) (harg18 : arg18.IsWhole) (arg19 : Memref sig .tc .vmem S2x512x128 .f32) (harg19 : arg19.IsWhole) (arg20 : Memref sig .tc .vmem S2x4x2048x128 .bf16) (harg20 : arg20.IsWhole) (arg21 : Memref sig .tc .vmem S512x2048 .bf16) (harg21 : arg21.IsWhole) (arg22 : Memref sig .tc .vmem S512x1024 .f32) (harg22 : arg22.IsWhole) (hc0 : ¬cond0_0 i) (hc1 : cond0_1 i) (hl0 : k0_off1 i = ![1, 0, 0, 0]) (hl1 : k0_off10 i = ![0, 1, 256, 0]) (hl2 : k0_off11 i = ![0, 1, 512, 0]) (hl3 : k0_off12 i = ![0, 1, 1024, 0]) (hl4 : k0_off13 i = ![0, 1, 768, 0]) (hl5 : k0_off14 i = ![0, 1, 1536, 0]) (hl6 : k0_off15 i = ![0, 2, 0, 0]) (hl7 : k0_off16 i = ![0, 2, 256, 0]) (hl8 : k0_off17 i = ![0, 2, 512, 0]) (hl9 : k0_off18 i = ![0, 2, 1024, 0]) (hl10 : k0_off19 i = ![0, 2, 768, 0]) (hl11 : k0_off2 i = ![0, 0, 0, 0]) (hl12 : k0_off20 i = ![0, 2, 1536, 0]) (hl13 : k0_off21 i = ![0, 3, 0, 0]) (hl14 : k0_off22 i = ![0, 3, 256, 0]) (hl15 : k0_off23 i = ![0, 3, 512, 0]) (hl16 : k0_off24 i = ![0, 3, 1024, 0]) (hl17 : k0_off25 i = ![0, 3, 768, 0]) (hl18 : k0_off26 i = ![0, 3, 1536, 0]) (hl19 : k0_off3 i = ![0, 0, 0, 0]) (hl20 : k0_off4 i = ![0, 0, 256, 0]) (hl21 : k0_off5 i = ![0, 0, 512, 0]) (hl22 : k0_off6 i = ![0, 0, 1024, 0]) (hl23 : k0_off7 i = ![0, 0, 768, 0]) (hl24 : k0_off8 i = ![0, 0, 1536, 0]) (hl25 : k0_off9 i = ![0, 1, 0, 0])
    (x0 : Vec F S4x512x128 .bf16) (x1 : Vec F S512x512 .bf16) (x2 : Vec F S4x1024x128 .bf16) (x3 : Vec F S4x1024x128 .bf16) (x4 : Vec F S4x1024x128 .bf16) (x5 : Vec F S4x1024x128 .bf16) (x6 : Vec F S512x256 .bf16) (x7 : Vec F S512x256 .bf16) (x8 : Vec F S4x32x128 .f32) (x9 : Vec F S1024x128 .f32) (x10 : Vec F S1024x128 .f32) (x11 : Vec F S16x128 .f32) (x12 : Vec F S512x1024 .f32) (x13 : Vec F S2048x1024 .bf16) (x14 : Vec F S1x1024 .f32) (xs3 : Vec F S2x4x2048x128 .bf16)

def b_q : Fin 4 → Fin 4 → FVec F S1x128x128 .bf16 := fun c h => View.readAt (Elt F) arg1.view (Rect.unit ![c.val, 128 * h.val, 0] S1x128x128.size (inb3 (by omega) (by omega) (by omega)) : Rect S4x512x128).toLoadRect (harg1.unread x0)
def b_k : Fin 4 → Fin 4 → FVec F S128x128 .bf16 := fun c h => View.readAt (Elt F) arg2.view (Rect.unit ![128 * c.val, 128 * h.val] S128x128.size (inb2 (by omega) (by omega)) : Rect S512x512).toLoadRect (harg2.unread x1)
def b_v : Fin 4 → Fin 4 → FVec F S1x256x128 .bf16 := fun c h => View.readAt (Elt F) arg3.view (Rect.unit ![c.val, 256 * h.val, 0] S1x256x128.size (inb3 (by omega) (by omega) (by omega)) : Rect S4x1024x128).toLoadRect (harg3.unread x2)
def b_o : Fin 4 → Fin 4 → FVec F S1x256x128 .bf16 := fun c h => View.readAt (Elt F) arg4.view (Rect.unit ![c.val, 256 * h.val, 0] S1x256x128.size (inb3 (by omega) (by omega) (by omega)) : Rect S4x1024x128).toLoadRect (harg4.unread x3)
def b_z : Fin 4 → Fin 2 → Fin 8 → FVec F S1x64x128 .bf16 := fun c g r => View.readAt (Elt F) arg5.view (Rect.unit ![c.val, 64 * (8 * g.val + r.val), 0] S1x64x128.size (inb3 (by omega) (by omega) (by omega)) : Rect S4x1024x128).toLoadRect (harg5.unread x4)
def b_x : Fin 4 → Fin 2 → Fin 8 → FVec F S1x64x128 .bf16 := fun c g r => View.readAt (Elt F) arg6.view (Rect.unit ![c.val, 64 * (8 * g.val + r.val), 0] S1x64x128.size (inb3 (by omega) (by omega) (by omega)) : Rect S4x1024x128).toLoadRect (harg6.unread x5)
def b_b : Fin 4 → Fin 2 → FVec F S128x128 .bf16 := fun c g => View.readAt (Elt F) arg7.view (Rect.unit ![128 * c.val, 128 * g.val] S128x128.size (inb2 (by omega) (by omega)) : Rect S512x256).toLoadRect (harg7.unread x6)
def b_c : Fin 4 → Fin 2 → FVec F S128x128 .bf16 := fun c g => View.readAt (Elt F) arg8.view (Rect.unit ![128 * c.val, 128 * g.val] S128x128.size (inb2 (by omega) (by omega)) : Rect S512x256).toLoadRect (harg8.unread x7)
def b_g : Fin 4 → FVec F S1x32x128 .f32 := fun c => View.readAt (Elt F) arg9.view (Rect.unit ![c.val, 0, 0] S1x32x128.size (inb3 (by omega) (by omega) (by omega)) : Rect S4x32x128).toLoadRect (harg9.unread x8)
def b_nw : Fin 2 → FVec F S512x128 .f32 := fun g => View.readAt (Elt F) arg10.view (Rect.unit ![512 * g.val, 0] S512x128.size (inb2 (by omega) (by omega)) : Rect S1024x128).toLoadRect (harg10.unread x9)
def b_ds : Fin 2 → Fin 8 → FVec F S64x128 .f32 := fun g r => View.readAt (Elt F) arg11.view (Rect.unit ![64 * (8 * g.val + r.val), 0] S64x128.size (inb2 (by omega) (by omega)) : Rect S1024x128).toLoadRect (harg11.unread x10)
def b_al : FVec F S16x128 .f32 := View.readAt (Elt F) arg12.view (Rect.unit ![0, 0] S16x128.size (inb2 (by omega) (by omega)) : Rect S16x128).toLoadRect (harg12.unread x11)
def b_cu : FVec F S128x128 .f32 := cum (b_al arg12 harg12 x11) (b_g arg9 harg9 x8)

def l_m : Nat → List (View.Piece (Elt F) S4x1x128 .f32) → Fin 4 → FVec F S1x1x128 .f32 := fun _ L h => arg18.view.readCov L (r18 h).toLoadRect
def l_ct : Nat → List (View.Piece (Elt F) S4x272x128 .f32) → Fin 4 → FVec F S1x272x128 .f32 := fun _ L h => arg17.view.readCov L (r17 h).toLoadRect
def l_h : Nat → List (View.Piece (Elt F) S2x512x128 .f32) → Fin 2 → FVec F S1x512x128 .f32 := fun _ L g => arg19.view.readCov L (r19g g).toLoadRect

def blk : Blk F := ⟨(b_q arg1 harg1 x0), (b_k arg2 harg2 x1), (b_v arg3 harg3 x2), (b_o arg4 harg4 x3), (b_z arg5 harg5 x4), (b_x arg6 harg6 x5), (b_b arg7 harg7 x6), (b_c arg8 harg8 x7), (b_g arg9 harg9 x8), (b_nw arg10 harg10 x9), (b_ds arg11 harg11 x10), (b_al arg12 harg12 x11)⟩

def lds : Lds F := ⟨(l_m arg18), (l_ct arg17), (l_h arg19)⟩

theorem blk_eq : blk arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 = blkOf x0 x1 x2 x3 x4 x5 x6 x7 x8 x9 x10 x11 := by
  unfold blk blkOf b_q b_k b_v b_o b_z b_x b_b b_c b_g b_nw b_ds b_al
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]

theorem lds_eq : lds arg17 arg18 arg19 = (ldZ : Lds F) := by
  unfold lds l_m l_ct l_h ldZ
  simp only [View.readCov_eq_canon']
  try rfl

def Ms : Nat → List (View.Piece (Elt F) S4x1x128 .f32)
  | 0 => kernelRun0_D.sl.HS1_1
  | 1 => kernelRun0_D.sl.HS1_2 c arg9 harg9 arg12 harg12 arg18 x8 x11
  | 2 => kernelRun0_D.sl.HS1_3 c arg9 harg9 arg12 harg12 arg18 x8 x11
  | 3 => kernelRun0_D.sl.HS1_4 c arg9 harg9 arg12 harg12 arg18 x8 x11
  | 4 => kernelRun0_D.sl.HS1_5 c arg9 harg9 arg12 harg12 arg18 x8 x11
  | 5 => kernelRun0_D.sl.HS1_6 c arg9 harg9 arg12 harg12 arg18 x8 x11
  | 6 => kernelRun0_D.sl.HS1_7 c arg9 harg9 arg12 harg12 arg18 x8 x11
  | 7 => kernelRun0_D.sl.HS1_8 c arg9 harg9 arg12 harg12 arg18 x8 x11
  | 8 => kernelRun0_D.sl.HS1_9 c arg9 harg9 arg12 harg12 arg18 x8 x11
  | 9 => kernelRun0_D.sl.HS1_10 c arg9 harg9 arg12 harg12 arg18 x8 x11
  | 10 => kernelRun0_D.sl.HS1_11 c arg9 harg9 arg12 harg12 arg18 x8 x11
  | 11 => kernelRun0_D.sl.HS1_12 c arg9 harg9 arg12 harg12 arg18 x8 x11
  | 12 => kernelRun0_D.sl.HS1_13 c arg9 harg9 arg12 harg12 arg18 x8 x11
  | 13 => kernelRun0_D.sl.HS1_14 c arg9 harg9 arg12 harg12 arg18 x8 x11
  | 14 => kernelRun0_D.sl.HS1_15 c arg9 harg9 arg12 harg12 arg18 x8 x11
  | 15 => kernelRun0_D.sl.HS1_16 c arg9 harg9 arg12 harg12 arg18 x8 x11
  | _ => []

theorem ms_0 : (Ms c arg9 harg9 arg12 harg12 arg18 x8 x11) 0 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 0 := by
  rfl

theorem ms_1 : (Ms c arg9 harg9 arg12 harg12 arg18 x8 x11) 1 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 1 :=
  (show (Ms c arg9 harg9 arg12 harg12 arg18 x8 x11) 1 = mStep (fun c h mp => mNew (row4 (bAll (b_cu arg9 harg9 arg12 harg12 x8 x11) c) h) (row4 (uAll (b_cu arg9 harg9 arg12 harg12 x8 x11) c ((b_g arg9 harg9 x8) c)) h) mp) 0 ((l_m arg18) 0 ((Ms c arg9 harg9 arg12 harg12 arg18 x8 x11) 0) (hd4 0)) ((Ms c arg9 harg9 arg12 harg12 arg18 x8 x11) 0) from rfl).trans (by rw [ms_0]; rfl)

theorem ms_2 : (Ms c arg9 harg9 arg12 harg12 arg18 x8 x11) 2 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 2 :=
  (show (Ms c arg9 harg9 arg12 harg12 arg18 x8 x11) 2 = mStep (fun c h mp => mNew (row4 (bAll (b_cu arg9 harg9 arg12 harg12 x8 x11) c) h) (row4 (uAll (b_cu arg9 harg9 arg12 harg12 x8 x11) c ((b_g arg9 harg9 x8) c)) h) mp) 1 ((l_m arg18) 1 ((Ms c arg9 harg9 arg12 harg12 arg18 x8 x11) 1) (hd4 1)) ((Ms c arg9 harg9 arg12 harg12 arg18 x8 x11) 1) from rfl).trans (by rw [ms_1]; rfl)

theorem ms_3 : (Ms c arg9 harg9 arg12 harg12 arg18 x8 x11) 3 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 3 :=
  (show (Ms c arg9 harg9 arg12 harg12 arg18 x8 x11) 3 = mStep (fun c h mp => mNew (row4 (bAll (b_cu arg9 harg9 arg12 harg12 x8 x11) c) h) (row4 (uAll (b_cu arg9 harg9 arg12 harg12 x8 x11) c ((b_g arg9 harg9 x8) c)) h) mp) 2 ((l_m arg18) 2 ((Ms c arg9 harg9 arg12 harg12 arg18 x8 x11) 2) (hd4 2)) ((Ms c arg9 harg9 arg12 harg12 arg18 x8 x11) 2) from rfl).trans (by rw [ms_2]; rfl)

theorem ms_4 : (Ms c arg9 harg9 arg12 harg12 arg18 x8 x11) 4 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 4 :=
  (show (Ms c arg9 harg9 arg12 harg12 arg18 x8 x11) 4 = mStep (fun c h mp => mNew (row4 (bAll (b_cu arg9 harg9 arg12 harg12 x8 x11) c) h) (row4 (uAll (b_cu arg9 harg9 arg12 harg12 x8 x11) c ((b_g arg9 harg9 x8) c)) h) mp) 3 ((l_m arg18) 3 ((Ms c arg9 harg9 arg12 harg12 arg18 x8 x11) 3) (hd4 3)) ((Ms c arg9 harg9 arg12 harg12 arg18 x8 x11) 3) from rfl).trans (by rw [ms_3]; rfl)

theorem ms_5 : (Ms c arg9 harg9 arg12 harg12 arg18 x8 x11) 5 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 5 :=
  (show (Ms c arg9 harg9 arg12 harg12 arg18 x8 x11) 5 = mStep (fun c h mp => mNew (row4 (bAll (b_cu arg9 harg9 arg12 harg12 x8 x11) c) h) (row4 (uAll (b_cu arg9 harg9 arg12 harg12 x8 x11) c ((b_g arg9 harg9 x8) c)) h) mp) 4 ((l_m arg18) 4 ((Ms c arg9 harg9 arg12 harg12 arg18 x8 x11) 4) (hd4 4)) ((Ms c arg9 harg9 arg12 harg12 arg18 x8 x11) 4) from rfl).trans (by rw [ms_4]; rfl)

theorem ms_6 : (Ms c arg9 harg9 arg12 harg12 arg18 x8 x11) 6 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 6 :=
  (show (Ms c arg9 harg9 arg12 harg12 arg18 x8 x11) 6 = mStep (fun c h mp => mNew (row4 (bAll (b_cu arg9 harg9 arg12 harg12 x8 x11) c) h) (row4 (uAll (b_cu arg9 harg9 arg12 harg12 x8 x11) c ((b_g arg9 harg9 x8) c)) h) mp) 5 ((l_m arg18) 5 ((Ms c arg9 harg9 arg12 harg12 arg18 x8 x11) 5) (hd4 5)) ((Ms c arg9 harg9 arg12 harg12 arg18 x8 x11) 5) from rfl).trans (by rw [ms_5]; rfl)

theorem ms_7 : (Ms c arg9 harg9 arg12 harg12 arg18 x8 x11) 7 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 7 :=
  (show (Ms c arg9 harg9 arg12 harg12 arg18 x8 x11) 7 = mStep (fun c h mp => mNew (row4 (bAll (b_cu arg9 harg9 arg12 harg12 x8 x11) c) h) (row4 (uAll (b_cu arg9 harg9 arg12 harg12 x8 x11) c ((b_g arg9 harg9 x8) c)) h) mp) 6 ((l_m arg18) 6 ((Ms c arg9 harg9 arg12 harg12 arg18 x8 x11) 6) (hd4 6)) ((Ms c arg9 harg9 arg12 harg12 arg18 x8 x11) 6) from rfl).trans (by rw [ms_6]; rfl)

theorem ms_8 : (Ms c arg9 harg9 arg12 harg12 arg18 x8 x11) 8 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 8 :=
  (show (Ms c arg9 harg9 arg12 harg12 arg18 x8 x11) 8 = mStep (fun c h mp => mNew (row4 (bAll (b_cu arg9 harg9 arg12 harg12 x8 x11) c) h) (row4 (uAll (b_cu arg9 harg9 arg12 harg12 x8 x11) c ((b_g arg9 harg9 x8) c)) h) mp) 7 ((l_m arg18) 7 ((Ms c arg9 harg9 arg12 harg12 arg18 x8 x11) 7) (hd4 7)) ((Ms c arg9 harg9 arg12 harg12 arg18 x8 x11) 7) from rfl).trans (by rw [ms_7]; rfl)

theorem ms_9 : (Ms c arg9 harg9 arg12 harg12 arg18 x8 x11) 9 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 9 :=
  (show (Ms c arg9 harg9 arg12 harg12 arg18 x8 x11) 9 = mStep (fun c h mp => mNew (row4 (bAll (b_cu arg9 harg9 arg12 harg12 x8 x11) c) h) (row4 (uAll (b_cu arg9 harg9 arg12 harg12 x8 x11) c ((b_g arg9 harg9 x8) c)) h) mp) 8 ((l_m arg18) 8 ((Ms c arg9 harg9 arg12 harg12 arg18 x8 x11) 8) (hd4 8)) ((Ms c arg9 harg9 arg12 harg12 arg18 x8 x11) 8) from rfl).trans (by rw [ms_8]; rfl)

theorem ms_10 : (Ms c arg9 harg9 arg12 harg12 arg18 x8 x11) 10 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 10 :=
  (show (Ms c arg9 harg9 arg12 harg12 arg18 x8 x11) 10 = mStep (fun c h mp => mNew (row4 (bAll (b_cu arg9 harg9 arg12 harg12 x8 x11) c) h) (row4 (uAll (b_cu arg9 harg9 arg12 harg12 x8 x11) c ((b_g arg9 harg9 x8) c)) h) mp) 9 ((l_m arg18) 9 ((Ms c arg9 harg9 arg12 harg12 arg18 x8 x11) 9) (hd4 9)) ((Ms c arg9 harg9 arg12 harg12 arg18 x8 x11) 9) from rfl).trans (by rw [ms_9]; rfl)

theorem ms_11 : (Ms c arg9 harg9 arg12 harg12 arg18 x8 x11) 11 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 11 :=
  (show (Ms c arg9 harg9 arg12 harg12 arg18 x8 x11) 11 = mStep (fun c h mp => mNew (row4 (bAll (b_cu arg9 harg9 arg12 harg12 x8 x11) c) h) (row4 (uAll (b_cu arg9 harg9 arg12 harg12 x8 x11) c ((b_g arg9 harg9 x8) c)) h) mp) 10 ((l_m arg18) 10 ((Ms c arg9 harg9 arg12 harg12 arg18 x8 x11) 10) (hd4 10)) ((Ms c arg9 harg9 arg12 harg12 arg18 x8 x11) 10) from rfl).trans (by rw [ms_10]; rfl)

theorem ms_12 : (Ms c arg9 harg9 arg12 harg12 arg18 x8 x11) 12 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 12 :=
  (show (Ms c arg9 harg9 arg12 harg12 arg18 x8 x11) 12 = mStep (fun c h mp => mNew (row4 (bAll (b_cu arg9 harg9 arg12 harg12 x8 x11) c) h) (row4 (uAll (b_cu arg9 harg9 arg12 harg12 x8 x11) c ((b_g arg9 harg9 x8) c)) h) mp) 11 ((l_m arg18) 11 ((Ms c arg9 harg9 arg12 harg12 arg18 x8 x11) 11) (hd4 11)) ((Ms c arg9 harg9 arg12 harg12 arg18 x8 x11) 11) from rfl).trans (by rw [ms_11]; rfl)

theorem ms_13 : (Ms c arg9 harg9 arg12 harg12 arg18 x8 x11) 13 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 13 :=
  (show (Ms c arg9 harg9 arg12 harg12 arg18 x8 x11) 13 = mStep (fun c h mp => mNew (row4 (bAll (b_cu arg9 harg9 arg12 harg12 x8 x11) c) h) (row4 (uAll (b_cu arg9 harg9 arg12 harg12 x8 x11) c ((b_g arg9 harg9 x8) c)) h) mp) 12 ((l_m arg18) 12 ((Ms c arg9 harg9 arg12 harg12 arg18 x8 x11) 12) (hd4 12)) ((Ms c arg9 harg9 arg12 harg12 arg18 x8 x11) 12) from rfl).trans (by rw [ms_12]; rfl)

theorem ms_14 : (Ms c arg9 harg9 arg12 harg12 arg18 x8 x11) 14 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 14 :=
  (show (Ms c arg9 harg9 arg12 harg12 arg18 x8 x11) 14 = mStep (fun c h mp => mNew (row4 (bAll (b_cu arg9 harg9 arg12 harg12 x8 x11) c) h) (row4 (uAll (b_cu arg9 harg9 arg12 harg12 x8 x11) c ((b_g arg9 harg9 x8) c)) h) mp) 13 ((l_m arg18) 13 ((Ms c arg9 harg9 arg12 harg12 arg18 x8 x11) 13) (hd4 13)) ((Ms c arg9 harg9 arg12 harg12 arg18 x8 x11) 13) from rfl).trans (by rw [ms_13]; rfl)

theorem ms_15 : (Ms c arg9 harg9 arg12 harg12 arg18 x8 x11) 15 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 15 :=
  (show (Ms c arg9 harg9 arg12 harg12 arg18 x8 x11) 15 = mStep (fun c h mp => mNew (row4 (bAll (b_cu arg9 harg9 arg12 harg12 x8 x11) c) h) (row4 (uAll (b_cu arg9 harg9 arg12 harg12 x8 x11) c ((b_g arg9 harg9 x8) c)) h) mp) 14 ((l_m arg18) 14 ((Ms c arg9 harg9 arg12 harg12 arg18 x8 x11) 14) (hd4 14)) ((Ms c arg9 harg9 arg12 harg12 arg18 x8 x11) 14) from rfl).trans (by rw [ms_14]; rfl)

theorem m_run : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs3).2.2.1 = (mG (fun c h mp => mNew (row4 (bAll (b_cu arg9 harg9 arg12 harg12 x8 x11) c) h) (row4 (uAll (b_cu arg9 harg9 arg12 harg12 x8 x11) c ((b_g arg9 harg9 x8) c)) h) mp) (l_m arg18) mI) 16 := by
  have e : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs3).2.2.1 = mStep (fun c h mp => mNew (row4 (bAll (b_cu arg9 harg9 arg12 harg12 x8 x11) c) h) (row4 (uAll (b_cu arg9 harg9 arg12 harg12 x8 x11) c ((b_g arg9 harg9 x8) c)) h) mp) 15 ((l_m arg18) 15 ((Ms c arg9 harg9 arg12 harg12 arg18 x8 x11) 15) (hd4 15)) ((Ms c arg9 harg9 arg12 harg12 arg18 x8 x11) 15) := by
    unfold kernelRun0_D
    rfl
  rw [e, ms_15]
  rfl

theorem m_pieces : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs3).2.2.1 =
    mL (blkOf x0 x1 x2 x3 x4 x5 x6 x7 x8 x9 x10 x11) ldZ mI 16 := by
  rw [m_run, ← blk_eq arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11, ← lds_eq (F := F) arg17 arg18 arg19]
  rfl

def Cs : Nat → List (View.Piece (Elt F) S4x272x128 .f32)
  | 0 => kernelRun0_D.sl.HS0_1
  | 1 => kernelRun0_D.sl.HS0_2 c arg2 harg2 arg3 harg3 arg9 harg9 arg12 harg12 arg17 arg18 x1 x2 x8 x11
  | 2 => kernelRun0_D.sl.HS0_3 c arg2 harg2 arg3 harg3 arg9 harg9 arg12 harg12 arg17 arg18 x1 x2 x8 x11
  | 3 => kernelRun0_D.sl.HS0_4 c arg2 harg2 arg3 harg3 arg9 harg9 arg12 harg12 arg17 arg18 x1 x2 x8 x11
  | 4 => kernelRun0_D.sl.HS0_5 c arg2 harg2 arg3 harg3 arg9 harg9 arg12 harg12 arg17 arg18 x1 x2 x8 x11
  | 5 => kernelRun0_D.sl.HS0_6 c arg2 harg2 arg3 harg3 arg9 harg9 arg12 harg12 arg17 arg18 x1 x2 x8 x11
  | 6 => kernelRun0_D.sl.HS0_7 c arg2 harg2 arg3 harg3 arg9 harg9 arg12 harg12 arg17 arg18 x1 x2 x8 x11
  | 7 => kernelRun0_D.sl.HS0_8 c arg2 harg2 arg3 harg3 arg9 harg9 arg12 harg12 arg17 arg18 x1 x2 x8 x11
  | 8 => kernelRun0_D.sl.HS0_9 c arg2 harg2 arg3 harg3 arg9 harg9 arg12 harg12 arg17 arg18 x1 x2 x8 x11
  | 9 => kernelRun0_D.sl.HS0_10 c arg2 harg2 arg3 harg3 arg9 harg9 arg12 harg12 arg17 arg18 x1 x2 x8 x11
  | 10 => kernelRun0_D.sl.HS0_11 c arg2 harg2 arg3 harg3 arg9 harg9 arg12 harg12 arg17 arg18 x1 x2 x8 x11
  | 11 => kernelRun0_D.sl.HS0_12 c arg2 harg2 arg3 harg3 arg9 harg9 arg12 harg12 arg17 arg18 x1 x2 x8 x11
  | 12 => kernelRun0_D.sl.HS0_13 c arg2 harg2 arg3 harg3 arg9 harg9 arg12 harg12 arg17 arg18 x1 x2 x8 x11
  | 13 => kernelRun0_D.sl.HS0_14 c arg2 harg2 arg3 harg3 arg9 harg9 arg12 harg12 arg17 arg18 x1 x2 x8 x11
  | 14 => kernelRun0_D.sl.HS0_15 c arg2 harg2 arg3 harg3 arg9 harg9 arg12 harg12 arg17 arg18 x1 x2 x8 x11
  | 15 => kernelRun0_D.sl.HS0_16 c arg2 harg2 arg3 harg3 arg9 harg9 arg12 harg12 arg17 arg18 x1 x2 x8 x11
  | _ => []

theorem cs_0 : (Cs c arg2 harg2 arg3 harg3 arg9 harg9 arg12 harg12 arg17 arg18 x1 x2 x8 x11) 0 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 0 := by
  rfl

theorem cs_1 : (Cs c arg2 harg2 arg3 harg3 arg9 harg9 arg12 harg12 arg17 arg18 x1 x2 x8 x11) 1 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 1 :=
  (show (Cs c arg2 harg2 arg3 harg3 arg9 harg9 arg12 harg12 arg17 arg18 x1 x2 x8 x11) 1 = ctStep (fun c h mp cp => ctNew ((b_k arg2 harg2 x1) c h) ((b_v arg3 harg3 x2) c h) (row4 (uAll (b_cu arg9 harg9 arg12 harg12 x8 x11) c ((b_g arg9 harg9 x8) c)) h) mp cp) 0 ((l_m arg18) 0 ((Ms c arg9 harg9 arg12 harg12 arg18 x8 x11) 0) (hd4 0)) ((l_ct arg17) 0 ((Cs c arg2 harg2 arg3 harg3 arg9 harg9 arg12 harg12 arg17 arg18 x1 x2 x8 x11) 0) (hd4 0)) ((Cs c arg2 harg2 arg3 harg3 arg9 harg9 arg12 harg12 arg17 arg18 x1 x2 x8 x11) 0) from rfl).trans (by rw [ms_0, cs_0]; rfl)

theorem cs_2 : (Cs c arg2 harg2 arg3 harg3 arg9 harg9 arg12 harg12 arg17 arg18 x1 x2 x8 x11) 2 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 2 :=
  (show (Cs c arg2 harg2 arg3 harg3 arg9 harg9 arg12 harg12 arg17 arg18 x1 x2 x8 x11) 2 = ctStep (fun c h mp cp => ctNew ((b_k arg2 harg2 x1) c h) ((b_v arg3 harg3 x2) c h) (row4 (uAll (b_cu arg9 harg9 arg12 harg12 x8 x11) c ((b_g arg9 harg9 x8) c)) h) mp cp) 1 ((l_m arg18) 1 ((Ms c arg9 harg9 arg12 harg12 arg18 x8 x11) 1) (hd4 1)) ((l_ct arg17) 1 ((Cs c arg2 harg2 arg3 harg3 arg9 harg9 arg12 harg12 arg17 arg18 x1 x2 x8 x11) 1) (hd4 1)) ((Cs c arg2 harg2 arg3 harg3 arg9 harg9 arg12 harg12 arg17 arg18 x1 x2 x8 x11) 1) from rfl).trans (by rw [ms_1, cs_1]; rfl)

theorem cs_3 : (Cs c arg2 harg2 arg3 harg3 arg9 harg9 arg12 harg12 arg17 arg18 x1 x2 x8 x11) 3 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 3 :=
  (show (Cs c arg2 harg2 arg3 harg3 arg9 harg9 arg12 harg12 arg17 arg18 x1 x2 x8 x11) 3 = ctStep (fun c h mp cp => ctNew ((b_k arg2 harg2 x1) c h) ((b_v arg3 harg3 x2) c h) (row4 (uAll (b_cu arg9 harg9 arg12 harg12 x8 x11) c ((b_g arg9 harg9 x8) c)) h) mp cp) 2 ((l_m arg18) 2 ((Ms c arg9 harg9 arg12 harg12 arg18 x8 x11) 2) (hd4 2)) ((l_ct arg17) 2 ((Cs c arg2 harg2 arg3 harg3 arg9 harg9 arg12 harg12 arg17 arg18 x1 x2 x8 x11) 2) (hd4 2)) ((Cs c arg2 harg2 arg3 harg3 arg9 harg9 arg12 harg12 arg17 arg18 x1 x2 x8 x11) 2) from rfl).trans (by rw [ms_2, cs_2]; rfl)

theorem cs_4 : (Cs c arg2 harg2 arg3 harg3 arg9 harg9 arg12 harg12 arg17 arg18 x1 x2 x8 x11) 4 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 4 :=
  (show (Cs c arg2 harg2 arg3 harg3 arg9 harg9 arg12 harg12 arg17 arg18 x1 x2 x8 x11) 4 = ctStep (fun c h mp cp => ctNew ((b_k arg2 harg2 x1) c h) ((b_v arg3 harg3 x2) c h) (row4 (uAll (b_cu arg9 harg9 arg12 harg12 x8 x11) c ((b_g arg9 harg9 x8) c)) h) mp cp) 3 ((l_m arg18) 3 ((Ms c arg9 harg9 arg12 harg12 arg18 x8 x11) 3) (hd4 3)) ((l_ct arg17) 3 ((Cs c arg2 harg2 arg3 harg3 arg9 harg9 arg12 harg12 arg17 arg18 x1 x2 x8 x11) 3) (hd4 3)) ((Cs c arg2 harg2 arg3 harg3 arg9 harg9 arg12 harg12 arg17 arg18 x1 x2 x8 x11) 3) from rfl).trans (by rw [ms_3, cs_3]; rfl)

theorem cs_5 : (Cs c arg2 harg2 arg3 harg3 arg9 harg9 arg12 harg12 arg17 arg18 x1 x2 x8 x11) 5 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 5 :=
  (show (Cs c arg2 harg2 arg3 harg3 arg9 harg9 arg12 harg12 arg17 arg18 x1 x2 x8 x11) 5 = ctStep (fun c h mp cp => ctNew ((b_k arg2 harg2 x1) c h) ((b_v arg3 harg3 x2) c h) (row4 (uAll (b_cu arg9 harg9 arg12 harg12 x8 x11) c ((b_g arg9 harg9 x8) c)) h) mp cp) 4 ((l_m arg18) 4 ((Ms c arg9 harg9 arg12 harg12 arg18 x8 x11) 4) (hd4 4)) ((l_ct arg17) 4 ((Cs c arg2 harg2 arg3 harg3 arg9 harg9 arg12 harg12 arg17 arg18 x1 x2 x8 x11) 4) (hd4 4)) ((Cs c arg2 harg2 arg3 harg3 arg9 harg9 arg12 harg12 arg17 arg18 x1 x2 x8 x11) 4) from rfl).trans (by rw [ms_4, cs_4]; rfl)

theorem cs_6 : (Cs c arg2 harg2 arg3 harg3 arg9 harg9 arg12 harg12 arg17 arg18 x1 x2 x8 x11) 6 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 6 :=
  (show (Cs c arg2 harg2 arg3 harg3 arg9 harg9 arg12 harg12 arg17 arg18 x1 x2 x8 x11) 6 = ctStep (fun c h mp cp => ctNew ((b_k arg2 harg2 x1) c h) ((b_v arg3 harg3 x2) c h) (row4 (uAll (b_cu arg9 harg9 arg12 harg12 x8 x11) c ((b_g arg9 harg9 x8) c)) h) mp cp) 5 ((l_m arg18) 5 ((Ms c arg9 harg9 arg12 harg12 arg18 x8 x11) 5) (hd4 5)) ((l_ct arg17) 5 ((Cs c arg2 harg2 arg3 harg3 arg9 harg9 arg12 harg12 arg17 arg18 x1 x2 x8 x11) 5) (hd4 5)) ((Cs c arg2 harg2 arg3 harg3 arg9 harg9 arg12 harg12 arg17 arg18 x1 x2 x8 x11) 5) from rfl).trans (by rw [ms_5, cs_5]; rfl)

theorem cs_7 : (Cs c arg2 harg2 arg3 harg3 arg9 harg9 arg12 harg12 arg17 arg18 x1 x2 x8 x11) 7 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 7 :=
  (show (Cs c arg2 harg2 arg3 harg3 arg9 harg9 arg12 harg12 arg17 arg18 x1 x2 x8 x11) 7 = ctStep (fun c h mp cp => ctNew ((b_k arg2 harg2 x1) c h) ((b_v arg3 harg3 x2) c h) (row4 (uAll (b_cu arg9 harg9 arg12 harg12 x8 x11) c ((b_g arg9 harg9 x8) c)) h) mp cp) 6 ((l_m arg18) 6 ((Ms c arg9 harg9 arg12 harg12 arg18 x8 x11) 6) (hd4 6)) ((l_ct arg17) 6 ((Cs c arg2 harg2 arg3 harg3 arg9 harg9 arg12 harg12 arg17 arg18 x1 x2 x8 x11) 6) (hd4 6)) ((Cs c arg2 harg2 arg3 harg3 arg9 harg9 arg12 harg12 arg17 arg18 x1 x2 x8 x11) 6) from rfl).trans (by rw [ms_6, cs_6]; rfl)

theorem cs_8 : (Cs c arg2 harg2 arg3 harg3 arg9 harg9 arg12 harg12 arg17 arg18 x1 x2 x8 x11) 8 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 8 :=
  (show (Cs c arg2 harg2 arg3 harg3 arg9 harg9 arg12 harg12 arg17 arg18 x1 x2 x8 x11) 8 = ctStep (fun c h mp cp => ctNew ((b_k arg2 harg2 x1) c h) ((b_v arg3 harg3 x2) c h) (row4 (uAll (b_cu arg9 harg9 arg12 harg12 x8 x11) c ((b_g arg9 harg9 x8) c)) h) mp cp) 7 ((l_m arg18) 7 ((Ms c arg9 harg9 arg12 harg12 arg18 x8 x11) 7) (hd4 7)) ((l_ct arg17) 7 ((Cs c arg2 harg2 arg3 harg3 arg9 harg9 arg12 harg12 arg17 arg18 x1 x2 x8 x11) 7) (hd4 7)) ((Cs c arg2 harg2 arg3 harg3 arg9 harg9 arg12 harg12 arg17 arg18 x1 x2 x8 x11) 7) from rfl).trans (by rw [ms_7, cs_7]; rfl)

theorem cs_9 : (Cs c arg2 harg2 arg3 harg3 arg9 harg9 arg12 harg12 arg17 arg18 x1 x2 x8 x11) 9 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 9 :=
  (show (Cs c arg2 harg2 arg3 harg3 arg9 harg9 arg12 harg12 arg17 arg18 x1 x2 x8 x11) 9 = ctStep (fun c h mp cp => ctNew ((b_k arg2 harg2 x1) c h) ((b_v arg3 harg3 x2) c h) (row4 (uAll (b_cu arg9 harg9 arg12 harg12 x8 x11) c ((b_g arg9 harg9 x8) c)) h) mp cp) 8 ((l_m arg18) 8 ((Ms c arg9 harg9 arg12 harg12 arg18 x8 x11) 8) (hd4 8)) ((l_ct arg17) 8 ((Cs c arg2 harg2 arg3 harg3 arg9 harg9 arg12 harg12 arg17 arg18 x1 x2 x8 x11) 8) (hd4 8)) ((Cs c arg2 harg2 arg3 harg3 arg9 harg9 arg12 harg12 arg17 arg18 x1 x2 x8 x11) 8) from rfl).trans (by rw [ms_8, cs_8]; rfl)

theorem cs_10 : (Cs c arg2 harg2 arg3 harg3 arg9 harg9 arg12 harg12 arg17 arg18 x1 x2 x8 x11) 10 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 10 :=
  (show (Cs c arg2 harg2 arg3 harg3 arg9 harg9 arg12 harg12 arg17 arg18 x1 x2 x8 x11) 10 = ctStep (fun c h mp cp => ctNew ((b_k arg2 harg2 x1) c h) ((b_v arg3 harg3 x2) c h) (row4 (uAll (b_cu arg9 harg9 arg12 harg12 x8 x11) c ((b_g arg9 harg9 x8) c)) h) mp cp) 9 ((l_m arg18) 9 ((Ms c arg9 harg9 arg12 harg12 arg18 x8 x11) 9) (hd4 9)) ((l_ct arg17) 9 ((Cs c arg2 harg2 arg3 harg3 arg9 harg9 arg12 harg12 arg17 arg18 x1 x2 x8 x11) 9) (hd4 9)) ((Cs c arg2 harg2 arg3 harg3 arg9 harg9 arg12 harg12 arg17 arg18 x1 x2 x8 x11) 9) from rfl).trans (by rw [ms_9, cs_9]; rfl)

theorem cs_11 : (Cs c arg2 harg2 arg3 harg3 arg9 harg9 arg12 harg12 arg17 arg18 x1 x2 x8 x11) 11 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 11 :=
  (show (Cs c arg2 harg2 arg3 harg3 arg9 harg9 arg12 harg12 arg17 arg18 x1 x2 x8 x11) 11 = ctStep (fun c h mp cp => ctNew ((b_k arg2 harg2 x1) c h) ((b_v arg3 harg3 x2) c h) (row4 (uAll (b_cu arg9 harg9 arg12 harg12 x8 x11) c ((b_g arg9 harg9 x8) c)) h) mp cp) 10 ((l_m arg18) 10 ((Ms c arg9 harg9 arg12 harg12 arg18 x8 x11) 10) (hd4 10)) ((l_ct arg17) 10 ((Cs c arg2 harg2 arg3 harg3 arg9 harg9 arg12 harg12 arg17 arg18 x1 x2 x8 x11) 10) (hd4 10)) ((Cs c arg2 harg2 arg3 harg3 arg9 harg9 arg12 harg12 arg17 arg18 x1 x2 x8 x11) 10) from rfl).trans (by rw [ms_10, cs_10]; rfl)

theorem cs_12 : (Cs c arg2 harg2 arg3 harg3 arg9 harg9 arg12 harg12 arg17 arg18 x1 x2 x8 x11) 12 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 12 :=
  (show (Cs c arg2 harg2 arg3 harg3 arg9 harg9 arg12 harg12 arg17 arg18 x1 x2 x8 x11) 12 = ctStep (fun c h mp cp => ctNew ((b_k arg2 harg2 x1) c h) ((b_v arg3 harg3 x2) c h) (row4 (uAll (b_cu arg9 harg9 arg12 harg12 x8 x11) c ((b_g arg9 harg9 x8) c)) h) mp cp) 11 ((l_m arg18) 11 ((Ms c arg9 harg9 arg12 harg12 arg18 x8 x11) 11) (hd4 11)) ((l_ct arg17) 11 ((Cs c arg2 harg2 arg3 harg3 arg9 harg9 arg12 harg12 arg17 arg18 x1 x2 x8 x11) 11) (hd4 11)) ((Cs c arg2 harg2 arg3 harg3 arg9 harg9 arg12 harg12 arg17 arg18 x1 x2 x8 x11) 11) from rfl).trans (by rw [ms_11, cs_11]; rfl)

theorem cs_13 : (Cs c arg2 harg2 arg3 harg3 arg9 harg9 arg12 harg12 arg17 arg18 x1 x2 x8 x11) 13 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 13 :=
  (show (Cs c arg2 harg2 arg3 harg3 arg9 harg9 arg12 harg12 arg17 arg18 x1 x2 x8 x11) 13 = ctStep (fun c h mp cp => ctNew ((b_k arg2 harg2 x1) c h) ((b_v arg3 harg3 x2) c h) (row4 (uAll (b_cu arg9 harg9 arg12 harg12 x8 x11) c ((b_g arg9 harg9 x8) c)) h) mp cp) 12 ((l_m arg18) 12 ((Ms c arg9 harg9 arg12 harg12 arg18 x8 x11) 12) (hd4 12)) ((l_ct arg17) 12 ((Cs c arg2 harg2 arg3 harg3 arg9 harg9 arg12 harg12 arg17 arg18 x1 x2 x8 x11) 12) (hd4 12)) ((Cs c arg2 harg2 arg3 harg3 arg9 harg9 arg12 harg12 arg17 arg18 x1 x2 x8 x11) 12) from rfl).trans (by rw [ms_12, cs_12]; rfl)

theorem cs_14 : (Cs c arg2 harg2 arg3 harg3 arg9 harg9 arg12 harg12 arg17 arg18 x1 x2 x8 x11) 14 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 14 :=
  (show (Cs c arg2 harg2 arg3 harg3 arg9 harg9 arg12 harg12 arg17 arg18 x1 x2 x8 x11) 14 = ctStep (fun c h mp cp => ctNew ((b_k arg2 harg2 x1) c h) ((b_v arg3 harg3 x2) c h) (row4 (uAll (b_cu arg9 harg9 arg12 harg12 x8 x11) c ((b_g arg9 harg9 x8) c)) h) mp cp) 13 ((l_m arg18) 13 ((Ms c arg9 harg9 arg12 harg12 arg18 x8 x11) 13) (hd4 13)) ((l_ct arg17) 13 ((Cs c arg2 harg2 arg3 harg3 arg9 harg9 arg12 harg12 arg17 arg18 x1 x2 x8 x11) 13) (hd4 13)) ((Cs c arg2 harg2 arg3 harg3 arg9 harg9 arg12 harg12 arg17 arg18 x1 x2 x8 x11) 13) from rfl).trans (by rw [ms_13, cs_13]; rfl)

theorem cs_15 : (Cs c arg2 harg2 arg3 harg3 arg9 harg9 arg12 harg12 arg17 arg18 x1 x2 x8 x11) 15 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 15 :=
  (show (Cs c arg2 harg2 arg3 harg3 arg9 harg9 arg12 harg12 arg17 arg18 x1 x2 x8 x11) 15 = ctStep (fun c h mp cp => ctNew ((b_k arg2 harg2 x1) c h) ((b_v arg3 harg3 x2) c h) (row4 (uAll (b_cu arg9 harg9 arg12 harg12 x8 x11) c ((b_g arg9 harg9 x8) c)) h) mp cp) 14 ((l_m arg18) 14 ((Ms c arg9 harg9 arg12 harg12 arg18 x8 x11) 14) (hd4 14)) ((l_ct arg17) 14 ((Cs c arg2 harg2 arg3 harg3 arg9 harg9 arg12 harg12 arg17 arg18 x1 x2 x8 x11) 14) (hd4 14)) ((Cs c arg2 harg2 arg3 harg3 arg9 harg9 arg12 harg12 arg17 arg18 x1 x2 x8 x11) 14) from rfl).trans (by rw [ms_14, cs_14]; rfl)

theorem ct_run : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs3).2.1 = (ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) 16 := by
  have e : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs3).2.1 = ctStep (fun c h mp cp => ctNew ((b_k arg2 harg2 x1) c h) ((b_v arg3 harg3 x2) c h) (row4 (uAll (b_cu arg9 harg9 arg12 harg12 x8 x11) c ((b_g arg9 harg9 x8) c)) h) mp cp) 15 ((l_m arg18) 15 ((Ms c arg9 harg9 arg12 harg12 arg18 x8 x11) 15) (hd4 15)) ((l_ct arg17) 15 ((Cs c arg2 harg2 arg3 harg3 arg9 harg9 arg12 harg12 arg17 arg18 x1 x2 x8 x11) 15) (hd4 15)) ((Cs c arg2 harg2 arg3 harg3 arg9 harg9 arg12 harg12 arg17 arg18 x1 x2 x8 x11) 15) := by
    unfold kernelRun0_D
    rfl
  rw [e, ms_15, cs_15]
  rfl

theorem ct_pieces : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs3).2.1 =
    ctL (blkOf x0 x1 x2 x3 x4 x5 x6 x7 x8 x9 x10 x11) ldZ mI ctI 16 := by
  rw [ct_run, ← blk_eq arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11, ← lds_eq (F := F) arg17 arg18 arg19]
  rfl

def Hs : Nat → List (View.Piece (Elt F) S2x512x128 .f32)
  | 0 => kernelRun0_D.sl.HS2_1
  | 1 => kernelRun0_D.sl.HS2_9 c arg6 harg6 arg7 harg7 arg9 harg9 arg12 harg12 arg19 x5 x6 x8 x11
  | 2 => kernelRun0_D.sl.HS2_17 c arg6 harg6 arg7 harg7 arg9 harg9 arg12 harg12 arg19 x5 x6 x8 x11
  | 3 => kernelRun0_D.sl.HS2_25 c arg6 harg6 arg7 harg7 arg9 harg9 arg12 harg12 arg19 x5 x6 x8 x11
  | 4 => kernelRun0_D.sl.HS2_33 c arg6 harg6 arg7 harg7 arg9 harg9 arg12 harg12 arg19 x5 x6 x8 x11
  | 5 => kernelRun0_D.sl.HS2_41 c arg6 harg6 arg7 harg7 arg9 harg9 arg12 harg12 arg19 x5 x6 x8 x11
  | 6 => kernelRun0_D.sl.HS2_49 c arg6 harg6 arg7 harg7 arg9 harg9 arg12 harg12 arg19 x5 x6 x8 x11
  | 7 => kernelRun0_D.sl.HS2_57 c arg6 harg6 arg7 harg7 arg9 harg9 arg12 harg12 arg19 x5 x6 x8 x11
  | _ => []

theorem hs_0 : (Hs c arg6 harg6 arg7 harg7 arg9 harg9 arg12 harg12 arg19 x5 x6 x8 x11) 0 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19) hI) 0 := by
  rfl

theorem hs_1 : (Hs c arg6 harg6 arg7 harg7 arg9 harg9 arg12 harg12 arg19 x5 x6 x8 x11) 1 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19) hI) 1 :=
  (show (Hs c arg6 harg6 arg7 harg7 arg9 harg9 arg12 harg12 arg19 x5 x6 x8 x11) 1 = hStep (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) 0 ((l_h arg19) 0 ((Hs c arg6 harg6 arg7 harg7 arg9 harg9 arg12 harg12 arg19 x5 x6 x8 x11) 0) (gr2 0)) ((Hs c arg6 harg6 arg7 harg7 arg9 harg9 arg12 harg12 arg19 x5 x6 x8 x11) 0) from rfl).trans (by rw [hs_0]; rfl)

theorem hs_2 : (Hs c arg6 harg6 arg7 harg7 arg9 harg9 arg12 harg12 arg19 x5 x6 x8 x11) 2 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19) hI) 2 :=
  (show (Hs c arg6 harg6 arg7 harg7 arg9 harg9 arg12 harg12 arg19 x5 x6 x8 x11) 2 = hStep (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) 1 ((l_h arg19) 1 ((Hs c arg6 harg6 arg7 harg7 arg9 harg9 arg12 harg12 arg19 x5 x6 x8 x11) 1) (gr2 1)) ((Hs c arg6 harg6 arg7 harg7 arg9 harg9 arg12 harg12 arg19 x5 x6 x8 x11) 1) from rfl).trans (by rw [hs_1]; rfl)

theorem hs_3 : (Hs c arg6 harg6 arg7 harg7 arg9 harg9 arg12 harg12 arg19 x5 x6 x8 x11) 3 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19) hI) 3 :=
  (show (Hs c arg6 harg6 arg7 harg7 arg9 harg9 arg12 harg12 arg19 x5 x6 x8 x11) 3 = hStep (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) 2 ((l_h arg19) 2 ((Hs c arg6 harg6 arg7 harg7 arg9 harg9 arg12 harg12 arg19 x5 x6 x8 x11) 2) (gr2 2)) ((Hs c arg6 harg6 arg7 harg7 arg9 harg9 arg12 harg12 arg19 x5 x6 x8 x11) 2) from rfl).trans (by rw [hs_2]; rfl)

theorem hs_4 : (Hs c arg6 harg6 arg7 harg7 arg9 harg9 arg12 harg12 arg19 x5 x6 x8 x11) 4 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19) hI) 4 :=
  (show (Hs c arg6 harg6 arg7 harg7 arg9 harg9 arg12 harg12 arg19 x5 x6 x8 x11) 4 = hStep (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) 3 ((l_h arg19) 3 ((Hs c arg6 harg6 arg7 harg7 arg9 harg9 arg12 harg12 arg19 x5 x6 x8 x11) 3) (gr2 3)) ((Hs c arg6 harg6 arg7 harg7 arg9 harg9 arg12 harg12 arg19 x5 x6 x8 x11) 3) from rfl).trans (by rw [hs_3]; rfl)

theorem hs_5 : (Hs c arg6 harg6 arg7 harg7 arg9 harg9 arg12 harg12 arg19 x5 x6 x8 x11) 5 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19) hI) 5 :=
  (show (Hs c arg6 harg6 arg7 harg7 arg9 harg9 arg12 harg12 arg19 x5 x6 x8 x11) 5 = hStep (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) 4 ((l_h arg19) 4 ((Hs c arg6 harg6 arg7 harg7 arg9 harg9 arg12 harg12 arg19 x5 x6 x8 x11) 4) (gr2 4)) ((Hs c arg6 harg6 arg7 harg7 arg9 harg9 arg12 harg12 arg19 x5 x6 x8 x11) 4) from rfl).trans (by rw [hs_4]; rfl)

theorem hs_6 : (Hs c arg6 harg6 arg7 harg7 arg9 harg9 arg12 harg12 arg19 x5 x6 x8 x11) 6 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19) hI) 6 :=
  (show (Hs c arg6 harg6 arg7 harg7 arg9 harg9 arg12 harg12 arg19 x5 x6 x8 x11) 6 = hStep (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) 5 ((l_h arg19) 5 ((Hs c arg6 harg6 arg7 harg7 arg9 harg9 arg12 harg12 arg19 x5 x6 x8 x11) 5) (gr2 5)) ((Hs c arg6 harg6 arg7 harg7 arg9 harg9 arg12 harg12 arg19 x5 x6 x8 x11) 5) from rfl).trans (by rw [hs_5]; rfl)

theorem hs_7 : (Hs c arg6 harg6 arg7 harg7 arg9 harg9 arg12 harg12 arg19 x5 x6 x8 x11) 7 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19) hI) 7 :=
  (show (Hs c arg6 harg6 arg7 harg7 arg9 harg9 arg12 harg12 arg19 x5 x6 x8 x11) 7 = hStep (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) 6 ((l_h arg19) 6 ((Hs c arg6 harg6 arg7 harg7 arg9 harg9 arg12 harg12 arg19 x5 x6 x8 x11) 6) (gr2 6)) ((Hs c arg6 harg6 arg7 harg7 arg9 harg9 arg12 harg12 arg19 x5 x6 x8 x11) 6) from rfl).trans (by rw [hs_6]; rfl)

theorem h_run : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs3).2.2.2.1 = (hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19) hI) 8 := by
  have e : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs3).2.2.2.1 = hStep (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) 7 ((l_h arg19) 7 ((Hs c arg6 harg6 arg7 harg7 arg9 harg9 arg12 harg12 arg19 x5 x6 x8 x11) 7) (gr2 7)) ((Hs c arg6 harg6 arg7 harg7 arg9 harg9 arg12 harg12 arg19 x5 x6 x8 x11) 7) := by
    unfold kernelRun0_D
    rfl
  rw [e, hs_7]
  rfl

theorem h_pieces : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs3).2.2.2.1 =
    hL (blkOf x0 x1 x2 x3 x4 x5 x6 x7 x8 x9 x10 x11) ldZ hI 8 := by
  rw [h_run, ← blk_eq arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11, ← lds_eq (F := F) arg17 arg18 arg19]
  rfl

theorem ms_all (n : Nat) (hn : n < 16) : (fun n => (l_m arg18) n ((Ms c arg9 harg9 arg12 harg12 arg18 x8 x11) n) (hd4 n)) n = (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) n := by
  interval_cases n
  · simp only [ms_0]
  · simp only [ms_1]
  · simp only [ms_2]
  · simp only [ms_3]
  · simp only [ms_4]
  · simp only [ms_5]
  · simp only [ms_6]
  · simp only [ms_7]
  · simp only [ms_8]
  · simp only [ms_9]
  · simp only [ms_10]
  · simp only [ms_11]
  · simp only [ms_12]
  · simp only [ms_13]
  · simp only [ms_14]
  · simp only [ms_15]

theorem cs_all (n : Nat) (hn : n < 16) : (fun n => (l_ct arg17) n ((Cs c arg2 harg2 arg3 harg3 arg9 harg9 arg12 harg12 arg17 arg18 x1 x2 x8 x11) n) (hd4 n)) n = (fun n => (l_ct arg17) n ((ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) n) (hd4 n)) n := by
  interval_cases n
  · simp only [cs_0]
  · simp only [cs_1]
  · simp only [cs_2]
  · simp only [cs_3]
  · simp only [cs_4]
  · simp only [cs_5]
  · simp only [cs_6]
  · simp only [cs_7]
  · simp only [cs_8]
  · simp only [cs_9]
  · simp only [cs_10]
  · simp only [cs_11]
  · simp only [cs_12]
  · simp only [cs_13]
  · simp only [cs_14]
  · simp only [cs_15]

theorem hs_all (n : Nat) (hn : n < 8) : (fun n => (l_h arg19) n ((Hs c arg6 harg6 arg7 harg7 arg9 harg9 arg12 harg12 arg19 x5 x6 x8 x11) n) (gr2 n)) n = (fun n => (l_h arg19) n ((hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19) hI) n) (gr2 n)) n := by
  interval_cases n
  · simp only [hs_0]
  · simp only [hs_1]
  · simp only [hs_2]
  · simp only [hs_3]
  · simp only [hs_4]
  · simp only [hs_5]
  · simp only [hs_6]
  · simp only [hs_7]

def Xs : Nat → List (View.Piece (Elt F) S2x4x2048x128 .bf16)
  | 1 => kernelRun0_D.sl.HS3_6 c i arg1 harg1 arg2 harg2 arg3 harg3 arg4 harg4 arg5 harg5 arg6 harg6 arg7 harg7 arg8 harg8 arg9 harg9 arg10 harg10 arg11 harg11 arg12 harg12 arg17 arg18 arg19 hl19 hl20 hl21 hl22 hl23 hl24 x0 x1 x2 x3 x4 x5 x6 x7 x8 x9 x10 x11
  | 2 => kernelRun0_D.sl.HS3_12 c i arg1 harg1 arg2 harg2 arg3 harg3 arg4 harg4 arg5 harg5 arg6 harg6 arg7 harg7 arg8 harg8 arg9 harg9 arg10 harg10 arg11 harg11 arg12 harg12 arg17 arg18 arg19 hl1 hl2 hl3 hl4 hl5 hl19 hl20 hl21 hl22 hl23 hl24 hl25 x0 x1 x2 x3 x4 x5 x6 x7 x8 x9 x10 x11
  | 3 => kernelRun0_D.sl.HS3_18 c i arg1 harg1 arg2 harg2 arg3 harg3 arg4 harg4 arg5 harg5 arg6 harg6 arg7 harg7 arg8 harg8 arg9 harg9 arg10 harg10 arg11 harg11 arg12 harg12 arg17 arg18 arg19 hl1 hl2 hl3 hl4 hl5 hl6 hl7 hl8 hl9 hl10 hl12 hl19 hl20 hl21 hl22 hl23 hl24 hl25 x0 x1 x2 x3 x4 x5 x6 x7 x8 x9 x10 x11
  | _ => []

theorem xs_1 : (Xs c i arg1 harg1 arg2 harg2 arg3 harg3 arg4 harg4 arg5 harg5 arg6 harg6 arg7 harg7 arg8 harg8 arg9 harg9 arg10 harg10 arg11 harg11 arg12 harg12 arg17 arg18 arg19 hl1 hl2 hl3 hl4 hl5 hl6 hl7 hl8 hl9 hl10 hl12 hl19 hl20 hl21 hl22 hl23 hl24 hl25 x0 x1 x2 x3 x4 x5 x6 x7 x8 x9 x10 x11) 1 = (mixG (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18) n ((Ms c arg9 harg9 arg12 harg12 arg18 x8 x11) n) (hd4 n)) (fun n => (l_ct arg17) n ((Cs c arg2 harg2 arg3 harg3 arg9 harg9 arg12 harg12 arg17 arg18 x1 x2 x8 x11) n) (hd4 n)) (fun n => (l_h arg19) n ((Hs c arg6 harg6 arg7 harg7 arg9 harg9 arg12 harg12 arg19 x5 x6 x8 x11) n) (gr2 n)) [] 0) 1 :=
  (show (Xs c i arg1 harg1 arg2 harg2 arg3 harg3 arg4 harg4 arg5 harg5 arg6 harg6 arg7 harg7 arg8 harg8 arg9 harg9 arg10 harg10 arg11 harg11 arg12 harg12 arg17 arg18 arg19 hl1 hl2 hl3 hl4 hl5 hl6 hl7 hl8 hl9 hl10 hl12 hl19 hl20 hl21 hl22 hl23 hl24 hl25 x0 x1 x2 x3 x4 x5 x6 x7 x8 x9 x10 x11) 1 = mixStep (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18) n ((Ms c arg9 harg9 arg12 harg12 arg18 x8 x11) n) (hd4 n)) (fun n => (l_ct arg17) n ((Cs c arg2 harg2 arg3 harg3 arg9 harg9 arg12 harg12 arg17 arg18 x1 x2 x8 x11) n) (hd4 n)) (fun n => (l_h arg19) n ((Hs c arg6 harg6 arg7 harg7 arg9 harg9 arg12 harg12 arg19 x5 x6 x8 x11) n) (gr2 n)) 0 0 [] from rfl).trans (by rfl)

theorem xs_2 : (Xs c i arg1 harg1 arg2 harg2 arg3 harg3 arg4 harg4 arg5 harg5 arg6 harg6 arg7 harg7 arg8 harg8 arg9 harg9 arg10 harg10 arg11 harg11 arg12 harg12 arg17 arg18 arg19 hl1 hl2 hl3 hl4 hl5 hl6 hl7 hl8 hl9 hl10 hl12 hl19 hl20 hl21 hl22 hl23 hl24 hl25 x0 x1 x2 x3 x4 x5 x6 x7 x8 x9 x10 x11) 2 = (mixG (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18) n ((Ms c arg9 harg9 arg12 harg12 arg18 x8 x11) n) (hd4 n)) (fun n => (l_ct arg17) n ((Cs c arg2 harg2 arg3 harg3 arg9 harg9 arg12 harg12 arg17 arg18 x1 x2 x8 x11) n) (hd4 n)) (fun n => (l_h arg19) n ((Hs c arg6 harg6 arg7 harg7 arg9 harg9 arg12 harg12 arg19 x5 x6 x8 x11) n) (gr2 n)) [] 0) 2 :=
  (show (Xs c i arg1 harg1 arg2 harg2 arg3 harg3 arg4 harg4 arg5 harg5 arg6 harg6 arg7 harg7 arg8 harg8 arg9 harg9 arg10 harg10 arg11 harg11 arg12 harg12 arg17 arg18 arg19 hl1 hl2 hl3 hl4 hl5 hl6 hl7 hl8 hl9 hl10 hl12 hl19 hl20 hl21 hl22 hl23 hl24 hl25 x0 x1 x2 x3 x4 x5 x6 x7 x8 x9 x10 x11) 2 = mixStep (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18) n ((Ms c arg9 harg9 arg12 harg12 arg18 x8 x11) n) (hd4 n)) (fun n => (l_ct arg17) n ((Cs c arg2 harg2 arg3 harg3 arg9 harg9 arg12 harg12 arg17 arg18 x1 x2 x8 x11) n) (hd4 n)) (fun n => (l_h arg19) n ((Hs c arg6 harg6 arg7 harg7 arg9 harg9 arg12 harg12 arg19 x5 x6 x8 x11) n) (gr2 n)) 0 1 ((Xs c i arg1 harg1 arg2 harg2 arg3 harg3 arg4 harg4 arg5 harg5 arg6 harg6 arg7 harg7 arg8 harg8 arg9 harg9 arg10 harg10 arg11 harg11 arg12 harg12 arg17 arg18 arg19 hl1 hl2 hl3 hl4 hl5 hl6 hl7 hl8 hl9 hl10 hl12 hl19 hl20 hl21 hl22 hl23 hl24 hl25 x0 x1 x2 x3 x4 x5 x6 x7 x8 x9 x10 x11) 1) from rfl).trans (by rw [xs_1]; rfl)

theorem xs_3 : (Xs c i arg1 harg1 arg2 harg2 arg3 harg3 arg4 harg4 arg5 harg5 arg6 harg6 arg7 harg7 arg8 harg8 arg9 harg9 arg10 harg10 arg11 harg11 arg12 harg12 arg17 arg18 arg19 hl1 hl2 hl3 hl4 hl5 hl6 hl7 hl8 hl9 hl10 hl12 hl19 hl20 hl21 hl22 hl23 hl24 hl25 x0 x1 x2 x3 x4 x5 x6 x7 x8 x9 x10 x11) 3 = (mixG (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18) n ((Ms c arg9 harg9 arg12 harg12 arg18 x8 x11) n) (hd4 n)) (fun n => (l_ct arg17) n ((Cs c arg2 harg2 arg3 harg3 arg9 harg9 arg12 harg12 arg17 arg18 x1 x2 x8 x11) n) (hd4 n)) (fun n => (l_h arg19) n ((Hs c arg6 harg6 arg7 harg7 arg9 harg9 arg12 harg12 arg19 x5 x6 x8 x11) n) (gr2 n)) [] 0) 3 :=
  (show (Xs c i arg1 harg1 arg2 harg2 arg3 harg3 arg4 harg4 arg5 harg5 arg6 harg6 arg7 harg7 arg8 harg8 arg9 harg9 arg10 harg10 arg11 harg11 arg12 harg12 arg17 arg18 arg19 hl1 hl2 hl3 hl4 hl5 hl6 hl7 hl8 hl9 hl10 hl12 hl19 hl20 hl21 hl22 hl23 hl24 hl25 x0 x1 x2 x3 x4 x5 x6 x7 x8 x9 x10 x11) 3 = mixStep (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18) n ((Ms c arg9 harg9 arg12 harg12 arg18 x8 x11) n) (hd4 n)) (fun n => (l_ct arg17) n ((Cs c arg2 harg2 arg3 harg3 arg9 harg9 arg12 harg12 arg17 arg18 x1 x2 x8 x11) n) (hd4 n)) (fun n => (l_h arg19) n ((Hs c arg6 harg6 arg7 harg7 arg9 harg9 arg12 harg12 arg19 x5 x6 x8 x11) n) (gr2 n)) 0 2 ((Xs c i arg1 harg1 arg2 harg2 arg3 harg3 arg4 harg4 arg5 harg5 arg6 harg6 arg7 harg7 arg8 harg8 arg9 harg9 arg10 harg10 arg11 harg11 arg12 harg12 arg17 arg18 arg19 hl1 hl2 hl3 hl4 hl5 hl6 hl7 hl8 hl9 hl10 hl12 hl19 hl20 hl21 hl22 hl23 hl24 hl25 x0 x1 x2 x3 x4 x5 x6 x7 x8 x9 x10 x11) 2) from rfl).trans (by rw [xs_2]; rfl)

theorem mix_run : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs3).2.2.2.2.1 = (mixG (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (fun n => (l_ct arg17) n ((ctG (fun c h mp cp => ctNew ((b_k arg2 harg2 x1) c h) ((b_v arg3 harg3 x2) c h) (row4 (uAll (b_cu arg9 harg9 arg12 harg12 x8 x11) c ((b_g arg9 harg9 x8) c)) h) mp cp) (fun n => (l_m arg18) n ((mG (fun c h mp => mNew (row4 (bAll (b_cu arg9 harg9 arg12 harg12 x8 x11) c) h) (row4 (uAll (b_cu arg9 harg9 arg12 harg12 x8 x11) c ((b_g arg9 harg9 x8) c)) h) mp) (l_m arg18) mI) n) (hd4 n)) (l_ct arg17) ctI) n) (hd4 n)) (fun n => (l_h arg19) n ((hG (fun c g hg r => hNew ((b_b arg7 harg7 x6) c g) ((b_x arg6 harg6 x5) c g) (fun r => row16 (dtA ((b_g arg9 harg9 x8) c)) (hd16 g r)) (fun r => row16 (dEnd (b_cu arg9 harg9 arg12 harg12 x8 x11) c) (hd16 g r)) (row16s (cDec (b_cu arg9 harg9 arg12 harg12 x8 x11) c) (hd16 g r)) hg r) (l_h arg19) hI) n) (gr2 n)) [] 0) 4 := by
  have e : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs3).2.2.2.2.1 = mixStep (fun c h mp cp => outM (numAug ((b_q arg1 harg1 x0) c h) ((b_k arg2 harg2 x1) c h) ((b_v arg3 harg3 x2) c h) (row4 (uAll (b_cu arg9 harg9 arg12 harg12 x8 x11) c ((b_g arg9 harg9 x8) c)) h) mp cp) (row4 (bAll (b_cu arg9 harg9 arg12 harg12 x8 x11) c) h) (row4 (uAll (b_cu arg9 harg9 arg12 harg12 x8 x11) c ((b_g arg9 harg9 x8) c)) h) mp ((b_o arg4 harg4 x3) c h)) (fun c g hg => outS (cat8 fun r => yM ((b_b arg7 harg7 x6) c g) ((b_c arg8 harg8 x7) c g) ((b_x arg6 harg6 x5) c g r) ((b_z arg5 harg5 x4) c g r) (row16 (aCum (b_cu arg9 harg9 arg12 harg12 x8 x11) c) (hd16 g r)) (row16 (dtA ((b_g arg9 harg9 x8) c)) (hd16 g r)) (row16 (eaA (b_cu arg9 harg9 arg12 harg12 x8 x11) c) (hd16 g r)) ((b_ds arg11 harg11 x10) g r) hg r) ((b_nw arg10 harg10 x9) g)) (fun n => (l_m arg18) n ((Ms c arg9 harg9 arg12 harg12 arg18 x8 x11) n) (hd4 n)) (fun n => (l_ct arg17) n ((Cs c arg2 harg2 arg3 harg3 arg9 harg9 arg12 harg12 arg17 arg18 x1 x2 x8 x11) n) (hd4 n)) (fun n => (l_h arg19) n ((Hs c arg6 harg6 arg7 harg7 arg9 harg9 arg12 harg12 arg19 x5 x6 x8 x11) n) (gr2 n)) 0 3 ((Xs c i arg1 harg1 arg2 harg2 arg3 harg3 arg4 harg4 arg5 harg5 arg6 harg6 arg7 harg7 arg8 harg8 arg9 harg9 arg10 harg10 arg11 harg11 arg12 harg12 arg17 arg18 arg19 hl1 hl2 hl3 hl4 hl5 hl6 hl7 hl8 hl9 hl10 hl12 hl19 hl20 hl21 hl22 hl23 hl24 hl25 x0 x1 x2 x3 x4 x5 x6 x7 x8 x9 x10 x11) 3) := by
    unfold kernelRun0_D
    rfl
  rw [e, xs_3]
  refine mixG_congr ?_ ?_ ?_ 4 (by omega)
  · apply ms_all
  · apply cs_all
  · apply hs_all

theorem mix_pieces : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs3).2.2.2.2.1 =
    mixL (blkOf x0 x1 x2 x3 x4 x5 x6 x7 x8 x9 x10 x11) ldZ mI ctI hI [] 0 4 := by
  rw [mix_run, ← blk_eq arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11, ← lds_eq (F := F) arg17 arg18 arg19]
  rfl

def mx (d : Fin 4) : FVec F S1x2048x128 .bf16 :=
  View.readAt (Elt F) ((arg20.slice (Rect.unit (k0_off1 i) S1x4x2048x128.size (by rw [hl0]; exact inb4 (by omega) (by omega) (by omega) (by omega))) (fun _ => rfl)).squeeze S4x2048x128
      squeezes_S1x4x2048x128_S4x2048x128).view
    (Rect.unit ![d.val, 0, 0] S1x2048x128.size (inb3 (by omega) (by omega) (by omega)) : Rect S4x2048x128).toLoadRect (harg20.unread xs3)

theorem out_run : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hl0 hl1 hl2 hl3 hl4 hl5 hl6 hl7 hl8 hl9 hl10 hl11 hl12 hl13 hl14 hl15 hl16 hl17 hl18 hl19 hl20 hl21 hl22 hl23 hl24 hl25 x0 x1 x2 x3 x4 x5 x6 x7 x8 x9 x10 x11 x12 x13 x14 xs3).1 =
    [⟨(Rect.unit ![0, 0] S512x1024.size (inb2 (by omega) (by omega)) : Rect S512x1024),
      outT (arg22.view.readCov (accL
          (fun j => View.readAt (Elt F) arg13.view (Rect.unit ![0, 256 * j.val] S512x256.size (inb2 (by omega) (by omega)) : Rect S512x1024).toLoadRect (harg13.unread x12))
          (fun j => View.readAt (Elt F) arg14.view (Rect.unit ![0, 256 * j.val] S2048x256.size (inb2 (by omega) (by omega)) : Rect S2048x1024).toLoadRect (harg14.unread x13))
          (arg21.view.readCov (mixrmL (mx i arg20 harg20 hl0 xs3)) (Rect.unit ![0, 0] S512x2048.size (inb2 (by omega) (by omega)) : Rect S512x2048).toLoadRect))
        (Rect.unit ![0, 0] S512x1024.size (inb2 (by omega) (by omega)) : Rect S512x1024).toLoadRect)
        (View.readAt (Elt F) arg15.view (Rect.unit ![0, 0] S1x1024.size (inb2 (by omega) (by omega)) : Rect S1x1024).toLoadRect (harg15.unread x14))⟩] := by
  unfold kernelRun0_D
  rfl

end Cert.KernelIdeal.CaseD

end
-- ==== Proof.Carry.lean ====
/- The carried buffers, chunk by chunk: what each load of a call reads and what the call leaves, as the recurrence of one
   chunk's step from what the buffers held before the call. -/
module

public import proofs.«01_k».proof.Proof.Pieces
public import Idealize.ShloMosaic.Lib.Pointwise
public import Idealize.ShloMosaic.Lib.Pipeline.ValueKit.Tiles

@[expose] public section

set_option maxRecDepth 16384

noncomputable section

namespace Cert.KernelIdeal.Carry

open Idealize.ShloMosaic Cert.KernelIdeal Cert.KernelIdeal.Gen Cert.KernelIdeal.Step

/-- Values kept in `K` places, place `n % K` renewed by the `n`-th store: what the places and the loads read. -/
theorem turns {α : Type} (K N : Nat) (hK : 0 < K) (rd : Nat → Fin K → α) (T : Nat → Fin K → α) (stp : Nat → Fin K → α → α) (ldv : Nat → α)
    (hT : ∀ c h, T (c + 1) h = stp c h (T c h))
    (hs : ∀ n, n < N → rd (n + 1) ⟨n % K, Nat.mod_lt _ hK⟩ = stp (n / K) ⟨n % K, Nat.mod_lt _ hK⟩ (ldv n))
    (hk : ∀ n, n < N → ∀ h : Fin K, h.val ≠ n % K → rd (n + 1) h = rd n h)
    (h0 : ∀ n, n < N → n < K → rd n = rd n → ldv n = T 0 ⟨n % K, Nat.mod_lt _ hK⟩)
    (h1 : ∀ n, n < N → K ≤ n → ldv n = rd n ⟨n % K, Nat.mod_lt _ hK⟩) :
    ∀ n, n ≤ N → (∀ h : Fin K, h.val < n → rd n h = T ((n + (K - 1) - h.val) / K) h) ∧ (n < N → ldv n = T (n / K) ⟨n % K, Nat.mod_lt _ hK⟩) := by
  have key : ∀ n, n < N → (∀ h : Fin K, h.val < n → rd n h = T ((n + (K - 1) - h.val) / K) h) → ldv n = T (n / K) ⟨n % K, Nat.mod_lt _ hK⟩ := by
    intro n hn h
    by_cases hk' : n < K
    · rw [h0 n hn hk' rfl, Nat.div_eq_of_lt hk']
    · rw [h1 n hn (by omega), h ⟨n % K, Nat.mod_lt _ hK⟩ (lt_of_lt_of_le (Nat.mod_lt _ hK) (by omega))]
      congr 1
      have e := Nat.div_add_mod n K
      have e' := Nat.mod_lt n hK
      show (n + (K - 1) - n % K) / K = n / K
      rw [show n + (K - 1) - n % K = K * (n / K) + (K - 1) by omega, Nat.mul_add_div hK, Nat.div_eq_of_lt (by omega : K - 1 < K), Nat.add_zero]
  intro n
  induction n with
  | zero => exact fun h => ⟨fun x hx => absurd hx (Nat.not_lt_zero _), fun hn => key 0 hn fun x hx => absurd hx (Nat.not_lt_zero _)⟩
  | succ n ih =>
    intro hn
    obtain ⟨ih, il⟩ := ih (by omega)
    have A : ∀ h : Fin K, h.val < n + 1 → rd (n + 1) h = T ((n + 1 + (K - 1) - h.val) / K) h := by
      intro h hh
      by_cases e : h.val = n % K
      · obtain rfl : h = ⟨n % K, Nat.mod_lt _ hK⟩ := Fin.ext e
        rw [hs n (by omega), il (by omega), ← hT]
        congr 1
        have e := Nat.div_add_mod n K
        show _ = (n + 1 + (K - 1) - n % K) / K
        rw [show n + 1 + (K - 1) - n % K = K * (n / K + 1) by rw [Nat.mul_add]; omega, Nat.mul_div_cancel_left _ hK]
      · have hlt : h.val < n := by
          rcases Nat.lt_or_ge h.val n with h' | h'
          · exact h'
          · exfalso
            have : h.val = n := by omega
            exact e (by rw [this, Nat.mod_eq_of_lt (this ▸ h.isLt)])
        rw [hk n (by omega) h e, ih h hlt]
        congr 1
        -- the number of stores to another place does not change
        have d := Nat.div_add_mod n K
        have m := Nat.mod_lt n hK
        have hKl := h.isLt
        generalize n / K = q at d
        generalize n % K = p at d m e
        subst d
        by_cases hp : h.val < p
        · rw [show K * q + p + (K - 1) - h.val = K * (q + 1) + (p - h.val - 1) by rw [Nat.mul_add]; omega,
            show K * q + p + 1 + (K - 1) - h.val = K * (q + 1) + (p - h.val) by rw [Nat.mul_add]; omega,
            Nat.mul_add_div hK, Nat.mul_add_div hK, Nat.div_eq_of_lt (by omega), Nat.div_eq_of_lt (by omega)]
        · rw [show K * q + p + (K - 1) - h.val = K * q + (p + (K - 1) - h.val) by omega,
            show K * q + p + 1 + (K - 1) - h.val = K * q + (p + 1 + (K - 1) - h.val) by omega,
            Nat.mul_add_div hK, Nat.mul_add_div hK, Nat.div_eq_of_lt (by omega), Nat.div_eq_of_lt (by omega)]
    exact ⟨A, fun hn' => key (n + 1) hn' A⟩

variable {F : FTy → Type} [FloatOps F] [Named F]

@[reducible] def c4 (n : Nat) : Fin 4 := ⟨n % 4, Nat.mod_lt _ (by decide)⟩

/-- What a carried buffer's place reads. -/
def rdM (X : Vec F S4x1x128 .f32) (h : Fin 4) : FVec F S1x1x128 .f32 := fun j => X ((r18 h).toLoadRect.idx j)
def rdC (X : Vec F S4x272x128 .f32) (h : Fin 4) : FVec F S1x272x128 .f32 := fun j => X ((r17 h).toLoadRect.idx j)
def rdH (X : Vec F S2x512x128 .f32) (g : Fin 2) : FVec F S1x512x128 .f32 := fun j => X ((r19g g).toLoadRect.idx j)

/-- The eight heads' rows of a group's state after a chunk. -/
def hAll (B : Blk F) (c : Fin 4) (g : Fin 2) (hg : FVec F S1x512x128 .f32) : FVec F S1x512x128 .f32 :=
  fun j => B.hS c g hg ⟨(j 1).val / 64, by have h : (j 1).val < 512 := (j 1).isLt; omega⟩
    (ix3 (0 : Fin 1) (⟨(j 1).val % 64, by omega⟩ : Fin 64) (j 2))

variable (B : Nat → Blk F)

/-- The stabilisers, the memories and the states before chunk `j` of a sequence whose blocks, four chunks at a time, are `B`. -/
def mT : Nat → Fin 4 → FVec F S1x1x128 .f32
  | 0 => rdM k0_pay4
  | j + 1 => fun h => (B (j / 4)).mS (c4 j) h (mT j h)
def cT : Nat → Fin 4 → FVec F S1x272x128 .f32
  | 0 => rdC k0_pay3
  | j + 1 => fun h => (B (j / 4)).ctS (c4 j) h (mT B j h) (cT j h)
def hT : Nat → Fin 2 → FVec F S1x512x128 .f32
  | 0 => rdH k0_pay5
  | j + 1 => fun g => hAll (B (j / 4)) (c4 j) g (hT j g)

/-! ### A buffer's contents after its last piece -/

section
variable {S : Shape} {e : EltTy} {off size : Fin S.rank → Nat} (inb : ∀ a, off a + size a ≤ S.size a)

theorem hit (L : List (View.Piece (Elt F) S e)) (w : (Rect.unit off size inb).shape.Idx → Elt F e) (x : (Rect.unit off size inb).shape.Idx) (y : S.Idx)
    (hy : ∀ a, (y a).val = off a + (x a).val) : View.canon ((⟨Rect.unit off size inb, w⟩ : View.Piece (Elt F) S e) :: L) y = w x := by
  rw [show y = (Rect.unit off size inb).emb x from funext fun a => Fin.ext ((hy a).trans (Rect.idx_unit_val off size inb x a).symm)]
  exact View.canon_cons_emb _ w L x

theorem miss (L : List (View.Piece (Elt F) S e)) (w : (Rect.unit off size inb).shape.Idx → Elt F e) (y : S.Idx)
    (a : Fin S.rank) (h : (y a).val < off a ∨ off a + size a ≤ (y a).val) :
    View.canon ((⟨Rect.unit off size inb, w⟩ : View.Piece (Elt F) S e) :: L) y = View.canon L y := by
  refine View.canon_cons_of_not_mem _ _ fun hm => ?_
  have := (Rect.mem_set_unit (inb := inb)).mp hm a
  omega

end

/-! ### The stabilisers and the memories -/

section
theorem idx18 (h : Fin 4) (x : S1x1x128.Idx) (a : Fin 3) : ((r18 h).toLoadRect.idx x a).val = (![h.val, 0, 0] : Fin 3 → Nat) a + (x a).val :=
  Rect.idx_unit_val (s := S4x1x128) ![h.val, 0, 0] S1x1x128.size (inb3 (by omega) (by omega) (by omega)) x a
theorem idx17 (h : Fin 4) (x : S1x272x128.Idx) (a : Fin 3) : ((r17 h).toLoadRect.idx x a).val = (![h.val, 0, 0] : Fin 3 → Nat) a + (x a).val :=
  Rect.idx_unit_val (s := S4x272x128) ![h.val, 0, 0] S1x272x128.size (inb3 (by omega) (by omega) (by omega)) x a
theorem idx19 (h : Fin 2) (x : S1x512x128.Idx) (a : Fin 3) : ((r19g h).toLoadRect.idx x a).val = (![h.val, 0, 0] : Fin 3 → Nat) a + (x a).val :=
  Rect.idx_unit_val (s := S2x512x128) ![h.val, 0, 0] S1x512x128.size (inb3 (by omega) (by omega) (by omega)) x a

variable (i : Nat) (LD : Lds F) (mi : List (View.Piece (Elt F) S4x1x128 .f32)) (ci : List (View.Piece (Elt F) S4x272x128 .f32))
  (hi : List (View.Piece (Elt F) S2x512x128 .f32))

/-- What the loads read: before a place is stored what the call starts from, then the pieces so far. -/
structure Starts : Prop where
  m0 : ∀ n, n < 4 → mAt (B i) LD mi n = mT B (4 * i) (hd4 n)
  m1 : ∀ n L h, 4 ≤ n → LD.m n L h = rdM (View.canon L) h
  c0 : ∀ n, n < 4 → ctAt (B i) LD mi ci n = cT B (4 * i) (hd4 n)
  c1 : ∀ n L h, 4 ≤ n → LD.ct n L h = rdC (View.canon L) h
  h0 : ∀ n, n < 2 → hAt (B i) LD hi n = hT B (4 * i) (gr2 n)
  h1 : ∀ n L g, 2 ≤ n → LD.h n L g = rdH (View.canon L) g

variable {B i LD mi ci hi}

theorem m_hit (X : FVec F S1x1x128 .f32) (L : List (View.Piece (Elt F) S4x1x128 .f32)) (h : Fin 4) :
    rdM (View.canon (⟨r18 h, X⟩ :: L)) h = X :=
  funext fun x => hit (S := S4x1x128) (off := ![h.val, 0, 0]) (size := S1x1x128.size) (inb3 (by omega) (by omega) (by omega)) L X x _ fun a => idx18 h x a

theorem m_miss (X : FVec F S1x1x128 .f32) (L : List (View.Piece (Elt F) S4x1x128 .f32)) (h h' : Fin 4) (hh : h'.val ≠ h.val) :
    rdM (View.canon (⟨r18 h, X⟩ :: L)) h' = rdM (View.canon L) h' := by
  funext x
  refine miss (S := S4x1x128) (off := ![h.val, 0, 0]) (size := S1x1x128.size) (inb3 (by omega) (by omega) (by omega)) L X _ 0 ?_
  have hx : (x 0).val < 1 := (x 0).isLt
  have e' : ((r18 h').toLoadRect.idx x 0).val = h'.val + (x 0).val := idx18 h' x 0
  show _ < h.val ∨ h.val + 1 ≤ _
  omega

theorem c_hit (X : FVec F S1x272x128 .f32) (L : List (View.Piece (Elt F) S4x272x128 .f32)) (h : Fin 4) :
    rdC (View.canon (⟨r17 h, X⟩ :: L)) h = X :=
  funext fun x => hit (S := S4x272x128) (off := ![h.val, 0, 0]) (size := S1x272x128.size) (inb3 (by omega) (by omega) (by omega)) L X x _ fun a => idx17 h x a

theorem c_miss (X : FVec F S1x272x128 .f32) (L : List (View.Piece (Elt F) S4x272x128 .f32)) (h h' : Fin 4) (hh : h'.val ≠ h.val) :
    rdC (View.canon (⟨r17 h, X⟩ :: L)) h' = rdC (View.canon L) h' := by
  funext x
  refine miss (S := S4x272x128) (off := ![h.val, 0, 0]) (size := S1x272x128.size) (inb3 (by omega) (by omega) (by omega)) L X _ 0 ?_
  have hx : (x 0).val < 1 := (x 0).isLt
  have e' : ((r17 h').toLoadRect.idx x 0).val = h'.val + (x 0).val := idx17 h' x 0
  show _ < h.val ∨ h.val + 1 ≤ _
  omega

theorem c4_add (n : Nat) (hn : n < 16) : c4 (4 * i + n / 4) = ch4 n := Fin.ext (by show (4 * i + n / 4) % 4 = n / 4 % 4; omega)
theorem c4_add2 (n : Nat) (hn : n < 8) : c4 (4 * i + n / 2) = ch2 n := Fin.ext (by show (4 * i + n / 2) % 4 = n / 2 % 4; omega)

theorem m_all (S : Starts B i LD mi ci hi) (n : Nat) (hn : n ≤ 16) :
    (∀ h : Fin 4, h.val < n → rdM (View.canon (mL (B i) LD mi n)) h = mT B (4 * i + (n + 3 - h.val) / 4) h) ∧
      (n < 16 → mAt (B i) LD mi n = mT B (4 * i + n / 4) (hd4 n)) := by
  refine turns 4 16 (by decide) (fun n h => rdM (View.canon (mL (B i) LD mi n)) h) (fun c h => mT B (4 * i + c) h)
    (fun c h x => (B ((4 * i + c) / 4)).mS (c4 (4 * i + c)) h x) (mAt (B i) LD mi) (fun _ _ => rfl) ?_ ?_ ?_ ?_ n hn
  · intro n hn
    beta_reduce
    rw [show (4 * i + n / 4) / 4 = i by omega, c4_add n hn]
    exact m_hit _ _ _
  · intro n hn h hh
    exact m_miss _ _ _ _ hh
  · intro n hn h _
    exact S.m0 n h
  · intro n hn h
    exact S.m1 n _ _ h

theorem c_all (S : Starts B i LD mi ci hi) (n : Nat) (hn : n ≤ 16) :
    (∀ h : Fin 4, h.val < n → rdC (View.canon (ctL (B i) LD mi ci n)) h = cT B (4 * i + (n + 3 - h.val) / 4) h) ∧
      (n < 16 → ctAt (B i) LD mi ci n = cT B (4 * i + n / 4) (hd4 n)) := by
  refine turns 4 16 (by decide) (fun n h => rdC (View.canon (ctL (B i) LD mi ci n)) h) (fun c h => cT B (4 * i + c) h)
    (fun c h x => (B ((4 * i + c) / 4)).ctS (c4 (4 * i + c)) h (mT B (4 * i + c) h) x) (ctAt (B i) LD mi ci) (fun _ _ => rfl) ?_ ?_ ?_ ?_ n hn
  · intro n hn
    beta_reduce
    rw [show (4 * i + n / 4) / 4 = i by omega, c4_add n hn, ← (m_all S n (by omega)).2 hn]
    exact c_hit _ _ _
  · intro n hn h hh
    exact c_miss _ _ _ _ hh
  · intro n hn h _
    exact S.c0 n h
  · intro n hn h
    exact S.c1 n _ _ h

/-! ### The states -/

theorem h_one (X : FVec F S1x64x128 .f32) (L : List (View.Piece (Elt F) S2x512x128 .f32)) (g : Fin 2) (r : Fin 8) (x : S1x512x128.Idx)
    (Y : FVec F S1x512x128 .f32) (hX : (x 1).val / 64 = r.val → X (ix3 (0 : Fin 1) (⟨(x 1).val % 64, by omega⟩ : Fin 64) (x 2)) = Y x)
    (hL : (x 1).val / 64 ≠ r.val → rdH (View.canon L) g x = Y x) :
    rdH (View.canon (⟨r19 g r, X⟩ :: L)) g x = Y x := by
  have hx : (x 0).val < 1 := (x 0).isLt
  have e := idx19 g x
  by_cases h : (x 1).val / 64 = r.val
  · rw [← hX h]
    refine hit (S := S2x512x128) (off := ![g.val, 64 * r.val, 0]) (size := S1x64x128.size) (inb3 (by omega) (by omega) (by omega)) L X (ix3 (0 : Fin 1) (⟨(x 1).val % 64, by omega⟩ : Fin 64) (x 2) : S1x64x128.Idx) _ fun a => (e a).trans ?_
    match a with
    | ⟨0, _⟩ => show g.val + (x 0).val = g.val + 0; omega
    | ⟨1, _⟩ => show 0 + (x 1).val = 64 * r.val + (x 1).val % 64; omega
    | ⟨2, _⟩ => rfl
  · rw [← hL h]
    refine miss (S := S2x512x128) (off := ![g.val, 64 * r.val, 0]) (size := S1x64x128.size) (inb3 (by omega) (by omega) (by omega)) L X _ 1 ?_
    have e1 : ((r19g g).toLoadRect.idx x 1).val = 0 + (x 1).val := e 1
    show _ < 64 * r.val ∨ 64 * r.val + 64 ≤ _
    omega

theorem h_hit (st : Fin 4 → Fin 2 → FVec F S1x512x128 .f32 → Fin 8 → FVec F S1x64x128 .f32) (n : Nat) (hg : FVec F S1x512x128 .f32)
    (L : List (View.Piece (Elt F) S2x512x128 .f32)) :
    rdH (View.canon (hStep st n hg L)) (gr2 n) = fun j => st (ch2 n) (gr2 n) hg ⟨(j 1).val / 64, by have h : (j 1).val < 512 := (j 1).isLt; omega⟩
      (ix3 (0 : Fin 1) (⟨(j 1).val % 64, by omega⟩ : Fin 64) (j 2)) := by
  generalize hY : (fun j : S1x512x128.Idx => st (ch2 n) (gr2 n) hg ⟨(j 1).val / 64, by have h : (j 1).val < 512 := (j 1).isLt; omega⟩
      (ix3 (0 : Fin 1) (⟨(j 1).val % 64, by omega⟩ : Fin 64) (j 2))) = Y
  funext x
  have hx : (x 1).val < 512 := (x 1).isLt
  unfold hStep
  refine h_one (F := F) _ _ _ 7 x Y (fun h => ?_) fun h7 => ?_
  · rw [← hY]; simp only [h]
  refine h_one (F := F) _ _ _ 6 x Y (fun h => ?_) fun h6 => ?_
  · rw [← hY]; simp only [h]
  refine h_one (F := F) _ _ _ 5 x Y (fun h => ?_) fun h5 => ?_
  · rw [← hY]; simp only [h]
  refine h_one (F := F) _ _ _ 4 x Y (fun h => ?_) fun h4 => ?_
  · rw [← hY]; simp only [h]
  refine h_one (F := F) _ _ _ 3 x Y (fun h => ?_) fun h3 => ?_
  · rw [← hY]; simp only [h]
  refine h_one (F := F) _ _ _ 2 x Y (fun h => ?_) fun h2 => ?_
  · rw [← hY]; simp only [h]
  refine h_one (F := F) _ _ _ 1 x Y (fun h => ?_) fun h1 => ?_
  · rw [← hY]; simp only [h]
  refine h_one (F := F) _ _ _ 0 x Y (fun h => ?_) fun h0 => ?_
  · rw [← hY]; simp only [h]
  exfalso
  change (x 1).val / 64 ≠ 7 at h7
  change (x 1).val / 64 ≠ 6 at h6
  change (x 1).val / 64 ≠ 5 at h5
  change (x 1).val / 64 ≠ 4 at h4
  change (x 1).val / 64 ≠ 3 at h3
  change (x 1).val / 64 ≠ 2 at h2
  change (x 1).val / 64 ≠ 1 at h1
  change (x 1).val / 64 ≠ 0 at h0
  omega

theorem h_miss1 (X : FVec F S1x64x128 .f32) (L : List (View.Piece (Elt F) S2x512x128 .f32)) (g g' : Fin 2) (r : Fin 8) (hh : g'.val ≠ g.val) :
    rdH (View.canon (⟨r19 g r, X⟩ :: L)) g' = rdH (View.canon L) g' := by
  funext x
  refine miss (S := S2x512x128) (off := ![g.val, 64 * r.val, 0]) (size := S1x64x128.size) (inb3 (by omega) (by omega) (by omega)) L X _ 0 ?_
  have hx : (x 0).val < 1 := (x 0).isLt
  have e' : ((r19g g').toLoadRect.idx x 0).val = g'.val + (x 0).val := idx19 g' x 0
  show _ < g.val ∨ g.val + 1 ≤ _
  omega

theorem h_miss (st : Fin 4 → Fin 2 → FVec F S1x512x128 .f32 → Fin 8 → FVec F S1x64x128 .f32) (n : Nat) (hg : FVec F S1x512x128 .f32)
    (L : List (View.Piece (Elt F) S2x512x128 .f32)) (g : Fin 2) (hh : g.val ≠ n % 2) :
    rdH (View.canon (hStep st n hg L)) g = rdH (View.canon L) g := by
  unfold hStep
  rw [h_miss1 _ _ _ _ _ hh, h_miss1 _ _ _ _ _ hh, h_miss1 _ _ _ _ _ hh, h_miss1 _ _ _ _ _ hh, h_miss1 _ _ _ _ _ hh, h_miss1 _ _ _ _ _ hh,
    h_miss1 _ _ _ _ _ hh, h_miss1 _ _ _ _ _ hh]

theorem h_all (S : Starts B i LD mi ci hi) (n : Nat) (hn : n ≤ 8) :
    (∀ g : Fin 2, g.val < n → rdH (View.canon (hL (B i) LD hi n)) g = hT B (4 * i + (n + 1 - g.val) / 2) g) ∧
      (n < 8 → hAt (B i) LD hi n = hT B (4 * i + n / 2) (gr2 n)) := by
  refine turns 2 8 (by decide) (fun n g => rdH (View.canon (hL (B i) LD hi n)) g) (fun c g => hT B (4 * i + c) g)
    (fun c g x => hAll (B ((4 * i + c) / 4)) (c4 (4 * i + c)) g x) (hAt (B i) LD hi) (fun _ _ => rfl) ?_ ?_ ?_ ?_ n hn
  · intro n hn
    beta_reduce
    rw [show (4 * i + n / 2) / 4 = i by omega, c4_add2 n hn]
    exact h_hit _ _ _ _
  · intro n hn g hg
    exact h_miss _ _ _ _ _ hg
  · intro n hn h _
    exact S.h0 n h
  · intro n hn h
    exact S.h1 n _ _ h

theorem m_end (S : Starts B i LD mi ci hi) (h : Fin 4) : rdM (View.canon (mL (B i) LD mi 16)) h = mT B (4 * (i + 1)) h := by
  rw [(m_all S 16 le_rfl).1 h (by omega), show 4 * i + (16 + 3 - h.val) / 4 = 4 * (i + 1) by omega]
theorem c_end (S : Starts B i LD mi ci hi) (h : Fin 4) : rdC (View.canon (ctL (B i) LD mi ci 16)) h = cT B (4 * (i + 1)) h := by
  rw [(c_all S 16 le_rfl).1 h (by omega), show 4 * i + (16 + 3 - h.val) / 4 = 4 * (i + 1) by omega]
theorem h_end (S : Starts B i LD mi ci hi) (g : Fin 2) : rdH (View.canon (hL (B i) LD hi 8)) g = hT B (4 * (i + 1)) g := by
  rw [(h_all S 8 le_rfl).1 g (by omega), show 4 * i + (8 + 1 - g.val) / 2 = 4 * (i + 1) by omega]

/-! ### Where a call starts -/

/-- From what the call before left. -/
theorem starts_keep (xs0 : Vec F S4x272x128 .f32) (xs1 : Vec F S4x1x128 .f32) (xs2 : Vec F S2x512x128 .f32)
    (hm : ∀ h, rdM xs1 h = mT B (4 * i) h) (hc : ∀ h, rdC xs0 h = cT B (4 * i) h) (hh : ∀ g, rdH xs2 g = hT B (4 * i) g) :
    Starts B i (ldK xs0 xs1 xs2) mi ci hi where
  m0 n hn := (if_pos hn).trans (hm _)
  m1 n L h hn := if_neg (by omega)
  c0 n hn := (if_pos hn).trans (hc _)
  c1 n L h hn := if_neg (by omega)
  h0 n hn := (if_pos hn).trans (hh _)
  h1 n L h hn := if_neg (by omega)

theorem zero_hit {S : Shape} {e : EltTy} {off : Fin S.rank → Nat} (h0 : ∀ a, off a = 0) (inb : ∀ a, off a + S.size a ≤ S.size a)
    (w : Vec F S e) (y : S.Idx) : View.canon [(⟨Rect.unit off S.size inb, w⟩ : View.Piece (Elt F) S e)] y = w y :=
  hit inb [] w y y fun a => by rw [h0]; exact (Nat.zero_add _).symm

/-- From zero. -/
theorem starts_zero : Starts B 0 (ldZ : Lds F) mI ctI hI where
  m1 _ _ _ _ := rfl
  c1 _ _ _ _ := rfl
  h1 _ _ _ _ := rfl
  m0 n hn := by
    have H : ∀ h : Fin 4, rdM (View.canon (mI : List (View.Piece (Elt F) S4x1x128 .f32))) h = rdM k0_pay4 h := fun h =>
      funext fun x => zero_hit (S := S4x1x128) (e := .f32) (off := ![0, 0, 0]) (by decide) (inb3 (by omega) (by omega) (by omega)) k0_pay4 _
    have K : ∀ n, ∀ h : Fin 4, n ≤ h.val → rdM (View.canon (mL (B 0) (ldZ : Lds F) mI n)) h = rdM k0_pay4 h := by
      intro n
      induction n with
      | zero => exact fun h _ => H h
      | succ n ih => exact fun h hh => (m_miss _ _ _ _ (by show h.val ≠ n % 4; omega)).trans (ih h (by omega))
    exact K n _ (by show n ≤ n % 4; omega)
  c0 n hn := by
    have H : ∀ h : Fin 4, rdC (View.canon (ctI : List (View.Piece (Elt F) S4x272x128 .f32))) h = rdC k0_pay3 h := fun h =>
      funext fun x => zero_hit (S := S4x272x128) (e := .f32) (off := ![0, 0, 0]) (by decide) (inb3 (by omega) (by omega) (by omega)) k0_pay3 _
    have K : ∀ n, ∀ h : Fin 4, n ≤ h.val → rdC (View.canon (ctL (B 0) (ldZ : Lds F) mI ctI n)) h = rdC k0_pay3 h := by
      intro n
      induction n with
      | zero => exact fun h _ => H h
      | succ n ih => exact fun h hh => (c_miss _ _ _ _ (by show h.val ≠ n % 4; omega)).trans (ih h (by omega))
    exact K n _ (by show n ≤ n % 4; omega)
  h0 n hn := by
    have H : ∀ g : Fin 2, rdH (View.canon (hI : List (View.Piece (Elt F) S2x512x128 .f32))) g = rdH k0_pay5 g := fun g =>
      funext fun x => zero_hit (S := S2x512x128) (e := .f32) (off := ![0, 0, 0]) (by decide) (inb3 (by omega) (by omega) (by omega)) k0_pay5 _
    have K : ∀ n, ∀ g : Fin 2, n ≤ g.val → rdH (View.canon (hL (B 0) (ldZ : Lds F) hI n)) g = rdH k0_pay5 g := by
      intro n
      induction n with
      | zero => exact fun g _ => H g
      | succ n ih => exact fun g hh => (h_miss _ _ _ _ _ (by show g.val ≠ n % 2; omega)).trans (ih g (by omega))
    exact K n _ (by show n ≤ n % 2; omega)

end

/-! ### The heads' outputs -/

section
variable (oM : Fin 4 → Fin 4 → FVec F S1x1x128 .f32 → FVec F S1x272x128 .f32 → FVec F S1x1x256x128 .bf16)
  (oS : Fin 4 → Fin 2 → FVec F S1x512x128 .f32 → FVec F S1x1x512x128 .bf16)
  (mA : Nat → FVec F S1x1x128 .f32) (cA : Nat → FVec F S1x272x128 .f32) (hA : Nat → FVec F S1x512x128 .f32)
  (xi : List (View.Piece (Elt F) S2x4x2048x128 .bf16)) (s : Fin 2)

theorem x_hitM (X : FVec F S1x1x256x128 .bf16) (L : List (View.Piece (Elt F) S2x4x2048x128 .bf16)) (c h : Fin 4) (r : Fin 256) (l : Fin 128)
    (d : Fin 2048) (hd : d.val = 256 * h.val + r.val) :
    View.canon (⟨rMixM s c h, X⟩ :: L) (ix4 s c d l) = X (ix4 (0 : Fin 1) (0 : Fin 1) r l) := by
  refine hit (S := S2x4x2048x128) (off := ![s.val, c.val, 256 * h.val, 0]) (size := S1x1x256x128.size) (inb4 (by omega) (by omega) (by omega) (by omega)) L X (ix4 (0 : Fin 1) (0 : Fin 1) r l : S1x1x256x128.Idx) _ fun a => ?_
  match a with
  | ⟨0, _⟩ => rfl
  | ⟨1, _⟩ => rfl
  | ⟨2, _⟩ => exact hd
  | ⟨3, _⟩ => show l.val = 0 + l.val; omega

theorem x_hitS (X : FVec F S1x1x512x128 .bf16) (L : List (View.Piece (Elt F) S2x4x2048x128 .bf16)) (c : Fin 4) (g : Fin 2) (r : Fin 512) (l : Fin 128)
    (d : Fin 2048) (hd : d.val = 1024 + 512 * g.val + r.val) :
    View.canon (⟨rMixS s c g, X⟩ :: L) (ix4 s c d l) = X (ix4 (0 : Fin 1) (0 : Fin 1) r l) := by
  refine hit (S := S2x4x2048x128) (off := ![s.val, c.val, 1024 + 512 * g.val, 0]) (size := S1x1x512x128.size) (inb4 (by omega) (by omega) (by omega) (by omega)) L X (ix4 (0 : Fin 1) (0 : Fin 1) r l : S1x1x512x128.Idx) _ fun a => ?_
  match a with
  | ⟨0, _⟩ => rfl
  | ⟨1, _⟩ => rfl
  | ⟨2, _⟩ => exact hd
  | ⟨3, _⟩ => show l.val = 0 + l.val; omega

theorem x_missM (X : FVec F S1x1x256x128 .bf16) (L : List (View.Piece (Elt F) S2x4x2048x128 .bf16)) (c h c' : Fin 4) (l : Fin 128)
    (d : Fin 2048) (hd : c'.val ≠ c.val ∨ d.val < 256 * h.val ∨ 256 * h.val + 256 ≤ d.val) :
    View.canon (⟨rMixM s c h, X⟩ :: L) (ix4 s c' d l) = View.canon L (ix4 s c' d l) := by
  rcases hd with hd | hd
  · refine miss (S := S2x4x2048x128) (off := ![s.val, c.val, 256 * h.val, 0]) (size := S1x1x256x128.size) (inb4 (by omega) (by omega) (by omega) (by omega)) L X _ 1 ?_
    show c'.val < c.val ∨ c.val + 1 ≤ c'.val
    omega
  · refine miss (S := S2x4x2048x128) (off := ![s.val, c.val, 256 * h.val, 0]) (size := S1x1x256x128.size) (inb4 (by omega) (by omega) (by omega) (by omega)) L X _ 2 ?_
    exact hd

theorem x_missS (X : FVec F S1x1x512x128 .bf16) (L : List (View.Piece (Elt F) S2x4x2048x128 .bf16)) (c c' : Fin 4) (g : Fin 2) (l : Fin 128)
    (d : Fin 2048) (hd : c'.val ≠ c.val ∨ d.val < 1024 + 512 * g.val ∨ 1024 + 512 * g.val + 512 ≤ d.val) :
    View.canon (⟨rMixS s c g, X⟩ :: L) (ix4 s c' d l) = View.canon L (ix4 s c' d l) := by
  rcases hd with hd | hd
  · refine miss (S := S2x4x2048x128) (off := ![s.val, c.val, 1024 + 512 * g.val, 0]) (size := S1x1x512x128.size) (inb4 (by omega) (by omega) (by omega) (by omega)) L X _ 1 ?_
    show c'.val < c.val ∨ c.val + 1 ≤ c'.val
    omega
  · refine miss (S := S2x4x2048x128) (off := ![s.val, c.val, 1024 + 512 * g.val, 0]) (size := S1x1x512x128.size) (inb4 (by omega) (by omega) (by omega) (by omega)) L X _ 2 ?_
    exact hd

theorem mix_skip (n : Nat) (L : List (View.Piece (Elt F) S2x4x2048x128 .bf16)) (c : Fin 4) (d : Fin 2048) (l : Fin 128) (hc : c.val ≠ (ch4 (4 * n)).val) :
    View.canon (mixStep oM oS mA cA hA s n L) (ix4 s c d l) = View.canon L (ix4 s c d l) := by
  unfold mixStep
  rw [x_missS _ _ _ _ _ _ _ _ (.inl hc), x_missM _ _ _ _ _ _ _ _ (.inl hc), x_missS _ _ _ _ _ _ _ _ (.inl hc), x_missM _ _ _ _ _ _ _ _ (.inl hc),
    x_missM _ _ _ _ _ _ _ _ (.inl hc), x_missM _ _ _ _ _ _ _ _ (.inl hc)]

theorem mix_M (c h : Fin 4) (r : Fin 256) (l : Fin 128) (d : Fin 2048) (hd : d.val = 256 * h.val + r.val) :
    ∀ N, N ≤ 4 → c.val < N → View.canon (mixG oM oS mA cA hA xi s N) (ix4 s c d l) =
      oM c h (mA (4 * c.val + h.val)) (cA (4 * c.val + h.val)) (ix4 (0 : Fin 1) (0 : Fin 1) r l) := by
  intro N
  induction N with
  | zero => exact fun _ h => absurd h (Nat.not_lt_zero _)
  | succ N ih =>
    intro hN hc
    by_cases e : c.val = N
    · subst e
      have ec : ch4 (4 * c.val) = c := Fin.ext (by show 4 * c.val / 4 % 4 = c.val; omega)
      have hr := r.isLt
      show View.canon (mixStep oM oS mA cA hA s c.val _) _ = _
      unfold mixStep
      rw [ec]
      match h with
      | ⟨3, _⟩ =>
        change d.val = 256 * 3 + r.val at hd
        rw [x_missS _ _ _ _ _ _ _ _ (.inr (.inl (by show d.val < 1024 + 512 * 1; omega)))]
        exact x_hitM _ _ _ _ _ _ _ _ hd
      | ⟨2, _⟩ =>
        change d.val = 256 * 2 + r.val at hd
        rw [x_missS _ _ _ _ _ _ _ _ (.inr (.inl (by show d.val < 1024 + 512 * 1; omega))), x_missM _ _ _ _ _ _ _ _ (.inr (.inl (by show d.val < 256 * 3; omega))),
          x_missS _ _ _ _ _ _ _ _ (.inr (.inl (by show d.val < 1024 + 512 * 0; omega)))]
        exact x_hitM _ _ _ _ _ _ _ _ hd
      | ⟨1, _⟩ =>
        change d.val = 256 * 1 + r.val at hd
        rw [x_missS _ _ _ _ _ _ _ _ (.inr (.inl (by show d.val < 1024 + 512 * 1; omega))), x_missM _ _ _ _ _ _ _ _ (.inr (.inl (by show d.val < 256 * 3; omega))),
          x_missS _ _ _ _ _ _ _ _ (.inr (.inl (by show d.val < 1024 + 512 * 0; omega))), x_missM _ _ _ _ _ _ _ _ (.inr (.inl (by show d.val < 256 * 2; omega)))]
        exact x_hitM _ _ _ _ _ _ _ _ hd
      | ⟨0, _⟩ =>
        change d.val = 256 * 0 + r.val at hd
        rw [x_missS _ _ _ _ _ _ _ _ (.inr (.inl (by show d.val < 1024 + 512 * 1; omega))), x_missM _ _ _ _ _ _ _ _ (.inr (.inl (by show d.val < 256 * 3; omega))),
          x_missS _ _ _ _ _ _ _ _ (.inr (.inl (by show d.val < 1024 + 512 * 0; omega))), x_missM _ _ _ _ _ _ _ _ (.inr (.inl (by show d.val < 256 * 2; omega))),
          x_missM _ _ _ _ _ _ _ _ (.inr (.inl (by show d.val < 256 * 1; omega)))]
        exact x_hitM _ _ _ _ _ _ _ _ hd
    · exact (mix_skip oM oS mA cA hA s N _ c d l (by show c.val ≠ 4 * N / 4 % 4; omega)).trans (ih (by omega) (by omega))

theorem mix_S (c : Fin 4) (g : Fin 2) (r : Fin 512) (l : Fin 128) (d : Fin 2048) (hd : d.val = 1024 + 512 * g.val + r.val) :
    ∀ N, N ≤ 4 → c.val < N → View.canon (mixG oM oS mA cA hA xi s N) (ix4 s c d l) =
      oS c g (hA (2 * c.val + g.val)) (ix4 (0 : Fin 1) (0 : Fin 1) r l) := by
  intro N
  induction N with
  | zero => exact fun _ h => absurd h (Nat.not_lt_zero _)
  | succ N ih =>
    intro hN hc
    by_cases e : c.val = N
    · subst e
      have ec : ch4 (4 * c.val) = c := Fin.ext (by show 4 * c.val / 4 % 4 = c.val; omega)
      have hr := r.isLt
      show View.canon (mixStep oM oS mA cA hA s c.val _) _ = _
      unfold mixStep
      rw [ec]
      match g with
      | ⟨1, _⟩ => exact x_hitS _ _ _ _ _ _ _ _ hd
      | ⟨0, _⟩ =>
        change d.val = 1024 + 512 * 0 + r.val at hd
        rw [x_missS _ _ _ _ _ _ _ _ (.inr (.inl (by show d.val < 1024 + 512 * 1; omega))),
          x_missM _ _ _ _ _ _ _ _ (.inr (.inr (by show 256 * 3 + 256 ≤ d.val; omega)))]
        exact x_hitS _ _ _ _ _ _ _ _ hd
    · exact (mix_skip oM oS mA cA hA s N _ c d l (by show c.val ≠ 4 * N / 4 % 4; omega)).trans (ih (by omega) (by omega))

/-- The pieces cover the slot they fill. -/
theorem mix_cover (c : Fin 4) (d : Fin 2048) (l : Fin 128) : ∀ N, N ≤ 4 → c.val < N →
    ∃ p ∈ mixG oM oS mA cA hA xi s N, (ix4 s c d l : S2x4x2048x128.Idx) ∈ p.1.set := by
  intro N
  induction N with
  | zero => exact fun _ h => absurd h (Nat.not_lt_zero _)
  | succ N ih =>
    intro hN hc
    by_cases e : c.val = N
    · subst e
      have ec : ch4 (4 * c.val) = c := Fin.ext (by show 4 * c.val / 4 % 4 = c.val; omega)
      have hd := d.isLt
      have M : ∀ h : Fin 4, 256 * h.val ≤ d.val → d.val < 256 * h.val + 256 → (ix4 s c d l : S2x4x2048x128.Idx) ∈ (rMixM s c h).set := by
        intro h h1 h2
        refine Rect.mem_set_unit.mpr fun a => ?_
        match a with
        | ⟨0, _⟩ => exact ⟨le_rfl, Nat.lt_succ_self _⟩
        | ⟨1, _⟩ => exact ⟨le_rfl, Nat.lt_succ_self _⟩
        | ⟨2, _⟩ => exact ⟨h1, h2⟩
        | ⟨3, _⟩ => exact ⟨Nat.zero_le _, by show l.val < 0 + 128; omega⟩
      have T : ∀ g : Fin 2, 1024 + 512 * g.val ≤ d.val → d.val < 1024 + 512 * g.val + 512 → (ix4 s c d l : S2x4x2048x128.Idx) ∈ (rMixS s c g).set := by
        intro h h1 h2
        refine Rect.mem_set_unit.mpr fun a => ?_
        match a with
        | ⟨0, _⟩ => exact ⟨le_rfl, Nat.lt_succ_self _⟩
        | ⟨1, _⟩ => exact ⟨le_rfl, Nat.lt_succ_self _⟩
        | ⟨2, _⟩ => exact ⟨h1, h2⟩
        | ⟨3, _⟩ => exact ⟨Nat.zero_le _, by show l.val < 0 + 128; omega⟩
      show ∃ p ∈ mixStep oM oS mA cA hA s c.val _, _
      unfold mixStep
      rw [ec]
      rcases Nat.lt_or_ge d.val 1024 with h | h
      · rcases (by omega : d.val / 256 = 0 ∨ d.val / 256 = 1 ∨ d.val / 256 = 2 ∨ d.val / 256 = 3) with e | e | e | e
        · exact ⟨_, .tail _ (.tail _ (.tail _ (.tail _ (.tail _ (.head _))))), M 0 (by show 256 * 0 ≤ _; omega) (by show _ < 256 * 0 + 256; omega)⟩
        · exact ⟨_, .tail _ (.tail _ (.tail _ (.tail _ (.head _)))), M 1 (by show 256 * 1 ≤ _; omega) (by show _ < 256 * 1 + 256; omega)⟩
        · exact ⟨_, .tail _ (.tail _ (.tail _ (.head _))), M 2 (by show 256 * 2 ≤ _; omega) (by show _ < 256 * 2 + 256; omega)⟩
        · exact ⟨_, .tail _ (.head _), M 3 (by show 256 * 3 ≤ _; omega) (by show _ < 256 * 3 + 256; omega)⟩
      · rcases Nat.lt_or_ge d.val 1536 with h' | h'
        · exact ⟨_, .tail _ (.tail _ (.head _)), T 0 (by show 1024 + 512 * 0 ≤ _; omega) (by show _ < 1024 + 512 * 0 + 512; omega)⟩
        · exact ⟨_, .head _, T 1 (by show 1024 + 512 * 1 ≤ _; omega) (by show _ < 1024 + 512 * 1 + 512; omega)⟩
    · obtain ⟨p, hp, hy⟩ := ih (by omega) (by omega)
      refine ⟨p, ?_, hy⟩
      show p ∈ mixStep oM oS mA cA hA s N _
      unfold mixStep
      exact .tail _ (.tail _ (.tail _ (.tail _ (.tail _ (.tail _ hp)))))

end

end Cert.KernelIdeal.Carry

end
-- ==== Proof.MixOuts.lean ====
/- What each point of the grid leaves: the carried buffers, the mixed rows and the projected tile. -/
module

public import proofs.«01_k».proof.Proof.CaseA
public import proofs.«01_k».proof.Proof.CaseB
public import proofs.«01_k».proof.Proof.CaseC
public import proofs.«01_k».proof.Proof.CaseD
public import proofs.«01_k».proof.Proof.Carry
public import proofs.«01_k».proof.Proof.Gen.KernelIdeal.Value
public import Idealize.ShloMosaic.Lib.WholeRead

@[expose] public section

set_option maxRecDepth 16384

noncomputable section

namespace Cert.KernelIdeal.MixOuts

open Idealize.ShloMosaic Idealize.ShloMosaic.TcCoe Idealize.SL.Sem Cert.KernelIdeal Cert.KernelIdeal.Gen Cert.KernelIdeal.Step Cert.KernelIdeal.Carry

variable {F : FTy → Type} [FloatOps F] [Named F] (m : (ℓ : Loc nD τ sig) → Buf (Elt F) ℓ) (c : Dev nD)

/-- The blocks of a point. -/
def Bt (t : Fin cfg0.N) : Blk F :=
  blkOf (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t)

/-- The blocks of a sequence, call after call. -/
def Bs (b i : Nat) : Blk F := Bt m c ⟨(16 * b + i) % 65, lt_of_lt_of_eq (Nat.mod_lt _ (by decide)) N_0.symm⟩

/-- What a point leaves, of the loads it starts with. -/
def Leaves (B : Nat → Blk F) (i s : Nat) (o : Vec F S512x1024 .f32 × Vec F S4x272x128 .f32 × Vec F S4x1x128 .f32 × Vec F S2x512x128 .f32 × Vec F S2x4x2048x128 .bf16) : Prop :=
  ∃ LD mi ci hi xi, Starts B i LD mi ci hi ∧ o.2.2.1 = View.canon (mL (B i) LD mi 16) ∧ o.2.1 = View.canon (ctL (B i) LD mi ci 16) ∧
    o.2.2.2.1 = View.canon (hL (B i) LD hi 8) ∧
    ∀ (sl : Fin 2), sl.val = s → ∀ (cc : Fin 4) (d : Fin 2048) (l : Fin 128),
      o.2.2.2.2 (ix4 sl cc d l) = View.canon (mixL (B i) LD mi ci hi xi sl 4) (ix4 sl cc d l)

theorem leaves (t : Fin cfg0.N) (B : Nat → Blk F) (i : Nat) (hB : B i = Bt m c t) (hi : t.val % 16 = i)
    (hprev : i ≠ 0 → (∀ h, rdM (outsAt0 m c (t.val - 1) (lt_of_le_of_lt (Nat.sub_le _ _) t.isLt)).2.2.1 h = mT B (4 * i) h) ∧
      (∀ h, rdC (outsAt0 m c (t.val - 1) (lt_of_le_of_lt (Nat.sub_le _ _) t.isLt)).2.1 h = cT B (4 * i) h) ∧
      (∀ h, rdH (outsAt0 m c (t.val - 1) (lt_of_le_of_lt (Nat.sub_le _ _) t.isLt)).2.2.2.1 h = hT B (4 * i) h)) :
    Leaves B i (t.val % 2) (outsAt0 m c t.val t.isLt) := by
  by_cases h0 : t.val % 65 = 0
  · have ht : t.val < 65 := lt_of_lt_of_eq t.isLt N_0
    obtain rfl : 0 = i := by omega
    refine ⟨ldZ, mI, ctI, hI, [⟨Rect.unit ![0, 0, 0, 0] S2x4x2048x128.size (inb4 (by omega) (by omega) (by omega) (by omega)), k0_pay2⟩], starts_zero, ?_, ?_, ?_, ?_⟩
    · rw [outsAt0_A m c t h0 (by omega), hB]
      dsimp only
      exact (View.read_writes_junk_eq_canon _ _).trans (congrArg View.canon (CaseA.m_pieces ..))
    · rw [outsAt0_A m c t h0 (by omega), hB]
      dsimp only
      exact (View.read_writes_junk_eq_canon _ _).trans (congrArg View.canon (CaseA.ct_pieces ..))
    · rw [outsAt0_A m c t h0 (by omega), hB]
      dsimp only
      exact (View.read_writes_junk_eq_canon _ _).trans (congrArg View.canon (CaseA.h_pieces ..))
    · intro sl hs cc d l
      obtain rfl : sl = 0 := Fin.ext (by rw [hs]; show t.val % 2 = 0; omega)
      rw [outsAt0_A m c t h0 (by omega), hB]
      dsimp only
      exact congrFun ((View.read_writes_junk_eq_canon _ _).trans (congrArg View.canon (CaseA.mix_pieces ..))) _
  · by_cases h1 : t.val % 16 = 0
    · obtain rfl : 0 = i := by omega
      refine ⟨ldZ, mI, ctI, hI, [], starts_zero, ?_, ?_, ?_, ?_⟩
      · rw [outsAt0_D m c t h0 h1, hB]
        dsimp only
        exact (View.read_writes_junk_eq_canon _ _).trans (congrArg View.canon (CaseD.m_pieces ..))
      · rw [outsAt0_D m c t h0 h1, hB]
        dsimp only
        exact (View.read_writes_junk_eq_canon _ _).trans (congrArg View.canon (CaseD.ct_pieces ..))
      · rw [outsAt0_D m c t h0 h1, hB]
        dsimp only
        exact (View.read_writes_junk_eq_canon _ _).trans (congrArg View.canon (CaseD.h_pieces ..))
      · intro sl hs cc d l
        obtain rfl : sl = 0 := Fin.ext (by rw [hs]; show t.val % 2 = 0; omega)
        rw [outsAt0_D m c t h0 h1, hB]
        dsimp only
        refine (View.read_writes_apply_eq_canon _ _ _ _ ?_).trans (congrFun (congrArg View.canon (CaseD.mix_pieces ..)) _)
        rw [CaseD.mix_pieces]
        exact mix_cover (c := cc) (d := d) (l := l) (N := 4) _ _ _ _ _ _ _ le_rfl cc.isLt
    · obtain ⟨hm, hc, hh⟩ := hprev (by omega)
      by_cases h2 : t.val % 2 = 1
      · refine ⟨_, [], [], [], [], starts_keep _ _ _ hm hc hh, ?_, ?_, ?_, ?_⟩
        · rw [outsAt0_B m c t h0 h1 h2, hB]
          dsimp only
          exact (View.read_writes_junk_eq_canon _ _).trans (congrArg View.canon (CaseB.m_pieces ..))
        · rw [outsAt0_B m c t h0 h1 h2, hB]
          dsimp only
          exact (View.read_writes_junk_eq_canon _ _).trans (congrArg View.canon (CaseB.ct_pieces ..))
        · rw [outsAt0_B m c t h0 h1 h2, hB]
          dsimp only
          exact (View.read_writes_junk_eq_canon _ _).trans (congrArg View.canon (CaseB.h_pieces ..))
        · intro sl hs cc d l
          obtain rfl : sl = 1 := Fin.ext (by rw [hs]; exact h2)
          rw [outsAt0_B m c t h0 h1 h2, hB]
          dsimp only
          refine (View.read_writes_apply_eq_canon _ _ _ _ ?_).trans (congrFun (congrArg View.canon (CaseB.mix_pieces ..)) _)
          rw [CaseB.mix_pieces]
          exact mix_cover (c := cc) (d := d) (l := l) (N := 4) _ _ _ _ _ _ _ le_rfl cc.isLt
      · refine ⟨_, [], [], [], [], starts_keep _ _ _ hm hc hh, ?_, ?_, ?_, ?_⟩
        · rw [outsAt0_C m c t h0 h1 h2, hB]
          dsimp only
          exact (View.read_writes_junk_eq_canon _ _).trans (congrArg View.canon (CaseC.m_pieces ..))
        · rw [outsAt0_C m c t h0 h1 h2, hB]
          dsimp only
          exact (View.read_writes_junk_eq_canon _ _).trans (congrArg View.canon (CaseC.ct_pieces ..))
        · rw [outsAt0_C m c t h0 h1 h2, hB]
          dsimp only
          exact (View.read_writes_junk_eq_canon _ _).trans (congrArg View.canon (CaseC.h_pieces ..))
        · intro sl hs cc d l
          obtain rfl : sl = 0 := Fin.ext (by rw [hs]; show t.val % 2 = 0; omega)
          rw [outsAt0_C m c t h0 h1 h2, hB]
          dsimp only
          refine (View.read_writes_apply_eq_canon _ _ _ _ ?_).trans (congrFun (congrArg View.canon (CaseC.mix_pieces ..)) _)
          rw [CaseC.mix_pieces]
          exact mix_cover (c := cc) (d := d) (l := l) (N := 4) _ _ _ _ _ _ _ le_rfl cc.isLt

theorem leaves_seq (b : Nat) (hb : b < 4) : ∀ i (hi : i < 16), Leaves (Bs m c b) i ((16 * b + i) % 2)
    (outsAt0 m c (16 * b + i) (lt_of_lt_of_eq (show 16 * b + i < 65 by omega) N_0.symm)) := by
  intro i
  induction i with
  | zero =>
    intro hi
    exact leaves m c ⟨16 * b + 0, lt_of_lt_of_eq (show 16 * b + 0 < 65 by omega) N_0.symm⟩ (Bs m c b) 0
      (congrArg (Bt m c) (Fin.ext (Nat.mod_eq_of_lt (by omega)))) (by show (16 * b + 0) % 16 = 0; omega) fun h => absurd rfl h
  | succ i ih =>
    intro hi
    obtain ⟨LD, mi, ci, hi', xi, S, e1, e2, e3, -⟩ := ih (by omega)
    refine leaves m c ⟨16 * b + (i + 1), lt_of_lt_of_eq (show 16 * b + (i + 1) < 65 by omega) N_0.symm⟩ (Bs m c b) (i + 1)
      (congrArg (Bt m c) (Fin.ext (Nat.mod_eq_of_lt (by omega)))) (by show (16 * b + (i + 1)) % 16 = i + 1; omega) fun _ => ⟨fun h => ?_, fun h => ?_, fun h => ?_⟩
    · exact (congrArg (rdM · h) e1).trans (m_end S h)
    · exact (congrArg (rdC · h) e2).trans (c_end S h)
    · exact (congrArg (rdH · h) e3).trans (h_end S h)

/-- The mixed rows of the matrix memory's heads. -/
theorem mix_at_M (b i : Nat) (hb : b < 4) (hi : i < 16) (n : Nat) (hn : n = 16 * b + i) (hn' : n < cfg0.N) (sl : Fin 2) (hs : sl.val = n % 2) (cc h : Fin 4)
    (r : Fin 256) (l : Fin 128) (d : Fin 2048) (hd : d.val = 256 * h.val + r.val) :
    (outsAt0 m c n hn').2.2.2.2 (ix4 sl cc d l) = (Bs m c b i).oM cc h (mT (Bs m c b) (4 * i + cc.val) h) (cT (Bs m c b) (4 * i + cc.val) h) (ix4 0 0 r l) := by
  subst hn
  obtain ⟨LD, mi, ci, hi', xi, S, -, -, -, e⟩ := leaves_seq m c b hb i hi
  refine (e sl hs cc d l).trans ?_
  refine (mix_M (F := F) _ _ _ _ _ _ _ cc h r l d hd 4 le_rfl cc.isLt).trans ?_
  have hk : 4 * cc.val + h.val < 16 := by omega
  have e1 := (m_all S (4 * cc.val + h.val) hk.le).2 hk
  have e2 := (c_all S (4 * cc.val + h.val) hk.le).2 hk
  have eh : hd4 (4 * cc.val + h.val) = h := Fin.ext (by show (4 * cc.val + h.val) % 4 = h.val; omega)
  rw [e1, e2, eh, show (4 * cc.val + h.val) / 4 = cc.val by omega]

/-- The mixed rows of the state space's groups. -/
theorem mix_at_S (b i : Nat) (hb : b < 4) (hi : i < 16) (n : Nat) (hn : n = 16 * b + i) (hn' : n < cfg0.N) (sl : Fin 2) (hs : sl.val = n % 2) (cc : Fin 4) (g : Fin 2)
    (r : Fin 512) (l : Fin 128) (d : Fin 2048) (hd : d.val = 1024 + 512 * g.val + r.val) :
    (outsAt0 m c n hn').2.2.2.2 (ix4 sl cc d l) = (Bs m c b i).oS cc g (hT (Bs m c b) (4 * i + cc.val) g) (ix4 0 0 r l) := by
  subst hn
  obtain ⟨LD, mi, ci, hi', xi, S, -, -, -, e⟩ := leaves_seq m c b hb i hi
  refine (e sl hs cc d l).trans ?_
  refine (mix_S (F := F) _ _ _ _ _ _ _ cc g r l d hd 4 le_rfl cc.isLt).trans ?_
  have hk : 2 * cc.val + g.val < 8 := by omega
  have e1 := (h_all S (2 * cc.val + g.val) hk.le).2 hk
  have eh : gr2 (2 * cc.val + g.val) = g := Fin.ext (by show (2 * cc.val + g.val) % 2 = g.val; omega)
  rw [e1, eh, show (2 * cc.val + g.val) / 2 = cc.val by omega]

/-! ### The projected tile -/

/-- The tile of a point, of the mixed rows of the point before. -/
def tile (t : Fin cfg0.N) (mx : Fin 4 → FVec F S1x2048x128 .bf16) : Vec F S512x1024 .f32 :=
  outT (fun j => View.canon (accL (xTOf (iblk m c 12 t)) (wOf (iblk m c 13 t))
      (fun j => View.canon (mixrmL mx) ((Rect.unit ![0, 0] S512x2048.size (inb2 (by omega) (by omega)) : Rect S512x2048).toLoadRect.idx j)))
    ((Rect.unit ![0, 0] S512x1024.size (inb2 (by omega) (by omega)) : Rect S512x1024).toLoadRect.idx j)) (fwOf (iblk m c 14 t))

/-- What is read of one of the two places of the mixed rows. -/
def mxOf (s : Fin 2) (X : Vec F S2x4x2048x128 .bf16) (d : Fin 4) : FVec F S1x2048x128 .bf16 := fun x => X (ix4 s d (x 1) (x 2))

theorem mx_read {sp : Space} (A : Memref sig .tc sp S2x4x2048x128 .bf16) (hA : A.IsWhole) (off : Fin 4 → Nat) (s : Fin 2) (ho : off = ![s.val, 0, 0, 0])
    (inb : ∀ a, off a + S1x4x2048x128.size a ≤ S2x4x2048x128.size a) (X : Vec F S2x4x2048x128 .bf16) (d : Fin 4) :
    View.readAt (Elt F) ((A.slice (Rect.unit off S1x4x2048x128.size inb) (fun _ => rfl)).squeeze S4x2048x128 squeezes_S1x4x2048x128_S4x2048x128).view
      (Rect.unit ![d.val, 0, 0] S1x2048x128.size (inb3 (by omega) (by omega) (by omega)) : Rect S4x2048x128).toLoadRect (hA.unread X) = mxOf s X d := by
  subst ho
  funext x
  refine (hA.readAt_slice_reshape_unread X _ squeezes_S1x4x2048x128_S4x2048x128.numel_eq _ x).trans ?_
  unfold mxOf
  refine congrArg X ?_
  rw [Shape.reshapeEquiv_cons_one (n := 3) (d := ![4, 2048, 128])]
  have hx : (x 0).val < 1 := (x 0).isLt
  funext a
  refine Fin.ext ?_
  match a with
  | ⟨0, _⟩ => show s.val + 1 * 0 = s.val; omega
  | ⟨1, _⟩ => show 0 + 1 * (d.val + 1 * (x 0).val) = d.val; omega
  | ⟨2, _⟩ => show 0 + 1 * (0 + 1 * (x 1).val) = (x 1).val; omega
  | ⟨3, _⟩ => show 0 + 1 * (0 + 1 * (x 2).val) = (x 2).val; omega

theorem tile_of (t : Fin cfg0.N) {sp sp' : Space} (v21 : View sig .tc sp S512x2048 .bf16) (v22 : View sig .tc sp' S512x1024 .f32)
    (xT : Fin 4 → FVec F S512x256 .f32) (w : Fin 4 → FVec F S2048x256 .bf16) (fw : FVec F S1x1024 .f32) (mx mx' : Fin 4 → FVec F S1x2048x128 .bf16)
    (L : List (View.Piece (Elt F) S512x1024 .f32))
    (hL : L = [⟨(Rect.unit ![0, 0] S512x1024.size (inb2 (by omega) (by omega)) : Rect S512x1024),
      outT (v22.readCov (accL xT w (v21.readCov (mixrmL mx) (Rect.unit ![0, 0] S512x2048.size (inb2 (by omega) (by omega)) : Rect S512x2048).toLoadRect))
        (Rect.unit ![0, 0] S512x1024.size (inb2 (by omega) (by omega)) : Rect S512x1024).toLoadRect) fw⟩])
    (hx : ∀ j, xT j = xTOf (iblk m c 12 t) j) (hw : ∀ j, w j = wOf (iblk m c 13 t) j) (hf : fw = fwOf (iblk m c 14 t)) (hm : ∀ d, mx d = mx' d) :
    View.canon L = tile m c t mx' := by
  obtain rfl : xT = xTOf (iblk m c 12 t) := funext hx
  obtain rfl : w = wOf (iblk m c 13 t) := funext hw
  obtain rfl : mx = mx' := funext hm
  subst hf hL
  rw [View.readCov_eq_canon', View.readCov_eq_canon']
  exact funext fun y => zero_hit (S := S512x1024) (e := .f32) (off := ![0, 0]) (by decide) (inb2 (by omega) (by omega)) _ y

theorem out_at_D (t : Fin cfg0.N) (h0 : ¬t.val % 65 = 0) (h1 : t.val % 16 = 0) :
    (outsAt0 m c t.val t.isLt).1 = tile m c t (mxOf 1 (outsAt0 m c (t.val - 1) (lt_of_le_of_lt (Nat.sub_le _ _) t.isLt)).2.2.2.2) := by
  rw [outsAt0_D m c t h0 h1]
  dsimp only
  exact (View.read_writes_junk_eq_canon _ _).trans (tile_of m c t _ _ _ _ _ _ _ _ (CaseD.out_run ..)
    (fun j => funext fun x => Memref.IsWhole.readAt_unread _ _ _ x) (fun j => funext fun x => Memref.IsWhole.readAt_unread _ _ _ x)
    (funext fun x => Memref.IsWhole.readAt_unread _ _ _ x) fun d => mx_read _ _ _ 1 (hoff0_k0_off1_c1 t h1) _ _ d)

theorem out_at_B (t : Fin cfg0.N) (h0 : ¬t.val % 65 = 0) (h1 : ¬t.val % 16 = 0) (h2 : t.val % 2 = 1) :
    (outsAt0 m c t.val t.isLt).1 = tile m c t (mxOf 0 (outsAt0 m c (t.val - 1) (lt_of_le_of_lt (Nat.sub_le _ _) t.isLt)).2.2.2.2) := by
  rw [outsAt0_B m c t h0 h1 h2]
  dsimp only
  exact (View.read_writes_junk_eq_canon _ _).trans (tile_of m c t _ _ _ _ _ _ _ _ (CaseB.out_run ..)
    (fun j => funext fun x => Memref.IsWhole.readAt_unread _ _ _ x) (fun j => funext fun x => Memref.IsWhole.readAt_unread _ _ _ x)
    (funext fun x => Memref.IsWhole.readAt_unread _ _ _ x) fun d => mx_read _ _ _ 0 (hoff0_k0_off1_c2 t h2) _ _ d)

theorem out_at_C (t : Fin cfg0.N) (h0 : ¬t.val % 65 = 0) (h1 : ¬t.val % 16 = 0) (h2 : ¬t.val % 2 = 1) :
    (outsAt0 m c t.val t.isLt).1 = tile m c t (mxOf 1 (outsAt0 m c (t.val - 1) (lt_of_le_of_lt (Nat.sub_le _ _) t.isLt)).2.2.2.2) := by
  rw [outsAt0_C m c t h0 h1 h2]
  dsimp only
  exact (View.read_writes_junk_eq_canon _ _).trans (tile_of m c t _ _ _ _ _ _ _ _ (CaseC.out_run ..)
    (fun j => funext fun x => Memref.IsWhole.readAt_unread _ _ _ x) (fun j => funext fun x => Memref.IsWhole.readAt_unread _ _ _ x)
    (funext fun x => Memref.IsWhole.readAt_unread _ _ _ x) fun d => mx_read _ _ _ 1 (hoff0_k0_off1_n2 t h2) _ _ d)

theorem out_at (t : Fin cfg0.N) (h0 : t.val ≠ 0) (s : Fin 2) (hs : s.val = (t.val - 1) % 2) :
    (outsAt0 m c t.val t.isLt).1 = tile m c t (mxOf s (outsAt0 m c (t.val - 1) (lt_of_le_of_lt (Nat.sub_le _ _) t.isLt)).2.2.2.2) := by
  have ht : t.val < 65 := lt_of_lt_of_eq t.isLt N_0
  have h0' : ¬t.val % 65 = 0 := by omega
  by_cases h1 : t.val % 16 = 0
  · obtain rfl : s = 1 := Fin.ext (by rw [hs]; show (t.val - 1) % 2 = 1; omega)
    exact out_at_D m c t h0' h1
  · by_cases h2 : t.val % 2 = 1
    · obtain rfl : s = 0 := Fin.ext (by rw [hs]; show (t.val - 1) % 2 = 0; omega)
      exact out_at_B m c t h0' h1 h2
    · obtain rfl : s = 1 := Fin.ext (by rw [hs]; show (t.val - 1) % 2 = 1; omega)
      exact out_at_C m c t h0' h1 h2

end Cert.KernelIdeal.MixOuts

end
-- ==== Proof.MixRead.lean ====
/- The mixer's windows read at an index, over the extended reals: the arguments themselves. -/
module

public import proofs.«01_k».proof.Proof.MixReadV
public import proofs.«01_k».proof.Proof.MixOuts
public import Idealize.ShloMosaic.Lib.Pointwise
public import Idealize.ShloMosaic.Lib.KernelVsHost
public import Idealize.ShloMosaic.Lib.Pipeline.ValueKit
public import Idealize.ShloMosaic.Lib.Pipeline.ValueKit.Tiles

@[expose] public section

set_option maxRecDepth 16384

noncomputable section

namespace Cert.KernelIdeal.MixReads

open Idealize.ShloMosaic Idealize.ShloMosaic.TcCoe Idealize.SL.Sem Cert.KernelIdeal Cert.KernelIdeal.Gen Cert.KernelIdeal.Step

variable (m : (ℓ : Loc nD τ sig) → Buf (Elt Ideal) ℓ) (c : Dev nD) (t : Fin cfg0.N)

theorem idx0 : ∀ t : Fin cfg0.N, t.val < 64 → win0_0.index t = ![t.val, 0, 0] := by decide +kernel
theorem idx2 : ∀ t : Fin cfg0.N, t.val < 64 → win0_2.index t = ![t.val, 0, 0] := by decide +kernel
theorem idx3 : ∀ t : Fin cfg0.N, t.val < 64 → win0_3.index t = ![t.val, 0, 0] := by decide +kernel
theorem idx4 : ∀ t : Fin cfg0.N, t.val < 64 → win0_4.index t = ![t.val, 0, 0] := by decide +kernel
theorem idx5 : ∀ t : Fin cfg0.N, t.val < 64 → win0_5.index t = ![t.val, 0, 0] := by decide +kernel
theorem idx8 : ∀ t : Fin cfg0.N, t.val < 64 → win0_8.index t = ![t.val, 0, 0] := by decide +kernel
theorem idx1 : ∀ t : Fin cfg0.N, t.val < 64 → win0_1.index t = ![t.val, 0] := by decide +kernel
theorem idx6 : ∀ t : Fin cfg0.N, t.val < 64 → win0_6.index t = ![t.val, 0] := by decide +kernel
theorem idx7 : ∀ t : Fin cfg0.N, t.val < 64 → win0_7.index t = ![t.val, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![0, 0] := by decide +kernel
theorem idx13 : ∀ t : Fin cfg0.N, win0_13.index t = ![0, 0] := by decide +kernel
theorem idx14 : ∀ t : Fin cfg0.N, win0_14.index t = ![0, 0] := by decide +kernel
theorem idx12 : ∀ t : Fin cfg0.N, win0_12.index t = ![t.val - 1, 0] := by decide +kernel
theorem idx15 : ∀ t : Fin cfg0.N, win0_15.index t = ![t.val - 1, 0] := by decide +kernel

/-- An array by (batch, position, channel) taken by (chunk, channel, position in the chunk). -/
theorem chunk32 {α : Type} (X : S4x8192x32.Idx → α) (J : S256x32x128.Idx) (b : Fin 4) (s : Fin 8192) (r : Fin 32)
    (h0 : b.val * 8192 + s.val = (J 0).val * 128 + (J 2).val) (h1 : (J 1).val = r.val) :
    transpose S256x32x128 [0, 2, 1] (shapeCast S256x128x32 X shapeCasts_S4x8192x32_S256x128x32) transposes_S256x128x32_S256x32x128_0_2_1 J = X (ix3 b s r) := by
  refine (transpose_apply _ _ _ J (ix3 (J 0) (J 2) (J 1)) ?_).trans (shapeCast_apply _ _ _ _ ?_)
  · intro x
    match x with
    | ⟨0, _⟩ => rfl
    | ⟨1, _⟩ => rfl
    | ⟨2, _⟩ => rfl
  · refine (Shape.rowMajor_val_three (d := ![4, 8192, 32]) _).trans (Eq.trans ?_ (Shape.rowMajor_val_three (d := ![256, 128, 32]) _).symm)
    show (b.val * 8192 + s.val) * 32 + r.val = ((J 0).val * 128 + (J 2).val) * 32 + (J 1).val
    rw [h0, h1]

/-- An array by (batch, position, channel) taken by (chunk, channel, position in the chunk). -/
theorem chunk512 {α : Type} (X : S4x8192x512.Idx → α) (J : S256x512x128.Idx) (b : Fin 4) (s : Fin 8192) (r : Fin 512)
    (h0 : b.val * 8192 + s.val = (J 0).val * 128 + (J 2).val) (h1 : (J 1).val = r.val) :
    transpose S256x512x128 [0, 2, 1] (shapeCast S256x128x512 X shapeCasts_S4x8192x512_S256x128x512) transposes_S256x128x512_S256x512x128_0_2_1 J = X (ix3 b s r) := by
  refine (transpose_apply _ _ _ J (ix3 (J 0) (J 2) (J 1)) ?_).trans (shapeCast_apply _ _ _ _ ?_)
  · intro x
    match x with
    | ⟨0, _⟩ => rfl
    | ⟨1, _⟩ => rfl
    | ⟨2, _⟩ => rfl
  · refine (Shape.rowMajor_val_three (d := ![4, 8192, 512]) _).trans (Eq.trans ?_ (Shape.rowMajor_val_three (d := ![256, 128, 512]) _).symm)
    show (b.val * 8192 + s.val) * 512 + r.val = ((J 0).val * 128 + (J 2).val) * 512 + (J 1).val
    rw [h0, h1]

/-- An array by (batch, position, channel) taken by (chunk, channel, position in the chunk). -/
theorem chunk1024 {α : Type} (X : S4x8192x1024.Idx → α) (J : S256x1024x128.Idx) (b : Fin 4) (s : Fin 8192) (r : Fin 1024)
    (h0 : b.val * 8192 + s.val = (J 0).val * 128 + (J 2).val) (h1 : (J 1).val = r.val) :
    transpose S256x1024x128 [0, 2, 1] (shapeCast S256x128x1024 X shapeCasts_S4x8192x1024_S256x128x1024) transposes_S256x128x1024_S256x1024x128_0_2_1 J = X (ix3 b s r) := by
  refine (transpose_apply _ _ _ J (ix3 (J 0) (J 2) (J 1)) ?_).trans (shapeCast_apply _ _ _ _ ?_)
  · intro x
    match x with
    | ⟨0, _⟩ => rfl
    | ⟨1, _⟩ => rfl
    | ⟨2, _⟩ => rfl
  · refine (Shape.rowMajor_val_three (d := ![4, 8192, 1024]) _).trans (Eq.trans ?_ (Shape.rowMajor_val_three (d := ![256, 128, 1024]) _).symm)
    show (b.val * 8192 + s.val) * 1024 + r.val = ((J 0).val * 128 + (J 2).val) * 1024 + (J 1).val
    rw [h0, h1]

theorem rows256 {α : Type} (X : S4x8192x256.Idx → α) (J : S32768x256.Idx) (b : Fin 4) (s : Fin 8192) (r : Fin 256)
    (h0 : b.val * 8192 + s.val = (J 0).val) (h1 : (J 1).val = r.val) : shapeCast S32768x256 X shapeCasts_S4x8192x256_S32768x256 J = X (ix3 b s r) := by
  refine shapeCast_apply _ _ _ _ ?_
  refine (Shape.rowMajor_val_three (d := ![4, 8192, 256]) _).trans (Eq.trans ?_ (Shape.rowMajor_val_two (d := ![32768, 256]) _).symm)
  show (b.val * 8192 + s.val) * 256 + r.val = (J 0).val * 256 + (J 1).val
  rw [h0, h1]

theorem rows512 {α : Type} (X : S4x8192x512.Idx → α) (J : S32768x512.Idx) (b : Fin 4) (s : Fin 8192) (r : Fin 512)
    (h0 : b.val * 8192 + s.val = (J 0).val) (h1 : (J 1).val = r.val) : shapeCast S32768x512 X shapeCasts_S4x8192x512_S32768x512 J = X (ix3 b s r) := by
  refine shapeCast_apply _ _ _ _ ?_
  refine (Shape.rowMajor_val_three (d := ![4, 8192, 512]) _).trans (Eq.trans ?_ (Shape.rowMajor_val_two (d := ![32768, 512]) _).symm)
  show (b.val * 8192 + s.val) * 512 + r.val = (J 0).val * 512 + (J 1).val
  rw [h0, h1]

theorem rows1024 {α : Type} (X : S4x8192x1024.Idx → α) (J : S32768x1024.Idx) (b : Fin 4) (s : Fin 8192) (r : Fin 1024)
    (h0 : b.val * 8192 + s.val = (J 0).val) (h1 : (J 1).val = r.val) : shapeCast S32768x1024 X shapeCasts_S4x8192x1024_S32768x1024 J = X (ix3 b s r) := by
  refine shapeCast_apply _ _ _ _ ?_
  refine (Shape.rowMajor_val_three (d := ![4, 8192, 1024]) _).trans (Eq.trans ?_ (Shape.rowMajor_val_two (d := ![32768, 1024]) _).symm)
  show (b.val * 8192 + s.val) * 1024 + r.val = (J 0).val * 1024 + (J 1).val
  rw [h0, h1]

section
variable (ht : t.val < 64) (cc : Fin 4) (l : Fin 128) (b : Fin 4) (s : Fin 8192) (hs : b.val * 8192 + s.val = 512 * t.val + 128 * cc.val + l.val)
include ht hs

theorem wq_at (r : Fin 512) : iblk m c 0 t (ix3 cc r l) = FloatOps.mulf (F := Ideal) (φ := .f32) (m ((c : Thread nD τ).loc main_arg0) (ix3 b s r)) (Ideal.ofBits .f32 0x3DB504F3#32) := by
  show V m c main_v6 (((cfg0.win 0).blk t).view.emb (ix3 cc r l)) = _
  rw [V_v6]
  refine (chunk512 _ _ b s r ?_ ?_).trans ?_
  · have e0 : (((cfg0.win 0).blk t).view.emb (ix3 cc r l) 0).val = 4 * t.val + cc.val := by blk_simp [idx0 t ht]; omega
    have e2 : (((cfg0.win 0).blk t).view.emb (ix3 cc r l) 2).val = l.val := by blk_simp [idx0 t ht]
    rw [e0, e2, hs]; omega
  · blk_simp [idx0 t ht]
  · rfl

theorem wk_at (p : Fin 512) (hp : p.val = 128 * cc.val + l.val) (r : Fin 512) : iblk m c 1 t (ix2 p r) = m ((c : Thread nD τ).loc main_arg1) (ix3 b s r) := by
  show V m c main_v8 (((cfg0.win 1).blk t).view.emb (ix2 p r)) = _
  rw [V_v8]
  refine (rows512 _ _ b s r ?_ ?_).trans ?_
  · have e0 : (((cfg0.win 1).blk t).view.emb (ix2 p r) 0).val = 512 * t.val + p.val := by blk_simp [idx1 t ht]; omega
    rw [e0, hs, hp]; omega
  · blk_simp [idx1 t ht]
  · rfl

theorem wv_at (r : Fin 1024) : iblk m c 2 t (ix3 cc r l) = m ((c : Thread nD τ).loc main_arg2) (ix3 b s r) := by
  show V m c main_v11 (((cfg0.win 2).blk t).view.emb (ix3 cc r l)) = _
  rw [V_v11]
  refine (chunk1024 _ _ b s r ?_ ?_).trans ?_
  · have e0 : (((cfg0.win 2).blk t).view.emb (ix3 cc r l) 0).val = 4 * t.val + cc.val := by blk_simp [idx2 t ht]; omega
    have e2 : (((cfg0.win 2).blk t).view.emb (ix3 cc r l) 2).val = l.val := by blk_simp [idx2 t ht]
    rw [e0, e2, hs]; omega
  · blk_simp [idx2 t ht]
  · rfl

theorem wo_at (r : Fin 1024) : iblk m c 3 t (ix3 cc r l) = m ((c : Thread nD τ).loc main_arg3) (ix3 b s r) := by
  show V m c main_v14 (((cfg0.win 3).blk t).view.emb (ix3 cc r l)) = _
  rw [V_v14]
  refine (chunk1024 _ _ b s r ?_ ?_).trans ?_
  · have e0 : (((cfg0.win 3).blk t).view.emb (ix3 cc r l) 0).val = 4 * t.val + cc.val := by blk_simp [idx3 t ht]; omega
    have e2 : (((cfg0.win 3).blk t).view.emb (ix3 cc r l) 2).val = l.val := by blk_simp [idx3 t ht]
    rw [e0, e2, hs]; omega
  · blk_simp [idx3 t ht]
  · rfl

theorem wz_at (r : Fin 1024) : iblk m c 4 t (ix3 cc r l) = m ((c : Thread nD τ).loc main_arg4) (ix3 b s r) := by
  show V m c main_v17 (((cfg0.win 4).blk t).view.emb (ix3 cc r l)) = _
  rw [V_v17]
  refine (chunk1024 _ _ b s r ?_ ?_).trans ?_
  · have e0 : (((cfg0.win 4).blk t).view.emb (ix3 cc r l) 0).val = 4 * t.val + cc.val := by blk_simp [idx4 t ht]; omega
    have e2 : (((cfg0.win 4).blk t).view.emb (ix3 cc r l) 2).val = l.val := by blk_simp [idx4 t ht]
    rw [e0, e2, hs]; omega
  · blk_simp [idx4 t ht]
  · rfl

theorem wx_at (r : Fin 1024) : iblk m c 5 t (ix3 cc r l) = m ((c : Thread nD τ).loc main_arg5) (ix3 b s r) := by
  show V m c main_v20 (((cfg0.win 5).blk t).view.emb (ix3 cc r l)) = _
  rw [V_v20]
  refine (chunk1024 _ _ b s r ?_ ?_).trans ?_
  · have e0 : (((cfg0.win 5).blk t).view.emb (ix3 cc r l) 0).val = 4 * t.val + cc.val := by blk_simp [idx5 t ht]; omega
    have e2 : (((cfg0.win 5).blk t).view.emb (ix3 cc r l) 2).val = l.val := by blk_simp [idx5 t ht]
    rw [e0, e2, hs]; omega
  · blk_simp [idx5 t ht]
  · rfl

theorem wb_at (p : Fin 512) (hp : p.val = 128 * cc.val + l.val) (r : Fin 256) : iblk m c 6 t (ix2 p r) = m ((c : Thread nD τ).loc main_arg6) (ix3 b s r) := by
  show V m c main_v22 (((cfg0.win 6).blk t).view.emb (ix2 p r)) = _
  rw [V_v22]
  refine (rows256 _ _ b s r ?_ ?_).trans ?_
  · have e0 : (((cfg0.win 6).blk t).view.emb (ix2 p r) 0).val = 512 * t.val + p.val := by blk_simp [idx6 t ht]; omega
    rw [e0, hs, hp]; omega
  · blk_simp [idx6 t ht]
  · rfl

theorem wc_at (p : Fin 512) (hp : p.val = 128 * cc.val + l.val) (r : Fin 256) : iblk m c 7 t (ix2 p r) = m ((c : Thread nD τ).loc main_arg7) (ix3 b s r) := by
  show V m c main_v24 (((cfg0.win 7).blk t).view.emb (ix2 p r)) = _
  rw [V_v24]
  refine (rows256 _ _ b s r ?_ ?_).trans ?_
  · have e0 : (((cfg0.win 7).blk t).view.emb (ix2 p r) 0).val = 512 * t.val + p.val := by blk_simp [idx7 t ht]; omega
    rw [e0, hs, hp]; omega
  · blk_simp [idx7 t ht]
  · rfl

theorem gi_at (r : Fin 4) (R : Fin 32) (hR : R.val = 0 + r.val) : iblk m c 8 t (ix3 cc R l) = m ((c : Thread nD τ).loc main_arg8) (ix3 b s r) := by
  show V m c main_v26 (((cfg0.win 8).blk t).view.emb (ix3 cc R l)) = _
  rw [V_v26]
  refine (chunk32 _ _ b s R ?_ ?_).trans ?_
  · have e0 : (((cfg0.win 8).blk t).view.emb (ix3 cc R l) 0).val = 4 * t.val + cc.val := by blk_simp [idx8 t ht]; omega
    have e2 : (((cfg0.win 8).blk t).view.emb (ix3 cc R l) 2).val = l.val := by blk_simp [idx8 t ht]
    rw [e0, e2, hs]; omega
  · blk_simp [idx8 t ht]
  · refine (pad_apply_of_inside _ _ _ _ _ _ _ _ (ix3 b s (⟨R.val, by omega⟩ : Fin 24)) ?_).trans ?_
    · intro x
      match x with
      | ⟨0, _⟩ => show b.val = 0 + b.val * (0 + 1); omega
      | ⟨1, _⟩ => show s.val = 0 + s.val * (0 + 1); omega
      | ⟨2, _⟩ => show R.val = 0 + R.val * (0 + 1); omega
    · obtain ⟨R, _⟩ := R
      obtain rfl : R = 0 + r.val := hR
      pointwise

theorem gf_at (r : Fin 4) (R : Fin 32) (hR : R.val = 4 + r.val) : iblk m c 8 t (ix3 cc R l) = m ((c : Thread nD τ).loc main_arg9) (ix3 b s r) := by
  show V m c main_v26 (((cfg0.win 8).blk t).view.emb (ix3 cc R l)) = _
  rw [V_v26]
  refine (chunk32 _ _ b s R ?_ ?_).trans ?_
  · have e0 : (((cfg0.win 8).blk t).view.emb (ix3 cc R l) 0).val = 4 * t.val + cc.val := by blk_simp [idx8 t ht]; omega
    have e2 : (((cfg0.win 8).blk t).view.emb (ix3 cc R l) 2).val = l.val := by blk_simp [idx8 t ht]
    rw [e0, e2, hs]; omega
  · blk_simp [idx8 t ht]
  · refine (pad_apply_of_inside _ _ _ _ _ _ _ _ (ix3 b s (⟨R.val, by omega⟩ : Fin 24)) ?_).trans ?_
    · intro x
      match x with
      | ⟨0, _⟩ => show b.val = 0 + b.val * (0 + 1); omega
      | ⟨1, _⟩ => show s.val = 0 + s.val * (0 + 1); omega
      | ⟨2, _⟩ => show R.val = 0 + R.val * (0 + 1); omega
    · obtain ⟨R, _⟩ := R
      obtain rfl : R = 4 + r.val := hR
      pointwise

theorem gd_at (r : Fin 16) (R : Fin 32) (hR : R.val = 8 + r.val) : iblk m c 8 t (ix3 cc R l) = m ((c : Thread nD τ).loc main_arg10) (ix3 b s r) := by
  show V m c main_v26 (((cfg0.win 8).blk t).view.emb (ix3 cc R l)) = _
  rw [V_v26]
  refine (chunk32 _ _ b s R ?_ ?_).trans ?_
  · have e0 : (((cfg0.win 8).blk t).view.emb (ix3 cc R l) 0).val = 4 * t.val + cc.val := by blk_simp [idx8 t ht]; omega
    have e2 : (((cfg0.win 8).blk t).view.emb (ix3 cc R l) 2).val = l.val := by blk_simp [idx8 t ht]
    rw [e0, e2, hs]; omega
  · blk_simp [idx8 t ht]
  · refine (pad_apply_of_inside _ _ _ _ _ _ _ _ (ix3 b s (⟨R.val, by omega⟩ : Fin 24)) ?_).trans ?_
    · intro x
      match x with
      | ⟨0, _⟩ => show b.val = 0 + b.val * (0 + 1); omega
      | ⟨1, _⟩ => show s.val = 0 + s.val * (0 + 1); omega
      | ⟨2, _⟩ => show R.val = 0 + R.val * (0 + 1); omega
    · obtain ⟨R, _⟩ := R
      obtain rfl : R = 8 + r.val := hR
      pointwise
      rw [dif_neg (by omega), dif_neg (by omega)]
      exact congrArg (fun z => m ((c : Thread nD τ).loc main_arg10) (ix3 b s z)) (Fin.ext (by show 8 + r.val - 4 - 4 = r.val; omega))

end

theorem wn_at (r : Fin 1024) (l : Fin 128) : iblk m c 9 t (ix2 r l) = m ((c : Thread nD τ).loc main_arg11) (ix1 r) := by
  show V m c main_v28 (((cfg0.win 9).blk t).view.emb (ix2 r l)) = _
  rw [V_v28]
  pointwise
  blk_ext [idx9]

theorem wd_at (r : Fin 1024) (l : Fin 128) (h : Fin 16) (p : Fin 64) (hr : r.val = 64 * h.val + p.val) : iblk m c 10 t (ix2 r l) = m ((c : Thread nD τ).loc main_arg12) (ix1 h) := by
  show V m c main_v32 (((cfg0.win 10).blk t).view.emb (ix2 r l)) = _
  rw [V_v32]
  obtain ⟨r, _⟩ := r
  obtain rfl : r = 64 * h.val + p.val := hr
  pointwise
  blk_ext [idx10]

theorem wa_at (r : Fin 16) (l : Fin 128) : iblk m c 11 t (ix2 r l) = m ((c : Thread nD τ).loc main_arg13) (ix1 r) := by
  show V m c main_v34 (((cfg0.win 11).blk t).view.emb (ix2 r l)) = _
  rw [V_v34]
  pointwise
  blk_ext [idx11]

theorem ww_at (r : Fin 2048) (l : Fin 1024) : iblk m c 13 t (ix2 r l) = m ((c : Thread nD τ).loc main_arg15) (ix2 r l) := by
  show V m c main_v36 (((cfg0.win 13).blk t).view.emb (ix2 r l)) = _
  rw [V_v36]
  pointwise
  blk_ext [idx13]

theorem wf_at (l : Fin 1024) : iblk m c 14 t (ix2 0 l) = m ((c : Thread nD τ).loc main_arg16) (ix1 l) := by
  show V m c main_v37 (((cfg0.win 14).blk t).view.emb (ix2 0 l)) = _
  rw [V_v37]
  pointwise
  blk_ext [idx14]

theorem wr_at (p : Fin 512) (r : Fin 1024) (b : Fin 4) (s : Fin 8192) (hs : b.val * 8192 + s.val = 512 * (t.val - 1) + p.val) :
    iblk m c 12 t (ix2 p r) = m ((c : Thread nD τ).loc main_arg14) (ix3 b s r) := by
  show V m c main_v35 (((cfg0.win 12).blk t).view.emb (ix2 p r)) = _
  rw [V_v35]
  refine (rows1024 _ _ b s r ?_ ?_).trans ?_
  · have e0 : (((cfg0.win 12).blk t).view.emb (ix2 p r) 0).val = 512 * (t.val - 1) + p.val := by blk_simp [idx12]; omega
    rw [e0, hs]
  · blk_simp [idx12]
  · rfl

/-! ### The blocks -/

section
variable (ht : t.val < 64) (cc : Fin 4) (l : Fin 128) (b : Fin 4) (s : Fin 8192) (hs : b.val * 8192 + s.val = 512 * t.val + 128 * cc.val + l.val)
include ht hs

theorem Bq (h : Fin 4) (r : Fin 128) : (MixOuts.Bt m c t).q cc h (ix3 0 r l) = FloatOps.mulf (F := Ideal) (φ := .f32) (m ((c : Thread nD τ).loc main_arg0) (ix3 b s (⟨128 * h.val + r.val, by omega⟩ : Fin 512))) (Ideal.ofBits .f32 0x3DB504F3#32) :=
  (View.ld_unit_apply_of _ _ _ _ _ (ix3 cc (⟨128 * h.val + r.val, by omega⟩ : Fin 512) l) (fun x => by
    match x with
    | ⟨0, _⟩ => rfl
    | ⟨1, _⟩ => rfl
    | ⟨2, _⟩ => exact (Nat.zero_add _).symm)).trans (wq_at m c t ht cc l b s hs _)

theorem Bv (h : Fin 4) (r : Fin 256) : (MixOuts.Bt m c t).v cc h (ix3 0 r l) = m ((c : Thread nD τ).loc main_arg2) (ix3 b s (⟨256 * h.val + r.val, by omega⟩ : Fin 1024)) :=
  (View.ld_unit_apply_of _ _ _ _ _ (ix3 cc (⟨256 * h.val + r.val, by omega⟩ : Fin 1024) l) (fun x => by
    match x with
    | ⟨0, _⟩ => rfl
    | ⟨1, _⟩ => rfl
    | ⟨2, _⟩ => exact (Nat.zero_add _).symm)).trans (wv_at m c t ht cc l b s hs _)

theorem Bo (h : Fin 4) (r : Fin 256) : (MixOuts.Bt m c t).o cc h (ix3 0 r l) = m ((c : Thread nD τ).loc main_arg3) (ix3 b s (⟨256 * h.val + r.val, by omega⟩ : Fin 1024)) :=
  (View.ld_unit_apply_of _ _ _ _ _ (ix3 cc (⟨256 * h.val + r.val, by omega⟩ : Fin 1024) l) (fun x => by
    match x with
    | ⟨0, _⟩ => rfl
    | ⟨1, _⟩ => rfl
    | ⟨2, _⟩ => exact (Nat.zero_add _).symm)).trans (wo_at m c t ht cc l b s hs _)

theorem Bz (g : Fin 2) (r8 : Fin 8) (r : Fin 64) : (MixOuts.Bt m c t).z cc g r8 (ix3 0 r l) = m ((c : Thread nD τ).loc main_arg4) (ix3 b s (⟨64 * (8 * g.val + r8.val) + r.val, by omega⟩ : Fin 1024)) :=
  (View.ld_unit_apply_of _ _ _ _ _ (ix3 cc (⟨64 * (8 * g.val + r8.val) + r.val, by omega⟩ : Fin 1024) l) (fun x => by
    match x with
    | ⟨0, _⟩ => rfl
    | ⟨1, _⟩ => rfl
    | ⟨2, _⟩ => exact (Nat.zero_add _).symm)).trans (wz_at m c t ht cc l b s hs _)

theorem Bx (g : Fin 2) (r8 : Fin 8) (r : Fin 64) : (MixOuts.Bt m c t).x cc g r8 (ix3 0 r l) = m ((c : Thread nD τ).loc main_arg5) (ix3 b s (⟨64 * (8 * g.val + r8.val) + r.val, by omega⟩ : Fin 1024)) :=
  (View.ld_unit_apply_of _ _ _ _ _ (ix3 cc (⟨64 * (8 * g.val + r8.val) + r.val, by omega⟩ : Fin 1024) l) (fun x => by
    match x with
    | ⟨0, _⟩ => rfl
    | ⟨1, _⟩ => rfl
    | ⟨2, _⟩ => exact (Nat.zero_add _).symm)).trans (wx_at m c t ht cc l b s hs _)

theorem Bk (h : Fin 4) (d : Fin 128) : (MixOuts.Bt m c t).k cc h (ix2 l d) = m ((c : Thread nD τ).loc main_arg1) (ix3 b s (⟨128 * h.val + d.val, by omega⟩ : Fin 512)) :=
  (View.ld_unit_apply_of _ _ _ _ _ (ix2 (⟨128 * cc.val + l.val, by omega⟩ : Fin 512) (⟨128 * h.val + d.val, by omega⟩ : Fin 512)) (fun x => by
    match x with
    | ⟨0, _⟩ => rfl
    | ⟨1, _⟩ => rfl)).trans (wk_at m c t ht cc l b s hs _ rfl _)

theorem Bb (h : Fin 2) (d : Fin 128) : (MixOuts.Bt m c t).b cc h (ix2 l d) = m ((c : Thread nD τ).loc main_arg6) (ix3 b s (⟨128 * h.val + d.val, by omega⟩ : Fin 256)) :=
  (View.ld_unit_apply_of _ _ _ _ _ (ix2 (⟨128 * cc.val + l.val, by omega⟩ : Fin 512) (⟨128 * h.val + d.val, by omega⟩ : Fin 256)) (fun x => by
    match x with
    | ⟨0, _⟩ => rfl
    | ⟨1, _⟩ => rfl)).trans (wb_at m c t ht cc l b s hs _ rfl _)

theorem Bc (h : Fin 2) (d : Fin 128) : (MixOuts.Bt m c t).c cc h (ix2 l d) = m ((c : Thread nD τ).loc main_arg7) (ix3 b s (⟨128 * h.val + d.val, by omega⟩ : Fin 256)) :=
  (View.ld_unit_apply_of _ _ _ _ _ (ix2 (⟨128 * cc.val + l.val, by omega⟩ : Fin 512) (⟨128 * h.val + d.val, by omega⟩ : Fin 256)) (fun x => by
    match x with
    | ⟨0, _⟩ => rfl
    | ⟨1, _⟩ => rfl)).trans (wc_at m c t ht cc l b s hs _ rfl _)

theorem Bgi (r : Fin 4) (R : Fin 32) (hR : R.val = 0 + r.val) : (MixOuts.Bt m c t).g cc (ix3 0 R l) = m ((c : Thread nD τ).loc main_arg8) (ix3 b s r) :=
  (View.ld_unit_apply_of _ _ _ _ _ (ix3 cc R l) (fun x => by
    match x with
    | ⟨0, _⟩ => rfl
    | ⟨1, _⟩ => exact (Nat.zero_add _).symm
    | ⟨2, _⟩ => exact (Nat.zero_add _).symm)).trans (gi_at m c t ht cc l b s hs r R hR)

theorem Bgf (r : Fin 4) (R : Fin 32) (hR : R.val = 4 + r.val) : (MixOuts.Bt m c t).g cc (ix3 0 R l) = m ((c : Thread nD τ).loc main_arg9) (ix3 b s r) :=
  (View.ld_unit_apply_of _ _ _ _ _ (ix3 cc R l) (fun x => by
    match x with
    | ⟨0, _⟩ => rfl
    | ⟨1, _⟩ => exact (Nat.zero_add _).symm
    | ⟨2, _⟩ => exact (Nat.zero_add _).symm)).trans (gf_at m c t ht cc l b s hs r R hR)

theorem Bgd (r : Fin 16) (R : Fin 32) (hR : R.val = 8 + r.val) : (MixOuts.Bt m c t).g cc (ix3 0 R l) = m ((c : Thread nD τ).loc main_arg10) (ix3 b s r) :=
  (View.ld_unit_apply_of _ _ _ _ _ (ix3 cc R l) (fun x => by
    match x with
    | ⟨0, _⟩ => rfl
    | ⟨1, _⟩ => exact (Nat.zero_add _).symm
    | ⟨2, _⟩ => exact (Nat.zero_add _).symm)).trans (gd_at m c t ht cc l b s hs r R hR)

end

theorem Bnw (g : Fin 2) (r : Fin 512) (l : Fin 128) : (MixOuts.Bt m c t).nw g (ix2 r l) = m ((c : Thread nD τ).loc main_arg11) (ix1 (⟨512 * g.val + r.val, by omega⟩ : Fin 1024)) :=
  (View.ld_unit_apply_of _ _ _ _ _ (ix2 (⟨512 * g.val + r.val, by omega⟩ : Fin 1024) l) (fun x => by
    match x with
    | ⟨0, _⟩ => rfl
    | ⟨1, _⟩ => exact (Nat.zero_add _).symm)).trans (wn_at m c t _ _)

theorem Bds (g : Fin 2) (r8 : Fin 8) (p : Fin 64) (l : Fin 128) : (MixOuts.Bt m c t).ds g r8 (ix2 p l) = m ((c : Thread nD τ).loc main_arg12) (ix1 (⟨8 * g.val + r8.val, by omega⟩ : Fin 16)) :=
  (View.ld_unit_apply_of _ _ _ _ _ (ix2 (⟨64 * (8 * g.val + r8.val) + p.val, by omega⟩ : Fin 1024) l) (fun x => by
    match x with
    | ⟨0, _⟩ => rfl
    | ⟨1, _⟩ => exact (Nat.zero_add _).symm)).trans (wd_at m c t _ _ (⟨8 * g.val + r8.val, by omega⟩ : Fin 16) p rfl)

theorem Bal (h : Fin 16) (l : Fin 128) : (MixOuts.Bt m c t).al (ix2 h l) = m ((c : Thread nD τ).loc main_arg13) (ix1 h) :=
  (View.ld_unit_apply_of _ _ _ _ _ (ix2 h l) (fun x => by
    match x with
    | ⟨0, _⟩ => exact (Nat.zero_add _).symm
    | ⟨1, _⟩ => exact (Nat.zero_add _).symm)).trans (wa_at m c t _ _)

end Cert.KernelIdeal.MixReads

end
-- ==== Proof.MixElem.lean ====
/- One chunk's operations read at an index, over the extended reals. -/
module

public import proofs.«01_k».proof.Proof.Pieces
public import Idealize.ShloMosaic.Lib.Pointwise
public import Idealize.ShloMosaic.Lib.MatmulPlain
public import Idealize.ShloMosaic.PureOps.Ideal.Laws

@[expose] public section

set_option maxRecDepth 16384

noncomputable section

namespace Cert.KernelIdeal.MixElem

open Idealize.ShloMosaic Idealize.ShloMosaic.TcCoe Idealize.SL.Sem Cert.KernelIdeal Cert.KernelIdeal.Gen Cert.KernelIdeal.Step

theorem log2e_eq : (Named.named κ "log2_e" 0x3FB8AA3B#32 : Ideal .f32) = (((Real.log 2)⁻¹ : ℝ) : EReal) := rfl
theorem nlog2e_eq : (Named.named κ "neg_log2_e" 0xBFB8AA3B#32 : Ideal .f32) = ((-((Real.log 2)⁻¹) : ℝ) : EReal) := rfl

theorem negInf_eq : Ideal.ofBits .f32 0xFF800000#32 = ⊥ := by simp [Ideal.ofBits, Ideal.ieee, -EReal.coe_mul] <;> norm_num
theorem one_eq : Ideal.ofBits .f32 0x3F800000#32 = 1 := by simp [Ideal.ofBits, Ideal.ieee, -EReal.coe_mul] <;> norm_num
theorem one_eq' : Ideal.ofBits .bf16 0x3F80#16 = 1 := by simp [Ideal.ofBits, Ideal.ieee, -EReal.coe_mul] <;> norm_num
theorem zero_eq : Ideal.ofBits .f32 0x00000000#32 = 0 := by simp [Ideal.ofBits, Ideal.ieee, -EReal.coe_mul] <;> norm_num
theorem c256_eq : Ideal.ofBits .f32 0x43800000#32 = ((256 : ℝ) : EReal) := by simp [Ideal.ofBits, Ideal.ieee, -EReal.coe_mul] <;> norm_num

theorem causal_at (s t : Fin 128) : k0_pay6 (ix2 s t) = if s ≤ t then 1#1 else 0#1 := by
  unfold k0_pay6
  pointwise
  show BitVec.ofBool (decide ((BitVec.ofNat 32 s.val).toInt ≤ (BitVec.ofNat 32 t.val).toInt)) = _
  have e (n : Fin 128) : (BitVec.ofNat 32 n.val).toInt = n.val := by
    rw [BitVec.toInt_eq_toNat_cond, BitVec.toNat_ofNat, Nat.mod_eq_of_lt (by omega), if_pos (by omega)]
  rw [e, e]
  by_cases h : s ≤ t
  · rw [if_pos h, decide_eq_true (by exact_mod_cast h)]; rfl
  · rw [if_neg h, decide_eq_false (by exact_mod_cast h)]; rfl

theorem upper_at (s t : Fin 128) : (k0_pay7 : FVec Ideal S128x128 .f32) (ix2 s t) = if s ≤ t then 1 else 0 := by
  unfold k0_pay7
  pointwise
  rw [causal_at]
  by_cases h : s ≤ t
  · rw [if_pos h, if_pos h]; rfl
  · rw [if_neg h, if_neg h]; rfl

theorem scale_lo (al : FVec Ideal S16x128 .f32) (r : Fin 8) (l : Fin 128) (R : Fin 32) (hR : R.val = r.val) :
    k0_pay8 (F := Ideal) al (ix2 R l) = ((((Real.log 2)⁻¹ : ℝ) : EReal) : Ideal .f32) := by
  unfold k0_pay8
  simp only [shapeCast_self]
  obtain ⟨R, _⟩ := R
  obtain rfl : R = r.val := hR
  pointwise
  exact log2e_eq

theorem scale_mid (al : FVec Ideal S16x128 .f32) (r : Fin 16) (l : Fin 128) (R : Fin 32) (hR : R.val = 8 + r.val) :
    k0_pay8 (F := Ideal) al (ix2 R l) = (((-((Real.log 2)⁻¹) : ℝ) : EReal) : Ideal .f32) * FloatOps.exp (F := Ideal) (φ := .f32) (al (ix2 r l)) := by
  unfold k0_pay8
  simp only [shapeCast_self]
  pointwise
  rw [dif_neg (by omega), dif_pos (by omega), nlog2e_eq]
  refine congrArg (fun a => _ * Ideal.exp (al (ix2 a l))) (Fin.ext ?_)
  dsimp only
  omega

theorem cum_at (al : FVec Ideal S16x128 .f32) (g : Fin 4 → FVec Ideal S1x32x128 .f32) (c : Fin 4) (r : Fin 32) (l : Fin 128) (R : Fin 128) (hR : R.val = 32 * c.val + r.val) :
    cum al g (ix2 R l) = ∑ k : Fin 128, (g c (ix3 0 r k) * k0_pay8 al (ix2 r k)) * (if k ≤ l then 1 else 0) := by
  unfold cum k0_pay9 k0_pay10 k0_pay11
  pointwise
  refine Finset.sum_congr rfl fun k _ => ?_
  rw [upper_at]
  obtain ⟨R, _⟩ := R
  obtain rfl : R = 32 * c.val + r.val := hR
  congr 1
  fin_cases c
  all_goals
    repeat (first | rw [dif_neg (by dsimp only; omega)] | rw [dif_pos (by dsimp only; omega)])
    refine congrArg (fun a : Fin 32 => g _ (ix3 0 a k) * k0_pay8 (F := Ideal) al (ix2 a k)) (Fin.ext ?_)
    dsimp only
    omega

theorem uMsk_at (u : FVec Ideal S1x128 .f32) (s t : Fin 128) : uMsk u (ix2 s t) = if s ≤ t then u (ix2 0 s) else ⊥ := by
  unfold uMsk colOf negInf
  simp only [shapeCast_self]
  pointwise
  rw [causal_at]
  by_cases h : s ≤ t
  · rw [if_pos h, if_pos h]; rfl
  · rw [if_neg h, if_neg h]; rfl

theorem mm_at (u : FVec Ideal S1x128 .f32) (mp : FVec Ideal S1x1x128 .f32) (t : Fin 128) :
    mm u mp (ix2 0 t) = max (mp (ix3 0 0 0)) ((Finset.univ : Finset (Fin 128)).fold max ⊥ fun s => if s ≤ t then u (ix2 0 s) else ⊥) := by
  unfold mm mPrev
  pointwise
  rw [negInf_eq]
  refine congrArg (fun f => max _ (Finset.fold max ⊥ f Finset.univ)) (funext fun s => ?_)
  rw [uMsk_at]

theorem stM_at (q : FVec Ideal S1x128x128 .bf16) (k : FVec Ideal S128x128 .bf16) (u : FVec Ideal S1x128 .f32) (mp : FVec Ideal S1x1x128 .f32) (s t : Fin 128) :
    Step.stM q k u mp (ix2 s t) = (∑ d : Fin 128, k (ix2 s d) * q (ix3 0 d t)) *
      FloatOps.exp2 (F := Ideal) (φ := .f32) ((if s ≤ t then u (ix2 0 s) else ⊥) - mm u mp (ix2 0 t)) := by
  unfold Step.stM kMat qMat
  simp only [shapeCast_self]
  pointwise
  rw [uMsk_at]

theorem vAug_lo (v : FVec Ideal S1x256x128 .bf16) (r : Fin 256) (s : Fin 128) (R : Fin 272) (hR : R.val = r.val) : vAug v (ix2 R s) = v (ix3 0 r s) := by
  unfold vAug
  obtain ⟨R, _⟩ := R
  obtain rfl : R = r.val := hR
  pointwise

theorem vAug_hi (v : FVec Ideal S1x256x128 .bf16) (s : Fin 128) (R : Fin 272) (hR : 256 ≤ R.val) : vAug v (ix2 R s) = 1 := by
  unfold vAug
  pointwise
  rw [dif_neg (by omega)]

theorem numAug_at (q : FVec Ideal S1x128x128 .bf16) (k : FVec Ideal S128x128 .bf16) (v : FVec Ideal S1x256x128 .bf16) (u : FVec Ideal S1x128 .f32) (mp : FVec Ideal S1x1x128 .f32)
    (cp : FVec Ideal S1x272x128 .f32) (r : Fin 272) (t : Fin 128) :
    numAug q k v u mp cp (ix2 r t) = (∑ s : Fin 128, vAug v (ix2 r s) * Step.stM q k u mp (ix2 s t)) +
      ∑ d : Fin 128, cp (ix3 0 r d) * (q (ix3 0 d t) * isc u mp (ix2 0 t)) := by
  unfold numAug ctM qMat
  pointwise

theorem isc_at (u : FVec Ideal S1x128 .f32) (mp : FVec Ideal S1x1x128 .f32) (t : Fin 128) :
    isc u mp (ix2 0 t) = FloatOps.exp2 (F := Ideal) (φ := .f32) (mp (ix3 0 0 0) - mm u mp (ix2 0 t)) := by
  unfold isc mPrev
  pointwise

theorem ctNew_at (k : FVec Ideal S128x128 .bf16) (v : FVec Ideal S1x256x128 .bf16) (u : FVec Ideal S1x128 .f32) (mp : FVec Ideal S1x1x128 .f32)
    (cp : FVec Ideal S1x272x128 .f32) (r : Fin 272) (d : Fin 128) :
    ctNew k v u mp cp (ix3 0 r d) = isc u mp (ix2 0 127) * cp (ix3 0 r d) +
      ∑ s : Fin 128, vAug v (ix2 r s) * (k (ix2 s d) * FloatOps.exp2 (F := Ideal) (φ := .f32) (u (ix2 0 s) - mm u mp (ix2 0 127))) := by
  unfold ctNew ctM kMat colOf mmLast
  simp only [shapeCast_self]
  pointwise

theorem mNew_at (b u : FVec Ideal S1x128 .f32) (mp : FVec Ideal S1x1x128 .f32) (l : Fin 128) :
    mNew b u mp (ix3 0 0 l) = b (ix2 0 127) + mm u mp (ix2 0 127) := by
  unfold mNew mmLast
  simp only [shapeCast_self]
  pointwise

theorem rden_at (na : FVec Ideal S272x128 .f32) (b u : FVec Ideal S1x128 .f32) (mp : FVec Ideal S1x1x128 .f32) (t : Fin 128) :
    rden na b u mp (ix2 0 t) = Ideal.div 1 (max (FloatOps.absf (F := Ideal) (φ := .f32) (na (ix2 256 t)))
      (FloatOps.exp2 (F := Ideal) (φ := .f32) (0 - (b (ix2 0 t) + mm u mp (ix2 0 t))))) := by
  unfold rden
  pointwise

theorem msqM_at (na : FVec Ideal S272x128 .f32) (t : Fin 128) :
    msqM na (ix2 0 t) = Ideal.div (∑ v : Fin 256, na (ix2 (⟨v.val, by omega⟩ : Fin 272) t) * na (ix2 (⟨v.val, by omega⟩ : Fin 272) t)) ((256 : ℝ) : EReal) := by
  unfold msqM numM
  pointwise
  rw [c256_eq]

theorem outM_at (na : FVec Ideal S272x128 .f32) (b u : FVec Ideal S1x128 .f32) (mp : FVec Ideal S1x1x128 .f32) (o : FVec Ideal S1x256x128 .bf16) (v : Fin 256) (t : Fin 128) :
    outM na b u mp o (ix4 0 0 v t) = (na (ix2 (⟨v.val, by omega⟩ : Fin 272) t) * (rden na b u mp (ix2 0 t) *
      Ideal.rsqrt ((rden na b u mp (ix2 0 t) * rden na b u mp (ix2 0 t)) * msqM na (ix2 0 t) + Ideal.ofBits .f32 0x358637BD#32))) * o (ix3 0 v t) := by
  unfold outM numM
  pointwise

theorem cumC_at (cu : FVec Ideal S128x128 .f32) (c : Fin 4) (r : Fin 32) (t : Fin 128) (R : Fin 128) (hR : R.val = 32 * c.val + r.val) : cumC cu c (ix2 r t) = cu (ix2 R t) := by
  unfold cumC
  obtain ⟨R, _⟩ := R
  obtain rfl : R = 32 * c.val + r.val := hR
  pointwise

theorem bR_at (cu : FVec Ideal S128x128 .f32) (c h : Fin 4) (t : Fin 128) : row4 (bAll cu c) h (ix2 0 t) = cumC cu c (ix2 (⟨4 + h.val, by omega⟩ : Fin 32) t) := by
  unfold row4 bAll
  pointwise

theorem uR_at (cu : FVec Ideal S128x128 .f32) (g : FVec Ideal S1x32x128 .f32) (c h : Fin 4) (t : Fin 128) : row4 (uAll cu c g) h (ix2 0 t) =
    g (ix3 0 (⟨h.val, by omega⟩ : Fin 32) t) * (((Real.log 2)⁻¹ : ℝ) : EReal) - cumC cu c (ix2 (⟨4 + h.val, by omega⟩ : Fin 32) t) := by
  unfold row4 uAll bAll
  pointwise
  rw [log2e_eq]

theorem aR_at (cu : FVec Ideal S128x128 .f32) (c : Fin 4) (i : Fin 16) (t : Fin 128) : row16 (aCum cu c) i (ix2 0 t) = cumC cu c (ix2 (⟨8 + i.val, by omega⟩ : Fin 32) t) := by
  unfold row16 aCum
  pointwise
theorem dR_at (g : FVec Ideal S1x32x128 .f32) (i : Fin 16) (t : Fin 128) : row16 (dtA g) i (ix2 0 t) = g (ix3 0 (⟨8 + i.val, by omega⟩ : Fin 32) t) := by
  unfold row16 dtA
  pointwise
theorem eaR_at (cu : FVec Ideal S128x128 .f32) (c : Fin 4) (i : Fin 16) (t : Fin 128) : row16 (eaA cu c) i (ix2 0 t) =
    FloatOps.exp2 (F := Ideal) (φ := .f32) (cumC cu c (ix2 (⟨8 + i.val, by omega⟩ : Fin 32) t)) := by
  unfold row16 eaA aCum
  pointwise
theorem eR_at (cu : FVec Ideal S128x128 .f32) (c : Fin 4) (i : Fin 16) (t : Fin 128) : row16 (dEnd cu c) i (ix2 0 t) =
    FloatOps.exp2 (F := Ideal) (φ := .f32) (cumC cu c (ix2 (⟨8 + i.val, by omega⟩ : Fin 32) 127) - cumC cu c (ix2 (⟨8 + i.val, by omega⟩ : Fin 32) t)) := by
  unfold row16 dEnd aLast aCum
  pointwise
theorem cR_at (cu : FVec Ideal S128x128 .f32) (c : Fin 4) (i : Fin 16) : row16s (cDec cu c) i (ix2 0 0) =
    FloatOps.exp2 (F := Ideal) (φ := .f32) (cumC cu c (ix2 (⟨8 + i.val, by omega⟩ : Fin 32) 127)) := by
  unfold row16s cDec aLast aCum
  pointwise

theorem xdt_at (x : FVec Ideal S1x64x128 .bf16) (dr : FVec Ideal S1x128 .f32) (p : Fin 64) (t : Fin 128) : xdt x dr (ix2 p t) = x (ix3 0 p t) * dr (ix2 0 t) := by
  unfold xdt xM
  pointwise

theorem yd_at (b c : FVec Ideal S128x128 .bf16) (x : FVec Ideal S1x64x128 .bf16) (ar dr : FVec Ideal S1x128 .f32) (p : Fin 64) (t : Fin 128) :
    yd b c x ar dr (ix2 p t) = ∑ s : Fin 128, (x (ix3 0 p s) * dr (ix2 0 s)) * ((∑ n : Fin 128, b (ix2 s n) * c (ix2 t n)) *
      FloatOps.exp2 (F := Ideal) (φ := .f32) (if s ≤ t then ar (ix2 0 t) - ar (ix2 0 s) else ⊥)) := by
  unfold yd cbt decay colOf kMat negInf
  simp only [shapeCast_self]
  pointwise
  refine Finset.sum_congr rfl fun s _ => ?_
  rw [xdt_at, causal_at, negInf_eq]
  by_cases h : s ≤ t
  · rw [if_pos h, if_pos h]; rfl
  · rw [if_neg h, if_neg h]; rfl

theorem yOff_at (c : FVec Ideal S128x128 .bf16) (hg : FVec Ideal S1x512x128 .f32) (p : Fin 512) (t : Fin 128) :
    yOff c hg (ix2 p t) = ∑ n : Fin 128, hg (ix3 0 p n) * c (ix2 t n) := by
  unfold yOff hM kMat
  simp only [shapeCast_self]
  pointwise

theorem rows64_at (a : FVec Ideal S512x128 .f32) (r : Fin 8) (p : Fin 64) (t : Fin 128) (P : Fin 512) (hP : P.val = 64 * r.val + p.val) : rows64 a r (ix2 p t) = a (ix2 P t) := by
  unfold rows64
  obtain ⟨P, _⟩ := P
  obtain rfl : P = 64 * r.val + p.val := hP
  pointwise

theorem cat8_at {φ : FTy} (f : Fin 8 → FVec Ideal S64x128 φ) (r : Fin 8) (p : Fin 64) (t : Fin 128) (P : Fin 512) (hP : P.val = 64 * r.val + p.val) : cat8 f (ix2 P t) = f r (ix2 p t) := by
  unfold cat8
  obtain ⟨P, _⟩ := P
  obtain rfl : P = 64 * r.val + p.val := hP
  fin_cases r <;> pointwise
  all_goals
    repeat (first | rw [dif_neg (by omega)] | rw [dif_pos (by omega)])
    refine congrArg (fun a => f _ (ix2 a t)) (Fin.ext ?_)
    dsimp only
    omega

theorem upd_at (b : FVec Ideal S128x128 .bf16) (x : Fin 8 → FVec Ideal S1x64x128 .bf16) (dr er : Fin 8 → FVec Ideal S1x128 .f32) (r : Fin 8) (p : Fin 64) (n : Fin 128) (P : Fin 512) (hP : P.val = 64 * r.val + p.val) :
    upd b x dr er (ix2 P n) = ∑ s : Fin 128, ((x r (ix3 0 p s) * dr r (ix2 0 s)) * er r (ix2 0 s)) * b (ix2 s n) := by
  unfold upd kMat
  simp only [shapeCast_self]
  pointwise
  refine Finset.sum_congr rfl fun s _ => ?_
  rw [cat8_at _ r p s P hP]
  unfold xd
  pointwise
  rw [xdt_at]

theorem hNew_at (b : FVec Ideal S128x128 .bf16) (x : Fin 8 → FVec Ideal S1x64x128 .bf16) (dr er : Fin 8 → FVec Ideal S1x128 .f32) (cd : FVec Ideal S1x1 .f32) (hg : FVec Ideal S1x512x128 .f32)
    (r : Fin 8) (p : Fin 64) (n : Fin 128) (P : Fin 512) (hP : P.val = 64 * r.val + p.val) :
    hNew b x dr er cd hg r (ix3 0 p n) = cd (ix2 0 0) * hg (ix3 0 P n) + ∑ s : Fin 128, ((x r (ix3 0 p s) * dr r (ix2 0 s)) * er r (ix2 0 s)) * b (ix2 s n) := by
  unfold hNew hM
  pointwise
  rw [rows64_at _ r p n P hP, rows64_at _ r p n P hP, upd_at b x dr er r p n P hP]
  pointwise

theorem yM_at (b c : FVec Ideal S128x128 .bf16) (x z : FVec Ideal S1x64x128 .bf16) (ar dr ear : FVec Ideal S1x128 .f32) (dsk : FVec Ideal S64x128 .f32) (hg : FVec Ideal S1x512x128 .f32)
    (r : Fin 8) (p : Fin 64) (t : Fin 128) (P : Fin 512) (hP : P.val = 64 * r.val + p.val) :
    yM b c x z ar dr ear dsk hg r (ix2 p t) = (yd b c x ar dr (ix2 p t) + (∑ n : Fin 128, hg (ix3 0 P n) * c (ix2 t n)) * ear (ix2 0 t) + dsk (ix2 p t) * x (ix3 0 p t)) * z (ix3 0 p t) := by
  unfold yM xM
  simp only [shapeCast_self]
  pointwise
  rw [rows64_at _ r p t P hP, yOff_at]

theorem outS_at (y nw : FVec Ideal S512x128 .f32) (p : Fin 512) (t : Fin 128) :
    outS y nw (ix4 0 0 p t) = (y (ix2 p t) * Ideal.rsqrt (Ideal.div (∑ k : Fin 512, y (ix2 k t) * y (ix2 k t)) (Ideal.ofBits .f32 0x44000000#32) + Ideal.ofBits .f32 0x358637BD#32)) * nw (ix2 p t) := by
  unfold outS
  simp only [shapeCast_self]
  pointwise

theorem outT_at (acc : FVec Ideal S512x1024 .f32) (w : FVec Ideal S1x1024 .f32) (r : Fin 512) (j : Fin 1024) :
    outT acc w (ix2 r j) = (acc (ix2 r j) * Ideal.rsqrt (Ideal.div (∑ k : Fin 1024, acc (ix2 r k) * acc (ix2 r k)) (Ideal.ofBits .f32 0x44800000#32) + Ideal.ofBits .f32 0x358637BD#32)) * w (ix2 0 j) := by
  unfold outT
  simp only [shapeCast_self]
  pointwise

theorem pay16_at (v : FVec Ideal S1x2048x128 .bf16) (l : Fin 128) (d : Fin 2048) : k0_pay16 v (ix2 l d) = v (ix3 0 d l) := by
  unfold k0_pay16
  simp only [shapeCast_self]
  pointwise

theorem pay17_at (x : FVec Ideal S512x256 .f32) (a : FVec Ideal S512x2048 .bf16) (w : FVec Ideal S2048x256 .bf16) (r : Fin 512) (j : Fin 256) :
    k0_pay17 x a w (ix2 r j) = x (ix2 r j) + ∑ d : Fin 2048, a (ix2 r d) * w (ix2 d j) := by
  unfold k0_pay17
  simp only [shapeCast_self]
  pointwise

end Cert.KernelIdeal.MixElem

end
-- ==== Proof.MixReal.lean ====
/- One chunk over the reals: what the two recurrences carry, and what they give at each position, as sums over the sequence so far. -/
module

public import proofs.«01_k».proof.Proof.MixElem

@[expose] public section

set_option maxRecDepth 16384

noncomputable section

namespace Cert.KernelIdeal.MixReal

open Idealize.ShloMosaic Idealize.ShloMosaic.TcCoe Idealize.SL.Sem Cert.KernelIdeal Cert.KernelIdeal.Gen Cert.KernelIdeal.Step Cert.KernelIdeal.MixElem

/-! ### Real arithmetic in the extended reals -/

abbrev L : ℝ := (Real.log 2)⁻¹

theorem log2_ne : Real.log 2 ≠ 0 := (Real.log_pos (by norm_num)).ne'
theorem L_pos : 0 < L := inv_pos.mpr (Real.log_pos (by norm_num))

theorem exp2_L (x : ℝ) : (FloatOps.exp2 (F := Ideal) (φ := .f32) ((L * x : ℝ) : EReal) : EReal) = ((Real.exp x : ℝ) : EReal) := by
  show ((Real.rpow 2 (L * x) : ℝ) : EReal) = _
  refine congrArg _ ?_
  show (2 : ℝ) ^ (L * x) = _
  rw [Real.rpow_def_of_pos (by norm_num), ← mul_assoc, mul_inv_cancel₀ log2_ne, one_mul]

theorem exp2_bot' : (FloatOps.exp2 (F := Ideal) (φ := .f32) (⊥ : EReal) : EReal) = ((0 : ℝ) : EReal) := rfl
theorem exp_coe' (x : ℝ) : (FloatOps.exp (F := Ideal) (φ := .f32) (x : EReal) : EReal) = ((Real.exp x : ℝ) : EReal) := rfl

theorem coe_sum {ι : Type} (s : Finset ι) (f : ι → ℝ) : (∑ i ∈ s, (f i : EReal)) = ((∑ i ∈ s, f i : ℝ) : EReal) := by
  classical
  induction s using Finset.induction_on with
  | empty => rfl
  | insert a s ha ih => rw [Finset.sum_insert ha, Finset.sum_insert ha, ih, EReal.coe_add]

theorem sum_coe {ι : Type} (s : Finset ι) (g : ι → EReal) (f : ι → ℝ) (h : ∀ i ∈ s, g i = (f i : EReal)) : (∑ i ∈ s, g i) = ((∑ i ∈ s, f i : ℝ) : EReal) :=
  (Finset.sum_congr rfl h).trans (coe_sum s f)

theorem coe_max (a b : ℝ) : max (a : EReal) (b : EReal) = ((max a b : ℝ) : EReal) :=
  (EReal.coe_strictMono.monotone.map_max).symm

theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- A sum over a chunk up to a position. -/
theorem sum_upto (g : ℕ → ℝ) (t : Fin 128) : (∑ s : Fin 128, if s ≤ t then g s.val else 0) = ∑ s ∈ Finset.range (t.val + 1), g s := by
  rw [← Finset.sum_filter]
  refine Finset.sum_bij' (fun s _ => s.val) (fun s hs => ⟨s, by have := Finset.mem_range.mp hs; omega⟩) ?_ ?_ ?_ ?_ ?_
  · intro s hs
    have : s ≤ t := (Finset.mem_filter.mp hs).2
    exact Finset.mem_range.mpr (by have : s.val ≤ t.val := this; omega)
  · intro s hs
    have := Finset.mem_range.mp hs
    exact Finset.mem_filter.mpr ⟨Finset.mem_univ _, by show s ≤ t.val; omega⟩
  · intros; rfl
  · intros; rfl
  · intros; rfl

theorem sum_all (g : ℕ → ℝ) : (∑ s : Fin 128, g s.val) = ∑ s ∈ Finset.range 128, g s := Fin.sum_univ_eq_sum_range g 128

/-! ### The matrix memory -/

/-- A head's gates, keys, queries and values by position. -/
structure MSeq where
  f : ℕ → ℝ
  i : ℕ → ℝ
  q : ℕ → Fin 128 → ℝ
  k : ℕ → Fin 128 → ℝ
  v : ℕ → Fin 256 → ℝ

namespace MSeq
variable (D : MSeq)

def Fp (n : ℕ) : ℝ := ∑ s ∈ Finset.range n, D.f s
def G (s : ℕ) : ℝ := D.i s - D.Fp (s + 1)
def Hp : ℕ → ℝ
  | 0 => 0
  | n + 1 => max (Hp n) (D.G n)
def vx (r : Fin 272) (s : ℕ) : ℝ := if h : r.val < 256 then D.v s ⟨r.val, h⟩ else 1
def kq (s t : ℕ) : ℝ := ∑ d : Fin 128, D.k s d * D.q t d

/-- The stabiliser and the memory before position `n`. -/
def M (n : ℕ) : ℝ := L * (D.Fp n + D.Hp n)
def C (n : ℕ) (r : Fin 272) (d : Fin 128) : ℝ := ∑ s ∈ Finset.range n, D.vx r s * D.k s d * Real.exp (D.G s - D.Hp n)

/-- The numerators and, for the last rows, the denominators at position `t`. -/
def num (r : Fin 272) (t : ℕ) : ℝ := ∑ s ∈ Finset.range (t + 1), D.vx r s * (D.kq s t * Real.exp (D.G s - D.Hp (t + 1)))
def den (t : ℕ) : ℝ := max |D.num 256 t| (Real.exp (-(D.Fp (t + 1) + D.Hp (t + 1))))
def out (v : Fin 256) (t : ℕ) : ℝ := D.num ⟨v.val, by omega⟩ t / D.den t

theorem den_pos (t : ℕ) : 0 < D.den t := lt_of_lt_of_le (Real.exp_pos _) (le_max_right _ _)

end MSeq

/-- The blocks of a chunk that starts at position `n`. -/
structure MChunk (D : MSeq) (n : ℕ) (q : FVec Ideal S1x128x128 .bf16) (k : FVec Ideal S128x128 .bf16) (v : FVec Ideal S1x256x128 .bf16)
    (b u : FVec Ideal S1x128 .f32) : Prop where
  hq : ∀ d t, q (ix3 0 d t) = ((D.q (n + t.val) d : ℝ) : EReal)
  hk : ∀ s d, k (ix2 s d) = ((D.k (n + s.val) d : ℝ) : EReal)
  hv : ∀ r s, v (ix3 0 r s) = ((D.v (n + s.val) r : ℝ) : EReal)
  hb : ∀ l, b (ix2 0 l) = ((L * (D.Fp (n + l.val + 1) - D.Fp n) : ℝ) : EReal)
  hu : ∀ l, u (ix2 0 l) = ((L * (D.G (n + l.val) + D.Fp n) : ℝ) : EReal)

section
variable {D : MSeq} {n : ℕ} {q : FVec Ideal S1x128x128 .bf16} {k : FVec Ideal S128x128 .bf16} {v : FVec Ideal S1x256x128 .bf16}
  {b u : FVec Ideal S1x128 .f32} (H : MChunk D n q k v b u)
include H
variable {mp : FVec Ideal S1x1x128 .f32} (hm : mp (ix3 0 0 0) = ((D.M n : ℝ) : EReal))
include hm

theorem mm_real (t : Fin 128) : mm u mp (ix2 0 t) = ((L * (D.Fp n + D.Hp (n + t.val + 1)) : ℝ) : EReal) := by
  have key (c : EReal) (j : ℕ) : ((L * (D.Fp n + D.Hp (n + j)) : ℝ) : EReal) ≤ c ↔ ((L * (D.Fp n + D.Hp n) : ℝ) : EReal) ≤ c ∧ ∀ s < j, ((L * (D.G (n + s) + D.Fp n) : ℝ) : EReal) ≤ c := by
    induction j with
    | zero => simp
    | succ j ih =>
      have e : L * (D.Fp n + D.Hp (n + (j + 1))) = max (L * (D.Fp n + D.Hp (n + j))) (L * (D.G (n + j) + D.Fp n)) := by
        show L * (D.Fp n + max (D.Hp (n + j)) (D.G (n + j))) = _
        rw [← max_add_add_left, mul_max_of_nonneg _ _ L_pos.le, add_comm (D.Fp n) (D.G (n + j))]
      rw [e, ← coe_max, max_le_iff, ih]
      constructor
      · rintro ⟨⟨h1, h2⟩, h3⟩
        refine ⟨h1, fun s hs => ?_⟩
        rcases Nat.lt_succ_iff_lt_or_eq.mp hs with h | rfl
        · exact h2 s h
        · exact h3
      · rintro ⟨h1, h2⟩
        exact ⟨⟨h1, fun s hs => h2 s (by omega)⟩, h2 j (by omega)⟩
  rw [mm_at]
  refine eq_of_forall_ge_iff fun c => ?_
  rw [max_le_iff, Finset.fold_max_le, add_assoc, key, hm]
  refine and_congr Iff.rfl ⟨fun h s hs => ?_, fun h => ⟨bot_le, fun s _ => ?_⟩⟩
  · have := h.2 ⟨s, by omega⟩ (Finset.mem_univ _)
    rw [if_pos (show (⟨s, by omega⟩ : Fin 128) ≤ t by show s ≤ t.val; omega), H.hu] at this
    exact this
  · by_cases hs : s ≤ t
    · rw [if_pos hs, H.hu]
      exact h s.val (by have : s.val ≤ t.val := hs; omega)
    · rw [if_neg hs]; exact bot_le

theorem isc_real (t : Fin 128) : isc u mp (ix2 0 t) = ((Real.exp (D.Hp n - D.Hp (n + t.val + 1)) : ℝ) : EReal) := by
  rw [isc_at, mm_real H hm, hm, ← EReal.coe_sub, MSeq.M, ← mul_sub, exp2_L]
  congr 2
  ring

theorem st_real (s t : Fin 128) : Step.stM q k u mp (ix2 s t) =
    (((D.kq (n + s.val) (n + t.val) * if s ≤ t then Real.exp (D.G (n + s.val) - D.Hp (n + t.val + 1)) else 0 : ℝ)) : EReal) := by
  rw [stM_at, mm_real H hm, sum_coe _ _ (fun d => D.k (n + s.val) d * D.q (n + t.val) d) (fun d _ => by rw [H.hk, H.hq, EReal.coe_mul]), EReal.coe_mul (D.kq (n + s.val) (n + t.val))]
  refine congrArg (((D.kq (n + s.val) (n + t.val) : ℝ) : EReal) * ·) ?_
  by_cases h : s ≤ t
  · rw [if_pos h, if_pos h, H.hu, ← EReal.coe_sub, ← mul_sub, exp2_L]
    congr 2
    ring
  · rw [if_neg h, if_neg h, EReal.bot_sub]
    exact exp2_bot'

omit hm in
theorem vx_real (r : Fin 272) (s : Fin 128) : vAug v (ix2 r s) = ((D.vx r (n + s.val) : ℝ) : EReal) := by
  unfold MSeq.vx
  by_cases h : r.val < 256
  · rw [dif_pos h, vAug_lo v ⟨r.val, h⟩ s r rfl, H.hv]
  · rw [dif_neg h, vAug_hi v s r (by omega)]; rfl

variable {cp : FVec Ideal S1x272x128 .f32} (hc : ∀ r d, cp (ix3 0 r d) = ((D.C n r d : ℝ) : EReal))
include hc

theorem num_real (r : Fin 272) (t : Fin 128) : numAug q k v u mp cp (ix2 r t) = ((D.num r (n + t.val) : ℝ) : EReal) := by
  rw [numAug_at, sum_coe _ _ (fun s : Fin 128 => if s ≤ t then D.vx r (n + s.val) * (D.kq (n + s.val) (n + t.val) * Real.exp (D.G (n + s.val) - D.Hp (n + t.val + 1))) else 0)
      (fun s _ => by
        rw [vx_real H, st_real H hm, ← EReal.coe_mul]
        by_cases h : s ≤ t
        · rw [if_pos h, if_pos h]
        · rw [if_neg h, if_neg h, mul_zero, mul_zero]),
    sum_coe _ _ (fun d => D.C n r d * (D.q (n + t.val) d * Real.exp (D.Hp n - D.Hp (n + t.val + 1)))) (fun d _ => by
      rw [hc, H.hq, isc_real H hm, EReal.coe_mul, EReal.coe_mul]),
    sum_upto (fun s => D.vx r (n + s) * (D.kq (n + s) (n + t.val) * Real.exp (D.G (n + s) - D.Hp (n + t.val + 1)))) t, ← EReal.coe_add]
  refine congrArg _ ?_
  unfold MSeq.num
  rw [add_assoc, Finset.sum_range_add _ n (t.val + 1), add_comm]
  refine congrArg₂ (fun x y : ℝ => x + y) ?_ rfl
  unfold MSeq.C
  simp only [Finset.sum_mul]
  rw [Finset.sum_comm]
  refine Finset.sum_congr rfl fun s _ => ?_
  unfold MSeq.kq
  rw [Finset.sum_mul, Finset.mul_sum]
  refine Finset.sum_congr rfl fun d _ => ?_
  have e : Real.exp (D.G s - D.Hp (n + (t.val + 1))) = Real.exp (D.G s - D.Hp n) * Real.exp (D.Hp n - D.Hp (n + t.val + 1)) := by
    rw [← Real.exp_add]; congr 1; rw [add_assoc]; ring
  rw [e]
  ring

theorem ct_real (r : Fin 272) (d : Fin 128) : ctNew k v u mp cp (ix3 0 r d) = ((D.C (n + 128) r d : ℝ) : EReal) := by
  rw [ctNew_at, isc_real H hm, hc, ← EReal.coe_mul, sum_coe _ _ (fun s : Fin 128 => D.vx r (n + s.val) * (D.k (n + s.val) d * Real.exp (D.G (n + s.val) - D.Hp (n + 128))))
      (fun s _ => by
        rw [vx_real H, H.hk, H.hu, mm_real H hm, ← EReal.coe_sub, ← mul_sub, exp2_L, ← EReal.coe_mul, ← EReal.coe_mul]
        congr 4
        show D.G (n + s.val) + D.Fp n - (D.Fp n + D.Hp (n + 127 + 1)) = _
        rw [show n + 127 + 1 = n + 128 from rfl]
        ring),
    sum_all (fun s => D.vx r (n + s) * (D.k (n + s) d * Real.exp (D.G (n + s) - D.Hp (n + 128)))), ← EReal.coe_add]
  refine congrArg _ ?_
  unfold MSeq.C
  rw [Finset.sum_range_add, Finset.mul_sum]
  refine congrArg₂ (· + ·) (Finset.sum_congr rfl fun s _ => ?_) (Finset.sum_congr rfl fun s _ => (mul_assoc _ _ _).symm)
  have e : Real.exp (D.G s - D.Hp (n + 128)) = Real.exp (D.G s - D.Hp n) * Real.exp (D.Hp n - D.Hp (n + 128)) := by
    rw [← Real.exp_add]; congr 1; ring
  rw [e]
  show Real.exp (D.Hp n - D.Hp (n + 128)) * _ = _
  ring

omit hc in
theorem m_real (l : Fin 128) : mNew b u mp (ix3 0 0 l) = ((D.M (n + 128) : ℝ) : EReal) := by
  rw [mNew_at, H.hb, mm_real H hm, ← EReal.coe_add]
  refine congrArg _ ?_
  show L * (D.Fp (n + 128) - D.Fp n) + L * (D.Fp n + D.Hp (n + 128)) = L * (D.Fp (n + 128) + D.Hp (n + 128))
  ring

theorem rden_real (t : Fin 128) : rden (numAug q k v u mp cp) b u mp (ix2 0 t) = (((D.den (n + t.val))⁻¹ : ℝ) : EReal) := by
  have e1 : (FloatOps.exp2 (F := Ideal) (φ := .f32) ((0 : EReal) - (b (ix2 0 t) + mm u mp (ix2 0 t))) : EReal) =
      ((Real.exp (-(D.Fp (n + t.val + 1) + D.Hp (n + t.val + 1))) : ℝ) : EReal) := by
    rw [H.hb, mm_real H hm, ← EReal.coe_add, ← EReal.coe_zero, ← EReal.coe_sub,
      show (0 : ℝ) - (L * (D.Fp (n + t.val + 1) - D.Fp n) + L * (D.Fp n + D.Hp (n + t.val + 1))) = L * (-(D.Fp (n + t.val + 1) + D.Hp (n + t.val + 1))) by ring, exp2_L]
  have e2 : (FloatOps.absf (F := Ideal) (φ := .f32) (numAug q k v u mp cp (ix2 256 t)) : EReal) = ((|D.num 256 (n + t.val)| : ℝ) : EReal) := by
    rw [num_real H hm hc]
    show max ((D.num 256 (n + t.val) : ℝ) : EReal) (-((D.num 256 (n + t.val) : ℝ) : EReal)) = _
    rw [← EReal.coe_neg, coe_max]
    rfl
  rw [rden_at, e1, e2, coe_max]
  show Ideal.div ((1 : ℝ) : EReal) ((D.den (n + t.val) : ℝ) : EReal) = _
  rw [div_coe _ _ (D.den_pos _).ne', one_div]

/-- A head's output: the weighted values over the weights' sum, normalised and gated. -/
theorem outM_real (o : FVec Ideal S1x256x128 .bf16) (w : Fin 256) (t : Fin 128) :
    outM (numAug q k v u mp cp) b u mp o (ix4 0 0 w t) = (((D.out w (n + t.val) : ℝ) : EReal) *
      Ideal.rsqrt ((((∑ x : Fin 256, D.out x (n + t.val) * D.out x (n + t.val)) / 256 : ℝ) : EReal) + Ideal.ofBits .f32 0x358637BD#32)) * o (ix3 0 w t) := by
  rw [outM_at, rden_real H hm hc, msqM_at, sum_coe _ _ (fun x : Fin 256 => D.num ⟨x.val, by omega⟩ (n + t.val) * D.num ⟨x.val, by omega⟩ (n + t.val))
    (fun x _ => by rw [num_real H hm hc, EReal.coe_mul]), div_coe _ _ (by norm_num), num_real H hm hc, ← EReal.coe_mul, ← EReal.coe_mul, ← mul_assoc, ← EReal.coe_mul]
  have e : (D.den (n + t.val))⁻¹ * (D.den (n + t.val))⁻¹ * ((∑ x : Fin 256, D.num ⟨x.val, by omega⟩ (n + t.val) * D.num ⟨x.val, by omega⟩ (n + t.val)) / 256) =
      (∑ x : Fin 256, D.out x (n + t.val) * D.out x (n + t.val)) / 256 := by
    rw [mul_div_assoc', Finset.mul_sum]
    refine congrArg (· / 256) (Finset.sum_congr rfl fun x _ => ?_)
    unfold MSeq.out
    rw [div_eq_mul_inv]
    ring
  rw [e]
  rfl

end

/-! ### The state space -/

/-- A head's decays, steps and inputs, and its group's input and output maps, by position. -/
structure SSeq where
  a : ℕ → ℝ
  dt : ℕ → ℝ
  x : ℕ → Fin 64 → ℝ
  b : ℕ → Fin 128 → ℝ
  c : ℕ → Fin 128 → ℝ

namespace SSeq
variable (D : SSeq)

def Ap (n : ℕ) : ℝ := ∑ s ∈ Finset.range n, D.a s
def bc (s t : ℕ) : ℝ := ∑ j : Fin 128, D.b s j * D.c t j
/-- The state before position `n`. -/
def H (n : ℕ) (p : Fin 64) (j : Fin 128) : ℝ := ∑ s ∈ Finset.range n, D.x s p * D.dt s * D.b s j * Real.exp (D.Ap n - D.Ap (s + 1))
def y (p : Fin 64) (t : ℕ) : ℝ := ∑ s ∈ Finset.range (t + 1), D.x s p * D.dt s * (D.bc s t * Real.exp (D.Ap (t + 1) - D.Ap (s + 1)))

end SSeq

theorem yd_real (D : SSeq) (n : ℕ) (b c : FVec Ideal S128x128 .bf16) (x : FVec Ideal S1x64x128 .bf16) (ar dr : FVec Ideal S1x128 .f32)
    (hx : ∀ p s, x (ix3 0 p s) = ((D.x (n + s.val) p : ℝ) : EReal)) (hb : ∀ s j, b (ix2 s j) = ((D.b (n + s.val) j : ℝ) : EReal))
    (hc : ∀ s j, c (ix2 s j) = ((D.c (n + s.val) j : ℝ) : EReal)) (ha : ∀ l, ar (ix2 0 l) = ((L * (D.Ap (n + l.val + 1) - D.Ap n) : ℝ) : EReal))
    (hd : ∀ l, dr (ix2 0 l) = ((D.dt (n + l.val) : ℝ) : EReal)) (p : Fin 64) (t : Fin 128) :
    yd b c x ar dr (ix2 p t) = ((∑ s ∈ Finset.range (t.val + 1), D.x (n + s) p * D.dt (n + s) * (D.bc (n + s) (n + t.val) * Real.exp (D.Ap (n + t.val + 1) - D.Ap (n + s + 1))) : ℝ) : EReal) := by
  rw [yd_at, sum_coe _ _ (fun s : Fin 128 => if s ≤ t then D.x (n + s.val) p * D.dt (n + s.val) * (D.bc (n + s.val) (n + t.val) * Real.exp (D.Ap (n + t.val + 1) - D.Ap (n + s.val + 1))) else 0)
    (fun s _ => by
      rw [hx, hd, ← EReal.coe_mul, sum_coe _ _ (fun j => D.b (n + s.val) j * D.c (n + t.val) j) (fun j _ => by rw [hb, hc, EReal.coe_mul])]
      by_cases h : s ≤ t
      · rw [if_pos h, if_pos h, ha, ha, ← EReal.coe_sub, ← mul_sub, exp2_L, ← EReal.coe_mul, ← EReal.coe_mul,
          show D.Ap (n + t.val + 1) - D.Ap n - (D.Ap (n + s.val + 1) - D.Ap n) = D.Ap (n + t.val + 1) - D.Ap (n + s.val + 1) by ring]
        rfl
      · rw [if_neg h, if_neg h, exp2_bot', ← EReal.coe_mul, ← EReal.coe_mul, mul_zero, mul_zero]),
    sum_upto (fun s => D.x (n + s) p * D.dt (n + s) * (D.bc (n + s) (n + t.val) * Real.exp (D.Ap (n + t.val + 1) - D.Ap (n + s + 1)))) t]

/-- The part of a position's output that comes from the state the chunk starts with, and the part from the chunk itself. -/
theorem y_split (D : SSeq) (n : ℕ) (p : Fin 64) (t : ℕ) :
    (∑ s ∈ Finset.range (t + 1), D.x (n + s) p * D.dt (n + s) * (D.bc (n + s) (n + t) * Real.exp (D.Ap (n + t + 1) - D.Ap (n + s + 1)))) +
      (∑ j : Fin 128, D.H n p j * D.c (n + t) j) * Real.exp (D.Ap (n + t + 1) - D.Ap n) = D.y p (n + t) := by
  unfold SSeq.y
  rw [add_assoc n t 1, Finset.sum_range_add _ n (t + 1), add_comm]
  refine congrArg₂ (fun x y : ℝ => x + y) ?_ rfl
  unfold SSeq.H
  simp only [Finset.sum_mul]
  rw [Finset.sum_comm]
  refine Finset.sum_congr rfl fun s _ => ?_
  unfold SSeq.bc
  rw [Finset.sum_mul, Finset.mul_sum]
  refine Finset.sum_congr rfl fun j _ => ?_
  have e : Real.exp (D.Ap (n + (t + 1)) - D.Ap (s + 1)) = Real.exp (D.Ap n - D.Ap (s + 1)) * Real.exp (D.Ap (n + (t + 1)) - D.Ap n) := by
    rw [← Real.exp_add]; congr 1; ring
  rw [e]
  ring

theorem H_step (D : SSeq) (n : ℕ) (p : Fin 64) (j : Fin 128) :
    Real.exp (D.Ap (n + 128) - D.Ap n) * D.H n p j +
      (∑ s ∈ Finset.range 128, D.x (n + s) p * D.dt (n + s) * Real.exp (D.Ap (n + 128) - D.Ap (n + s + 1)) * D.b (n + s) j) = D.H (n + 128) p j := by
  unfold SSeq.H
  rw [Finset.sum_range_add, Finset.mul_sum]
  refine congrArg₂ (· + ·) (Finset.sum_congr rfl fun s _ => ?_) (Finset.sum_congr rfl fun s _ => by ring)
  have e : Real.exp (D.Ap (n + 128) - D.Ap (s + 1)) = Real.exp (D.Ap n - D.Ap (s + 1)) * Real.exp (D.Ap (n + 128) - D.Ap n) := by
    rw [← Real.exp_add]; congr 1; ring
  rw [e]
  ring

end Cert.KernelIdeal.MixReal

end
-- ==== Proof.MixSeq.lean ====
/- The mixer's finite arguments as real arrays, and the sequences its heads run over. -/
module

public import proofs.«01_k».proof.Proof.MixReal

@[expose] public section

set_option maxRecDepth 16384

noncomputable section

namespace Cert.KernelIdeal.MixReal

open Idealize.ShloMosaic Idealize.ShloMosaic.TcCoe

/-- The arguments the recurrences run over, as real numbers. -/
structure RArgs where
  q : Fin 4 → Fin 8192 → Fin 512 → ℝ
  k : Fin 4 → Fin 8192 → Fin 512 → ℝ
  v : Fin 4 → Fin 8192 → Fin 1024 → ℝ
  x : Fin 4 → Fin 8192 → Fin 1024 → ℝ
  b : Fin 4 → Fin 8192 → Fin 256 → ℝ
  c : Fin 4 → Fin 8192 → Fin 256 → ℝ
  i : Fin 4 → Fin 8192 → Fin 4 → ℝ
  f : Fin 4 → Fin 8192 → Fin 4 → ℝ
  d : Fin 4 → Fin 8192 → Fin 16 → ℝ
  a : Fin 16 → ℝ

/-- The arguments are those real numbers. -/
structure RArgs.Of (R : RArgs) (x0 x1 : FVec Ideal ⟨3, ![4, 8192, 512]⟩ .f32) (x2 x5 : FVec Ideal ⟨3, ![4, 8192, 1024]⟩ .f32)
    (x6 x7 : FVec Ideal ⟨3, ![4, 8192, 256]⟩ .f32) (x8 x9 : FVec Ideal ⟨3, ![4, 8192, 4]⟩ .f32) (x10 : FVec Ideal ⟨3, ![4, 8192, 16]⟩ .f32)
    (x13 : FVec Ideal ⟨1, ![16]⟩ .f32) : Prop where
  q : ∀ b s r, x0 (ix3 b s r) = ((R.q b s r : ℝ) : EReal)
  k : ∀ b s r, x1 (ix3 b s r) = ((R.k b s r : ℝ) : EReal)
  v : ∀ b s r, x2 (ix3 b s r) = ((R.v b s r : ℝ) : EReal)
  x : ∀ b s r, x5 (ix3 b s r) = ((R.x b s r : ℝ) : EReal)
  b : ∀ b s r, x6 (ix3 b s r) = ((R.b b s r : ℝ) : EReal)
  c : ∀ b s r, x7 (ix3 b s r) = ((R.c b s r : ℝ) : EReal)
  i : ∀ b s r, x8 (ix3 b s r) = ((R.i b s r : ℝ) : EReal)
  f : ∀ b s r, x9 (ix3 b s r) = ((R.f b s r : ℝ) : EReal)
  d : ∀ b s r, x10 (ix3 b s r) = ((R.d b s r : ℝ) : EReal)
  a : ∀ r, x13 (ix1 r) = ((R.a r : ℝ) : EReal)

/-- A query's scale. -/
def qs : ℝ := 11863283 / 134217728

theorem qs_eq : (Ideal.ofBits .f32 0x3DB504F3#32 : EReal) = ((qs : ℝ) : EReal) := by
  simp [Ideal.ofBits, Ideal.ieee, -EReal.coe_mul, qs] <;> norm_num

@[reducible] def pos (s : ℕ) : Fin 8192 := ⟨s % 8192, Nat.mod_lt _ (by decide)⟩

theorem pos_val (s : Fin 8192) : pos s.val = s := Fin.ext (Nat.mod_eq_of_lt s.isLt)

variable (R : RArgs)

/-- A head's sequences of the matrix memory. -/
def mseq (b h : Fin 4) : MSeq where
  f s := R.f b (pos s) h
  i s := R.i b (pos s) h
  q s d := R.q b (pos s) ⟨128 * h.val + d.val, by omega⟩ * qs
  k s d := R.k b (pos s) ⟨128 * h.val + d.val, by omega⟩
  v s r := R.v b (pos s) ⟨256 * h.val + r.val, by omega⟩

/-- A head's sequences of the state space. -/
def sseq (b : Fin 4) (g : Fin 2) (r : Fin 8) : SSeq where
  a s := R.d b (pos s) ⟨8 * g.val + r.val, by omega⟩ * -Real.exp (R.a ⟨8 * g.val + r.val, by omega⟩)
  dt s := R.d b (pos s) ⟨8 * g.val + r.val, by omega⟩
  x s p := R.x b (pos s) ⟨64 * (8 * g.val + r.val) + p.val, by omega⟩
  b s j := R.b b (pos s) ⟨128 * g.val + j.val, by omega⟩
  c s j := R.c b (pos s) ⟨128 * g.val + j.val, by omega⟩

end Cert.KernelIdeal.MixReal

end
-- ==== Proof.MixState.lean ====
/- What the kernel carries and what it mixes, over the extended reals: the recurrences' closed forms, chunk after chunk. -/
module

public import proofs.«01_k».proof.Proof.MixRead
public import proofs.«01_k».proof.Proof.MixSeq

@[expose] public section

set_option maxRecDepth 16384

noncomputable section

namespace Cert.KernelIdeal.MixState

open Idealize.ShloMosaic Idealize.ShloMosaic.TcCoe Idealize.SL.Sem Cert.KernelIdeal Cert.KernelIdeal.Gen Cert.KernelIdeal.Step Cert.KernelIdeal.Carry
open Cert.KernelIdeal.MixElem Cert.KernelIdeal.MixReal Cert.KernelIdeal.MixReads Cert.KernelIdeal.MixOuts

variable (m : (ℓ : Loc nD τ sig) → Buf (Elt Ideal) ℓ) (c : Dev nD) (R : RArgs)
  (hR : R.Of (m ((c : Thread nD τ).loc main_arg0)) (m ((c : Thread nD τ).loc main_arg1)) (m ((c : Thread nD τ).loc main_arg2)) (m ((c : Thread nD τ).loc main_arg5))
    (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg13)))

theorem pos_at (i : ℕ) (hi : i < 16) (cc : Fin 4) (l : Fin 128) : (pos (128 * (4 * i + cc.val) + l.val)).val = 128 * (4 * i + cc.val) + l.val :=
  Nat.mod_eq_of_lt (by omega)

/-- The point of a sequence's call. -/
@[reducible] def pt (b : Fin 4) (i : ℕ) : Fin cfg0.N := ⟨(16 * b.val + i) % 65, lt_of_lt_of_eq (Nat.mod_lt _ (by decide)) N_0.symm⟩

theorem pt_val (b : Fin 4) (i : ℕ) (hi : i < 16) : (pt b i).val = 16 * b.val + i := Nat.mod_eq_of_lt (by omega)

section
variable (b : Fin 4) (i : ℕ) (hi : i < 16) (cc : Fin 4)
include hi

theorem pt_lt : (pt b i).val < 64 := by rw [pt_val b i hi]; omega

theorem pt_pos (l : Fin 128) : b.val * 8192 + (pos (128 * (4 * i + cc.val) + l.val)).val = 512 * (pt b i).val + 128 * cc.val + l.val := by
  rw [pos_at i hi, pt_val b i hi]; omega

include hR

theorem cum_f (h : Fin 4) (l : Fin 128) : cumC (Bs m c b i).cu cc (ix2 (⟨4 + h.val, by omega⟩ : Fin 32) l) =
    ((L * ((mseq R b h).Fp (128 * (4 * i + cc.val) + l.val + 1) - (mseq R b h).Fp (128 * (4 * i + cc.val))) : ℝ) : EReal) := by
  rw [cumC_at _ cc _ l (⟨32 * cc.val + (4 + h.val), by omega⟩) rfl]
  refine (cum_at _ _ cc (⟨4 + h.val, by omega⟩ : Fin 32) l _ rfl).trans ?_
  rw [sum_coe _ _ (fun k : Fin 128 => if k ≤ l then (mseq R b h).f (128 * (4 * i + cc.val) + k.val) * L else 0) (fun k _ => by
    rw [scale_lo _ (⟨4 + h.val, by omega⟩) k _ rfl]
    have e : (Bs m c b i).g cc (ix3 0 (⟨4 + h.val, by omega⟩ : Fin 32) k) = (((mseq R b h).f (128 * (4 * i + cc.val) + k.val) : ℝ) : EReal) :=
      (Bgf m c (pt b i) (pt_lt b i hi) cc k b _ (pt_pos b i hi cc k) h _ rfl).trans (hR.f _ _ _)
    rw [e, ← EReal.coe_mul]
    by_cases hk : k ≤ l
    · rw [if_pos hk, if_pos hk, mul_one]
    · rw [if_neg hk, if_neg hk, mul_zero]; rfl)]
  rw [sum_upto (fun k => (mseq R b h).f (128 * (4 * i + cc.val) + k) * L) l]
  refine congrArg _ ?_
  unfold MSeq.Fp
  rw [add_assoc, Finset.sum_range_add _ (128 * (4 * i + cc.val)) (l.val + 1), ← Finset.sum_mul]
  ring

theorem cum_a (g : Fin 2) (r : Fin 8) (l : Fin 128) : cumC (Bs m c b i).cu cc (ix2 (⟨8 + (8 * g.val + r.val), by omega⟩ : Fin 32) l) =
    ((L * ((sseq R b g r).Ap (128 * (4 * i + cc.val) + l.val + 1) - (sseq R b g r).Ap (128 * (4 * i + cc.val))) : ℝ) : EReal) := by
  rw [cumC_at _ cc _ l (⟨32 * cc.val + (8 + (8 * g.val + r.val)), by omega⟩) rfl]
  refine (cum_at _ _ cc (⟨8 + (8 * g.val + r.val), by omega⟩ : Fin 32) l _ rfl).trans ?_
  rw [sum_coe _ _ (fun k : Fin 128 => if k ≤ l then (sseq R b g r).a (128 * (4 * i + cc.val) + k.val) * L else 0) (fun k _ => by
    rw [scale_mid _ (⟨8 * g.val + r.val, by omega⟩) k _ rfl]
    have e : (Bs m c b i).g cc (ix3 0 (⟨8 + (8 * g.val + r.val), by omega⟩ : Fin 32) k) = (((sseq R b g r).dt (128 * (4 * i + cc.val) + k.val) : ℝ) : EReal) :=
      (Bgd m c (pt b i) (pt_lt b i hi) cc k b _ (pt_pos b i hi cc k) (⟨8 * g.val + r.val, by omega⟩) _ rfl).trans (hR.d _ _ _)
    have ea : (Bs m c b i).al (ix2 (⟨8 * g.val + r.val, by omega⟩ : Fin 16) k) = ((R.a ⟨8 * g.val + r.val, by omega⟩ : ℝ) : EReal) :=
      (Bal m c (pt b i) _ k).trans (hR.a _)
    rw [e, ea, exp_coe', ← EReal.coe_mul, ← EReal.coe_mul]
    have e3 : (sseq R b g r).dt (128 * (4 * i + cc.val) + k.val) * (-(Real.log 2)⁻¹ * Real.exp (R.a ⟨8 * g.val + r.val, by omega⟩)) =
        (sseq R b g r).a (128 * (4 * i + cc.val) + k.val) * L := by
      show (sseq R b g r).dt (128 * (4 * i + cc.val) + k.val) * _ = ((sseq R b g r).dt (128 * (4 * i + cc.val) + k.val) * -Real.exp (R.a ⟨8 * g.val + r.val, by omega⟩)) * L
      ring
    rw [e3]
    by_cases hk : k ≤ l
    · rw [if_pos hk, if_pos hk, mul_one]
    · rw [if_neg hk, if_neg hk, mul_zero]; rfl)]
  rw [sum_upto (fun k => (sseq R b g r).a (128 * (4 * i + cc.val) + k) * L) l]
  refine congrArg _ ?_
  unfold SSeq.Ap
  rw [add_assoc, Finset.sum_range_add _ (128 * (4 * i + cc.val)) (l.val + 1), ← Finset.sum_mul]
  ring

/-- A chunk's blocks of the matrix memory. -/
theorem mchunk (h : Fin 4) : MChunk (mseq R b h) (128 * (4 * i + cc.val)) ((Bs m c b i).q cc h) ((Bs m c b i).k cc h) ((Bs m c b i).v cc h)
    ((Bs m c b i).bR cc h) ((Bs m c b i).uR cc h) where
  hq d t := by
    refine (Bq m c (pt b i) (pt_lt b i hi) cc t b _ (pt_pos b i hi cc t) h d).trans ?_
    rw [hR.q, qs_eq]
    rfl
  hk s d := (Bk m c (pt b i) (pt_lt b i hi) cc s b _ (pt_pos b i hi cc s) h d).trans (hR.k _ _ _)
  hv r s := (Bv m c (pt b i) (pt_lt b i hi) cc s b _ (pt_pos b i hi cc s) h r).trans (hR.v _ _ _)
  hb l := (bR_at _ cc h l).trans (cum_f m c R hR b i hi cc h l)
  hu l := by
    refine (uR_at _ _ cc h l).trans ?_
    have e : (Bs m c b i).g cc (ix3 0 (⟨h.val, by omega⟩ : Fin 32) l) = (((mseq R b h).i (128 * (4 * i + cc.val) + l.val) : ℝ) : EReal) :=
      (Bgi m c (pt b i) (pt_lt b i hi) cc l b _ (pt_pos b i hi cc l) h _ (Nat.zero_add _).symm).trans (hR.i _ _ _)
    rw [e, cum_f m c R hR b i hi cc h l, ← EReal.coe_mul, ← EReal.coe_sub]
    refine congrArg _ ?_
    unfold MSeq.G
    ring

end

include hR

/-- The stabilisers and the memories, chunk after chunk. -/
theorem mstate (b h : Fin 4) (j : ℕ) (hj : j ≤ 64) : (∀ l, mT (Bs m c b) j h (ix3 0 0 l) = (((mseq R b h).M (128 * j) : ℝ) : EReal)) ∧
    ∀ r d, cT (Bs m c b) j h (ix3 0 r d) = (((mseq R b h).C (128 * j) r d : ℝ) : EReal) := by
  induction j with
  | zero =>
    constructor
    · intro l
      refine (show rdM (F := Ideal) (k0_pay4 (F := Ideal)) h (ix3 0 0 l) = ((0 : ℝ) : EReal) from ?_).trans (congrArg _ ?_)
      · unfold rdM k0_pay4
        pointwise
        simp [Ideal.ofBits, Ideal.ieee]
      · show (0 : ℝ) = L * ((mseq R b h).Fp 0 + (mseq R b h).Hp 0)
        unfold MSeq.Fp MSeq.Hp
        simp
    · intro r d
      refine (show rdC (F := Ideal) (k0_pay3 (F := Ideal)) h (ix3 0 r d) = ((0 : ℝ) : EReal) from ?_).trans (congrArg _ ?_)
      · unfold rdC k0_pay3
        pointwise
        simp [Ideal.ofBits, Ideal.ieee]
      · unfold MSeq.C
        simp
  | succ j ih =>
    obtain ⟨im, ic⟩ := ih (by omega)
    have hi : j / 4 < 16 := by omega
    have hn : 128 * (4 * (j / 4) + (c4 j).val) = 128 * j := by
      show 128 * (4 * (j / 4) + j % 4) = 128 * j
      omega
    have K := mchunk m c R hR b (j / 4) hi (c4 j) h
    rw [hn] at K
    exact ⟨fun l => m_real K (im 0) l, fun r d => ct_real K (im 0) ic r d⟩

/-- A head's mixed rows. -/
theorem oM_real (b h : Fin 4) (i : ℕ) (hi : i < 16) (cc : Fin 4) (w : Fin 256) (l : Fin 128) (s : Fin 8192) (hs : s.val = 128 * (4 * i + cc.val) + l.val) :
    (Bs m c b i).oM cc h (mT (Bs m c b) (4 * i + cc.val) h) (cT (Bs m c b) (4 * i + cc.val) h) (ix4 0 0 w l) =
      FloatOps.mulf (F := Ideal) (φ := .f32) ((((mseq R b h).out w s.val : ℝ) : EReal) *
        Ideal.rsqrt ((((∑ x : Fin 256, (mseq R b h).out x s.val * (mseq R b h).out x s.val) / 256 : ℝ) : EReal) + Ideal.ofBits .f32 0x358637BD#32))
        (m ((c : Thread nD τ).loc main_arg3) (ix3 b s (⟨256 * h.val + w.val, by omega⟩ : Fin 1024))) := by
  obtain ⟨im, ic⟩ := mstate m c R hR b h (4 * i + cc.val) (by omega)
  refine (outM_real (mchunk m c R hR b i hi cc h) (im 0) ic _ w l).trans ?_
  rw [show 128 * (4 * i + cc.val) + l.val = s.val from hs.symm]
  refine congrArg (HMul.hMul (α := EReal) (β := EReal) _) ?_
  refine (Bo m c (pt b i) (pt_lt b i hi) cc l b s ?_ h w)
  rw [hs, pt_val b i hi]; omega

section
variable (b : Fin 4) (i : ℕ) (hi : i < 16) (cc : Fin 4) (g : Fin 2) (r : Fin 8)
include hi

theorem s_x (p : Fin 64) (l : Fin 128) : (Bs m c b i).x cc g r (ix3 0 p l) = (((sseq R b g r).x (128 * (4 * i + cc.val) + l.val) p : ℝ) : EReal) :=
  (Bx m c (pt b i) (pt_lt b i hi) cc l b _ (pt_pos b i hi cc l) g r p).trans (hR.x _ _ _)
theorem s_b (l : Fin 128) (j : Fin 128) : (Bs m c b i).b cc g (ix2 l j) = (((sseq R b g r).b (128 * (4 * i + cc.val) + l.val) j : ℝ) : EReal) :=
  (Bb m c (pt b i) (pt_lt b i hi) cc l b _ (pt_pos b i hi cc l) g j).trans (hR.b _ _ _)
theorem s_c (l : Fin 128) (j : Fin 128) : (Bs m c b i).c cc g (ix2 l j) = (((sseq R b g r).c (128 * (4 * i + cc.val) + l.val) j : ℝ) : EReal) :=
  (Bc m c (pt b i) (pt_lt b i hi) cc l b _ (pt_pos b i hi cc l) g j).trans (hR.c _ _ _)
theorem s_d (l : Fin 128) : (Bs m c b i).dR cc g r (ix2 0 l) = (((sseq R b g r).dt (128 * (4 * i + cc.val) + l.val) : ℝ) : EReal) :=
  (dR_at _ _ l).trans ((Bgd m c (pt b i) (pt_lt b i hi) cc l b _ (pt_pos b i hi cc l) (⟨8 * g.val + r.val, by omega⟩) _ rfl).trans (hR.d _ _ _))
theorem s_a (l : Fin 128) : (Bs m c b i).aR cc g r (ix2 0 l) =
    ((L * ((sseq R b g r).Ap (128 * (4 * i + cc.val) + l.val + 1) - (sseq R b g r).Ap (128 * (4 * i + cc.val))) : ℝ) : EReal) :=
  (aR_at _ cc _ l).trans (cum_a m c R hR b i hi cc g r l)
theorem s_ea (l : Fin 128) : (Bs m c b i).eaR cc g r (ix2 0 l) =
    ((Real.exp ((sseq R b g r).Ap (128 * (4 * i + cc.val) + l.val + 1) - (sseq R b g r).Ap (128 * (4 * i + cc.val))) : ℝ) : EReal) :=
  (eaR_at _ cc _ l).trans ((congrArg _ (cum_a m c R hR b i hi cc g r l)).trans (exp2_L _))
theorem s_e (l : Fin 128) : (Bs m c b i).eR cc g r (ix2 0 l) =
    ((Real.exp ((sseq R b g r).Ap (128 * (4 * i + cc.val) + 128) - (sseq R b g r).Ap (128 * (4 * i + cc.val) + l.val + 1)) : ℝ) : EReal) := by
  refine (eR_at _ cc _ l).trans ?_
  refine (congrArg₂ (fun x y : EReal => FloatOps.exp2 (F := Ideal) (φ := .f32) (x - y)) (cum_a m c R hR b i hi cc g r 127) (cum_a m c R hR b i hi cc g r l)).trans ?_
  beta_reduce
  rw [← EReal.coe_sub, ← mul_sub, exp2_L]
  refine congrArg _ (congrArg _ ?_)
  show (sseq R b g r).Ap (128 * (4 * i + cc.val) + 128) - (sseq R b g r).Ap (128 * (4 * i + cc.val)) - _ = _
  ring
theorem s_cd : (Bs m c b i).cR cc g r (ix2 0 0) =
    ((Real.exp ((sseq R b g r).Ap (128 * (4 * i + cc.val) + 128) - (sseq R b g r).Ap (128 * (4 * i + cc.val))) : ℝ) : EReal) :=
  (cR_at _ cc _).trans ((congrArg _ (cum_a m c R hR b i hi cc g r 127)).trans (exp2_L _))

end

theorem h_next (b : Fin 4) (i : ℕ) (hi : i < 16) (cc : Fin 4) (g : Fin 2) (r : Fin 8) (hg : FVec Ideal S1x512x128 .f32)
    (H : ∀ p n (P : Fin 512), P.val = 64 * r.val + p.val → hg (ix3 0 P n) = (((sseq R b g r).H (128 * (4 * i + cc.val)) p n : ℝ) : EReal)) (p : Fin 64) (n : Fin 128) :
    (Bs m c b i).hS cc g hg r (ix3 0 p n) = (((sseq R b g r).H (128 * (4 * i + cc.val) + 128) p n : ℝ) : EReal) := by
  refine (hNew_at _ _ _ _ _ hg r p n (⟨64 * r.val + p.val, by omega⟩) rfl).trans ?_
  rw [H p n _ rfl, s_cd m c R hR b i hi cc g r, sum_coe _ _ (fun s : Fin 128 => (sseq R b g r).x (128 * (4 * i + cc.val) + s.val) p * (sseq R b g r).dt (128 * (4 * i + cc.val) + s.val) *
      Real.exp ((sseq R b g r).Ap (128 * (4 * i + cc.val) + 128) - (sseq R b g r).Ap (128 * (4 * i + cc.val) + s.val + 1)) * (sseq R b g r).b (128 * (4 * i + cc.val) + s.val) n)
    (fun s _ => by rw [s_x m c R hR b i hi cc g r, s_d m c R hR b i hi cc g r, s_e m c R hR b i hi cc g r, s_b m c R hR b i hi cc g r, EReal.coe_mul, EReal.coe_mul, EReal.coe_mul])]
  rw [sum_all (fun s => (sseq R b g r).x (128 * (4 * i + cc.val) + s) p * (sseq R b g r).dt (128 * (4 * i + cc.val) + s) *
      Real.exp ((sseq R b g r).Ap (128 * (4 * i + cc.val) + 128) - (sseq R b g r).Ap (128 * (4 * i + cc.val) + s + 1)) * (sseq R b g r).b (128 * (4 * i + cc.val) + s) n),
    ← EReal.coe_mul, ← EReal.coe_add, H_step]

/-- The states, chunk after chunk. -/
theorem hstate (b : Fin 4) (g : Fin 2) (j : ℕ) (hj : j ≤ 64) (r : Fin 8) (p : Fin 64) (n : Fin 128) (P : Fin 512) (hP : P.val = 64 * r.val + p.val) :
    hT (Bs m c b) j g (ix3 0 P n) = (((sseq R b g r).H (128 * j) p n : ℝ) : EReal) := by
  induction j generalizing r p n P with
  | zero =>
    refine (show rdH (F := Ideal) (k0_pay5 (F := Ideal)) g (ix3 0 P n) = ((0 : ℝ) : EReal) from ?_).trans (congrArg _ ?_)
    · unfold rdH k0_pay5
      pointwise
      simp [Ideal.ofBits, Ideal.ieee]
    · unfold SSeq.H
      simp
  | succ j ih =>
    have hi : j / 4 < 16 := by omega
    have hn : 128 * (4 * (j / 4) + (c4 j).val) = 128 * j := by
      show 128 * (4 * (j / 4) + j % 4) = 128 * j
      omega
    have K := h_next m c R hR b (j / 4) hi (c4 j) g r (hT (Bs m c b) j g) (fun p' n' P' hP' => by
      rw [hn]; exact ih (by omega) r p' n' P' hP') p n
    rw [hn] at K
    refine Eq.trans ?_ K
    show (Bs m c b (j / 4)).hS (c4 j) g (hT (Bs m c b) j g) ⟨P.val / 64, _⟩ (ix3 (0 : Fin 1) (⟨P.val % 64, _⟩ : Fin 64) n) = _
    have e1 : (⟨P.val / 64, by omega⟩ : Fin 8) = r := Fin.ext (by show P.val / 64 = r.val; omega)
    have e2 : (⟨P.val % 64, by omega⟩ : Fin 64) = p := Fin.ext (by show P.val % 64 = p.val; omega)
    rw [e1, e2]

/-- A head's gated outputs of the state space. -/
theorem y_real (b : Fin 4) (g : Fin 2) (i : ℕ) (hi : i < 16) (cc : Fin 4) (r : Fin 8) (p : Fin 64) (l : Fin 128) (s : Fin 8192)
    (hs : s.val = 128 * (4 * i + cc.val) + l.val) (P : Fin 512) (hP : P.val = 64 * r.val + p.val) :
    cat8 (fun r => yM ((Bs m c b i).b cc g) ((Bs m c b i).c cc g) ((Bs m c b i).x cc g r) ((Bs m c b i).z cc g r) ((Bs m c b i).aR cc g r) ((Bs m c b i).dR cc g r)
      ((Bs m c b i).eaR cc g r) ((Bs m c b i).ds g r) (hT (Bs m c b) (4 * i + cc.val) g) r) (ix2 P l) =
      FloatOps.mulf (F := Ideal) (φ := .f32) ((((sseq R b g r).y p s.val : ℝ) : EReal) +
        FloatOps.mulf (F := Ideal) (φ := .f32) (m ((c : Thread nD τ).loc main_arg12) (ix1 (⟨8 * g.val + r.val, by omega⟩ : Fin 16)))
          (m ((c : Thread nD τ).loc main_arg5) (ix3 b s (⟨64 * (8 * g.val + r.val) + p.val, by omega⟩ : Fin 1024))))
        (m ((c : Thread nD τ).loc main_arg4) (ix3 b s (⟨64 * (8 * g.val + r.val) + p.val, by omega⟩ : Fin 1024))) := by
  have hp : b.val * 8192 + s.val = 512 * (pt b i).val + 128 * cc.val + l.val := by rw [hs, pt_val b i hi]; omega
  rw [cat8_at _ r p l P hP, yM_at _ _ _ _ _ _ _ _ _ r p l P hP,
    yd_real (sseq R b g r) (128 * (4 * i + cc.val)) _ _ _ _ _ (s_x m c R hR b i hi cc g r) (s_b m c R hR b i hi cc g r) (s_c m c R hR b i hi cc g r)
      (s_a m c R hR b i hi cc g r) (s_d m c R hR b i hi cc g r) p l,
    s_ea m c R hR b i hi cc g r, sum_coe _ _ (fun n => (sseq R b g r).H (128 * (4 * i + cc.val)) p n * (sseq R b g r).c (128 * (4 * i + cc.val) + l.val) n) (fun n _ => by
      rw [hstate m c R hR b g (4 * i + cc.val) (by omega) r p n P hP, s_c m c R hR b i hi cc g r, EReal.coe_mul]),
    ← EReal.coe_mul, ← EReal.coe_add, y_split, ← hs]
  have e1 : (Bs m c b i).ds g r (ix2 p l) = m ((c : Thread nD τ).loc main_arg12) (ix1 (⟨8 * g.val + r.val, by omega⟩ : Fin 16)) := Bds m c (pt b i) g r p l
  have e2 : (Bs m c b i).x cc g r (ix3 0 p l) = m ((c : Thread nD τ).loc main_arg5) (ix3 b s (⟨64 * (8 * g.val + r.val) + p.val, by omega⟩ : Fin 1024)) :=
    Bx m c (pt b i) (pt_lt b i hi) cc l b s hp g r p
  have e3 : (Bs m c b i).z cc g r (ix3 0 p l) = m ((c : Thread nD τ).loc main_arg4) (ix3 b s (⟨64 * (8 * g.val + r.val) + p.val, by omega⟩ : Fin 1024)) :=
    Bz m c (pt b i) (pt_lt b i hi) cc l b s hp g r p
  rw [e1, e2, e3]
  rfl

end Cert.KernelIdeal.MixState

end
-- ==== Proof.MixTile.lean ====
/- The output tile of one step, read at an element: the residual row plus the mix row times the output weights, normalized and weighted. -/
module

public import proofs.«01_k».proof.Proof.MixRead
public import proofs.«01_k».proof.Proof.MixElem

@[expose] public section

noncomputable section

namespace Cert.KernelIdeal.MixTile

open Idealize.ShloMosaic Idealize.ShloMosaic.TcCoe Idealize.SL.Sem Cert.KernelIdeal Cert.KernelIdeal.Gen Cert.KernelIdeal.Step Cert.KernelIdeal.Carry Cert.KernelIdeal.MixElem Cert.KernelIdeal.MixOuts Cert.KernelIdeal.MixReads

/-- One row of the collected mix: chunk `cc`, position `l` of the tile the four chunks make. -/
theorem mixrm_at (mx : Fin 4 → FVec Ideal S1x2048x128 .bf16) (cc : Fin 4) (l : Fin 128) (d : Fin 2048) (y : S512x2048.Idx)
    (h0 : (y 0).val = 128 * cc.val + l.val) (h1 : (y 1).val = d.val) :
    View.canon (mixrmL mx) y = mx cc (ix3 0 d l) := by
  have hl := l.isLt
  unfold mixrmL
  match cc, h0 with
  | ⟨3, _⟩, h0 =>
    have h0' : (y 0).val = 384 + l.val := h0
    refine (hit (S := S512x2048) (off := ![384, 0]) (size := S128x2048.size) (inb2 (by omega) (by omega)) _ _ (ix2 l d) y ?_).trans (pay16_at _ l d)
    intro a
    match a with
    | ⟨0, _⟩ => exact h0'
    | ⟨1, _⟩ => exact h1.trans (Nat.zero_add _).symm
  | ⟨2, _⟩, h0 =>
    have h0' : (y 0).val = 256 + l.val := h0
    refine (miss (S := S512x2048) (off := ![384, 0]) (size := S128x2048.size) (inb2 (by omega) (by omega)) _ _ y 0 (Or.inl (show (y 0).val < 384 by omega))).trans ?_
    refine (hit (S := S512x2048) (off := ![256, 0]) (size := S128x2048.size) (inb2 (by omega) (by omega)) _ _ (ix2 l d) y ?_).trans (pay16_at _ l d)
    intro a
    match a with
    | ⟨0, _⟩ => exact h0'
    | ⟨1, _⟩ => exact h1.trans (Nat.zero_add _).symm
  | ⟨1, _⟩, h0 =>
    have h0' : (y 0).val = 128 + l.val := h0
    refine (miss (S := S512x2048) (off := ![384, 0]) (size := S128x2048.size) (inb2 (by omega) (by omega)) _ _ y 0 (Or.inl (show (y 0).val < 384 by omega))).trans ?_
    refine (miss (S := S512x2048) (off := ![256, 0]) (size := S128x2048.size) (inb2 (by omega) (by omega)) _ _ y 0 (Or.inl (show (y 0).val < 256 by omega))).trans ?_
    refine (hit (S := S512x2048) (off := ![128, 0]) (size := S128x2048.size) (inb2 (by omega) (by omega)) _ _ (ix2 l d) y ?_).trans (pay16_at _ l d)
    intro a
    match a with
    | ⟨0, _⟩ => exact h0'
    | ⟨1, _⟩ => exact h1.trans (Nat.zero_add _).symm
  | ⟨0, _⟩, h0 =>
    have h0' : (y 0).val = 0 + l.val := h0
    refine (miss (S := S512x2048) (off := ![384, 0]) (size := S128x2048.size) (inb2 (by omega) (by omega)) _ _ y 0 (Or.inl (show (y 0).val < 384 by omega))).trans ?_
    refine (miss (S := S512x2048) (off := ![256, 0]) (size := S128x2048.size) (inb2 (by omega) (by omega)) _ _ y 0 (Or.inl (show (y 0).val < 256 by omega))).trans ?_
    refine (miss (S := S512x2048) (off := ![128, 0]) (size := S128x2048.size) (inb2 (by omega) (by omega)) _ _ y 0 (Or.inl (show (y 0).val < 128 by omega))).trans ?_
    refine (hit (S := S512x2048) (off := ![0, 0]) (size := S128x2048.size) (inb2 (by omega) (by omega)) _ _ (ix2 l d) y ?_).trans (pay16_at _ l d)
    intro a
    match a with
    | ⟨0, _⟩ => exact h0'
    | ⟨1, _⟩ => exact h1.trans (Nat.zero_add _).symm

/-- One element of the sum of the residual and the projection: column band `j`. -/
theorem acc_at (xT : Fin 4 → FVec Ideal S512x256 .f32) (w : Fin 4 → FVec Ideal S2048x256 .bf16) (mr : FVec Ideal S512x2048 .bf16)
    (j : Fin 4) (r : Fin 512) (q : Fin 256) (y : S512x1024.Idx) (h0 : (y 0).val = r.val) (h1 : (y 1).val = 256 * j.val + q.val) :
    View.canon (accL xT w mr) y = xT j (ix2 r q) + ∑ d : Fin 2048, mr (ix2 r d) * w j (ix2 d q) := by
  have hq := q.isLt
  unfold accL
  match j, h1 with
  | ⟨3, _⟩, h1 =>
    have h1' : (y 1).val = 768 + q.val := h1
    refine (hit (S := S512x1024) (off := ![0, 768]) (size := S512x256.size) (inb2 (by omega) (by omega)) _ _ (ix2 r q) y ?_).trans (pay17_at _ _ _ r q)
    intro a
    match a with
    | ⟨0, _⟩ => exact h0.trans (Nat.zero_add _).symm
    | ⟨1, _⟩ => exact h1'
  | ⟨2, _⟩, h1 =>
    have h1' : (y 1).val = 512 + q.val := h1
    refine (miss (S := S512x1024) (off := ![0, 768]) (size := S512x256.size) (inb2 (by omega) (by omega)) _ _ y 1 (Or.inl (show (y 1).val < 768 by omega))).trans ?_
    refine (hit (S := S512x1024) (off := ![0, 512]) (size := S512x256.size) (inb2 (by omega) (by omega)) _ _ (ix2 r q) y ?_).trans (pay17_at _ _ _ r q)
    intro a
    match a with
    | ⟨0, _⟩ => exact h0.trans (Nat.zero_add _).symm
    | ⟨1, _⟩ => exact h1'
  | ⟨1, _⟩, h1 =>
    have h1' : (y 1).val = 256 + q.val := h1
    refine (miss (S := S512x1024) (off := ![0, 768]) (size := S512x256.size) (inb2 (by omega) (by omega)) _ _ y 1 (Or.inl (show (y 1).val < 768 by omega))).trans ?_
    refine (miss (S := S512x1024) (off := ![0, 512]) (size := S512x256.size) (inb2 (by omega) (by omega)) _ _ y 1 (Or.inl (show (y 1).val < 512 by omega))).trans ?_
    refine (hit (S := S512x1024) (off := ![0, 256]) (size := S512x256.size) (inb2 (by omega) (by omega)) _ _ (ix2 r q) y ?_).trans (pay17_at _ _ _ r q)
    intro a
    match a with
    | ⟨0, _⟩ => exact h0.trans (Nat.zero_add _).symm
    | ⟨1, _⟩ => exact h1'
  | ⟨0, _⟩, h1 =>
    have h1' : (y 1).val = 0 + q.val := h1
    refine (miss (S := S512x1024) (off := ![0, 768]) (size := S512x256.size) (inb2 (by omega) (by omega)) _ _ y 1 (Or.inl (show (y 1).val < 768 by omega))).trans ?_
    refine (miss (S := S512x1024) (off := ![0, 512]) (size := S512x256.size) (inb2 (by omega) (by omega)) _ _ y 1 (Or.inl (show (y 1).val < 512 by omega))).trans ?_
    refine (miss (S := S512x1024) (off := ![0, 256]) (size := S512x256.size) (inb2 (by omega) (by omega)) _ _ y 1 (Or.inl (show (y 1).val < 256 by omega))).trans ?_
    refine (hit (S := S512x1024) (off := ![0, 0]) (size := S512x256.size) (inb2 (by omega) (by omega)) _ _ (ix2 r q) y ?_).trans (pay17_at _ _ _ r q)
    intro a
    match a with
    | ⟨0, _⟩ => exact h0.trans (Nat.zero_add _).symm
    | ⟨1, _⟩ => exact h1'

theorem xTOf_at (x12 : FVec Ideal S512x1024 .f32) (j : Fin 4) (r : Fin 512) (q : Fin 256) :
    xTOf x12 j (ix2 r q) = x12 (ix2 r (⟨256 * j.val + q.val, by omega⟩ : Fin 1024)) := by
  refine View.ld_unit_apply_of (Val := Elt Ideal) (e := .f32) (S := S512x1024) x12 ![0, 256 * j.val] S512x256.size _ (ix2 r q) (ix2 r (⟨256 * j.val + q.val, by omega⟩ : Fin 1024)) fun a => ?_
  match a with
  | ⟨0, _⟩ => exact (Nat.zero_add _).symm
  | ⟨1, _⟩ => rfl

theorem wOf_at (x13 : FVec Ideal S2048x1024 .bf16) (j : Fin 4) (d : Fin 2048) (q : Fin 256) :
    wOf x13 j (ix2 d q) = x13 (ix2 d (⟨256 * j.val + q.val, by omega⟩ : Fin 1024)) := by
  refine View.ld_unit_apply_of (Val := Elt Ideal) (e := .bf16) (S := S2048x1024) x13 ![0, 256 * j.val] S2048x256.size _ (ix2 d q) (ix2 d (⟨256 * j.val + q.val, by omega⟩ : Fin 1024)) fun a => ?_
  match a with
  | ⟨0, _⟩ => exact (Nat.zero_add _).symm
  | ⟨1, _⟩ => rfl

theorem fwOf_at (x14 : FVec Ideal S1x1024 .f32) (j : Fin 1024) : fwOf x14 (ix2 0 j) = x14 (ix2 0 j) := by
  refine View.ld_unit_apply_of (Val := Elt Ideal) (e := .f32) (S := S1x1024) x14 ![0, 0] S1x1024.size _ (ix2 0 j) (ix2 0 j) fun a => ?_
  match a with
  | ⟨0, _⟩ => rfl
  | ⟨1, _⟩ => exact (Nat.zero_add _).symm

variable (m : (ℓ : Loc nD τ sig) → Buf (Elt Ideal) ℓ) (c : Dev nD)

/-- The residual plus the projection of one mix row. -/
def rowA (G : Fin 2048 → EReal) (b : Fin 4) (s : Fin 8192) (j : Fin 1024) : EReal :=
  FloatOps.addf (F := Ideal) (φ := .f32) ((m ((c : Thread nD τ).loc main_arg14)) (ix3 b s j))
    (∑ d : Fin 2048, FloatOps.mulf (F := Ideal) (φ := .f32) (G d) ((m ((c : Thread nD τ).loc main_arg15)) (ix2 d j)))

theorem row_at (t) (mx : Fin 4 → FVec Ideal S1x2048x128 .bf16) (G : Fin 2048 → EReal) (r : Fin 512) (j : Fin 1024) (b : Fin 4) (s : Fin 8192)
    (hs : b.val * 8192 + s.val = 512 * (t.val - 1) + r.val)
    (hG : ∀ d, mx ⟨r.val / 128, by omega⟩ (ix3 0 d (⟨r.val % 128, by omega⟩ : Fin 128)) = G d)
    (y : S512x1024.Idx) (h0 : (y 0).val = r.val) (h1 : (y 1).val = j.val) :
    View.canon (accL (xTOf (iblk m c 12 t)) (wOf (iblk m c 13 t)) (fun j => View.canon (mixrmL mx)
      ((Rect.unit ![0,0] S512x2048.size (inb2 (by omega) (by omega)) : Rect S512x2048).toLoadRect.idx j))) y = rowA m c G b s j := by
  refine (acc_at _ _ _ ⟨j.val / 256, by omega⟩ r ⟨j.val % 256, by omega⟩ y h0 (h1.trans (by show j.val = 256 * (j.val / 256) + j.val % 256; omega))).trans ?_
  have ej : (⟨256 * (j.val / 256) + j.val % 256, by omega⟩ : Fin 1024) = j := Fin.ext (by show 256 * (j.val / 256) + j.val % 256 = j.val; omega)
  refine congrArg₂ (· + ·) ?_ (Finset.sum_congr rfl fun d _ => congrArg₂ (· * ·) ?_ ?_)
  · refine (xTOf_at _ _ _ _).trans ?_
    refine (congrArg (fun z => iblk m c 12 t (ix2 r z)) ej).trans ?_
    exact wr_at m c t r j b s hs
  · refine (mixrm_at mx ⟨r.val / 128, by omega⟩ ⟨r.val % 128, by omega⟩ d _ ?_ ?_).trans (hG d)
    · refine (Rect.idx_unit_val _ _ _ _ _).trans ?_
      show 0 + r.val = 128 * (r.val / 128) + r.val % 128
      omega
    · refine (Rect.idx_unit_val _ _ _ _ _).trans ?_
      exact Nat.zero_add _
  · refine (wOf_at _ _ _ _).trans ?_
    refine (congrArg (fun z => iblk m c 13 t (ix2 d z)) ej).trans ?_
    exact ww_at m c t d j

theorem tile_at (t) (mx : Fin 4 → FVec Ideal S1x2048x128 .bf16) (G : Fin 2048 → EReal) (r : Fin 512) (j : Fin 1024) (b : Fin 4) (s : Fin 8192)
    (hs : b.val * 8192 + s.val = 512 * (t.val - 1) + r.val)
    (hG : ∀ d, mx ⟨r.val / 128, by omega⟩ (ix3 0 d (⟨r.val % 128, by omega⟩ : Fin 128)) = G d) :
    tile m c t mx (ix2 r j) = FloatOps.mulf (F := Ideal) (φ := .f32) (rowA m c G b s j * Ideal.rsqrt (Ideal.div (∑ k : Fin 1024, rowA m c G b s k * rowA m c G b s k)
      (Ideal.ofBits .f32 0x44800000#32) + Ideal.ofBits .f32 0x358637BD#32)) ((m ((c : Thread nD τ).loc main_arg16)) (ix1 j)) := by
  have hy : ∀ k : Fin 1024, View.canon (accL (xTOf (iblk m c 12 t)) (wOf (iblk m c 13 t)) (fun j => View.canon (mixrmL mx)
      ((Rect.unit ![0,0] S512x2048.size (inb2 (by omega) (by omega)) : Rect S512x2048).toLoadRect.idx j)))
      ((Rect.unit ![0,0] S512x1024.size (inb2 (by omega) (by omega)) : Rect S512x1024).toLoadRect.idx (ix2 r k)) = rowA m c G b s k := fun k => by
    refine row_at m c t mx G r k b s hs hG _ ?_ ?_
    · refine (Rect.idx_unit_val _ _ _ _ _).trans (Nat.zero_add _)
    · refine (Rect.idx_unit_val _ _ _ _ _).trans (Nat.zero_add _)
  unfold tile
  refine (outT_at _ _ r j).trans ?_
  refine congrArg₂ (· * ·) (congrArg₂ (· * ·) (hy j) (congrArg Ideal.rsqrt (congrArg₂ (· + ·) (congrArg₂ Ideal.div
    (Finset.sum_congr rfl fun k _ => congrArg₂ (· * ·) (hy k) (hy k)) rfl) rfl))) ?_
  exact (fwOf_at _ j).trans (wf_at m c t j)

end Cert.KernelIdeal.MixTile

end

end
-- ==== Proof.MixRefA.lean ====
/- The reference's running sums and row maxima, and its causal mask, over the extended reals. -/
module

public import proofs.«01_k».proof.Proof.MixSeq
public import proofs.«01_k».proof.Proof.Gen.ReferenceIdeal.Read
public import Idealize.ShloMosaic.Lib.Pointwise

@[expose] public section

set_option maxRecDepth 16384

noncomputable section

namespace Cert.ReferenceIdeal.MixRef

open Idealize.ShloMosaic Idealize.ShloMosaic.TcCoe Cert.ReferenceIdeal Cert.ReferenceIdeal.Gen Cert.ReferenceIdeal.Read Cert.KernelIdeal.MixReal

theorem of1 {n0 : ℕ} (i : (⟨1, ![n0]⟩ : Shape).Idx) (a : Fin n0) (h0 : (i 0).val = a.val) : i = ix1 a := by
  funext k; refine Fin.ext ?_
  match k with
  | ⟨0, _⟩ => exact h0
theorem of2 {n0 n1 : ℕ} (i : (⟨2, ![n0, n1]⟩ : Shape).Idx) (a : Fin n0) (b : Fin n1) (h0 : (i 0).val = a.val) (h1 : (i 1).val = b.val) : i = ix2 a b := by
  funext k; refine Fin.ext ?_
  match k with
  | ⟨0, _⟩ => exact h0
  | ⟨1, _⟩ => exact h1
theorem of3 {n0 n1 n2 : ℕ} (i : (⟨3, ![n0, n1, n2]⟩ : Shape).Idx) (a : Fin n0) (b : Fin n1) (c : Fin n2) (h0 : (i 0).val = a.val) (h1 : (i 1).val = b.val)
    (h2 : (i 2).val = c.val) : i = ix3 a b c := by
  funext k; refine Fin.ext ?_
  match k with
  | ⟨0, _⟩ => exact h0
  | ⟨1, _⟩ => exact h1
  | ⟨2, _⟩ => exact h2
theorem of4 {n0 n1 n2 n3 : ℕ} (i : (⟨4, ![n0, n1, n2, n3]⟩ : Shape).Idx) (a : Fin n0) (b : Fin n1) (c : Fin n2) (d : Fin n3) (h0 : (i 0).val = a.val)
    (h1 : (i 1).val = b.val) (h2 : (i 2).val = c.val) (h3 : (i 3).val = d.val) : i = ix4 a b c d := by
  funext k; refine Fin.ext ?_
  match k with
  | ⟨0, _⟩ => exact h0
  | ⟨1, _⟩ => exact h1
  | ⟨2, _⟩ => exact h2
  | ⟨3, _⟩ => exact h3

theorem foldl_add {ι : Type} (l : List ι) (g : ι → EReal) (v : EReal) : l.foldl (fun r k => r + g k) v = v + (l.map g).sum := by
  induction l generalizing v with
  | nil => simp
  | cons a l ih => rw [List.foldl_cons, ih, List.map_cons, List.sum_cons, add_assoc]

theorem sum_shift (N : ℕ) (f : ℕ → ℝ) (j : ℕ) (hj : j ≤ N) : (∑ k : Fin (N + 1), if N ≤ j + k.val then f (j + k.val - N) else 0) = ∑ k ∈ Finset.range (j + 1), f k := by
  rw [Fin.sum_univ_eq_sum_range (fun k => if N ≤ j + k then f (j + k - N) else 0) (N + 1)]
  rw [show N + 1 = (N - j) + (j + 1) by omega, Finset.sum_range_add _ (N - j) (j + 1)]
  rw [Finset.sum_eq_zero (fun k hk => if_neg (by have := Finset.mem_range.mp hk; omega)), zero_add]
  refine Finset.sum_congr rfl fun k hk => ?_
  rw [if_pos (by omega)]
  refine congrArg f (by omega)

/-- A running sum along the middle axis: where entry `(b, s, c)` holds `f s`, entry `(b, j, c)` of the result holds `f 0 + … + f j`. -/
theorem cumsum_at {N C : ℕ} (x : FVec Ideal ⟨3, ![4, N + 1, C]⟩ .f32) (init : EReal)
    (h : (⟨3, ![4, N + 1, C]⟩ : Shape).ReduceWindows ![1, N + 1, 1] ![1, 1, 1] ![0, N, 0] ![0, 0, 0] ⟨3, ![4, N + 1, C]⟩) (hinit : init = 0)
    (b : Fin 4) (c : Fin C) (f : ℕ → ℝ) (hf : ∀ s : Fin (N + 1), x (ix3 b s c) = ((f s.val : ℝ) : EReal)) (j : Fin (N + 1)) :
    Ideal.hostReduceWindowAdd ![1, N + 1, 1] ![1, 1, 1] ![0, N, 0] ![0, 0, 0] h x init (ix3 b j c) = ((∑ k ∈ Finset.range (j.val + 1), f k : ℝ) : EReal) := by
  subst hinit
  unfold Ideal.hostReduceWindowAdd Host.reduceWindow
  dsimp only
  rw [foldl_add, zero_add, ← Fin.sum_univ_def]
  refine Eq.trans (Finset.sum_congr rfl fun n _ => ?_) ((Equiv.sum_comp ((⟨3, ![1, N + 1, 1]⟩ : Shape).rowMajor.symm) (fun w =>
    ((if N ≤ j.val + (w 1).val then f (j.val + (w 1).val - N) else 0 : ℝ) : EReal))).trans ?_)
  · set w := (⟨3, ![1, N + 1, 1]⟩ : Shape).rowMajor.symm n
    have hb := b.isLt
    have hc := c.isLt
    have hj := j.isLt
    have h0 : (w 0).val < 1 := (w 0).isLt
    have hk : (w 1).val < N + 1 := (w 1).isLt
    have h2 : (w 2).val < 1 := (w 2).isLt
    by_cases hle : N ≤ j.val + (w 1).val
    · rw [if_pos hle, dif_pos (fun a => by
        match a with
        | ⟨0, _⟩ => show 0 ≤ b.val * 1 + (w 0).val ∧ b.val * 1 + (w 0).val - 0 < 4; omega
        | ⟨1, _⟩ => show N ≤ j.val * 1 + (w 1).val ∧ j.val * 1 + (w 1).val - N < N + 1; omega
        | ⟨2, _⟩ => show 0 ≤ c.val * 1 + (w 2).val ∧ c.val * 1 + (w 2).val - 0 < C; omega)]
      refine (congrArg x (of3 _ b (⟨j.val + (w 1).val - N, by omega⟩ : Fin (N + 1)) c ?_ ?_ ?_)).trans (hf _)
      · show b.val * 1 + (w 0).val - 0 = b.val; omega
      · show j.val * 1 + (w 1).val - N = j.val + (w 1).val - N; omega
      · show c.val * 1 + (w 2).val - 0 = c.val; omega
    · rw [if_neg hle, dif_neg (fun hin => hle (by
        have h1 : N ≤ j.val * 1 + (w 1).val := (hin 1).1
        omega))]
      rfl
  · refine (sum_idx3 _).trans ?_
    rw [Fin.sum_univ_one]
    rw [sum_coe _ _ (fun k : Fin (N + 1) => if N ≤ j.val + k.val then f (j.val + k.val - N) else 0) (fun k _ => Fin.sum_univ_one _), sum_shift N f j.val (by omega)]

theorem cumsum_at' {N M C : ℕ} (hM : N + 1 = M) (x : FVec Ideal ⟨3, ![4, M, C]⟩ .f32) {u : Shape} (init : FVec Ideal u .f32) (hu : 0 < u.numel)
    (h : (⟨3, ![4, M, C]⟩ : Shape).ReduceWindows ![1, M, 1] ![1, 1, 1] ![0, N, 0] ![0, 0, 0] ⟨3, ![4, M, C]⟩) (hinit : init (Shape.Idx.first hu) = (0 : EReal))
    (b : Fin 4) (c : Fin C) (f : ℕ → ℝ) (hf : ∀ s : Fin M, x (ix3 b s c) = ((f s.val : ℝ) : EReal)) (j : Fin M) :
    Host.reduceWindowAdd ![1, M, 1] ![1, 1, 1] ![0, N, 0] ![0, 0, 0] x init h hu (ix3 b j c) = ((∑ k ∈ Finset.range (j.val + 1), f k : ℝ) : EReal) := by
  subst hM
  exact cumsum_at x (init (Shape.Idx.first hu)) h hinit b c f hf j

theorem zero_f32 : (Ideal.ofBits .f32 0x00000000#32 : EReal) = 0 := by simp [Ideal.ofBits, Ideal.ieee]
theorem ninf_f32 : (Ideal.ofBits .f32 0xFF800000#32 : EReal) = ⊥ := by simp [Ideal.ofBits, Ideal.ieee]

/-- The causal mask. -/
theorem sge_at (t s : Fin 8192) : IntOp.cmpi .sge (BitVec.ofNat 32 t.val) (BitVec.ofNat 32 s.val) = if s ≤ t then 1#1 else 0#1 := by
  have e (n : Fin 8192) : (BitVec.ofNat 32 n.val).toInt = n.val := by
    have h1 : (BitVec.ofNat 32 n.val).toNat = n.val := by rw [BitVec.toNat_ofNat]; exact Nat.mod_eq_of_lt (by omega)
    rw [BitVec.toInt_eq_toNat_of_lt (by omega), h1]
  by_cases h : s ≤ t
  · rw [if_pos h]
    have : (BitVec.ofNat 32 s.val).sle (BitVec.ofNat 32 t.val) = true := by rw [BitVec.sle_iff_toInt_le, e, e]; exact_mod_cast h
    simp [IntOp.cmpi, this]
  · rw [if_neg h]
    have : (BitVec.ofNat 32 s.val).sle (BitVec.ofNat 32 t.val) = false := by
      rw [← Bool.not_eq_true, BitVec.sle_iff_toInt_le, e, e]; exact_mod_cast h
    simp [IntOp.cmpi, this]

/-- The maximum, over the masked row, of `a` and the stabiliser's start. -/
theorem fold_max (D : MSeq) (t : Fin 8192) (g : Fin 8192 → EReal)
    (hg : ∀ s : Fin 8192, g s = if s ≤ t then ((D.Fp (t.val + 1) + D.G s.val : ℝ) : EReal) else ⊥) :
    max ((D.Fp (t.val + 1) : ℝ) : EReal) ((Finset.univ : Finset (Fin 8192)).fold max (⊥ : EReal) g) = ((D.Fp (t.val + 1) + D.Hp (t.val + 1) : ℝ) : EReal) := by
  have key (c : EReal) (A : ℝ) (n : ℕ) : ((A + D.Hp n : ℝ) : EReal) ≤ c ↔ ((A : ℝ) : EReal) ≤ c ∧ ∀ s < n, ((A + D.G s : ℝ) : EReal) ≤ c := by
    induction n with
    | zero => show ((A + 0 : ℝ) : EReal) ≤ c ↔ _; simp
    | succ n ih =>
      have e : A + D.Hp (n + 1) = max (A + D.Hp n) (A + D.G n) := (max_add_add_left A _ _).symm
      rw [e, ← coe_max, max_le_iff, ih]
      constructor
      · rintro ⟨⟨h0, h1⟩, h2⟩
        refine ⟨h0, fun s hs => ?_⟩
        rcases Nat.lt_succ_iff_lt_or_eq.mp hs with h | h
        · exact h1 s h
        · rw [h]; exact h2
      · rintro ⟨h0, h1⟩
        exact ⟨⟨h0, fun s hs => h1 s (by omega)⟩, h1 n (by omega)⟩
  refine eq_of_forall_ge_iff fun c => ?_
  rw [max_le_iff, key, Finset.fold_max_le]
  constructor
  · rintro ⟨h0, -, h1⟩
    refine ⟨h0, fun s hs => ?_⟩
    have := h1 (⟨s, by omega⟩ : Fin 8192) (Finset.mem_univ _)
    rw [hg, if_pos (by show s ≤ t.val; omega)] at this
    exact this
  · rintro ⟨h0, h1⟩
    refine ⟨h0, bot_le, fun s _ => ?_⟩
    rw [hg]
    by_cases h : s ≤ t
    · rw [if_pos h]; exact h1 s.val (by have : s.val ≤ t.val := h; omega)
    · rw [if_neg h]; exact bot_le

theorem sum_mask (f : ℕ → ℝ) (t : Fin 8192) : (∑ s : Fin 8192, if s ≤ t then f s.val else 0) = ∑ s ∈ Finset.range (t.val + 1), f s := by
  have e : (∑ s : Fin 8192, if s ≤ t then f s.val else 0) = ∑ s : Fin 8192, (fun s : ℕ => if s ≤ t.val then f s else 0) s.val := rfl
  rw [e, Fin.sum_univ_eq_sum_range (fun s : ℕ => if s ≤ t.val then f s else 0) 8192, ← Finset.sum_filter]
  refine Finset.sum_congr ?_ fun _ _ => rfl
  ext s
  rw [Finset.mem_filter, Finset.mem_range, Finset.mem_range]
  have := t.isLt
  omega

end Cert.ReferenceIdeal.MixRef

end
-- ==== Proof.MixRefM.lean ====
/- The reference's matrix memory, over the extended reals: its closed form. -/
module

public import proofs.«01_k».proof.Proof.MixRefA

@[expose] public section

set_option maxRecDepth 16384

noncomputable section

namespace Cert.ReferenceIdeal.MixRef

open Idealize.ShloMosaic Idealize.ShloMosaic.TcCoe Cert.ReferenceIdeal Cert.ReferenceIdeal.Gen Cert.ReferenceIdeal.Read Cert.KernelIdeal.MixReal

variable (x0 x1 : FVec Ideal S4x8192x512 .f32) (x2 : FVec Ideal S4x8192x1024 .f32) (x3 x4 x5 : FVec Ideal S4x8192x1024 .f32)
  (x6 x7 : FVec Ideal S4x8192x256 .f32) (x8 x9 : FVec Ideal S4x8192x4 .f32) (x10 : FVec Ideal S4x8192x16 .f32) (x11 : FVec Ideal S1024 .f32)
  (x12 : FVec Ideal S16 .f32) (x13 : FVec Ideal S16 .f32) (R : RArgs) (hR : R.Of x0 x1 x2 x5 x6 x7 x8 x9 x10 x13)

theorem mseq_f (b h : Fin 4) (s : Fin 8192) : (mseq R b h).f s.val = R.f b s h := by show R.f b (pos s.val) h = _; rw [pos_val]
theorem mseq_i (b h : Fin 4) (s : Fin 8192) : (mseq R b h).i s.val = R.i b s h := by show R.i b (pos s.val) h = _; rw [pos_val]
theorem mseq_q (b h : Fin 4) (s : Fin 8192) (d : Fin 128) : (mseq R b h).q s.val d = R.q b s ⟨128 * h.val + d.val, by omega⟩ * qs := by
  show R.q b (pos s.val) _ * qs = _; rw [pos_val]
theorem mseq_k (b h : Fin 4) (s : Fin 8192) (d : Fin 128) : (mseq R b h).k s.val d = R.k b s ⟨128 * h.val + d.val, by omega⟩ := by
  show R.k b (pos s.val) _ = _; rw [pos_val]
theorem mseq_v (b h : Fin 4) (s : Fin 8192) (r : Fin 256) : (mseq R b h).v s.val r = R.v b s ⟨256 * h.val + r.val, by omega⟩ := by
  show R.v b (pos s.val) _ = _; rw [pos_val]

theorem mask1 (b h : Fin 4) (t s : Fin 8192) : val_main_call1_v1 (F := Ideal) (ix4 b h t s) = if s ≤ t then 1#1 else 0#1 := by
  rw [val_main_call1_v1_apply, val_main_v5_apply, val_main_v3_apply, val_main_v1_apply, val_main_v0_apply, val_main_v4_apply, val_main_v2_apply, val_main_v0_apply]
  exact sge_at t s
theorem fill1 (b h : Fin 4) (t s : Fin 8192) : val_main_call1_v2 (F := Ideal) (ix4 b h t s) = (⊥ : EReal) := by
  rw [val_main_call1_v2_apply, val_main_call1_v0_apply, val_main_cst_0_apply]
  exact ninf_f32

theorem c256 : (Ideal.ofBits .f32 0x43800000#32 : EReal) = ((256 : ℝ) : EReal) := by simp [Ideal.ofBits, Ideal.ieee, -EReal.coe_mul] <;> norm_num

include hR

theorem v12_at (b : Fin 4) (t : Fin 8192) (h : Fin 4) : val_main_v12 (F := Ideal) x9 (ix3 b t h) = (((mseq R b h).Fp (t.val + 1) : ℝ) : EReal) := by
  unfold val_main_v12
  refine cumsum_at' (N := 8191) (M := 8192) (C := 4) (by norm_num) x9 _ h_S_ _ ?_ b h (mseq R b h).f (fun s => (hR.f b s h).trans (congrArg _ (mseq_f R b h s).symm)) t
  rw [val_main_call0_call0_v0_apply, val_main_call0_call0_cst_apply]
  exact zero_f32

theorem v21_at (b h : Fin 4) (t s : Fin 8192) : val_main_v21 (F := Ideal) x8 x9 (ix4 b h t s) =
    (((mseq R b h).Fp (t.val + 1) + (mseq R b h).G s.val : ℝ) : EReal) := by
  rw [val_main_v21_apply, val_main_v18_apply, val_main_v16_apply, val_main_v14_apply, val_main_v13_apply, val_main_v17_apply, val_main_v15_apply, val_main_v13_apply,
    val_main_v20_apply, val_main_v19_apply, val_main_v11_apply]
  rw [of3 (idx_main_v13 (idx_main_v14 (idx_main_v16 (ix4 b h t s)))) b t h rfl rfl rfl, of3 (idx_main_v13 (idx_main_v15 (idx_main_v17 (ix4 b h t s)))) b s h rfl rfl rfl,
    of3 (idx_main_v11 (idx_main_v19 (idx_main_v20 (ix4 b h t s)))) b s h rfl rfl rfl, v12_at x0 x1 x2 x5 x6 x7 x8 x9 x10 x13 R hR, v12_at x0 x1 x2 x5 x6 x7 x8 x9 x10 x13 R hR, hR.i b s h, ← mseq_i R b h s]
  show (((mseq R b h).Fp (t.val + 1) : ℝ) : EReal) - (((mseq R b h).Fp (s.val + 1) : ℝ) : EReal) + (((mseq R b h).i s.val : ℝ) : EReal) = _
  rw [← EReal.coe_sub, ← EReal.coe_add]
  refine congrArg _ ?_
  unfold MSeq.G
  ring

theorem v22_at (b h : Fin 4) (t s : Fin 8192) : val_main_v22 (F := Ideal) x8 x9 (ix4 b h t s) =
    if s ≤ t then (((mseq R b h).Fp (t.val + 1) + (mseq R b h).G s.val : ℝ) : EReal) else ⊥ := by
  rw [val_main_v22_apply, mask1, fill1, v21_at x0 x1 x2 x5 x6 x7 x8 x9 x10 x13 R hR]
  by_cases hs : s ≤ t
  · rw [if_pos hs, if_pos hs]; rfl
  · rw [if_neg hs, if_neg hs]; rfl

theorem v24_at (b h : Fin 4) (t : Fin 8192) : val_main_v24 (F := Ideal) x8 x9 (ix3 b h t) =
    (((mseq R b h).Fp (t.val + 1) + (mseq R b h).Hp (t.val + 1) : ℝ) : EReal) := by
  rw [val_main_v24_apply, val_main_v13_apply, of3 (idx_main_v13 (ix3 b h t)) b t h rfl rfl rfl, v12_at x0 x1 x2 x5 x6 x7 x8 x9 x10 x13 R hR]
  refine Eq.trans (congrArg (max (((mseq R b h).Fp (t.val + 1) : ℝ) : EReal)) ?_) (fold_max (mseq R b h) t (fun s => val_main_v22 (F := Ideal) x8 x9 (ix4 b h t s))
    (fun s => v22_at x0 x1 x2 x5 x6 x7 x8 x9 x10 x13 R hR b h t s))
  unfold val_main_v23
  have hr : S4x4x8192x8192.Reduces [3] S4x4x8192 := by decide
  refine (Host.reduce_eq_fold_single (max : EReal → EReal → EReal) (val_main_v22 (F := Ideal) x8 x9) (val_main_cst_1 (F := Ideal))
    reducesTo_S4x4x8192x8192_S4x4x8192_d3 hr h_S_ (ix3 b h t)).trans ?_
  have e1 : val_main_cst_1 (F := Ideal) (Shape.Idx.first h_S_) = (⊥ : EReal) := ninf_f32
  have e2 : (val_main_v22 (F := Ideal) x8 x9 ∘ hr.lift (ix3 b h t)) = fun s : Fin 8192 => val_main_v22 (F := Ideal) x8 x9 (ix4 b h t s) :=
    funext fun s => congrArg (val_main_v22 (F := Ideal) x8 x9) (of4 _ b h t s rfl rfl rfl rfl)
  rw [e1, e2]
  rfl

theorem v29_at (b h : Fin 4) (t s : Fin 8192) : val_main_v29 (F := Ideal) x8 x9 (ix4 b h t s) =
    ((if s ≤ t then Real.exp ((mseq R b h).G s.val - (mseq R b h).Hp (t.val + 1)) else 0 : ℝ) : EReal) := by
  rw [val_main_v29_apply, val_main_v28_apply, val_main_v27_apply, val_main_v26_apply, of3 (idx_main_v26 (idx_main_v27 (ix4 b h t s))) b h t rfl rfl rfl,
    v24_at x0 x1 x2 x5 x6 x7 x8 x9 x10 x13 R hR, v22_at x0 x1 x2 x5 x6 x7 x8 x9 x10 x13 R hR]
  by_cases hs : s ≤ t
  · rw [if_pos hs, if_pos hs]
    show Ideal.exp ((((mseq R b h).Fp (t.val + 1) + (mseq R b h).G s.val : ℝ) : EReal) - (((mseq R b h).Fp (t.val + 1) + (mseq R b h).Hp (t.val + 1) : ℝ) : EReal)) = _
    rw [← EReal.coe_sub]
    refine (exp_coe' _).trans (congrArg _ (congrArg _ ?_))
    ring
  · rw [if_neg hs, if_neg hs]
    show Ideal.exp ((⊥ : EReal) - (((mseq R b h).Fp (t.val + 1) + (mseq R b h).Hp (t.val + 1) : ℝ) : EReal)) = _
    rw [EReal.bot_sub]
    rfl

theorem v25_at (b h : Fin 4) (t s : Fin 8192) : val_main_v25 (F := Ideal) x0 x1 (ix4 b h t s) = (((mseq R b h).kq s.val t.val : ℝ) : EReal) := by
  rw [val_main_v25_apply]
  refine sum_coe _ _ _ fun d _ => ?_
  rw [of4 (lidx_main_v25 (ix4 b h t s) d) b t h d rfl rfl rfl rfl, of4 (ridx_main_v25 (ix4 b h t s) d) b s h d rfl rfl rfl rfl, val_main_v8_apply, val_main_v6_apply, val_main_v7_apply,
    val_main_cst_apply, val_main_v9_apply]
  have hb := b.isLt
  have hh := h.isLt
  have ht := t.isLt
  have hs := s.isLt
  have hd := d.isLt
  rw [of3 (idx_main_v6 (ix4 b t h d)) b t (⟨128 * h.val + d.val, by omega⟩ : Fin 512)
      (by show ((((b.val * 8192 + t.val) * 4 + h.val) * 128 + d.val) / 4194304) = b.val; omega)
      (by show ((((b.val * 8192 + t.val) * 4 + h.val) * 128 + d.val) / 512 % 8192) = t.val; omega)
      (by show ((((b.val * 8192 + t.val) * 4 + h.val) * 128 + d.val) % 512) = 128 * h.val + d.val; omega),
    of3 (idx_main_v9 (ix4 b s h d)) b s (⟨128 * h.val + d.val, by omega⟩ : Fin 512)
      (by show ((((b.val * 8192 + s.val) * 4 + h.val) * 128 + d.val) / 4194304) = b.val; omega)
      (by show ((((b.val * 8192 + s.val) * 4 + h.val) * 128 + d.val) / 512 % 8192) = s.val; omega)
      (by show ((((b.val * 8192 + s.val) * 4 + h.val) * 128 + d.val) % 512) = 128 * h.val + d.val; omega), hR.q, hR.k]
  show (((R.q b t ⟨128 * h.val + d.val, _⟩ : ℝ) : EReal) * Ideal.ofBits .f32 0x3DB504F3#32) * ((R.k b s ⟨128 * h.val + d.val, _⟩ : ℝ) : EReal) = _
  rw [qs_eq, ← EReal.coe_mul, ← EReal.coe_mul, mseq_q, mseq_k, mul_comm]

theorem v30_at (b h : Fin 4) (t s : Fin 8192) : val_main_v30 (F := Ideal) x0 x1 x8 x9 (ix4 b h t s) =
    (((mseq R b h).kq s.val t.val * if s ≤ t then Real.exp ((mseq R b h).G s.val - (mseq R b h).Hp (t.val + 1)) else 0 : ℝ) : EReal) := by
  rw [val_main_v30_apply, v25_at x0 x1 x2 x5 x6 x7 x8 x9 x10 x13 R hR, v29_at x0 x1 x2 x5 x6 x7 x8 x9 x10 x13 R hR]
  exact (EReal.coe_mul _ _).symm

theorem v31_at (b h : Fin 4) (t : Fin 8192) (w : Fin 256) : val_main_v31 (F := Ideal) x0 x1 x2 x8 x9 (ix4 b h t w) =
    (((mseq R b h).num ⟨w.val, by omega⟩ t.val : ℝ) : EReal) := by
  rw [val_main_v31_apply, sum_coe _ _ (fun s : Fin 8192 => if s ≤ t then (mseq R b h).vx ⟨w.val, by omega⟩ s.val *
    ((mseq R b h).kq s.val t.val * Real.exp ((mseq R b h).G s.val - (mseq R b h).Hp (t.val + 1))) else 0) (fun s _ => ?_),
    sum_mask (fun s => (mseq R b h).vx ⟨w.val, by omega⟩ s * ((mseq R b h).kq s t.val * Real.exp ((mseq R b h).G s - (mseq R b h).Hp (t.val + 1)))) t]
  · rfl
  have hb := b.isLt
  have hh := h.isLt
  have hs := s.isLt
  have hd := w.isLt
  rw [of4 (lidx_main_v31 (ix4 b h t w) s) b h t s rfl rfl rfl rfl, of4 (ridx_main_v31 (ix4 b h t w) s) b s h w rfl rfl rfl rfl, v30_at x0 x1 x2 x5 x6 x7 x8 x9 x10 x13 R hR,
    val_main_v10_apply, of3 (idx_main_v10 (ix4 b s h w)) b s (⟨256 * h.val + w.val, by omega⟩ : Fin 1024)
      (by show ((((b.val * 8192 + s.val) * 4 + h.val) * 256 + w.val) / 8388608) = b.val; omega)
      (by show ((((b.val * 8192 + s.val) * 4 + h.val) * 256 + w.val) / 1024 % 8192) = s.val; omega)
      (by show ((((b.val * 8192 + s.val) * 4 + h.val) * 256 + w.val) % 1024) = 256 * h.val + w.val; omega), hR.v, ← mseq_v R b h s w, ← EReal.coe_mul]
  have ev : (mseq R b h).vx ⟨w.val, by omega⟩ s.val = (mseq R b h).v s.val w := by unfold MSeq.vx; rw [dif_pos hd]
  rw [ev]
  refine congrArg _ ?_
  by_cases hm : s ≤ t
  · rw [if_pos hm, if_pos hm]; ring
  · rw [if_neg hm, if_neg hm]; ring

theorem v32_at (b h : Fin 4) (t : Fin 8192) : val_main_v32 (F := Ideal) x0 x1 x8 x9 (ix3 b h t) = (((mseq R b h).num 256 t.val : ℝ) : EReal) := by
  rw [val_main_v32_apply]
  refine (congrArg (· + _) zero_f32).trans ?_
  rw [zero_add, sum_coe _ _ (fun s : Fin 8192 => if s ≤ t then (mseq R b h).vx 256 s.val *
    ((mseq R b h).kq s.val t.val * Real.exp ((mseq R b h).G s.val - (mseq R b h).Hp (t.val + 1))) else 0) (fun s _ => ?_),
    sum_mask (fun s => (mseq R b h).vx 256 s * ((mseq R b h).kq s t.val * Real.exp ((mseq R b h).G s - (mseq R b h).Hp (t.val + 1)))) t]
  · rfl
  rw [of4 (idx_main_v32 (ix3 b h t) s) b h t s rfl rfl rfl rfl, v30_at x0 x1 x2 x5 x6 x7 x8 x9 x10 x13 R hR]
  have ev : (mseq R b h).vx 256 s.val = 1 := by unfold MSeq.vx; rw [dif_neg (by decide)]
  rw [ev]
  refine congrArg _ ?_
  by_cases hm : s ≤ t
  · rw [if_pos hm, if_pos hm]; ring
  · rw [if_neg hm, if_neg hm]; ring

theorem v39_at (b h : Fin 4) (t : Fin 8192) (w : Fin 256) : val_main_v39 (F := Ideal) x0 x1 x2 x8 x9 (ix4 b h t w) = (((mseq R b h).out w t.val : ℝ) : EReal) := by
  rw [val_main_v39_apply, val_main_v38_apply, val_main_v37_apply, of3 (idx_main_v37 (idx_main_v38 (ix4 b h t w))) b h t rfl rfl rfl, val_main_v36_apply, val_main_v33_apply,
    val_main_v35_apply, val_main_v34_apply, v31_at x0 x1 x2 x5 x6 x7 x8 x9 x10 x13 R hR, v32_at x0 x1 x2 x5 x6 x7 x8 x9 x10 x13 R hR, v24_at x0 x1 x2 x5 x6 x7 x8 x9 x10 x13 R hR]
  have e : max (max (((mseq R b h).num 256 t.val : ℝ) : EReal) (-(((mseq R b h).num 256 t.val : ℝ) : EReal)))
      (Ideal.exp (-(((mseq R b h).Fp (t.val + 1) + (mseq R b h).Hp (t.val + 1) : ℝ) : EReal))) = (((mseq R b h).den t.val : ℝ) : EReal) := by
    rw [← EReal.coe_neg, ← EReal.coe_neg, coe_max]
    refine (congrArg (max _) (exp_coe' _)).trans ?_
    rw [coe_max]
    rfl
  show Ideal.div _ (max (max (((mseq R b h).num 256 t.val : ℝ) : EReal) (-(((mseq R b h).num 256 t.val : ℝ) : EReal)))
      (Ideal.exp (-(((mseq R b h).Fp (t.val + 1) + (mseq R b h).Hp (t.val + 1) : ℝ) : EReal)))) = _
  rw [e, div_coe _ _ (MSeq.den_pos _ _).ne']
  rfl

theorem v49_at (b h : Fin 4) (t : Fin 8192) (w : Fin 256) : val_main_v49 (F := Ideal) x0 x1 x2 x8 x9 (ix4 b h t w) =
    (((mseq R b h).out w t.val : ℝ) : EReal) *
        Ideal.rsqrt ((((∑ x : Fin 256, (mseq R b h).out x t.val * (mseq R b h).out x t.val) / 256 : ℝ) : EReal) + Ideal.ofBits .f32 0x358637BD#32) := by
  rw [val_main_v49_apply, v39_at x0 x1 x2 x5 x6 x7 x8 x9 x10 x13 R hR, val_main_v48_apply, val_main_v47_apply, val_main_v46_apply, val_main_v44_apply, val_main_v42_apply,
    of3 (idx_main_v42 (idx_main_v48 (ix4 b h t w))) b h t rfl rfl rfl, val_main_v43_apply, val_main_cst_4_apply, val_main_v45_apply, val_main_cst_5_apply]
  have e : val_main_v41 (F := Ideal) x0 x1 x2 x8 x9 (ix3 b h t) = ((∑ x : Fin 256, (mseq R b h).out x t.val * (mseq R b h).out x t.val : ℝ) : EReal) := by
    rw [val_main_v41_apply]
    refine (congrArg (· + _) zero_f32).trans ?_
    rw [zero_add]
    refine sum_coe _ _ _ fun x _ => ?_
    rw [of4 (idx_main_v41 (ix3 b h t) x) b h t x rfl rfl rfl rfl, val_main_v40_apply, v39_at x0 x1 x2 x5 x6 x7 x8 x9 x10 x13 R hR]
    exact (EReal.coe_mul _ _).symm
  rw [e]
  show _ * Ideal.rsqrt (Ideal.div ((∑ x : Fin 256, (mseq R b h).out x t.val * (mseq R b h).out x t.val : ℝ) : EReal) (Ideal.ofBits .f32 0x43800000#32) +
    Ideal.ofBits .f32 0x358637BD#32) = _
  rw [c256, div_coe _ _ (by norm_num)]

/-- The matrix memory's mixed features. -/
theorem v52_at (b : Fin 4) (t : Fin 8192) (h : Fin 4) (w : Fin 256) : val_main_v52 (F := Ideal) x0 x1 x2 x3 x8 x9 (ix3 b t (⟨256 * h.val + w.val, by omega⟩ : Fin 1024)) =
    FloatOps.mulf (F := Ideal) (φ := .f32) ((((mseq R b h).out w t.val : ℝ) : EReal) *
        Ideal.rsqrt ((((∑ x : Fin 256, (mseq R b h).out x t.val * (mseq R b h).out x t.val) / 256 : ℝ) : EReal) + Ideal.ofBits .f32 0x358637BD#32))
      (x3 (ix3 b t (⟨256 * h.val + w.val, by omega⟩ : Fin 1024))) := by
  have hb := b.isLt
  have hh := h.isLt
  have ht := t.isLt
  have hd := w.isLt
  rw [val_main_v52_apply, val_main_v51_apply, of4 (idx_main_v51 (ix3 b t (⟨256 * h.val + w.val, by omega⟩ : Fin 1024))) b t h w
      (by show ((b.val * 8192 + t.val) * 1024 + (256 * h.val + w.val)) / 8388608 = b.val; omega)
      (by show ((b.val * 8192 + t.val) * 1024 + (256 * h.val + w.val)) / 1024 % 8192 = t.val; omega)
      (by show ((b.val * 8192 + t.val) * 1024 + (256 * h.val + w.val)) / 256 % 4 = h.val; omega)
      (by show ((b.val * 8192 + t.val) * 1024 + (256 * h.val + w.val)) % 256 = w.val; omega),
    val_main_v50_apply, of4 (idx_main_v50 (ix4 b t h w)) b h t w rfl rfl rfl rfl, v49_at x0 x1 x2 x5 x6 x7 x8 x9 x10 x13 R hR]

end Cert.ReferenceIdeal.MixRef

end
-- ==== Proof.MixRefS.lean ====
/- The reference's state space, over the extended reals: its closed form. -/
module

public import proofs.«01_k».proof.Proof.MixRefA

@[expose] public section

set_option maxRecDepth 16384

noncomputable section

namespace Cert.ReferenceIdeal.MixRef

open Idealize.ShloMosaic Idealize.ShloMosaic.TcCoe Cert.ReferenceIdeal Cert.ReferenceIdeal.Gen Cert.ReferenceIdeal.Read Cert.KernelIdeal.MixReal

variable (x0 x1 : FVec Ideal S4x8192x512 .f32) (x2 : FVec Ideal S4x8192x1024 .f32) (x3 x4 x5 : FVec Ideal S4x8192x1024 .f32)
  (x6 x7 : FVec Ideal S4x8192x256 .f32) (x8 x9 : FVec Ideal S4x8192x4 .f32) (x10 : FVec Ideal S4x8192x16 .f32) (x11 : FVec Ideal S1024 .f32)
  (x12 : FVec Ideal S16 .f32) (x13 : FVec Ideal S16 .f32) (R : RArgs) (hR : R.Of x0 x1 x2 x5 x6 x7 x8 x9 x10 x13)

theorem sseq_a (b : Fin 4) (g : Fin 2) (r : Fin 8) (s : Fin 8192) : (sseq R b g r).a s.val =
    R.d b s ⟨8 * g.val + r.val, by omega⟩ * -Real.exp (R.a ⟨8 * g.val + r.val, by omega⟩) := by show R.d b (pos s.val) _ * _ = _; rw [pos_val]
theorem sseq_dt (b : Fin 4) (g : Fin 2) (r : Fin 8) (s : Fin 8192) : (sseq R b g r).dt s.val = R.d b s ⟨8 * g.val + r.val, by omega⟩ := by
  show R.d b (pos s.val) _ = _; rw [pos_val]
theorem sseq_x (b : Fin 4) (g : Fin 2) (r : Fin 8) (s : Fin 8192) (p : Fin 64) : (sseq R b g r).x s.val p = R.x b s ⟨64 * (8 * g.val + r.val) + p.val, by omega⟩ := by
  show R.x b (pos s.val) _ = _; rw [pos_val]
theorem sseq_b (b : Fin 4) (g : Fin 2) (r : Fin 8) (s : Fin 8192) (j : Fin 128) : (sseq R b g r).b s.val j = R.b b s ⟨128 * g.val + j.val, by omega⟩ := by
  show R.b b (pos s.val) _ = _; rw [pos_val]
theorem sseq_c (b : Fin 4) (g : Fin 2) (r : Fin 8) (s : Fin 8192) (j : Fin 128) : (sseq R b g r).c s.val j = R.c b s ⟨128 * g.val + j.val, by omega⟩ := by
  show R.c b (pos s.val) _ = _; rw [pos_val]

theorem mask3 (b : Fin 4) (h : Fin 16) (t s : Fin 8192) : val_main_call3_v1 (F := Ideal) (ix4 b h t s) = if s ≤ t then 1#1 else 0#1 := by
  rw [val_main_call3_v1_apply, val_main_v5_apply, val_main_v3_apply, val_main_v1_apply, val_main_v0_apply, val_main_v4_apply, val_main_v2_apply, val_main_v0_apply]
  exact sge_at t s
theorem fill3 (b : Fin 4) (h : Fin 16) (t s : Fin 8192) : val_main_call3_v2 (F := Ideal) (ix4 b h t s) = (⊥ : EReal) := by
  rw [val_main_call3_v2_apply, val_main_call3_v0_apply, val_main_cst_6_apply]
  exact ninf_f32

theorem v53_at (b : Fin 4) (s : Fin 8192) (h : Fin 16) (p : Fin 64) : val_main_v53 (F := Ideal) x5 (ix4 b s h p) = x5 (ix3 b s (⟨64 * h.val + p.val, by omega⟩ : Fin 1024)) := by
  have hb := b.isLt
  have hh := h.isLt
  have hs := s.isLt
  have hd := p.isLt
  rw [val_main_v53_apply, of3 (idx_main_v53 (ix4 b s h p)) b s (⟨64 * h.val + p.val, by omega⟩ : Fin 1024)
      (by show ((((b.val * 8192 + s.val) * 16 + h.val) * 64 + p.val) / 8388608) = b.val; omega)
      (by show ((((b.val * 8192 + s.val) * 16 + h.val) * 64 + p.val) / 1024 % 8192) = s.val; omega)
      (by show ((((b.val * 8192 + s.val) * 16 + h.val) * 64 + p.val) % 1024) = 64 * h.val + p.val; omega)]

theorem v68_at (b : Fin 4) (s : Fin 8192) (g : Fin 2) (j : Fin 128) : val_main_v68 (F := Ideal) x6 (ix4 b s g j) = x6 (ix3 b s (⟨128 * g.val + j.val, by omega⟩ : Fin 256)) := by
  have hb := b.isLt
  have hh := g.isLt
  have hs := s.isLt
  have hd := j.isLt
  rw [val_main_v68_apply, of3 (idx_main_v68 (ix4 b s g j)) b s (⟨128 * g.val + j.val, by omega⟩ : Fin 256)
      (by show ((((b.val * 8192 + s.val) * 2 + g.val) * 128 + j.val) / 2097152) = b.val; omega)
      (by show ((((b.val * 8192 + s.val) * 2 + g.val) * 128 + j.val) / 256 % 8192) = s.val; omega)
      (by show ((((b.val * 8192 + s.val) * 2 + g.val) * 128 + j.val) % 256) = 128 * g.val + j.val; omega)]

theorem v69_at (b : Fin 4) (s : Fin 8192) (g : Fin 2) (j : Fin 128) : val_main_v69 (F := Ideal) x7 (ix4 b s g j) = x7 (ix3 b s (⟨128 * g.val + j.val, by omega⟩ : Fin 256)) := by
  have hb := b.isLt
  have hh := g.isLt
  have hs := s.isLt
  have hd := j.isLt
  rw [val_main_v69_apply, of3 (idx_main_v69 (ix4 b s g j)) b s (⟨128 * g.val + j.val, by omega⟩ : Fin 256)
      (by show ((((b.val * 8192 + s.val) * 2 + g.val) * 128 + j.val) / 2097152) = b.val; omega)
      (by show ((((b.val * 8192 + s.val) * 2 + g.val) * 128 + j.val) / 256 % 8192) = s.val; omega)
      (by show ((((b.val * 8192 + s.val) * 2 + g.val) * 128 + j.val) % 256) = 128 * g.val + j.val; omega)]

include hR

theorem v59_at (b : Fin 4) (t : Fin 8192) (g : Fin 2) (r : Fin 8) : val_main_v59 (F := Ideal) x10 x13 (ix3 b t (⟨8 * g.val + r.val, by omega⟩ : Fin 16)) =
    (((sseq R b g r).Ap (t.val + 1) : ℝ) : EReal) := by
  unfold val_main_v59
  refine cumsum_at' (N := 8191) (M := 8192) (C := 16) (by norm_num) (val_main_v58 (F := Ideal) x10 x13) _ h_S_ _ ?_ b (⟨8 * g.val + r.val, by omega⟩ : Fin 16) (sseq R b g r).a (fun s => ?_) t
  · rw [val_main_call2_call0_v0_apply, val_main_call2_call0_cst_apply]
    exact zero_f32
  · rw [val_main_v58_apply, val_main_v57_apply, val_main_v56_apply,
      of1 (idx_main_v56 (idx_main_v57 (ix3 b s (⟨8 * g.val + r.val, by omega⟩ : Fin 16)))) (⟨8 * g.val + r.val, by omega⟩ : Fin 16) rfl, val_main_v55_apply, val_main_v54_apply, hR.d, hR.a]
    show ((R.d b s ⟨8 * g.val + r.val, _⟩ : ℝ) : EReal) * -((Real.exp (R.a ⟨8 * g.val + r.val, _⟩) : ℝ) : EReal) = _
    rw [← EReal.coe_neg, ← EReal.coe_mul, sseq_a]

theorem v67_at (b : Fin 4) (g : Fin 2) (r : Fin 8) (t s : Fin 8192) : val_main_v67 (F := Ideal) x10 x13 (ix4 b (⟨8 * g.val + r.val, by omega⟩ : Fin 16) t s) =
    ((if s ≤ t then Real.exp ((sseq R b g r).Ap (t.val + 1) - (sseq R b g r).Ap (s.val + 1)) else 0 : ℝ) : EReal) := by
  rw [val_main_v67_apply, val_main_v66_apply, mask3, fill3, val_main_v65_apply, val_main_v63_apply, val_main_v61_apply, val_main_v60_apply, val_main_v64_apply, val_main_v62_apply,
    val_main_v60_apply,
    of3 (idx_main_v60 (idx_main_v61 (idx_main_v63 (ix4 b (⟨8 * g.val + r.val, by omega⟩ : Fin 16) t s)))) b t (⟨8 * g.val + r.val, by omega⟩ : Fin 16) rfl rfl rfl,
    of3 (idx_main_v60 (idx_main_v62 (idx_main_v64 (ix4 b (⟨8 * g.val + r.val, by omega⟩ : Fin 16) t s)))) b s (⟨8 * g.val + r.val, by omega⟩ : Fin 16) rfl rfl rfl,
    v59_at x0 x1 x2 x5 x6 x7 x8 x9 x10 x13 R hR, v59_at x0 x1 x2 x5 x6 x7 x8 x9 x10 x13 R hR]
  by_cases hs : s ≤ t
  · rw [if_pos hs, if_pos hs]
    show Ideal.exp ((((sseq R b g r).Ap (t.val + 1) : ℝ) : EReal) - (((sseq R b g r).Ap (s.val + 1) : ℝ) : EReal)) = _
    rw [← EReal.coe_sub]
    exact exp_coe' _
  · rw [if_neg hs, if_neg hs]; rfl

theorem v72_at (b : Fin 4) (g : Fin 2) (r : Fin 8) (t s : Fin 8192) : val_main_v72 (F := Ideal) x6 x7 (ix4 b (⟨8 * g.val + r.val, by omega⟩ : Fin 16) t s) =
    (((sseq R b g r).bc s.val t.val : ℝ) : EReal) := by
  have hb := b.isLt
  have hg := g.isLt
  have hr := r.isLt
  have ht := t.isLt
  have hs := s.isLt
  rw [val_main_v72_apply, val_main_v71_apply, of4 (idx_main_v71 (idx_main_v72 (ix4 b (⟨8 * g.val + r.val, by omega⟩ : Fin 16) t s))) b g t s
      (by show ((((b.val * 16 + (8 * g.val + r.val)) * 8192 + t.val) * 8192 + s.val) / 1073741824) = b.val; omega)
      (by show ((((b.val * 16 + (8 * g.val + r.val)) * 8192 + t.val) * 8192 + s.val) / 536870912 % 2) = g.val; omega)
      (by show ((((b.val * 16 + (8 * g.val + r.val)) * 8192 + t.val) * 8192 + s.val) / 8192 % 8192) = t.val; omega)
      (by show ((((b.val * 16 + (8 * g.val + r.val)) * 8192 + t.val) * 8192 + s.val) % 8192) = s.val; omega), val_main_v70_apply]
  refine sum_coe _ _ _ fun j _ => ?_
  rw [of4 (lidx_main_v70 (ix4 b g t s) j) b t g j rfl rfl rfl rfl, of4 (ridx_main_v70 (ix4 b g t s) j) b s g j rfl rfl rfl rfl, v68_at, v69_at, hR.b, hR.c, ← EReal.coe_mul,
    sseq_b, sseq_c, mul_comm]

theorem v77_at (b : Fin 4) (g : Fin 2) (r : Fin 8) (p : Fin 64) (t : Fin 8192) : val_main_v77 (F := Ideal) x5 x6 x7 x10 x13 (ix4 b (⟨8 * g.val + r.val, by omega⟩ : Fin 16) p t) =
    (((sseq R b g r).y p t.val : ℝ) : EReal) := by
  rw [val_main_v77_apply, sum_coe _ _ (fun s : Fin 8192 => if s ≤ t then (sseq R b g r).x s.val p * (sseq R b g r).dt s.val *
      ((sseq R b g r).bc s.val t.val * Real.exp ((sseq R b g r).Ap (t.val + 1) - (sseq R b g r).Ap (s.val + 1))) else 0) (fun s _ => ?_),
    sum_mask (fun s => (sseq R b g r).x s p * (sseq R b g r).dt s *
      ((sseq R b g r).bc s t.val * Real.exp ((sseq R b g r).Ap (t.val + 1) - (sseq R b g r).Ap (s + 1)))) t]
  · rfl
  rw [of4 (lidx_main_v77 (ix4 b (⟨8 * g.val + r.val, by omega⟩ : Fin 16) p t) s) b s (⟨8 * g.val + r.val, by omega⟩ : Fin 16) p rfl rfl rfl rfl,
    of4 (ridx_main_v77 (ix4 b (⟨8 * g.val + r.val, by omega⟩ : Fin 16) p t) s) b (⟨8 * g.val + r.val, by omega⟩ : Fin 16) t s rfl rfl rfl rfl,
    val_main_v76_apply, val_main_v73_apply, v53_at, val_main_v75_apply, val_main_v74_apply,
    of3 (idx_main_v74 (idx_main_v75 (ix4 b s (⟨8 * g.val + r.val, by omega⟩ : Fin 16) p))) b s (⟨8 * g.val + r.val, by omega⟩ : Fin 16) rfl rfl rfl,
    v72_at x0 x1 x2 x5 x6 x7 x8 x9 x10 x13 R hR, v67_at x0 x1 x2 x5 x6 x7 x8 x9 x10 x13 R hR, hR.x, hR.d, ← sseq_dt R b g r s]
  have ex : (R.x b s ⟨64 * (8 * g.val + r.val) + p.val, by omega⟩) = (sseq R b g r).x s.val p := (sseq_x R b g r s p).symm
  show (((R.x b s ⟨64 * (8 * g.val + r.val) + p.val, by omega⟩ : ℝ) : EReal) * (((sseq R b g r).dt s.val : ℝ) : EReal)) *
    ((((sseq R b g r).bc s.val t.val : ℝ) : EReal) * ((if s ≤ t then Real.exp ((sseq R b g r).Ap (t.val + 1) - (sseq R b g r).Ap (s.val + 1)) else 0 : ℝ) : EReal)) = _
  rw [ex, ← EReal.coe_mul, ← EReal.coe_mul, ← EReal.coe_mul]
  refine congrArg _ ?_
  by_cases hm : s ≤ t
  · rw [if_pos hm, if_pos hm]
  · rw [if_neg hm, if_neg hm, mul_zero, mul_zero]

/-- A head's gated output. -/
theorem v85_at (b : Fin 4) (t : Fin 8192) (g : Fin 2) (r : Fin 8) (p : Fin 64) :
    val_main_v85 (F := Ideal) x4 x5 x6 x7 x10 x12 x13 (ix3 b t (⟨64 * (8 * g.val + r.val) + p.val, by omega⟩ : Fin 1024)) =
      FloatOps.mulf (F := Ideal) (φ := .f32) ((((sseq R b g r).y p t.val : ℝ) : EReal) +
        FloatOps.mulf (F := Ideal) (φ := .f32) (x12 (ix1 (⟨8 * g.val + r.val, by omega⟩ : Fin 16)))
          (x5 (ix3 b t (⟨64 * (8 * g.val + r.val) + p.val, by omega⟩ : Fin 1024))))
        (x4 (ix3 b t (⟨64 * (8 * g.val + r.val) + p.val, by omega⟩ : Fin 1024))) := by
  have hb := b.isLt
  have hg := g.isLt
  have hr := r.isLt
  have ht := t.isLt
  have hp := p.isLt
  rw [val_main_v85_apply, val_main_v84_apply, of4 (idx_main_v84 (ix3 b t (⟨64 * (8 * g.val + r.val) + p.val, by omega⟩ : Fin 1024))) b t (⟨8 * g.val + r.val, by omega⟩ : Fin 16) p
      (by show ((b.val * 8192 + t.val) * 1024 + (64 * (8 * g.val + r.val) + p.val)) / 8388608 = b.val; omega)
      (by show ((b.val * 8192 + t.val) * 1024 + (64 * (8 * g.val + r.val) + p.val)) / 1024 % 8192 = t.val; omega)
      (by show ((b.val * 8192 + t.val) * 1024 + (64 * (8 * g.val + r.val) + p.val)) / 64 % 16 = 8 * g.val + r.val; omega)
      (by show ((b.val * 8192 + t.val) * 1024 + (64 * (8 * g.val + r.val) + p.val)) % 64 = p.val; omega),
    val_main_v83_apply, val_main_v78_apply, of4 (idx_main_v78 (ix4 b t (⟨8 * g.val + r.val, by omega⟩ : Fin 16) p)) b (⟨8 * g.val + r.val, by omega⟩ : Fin 16) p t rfl rfl rfl rfl,
    v77_at x0 x1 x2 x5 x6 x7 x8 x9 x10 x13 R hR, val_main_v82_apply, val_main_v81_apply, val_main_v80_apply, val_main_v79_apply,
    of1 (idx_main_v79 (idx_main_v80 (idx_main_v81 (ix4 b t (⟨8 * g.val + r.val, by omega⟩ : Fin 16) p)))) (⟨8 * g.val + r.val, by omega⟩ : Fin 16) rfl, v53_at]
  rfl

omit hR

/-- A group's mixed features, of its gated outputs. -/
theorem v100_at (b : Fin 4) (t : Fin 8192) (g : Fin 2) (e : Fin 512) :
    val_main_v100 (F := Ideal) x4 x5 x6 x7 x10 x11 x12 x13 (ix3 b t (⟨512 * g.val + e.val, by omega⟩ : Fin 1024)) =
      (val_main_v85 (F := Ideal) x4 x5 x6 x7 x10 x12 x13 (ix3 b t (⟨512 * g.val + e.val, by omega⟩ : Fin 1024)) *
        Ideal.rsqrt (Ideal.div (∑ k : Fin 512, val_main_v85 (F := Ideal) x4 x5 x6 x7 x10 x12 x13 (ix3 b t (⟨512 * g.val + k.val, by omega⟩ : Fin 1024)) *
          val_main_v85 (F := Ideal) x4 x5 x6 x7 x10 x12 x13 (ix3 b t (⟨512 * g.val + k.val, by omega⟩ : Fin 1024))) (Ideal.ofBits .f32 0x44000000#32) + Ideal.ofBits .f32 0x358637BD#32)) *
        x11 (ix1 (⟨512 * g.val + e.val, by omega⟩ : Fin 1024)) := by
  have hb := b.isLt
  have hg := g.isLt
  have ht := t.isLt
  have he := e.isLt
  have e86 (k : Fin 512) : val_main_v86 (F := Ideal) x4 x5 x6 x7 x10 x12 x13 (ix4 b t g k) =
      val_main_v85 (F := Ideal) x4 x5 x6 x7 x10 x12 x13 (ix3 b t (⟨512 * g.val + k.val, by omega⟩ : Fin 1024)) := by
    have hk := k.isLt
    rw [val_main_v86_apply, of3 (idx_main_v86 (ix4 b t g k)) b t (⟨512 * g.val + k.val, by omega⟩ : Fin 1024)
      (by show ((((b.val * 8192 + t.val) * 2 + g.val) * 512 + k.val) / 8388608) = b.val; omega)
      (by show ((((b.val * 8192 + t.val) * 2 + g.val) * 512 + k.val) / 1024 % 8192) = t.val; omega)
      (by show ((((b.val * 8192 + t.val) * 2 + g.val) * 512 + k.val) % 1024) = 512 * g.val + k.val; omega)]
  rw [val_main_v100_apply, val_main_v97_apply, of4 (idx_main_v97 (ix3 b t (⟨512 * g.val + e.val, by omega⟩ : Fin 1024))) b t g e
      (by show ((b.val * 8192 + t.val) * 1024 + (512 * g.val + e.val)) / 8388608 = b.val; omega)
      (by show ((b.val * 8192 + t.val) * 1024 + (512 * g.val + e.val)) / 1024 % 8192 = t.val; omega)
      (by show ((b.val * 8192 + t.val) * 1024 + (512 * g.val + e.val)) / 512 % 2 = g.val; omega)
      (by show ((b.val * 8192 + t.val) * 1024 + (512 * g.val + e.val)) % 512 = e.val; omega),
    val_main_v96_apply, e86, val_main_v95_apply, val_main_v94_apply, val_main_v93_apply, val_main_v91_apply, val_main_v89_apply,
    of3 (idx_main_v89 (idx_main_v95 (ix4 b t g e))) b t g rfl rfl rfl, val_main_v90_apply, val_main_cst_8_apply, val_main_v92_apply, val_main_cst_9_apply,
    val_main_v99_apply, val_main_v98_apply, of1 (idx_main_v98 (idx_main_v99 (ix3 b t (⟨512 * g.val + e.val, by omega⟩ : Fin 1024)))) (⟨512 * g.val + e.val, by omega⟩ : Fin 1024) rfl]
  have e88 : val_main_v88 (F := Ideal) x4 x5 x6 x7 x10 x12 x13 (ix3 b t g) =
      ∑ k : Fin 512, val_main_v85 (F := Ideal) x4 x5 x6 x7 x10 x12 x13 (ix3 b t (⟨512 * g.val + k.val, by omega⟩ : Fin 1024)) *
          val_main_v85 (F := Ideal) x4 x5 x6 x7 x10 x12 x13 (ix3 b t (⟨512 * g.val + k.val, by omega⟩ : Fin 1024)) := by
    rw [val_main_v88_apply]
    refine (congrArg (· + _) zero_f32).trans ?_
    rw [zero_add]
    refine Finset.sum_congr rfl fun k _ => ?_
    rw [of4 (idx_main_v88 (ix3 b t g) k) b t g k rfl rfl rfl rfl, val_main_v87_apply, e86]
    rfl
  rw [e88]
  rfl

end Cert.ReferenceIdeal.MixRef

end
-- ==== Proof.MixRefT.lean ====
/- The reference's result at an element: the residual row plus the mix row times the output weights, normalized and weighted. -/
module

public import proofs.«01_k».proof.Proof.MixRefM
public import proofs.«01_k».proof.Proof.MixRefS

@[expose] public section

set_option maxRecDepth 16384

noncomputable section

namespace Cert.ReferenceIdeal.MixRef

open Idealize.ShloMosaic Idealize.ShloMosaic.TcCoe Cert.ReferenceIdeal Cert.ReferenceIdeal.Gen Cert.ReferenceIdeal.Read Cert.KernelIdeal.MixReal

variable (x0 x1 : FVec Ideal S4x8192x512 .f32) (x2 : FVec Ideal S4x8192x1024 .f32) (x3 x4 x5 : FVec Ideal S4x8192x1024 .f32)
  (x6 x7 : FVec Ideal S4x8192x256 .f32) (x8 x9 : FVec Ideal S4x8192x4 .f32) (x10 : FVec Ideal S4x8192x16 .f32) (x11 : FVec Ideal S1024 .f32)
  (x12 : FVec Ideal S16 .f32) (x13 : FVec Ideal S16 .f32)
  (x14 : FVec Ideal S4x8192x1024 .f32) (x15 : FVec Ideal S2048x1024 .f32) (x16 : FVec Ideal S1024 .f32)

theorem v101_lo (b : Fin 4) (s : Fin 8192) (d : Fin 2048) (e : Fin 1024) (h : d.val = e.val) :
    val_main_v101 (F := Ideal) x0 x1 x2 x3 x4 x5 x6 x7 x8 x9 x10 x11 x12 x13 (ix3 b s d) =
      val_main_v52 (F := Ideal) x0 x1 x2 x3 x8 x9 (ix3 b s e) := by
  unfold val_main_v101
  generalize val_main_v52 (F := Ideal) x0 x1 x2 x3 x8 x9 = y0
  generalize val_main_v100 (F := Ideal) x4 x5 x6 x7 x10 x11 x12 x13 = y1
  exact concatenate_pair_apply_left (s₁ := S4x8192x1024) (s₂ := S4x8192x1024) 2 y0 y1 _ (ix3 b s d) rfl (ix3 b s e) (fun a => by
    match a with
    | ⟨0, _⟩ => rfl
    | ⟨1, _⟩ => rfl
    | ⟨2, _⟩ => exact h.symm)

theorem v101_hi (b : Fin 4) (s : Fin 8192) (d : Fin 2048) (e : Fin 1024) (h : d.val = 1024 + e.val) :
    val_main_v101 (F := Ideal) x0 x1 x2 x3 x4 x5 x6 x7 x8 x9 x10 x11 x12 x13 (ix3 b s d) =
      val_main_v100 (F := Ideal) x4 x5 x6 x7 x10 x11 x12 x13 (ix3 b s e) := by
  unfold val_main_v101
  generalize val_main_v52 (F := Ideal) x0 x1 x2 x3 x8 x9 = y0
  generalize val_main_v100 (F := Ideal) x4 x5 x6 x7 x10 x11 x12 x13 = y1
  refine concatenate_pair_apply_right (s₁ := S4x8192x1024) (s₂ := S4x8192x1024) 2 y0 y1 _ (ix3 b s d) rfl rfl (ix3 b s e) (fun a ha => ?_) ?_
  · match a, ha with
    | ⟨0, _⟩, _ => rfl
    | ⟨1, _⟩, _ => rfl
    | ⟨2, _⟩, ha => exact absurd rfl ha
  · show e.val + 1024 = d.val
    omega

/-- The residual plus the projection of one mix row. -/
def rowA (b : Fin 4) (s : Fin 8192) (j : Fin 1024) : EReal :=
  FloatOps.addf (F := Ideal) (φ := .f32) (x14 (ix3 b s j))
    (∑ d : Fin 2048, FloatOps.mulf (F := Ideal) (φ := .f32) (val_main_v101 (F := Ideal) x0 x1 x2 x3 x4 x5 x6 x7 x8 x9 x10 x11 x12 x13 (ix3 b s d)) (x15 (ix2 d j)))

theorem v103_at (b : Fin 4) (s : Fin 8192) (j : Fin 1024) :
    val_main_v103 (F := Ideal) x0 x1 x2 x3 x4 x5 x6 x7 x8 x9 x10 x11 x12 x13 x14 x15 (ix3 b s j) =
      rowA x0 x1 x2 x3 x4 x5 x6 x7 x8 x9 x10 x11 x12 x13 x14 x15 b s j := by
  rw [val_main_v103_apply, val_main_v102_apply]
  unfold rowA
  refine congrArg (FloatOps.addf (F := Ideal) (φ := .f32) (x14 (ix3 b s j))) (Finset.sum_congr rfl fun d _ => ?_)
  rw [of3 (lidx_main_v102 (ix3 b s j) d) b s d rfl rfl rfl, of2 (ridx_main_v102 (ix3 b s j) d) d j rfl rfl]
  rfl

theorem v105_at (b : Fin 4) (s : Fin 8192) :
    val_main_v105 (F := Ideal) x0 x1 x2 x3 x4 x5 x6 x7 x8 x9 x10 x11 x12 x13 x14 x15 (ix2 b s) =
      ∑ k : Fin 1024, rowA x0 x1 x2 x3 x4 x5 x6 x7 x8 x9 x10 x11 x12 x13 x14 x15 b s k *
        rowA x0 x1 x2 x3 x4 x5 x6 x7 x8 x9 x10 x11 x12 x13 x14 x15 b s k := by
  rw [val_main_v105_apply]
  refine (congrArg (· + _) zero_f32).trans ?_
  rw [zero_add]
  refine Finset.sum_congr rfl fun k _ => ?_
  rw [of3 (idx_main_v105 (ix2 b s) k) b s k rfl rfl rfl, val_main_v104_apply, v103_at]
  rfl

theorem v117_at (i : Fin 32768) (j : Fin 1024) (b : Fin 4) (s : Fin 8192) (hi : i.val = b.val * 8192 + s.val) :
    val_main_v117 (F := Ideal) x0 x1 x2 x3 x4 x5 x6 x7 x8 x9 x10 x11 x12 x13 x14 x15 x16 (ix2 i j) =
      FloatOps.mulf (F := Ideal) (φ := .f32) (rowA x0 x1 x2 x3 x4 x5 x6 x7 x8 x9 x10 x11 x12 x13 x14 x15 b s j *
        Ideal.rsqrt (Ideal.div (∑ k : Fin 1024, rowA x0 x1 x2 x3 x4 x5 x6 x7 x8 x9 x10 x11 x12 x13 x14 x15 b s k *
          rowA x0 x1 x2 x3 x4 x5 x6 x7 x8 x9 x10 x11 x12 x13 x14 x15 b s k) (Ideal.ofBits .f32 0x44800000#32) + Ideal.ofBits .f32 0x358637BD#32)) (x16 (ix1 j)) := by
  have hb := b.isLt
  have hs := s.isLt
  have hj := j.isLt
  rw [val_main_v117_apply, of3 (idx_main_v117 (ix2 i j)) b s j
      (by show (i.val * 1024 + j.val) / 8388608 = b.val; omega)
      (by show (i.val * 1024 + j.val) / 1024 % 8192 = s.val; omega)
      (by show (i.val * 1024 + j.val) % 1024 = j.val; omega),
    val_main_v116_apply, val_main_v113_apply, v103_at, val_main_v112_apply, val_main_v111_apply, val_main_v110_apply, val_main_v108_apply,
    val_main_v106_apply, of2 (idx_main_v106 (idx_main_v112 (ix3 b s j))) b s rfl rfl, v105_at, val_main_v107_apply, val_main_cst_11_apply,
    val_main_v109_apply, val_main_cst_12_apply, val_main_v115_apply, val_main_v114_apply,
    of1 (idx_main_v114 (idx_main_v115 (ix3 b s j))) j rfl]
  rfl

end Cert.ReferenceIdeal.MixRef

end
-- ==== Proof.MixFinal.lean ====
/- The mixer's array after the run is the reference's result, for arguments that are real numbers. -/
module

public import proofs.«01_k».proof.Proof.MixState
public import proofs.«01_k».proof.Proof.MixTile
public import proofs.«01_k».proof.Proof.MixRefT

@[expose] public section

set_option maxRecDepth 16384

noncomputable section

namespace Cert.KernelIdeal.MixFinal

open Idealize.ShloMosaic Idealize.ShloMosaic.TcCoe Idealize.SL.Sem Cert.KernelIdeal Cert.KernelIdeal.Gen Cert.KernelIdeal.Step Cert.KernelIdeal.Carry
open Cert.KernelIdeal.MixElem Cert.KernelIdeal.MixReal Cert.KernelIdeal.MixReads Cert.KernelIdeal.MixOuts Cert.KernelIdeal.MixState Cert.KernelIdeal.MixTile

variable (m : (ℓ : Loc nD τ sig) → Buf (Elt Ideal) ℓ) (c : Dev nD) (R : RArgs)
  (hR : R.Of (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)))

/-- The reference's mix rows, of the kernel's arguments. -/
def mixRef (b : Fin 4) (s : Fin 8192) (d : Fin 2048) : EReal :=
  ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (ix3 b s d)

include hR

theorem mix_lo (b : Fin 4) (i : ℕ) (hi : i < 16) (n : ℕ) (hn : n = 16 * b.val + i) (hn' : n < cfg0.N) (sl : Fin 2) (hsl : sl.val = n % 2) (cc : Fin 4) (l : Fin 128)
    (d : Fin 2048) (s : Fin 8192) (hs : s.val = 128 * (4 * i + cc.val) + l.val) (h : Fin 4) (w : Fin 256) (hd : d.val = 256 * h.val + w.val) :
    (outsAt0 m c n hn').2.2.2.2 (ix4 sl cc d l) = mixRef m c b s d := by
  refine (mix_at_M m c b.val i b.isLt hi n hn hn' sl hsl cc h w l d hd).trans ?_
  refine (oM_real m c R hR b h i hi cc w l s hs).trans ?_
  refine (ReferenceIdeal.MixRef.v52_at (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) R hR b s h w).symm.trans ?_
  exact (ReferenceIdeal.MixRef.v101_lo (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) b s d _ hd).symm

theorem y_ref (b : Fin 4) (i : ℕ) (hi : i < 16) (cc : Fin 4) (l : Fin 128) (s : Fin 8192) (hs : s.val = 128 * (4 * i + cc.val) + l.val) (g : Fin 2) (k : Fin 512) :
    cat8 (fun r => yM ((Bs m c b i).b cc g) ((Bs m c b i).c cc g) ((Bs m c b i).x cc g r) ((Bs m c b i).z cc g r) ((Bs m c b i).aR cc g r) ((Bs m c b i).dR cc g r)
      ((Bs m c b i).eaR cc g r) ((Bs m c b i).ds g r) (hT (Bs m c b) (4 * i + cc.val) g) r) (ix2 k l) =
      ReferenceIdeal.Read.val_main_v85 (F := Ideal) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg12)) (m ((c : Thread nD τ).loc main_arg13)) (ix3 b s (⟨512 * g.val + k.val, by omega⟩ : Fin 1024)) := by
  refine (y_real m c R hR b g i hi cc ⟨k.val / 64, by omega⟩ ⟨k.val % 64, by omega⟩ l s hs k (by show k.val = 64 * (k.val / 64) + k.val % 64; omega)).trans ?_
  refine (ReferenceIdeal.MixRef.v85_at (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg12)) (m ((c : Thread nD τ).loc main_arg13)) R hR b s g ⟨k.val / 64, by omega⟩ ⟨k.val % 64, by omega⟩).symm.trans ?_
  exact congrArg (fun z => ReferenceIdeal.Read.val_main_v85 (F := Ideal) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg12)) (m ((c : Thread nD τ).loc main_arg13)) (ix3 b s z))
    (Fin.ext (by show 64 * (8 * g.val + k.val / 64) + k.val % 64 = 512 * g.val + k.val; omega))

theorem mix_hi (b : Fin 4) (i : ℕ) (hi : i < 16) (n : ℕ) (hn : n = 16 * b.val + i) (hn' : n < cfg0.N) (sl : Fin 2) (hsl : sl.val = n % 2) (cc : Fin 4) (l : Fin 128)
    (d : Fin 2048) (s : Fin 8192) (hs : s.val = 128 * (4 * i + cc.val) + l.val) (g : Fin 2) (e : Fin 512) (hd : d.val = 1024 + 512 * g.val + e.val) :
    (outsAt0 m c n hn').2.2.2.2 (ix4 sl cc d l) = mixRef m c b s d := by
  refine (mix_at_S m c b.val i b.isLt hi n hn hn' sl hsl cc g e l d hd).trans ?_
  refine Eq.trans ?_ (ReferenceIdeal.MixRef.v101_hi (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) b s d (⟨512 * g.val + e.val, by omega⟩ : Fin 1024) (by show d.val = 1024 + (512 * g.val + e.val); omega)).symm
  refine Eq.trans ?_ (ReferenceIdeal.MixRef.v100_at (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) b s g e).symm
  refine (outS_at _ _ e l).trans ?_
  have hy := y_ref m c R hR b i hi cc l s hs g
  exact congrArg₂ (· * ·) (congrArg₂ (· * ·) (hy e) (congrArg Ideal.rsqrt (congrArg₂ (· + ·) (congrArg₂ Ideal.div
    (Finset.sum_congr rfl fun k _ => congrArg₂ (· * ·) (hy k) (hy k)) rfl) rfl))) (Bnw m c _ g e l)

/-- The mix slot a step leaves holds the reference's mix rows. -/
theorem mix_val (b : Fin 4) (i : ℕ) (hi : i < 16) (n : ℕ) (hn : n = 16 * b.val + i) (hn' : n < cfg0.N) (sl : Fin 2) (hsl : sl.val = n % 2) (cc : Fin 4) (l : Fin 128)
    (d : Fin 2048) (s : Fin 8192) (hs : s.val = 128 * (4 * i + cc.val) + l.val) :
    (outsAt0 m c n hn').2.2.2.2 (ix4 sl cc d l) = mixRef m c b s d := by
  by_cases hd : d.val < 1024
  · exact mix_lo m c R hR b i hi n hn hn' sl hsl cc l d s hs ⟨d.val / 256, by omega⟩ ⟨d.val % 256, by omega⟩ (by show d.val = 256 * (d.val / 256) + d.val % 256; omega)
  · exact mix_hi m c R hR b i hi n hn hn' sl hsl cc l d s hs ⟨(d.val - 1024) / 512, by omega⟩ ⟨(d.val - 1024) % 512, by omega⟩
      (by show d.val = 1024 + 512 * ((d.val - 1024) / 512) + (d.val - 1024) % 512; omega)

omit hR in
theorem flush_pos : ∀ t : Fin cfg0.N, (cfg0.win 15).flush t = true → t.val ≠ 0 := by decide +kernel

/-- The mixer's array after the run. -/
theorem out_val : (dats m 0 c).arrAt 15 cfg0.N = ReferenceIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_covers 15 _ (by decide +kernel) fun t hf y => ?_
  have h0 := flush_pos t hf
  blk_simp
  have ht : t.val < 65 := lt_of_lt_of_eq t.isLt N_0
  rw [after0_15, out_at m c t h0 (⟨(t.val - 1) % 2, Nat.mod_lt _ (by decide)⟩ : Fin 2) rfl]
  obtain ⟨r, j, rfl⟩ : ∃ (r : Fin 512) (j : Fin 1024), y = ix2 r j := ⟨y 0, y 1, eq_ix2 y⟩
  have e : ((cfg0.win 15).blk t).view.emb (ix2 r j) = ix2 (⟨512 * (t.val - 1) + r.val, by omega⟩ : Fin 32768) j := by
    blk_ext [idx15]
  obtain ⟨b, i, hi, hb⟩ : ∃ (b : Fin 4) (i : ℕ), i < 16 ∧ t.val - 1 = 16 * b.val + i :=
    ⟨⟨(t.val - 1) / 16, by omega⟩, (t.val - 1) % 16, by omega, by show t.val - 1 = 16 * ((t.val - 1) / 16) + (t.val - 1) % 16; omega⟩
  have hs : b.val * 8192 + (⟨512 * i + r.val, by omega⟩ : Fin 8192).val = 512 * (t.val - 1) + r.val := by
    show b.val * 8192 + (512 * i + r.val) = _; omega
  refine (tile_at m c t _ (mixRef m c b ⟨512 * i + r.val, by omega⟩) r j b ⟨512 * i + r.val, by omega⟩ hs fun d => ?_).trans ?_
  · exact mix_val m c R hR b i hi (t.val - 1) hb _ _ rfl ⟨r.val / 128, by omega⟩ ⟨r.val % 128, by omega⟩ d ⟨512 * i + r.val, by omega⟩
      (by show 512 * i + r.val = 128 * (4 * i + r.val / 128) + r.val % 128; omega)
  · refine ((congrArg (ReferenceIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) e).trans ?_).symm
    exact ReferenceIdeal.MixRef.v117_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) _ j b ⟨512 * i + r.val, by omega⟩ hs.symm

end Cert.KernelIdeal.MixFinal

end
-- ==== Proof.MixPre.lean ====
/- The precondition read back: the arrays the recurrences run over are real numbers. -/
module

public import proofs.«01_k».proof.Pre_finite
public import proofs.«01_k».proof.Proof.MixSeq
public import Idealize.ShloMosaic.Lib.ReduceAll
public import Idealize.ShloMosaic.Lib.IdealHost
public import Idealize.ShloMosaic.Lib.ValueIdxCore

@[expose] public section

set_option maxRecDepth 16384

noncomputable section

namespace Cert.Pre_finite.Read

open Idealize.ShloMosaic Idealize.ShloMosaic.TcCoe Cert.Pre_finite Cert.KernelIdeal.MixReal

instance facts : Cert.Pre_finite.Facts where
  bcast_S_S4x8192x512 := by decide
  reducesTo_S4x8192x512_S_d0_1_2 := by decide
  h_S_ := by decide
  bcast_S_S4x8192x1024 := by decide
  reducesTo_S4x8192x1024_S_d0_1_2 := by decide
  bcast_S_S4x8192x256 := by decide
  reducesTo_S4x8192x256_S_d0_1_2 := by decide
  bcast_S_S4x8192x4 := by decide
  reducesTo_S4x8192x4_S_d0_1_2 := by decide
  bcast_S_S4x8192x16 := by decide
  reducesTo_S4x8192x16_S_d0_1_2 := by decide
  bcast_S_S16 := by decide
  reducesTo_S16_S_d0 := by decide

instance : Subsingleton S_.Idx := ⟨fun a b => funext fun x => x.elim0⟩

theorem inf_f32 : Ideal.ofBits .f32 0x7F800000#32 = ⊤ := by simp [Ideal.ofBits, Ideal.ieee]

/-- A value below infinity in absolute value is a real number. -/
theorem real_of_lt (x : EReal) (h : Ideal.cmp .olt (max x (-x)) (Ideal.ofBits .f32 0x7F800000#32) = 1#1) : x = ((x.toReal : ℝ) : EReal) := by
  rw [inf_f32] at h
  have hx : max x (-x) < ⊤ := by
    by_contra hn
    simp [Ideal.cmp, hn] at h
  obtain ⟨h1, h2⟩ := max_lt_iff.1 hx
  refine (EReal.coe_toReal (ne_of_lt h1) fun hb => ?_).symm
  rw [hb] at h2
  simp at h2

/-- One array's conjunct: every element is a real number. -/
theorem real_of_all {S : Shape} {axes : List (Fin S.rank)} (x : FVec Ideal S .f32) (hb : S_.BroadcastsInDim S (![] : Fin 0 → Fin S.rank))
    (hr : S.ReducesTo axes S_) (hu : 0 < S_.numel) (j : S_.Idx)
    (h : Host.reduce IntOp.andi (cmpf .olt (Host.absf x) (broadcastInDim S ![] hb (constant S_ .f32 0x7F800000#32))) (constantI S_ 1 1#1) hr hu j = 1#1)
    (i : S.Idx) : x i = (((x i).toReal : ℝ) : EReal) :=
  real_of_lt (x i) (Host.reduce_andi_all _ _ hr hu j h i)

theorem and_split {a b : IVec S_ 1} {j : S_.Idx} (h : andi a b j = 1#1) : a j = 1#1 ∧ b j = 1#1 := IntOp.andi_eq_one.1 h

/-- The real arrays of ten arrays of extended reals. -/
def rargs (x0 x1 : FVec Ideal S4x8192x512 .f32) (x2 x5 : FVec Ideal S4x8192x1024 .f32) (x6 x7 : FVec Ideal S4x8192x256 .f32)
    (x8 x9 : FVec Ideal S4x8192x4 .f32) (x10 : FVec Ideal S4x8192x16 .f32) (x13 : FVec Ideal S16 .f32) : RArgs where
  q b s r := (x0 (ix3 b s r)).toReal
  k b s r := (x1 (ix3 b s r)).toReal
  v b s r := (x2 (ix3 b s r)).toReal
  x b s r := (x5 (ix3 b s r)).toReal
  b b s r := (x6 (ix3 b s r)).toReal
  c b s r := (x7 (ix3 b s r)).toReal
  i b s r := (x8 (ix3 b s r)).toReal
  f b s r := (x9 (ix3 b s r)).toReal
  d b s r := (x10 (ix3 b s r)).toReal
  a r := (x13 (ix1 r)).toReal

/-- The precondition gives the arrays as real numbers. -/
theorem rargs_of (x0 x1 : FVec Ideal S4x8192x512 .f32) (x2 x3 x4 x5 : FVec Ideal S4x8192x1024 .f32) (x6 x7 : FVec Ideal S4x8192x256 .f32)
    (x8 x9 : FVec Ideal S4x8192x4 .f32) (x10 : FVec Ideal S4x8192x16 .f32) (x11 : FVec Ideal S1024 .f32) (x12 x13 : FVec Ideal S16 .f32)
    (x14 : FVec Ideal S4x8192x1024 .f32) (x15 : FVec Ideal S2048x1024 .f32) (x16 : FVec Ideal S1024 .f32) (j : S_.Idx)
    (h : fn (F := Ideal) x0 x1 x2 x3 x4 x5 x6 x7 x8 x9 x10 x11 x12 x13 x14 x15 x16 j = 1#1) :
    (rargs x0 x1 x2 x5 x6 x7 x8 x9 x10 x13).Of x0 x1 x2 x5 x6 x7 x8 x9 x10 x13 := by
  unfold fn fn_part1 fn_part2 at h
  obtain ⟨h, h13⟩ := and_split h
  obtain ⟨h, h10⟩ := and_split h
  obtain ⟨h, h9⟩ := and_split h
  obtain ⟨h, h8⟩ := and_split h
  obtain ⟨h, h7⟩ := and_split h
  obtain ⟨h, h6⟩ := and_split h
  obtain ⟨h, h5⟩ := and_split h
  obtain ⟨h, h2⟩ := and_split h
  obtain ⟨h, h1⟩ := and_split h
  obtain ⟨-, h0⟩ := and_split h
  exact {
    q := fun b s r => real_of_all x0 _ _ _ j h0 _
    k := fun b s r => real_of_all x1 _ _ _ j h1 _
    v := fun b s r => real_of_all x2 _ _ _ j h2 _
    x := fun b s r => real_of_all x5 _ _ _ j h5 _
    b := fun b s r => real_of_all x6 _ _ _ j h6 _
    c := fun b s r => real_of_all x7 _ _ _ j h7 _
    i := fun b s r => real_of_all x8 _ _ _ j h8 _
    f := fun b s r => real_of_all x9 _ _ _ j h9 _
    d := fun b s r => real_of_all x10 _ _ _ j h10 _
    a := fun r => real_of_all x13 _ _ _ j h13 _ }

end Cert.Pre_finite.Read

end
-- ==== Proof.lean ====
module

public import proofs.«01_k».proof.Defs
public import proofs.«01_k».proof.Proof.Gen.Kernel
public import proofs.«01_k».proof.Proof.Gen.Kernel.Frame
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.ProjectionsIdeal
public import proofs.«01_k».proof.Proof.Gen.ProjectionsIdeal.Run
public import proofs.«01_k».proof.Proof.Gen.ProjectionsIdeal.Read
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Read
public import proofs.«01_k».proof.Proof.InFinal
public import proofs.«01_k».proof.Proof.InConvFinal
public import proofs.«01_k».proof.Proof.MixFinal
public import proofs.«01_k».proof.Proof.MixPre
public import Idealize.ShloMosaic.Adequacy
public import Idealize.ShloMosaic.Init

@[expose] public section

noncomputable section

namespace Cert.Proof

open Idealize.ShloMosaic Idealize.SL.Sem

/-- The reference terminates with its arguments unchanged: its run, forgetting the result. -/
theorem ref_frame : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run (F := Ideal) m ρ)

theorem projections_frame : Cert.quiescent_ProjectionsIdeal (hProjectionsIdeal := Cert.ProjectionsIdeal.Gen.facts) :=
  fun m ρ _ => (θ_run Cert.ProjectionsIdeal.defs _ _).mono
    (fun r h => ⟨fun c => (h c).2.2.2.2.2.2.2.2.2, sem_eq_zero_of_no_sems (by decide) r.2⟩)
    (Cert.ProjectionsIdeal.Value.run (F := Ideal) m ρ)

/-- The input projections: all nine results, in every run what the reference computes. -/
theorem projections_value : Cert.algebraic_InProjIdeal_ProjectionsIdeal (hInProjIdeal := Cert.InProjIdeal.Gen.facts)
    (hProjectionsIdeal := Cert.ProjectionsIdeal.Gen.facts) := by
  pair_intro
  · run_from Cert.InProjIdeal.Value.run_blocks m g
  · refine θ_run_mono (Cert.ProjectionsIdeal.Value.run (F := Ideal) m' g') ?_
    intro r hr c
    obtain ⟨hq, hk, hv, hog, hz, hxs, hbm, hcm, hgt, hargs⟩ := hr c
    obtain ⟨a0, a1, a2, a3, a4, a5, a6, a7, a8⟩ := hagree c
    have eq := hq.trans (Cert.ProjectionsIdeal.Read.val_main_v116_eq (F := Ideal) (StableHlo.launchContents m' c))
    rw [StableHlo.launchContents_devRef m' c Cert.ProjectionsIdeal.main_arg0, a0, StableHlo.launchContents_devRef m' c Cert.ProjectionsIdeal.main_arg1, a1, StableHlo.launchContents_devRef m' c Cert.ProjectionsIdeal.main_arg2, a2] at eq
    have ek := hk.trans (Cert.ProjectionsIdeal.Read.val_main_v118_eq (F := Ideal) (StableHlo.launchContents m' c))
    rw [StableHlo.launchContents_devRef m' c Cert.ProjectionsIdeal.main_arg0, a0, StableHlo.launchContents_devRef m' c Cert.ProjectionsIdeal.main_arg1, a1, StableHlo.launchContents_devRef m' c Cert.ProjectionsIdeal.main_arg2, a2] at ek
    have ev := hv.trans (Cert.ProjectionsIdeal.Read.val_main_v121_eq (F := Ideal) (StableHlo.launchContents m' c))
    rw [StableHlo.launchContents_devRef m' c Cert.ProjectionsIdeal.main_arg0, a0, StableHlo.launchContents_devRef m' c Cert.ProjectionsIdeal.main_arg1, a1, StableHlo.launchContents_devRef m' c Cert.ProjectionsIdeal.main_arg2, a2] at ev
    have eog := hog.trans (Cert.ProjectionsIdeal.Read.val_main_v124_eq (F := Ideal) (StableHlo.launchContents m' c))
    rw [StableHlo.launchContents_devRef m' c Cert.ProjectionsIdeal.main_arg0, a0, StableHlo.launchContents_devRef m' c Cert.ProjectionsIdeal.main_arg1, a1, StableHlo.launchContents_devRef m' c Cert.ProjectionsIdeal.main_arg2, a2, StableHlo.launchContents_devRef m' c Cert.ProjectionsIdeal.main_arg8, a8] at eog
    have ez := hz.trans (Cert.ProjectionsIdeal.Read.val_main_v127_eq (F := Ideal) (StableHlo.launchContents m' c))
    rw [StableHlo.launchContents_devRef m' c Cert.ProjectionsIdeal.main_arg0, a0, StableHlo.launchContents_devRef m' c Cert.ProjectionsIdeal.main_arg1, a1, StableHlo.launchContents_devRef m' c Cert.ProjectionsIdeal.main_arg2, a2] at ez
    have exs := hxs.trans (Cert.ProjectionsIdeal.Read.val_main_v130_eq (F := Ideal) (StableHlo.launchContents m' c))
    rw [StableHlo.launchContents_devRef m' c Cert.ProjectionsIdeal.main_arg0, a0, StableHlo.launchContents_devRef m' c Cert.ProjectionsIdeal.main_arg1, a1, StableHlo.launchContents_devRef m' c Cert.ProjectionsIdeal.main_arg2, a2, StableHlo.launchContents_devRef m' c Cert.ProjectionsIdeal.main_arg5, a5, StableHlo.launchContents_devRef m' c Cert.ProjectionsIdeal.main_arg6, a6] at exs
    have ebm := hbm.trans (Cert.ProjectionsIdeal.Read.val_main_v132_eq (F := Ideal) (StableHlo.launchContents m' c))
    rw [StableHlo.launchContents_devRef m' c Cert.ProjectionsIdeal.main_arg0, a0, StableHlo.launchContents_devRef m' c Cert.ProjectionsIdeal.main_arg1, a1, StableHlo.launchContents_devRef m' c Cert.ProjectionsIdeal.main_arg2, a2, StableHlo.launchContents_devRef m' c Cert.ProjectionsIdeal.main_arg5, a5, StableHlo.launchContents_devRef m' c Cert.ProjectionsIdeal.main_arg6, a6] at ebm
    have ecm := hcm.trans (Cert.ProjectionsIdeal.Read.val_main_v134_eq (F := Ideal) (StableHlo.launchContents m' c))
    rw [StableHlo.launchContents_devRef m' c Cert.ProjectionsIdeal.main_arg0, a0, StableHlo.launchContents_devRef m' c Cert.ProjectionsIdeal.main_arg1, a1, StableHlo.launchContents_devRef m' c Cert.ProjectionsIdeal.main_arg2, a2, StableHlo.launchContents_devRef m' c Cert.ProjectionsIdeal.main_arg5, a5, StableHlo.launchContents_devRef m' c Cert.ProjectionsIdeal.main_arg6, a6] at ecm
    have egt := hgt.trans (Cert.ProjectionsIdeal.Read.val_main_v136_eq (F := Ideal) (StableHlo.launchContents m' c))
    rw [StableHlo.launchContents_devRef m' c Cert.ProjectionsIdeal.main_arg0, a0, StableHlo.launchContents_devRef m' c Cert.ProjectionsIdeal.main_arg1, a1, StableHlo.launchContents_devRef m' c Cert.ProjectionsIdeal.main_arg2, a2, StableHlo.launchContents_devRef m' c Cert.ProjectionsIdeal.main_arg3, a3, StableHlo.launchContents_devRef m' c Cert.ProjectionsIdeal.main_arg4, a4, StableHlo.launchContents_devRef m' c Cert.ProjectionsIdeal.main_arg7, a7] at egt
    exact ⟨eq.trans (Cert.InProjIdeal.Final.q_val m c).symm,
      ek.trans (Cert.InProjIdeal.Final.k_val m c).symm,
      ev.trans (Cert.InProjIdeal.Final.v_val m c).symm,
      eog.trans (Cert.InProjIdeal.Final.og_val m c).symm,
      ez.trans (Cert.InProjIdeal.Final.z_val m c).symm,
      exs.trans (Cert.InProjIdeal.Final.xs_val m c).symm,
      ebm.trans (Cert.InProjIdeal.Final.bm_val m c).symm,
      ecm.trans (Cert.InProjIdeal.Final.cm_val m c).symm,
      egt.trans (Cert.InProjIdeal.Final.gt_val m c).symm, hargs⟩

/-- The mixer: its one result, in every run what the reference computes, for finite inputs. -/
theorem mixer_value : Cert.algebraic_KernelIdeal_ReferenceIdeal_pre_finite (hKernelIdeal := Cert.KernelIdeal.Gen.facts)
    (hReferenceIdeal := Cert.ReferenceIdeal.Gen.facts) (hPre_finite := Cert.Pre_finite.Read.facts) := by
  pair_intro
  · run_from Cert.KernelIdeal.Value.run_blocks m g
  · refine θ_run_mono (Cert.ReferenceIdeal.Value.run (F := Ideal) m' g') ?_
    intro r hr c
    obtain ⟨hq, hargs⟩ := hr c
    obtain ⟨a0, a1, a2, a3, a4, a5, a6, a7, a8, a9, a10, a11, a12, a13, a14, a15, a16⟩ := hagree c
    have eq := hq.trans (Cert.ReferenceIdeal.Read.val_main_v117_eq (F := Ideal) (StableHlo.launchContents m' c))
    rw [StableHlo.launchContents_devRef m' c Cert.ReferenceIdeal.main_arg0, a0, StableHlo.launchContents_devRef m' c Cert.ReferenceIdeal.main_arg1, a1, StableHlo.launchContents_devRef m' c Cert.ReferenceIdeal.main_arg2, a2, StableHlo.launchContents_devRef m' c Cert.ReferenceIdeal.main_arg3, a3, StableHlo.launchContents_devRef m' c Cert.ReferenceIdeal.main_arg4, a4, StableHlo.launchContents_devRef m' c Cert.ReferenceIdeal.main_arg5, a5, StableHlo.launchContents_devRef m' c Cert.ReferenceIdeal.main_arg6, a6, StableHlo.launchContents_devRef m' c Cert.ReferenceIdeal.main_arg7, a7, StableHlo.launchContents_devRef m' c Cert.ReferenceIdeal.main_arg8, a8, StableHlo.launchContents_devRef m' c Cert.ReferenceIdeal.main_arg9, a9, StableHlo.launchContents_devRef m' c Cert.ReferenceIdeal.main_arg10, a10, StableHlo.launchContents_devRef m' c Cert.ReferenceIdeal.main_arg11, a11, StableHlo.launchContents_devRef m' c Cert.ReferenceIdeal.main_arg12, a12, StableHlo.launchContents_devRef m' c Cert.ReferenceIdeal.main_arg13, a13, StableHlo.launchContents_devRef m' c Cert.ReferenceIdeal.main_arg14, a14, StableHlo.launchContents_devRef m' c Cert.ReferenceIdeal.main_arg15, a15, StableHlo.launchContents_devRef m' c Cert.ReferenceIdeal.main_arg16, a16] at eq
    exact ⟨eq.trans (Cert.KernelIdeal.MixFinal.out_val m c _ (Cert.Pre_finite.Read.rargs_of _ _ _ _ _ _ _ _ _ _ _ _ _ _ _ _ _ _ (congrFun (hpre c) (fun a => a.elim0)))).symm, hargs⟩

theorem claim : Cert.Claim :=
  ⟨Cert.Kernel.Gen.facts, Cert.KernelIdeal.Gen.facts, Cert.ReferenceIdeal.Gen.facts, Cert.InProj.Gen.facts, Cert.InProjIdeal.Gen.facts,
    Cert.ProjectionsIdeal.Gen.facts, Cert.Pre_finite.Read.facts,
    fun m ρ _ => Cert.Kernel.Gen.frame m ρ, fun m ρ _ => Cert.KernelIdeal.Gen.frame m ρ, fun m ρ _ => Cert.KernelIdeal.Gen.frame m ρ,
    ref_frame, fun m ρ _ => ref_frame m ρ trivial,
    fun m ρ _ => Cert.InProj.Gen.frame m ρ, fun m ρ _ => Cert.InProjIdeal.Gen.frame m ρ, projections_frame,
    ⟨IdealRules.named_const.statement Cert.KernelIdeal.κ "neg_log2_e" .f32 0xBFB8AA3B#32 _ rfl,
      IdealRules.named_const.statement Cert.KernelIdeal.κ "log2_e" .f32 0x3FB8AA3B#32 _ rfl⟩,
    mixer_value, trivial, projections_value⟩

end Cert.Proof

end
